-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_KernelGwRest (m : (ℓ : Loc Cert.KernelGwRest.nD Cert.KernelGwRest.τ Cert.KernelGwRest.sig) → Buf (Elt Bits) ℓ) : Prop :=
  True

def Pre_KernelGwRestIdeal (m : (ℓ : Loc Cert.KernelGwRestIdeal.nD Cert.KernelGwRestIdeal.τ Cert.KernelGwRestIdeal.sig) → Buf (Elt Ideal) ℓ) : Prop :=
  True

def Pre_ReferenceGwRestIdeal (m : (ℓ : Loc Cert.ReferenceGwRestIdeal.nD Cert.ReferenceGwRestIdeal.τ Cert.ReferenceGwRestIdeal.sig) → Buf (Elt Ideal) ℓ) : Prop :=
  True

def Pre_KernelGwSsd (m : (ℓ : Loc Cert.KernelGwSsd.nD Cert.KernelGwSsd.τ Cert.KernelGwSsd.sig) → Buf (Elt Bits) ℓ) : Prop :=
  True

def Pre_KernelGwSsdIdeal (m : (ℓ : Loc Cert.KernelGwSsdIdeal.nD Cert.KernelGwSsdIdeal.τ Cert.KernelGwSsdIdeal.sig) → Buf (Elt Ideal) ℓ) : Prop :=
  True

def Pre_ReferenceGwSsdIdeal (m : (ℓ : Loc Cert.ReferenceGwSsdIdeal.nD Cert.ReferenceGwSsdIdeal.τ Cert.ReferenceGwSsdIdeal.sig) → Buf (Elt Ideal) ℓ) : Prop :=
  True

def Pre_KernelGwOs (m : (ℓ : Loc Cert.KernelGwOs.nD Cert.KernelGwOs.τ Cert.KernelGwOs.sig) → Buf (Elt Bits) ℓ) : Prop :=
  True

def Pre_KernelGwOsIdeal (m : (ℓ : Loc Cert.KernelGwOsIdeal.nD Cert.KernelGwOsIdeal.τ Cert.KernelGwOsIdeal.sig) → Buf (Elt Ideal) ℓ) : Prop :=
  True

def Pre_ReferenceGwOsIdeal (m : (ℓ : Loc Cert.ReferenceGwOsIdeal.nD Cert.ReferenceGwOsIdeal.τ Cert.ReferenceGwOsIdeal.sig) → Buf (Elt Ideal) ℓ) : Prop :=
  True

def Pre_KernelGwO (m : (ℓ : Loc Cert.KernelGwO.nD Cert.KernelGwO.τ Cert.KernelGwO.sig) → Buf (Elt Bits) ℓ) : Prop :=
  True

def Pre_KernelGwOIdeal (m : (ℓ : Loc Cert.KernelGwOIdeal.nD Cert.KernelGwOIdeal.τ Cert.KernelGwOIdeal.sig) → Buf (Elt Ideal) ℓ) : Prop :=
  True

def Pre_ReferenceGwOIdeal (m : (ℓ : Loc Cert.ReferenceGwOIdeal.nD Cert.ReferenceGwOIdeal.τ Cert.ReferenceGwOIdeal.sig) → Buf (Elt Ideal) ℓ) : Prop :=
  True

def Pre_KernelDhRest (m : (ℓ : Loc Cert.KernelDhRest.nD Cert.KernelDhRest.τ Cert.KernelDhRest.sig) → Buf (Elt Bits) ℓ) : Prop :=
  True

def Pre_KernelDhRestIdeal (m : (ℓ : Loc Cert.KernelDhRestIdeal.nD Cert.KernelDhRestIdeal.τ Cert.KernelDhRestIdeal.sig) → Buf (Elt Ideal) ℓ) : Prop :=
  True

def Pre_ReferenceDhRestIdeal (m : (ℓ : Loc Cert.ReferenceDhRestIdeal.nD Cert.ReferenceDhRestIdeal.τ Cert.ReferenceDhRestIdeal.sig) → Buf (Elt Ideal) ℓ) : Prop :=
  True

def Pre_KernelDhSsd (m : (ℓ : Loc Cert.KernelDhSsd.nD Cert.KernelDhSsd.τ Cert.KernelDhSsd.sig) → Buf (Elt Bits) ℓ) : Prop :=
  True

def Pre_KernelDhSsdIdeal (m : (ℓ : Loc Cert.KernelDhSsdIdeal.nD Cert.KernelDhSsdIdeal.τ Cert.KernelDhSsdIdeal.sig) → Buf (Elt Ideal) ℓ) : Prop :=
  True

def Pre_ReferenceDhSsdIdeal (m : (ℓ : Loc Cert.ReferenceDhSsdIdeal.nD Cert.ReferenceDhSsdIdeal.τ Cert.ReferenceDhSsdIdeal.sig) → Buf (Elt Ideal) ℓ) : Prop :=
  True

def Pre_KernelDgn (m : (ℓ : Loc Cert.KernelDgn.nD Cert.KernelDgn.τ Cert.KernelDgn.sig) → Buf (Elt Bits) ℓ) : Prop :=
  True

def Pre_KernelDgnIdeal (m : (ℓ : Loc Cert.KernelDgnIdeal.nD Cert.KernelDgnIdeal.τ Cert.KernelDgnIdeal.sig) → Buf (Elt Ideal) ℓ) : Prop :=
  True

def Pre_ReferenceDgnIdeal (m : (ℓ : Loc Cert.ReferenceDgnIdeal.nD Cert.ReferenceDgnIdeal.τ Cert.ReferenceDgnIdeal.sig) → Buf (Elt Ideal) ℓ) : Prop :=
  True

def Pre_KernelDmerged (m : (ℓ : Loc Cert.KernelDmerged.nD Cert.KernelDmerged.τ Cert.KernelDmerged.sig) → Buf (Elt Bits) ℓ) : Prop :=
  True

def Pre_KernelDmergedIdeal (m : (ℓ : Loc Cert.KernelDmergedIdeal.nD Cert.KernelDmergedIdeal.τ Cert.KernelDmergedIdeal.sig) → Buf (Elt Ideal) ℓ) : Prop :=
  True

def Pre_ReferenceDmergedIdeal (m : (ℓ : Loc Cert.ReferenceDmergedIdeal.nD Cert.ReferenceDmergedIdeal.τ Cert.ReferenceDmergedIdeal.sig) → Buf (Elt Ideal) ℓ) : Prop :=
  True

def Pre_KernelProjRest (m : (ℓ : Loc Cert.KernelProjRest.nD Cert.KernelProjRest.τ Cert.KernelProjRest.sig) → Buf (Elt Bits) ℓ) : Prop :=
  True

def Pre_KernelProjRestIdeal (m : (ℓ : Loc Cert.KernelProjRestIdeal.nD Cert.KernelProjRestIdeal.τ Cert.KernelProjRestIdeal.sig) → Buf (Elt Ideal) ℓ) : Prop :=
  True

def Pre_ReferenceProjRestIdeal (m : (ℓ : Loc Cert.ReferenceProjRestIdeal.nD Cert.ReferenceProjRestIdeal.τ Cert.ReferenceProjRestIdeal.sig) → Buf (Elt Ideal) ℓ) : Prop :=
  True

def Pre_KernelProjSsd (m : (ℓ : Loc Cert.KernelProjSsd.nD Cert.KernelProjSsd.τ Cert.KernelProjSsd.sig) → Buf (Elt Bits) ℓ) : Prop :=
  True

def Pre_KernelProjSsdIdeal (m : (ℓ : Loc Cert.KernelProjSsdIdeal.nD Cert.KernelProjSsdIdeal.τ Cert.KernelProjSsdIdeal.sig) → Buf (Elt Ideal) ℓ) : Prop :=
  True

def Pre_ReferenceProjSsdIdeal (m : (ℓ : Loc Cert.ReferenceProjSsdIdeal.nD Cert.ReferenceProjSsdIdeal.τ Cert.ReferenceProjSsdIdeal.sig) → Buf (Elt Ideal) ℓ) : Prop :=
  True

def Pre_KernelOutSsm (m : (ℓ : Loc Cert.KernelOutSsm.nD Cert.KernelOutSsm.τ Cert.KernelOutSsm.sig) → Buf (Elt Bits) ℓ) : Prop :=
  True

def Pre_KernelOutSsmIdeal (m : (ℓ : Loc Cert.KernelOutSsmIdeal.nD Cert.KernelOutSsmIdeal.τ Cert.KernelOutSsmIdeal.sig) → Buf (Elt Ideal) ℓ) : Prop :=
  True

def Pre_ReferenceOutSsmIdeal (m : (ℓ : Loc Cert.ReferenceOutSsmIdeal.nD Cert.ReferenceOutSsmIdeal.τ Cert.ReferenceOutSsmIdeal.sig) → Buf (Elt Ideal) ℓ) : Prop :=
  True

def Pre_KernelOutConf (m : (ℓ : Loc Cert.KernelOutConf.nD Cert.KernelOutConf.τ Cert.KernelOutConf.sig) → Buf (Elt Bits) ℓ) : Prop :=
  True

def Pre_KernelOutConfIdeal (m : (ℓ : Loc Cert.KernelOutConfIdeal.nD Cert.KernelOutConfIdeal.τ Cert.KernelOutConfIdeal.sig) → Buf (Elt Ideal) ℓ) : Prop :=
  True

def Pre_ReferenceOutConfIdeal (m : (ℓ : Loc Cert.ReferenceOutConfIdeal.nD Cert.ReferenceOutConfIdeal.τ Cert.ReferenceOutConfIdeal.sig) → Buf (Elt Ideal) ℓ) : Prop :=
  True

def Pre_KernelOutProj (m : (ℓ : Loc Cert.KernelOutProj.nD Cert.KernelOutProj.τ Cert.KernelOutProj.sig) → Buf (Elt Bits) ℓ) : Prop :=
  True

def Pre_KernelOutProjIdeal (m : (ℓ : Loc Cert.KernelOutProjIdeal.nD Cert.KernelOutProjIdeal.τ Cert.KernelOutProjIdeal.sig) → Buf (Elt Ideal) ℓ) : Prop :=
  True

def Pre_ReferenceOutProjIdeal (m : (ℓ : Loc Cert.ReferenceOutProjIdeal.nD Cert.ReferenceOutProjIdeal.τ Cert.ReferenceOutProjIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelDgate (m : (ℓ : Loc Cert.KernelDgate.nD Cert.KernelDgate.τ Cert.KernelDgate.sig) → Buf (Elt Bits) ℓ) : Prop :=
  True

def Pre_KernelDgateIdeal (m : (ℓ : Loc Cert.KernelDgateIdeal.nD Cert.KernelDgateIdeal.τ Cert.KernelDgateIdeal.sig) → Buf (Elt Ideal) ℓ) : Prop :=
  True

def Pre_ReferenceDgateIdeal (m : (ℓ : Loc Cert.ReferenceDgateIdeal.nD Cert.ReferenceDgateIdeal.τ Cert.ReferenceDgateIdeal.sig) → Buf (Elt Ideal) ℓ) : Prop :=
  True

def Pre_KernelAdamMod (m : (ℓ : Loc Cert.KernelAdamMod.nD Cert.KernelAdamMod.τ Cert.KernelAdamMod.sig) → Buf (Elt Bits) ℓ) : Prop :=
  True

def Pre_KernelAdamModIdeal (m : (ℓ : Loc Cert.KernelAdamModIdeal.nD Cert.KernelAdamModIdeal.τ Cert.KernelAdamModIdeal.sig) → Buf (Elt Ideal) ℓ) : Prop :=
  True

def Pre_ReferenceAdamModIdeal (m : (ℓ : Loc Cert.ReferenceAdamModIdeal.nD Cert.ReferenceAdamModIdeal.τ Cert.ReferenceAdamModIdeal.sig) → Buf (Elt Ideal) ℓ) : Prop :=
  True

def Pre_KernelAdamRest (m : (ℓ : Loc Cert.KernelAdamRest.nD Cert.KernelAdamRest.τ Cert.KernelAdamRest.sig) → Buf (Elt Bits) ℓ) : Prop :=
  True

def Pre_KernelAdamRestIdeal (m : (ℓ : Loc Cert.KernelAdamRestIdeal.nD Cert.KernelAdamRestIdeal.τ Cert.KernelAdamRestIdeal.sig) → Buf (Elt Ideal) ℓ) : Prop :=
  True

def Pre_ReferenceAdamRestIdeal (m : (ℓ : Loc Cert.ReferenceAdamRestIdeal.nD Cert.ReferenceAdamRestIdeal.τ Cert.ReferenceAdamRestIdeal.sig) → Buf (Elt Ideal) ℓ) : Prop :=
  True

def Pre_KernelAdamIn (m : (ℓ : Loc Cert.KernelAdamIn.nD Cert.KernelAdamIn.τ Cert.KernelAdamIn.sig) → Buf (Elt Bits) ℓ) : Prop :=
  True

def Pre_KernelAdamInIdeal (m : (ℓ : Loc Cert.KernelAdamInIdeal.nD Cert.KernelAdamInIdeal.τ Cert.KernelAdamInIdeal.sig) → Buf (Elt Ideal) ℓ) : Prop :=
  True

def Pre_ReferenceAdamInIdeal (m : (ℓ : Loc Cert.ReferenceAdamInIdeal.nD Cert.ReferenceAdamInIdeal.τ Cert.ReferenceAdamInIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_KernelGwRest [hKernelGwRest : Cert.KernelGwRest.Facts] : Prop :=
  ∀ (m : (ℓ : Loc Cert.KernelGwRest.nD Cert.KernelGwRest.τ Cert.KernelGwRest.sig) → Buf (Elt Bits) ℓ) (g : Dev Cert.KernelGwRest.nD → PrngReg), Pre_KernelGwRest m →
    θ_run (Cert.KernelGwRest.defs (F := Bits)) (onTc (τ := Cert.KernelGwRest.τ) (Cert.KernelGwRest.main (F := Bits))) ⟨m, fun _ => 0, g⟩ (fun r => (∀ c : Dev Cert.KernelGwRest.nD,
      r.2.mem ((c.tc : Thread Cert.KernelGwRest.nD Cert.KernelGwRest.τ).loc Cert.KernelGwRest.main_arg0) = m ((c.tc : Thread Cert.KernelGwRest.nD Cert.KernelGwRest.τ).loc Cert.KernelGwRest.main_arg0)
      ∧ r.2.mem ((c.tc : Thread Cert.KernelGwRest.nD Cert.KernelGwRest.τ).loc Cert.KernelGwRest.main_arg1) = m ((c.tc : Thread Cert.KernelGwRest.nD Cert.KernelGwRest.τ).loc Cert.KernelGwRest.main_arg1))
      ∧ r.2.sem = fun _ => 0)

def quiescent_KernelGwRestIdeal [hKernelGwRestIdeal : Cert.KernelGwRestIdeal.Facts] : Prop :=
  ∀ (m : (ℓ : Loc Cert.KernelGwRestIdeal.nD Cert.KernelGwRestIdeal.τ Cert.KernelGwRestIdeal.sig) → Buf (Elt Ideal) ℓ) (g : Dev Cert.KernelGwRestIdeal.nD → PrngReg), Pre_KernelGwRestIdeal m →
    θ_run (Cert.KernelGwRestIdeal.defs (F := Ideal)) (onTc (τ := Cert.KernelGwRestIdeal.τ) (Cert.KernelGwRestIdeal.main (F := Ideal))) ⟨m, fun _ => 0, g⟩ (fun r => (∀ c : Dev Cert.KernelGwRestIdeal.nD,
      r.2.mem ((c.tc : Thread Cert.KernelGwRestIdeal.nD Cert.KernelGwRestIdeal.τ).loc Cert.KernelGwRestIdeal.main_arg0) = m ((c.tc : Thread Cert.KernelGwRestIdeal.nD Cert.KernelGwRestIdeal.τ).loc Cert.KernelGwRestIdeal.main_arg0)
      ∧ r.2.mem ((c.tc : Thread Cert.KernelGwRestIdeal.nD Cert.KernelGwRestIdeal.τ).loc Cert.KernelGwRestIdeal.main_arg1) = m ((c.tc : Thread Cert.KernelGwRestIdeal.nD Cert.KernelGwRestIdeal.τ).loc Cert.KernelGwRestIdeal.main_arg1))
      ∧ r.2.sem = fun _ => 0)

def quiescent_ReferenceGwRestIdeal [hReferenceGwRestIdeal : Cert.ReferenceGwRestIdeal.Facts] : Prop :=
  ∀ (m : (ℓ : Loc Cert.ReferenceGwRestIdeal.nD Cert.ReferenceGwRestIdeal.τ Cert.ReferenceGwRestIdeal.sig) → Buf (Elt Ideal) ℓ) (g : Dev Cert.ReferenceGwRestIdeal.nD → PrngReg), Pre_ReferenceGwRestIdeal m →
    θ_run (Cert.ReferenceGwRestIdeal.defs (F := Ideal)) (onTc (τ := Cert.ReferenceGwRestIdeal.τ) (Cert.ReferenceGwRestIdeal.main (F := Ideal))) ⟨m, fun _ => 0, g⟩ (fun r => (∀ c : Dev Cert.ReferenceGwRestIdeal.nD,
      r.2.mem ((c.tc : Thread Cert.ReferenceGwRestIdeal.nD Cert.ReferenceGwRestIdeal.τ).loc Cert.ReferenceGwRestIdeal.main_arg0) = m ((c.tc : Thread Cert.ReferenceGwRestIdeal.nD Cert.ReferenceGwRestIdeal.τ).loc Cert.ReferenceGwRestIdeal.main_arg0)
      ∧ r.2.mem ((c.tc : Thread Cert.ReferenceGwRestIdeal.nD Cert.ReferenceGwRestIdeal.τ).loc Cert.ReferenceGwRestIdeal.main_arg1) = m ((c.tc : Thread Cert.ReferenceGwRestIdeal.nD Cert.ReferenceGwRestIdeal.τ).loc Cert.ReferenceGwRestIdeal.main_arg1))
      ∧ r.2.sem = fun _ => 0)

def quiescent_KernelGwSsd [hKernelGwSsd : Cert.KernelGwSsd.Facts] : Prop :=
  ∀ (m : (ℓ : Loc Cert.KernelGwSsd.nD Cert.KernelGwSsd.τ Cert.KernelGwSsd.sig) → Buf (Elt Bits) ℓ) (g : Dev Cert.KernelGwSsd.nD → PrngReg), Pre_KernelGwSsd m →
    θ_run (Cert.KernelGwSsd.defs (F := Bits)) (onTc (τ := Cert.KernelGwSsd.τ) (Cert.KernelGwSsd.main (F := Bits))) ⟨m, fun _ => 0, g⟩ (fun r => (∀ c : Dev Cert.KernelGwSsd.nD,
      r.2.mem ((c.tc : Thread Cert.KernelGwSsd.nD Cert.KernelGwSsd.τ).loc Cert.KernelGwSsd.main_arg0) = m ((c.tc : Thread Cert.KernelGwSsd.nD Cert.KernelGwSsd.τ).loc Cert.KernelGwSsd.main_arg0)
      ∧ r.2.mem ((c.tc : Thread Cert.KernelGwSsd.nD Cert.KernelGwSsd.τ).loc Cert.KernelGwSsd.main_arg1) = m ((c.tc : Thread Cert.KernelGwSsd.nD Cert.KernelGwSsd.τ).loc Cert.KernelGwSsd.main_arg1))
      ∧ r.2.sem = fun _ => 0)

def quiescent_KernelGwSsdIdeal [hKernelGwSsdIdeal : Cert.KernelGwSsdIdeal.Facts] : Prop :=
  ∀ (m : (ℓ : Loc Cert.KernelGwSsdIdeal.nD Cert.KernelGwSsdIdeal.τ Cert.KernelGwSsdIdeal.sig) → Buf (Elt Ideal) ℓ) (g : Dev Cert.KernelGwSsdIdeal.nD → PrngReg), Pre_KernelGwSsdIdeal m →
    θ_run (Cert.KernelGwSsdIdeal.defs (F := Ideal)) (onTc (τ := Cert.KernelGwSsdIdeal.τ) (Cert.KernelGwSsdIdeal.main (F := Ideal))) ⟨m, fun _ => 0, g⟩ (fun r => (∀ c : Dev Cert.KernelGwSsdIdeal.nD,
      r.2.mem ((c.tc : Thread Cert.KernelGwSsdIdeal.nD Cert.KernelGwSsdIdeal.τ).loc Cert.KernelGwSsdIdeal.main_arg0) = m ((c.tc : Thread Cert.KernelGwSsdIdeal.nD Cert.KernelGwSsdIdeal.τ).loc Cert.KernelGwSsdIdeal.main_arg0)
      ∧ r.2.mem ((c.tc : Thread Cert.KernelGwSsdIdeal.nD Cert.KernelGwSsdIdeal.τ).loc Cert.KernelGwSsdIdeal.main_arg1) = m ((c.tc : Thread Cert.KernelGwSsdIdeal.nD Cert.KernelGwSsdIdeal.τ).loc Cert.KernelGwSsdIdeal.main_arg1))
      ∧ r.2.sem = fun _ => 0)

def quiescent_ReferenceGwSsdIdeal [hReferenceGwSsdIdeal : Cert.ReferenceGwSsdIdeal.Facts] : Prop :=
  ∀ (m : (ℓ : Loc Cert.ReferenceGwSsdIdeal.nD Cert.ReferenceGwSsdIdeal.τ Cert.ReferenceGwSsdIdeal.sig) → Buf (Elt Ideal) ℓ) (g : Dev Cert.ReferenceGwSsdIdeal.nD → PrngReg), Pre_ReferenceGwSsdIdeal m →
    θ_run (Cert.ReferenceGwSsdIdeal.defs (F := Ideal)) (onTc (τ := Cert.ReferenceGwSsdIdeal.τ) (Cert.ReferenceGwSsdIdeal.main (F := Ideal))) ⟨m, fun _ => 0, g⟩ (fun r => (∀ c : Dev Cert.ReferenceGwSsdIdeal.nD,
      r.2.mem ((c.tc : Thread Cert.ReferenceGwSsdIdeal.nD Cert.ReferenceGwSsdIdeal.τ).loc Cert.ReferenceGwSsdIdeal.main_arg0) = m ((c.tc : Thread Cert.ReferenceGwSsdIdeal.nD Cert.ReferenceGwSsdIdeal.τ).loc Cert.ReferenceGwSsdIdeal.main_arg0)
      ∧ r.2.mem ((c.tc : Thread Cert.ReferenceGwSsdIdeal.nD Cert.ReferenceGwSsdIdeal.τ).loc Cert.ReferenceGwSsdIdeal.main_arg1) = m ((c.tc : Thread Cert.ReferenceGwSsdIdeal.nD Cert.ReferenceGwSsdIdeal.τ).loc Cert.ReferenceGwSsdIdeal.main_arg1))
      ∧ r.2.sem = fun _ => 0)

def quiescent_KernelGwOs [hKernelGwOs : Cert.KernelGwOs.Facts] : Prop :=
  ∀ (m : (ℓ : Loc Cert.KernelGwOs.nD Cert.KernelGwOs.τ Cert.KernelGwOs.sig) → Buf (Elt Bits) ℓ) (g : Dev Cert.KernelGwOs.nD → PrngReg), Pre_KernelGwOs m →
    θ_run (Cert.KernelGwOs.defs (F := Bits)) (onTc (τ := Cert.KernelGwOs.τ) (Cert.KernelGwOs.main (F := Bits))) ⟨m, fun _ => 0, g⟩ (fun r => (∀ c : Dev Cert.KernelGwOs.nD,
      r.2.mem ((c.tc : Thread Cert.KernelGwOs.nD Cert.KernelGwOs.τ).loc Cert.KernelGwOs.main_arg0) = m ((c.tc : Thread Cert.KernelGwOs.nD Cert.KernelGwOs.τ).loc Cert.KernelGwOs.main_arg0)
      ∧ r.2.mem ((c.tc : Thread Cert.KernelGwOs.nD Cert.KernelGwOs.τ).loc Cert.KernelGwOs.main_arg1) = m ((c.tc : Thread Cert.KernelGwOs.nD Cert.KernelGwOs.τ).loc Cert.KernelGwOs.main_arg1))
      ∧ r.2.sem = fun _ => 0)

def quiescent_KernelGwOsIdeal [hKernelGwOsIdeal : Cert.KernelGwOsIdeal.Facts] : Prop :=
  ∀ (m : (ℓ : Loc Cert.KernelGwOsIdeal.nD Cert.KernelGwOsIdeal.τ Cert.KernelGwOsIdeal.sig) → Buf (Elt Ideal) ℓ) (g : Dev Cert.KernelGwOsIdeal.nD → PrngReg), Pre_KernelGwOsIdeal m →
    θ_run (Cert.KernelGwOsIdeal.defs (F := Ideal)) (onTc (τ := Cert.KernelGwOsIdeal.τ) (Cert.KernelGwOsIdeal.main (F := Ideal))) ⟨m, fun _ => 0, g⟩ (fun r => (∀ c : Dev Cert.KernelGwOsIdeal.nD,
      r.2.mem ((c.tc : Thread Cert.KernelGwOsIdeal.nD Cert.KernelGwOsIdeal.τ).loc Cert.KernelGwOsIdeal.main_arg0) = m ((c.tc : Thread Cert.KernelGwOsIdeal.nD Cert.KernelGwOsIdeal.τ).loc Cert.KernelGwOsIdeal.main_arg0)
      ∧ r.2.mem ((c.tc : Thread Cert.KernelGwOsIdeal.nD Cert.KernelGwOsIdeal.τ).loc Cert.KernelGwOsIdeal.main_arg1) = m ((c.tc : Thread Cert.KernelGwOsIdeal.nD Cert.KernelGwOsIdeal.τ).loc Cert.KernelGwOsIdeal.main_arg1))
      ∧ r.2.sem = fun _ => 0)

def quiescent_ReferenceGwOsIdeal [hReferenceGwOsIdeal : Cert.ReferenceGwOsIdeal.Facts] : Prop :=
  ∀ (m : (ℓ : Loc Cert.ReferenceGwOsIdeal.nD Cert.ReferenceGwOsIdeal.τ Cert.ReferenceGwOsIdeal.sig) → Buf (Elt Ideal) ℓ) (g : Dev Cert.ReferenceGwOsIdeal.nD → PrngReg), Pre_ReferenceGwOsIdeal m →
    θ_run (Cert.ReferenceGwOsIdeal.defs (F := Ideal)) (onTc (τ := Cert.ReferenceGwOsIdeal.τ) (Cert.ReferenceGwOsIdeal.main (F := Ideal))) ⟨m, fun _ => 0, g⟩ (fun r => (∀ c : Dev Cert.ReferenceGwOsIdeal.nD,
      r.2.mem ((c.tc : Thread Cert.ReferenceGwOsIdeal.nD Cert.ReferenceGwOsIdeal.τ).loc Cert.ReferenceGwOsIdeal.main_arg0) = m ((c.tc : Thread Cert.ReferenceGwOsIdeal.nD Cert.ReferenceGwOsIdeal.τ).loc Cert.ReferenceGwOsIdeal.main_arg0)
      ∧ r.2.mem ((c.tc : Thread Cert.ReferenceGwOsIdeal.nD Cert.ReferenceGwOsIdeal.τ).loc Cert.ReferenceGwOsIdeal.main_arg1) = m ((c.tc : Thread Cert.ReferenceGwOsIdeal.nD Cert.ReferenceGwOsIdeal.τ).loc Cert.ReferenceGwOsIdeal.main_arg1))
      ∧ r.2.sem = fun _ => 0)

def quiescent_KernelGwO [hKernelGwO : Cert.KernelGwO.Facts] : Prop :=
  ∀ (m : (ℓ : Loc Cert.KernelGwO.nD Cert.KernelGwO.τ Cert.KernelGwO.sig) → Buf (Elt Bits) ℓ) (g : Dev Cert.KernelGwO.nD → PrngReg), Pre_KernelGwO m →
    θ_run (Cert.KernelGwO.defs (F := Bits)) (onTc (τ := Cert.KernelGwO.τ) (Cert.KernelGwO.main (F := Bits))) ⟨m, fun _ => 0, g⟩ (fun r => (∀ c : Dev Cert.KernelGwO.nD,
      r.2.mem ((c.tc : Thread Cert.KernelGwO.nD Cert.KernelGwO.τ).loc Cert.KernelGwO.main_arg0) = m ((c.tc : Thread Cert.KernelGwO.nD Cert.KernelGwO.τ).loc Cert.KernelGwO.main_arg0)
      ∧ r.2.mem ((c.tc : Thread Cert.KernelGwO.nD Cert.KernelGwO.τ).loc Cert.KernelGwO.main_arg1) = m ((c.tc : Thread Cert.KernelGwO.nD Cert.KernelGwO.τ).loc Cert.KernelGwO.main_arg1))
      ∧ r.2.sem = fun _ => 0)

def quiescent_KernelGwOIdeal [hKernelGwOIdeal : Cert.KernelGwOIdeal.Facts] : Prop :=
  ∀ (m : (ℓ : Loc Cert.KernelGwOIdeal.nD Cert.KernelGwOIdeal.τ Cert.KernelGwOIdeal.sig) → Buf (Elt Ideal) ℓ) (g : Dev Cert.KernelGwOIdeal.nD → PrngReg), Pre_KernelGwOIdeal m →
    θ_run (Cert.KernelGwOIdeal.defs (F := Ideal)) (onTc (τ := Cert.KernelGwOIdeal.τ) (Cert.KernelGwOIdeal.main (F := Ideal))) ⟨m, fun _ => 0, g⟩ (fun r => (∀ c : Dev Cert.KernelGwOIdeal.nD,
      r.2.mem ((c.tc : Thread Cert.KernelGwOIdeal.nD Cert.KernelGwOIdeal.τ).loc Cert.KernelGwOIdeal.main_arg0) = m ((c.tc : Thread Cert.KernelGwOIdeal.nD Cert.KernelGwOIdeal.τ).loc Cert.KernelGwOIdeal.main_arg0)
      ∧ r.2.mem ((c.tc : Thread Cert.KernelGwOIdeal.nD Cert.KernelGwOIdeal.τ).loc Cert.KernelGwOIdeal.main_arg1) = m ((c.tc : Thread Cert.KernelGwOIdeal.nD Cert.KernelGwOIdeal.τ).loc Cert.KernelGwOIdeal.main_arg1))
      ∧ r.2.sem = fun _ => 0)

def quiescent_ReferenceGwOIdeal [hReferenceGwOIdeal : Cert.ReferenceGwOIdeal.Facts] : Prop :=
  ∀ (m : (ℓ : Loc Cert.ReferenceGwOIdeal.nD Cert.ReferenceGwOIdeal.τ Cert.ReferenceGwOIdeal.sig) → Buf (Elt Ideal) ℓ) (g : Dev Cert.ReferenceGwOIdeal.nD → PrngReg), Pre_ReferenceGwOIdeal m →
    θ_run (Cert.ReferenceGwOIdeal.defs (F := Ideal)) (onTc (τ := Cert.ReferenceGwOIdeal.τ) (Cert.ReferenceGwOIdeal.main (F := Ideal))) ⟨m, fun _ => 0, g⟩ (fun r => (∀ c : Dev Cert.ReferenceGwOIdeal.nD,
      r.2.mem ((c.tc : Thread Cert.ReferenceGwOIdeal.nD Cert.ReferenceGwOIdeal.τ).loc Cert.ReferenceGwOIdeal.main_arg0) = m ((c.tc : Thread Cert.ReferenceGwOIdeal.nD Cert.ReferenceGwOIdeal.τ).loc Cert.ReferenceGwOIdeal.main_arg0)
      ∧ r.2.mem ((c.tc : Thread Cert.ReferenceGwOIdeal.nD Cert.ReferenceGwOIdeal.τ).loc Cert.ReferenceGwOIdeal.main_arg1) = m ((c.tc : Thread Cert.ReferenceGwOIdeal.nD Cert.ReferenceGwOIdeal.τ).loc Cert.ReferenceGwOIdeal.main_arg1))
      ∧ r.2.sem = fun _ => 0)

def quiescent_KernelDhRest [hKernelDhRest : Cert.KernelDhRest.Facts] : Prop :=
  ∀ (m : (ℓ : Loc Cert.KernelDhRest.nD Cert.KernelDhRest.τ Cert.KernelDhRest.sig) → Buf (Elt Bits) ℓ) (g : Dev Cert.KernelDhRest.nD → PrngReg), Pre_KernelDhRest m →
    θ_run (Cert.KernelDhRest.defs (F := Bits)) (onTc (τ := Cert.KernelDhRest.τ) (Cert.KernelDhRest.main (F := Bits))) ⟨m, fun _ => 0, g⟩ (fun r => (∀ c : Dev Cert.KernelDhRest.nD,
      r.2.mem ((c.tc : Thread Cert.KernelDhRest.nD Cert.KernelDhRest.τ).loc Cert.KernelDhRest.main_arg0) = m ((c.tc : Thread Cert.KernelDhRest.nD Cert.KernelDhRest.τ).loc Cert.KernelDhRest.main_arg0)
      ∧ r.2.mem ((c.tc : Thread Cert.KernelDhRest.nD Cert.KernelDhRest.τ).loc Cert.KernelDhRest.main_arg1) = m ((c.tc : Thread Cert.KernelDhRest.nD Cert.KernelDhRest.τ).loc Cert.KernelDhRest.main_arg1))
      ∧ r.2.sem = fun _ => 0)

def quiescent_KernelDhRestIdeal [hKernelDhRestIdeal : Cert.KernelDhRestIdeal.Facts] : Prop :=
  ∀ (m : (ℓ : Loc Cert.KernelDhRestIdeal.nD Cert.KernelDhRestIdeal.τ Cert.KernelDhRestIdeal.sig) → Buf (Elt Ideal) ℓ) (g : Dev Cert.KernelDhRestIdeal.nD → PrngReg), Pre_KernelDhRestIdeal m →
    θ_run (Cert.KernelDhRestIdeal.defs (F := Ideal)) (onTc (τ := Cert.KernelDhRestIdeal.τ) (Cert.KernelDhRestIdeal.main (F := Ideal))) ⟨m, fun _ => 0, g⟩ (fun r => (∀ c : Dev Cert.KernelDhRestIdeal.nD,
      r.2.mem ((c.tc : Thread Cert.KernelDhRestIdeal.nD Cert.KernelDhRestIdeal.τ).loc Cert.KernelDhRestIdeal.main_arg0) = m ((c.tc : Thread Cert.KernelDhRestIdeal.nD Cert.KernelDhRestIdeal.τ).loc Cert.KernelDhRestIdeal.main_arg0)
      ∧ r.2.mem ((c.tc : Thread Cert.KernelDhRestIdeal.nD Cert.KernelDhRestIdeal.τ).loc Cert.KernelDhRestIdeal.main_arg1) = m ((c.tc : Thread Cert.KernelDhRestIdeal.nD Cert.KernelDhRestIdeal.τ).loc Cert.KernelDhRestIdeal.main_arg1))
      ∧ r.2.sem = fun _ => 0)

def quiescent_ReferenceDhRestIdeal [hReferenceDhRestIdeal : Cert.ReferenceDhRestIdeal.Facts] : Prop :=
  ∀ (m : (ℓ : Loc Cert.ReferenceDhRestIdeal.nD Cert.ReferenceDhRestIdeal.τ Cert.ReferenceDhRestIdeal.sig) → Buf (Elt Ideal) ℓ) (g : Dev Cert.ReferenceDhRestIdeal.nD → PrngReg), Pre_ReferenceDhRestIdeal m →
    θ_run (Cert.ReferenceDhRestIdeal.defs (F := Ideal)) (onTc (τ := Cert.ReferenceDhRestIdeal.τ) (Cert.ReferenceDhRestIdeal.main (F := Ideal))) ⟨m, fun _ => 0, g⟩ (fun r => (∀ c : Dev Cert.ReferenceDhRestIdeal.nD,
      r.2.mem ((c.tc : Thread Cert.ReferenceDhRestIdeal.nD Cert.ReferenceDhRestIdeal.τ).loc Cert.ReferenceDhRestIdeal.main_arg0) = m ((c.tc : Thread Cert.ReferenceDhRestIdeal.nD Cert.ReferenceDhRestIdeal.τ).loc Cert.ReferenceDhRestIdeal.main_arg0)
      ∧ r.2.mem ((c.tc : Thread Cert.ReferenceDhRestIdeal.nD Cert.ReferenceDhRestIdeal.τ).loc Cert.ReferenceDhRestIdeal.main_arg1) = m ((c.tc : Thread Cert.ReferenceDhRestIdeal.nD Cert.ReferenceDhRestIdeal.τ).loc Cert.ReferenceDhRestIdeal.main_arg1))
      ∧ r.2.sem = fun _ => 0)

def quiescent_KernelDhSsd [hKernelDhSsd : Cert.KernelDhSsd.Facts] : Prop :=
  ∀ (m : (ℓ : Loc Cert.KernelDhSsd.nD Cert.KernelDhSsd.τ Cert.KernelDhSsd.sig) → Buf (Elt Bits) ℓ) (g : Dev Cert.KernelDhSsd.nD → PrngReg), Pre_KernelDhSsd m →
    θ_run (Cert.KernelDhSsd.defs (F := Bits)) (onTc (τ := Cert.KernelDhSsd.τ) (Cert.KernelDhSsd.main (F := Bits))) ⟨m, fun _ => 0, g⟩ (fun r => (∀ c : Dev Cert.KernelDhSsd.nD,
      r.2.mem ((c.tc : Thread Cert.KernelDhSsd.nD Cert.KernelDhSsd.τ).loc Cert.KernelDhSsd.main_arg0) = m ((c.tc : Thread Cert.KernelDhSsd.nD Cert.KernelDhSsd.τ).loc Cert.KernelDhSsd.main_arg0)
      ∧ r.2.mem ((c.tc : Thread Cert.KernelDhSsd.nD Cert.KernelDhSsd.τ).loc Cert.KernelDhSsd.main_arg1) = m ((c.tc : Thread Cert.KernelDhSsd.nD Cert.KernelDhSsd.τ).loc Cert.KernelDhSsd.main_arg1))
      ∧ r.2.sem = fun _ => 0)

def quiescent_KernelDhSsdIdeal [hKernelDhSsdIdeal : Cert.KernelDhSsdIdeal.Facts] : Prop :=
  ∀ (m : (ℓ : Loc Cert.KernelDhSsdIdeal.nD Cert.KernelDhSsdIdeal.τ Cert.KernelDhSsdIdeal.sig) → Buf (Elt Ideal) ℓ) (g : Dev Cert.KernelDhSsdIdeal.nD → PrngReg), Pre_KernelDhSsdIdeal m →
    θ_run (Cert.KernelDhSsdIdeal.defs (F := Ideal)) (onTc (τ := Cert.KernelDhSsdIdeal.τ) (Cert.KernelDhSsdIdeal.main (F := Ideal))) ⟨m, fun _ => 0, g⟩ (fun r => (∀ c : Dev Cert.KernelDhSsdIdeal.nD,
      r.2.mem ((c.tc : Thread Cert.KernelDhSsdIdeal.nD Cert.KernelDhSsdIdeal.τ).loc Cert.KernelDhSsdIdeal.main_arg0) = m ((c.tc : Thread Cert.KernelDhSsdIdeal.nD Cert.KernelDhSsdIdeal.τ).loc Cert.KernelDhSsdIdeal.main_arg0)
      ∧ r.2.mem ((c.tc : Thread Cert.KernelDhSsdIdeal.nD Cert.KernelDhSsdIdeal.τ).loc Cert.KernelDhSsdIdeal.main_arg1) = m ((c.tc : Thread Cert.KernelDhSsdIdeal.nD Cert.KernelDhSsdIdeal.τ).loc Cert.KernelDhSsdIdeal.main_arg1))
      ∧ r.2.sem = fun _ => 0)

def quiescent_ReferenceDhSsdIdeal [hReferenceDhSsdIdeal : Cert.ReferenceDhSsdIdeal.Facts] : Prop :=
  ∀ (m : (ℓ : Loc Cert.ReferenceDhSsdIdeal.nD Cert.ReferenceDhSsdIdeal.τ Cert.ReferenceDhSsdIdeal.sig) → Buf (Elt Ideal) ℓ) (g : Dev Cert.ReferenceDhSsdIdeal.nD → PrngReg), Pre_ReferenceDhSsdIdeal m →
    θ_run (Cert.ReferenceDhSsdIdeal.defs (F := Ideal)) (onTc (τ := Cert.ReferenceDhSsdIdeal.τ) (Cert.ReferenceDhSsdIdeal.main (F := Ideal))) ⟨m, fun _ => 0, g⟩ (fun r => (∀ c : Dev Cert.ReferenceDhSsdIdeal.nD,
      r.2.mem ((c.tc : Thread Cert.ReferenceDhSsdIdeal.nD Cert.ReferenceDhSsdIdeal.τ).loc Cert.ReferenceDhSsdIdeal.main_arg0) = m ((c.tc : Thread Cert.ReferenceDhSsdIdeal.nD Cert.ReferenceDhSsdIdeal.τ).loc Cert.ReferenceDhSsdIdeal.main_arg0)
      ∧ r.2.mem ((c.tc : Thread Cert.ReferenceDhSsdIdeal.nD Cert.ReferenceDhSsdIdeal.τ).loc Cert.ReferenceDhSsdIdeal.main_arg1) = m ((c.tc : Thread Cert.ReferenceDhSsdIdeal.nD Cert.ReferenceDhSsdIdeal.τ).loc Cert.ReferenceDhSsdIdeal.main_arg1))
      ∧ r.2.sem = fun _ => 0)

def quiescent_KernelDgn [hKernelDgn : Cert.KernelDgn.Facts] : Prop :=
  ∀ (m : (ℓ : Loc Cert.KernelDgn.nD Cert.KernelDgn.τ Cert.KernelDgn.sig) → Buf (Elt Bits) ℓ) (g : Dev Cert.KernelDgn.nD → PrngReg), Pre_KernelDgn m →
    θ_run (Cert.KernelDgn.defs (F := Bits)) (onTc (τ := Cert.KernelDgn.τ) (Cert.KernelDgn.main (F := Bits))) ⟨m, fun _ => 0, g⟩ (fun r => (∀ c : Dev Cert.KernelDgn.nD,
      r.2.mem ((c.tc : Thread Cert.KernelDgn.nD Cert.KernelDgn.τ).loc Cert.KernelDgn.main_arg0) = m ((c.tc : Thread Cert.KernelDgn.nD Cert.KernelDgn.τ).loc Cert.KernelDgn.main_arg0)
      ∧ r.2.mem ((c.tc : Thread Cert.KernelDgn.nD Cert.KernelDgn.τ).loc Cert.KernelDgn.main_arg1) = m ((c.tc : Thread Cert.KernelDgn.nD Cert.KernelDgn.τ).loc Cert.KernelDgn.main_arg1))
      ∧ r.2.sem = fun _ => 0)

def quiescent_KernelDgnIdeal [hKernelDgnIdeal : Cert.KernelDgnIdeal.Facts] : Prop :=
  ∀ (m : (ℓ : Loc Cert.KernelDgnIdeal.nD Cert.KernelDgnIdeal.τ Cert.KernelDgnIdeal.sig) → Buf (Elt Ideal) ℓ) (g : Dev Cert.KernelDgnIdeal.nD → PrngReg), Pre_KernelDgnIdeal m →
    θ_run (Cert.KernelDgnIdeal.defs (F := Ideal)) (onTc (τ := Cert.KernelDgnIdeal.τ) (Cert.KernelDgnIdeal.main (F := Ideal))) ⟨m, fun _ => 0, g⟩ (fun r => (∀ c : Dev Cert.KernelDgnIdeal.nD,
      r.2.mem ((c.tc : Thread Cert.KernelDgnIdeal.nD Cert.KernelDgnIdeal.τ).loc Cert.KernelDgnIdeal.main_arg0) = m ((c.tc : Thread Cert.KernelDgnIdeal.nD Cert.KernelDgnIdeal.τ).loc Cert.KernelDgnIdeal.main_arg0)
      ∧ r.2.mem ((c.tc : Thread Cert.KernelDgnIdeal.nD Cert.KernelDgnIdeal.τ).loc Cert.KernelDgnIdeal.main_arg1) = m ((c.tc : Thread Cert.KernelDgnIdeal.nD Cert.KernelDgnIdeal.τ).loc Cert.KernelDgnIdeal.main_arg1))
      ∧ r.2.sem = fun _ => 0)

def quiescent_ReferenceDgnIdeal [hReferenceDgnIdeal : Cert.ReferenceDgnIdeal.Facts] : Prop :=
  ∀ (m : (ℓ : Loc Cert.ReferenceDgnIdeal.nD Cert.ReferenceDgnIdeal.τ Cert.ReferenceDgnIdeal.sig) → Buf (Elt Ideal) ℓ) (g : Dev Cert.ReferenceDgnIdeal.nD → PrngReg), Pre_ReferenceDgnIdeal m →
    θ_run (Cert.ReferenceDgnIdeal.defs (F := Ideal)) (onTc (τ := Cert.ReferenceDgnIdeal.τ) (Cert.ReferenceDgnIdeal.main (F := Ideal))) ⟨m, fun _ => 0, g⟩ (fun r => (∀ c : Dev Cert.ReferenceDgnIdeal.nD,
      r.2.mem ((c.tc : Thread Cert.ReferenceDgnIdeal.nD Cert.ReferenceDgnIdeal.τ).loc Cert.ReferenceDgnIdeal.main_arg0) = m ((c.tc : Thread Cert.ReferenceDgnIdeal.nD Cert.ReferenceDgnIdeal.τ).loc Cert.ReferenceDgnIdeal.main_arg0)
      ∧ r.2.mem ((c.tc : Thread Cert.ReferenceDgnIdeal.nD Cert.ReferenceDgnIdeal.τ).loc Cert.ReferenceDgnIdeal.main_arg1) = m ((c.tc : Thread Cert.ReferenceDgnIdeal.nD Cert.ReferenceDgnIdeal.τ).loc Cert.ReferenceDgnIdeal.main_arg1))
      ∧ r.2.sem = fun _ => 0)

def quiescent_KernelDmerged [hKernelDmerged : Cert.KernelDmerged.Facts] : Prop :=
  ∀ (m : (ℓ : Loc Cert.KernelDmerged.nD Cert.KernelDmerged.τ Cert.KernelDmerged.sig) → Buf (Elt Bits) ℓ) (g : Dev Cert.KernelDmerged.nD → PrngReg), Pre_KernelDmerged m →
    θ_run (Cert.KernelDmerged.defs (F := Bits)) (onTc (τ := Cert.KernelDmerged.τ) (Cert.KernelDmerged.main (F := Bits))) ⟨m, fun _ => 0, g⟩ (fun r => (∀ c : Dev Cert.KernelDmerged.nD,
      r.2.mem ((c.tc : Thread Cert.KernelDmerged.nD Cert.KernelDmerged.τ).loc Cert.KernelDmerged.main_arg0) = m ((c.tc : Thread Cert.KernelDmerged.nD Cert.KernelDmerged.τ).loc Cert.KernelDmerged.main_arg0)
      ∧ r.2.mem ((c.tc : Thread Cert.KernelDmerged.nD Cert.KernelDmerged.τ).loc Cert.KernelDmerged.main_arg1) = m ((c.tc : Thread Cert.KernelDmerged.nD Cert.KernelDmerged.τ).loc Cert.KernelDmerged.main_arg1))
      ∧ r.2.sem = fun _ => 0)

def quiescent_KernelDmergedIdeal [hKernelDmergedIdeal : Cert.KernelDmergedIdeal.Facts] : Prop :=
  ∀ (m : (ℓ : Loc Cert.KernelDmergedIdeal.nD Cert.KernelDmergedIdeal.τ Cert.KernelDmergedIdeal.sig) → Buf (Elt Ideal) ℓ) (g : Dev Cert.KernelDmergedIdeal.nD → PrngReg), Pre_KernelDmergedIdeal m →
    θ_run (Cert.KernelDmergedIdeal.defs (F := Ideal)) (onTc (τ := Cert.KernelDmergedIdeal.τ) (Cert.KernelDmergedIdeal.main (F := Ideal))) ⟨m, fun _ => 0, g⟩ (fun r => (∀ c : Dev Cert.KernelDmergedIdeal.nD,
      r.2.mem ((c.tc : Thread Cert.KernelDmergedIdeal.nD Cert.KernelDmergedIdeal.τ).loc Cert.KernelDmergedIdeal.main_arg0) = m ((c.tc : Thread Cert.KernelDmergedIdeal.nD Cert.KernelDmergedIdeal.τ).loc Cert.KernelDmergedIdeal.main_arg0)
      ∧ r.2.mem ((c.tc : Thread Cert.KernelDmergedIdeal.nD Cert.KernelDmergedIdeal.τ).loc Cert.KernelDmergedIdeal.main_arg1) = m ((c.tc : Thread Cert.KernelDmergedIdeal.nD Cert.KernelDmergedIdeal.τ).loc Cert.KernelDmergedIdeal.main_arg1))
      ∧ r.2.sem = fun _ => 0)

def quiescent_ReferenceDmergedIdeal [hReferenceDmergedIdeal : Cert.ReferenceDmergedIdeal.Facts] : Prop :=
  ∀ (m : (ℓ : Loc Cert.ReferenceDmergedIdeal.nD Cert.ReferenceDmergedIdeal.τ Cert.ReferenceDmergedIdeal.sig) → Buf (Elt Ideal) ℓ) (g : Dev Cert.ReferenceDmergedIdeal.nD → PrngReg), Pre_ReferenceDmergedIdeal m →
    θ_run (Cert.ReferenceDmergedIdeal.defs (F := Ideal)) (onTc (τ := Cert.ReferenceDmergedIdeal.τ) (Cert.ReferenceDmergedIdeal.main (F := Ideal))) ⟨m, fun _ => 0, g⟩ (fun r => (∀ c : Dev Cert.ReferenceDmergedIdeal.nD,
      r.2.mem ((c.tc : Thread Cert.ReferenceDmergedIdeal.nD Cert.ReferenceDmergedIdeal.τ).loc Cert.ReferenceDmergedIdeal.main_arg0) = m ((c.tc : Thread Cert.ReferenceDmergedIdeal.nD Cert.ReferenceDmergedIdeal.τ).loc Cert.ReferenceDmergedIdeal.main_arg0)
      ∧ r.2.mem ((c.tc : Thread Cert.ReferenceDmergedIdeal.nD Cert.ReferenceDmergedIdeal.τ).loc Cert.ReferenceDmergedIdeal.main_arg1) = m ((c.tc : Thread Cert.ReferenceDmergedIdeal.nD Cert.ReferenceDmergedIdeal.τ).loc Cert.ReferenceDmergedIdeal.main_arg1))
      ∧ r.2.sem = fun _ => 0)

def quiescent_KernelProjRest [hKernelProjRest : Cert.KernelProjRest.Facts] : Prop :=
  ∀ (m : (ℓ : Loc Cert.KernelProjRest.nD Cert.KernelProjRest.τ Cert.KernelProjRest.sig) → Buf (Elt Bits) ℓ) (g : Dev Cert.KernelProjRest.nD → PrngReg), Pre_KernelProjRest m →
    θ_run (Cert.KernelProjRest.defs (F := Bits)) (onTc (τ := Cert.KernelProjRest.τ) (Cert.KernelProjRest.main (F := Bits))) ⟨m, fun _ => 0, g⟩ (fun r => (∀ c : Dev Cert.KernelProjRest.nD,
      r.2.mem ((c.tc : Thread Cert.KernelProjRest.nD Cert.KernelProjRest.τ).loc Cert.KernelProjRest.main_arg0) = m ((c.tc : Thread Cert.KernelProjRest.nD Cert.KernelProjRest.τ).loc Cert.KernelProjRest.main_arg0)
      ∧ r.2.mem ((c.tc : Thread Cert.KernelProjRest.nD Cert.KernelProjRest.τ).loc Cert.KernelProjRest.main_arg1) = m ((c.tc : Thread Cert.KernelProjRest.nD Cert.KernelProjRest.τ).loc Cert.KernelProjRest.main_arg1))
      ∧ r.2.sem = fun _ => 0)

def quiescent_KernelProjRestIdeal [hKernelProjRestIdeal : Cert.KernelProjRestIdeal.Facts] : Prop :=
  ∀ (m : (ℓ : Loc Cert.KernelProjRestIdeal.nD Cert.KernelProjRestIdeal.τ Cert.KernelProjRestIdeal.sig) → Buf (Elt Ideal) ℓ) (g : Dev Cert.KernelProjRestIdeal.nD → PrngReg), Pre_KernelProjRestIdeal m →
    θ_run (Cert.KernelProjRestIdeal.defs (F := Ideal)) (onTc (τ := Cert.KernelProjRestIdeal.τ) (Cert.KernelProjRestIdeal.main (F := Ideal))) ⟨m, fun _ => 0, g⟩ (fun r => (∀ c : Dev Cert.KernelProjRestIdeal.nD,
      r.2.mem ((c.tc : Thread Cert.KernelProjRestIdeal.nD Cert.KernelProjRestIdeal.τ).loc Cert.KernelProjRestIdeal.main_arg0) = m ((c.tc : Thread Cert.KernelProjRestIdeal.nD Cert.KernelProjRestIdeal.τ).loc Cert.KernelProjRestIdeal.main_arg0)
      ∧ r.2.mem ((c.tc : Thread Cert.KernelProjRestIdeal.nD Cert.KernelProjRestIdeal.τ).loc Cert.KernelProjRestIdeal.main_arg1) = m ((c.tc : Thread Cert.KernelProjRestIdeal.nD Cert.KernelProjRestIdeal.τ).loc Cert.KernelProjRestIdeal.main_arg1))
      ∧ r.2.sem = fun _ => 0)

def quiescent_ReferenceProjRestIdeal [hReferenceProjRestIdeal : Cert.ReferenceProjRestIdeal.Facts] : Prop :=
  ∀ (m : (ℓ : Loc Cert.ReferenceProjRestIdeal.nD Cert.ReferenceProjRestIdeal.τ Cert.ReferenceProjRestIdeal.sig) → Buf (Elt Ideal) ℓ) (g : Dev Cert.ReferenceProjRestIdeal.nD → PrngReg), Pre_ReferenceProjRestIdeal m →
    θ_run (Cert.ReferenceProjRestIdeal.defs (F := Ideal)) (onTc (τ := Cert.ReferenceProjRestIdeal.τ) (Cert.ReferenceProjRestIdeal.main (F := Ideal))) ⟨m, fun _ => 0, g⟩ (fun r => (∀ c : Dev Cert.ReferenceProjRestIdeal.nD,
      r.2.mem ((c.tc : Thread Cert.ReferenceProjRestIdeal.nD Cert.ReferenceProjRestIdeal.τ).loc Cert.ReferenceProjRestIdeal.main_arg0) = m ((c.tc : Thread Cert.ReferenceProjRestIdeal.nD Cert.ReferenceProjRestIdeal.τ).loc Cert.ReferenceProjRestIdeal.main_arg0)
      ∧ r.2.mem ((c.tc : Thread Cert.ReferenceProjRestIdeal.nD Cert.ReferenceProjRestIdeal.τ).loc Cert.ReferenceProjRestIdeal.main_arg1) = m ((c.tc : Thread Cert.ReferenceProjRestIdeal.nD Cert.ReferenceProjRestIdeal.τ).loc Cert.ReferenceProjRestIdeal.main_arg1))
      ∧ r.2.sem = fun _ => 0)

def quiescent_KernelProjSsd [hKernelProjSsd : Cert.KernelProjSsd.Facts] : Prop :=
  ∀ (m : (ℓ : Loc Cert.KernelProjSsd.nD Cert.KernelProjSsd.τ Cert.KernelProjSsd.sig) → Buf (Elt Bits) ℓ) (g : Dev Cert.KernelProjSsd.nD → PrngReg), Pre_KernelProjSsd m →
    θ_run (Cert.KernelProjSsd.defs (F := Bits)) (onTc (τ := Cert.KernelProjSsd.τ) (Cert.KernelProjSsd.main (F := Bits))) ⟨m, fun _ => 0, g⟩ (fun r => (∀ c : Dev Cert.KernelProjSsd.nD,
      r.2.mem ((c.tc : Thread Cert.KernelProjSsd.nD Cert.KernelProjSsd.τ).loc Cert.KernelProjSsd.main_arg0) = m ((c.tc : Thread Cert.KernelProjSsd.nD Cert.KernelProjSsd.τ).loc Cert.KernelProjSsd.main_arg0)
      ∧ r.2.mem ((c.tc : Thread Cert.KernelProjSsd.nD Cert.KernelProjSsd.τ).loc Cert.KernelProjSsd.main_arg1) = m ((c.tc : Thread Cert.KernelProjSsd.nD Cert.KernelProjSsd.τ).loc Cert.KernelProjSsd.main_arg1))
      ∧ r.2.sem = fun _ => 0)

def quiescent_KernelProjSsdIdeal [hKernelProjSsdIdeal : Cert.KernelProjSsdIdeal.Facts] : Prop :=
  ∀ (m : (ℓ : Loc Cert.KernelProjSsdIdeal.nD Cert.KernelProjSsdIdeal.τ Cert.KernelProjSsdIdeal.sig) → Buf (Elt Ideal) ℓ) (g : Dev Cert.KernelProjSsdIdeal.nD → PrngReg), Pre_KernelProjSsdIdeal m →
    θ_run (Cert.KernelProjSsdIdeal.defs (F := Ideal)) (onTc (τ := Cert.KernelProjSsdIdeal.τ) (Cert.KernelProjSsdIdeal.main (F := Ideal))) ⟨m, fun _ => 0, g⟩ (fun r => (∀ c : Dev Cert.KernelProjSsdIdeal.nD,
      r.2.mem ((c.tc : Thread Cert.KernelProjSsdIdeal.nD Cert.KernelProjSsdIdeal.τ).loc Cert.KernelProjSsdIdeal.main_arg0) = m ((c.tc : Thread Cert.KernelProjSsdIdeal.nD Cert.KernelProjSsdIdeal.τ).loc Cert.KernelProjSsdIdeal.main_arg0)
      ∧ r.2.mem ((c.tc : Thread Cert.KernelProjSsdIdeal.nD Cert.KernelProjSsdIdeal.τ).loc Cert.KernelProjSsdIdeal.main_arg1) = m ((c.tc : Thread Cert.KernelProjSsdIdeal.nD Cert.KernelProjSsdIdeal.τ).loc Cert.KernelProjSsdIdeal.main_arg1))
      ∧ r.2.sem = fun _ => 0)

def quiescent_ReferenceProjSsdIdeal [hReferenceProjSsdIdeal : Cert.ReferenceProjSsdIdeal.Facts] : Prop :=
  ∀ (m : (ℓ : Loc Cert.ReferenceProjSsdIdeal.nD Cert.ReferenceProjSsdIdeal.τ Cert.ReferenceProjSsdIdeal.sig) → Buf (Elt Ideal) ℓ) (g : Dev Cert.ReferenceProjSsdIdeal.nD → PrngReg), Pre_ReferenceProjSsdIdeal m →
    θ_run (Cert.ReferenceProjSsdIdeal.defs (F := Ideal)) (onTc (τ := Cert.ReferenceProjSsdIdeal.τ) (Cert.ReferenceProjSsdIdeal.main (F := Ideal))) ⟨m, fun _ => 0, g⟩ (fun r => (∀ c : Dev Cert.ReferenceProjSsdIdeal.nD,
      r.2.mem ((c.tc : Thread Cert.ReferenceProjSsdIdeal.nD Cert.ReferenceProjSsdIdeal.τ).loc Cert.ReferenceProjSsdIdeal.main_arg0) = m ((c.tc : Thread Cert.ReferenceProjSsdIdeal.nD Cert.ReferenceProjSsdIdeal.τ).loc Cert.ReferenceProjSsdIdeal.main_arg0)
      ∧ r.2.mem ((c.tc : Thread Cert.ReferenceProjSsdIdeal.nD Cert.ReferenceProjSsdIdeal.τ).loc Cert.ReferenceProjSsdIdeal.main_arg1) = m ((c.tc : Thread Cert.ReferenceProjSsdIdeal.nD Cert.ReferenceProjSsdIdeal.τ).loc Cert.ReferenceProjSsdIdeal.main_arg1))
      ∧ r.2.sem = fun _ => 0)

def quiescent_KernelOutSsm [hKernelOutSsm : Cert.KernelOutSsm.Facts] : Prop :=
  ∀ (m : (ℓ : Loc Cert.KernelOutSsm.nD Cert.KernelOutSsm.τ Cert.KernelOutSsm.sig) → Buf (Elt Bits) ℓ) (g : Dev Cert.KernelOutSsm.nD → PrngReg), Pre_KernelOutSsm m →
    θ_run (Cert.KernelOutSsm.defs (F := Bits)) (onTc (τ := Cert.KernelOutSsm.τ) (Cert.KernelOutSsm.main (F := Bits))) ⟨m, fun _ => 0, g⟩ (fun r => (∀ c : Dev Cert.KernelOutSsm.nD,
      r.2.mem ((c.tc : Thread Cert.KernelOutSsm.nD Cert.KernelOutSsm.τ).loc Cert.KernelOutSsm.main_arg0) = m ((c.tc : Thread Cert.KernelOutSsm.nD Cert.KernelOutSsm.τ).loc Cert.KernelOutSsm.main_arg0)
      ∧ r.2.mem ((c.tc : Thread Cert.KernelOutSsm.nD Cert.KernelOutSsm.τ).loc Cert.KernelOutSsm.main_arg1) = m ((c.tc : Thread Cert.KernelOutSsm.nD Cert.KernelOutSsm.τ).loc Cert.KernelOutSsm.main_arg1))
      ∧ r.2.sem = fun _ => 0)

def quiescent_KernelOutSsmIdeal [hKernelOutSsmIdeal : Cert.KernelOutSsmIdeal.Facts] : Prop :=
  ∀ (m : (ℓ : Loc Cert.KernelOutSsmIdeal.nD Cert.KernelOutSsmIdeal.τ Cert.KernelOutSsmIdeal.sig) → Buf (Elt Ideal) ℓ) (g : Dev Cert.KernelOutSsmIdeal.nD → PrngReg), Pre_KernelOutSsmIdeal m →
    θ_run (Cert.KernelOutSsmIdeal.defs (F := Ideal)) (onTc (τ := Cert.KernelOutSsmIdeal.τ) (Cert.KernelOutSsmIdeal.main (F := Ideal))) ⟨m, fun _ => 0, g⟩ (fun r => (∀ c : Dev Cert.KernelOutSsmIdeal.nD,
      r.2.mem ((c.tc : Thread Cert.KernelOutSsmIdeal.nD Cert.KernelOutSsmIdeal.τ).loc Cert.KernelOutSsmIdeal.main_arg0) = m ((c.tc : Thread Cert.KernelOutSsmIdeal.nD Cert.KernelOutSsmIdeal.τ).loc Cert.KernelOutSsmIdeal.main_arg0)
      ∧ r.2.mem ((c.tc : Thread Cert.KernelOutSsmIdeal.nD Cert.KernelOutSsmIdeal.τ).loc Cert.KernelOutSsmIdeal.main_arg1) = m ((c.tc : Thread Cert.KernelOutSsmIdeal.nD Cert.KernelOutSsmIdeal.τ).loc Cert.KernelOutSsmIdeal.main_arg1))
      ∧ r.2.sem = fun _ => 0)

def quiescent_ReferenceOutSsmIdeal [hReferenceOutSsmIdeal : Cert.ReferenceOutSsmIdeal.Facts] : Prop :=
  ∀ (m : (ℓ : Loc Cert.ReferenceOutSsmIdeal.nD Cert.ReferenceOutSsmIdeal.τ Cert.ReferenceOutSsmIdeal.sig) → Buf (Elt Ideal) ℓ) (g : Dev Cert.ReferenceOutSsmIdeal.nD → PrngReg), Pre_ReferenceOutSsmIdeal m →
    θ_run (Cert.ReferenceOutSsmIdeal.defs (F := Ideal)) (onTc (τ := Cert.ReferenceOutSsmIdeal.τ) (Cert.ReferenceOutSsmIdeal.main (F := Ideal))) ⟨m, fun _ => 0, g⟩ (fun r => (∀ c : Dev Cert.ReferenceOutSsmIdeal.nD,
      r.2.mem ((c.tc : Thread Cert.ReferenceOutSsmIdeal.nD Cert.ReferenceOutSsmIdeal.τ).loc Cert.ReferenceOutSsmIdeal.main_arg0) = m ((c.tc : Thread Cert.ReferenceOutSsmIdeal.nD Cert.ReferenceOutSsmIdeal.τ).loc Cert.ReferenceOutSsmIdeal.main_arg0)
      ∧ r.2.mem ((c.tc : Thread Cert.ReferenceOutSsmIdeal.nD Cert.ReferenceOutSsmIdeal.τ).loc Cert.ReferenceOutSsmIdeal.main_arg1) = m ((c.tc : Thread Cert.ReferenceOutSsmIdeal.nD Cert.ReferenceOutSsmIdeal.τ).loc Cert.ReferenceOutSsmIdeal.main_arg1))
      ∧ r.2.sem = fun _ => 0)

def quiescent_KernelOutConf [hKernelOutConf : Cert.KernelOutConf.Facts] : Prop :=
  ∀ (m : (ℓ : Loc Cert.KernelOutConf.nD Cert.KernelOutConf.τ Cert.KernelOutConf.sig) → Buf (Elt Bits) ℓ) (g : Dev Cert.KernelOutConf.nD → PrngReg), Pre_KernelOutConf m →
    θ_run (Cert.KernelOutConf.defs (F := Bits)) (onTc (τ := Cert.KernelOutConf.τ) (Cert.KernelOutConf.main (F := Bits))) ⟨m, fun _ => 0, g⟩ (fun r => (∀ c : Dev Cert.KernelOutConf.nD,
      r.2.mem ((c.tc : Thread Cert.KernelOutConf.nD Cert.KernelOutConf.τ).loc Cert.KernelOutConf.main_arg0) = m ((c.tc : Thread Cert.KernelOutConf.nD Cert.KernelOutConf.τ).loc Cert.KernelOutConf.main_arg0)
      ∧ r.2.mem ((c.tc : Thread Cert.KernelOutConf.nD Cert.KernelOutConf.τ).loc Cert.KernelOutConf.main_arg1) = m ((c.tc : Thread Cert.KernelOutConf.nD Cert.KernelOutConf.τ).loc Cert.KernelOutConf.main_arg1))
      ∧ r.2.sem = fun _ => 0)

def quiescent_KernelOutConfIdeal [hKernelOutConfIdeal : Cert.KernelOutConfIdeal.Facts] : Prop :=
  ∀ (m : (ℓ : Loc Cert.KernelOutConfIdeal.nD Cert.KernelOutConfIdeal.τ Cert.KernelOutConfIdeal.sig) → Buf (Elt Ideal) ℓ) (g : Dev Cert.KernelOutConfIdeal.nD → PrngReg), Pre_KernelOutConfIdeal m →
    θ_run (Cert.KernelOutConfIdeal.defs (F := Ideal)) (onTc (τ := Cert.KernelOutConfIdeal.τ) (Cert.KernelOutConfIdeal.main (F := Ideal))) ⟨m, fun _ => 0, g⟩ (fun r => (∀ c : Dev Cert.KernelOutConfIdeal.nD,
      r.2.mem ((c.tc : Thread Cert.KernelOutConfIdeal.nD Cert.KernelOutConfIdeal.τ).loc Cert.KernelOutConfIdeal.main_arg0) = m ((c.tc : Thread Cert.KernelOutConfIdeal.nD Cert.KernelOutConfIdeal.τ).loc Cert.KernelOutConfIdeal.main_arg0)
      ∧ r.2.mem ((c.tc : Thread Cert.KernelOutConfIdeal.nD Cert.KernelOutConfIdeal.τ).loc Cert.KernelOutConfIdeal.main_arg1) = m ((c.tc : Thread Cert.KernelOutConfIdeal.nD Cert.KernelOutConfIdeal.τ).loc Cert.KernelOutConfIdeal.main_arg1))
      ∧ r.2.sem = fun _ => 0)

def quiescent_ReferenceOutConfIdeal [hReferenceOutConfIdeal : Cert.ReferenceOutConfIdeal.Facts] : Prop :=
  ∀ (m : (ℓ : Loc Cert.ReferenceOutConfIdeal.nD Cert.ReferenceOutConfIdeal.τ Cert.ReferenceOutConfIdeal.sig) → Buf (Elt Ideal) ℓ) (g : Dev Cert.ReferenceOutConfIdeal.nD → PrngReg), Pre_ReferenceOutConfIdeal m →
    θ_run (Cert.ReferenceOutConfIdeal.defs (F := Ideal)) (onTc (τ := Cert.ReferenceOutConfIdeal.τ) (Cert.ReferenceOutConfIdeal.main (F := Ideal))) ⟨m, fun _ => 0, g⟩ (fun r => (∀ c : Dev Cert.ReferenceOutConfIdeal.nD,
      r.2.mem ((c.tc : Thread Cert.ReferenceOutConfIdeal.nD Cert.ReferenceOutConfIdeal.τ).loc Cert.ReferenceOutConfIdeal.main_arg0) = m ((c.tc : Thread Cert.ReferenceOutConfIdeal.nD Cert.ReferenceOutConfIdeal.τ).loc Cert.ReferenceOutConfIdeal.main_arg0)
      ∧ r.2.mem ((c.tc : Thread Cert.ReferenceOutConfIdeal.nD Cert.ReferenceOutConfIdeal.τ).loc Cert.ReferenceOutConfIdeal.main_arg1) = m ((c.tc : Thread Cert.ReferenceOutConfIdeal.nD Cert.ReferenceOutConfIdeal.τ).loc Cert.ReferenceOutConfIdeal.main_arg1))
      ∧ r.2.sem = fun _ => 0)

def quiescent_KernelOutProj [hKernelOutProj : Cert.KernelOutProj.Facts] : Prop :=
  ∀ (m : (ℓ : Loc Cert.KernelOutProj.nD Cert.KernelOutProj.τ Cert.KernelOutProj.sig) → Buf (Elt Bits) ℓ) (g : Dev Cert.KernelOutProj.nD → PrngReg), Pre_KernelOutProj m →
    θ_run (Cert.KernelOutProj.defs (F := Bits)) (onTc (τ := Cert.KernelOutProj.τ) (Cert.KernelOutProj.main (F := Bits))) ⟨m, fun _ => 0, g⟩ (fun r => (∀ c : Dev Cert.KernelOutProj.nD,
      r.2.mem ((c.tc : Thread Cert.KernelOutProj.nD Cert.KernelOutProj.τ).loc Cert.KernelOutProj.main_arg0) = m ((c.tc : Thread Cert.KernelOutProj.nD Cert.KernelOutProj.τ).loc Cert.KernelOutProj.main_arg0)
      ∧ r.2.mem ((c.tc : Thread Cert.KernelOutProj.nD Cert.KernelOutProj.τ).loc Cert.KernelOutProj.main_arg1) = m ((c.tc : Thread Cert.KernelOutProj.nD Cert.KernelOutProj.τ).loc Cert.KernelOutProj.main_arg1))
      ∧ r.2.sem = fun _ => 0)

def quiescent_KernelOutProjIdeal [hKernelOutProjIdeal : Cert.KernelOutProjIdeal.Facts] : Prop :=
  ∀ (m : (ℓ : Loc Cert.KernelOutProjIdeal.nD Cert.KernelOutProjIdeal.τ Cert.KernelOutProjIdeal.sig) → Buf (Elt Ideal) ℓ) (g : Dev Cert.KernelOutProjIdeal.nD → PrngReg), Pre_KernelOutProjIdeal m →
    θ_run (Cert.KernelOutProjIdeal.defs (F := Ideal)) (onTc (τ := Cert.KernelOutProjIdeal.τ) (Cert.KernelOutProjIdeal.main (F := Ideal))) ⟨m, fun _ => 0, g⟩ (fun r => (∀ c : Dev Cert.KernelOutProjIdeal.nD,
      r.2.mem ((c.tc : Thread Cert.KernelOutProjIdeal.nD Cert.KernelOutProjIdeal.τ).loc Cert.KernelOutProjIdeal.main_arg0) = m ((c.tc : Thread Cert.KernelOutProjIdeal.nD Cert.KernelOutProjIdeal.τ).loc Cert.KernelOutProjIdeal.main_arg0)
      ∧ r.2.mem ((c.tc : Thread Cert.KernelOutProjIdeal.nD Cert.KernelOutProjIdeal.τ).loc Cert.KernelOutProjIdeal.main_arg1) = m ((c.tc : Thread Cert.KernelOutProjIdeal.nD Cert.KernelOutProjIdeal.τ).loc Cert.KernelOutProjIdeal.main_arg1))
      ∧ r.2.sem = fun _ => 0)

def quiescent_ReferenceOutProjIdeal [hReferenceOutProjIdeal : Cert.ReferenceOutProjIdeal.Facts] : Prop :=
  ∀ (m : (ℓ : Loc Cert.ReferenceOutProjIdeal.nD Cert.ReferenceOutProjIdeal.τ Cert.ReferenceOutProjIdeal.sig) → Buf (Elt Ideal) ℓ) (g : Dev Cert.ReferenceOutProjIdeal.nD → PrngReg), Pre_ReferenceOutProjIdeal m →
    θ_run (Cert.ReferenceOutProjIdeal.defs (F := Ideal)) (onTc (τ := Cert.ReferenceOutProjIdeal.τ) (Cert.ReferenceOutProjIdeal.main (F := Ideal))) ⟨m, fun _ => 0, g⟩ (fun r => (∀ c : Dev Cert.ReferenceOutProjIdeal.nD,
      r.2.mem ((c.tc : Thread Cert.ReferenceOutProjIdeal.nD Cert.ReferenceOutProjIdeal.τ).loc Cert.ReferenceOutProjIdeal.main_arg0) = m ((c.tc : Thread Cert.ReferenceOutProjIdeal.nD Cert.ReferenceOutProjIdeal.τ).loc Cert.ReferenceOutProjIdeal.main_arg0)
      ∧ r.2.mem ((c.tc : Thread Cert.ReferenceOutProjIdeal.nD Cert.ReferenceOutProjIdeal.τ).loc Cert.ReferenceOutProjIdeal.main_arg1) = m ((c.tc : Thread Cert.ReferenceOutProjIdeal.nD Cert.ReferenceOutProjIdeal.τ).loc Cert.ReferenceOutProjIdeal.main_arg1))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2))
      ∧ r.2.sem = fun _ => 0)

def quiescent_KernelDgate [hKernelDgate : Cert.KernelDgate.Facts] : Prop :=
  ∀ (m : (ℓ : Loc Cert.KernelDgate.nD Cert.KernelDgate.τ Cert.KernelDgate.sig) → Buf (Elt Bits) ℓ) (g : Dev Cert.KernelDgate.nD → PrngReg), Pre_KernelDgate m →
    θ_run (Cert.KernelDgate.defs (F := Bits)) (onTc (τ := Cert.KernelDgate.τ) (Cert.KernelDgate.main (F := Bits))) ⟨m, fun _ => 0, g⟩ (fun r => (∀ c : Dev Cert.KernelDgate.nD,
      r.2.mem ((c.tc : Thread Cert.KernelDgate.nD Cert.KernelDgate.τ).loc Cert.KernelDgate.main_arg0) = m ((c.tc : Thread Cert.KernelDgate.nD Cert.KernelDgate.τ).loc Cert.KernelDgate.main_arg0)
      ∧ r.2.mem ((c.tc : Thread Cert.KernelDgate.nD Cert.KernelDgate.τ).loc Cert.KernelDgate.main_arg1) = m ((c.tc : Thread Cert.KernelDgate.nD Cert.KernelDgate.τ).loc Cert.KernelDgate.main_arg1)
      ∧ r.2.mem ((c.tc : Thread Cert.KernelDgate.nD Cert.KernelDgate.τ).loc Cert.KernelDgate.main_arg2) = m ((c.tc : Thread Cert.KernelDgate.nD Cert.KernelDgate.τ).loc Cert.KernelDgate.main_arg2)
      ∧ r.2.mem ((c.tc : Thread Cert.KernelDgate.nD Cert.KernelDgate.τ).loc Cert.KernelDgate.main_arg3) = m ((c.tc : Thread Cert.KernelDgate.nD Cert.KernelDgate.τ).loc Cert.KernelDgate.main_arg3))
      ∧ r.2.sem = fun _ => 0)

def quiescent_KernelDgateIdeal [hKernelDgateIdeal : Cert.KernelDgateIdeal.Facts] : Prop :=
  ∀ (m : (ℓ : Loc Cert.KernelDgateIdeal.nD Cert.KernelDgateIdeal.τ Cert.KernelDgateIdeal.sig) → Buf (Elt Ideal) ℓ) (g : Dev Cert.KernelDgateIdeal.nD → PrngReg), Pre_KernelDgateIdeal m →
    θ_run (Cert.KernelDgateIdeal.defs (F := Ideal)) (onTc (τ := Cert.KernelDgateIdeal.τ) (Cert.KernelDgateIdeal.main (F := Ideal))) ⟨m, fun _ => 0, g⟩ (fun r => (∀ c : Dev Cert.KernelDgateIdeal.nD,
      r.2.mem ((c.tc : Thread Cert.KernelDgateIdeal.nD Cert.KernelDgateIdeal.τ).loc Cert.KernelDgateIdeal.main_arg0) = m ((c.tc : Thread Cert.KernelDgateIdeal.nD Cert.KernelDgateIdeal.τ).loc Cert.KernelDgateIdeal.main_arg0)
      ∧ r.2.mem ((c.tc : Thread Cert.KernelDgateIdeal.nD Cert.KernelDgateIdeal.τ).loc Cert.KernelDgateIdeal.main_arg1) = m ((c.tc : Thread Cert.KernelDgateIdeal.nD Cert.KernelDgateIdeal.τ).loc Cert.KernelDgateIdeal.main_arg1)
      ∧ r.2.mem ((c.tc : Thread Cert.KernelDgateIdeal.nD Cert.KernelDgateIdeal.τ).loc Cert.KernelDgateIdeal.main_arg2) = m ((c.tc : Thread Cert.KernelDgateIdeal.nD Cert.KernelDgateIdeal.τ).loc Cert.KernelDgateIdeal.main_arg2)
      ∧ r.2.mem ((c.tc : Thread Cert.KernelDgateIdeal.nD Cert.KernelDgateIdeal.τ).loc Cert.KernelDgateIdeal.main_arg3) = m ((c.tc : Thread Cert.KernelDgateIdeal.nD Cert.KernelDgateIdeal.τ).loc Cert.KernelDgateIdeal.main_arg3))
      ∧ r.2.sem = fun _ => 0)

def quiescent_ReferenceDgateIdeal [hReferenceDgateIdeal : Cert.ReferenceDgateIdeal.Facts] : Prop :=
  ∀ (m : (ℓ : Loc Cert.ReferenceDgateIdeal.nD Cert.ReferenceDgateIdeal.τ Cert.ReferenceDgateIdeal.sig) → Buf (Elt Ideal) ℓ) (g : Dev Cert.ReferenceDgateIdeal.nD → PrngReg), Pre_ReferenceDgateIdeal m →
    θ_run (Cert.ReferenceDgateIdeal.defs (F := Ideal)) (onTc (τ := Cert.ReferenceDgateIdeal.τ) (Cert.ReferenceDgateIdeal.main (F := Ideal))) ⟨m, fun _ => 0, g⟩ (fun r => (∀ c : Dev Cert.ReferenceDgateIdeal.nD,
      r.2.mem ((c.tc : Thread Cert.ReferenceDgateIdeal.nD Cert.ReferenceDgateIdeal.τ).loc Cert.ReferenceDgateIdeal.main_arg0) = m ((c.tc : Thread Cert.ReferenceDgateIdeal.nD Cert.ReferenceDgateIdeal.τ).loc Cert.ReferenceDgateIdeal.main_arg0)
      ∧ r.2.mem ((c.tc : Thread Cert.ReferenceDgateIdeal.nD Cert.ReferenceDgateIdeal.τ).loc Cert.ReferenceDgateIdeal.main_arg1) = m ((c.tc : Thread Cert.ReferenceDgateIdeal.nD Cert.ReferenceDgateIdeal.τ).loc Cert.ReferenceDgateIdeal.main_arg1)
      ∧ r.2.mem ((c.tc : Thread Cert.ReferenceDgateIdeal.nD Cert.ReferenceDgateIdeal.τ).loc Cert.ReferenceDgateIdeal.main_arg2) = m ((c.tc : Thread Cert.ReferenceDgateIdeal.nD Cert.ReferenceDgateIdeal.τ).loc Cert.ReferenceDgateIdeal.main_arg2)
      ∧ r.2.mem ((c.tc : Thread Cert.ReferenceDgateIdeal.nD Cert.ReferenceDgateIdeal.τ).loc Cert.ReferenceDgateIdeal.main_arg3) = m ((c.tc : Thread Cert.ReferenceDgateIdeal.nD Cert.ReferenceDgateIdeal.τ).loc Cert.ReferenceDgateIdeal.main_arg3))
      ∧ r.2.sem = fun _ => 0)

def quiescent_KernelAdamMod [hKernelAdamMod : Cert.KernelAdamMod.Facts] : Prop :=
  ∀ (m : (ℓ : Loc Cert.KernelAdamMod.nD Cert.KernelAdamMod.τ Cert.KernelAdamMod.sig) → Buf (Elt Bits) ℓ) (g : Dev Cert.KernelAdamMod.nD → PrngReg), Pre_KernelAdamMod m →
    θ_run (Cert.KernelAdamMod.defs (F := Bits)) (onTc (τ := Cert.KernelAdamMod.τ) (Cert.KernelAdamMod.main (F := Bits))) ⟨m, fun _ => 0, g⟩ (fun r => (∀ c : Dev Cert.KernelAdamMod.nD,
      r.2.mem ((c.tc : Thread Cert.KernelAdamMod.nD Cert.KernelAdamMod.τ).loc Cert.KernelAdamMod.main_arg0) = m ((c.tc : Thread Cert.KernelAdamMod.nD Cert.KernelAdamMod.τ).loc Cert.KernelAdamMod.main_arg0)
      ∧ r.2.mem ((c.tc : Thread Cert.KernelAdamMod.nD Cert.KernelAdamMod.τ).loc Cert.KernelAdamMod.main_arg1) = m ((c.tc : Thread Cert.KernelAdamMod.nD Cert.KernelAdamMod.τ).loc Cert.KernelAdamMod.main_arg1)
      ∧ r.2.mem ((c.tc : Thread Cert.KernelAdamMod.nD Cert.KernelAdamMod.τ).loc Cert.KernelAdamMod.main_arg2) = m ((c.tc : Thread Cert.KernelAdamMod.nD Cert.KernelAdamMod.τ).loc Cert.KernelAdamMod.main_arg2)
      ∧ r.2.mem ((c.tc : Thread Cert.KernelAdamMod.nD Cert.KernelAdamMod.τ).loc Cert.KernelAdamMod.main_arg3) = m ((c.tc : Thread Cert.KernelAdamMod.nD Cert.KernelAdamMod.τ).loc Cert.KernelAdamMod.main_arg3))
      ∧ r.2.sem = fun _ => 0)

def quiescent_KernelAdamModIdeal [hKernelAdamModIdeal : Cert.KernelAdamModIdeal.Facts] : Prop :=
  ∀ (m : (ℓ : Loc Cert.KernelAdamModIdeal.nD Cert.KernelAdamModIdeal.τ Cert.KernelAdamModIdeal.sig) → Buf (Elt Ideal) ℓ) (g : Dev Cert.KernelAdamModIdeal.nD → PrngReg), Pre_KernelAdamModIdeal m →
    θ_run (Cert.KernelAdamModIdeal.defs (F := Ideal)) (onTc (τ := Cert.KernelAdamModIdeal.τ) (Cert.KernelAdamModIdeal.main (F := Ideal))) ⟨m, fun _ => 0, g⟩ (fun r => (∀ c : Dev Cert.KernelAdamModIdeal.nD,
      r.2.mem ((c.tc : Thread Cert.KernelAdamModIdeal.nD Cert.KernelAdamModIdeal.τ).loc Cert.KernelAdamModIdeal.main_arg0) = m ((c.tc : Thread Cert.KernelAdamModIdeal.nD Cert.KernelAdamModIdeal.τ).loc Cert.KernelAdamModIdeal.main_arg0)
      ∧ r.2.mem ((c.tc : Thread Cert.KernelAdamModIdeal.nD Cert.KernelAdamModIdeal.τ).loc Cert.KernelAdamModIdeal.main_arg1) = m ((c.tc : Thread Cert.KernelAdamModIdeal.nD Cert.KernelAdamModIdeal.τ).loc Cert.KernelAdamModIdeal.main_arg1)
      ∧ r.2.mem ((c.tc : Thread Cert.KernelAdamModIdeal.nD Cert.KernelAdamModIdeal.τ).loc Cert.KernelAdamModIdeal.main_arg2) = m ((c.tc : Thread Cert.KernelAdamModIdeal.nD Cert.KernelAdamModIdeal.τ).loc Cert.KernelAdamModIdeal.main_arg2)
      ∧ r.2.mem ((c.tc : Thread Cert.KernelAdamModIdeal.nD Cert.KernelAdamModIdeal.τ).loc Cert.KernelAdamModIdeal.main_arg3) = m ((c.tc : Thread Cert.KernelAdamModIdeal.nD Cert.KernelAdamModIdeal.τ).loc Cert.KernelAdamModIdeal.main_arg3))
      ∧ r.2.sem = fun _ => 0)

def quiescent_ReferenceAdamModIdeal [hReferenceAdamModIdeal : Cert.ReferenceAdamModIdeal.Facts] : Prop :=
  ∀ (m : (ℓ : Loc Cert.ReferenceAdamModIdeal.nD Cert.ReferenceAdamModIdeal.τ Cert.ReferenceAdamModIdeal.sig) → Buf (Elt Ideal) ℓ) (g : Dev Cert.ReferenceAdamModIdeal.nD → PrngReg), Pre_ReferenceAdamModIdeal m →
    θ_run (Cert.ReferenceAdamModIdeal.defs (F := Ideal)) (onTc (τ := Cert.ReferenceAdamModIdeal.τ) (Cert.ReferenceAdamModIdeal.main (F := Ideal))) ⟨m, fun _ => 0, g⟩ (fun r => (∀ c : Dev Cert.ReferenceAdamModIdeal.nD,
      r.2.mem ((c.tc : Thread Cert.ReferenceAdamModIdeal.nD Cert.ReferenceAdamModIdeal.τ).loc Cert.ReferenceAdamModIdeal.main_arg0) = m ((c.tc : Thread Cert.ReferenceAdamModIdeal.nD Cert.ReferenceAdamModIdeal.τ).loc Cert.ReferenceAdamModIdeal.main_arg0)
      ∧ r.2.mem ((c.tc : Thread Cert.ReferenceAdamModIdeal.nD Cert.ReferenceAdamModIdeal.τ).loc Cert.ReferenceAdamModIdeal.main_arg1) = m ((c.tc : Thread Cert.ReferenceAdamModIdeal.nD Cert.ReferenceAdamModIdeal.τ).loc Cert.ReferenceAdamModIdeal.main_arg1)
      ∧ r.2.mem ((c.tc : Thread Cert.ReferenceAdamModIdeal.nD Cert.ReferenceAdamModIdeal.τ).loc Cert.ReferenceAdamModIdeal.main_arg2) = m ((c.tc : Thread Cert.ReferenceAdamModIdeal.nD Cert.ReferenceAdamModIdeal.τ).loc Cert.ReferenceAdamModIdeal.main_arg2)
      ∧ r.2.mem ((c.tc : Thread Cert.ReferenceAdamModIdeal.nD Cert.ReferenceAdamModIdeal.τ).loc Cert.ReferenceAdamModIdeal.main_arg3) = m ((c.tc : Thread Cert.ReferenceAdamModIdeal.nD Cert.ReferenceAdamModIdeal.τ).loc Cert.ReferenceAdamModIdeal.main_arg3))
      ∧ r.2.sem = fun _ => 0)

def quiescent_KernelAdamRest [hKernelAdamRest : Cert.KernelAdamRest.Facts] : Prop :=
  ∀ (m : (ℓ : Loc Cert.KernelAdamRest.nD Cert.KernelAdamRest.τ Cert.KernelAdamRest.sig) → Buf (Elt Bits) ℓ) (g : Dev Cert.KernelAdamRest.nD → PrngReg), Pre_KernelAdamRest m →
    θ_run (Cert.KernelAdamRest.defs (F := Bits)) (onTc (τ := Cert.KernelAdamRest.τ) (Cert.KernelAdamRest.main (F := Bits))) ⟨m, fun _ => 0, g⟩ (fun r => (∀ c : Dev Cert.KernelAdamRest.nD,
      r.2.mem ((c.tc : Thread Cert.KernelAdamRest.nD Cert.KernelAdamRest.τ).loc Cert.KernelAdamRest.main_arg0) = m ((c.tc : Thread Cert.KernelAdamRest.nD Cert.KernelAdamRest.τ).loc Cert.KernelAdamRest.main_arg0)
      ∧ r.2.mem ((c.tc : Thread Cert.KernelAdamRest.nD Cert.KernelAdamRest.τ).loc Cert.KernelAdamRest.main_arg1) = m ((c.tc : Thread Cert.KernelAdamRest.nD Cert.KernelAdamRest.τ).loc Cert.KernelAdamRest.main_arg1)
      ∧ r.2.mem ((c.tc : Thread Cert.KernelAdamRest.nD Cert.KernelAdamRest.τ).loc Cert.KernelAdamRest.main_arg2) = m ((c.tc : Thread Cert.KernelAdamRest.nD Cert.KernelAdamRest.τ).loc Cert.KernelAdamRest.main_arg2)
      ∧ r.2.mem ((c.tc : Thread Cert.KernelAdamRest.nD Cert.KernelAdamRest.τ).loc Cert.KernelAdamRest.main_arg3) = m ((c.tc : Thread Cert.KernelAdamRest.nD Cert.KernelAdamRest.τ).loc Cert.KernelAdamRest.main_arg3))
      ∧ r.2.sem = fun _ => 0)

def quiescent_KernelAdamRestIdeal [hKernelAdamRestIdeal : Cert.KernelAdamRestIdeal.Facts] : Prop :=
  ∀ (m : (ℓ : Loc Cert.KernelAdamRestIdeal.nD Cert.KernelAdamRestIdeal.τ Cert.KernelAdamRestIdeal.sig) → Buf (Elt Ideal) ℓ) (g : Dev Cert.KernelAdamRestIdeal.nD → PrngReg), Pre_KernelAdamRestIdeal m →
    θ_run (Cert.KernelAdamRestIdeal.defs (F := Ideal)) (onTc (τ := Cert.KernelAdamRestIdeal.τ) (Cert.KernelAdamRestIdeal.main (F := Ideal))) ⟨m, fun _ => 0, g⟩ (fun r => (∀ c : Dev Cert.KernelAdamRestIdeal.nD,
      r.2.mem ((c.tc : Thread Cert.KernelAdamRestIdeal.nD Cert.KernelAdamRestIdeal.τ).loc Cert.KernelAdamRestIdeal.main_arg0) = m ((c.tc : Thread Cert.KernelAdamRestIdeal.nD Cert.KernelAdamRestIdeal.τ).loc Cert.KernelAdamRestIdeal.main_arg0)
      ∧ r.2.mem ((c.tc : Thread Cert.KernelAdamRestIdeal.nD Cert.KernelAdamRestIdeal.τ).loc Cert.KernelAdamRestIdeal.main_arg1) = m ((c.tc : Thread Cert.KernelAdamRestIdeal.nD Cert.KernelAdamRestIdeal.τ).loc Cert.KernelAdamRestIdeal.main_arg1)
      ∧ r.2.mem ((c.tc : Thread Cert.KernelAdamRestIdeal.nD Cert.KernelAdamRestIdeal.τ).loc Cert.KernelAdamRestIdeal.main_arg2) = m ((c.tc : Thread Cert.KernelAdamRestIdeal.nD Cert.KernelAdamRestIdeal.τ).loc Cert.KernelAdamRestIdeal.main_arg2)
      ∧ r.2.mem ((c.tc : Thread Cert.KernelAdamRestIdeal.nD Cert.KernelAdamRestIdeal.τ).loc Cert.KernelAdamRestIdeal.main_arg3) = m ((c.tc : Thread Cert.KernelAdamRestIdeal.nD Cert.KernelAdamRestIdeal.τ).loc Cert.KernelAdamRestIdeal.main_arg3))
      ∧ r.2.sem = fun _ => 0)

def quiescent_ReferenceAdamRestIdeal [hReferenceAdamRestIdeal : Cert.ReferenceAdamRestIdeal.Facts] : Prop :=
  ∀ (m : (ℓ : Loc Cert.ReferenceAdamRestIdeal.nD Cert.ReferenceAdamRestIdeal.τ Cert.ReferenceAdamRestIdeal.sig) → Buf (Elt Ideal) ℓ) (g : Dev Cert.ReferenceAdamRestIdeal.nD → PrngReg), Pre_ReferenceAdamRestIdeal m →
    θ_run (Cert.ReferenceAdamRestIdeal.defs (F := Ideal)) (onTc (τ := Cert.ReferenceAdamRestIdeal.τ) (Cert.ReferenceAdamRestIdeal.main (F := Ideal))) ⟨m, fun _ => 0, g⟩ (fun r => (∀ c : Dev Cert.ReferenceAdamRestIdeal.nD,
      r.2.mem ((c.tc : Thread Cert.ReferenceAdamRestIdeal.nD Cert.ReferenceAdamRestIdeal.τ).loc Cert.ReferenceAdamRestIdeal.main_arg0) = m ((c.tc : Thread Cert.ReferenceAdamRestIdeal.nD Cert.ReferenceAdamRestIdeal.τ).loc Cert.ReferenceAdamRestIdeal.main_arg0)
      ∧ r.2.mem ((c.tc : Thread Cert.ReferenceAdamRestIdeal.nD Cert.ReferenceAdamRestIdeal.τ).loc Cert.ReferenceAdamRestIdeal.main_arg1) = m ((c.tc : Thread Cert.ReferenceAdamRestIdeal.nD Cert.ReferenceAdamRestIdeal.τ).loc Cert.ReferenceAdamRestIdeal.main_arg1)
      ∧ r.2.mem ((c.tc : Thread Cert.ReferenceAdamRestIdeal.nD Cert.ReferenceAdamRestIdeal.τ).loc Cert.ReferenceAdamRestIdeal.main_arg2) = m ((c.tc : Thread Cert.ReferenceAdamRestIdeal.nD Cert.ReferenceAdamRestIdeal.τ).loc Cert.ReferenceAdamRestIdeal.main_arg2)
      ∧ r.2.mem ((c.tc : Thread Cert.ReferenceAdamRestIdeal.nD Cert.ReferenceAdamRestIdeal.τ).loc Cert.ReferenceAdamRestIdeal.main_arg3) = m ((c.tc : Thread Cert.ReferenceAdamRestIdeal.nD Cert.ReferenceAdamRestIdeal.τ).loc Cert.ReferenceAdamRestIdeal.main_arg3))
      ∧ r.2.sem = fun _ => 0)

def quiescent_KernelAdamIn [hKernelAdamIn : Cert.KernelAdamIn.Facts] : Prop :=
  ∀ (m : (ℓ : Loc Cert.KernelAdamIn.nD Cert.KernelAdamIn.τ Cert.KernelAdamIn.sig) → Buf (Elt Bits) ℓ) (g : Dev Cert.KernelAdamIn.nD → PrngReg), Pre_KernelAdamIn m →
    θ_run (Cert.KernelAdamIn.defs (F := Bits)) (onTc (τ := Cert.KernelAdamIn.τ) (Cert.KernelAdamIn.main (F := Bits))) ⟨m, fun _ => 0, g⟩ (fun r => (∀ c : Dev Cert.KernelAdamIn.nD,
      r.2.mem ((c.tc : Thread Cert.KernelAdamIn.nD Cert.KernelAdamIn.τ).loc Cert.KernelAdamIn.main_arg0) = m ((c.tc : Thread Cert.KernelAdamIn.nD Cert.KernelAdamIn.τ).loc Cert.KernelAdamIn.main_arg0)
      ∧ r.2.mem ((c.tc : Thread Cert.KernelAdamIn.nD Cert.KernelAdamIn.τ).loc Cert.KernelAdamIn.main_arg1) = m ((c.tc : Thread Cert.KernelAdamIn.nD Cert.KernelAdamIn.τ).loc Cert.KernelAdamIn.main_arg1)
      ∧ r.2.mem ((c.tc : Thread Cert.KernelAdamIn.nD Cert.KernelAdamIn.τ).loc Cert.KernelAdamIn.main_arg2) = m ((c.tc : Thread Cert.KernelAdamIn.nD Cert.KernelAdamIn.τ).loc Cert.KernelAdamIn.main_arg2)
      ∧ r.2.mem ((c.tc : Thread Cert.KernelAdamIn.nD Cert.KernelAdamIn.τ).loc Cert.KernelAdamIn.main_arg3) = m ((c.tc : Thread Cert.KernelAdamIn.nD Cert.KernelAdamIn.τ).loc Cert.KernelAdamIn.main_arg3)
      ∧ r.2.mem ((c.tc : Thread Cert.KernelAdamIn.nD Cert.KernelAdamIn.τ).loc Cert.KernelAdamIn.main_arg4) = m ((c.tc : Thread Cert.KernelAdamIn.nD Cert.KernelAdamIn.τ).loc Cert.KernelAdamIn.main_arg4)
      ∧ r.2.mem ((c.tc : Thread Cert.KernelAdamIn.nD Cert.KernelAdamIn.τ).loc Cert.KernelAdamIn.main_arg5) = m ((c.tc : Thread Cert.KernelAdamIn.nD Cert.KernelAdamIn.τ).loc Cert.KernelAdamIn.main_arg5))
      ∧ r.2.sem = fun _ => 0)

def quiescent_KernelAdamInIdeal [hKernelAdamInIdeal : Cert.KernelAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg), Pre_KernelAdamInIdeal m →
    θ_run (Cert.KernelAdamInIdeal.defs (F := Ideal)) (onTc (τ := Cert.KernelAdamInIdeal.τ) (Cert.KernelAdamInIdeal.main (F := Ideal))) ⟨m, fun _ => 0, g⟩ (fun r => (∀ c : Dev Cert.KernelAdamInIdeal.nD,
      r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
      ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
      ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
      ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3)
      ∧ r.2.mem ((c.tc : Thread Cert.KernelAdamInIdeal.nD Cert.KernelAdamInIdeal.τ).loc Cert.KernelAdamInIdeal.main_arg4) = m ((c.tc : Thread Cert.KernelAdamInIdeal.nD Cert.KernelAdamInIdeal.τ).loc Cert.KernelAdamInIdeal.main_arg4)
      ∧ r.2.mem ((c.tc : Thread Cert.KernelAdamInIdeal.nD Cert.KernelAdamInIdeal.τ).loc Cert.KernelAdamInIdeal.main_arg5) = m ((c.tc : Thread Cert.KernelAdamInIdeal.nD Cert.KernelAdamInIdeal.τ).loc Cert.KernelAdamInIdeal.main_arg5))
      ∧ r.2.sem = fun _ => 0)

def quiescent_ReferenceAdamInIdeal [hReferenceAdamInIdeal : Cert.ReferenceAdamInIdeal.Facts] : Prop :=
  ∀ (m : (ℓ : Loc Cert.ReferenceAdamInIdeal.nD Cert.ReferenceAdamInIdeal.τ Cert.ReferenceAdamInIdeal.sig) → Buf (Elt Ideal) ℓ) (g : Dev Cert.ReferenceAdamInIdeal.nD → PrngReg), Pre_ReferenceAdamInIdeal m →
    θ_run (Cert.ReferenceAdamInIdeal.defs (F := Ideal)) (onTc (τ := Cert.ReferenceAdamInIdeal.τ) (Cert.ReferenceAdamInIdeal.main (F := Ideal))) ⟨m, fun _ => 0, g⟩ (fun r => (∀ c : Dev Cert.ReferenceAdamInIdeal.nD,
      r.2.mem ((c.tc : Thread Cert.ReferenceAdamInIdeal.nD Cert.ReferenceAdamInIdeal.τ).loc Cert.ReferenceAdamInIdeal.main_arg0) = m ((c.tc : Thread Cert.ReferenceAdamInIdeal.nD Cert.ReferenceAdamInIdeal.τ).loc Cert.ReferenceAdamInIdeal.main_arg0)
      ∧ r.2.mem ((c.tc : Thread Cert.ReferenceAdamInIdeal.nD Cert.ReferenceAdamInIdeal.τ).loc Cert.ReferenceAdamInIdeal.main_arg1) = m ((c.tc : Thread Cert.ReferenceAdamInIdeal.nD Cert.ReferenceAdamInIdeal.τ).loc Cert.ReferenceAdamInIdeal.main_arg1)
      ∧ r.2.mem ((c.tc : Thread Cert.ReferenceAdamInIdeal.nD Cert.ReferenceAdamInIdeal.τ).loc Cert.ReferenceAdamInIdeal.main_arg2) = m ((c.tc : Thread Cert.ReferenceAdamInIdeal.nD Cert.ReferenceAdamInIdeal.τ).loc Cert.ReferenceAdamInIdeal.main_arg2)
      ∧ r.2.mem ((c.tc : Thread Cert.ReferenceAdamInIdeal.nD Cert.ReferenceAdamInIdeal.τ).loc Cert.ReferenceAdamInIdeal.main_arg3) = m ((c.tc : Thread Cert.ReferenceAdamInIdeal.nD Cert.ReferenceAdamInIdeal.τ).loc Cert.ReferenceAdamInIdeal.main_arg3)
      ∧ r.2.mem ((c.tc : Thread Cert.ReferenceAdamInIdeal.nD Cert.ReferenceAdamInIdeal.τ).loc Cert.ReferenceAdamInIdeal.main_arg4) = m ((c.tc : Thread Cert.ReferenceAdamInIdeal.nD Cert.ReferenceAdamInIdeal.τ).loc Cert.ReferenceAdamInIdeal.main_arg4)
      ∧ r.2.mem ((c.tc : Thread Cert.ReferenceAdamInIdeal.nD Cert.ReferenceAdamInIdeal.τ).loc Cert.ReferenceAdamInIdeal.main_arg5) = m ((c.tc : Thread Cert.ReferenceAdamInIdeal.nD Cert.ReferenceAdamInIdeal.τ).loc Cert.ReferenceAdamInIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)) (v2 : (c : Dev Cert.KernelIdeal.nD) → Buf (Elt Ideal) ((c.tc : Thread Cert.KernelIdeal.nD Cert.KernelIdeal.τ).loc Cert.KernelIdeal.main_v44_2)) (v3 : (c : Dev Cert.KernelIdeal.nD) → Buf (Elt Ideal) ((c.tc : Thread Cert.KernelIdeal.nD Cert.KernelIdeal.τ).loc Cert.KernelIdeal.main_v44_3)) (v4 : (c : Dev Cert.KernelIdeal.nD) → Buf (Elt Ideal) ((c.tc : Thread Cert.KernelIdeal.nD Cert.KernelIdeal.τ).loc Cert.KernelIdeal.main_v44_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_v44_2) = v2 c
          ∧ r.2.mem ((c.tc : Thread Cert.KernelIdeal.nD Cert.KernelIdeal.τ).loc Cert.KernelIdeal.main_v44_3) = v3 c
          ∧ r.2.mem ((c.tc : Thread Cert.KernelIdeal.nD Cert.KernelIdeal.τ).loc Cert.KernelIdeal.main_v44_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v337) = v0 c
          ∧ r.2.mem ((c.tc : Thread Cert.ReferenceIdeal.nD Cert.ReferenceIdeal.τ).loc Cert.ReferenceIdeal.main_v336) = v1 c
          ∧ r.2.mem ((c.tc : Thread Cert.ReferenceIdeal.nD Cert.ReferenceIdeal.τ).loc Cert.ReferenceIdeal.main_v335) = v2 c
          ∧ r.2.mem ((c.tc : Thread Cert.ReferenceIdeal.nD Cert.ReferenceIdeal.τ).loc Cert.ReferenceIdeal.main_v344) = v3 c
          ∧ r.2.mem ((c.tc : Thread Cert.ReferenceIdeal.nD Cert.ReferenceIdeal.τ).loc Cert.ReferenceIdeal.main_v347) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_KernelGwRest_KernelGwRestIdeal : Prop :=
  True

def algebraic_KernelGwRestIdeal_ReferenceGwRestIdeal [hKernelGwRestIdeal : Cert.KernelGwRestIdeal.Facts] [hReferenceGwRestIdeal : Cert.ReferenceGwRestIdeal.Facts] : Prop :=
  ∀ (m : (ℓ : Loc Cert.KernelGwRestIdeal.nD Cert.KernelGwRestIdeal.τ Cert.KernelGwRestIdeal.sig) → Buf (Elt Ideal) ℓ) (g : Dev Cert.KernelGwRestIdeal.nD → PrngReg)
    (m' : (ℓ : Loc Cert.ReferenceGwRestIdeal.nD Cert.ReferenceGwRestIdeal.τ Cert.ReferenceGwRestIdeal.sig) → Buf (Elt Ideal) ℓ) (g' : Dev Cert.ReferenceGwRestIdeal.nD → PrngReg), Pre_KernelGwRestIdeal m →
    (∀ c : Dev Cert.KernelGwRestIdeal.nD,
      m' ((c.tc : Thread Cert.ReferenceGwRestIdeal.nD Cert.ReferenceGwRestIdeal.τ).loc Cert.ReferenceGwRestIdeal.main_arg0) = m ((c.tc : Thread Cert.KernelGwRestIdeal.nD Cert.KernelGwRestIdeal.τ).loc Cert.KernelGwRestIdeal.main_arg0)
      ∧ m' ((c.tc : Thread Cert.ReferenceGwRestIdeal.nD Cert.ReferenceGwRestIdeal.τ).loc Cert.ReferenceGwRestIdeal.main_arg1) = m ((c.tc : Thread Cert.KernelGwRestIdeal.nD Cert.KernelGwRestIdeal.τ).loc Cert.KernelGwRestIdeal.main_arg1)) →
    ∃ (v0 : (c : Dev Cert.KernelGwRestIdeal.nD) → Buf (Elt Ideal) ((c.tc : Thread Cert.KernelGwRestIdeal.nD Cert.KernelGwRestIdeal.τ).loc Cert.KernelGwRestIdeal.main_v0)),
      θ_run (Cert.KernelGwRestIdeal.defs (F := Ideal)) (onTc (τ := Cert.KernelGwRestIdeal.τ) (Cert.KernelGwRestIdeal.main (F := Ideal))) ⟨m, fun _ => 0, g⟩ (fun r => ∀ c : Dev Cert.KernelGwRestIdeal.nD,
          r.2.mem ((c.tc : Thread Cert.KernelGwRestIdeal.nD Cert.KernelGwRestIdeal.τ).loc Cert.KernelGwRestIdeal.main_v0) = v0 c
          ∧ r.2.mem ((c.tc : Thread Cert.KernelGwRestIdeal.nD Cert.KernelGwRestIdeal.τ).loc Cert.KernelGwRestIdeal.main_arg0) = m ((c.tc : Thread Cert.KernelGwRestIdeal.nD Cert.KernelGwRestIdeal.τ).loc Cert.KernelGwRestIdeal.main_arg0)
          ∧ r.2.mem ((c.tc : Thread Cert.KernelGwRestIdeal.nD Cert.KernelGwRestIdeal.τ).loc Cert.KernelGwRestIdeal.main_arg1) = m ((c.tc : Thread Cert.KernelGwRestIdeal.nD Cert.KernelGwRestIdeal.τ).loc Cert.KernelGwRestIdeal.main_arg1))
      ∧ θ_run (Cert.ReferenceGwRestIdeal.defs (F := Ideal)) (onTc (τ := Cert.ReferenceGwRestIdeal.τ) (Cert.ReferenceGwRestIdeal.main (F := Ideal))) ⟨m', fun _ => 0, g'⟩ (fun r => ∀ c : Dev Cert.ReferenceGwRestIdeal.nD,
          r.2.mem ((c.tc : Thread Cert.ReferenceGwRestIdeal.nD Cert.ReferenceGwRestIdeal.τ).loc Cert.ReferenceGwRestIdeal.main_v5) = v0 c
          ∧ r.2.mem ((c.tc : Thread Cert.ReferenceGwRestIdeal.nD Cert.ReferenceGwRestIdeal.τ).loc Cert.ReferenceGwRestIdeal.main_arg0) = m' ((c.tc : Thread Cert.ReferenceGwRestIdeal.nD Cert.ReferenceGwRestIdeal.τ).loc Cert.ReferenceGwRestIdeal.main_arg0)
          ∧ r.2.mem ((c.tc : Thread Cert.ReferenceGwRestIdeal.nD Cert.ReferenceGwRestIdeal.τ).loc Cert.ReferenceGwRestIdeal.main_arg1) = m' ((c.tc : Thread Cert.ReferenceGwRestIdeal.nD Cert.ReferenceGwRestIdeal.τ).loc Cert.ReferenceGwRestIdeal.main_arg1))

def preserves_KernelGwSsd_KernelGwSsdIdeal : Prop :=
  True

def algebraic_KernelGwSsdIdeal_ReferenceGwSsdIdeal [hKernelGwSsdIdeal : Cert.KernelGwSsdIdeal.Facts] [hReferenceGwSsdIdeal : Cert.ReferenceGwSsdIdeal.Facts] : Prop :=
  ∀ (m : (ℓ : Loc Cert.KernelGwSsdIdeal.nD Cert.KernelGwSsdIdeal.τ Cert.KernelGwSsdIdeal.sig) → Buf (Elt Ideal) ℓ) (g : Dev Cert.KernelGwSsdIdeal.nD → PrngReg)
    (m' : (ℓ : Loc Cert.ReferenceGwSsdIdeal.nD Cert.ReferenceGwSsdIdeal.τ Cert.ReferenceGwSsdIdeal.sig) → Buf (Elt Ideal) ℓ) (g' : Dev Cert.ReferenceGwSsdIdeal.nD → PrngReg), Pre_KernelGwSsdIdeal m →
    (∀ c : Dev Cert.KernelGwSsdIdeal.nD,
      m' ((c.tc : Thread Cert.ReferenceGwSsdIdeal.nD Cert.ReferenceGwSsdIdeal.τ).loc Cert.ReferenceGwSsdIdeal.main_arg0) = m ((c.tc : Thread Cert.KernelGwSsdIdeal.nD Cert.KernelGwSsdIdeal.τ).loc Cert.KernelGwSsdIdeal.main_arg0)
      ∧ m' ((c.tc : Thread Cert.ReferenceGwSsdIdeal.nD Cert.ReferenceGwSsdIdeal.τ).loc Cert.ReferenceGwSsdIdeal.main_arg1) = m ((c.tc : Thread Cert.KernelGwSsdIdeal.nD Cert.KernelGwSsdIdeal.τ).loc Cert.KernelGwSsdIdeal.main_arg1)) →
    ∃ (v0 : (c : Dev Cert.KernelGwSsdIdeal.nD) → Buf (Elt Ideal) ((c.tc : Thread Cert.KernelGwSsdIdeal.nD Cert.KernelGwSsdIdeal.τ).loc Cert.KernelGwSsdIdeal.main_v0)),
      θ_run (Cert.KernelGwSsdIdeal.defs (F := Ideal)) (onTc (τ := Cert.KernelGwSsdIdeal.τ) (Cert.KernelGwSsdIdeal.main (F := Ideal))) ⟨m, fun _ => 0, g⟩ (fun r => ∀ c : Dev Cert.KernelGwSsdIdeal.nD,
          r.2.mem ((c.tc : Thread Cert.KernelGwSsdIdeal.nD Cert.KernelGwSsdIdeal.τ).loc Cert.KernelGwSsdIdeal.main_v0) = v0 c
          ∧ r.2.mem ((c.tc : Thread Cert.KernelGwSsdIdeal.nD Cert.KernelGwSsdIdeal.τ).loc Cert.KernelGwSsdIdeal.main_arg0) = m ((c.tc : Thread Cert.KernelGwSsdIdeal.nD Cert.KernelGwSsdIdeal.τ).loc Cert.KernelGwSsdIdeal.main_arg0)
          ∧ r.2.mem ((c.tc : Thread Cert.KernelGwSsdIdeal.nD Cert.KernelGwSsdIdeal.τ).loc Cert.KernelGwSsdIdeal.main_arg1) = m ((c.tc : Thread Cert.KernelGwSsdIdeal.nD Cert.KernelGwSsdIdeal.τ).loc Cert.KernelGwSsdIdeal.main_arg1))
      ∧ θ_run (Cert.ReferenceGwSsdIdeal.defs (F := Ideal)) (onTc (τ := Cert.ReferenceGwSsdIdeal.τ) (Cert.ReferenceGwSsdIdeal.main (F := Ideal))) ⟨m', fun _ => 0, g'⟩ (fun r => ∀ c : Dev Cert.ReferenceGwSsdIdeal.nD,
          r.2.mem ((c.tc : Thread Cert.ReferenceGwSsdIdeal.nD Cert.ReferenceGwSsdIdeal.τ).loc Cert.ReferenceGwSsdIdeal.main_v5) = v0 c
          ∧ r.2.mem ((c.tc : Thread Cert.ReferenceGwSsdIdeal.nD Cert.ReferenceGwSsdIdeal.τ).loc Cert.ReferenceGwSsdIdeal.main_arg0) = m' ((c.tc : Thread Cert.ReferenceGwSsdIdeal.nD Cert.ReferenceGwSsdIdeal.τ).loc Cert.ReferenceGwSsdIdeal.main_arg0)
          ∧ r.2.mem ((c.tc : Thread Cert.ReferenceGwSsdIdeal.nD Cert.ReferenceGwSsdIdeal.τ).loc Cert.ReferenceGwSsdIdeal.main_arg1) = m' ((c.tc : Thread Cert.ReferenceGwSsdIdeal.nD Cert.ReferenceGwSsdIdeal.τ).loc Cert.ReferenceGwSsdIdeal.main_arg1))

def preserves_KernelGwOs_KernelGwOsIdeal : Prop :=
  True

def algebraic_KernelGwOsIdeal_ReferenceGwOsIdeal [hKernelGwOsIdeal : Cert.KernelGwOsIdeal.Facts] [hReferenceGwOsIdeal : Cert.ReferenceGwOsIdeal.Facts] : Prop :=
  ∀ (m : (ℓ : Loc Cert.KernelGwOsIdeal.nD Cert.KernelGwOsIdeal.τ Cert.KernelGwOsIdeal.sig) → Buf (Elt Ideal) ℓ) (g : Dev Cert.KernelGwOsIdeal.nD → PrngReg)
    (m' : (ℓ : Loc Cert.ReferenceGwOsIdeal.nD Cert.ReferenceGwOsIdeal.τ Cert.ReferenceGwOsIdeal.sig) → Buf (Elt Ideal) ℓ) (g' : Dev Cert.ReferenceGwOsIdeal.nD → PrngReg), Pre_KernelGwOsIdeal m →
    (∀ c : Dev Cert.KernelGwOsIdeal.nD,
      m' ((c.tc : Thread Cert.ReferenceGwOsIdeal.nD Cert.ReferenceGwOsIdeal.τ).loc Cert.ReferenceGwOsIdeal.main_arg0) = m ((c.tc : Thread Cert.KernelGwOsIdeal.nD Cert.KernelGwOsIdeal.τ).loc Cert.KernelGwOsIdeal.main_arg0)
      ∧ m' ((c.tc : Thread Cert.ReferenceGwOsIdeal.nD Cert.ReferenceGwOsIdeal.τ).loc Cert.ReferenceGwOsIdeal.main_arg1) = m ((c.tc : Thread Cert.KernelGwOsIdeal.nD Cert.KernelGwOsIdeal.τ).loc Cert.KernelGwOsIdeal.main_arg1)) →
    ∃ (v0 : (c : Dev Cert.KernelGwOsIdeal.nD) → Buf (Elt Ideal) ((c.tc : Thread Cert.KernelGwOsIdeal.nD Cert.KernelGwOsIdeal.τ).loc Cert.KernelGwOsIdeal.main_v0)),
      θ_run (Cert.KernelGwOsIdeal.defs (F := Ideal)) (onTc (τ := Cert.KernelGwOsIdeal.τ) (Cert.KernelGwOsIdeal.main (F := Ideal))) ⟨m, fun _ => 0, g⟩ (fun r => ∀ c : Dev Cert.KernelGwOsIdeal.nD,
          r.2.mem ((c.tc : Thread Cert.KernelGwOsIdeal.nD Cert.KernelGwOsIdeal.τ).loc Cert.KernelGwOsIdeal.main_v0) = v0 c
          ∧ r.2.mem ((c.tc : Thread Cert.KernelGwOsIdeal.nD Cert.KernelGwOsIdeal.τ).loc Cert.KernelGwOsIdeal.main_arg0) = m ((c.tc : Thread Cert.KernelGwOsIdeal.nD Cert.KernelGwOsIdeal.τ).loc Cert.KernelGwOsIdeal.main_arg0)
          ∧ r.2.mem ((c.tc : Thread Cert.KernelGwOsIdeal.nD Cert.KernelGwOsIdeal.τ).loc Cert.KernelGwOsIdeal.main_arg1) = m ((c.tc : Thread Cert.KernelGwOsIdeal.nD Cert.KernelGwOsIdeal.τ).loc Cert.KernelGwOsIdeal.main_arg1))
      ∧ θ_run (Cert.ReferenceGwOsIdeal.defs (F := Ideal)) (onTc (τ := Cert.ReferenceGwOsIdeal.τ) (Cert.ReferenceGwOsIdeal.main (F := Ideal))) ⟨m', fun _ => 0, g'⟩ (fun r => ∀ c : Dev Cert.ReferenceGwOsIdeal.nD,
          r.2.mem ((c.tc : Thread Cert.ReferenceGwOsIdeal.nD Cert.ReferenceGwOsIdeal.τ).loc Cert.ReferenceGwOsIdeal.main_v5) = v0 c
          ∧ r.2.mem ((c.tc : Thread Cert.ReferenceGwOsIdeal.nD Cert.ReferenceGwOsIdeal.τ).loc Cert.ReferenceGwOsIdeal.main_arg0) = m' ((c.tc : Thread Cert.ReferenceGwOsIdeal.nD Cert.ReferenceGwOsIdeal.τ).loc Cert.ReferenceGwOsIdeal.main_arg0)
          ∧ r.2.mem ((c.tc : Thread Cert.ReferenceGwOsIdeal.nD Cert.ReferenceGwOsIdeal.τ).loc Cert.ReferenceGwOsIdeal.main_arg1) = m' ((c.tc : Thread Cert.ReferenceGwOsIdeal.nD Cert.ReferenceGwOsIdeal.τ).loc Cert.ReferenceGwOsIdeal.main_arg1))

def preserves_KernelGwO_KernelGwOIdeal : Prop :=
  True

def algebraic_KernelGwOIdeal_ReferenceGwOIdeal [hKernelGwOIdeal : Cert.KernelGwOIdeal.Facts] [hReferenceGwOIdeal : Cert.ReferenceGwOIdeal.Facts] : Prop :=
  ∀ (m : (ℓ : Loc Cert.KernelGwOIdeal.nD Cert.KernelGwOIdeal.τ Cert.KernelGwOIdeal.sig) → Buf (Elt Ideal) ℓ) (g : Dev Cert.KernelGwOIdeal.nD → PrngReg)
    (m' : (ℓ : Loc Cert.ReferenceGwOIdeal.nD Cert.ReferenceGwOIdeal.τ Cert.ReferenceGwOIdeal.sig) → Buf (Elt Ideal) ℓ) (g' : Dev Cert.ReferenceGwOIdeal.nD → PrngReg), Pre_KernelGwOIdeal m →
    (∀ c : Dev Cert.KernelGwOIdeal.nD,
      m' ((c.tc : Thread Cert.ReferenceGwOIdeal.nD Cert.ReferenceGwOIdeal.τ).loc Cert.ReferenceGwOIdeal.main_arg0) = m ((c.tc : Thread Cert.KernelGwOIdeal.nD Cert.KernelGwOIdeal.τ).loc Cert.KernelGwOIdeal.main_arg0)
      ∧ m' ((c.tc : Thread Cert.ReferenceGwOIdeal.nD Cert.ReferenceGwOIdeal.τ).loc Cert.ReferenceGwOIdeal.main_arg1) = m ((c.tc : Thread Cert.KernelGwOIdeal.nD Cert.KernelGwOIdeal.τ).loc Cert.KernelGwOIdeal.main_arg1)) →
    ∃ (v0 : (c : Dev Cert.KernelGwOIdeal.nD) → Buf (Elt Ideal) ((c.tc : Thread Cert.KernelGwOIdeal.nD Cert.KernelGwOIdeal.τ).loc Cert.KernelGwOIdeal.main_v0)),
      θ_run (Cert.KernelGwOIdeal.defs (F := Ideal)) (onTc (τ := Cert.KernelGwOIdeal.τ) (Cert.KernelGwOIdeal.main (F := Ideal))) ⟨m, fun _ => 0, g⟩ (fun r => ∀ c : Dev Cert.KernelGwOIdeal.nD,
          r.2.mem ((c.tc : Thread Cert.KernelGwOIdeal.nD Cert.KernelGwOIdeal.τ).loc Cert.KernelGwOIdeal.main_v0) = v0 c
          ∧ r.2.mem ((c.tc : Thread Cert.KernelGwOIdeal.nD Cert.KernelGwOIdeal.τ).loc Cert.KernelGwOIdeal.main_arg0) = m ((c.tc : Thread Cert.KernelGwOIdeal.nD Cert.KernelGwOIdeal.τ).loc Cert.KernelGwOIdeal.main_arg0)
          ∧ r.2.mem ((c.tc : Thread Cert.KernelGwOIdeal.nD Cert.KernelGwOIdeal.τ).loc Cert.KernelGwOIdeal.main_arg1) = m ((c.tc : Thread Cert.KernelGwOIdeal.nD Cert.KernelGwOIdeal.τ).loc Cert.KernelGwOIdeal.main_arg1))
      ∧ θ_run (Cert.ReferenceGwOIdeal.defs (F := Ideal)) (onTc (τ := Cert.ReferenceGwOIdeal.τ) (Cert.ReferenceGwOIdeal.main (F := Ideal))) ⟨m', fun _ => 0, g'⟩ (fun r => ∀ c : Dev Cert.ReferenceGwOIdeal.nD,
          r.2.mem ((c.tc : Thread Cert.ReferenceGwOIdeal.nD Cert.ReferenceGwOIdeal.τ).loc Cert.ReferenceGwOIdeal.main_v5) = v0 c
          ∧ r.2.mem ((c.tc : Thread Cert.ReferenceGwOIdeal.nD Cert.ReferenceGwOIdeal.τ).loc Cert.ReferenceGwOIdeal.main_arg0) = m' ((c.tc : Thread Cert.ReferenceGwOIdeal.nD Cert.ReferenceGwOIdeal.τ).loc Cert.ReferenceGwOIdeal.main_arg0)
          ∧ r.2.mem ((c.tc : Thread Cert.ReferenceGwOIdeal.nD Cert.ReferenceGwOIdeal.τ).loc Cert.ReferenceGwOIdeal.main_arg1) = m' ((c.tc : Thread Cert.ReferenceGwOIdeal.nD Cert.ReferenceGwOIdeal.τ).loc Cert.ReferenceGwOIdeal.main_arg1))

def preserves_KernelDhRest_KernelDhRestIdeal : Prop :=
  True

def algebraic_KernelDhRestIdeal_ReferenceDhRestIdeal [hKernelDhRestIdeal : Cert.KernelDhRestIdeal.Facts] [hReferenceDhRestIdeal : Cert.ReferenceDhRestIdeal.Facts] : Prop :=
  ∀ (m : (ℓ : Loc Cert.KernelDhRestIdeal.nD Cert.KernelDhRestIdeal.τ Cert.KernelDhRestIdeal.sig) → Buf (Elt Ideal) ℓ) (g : Dev Cert.KernelDhRestIdeal.nD → PrngReg)
    (m' : (ℓ : Loc Cert.ReferenceDhRestIdeal.nD Cert.ReferenceDhRestIdeal.τ Cert.ReferenceDhRestIdeal.sig) → Buf (Elt Ideal) ℓ) (g' : Dev Cert.ReferenceDhRestIdeal.nD → PrngReg), Pre_KernelDhRestIdeal m →
    (∀ c : Dev Cert.KernelDhRestIdeal.nD,
      m' ((c.tc : Thread Cert.ReferenceDhRestIdeal.nD Cert.ReferenceDhRestIdeal.τ).loc Cert.ReferenceDhRestIdeal.main_arg0) = m ((c.tc : Thread Cert.KernelDhRestIdeal.nD Cert.KernelDhRestIdeal.τ).loc Cert.KernelDhRestIdeal.main_arg0)
      ∧ m' ((c.tc : Thread Cert.ReferenceDhRestIdeal.nD Cert.ReferenceDhRestIdeal.τ).loc Cert.ReferenceDhRestIdeal.main_arg1) = m ((c.tc : Thread Cert.KernelDhRestIdeal.nD Cert.KernelDhRestIdeal.τ).loc Cert.KernelDhRestIdeal.main_arg1)) →
    ∃ (v0 : (c : Dev Cert.KernelDhRestIdeal.nD) → Buf (Elt Ideal) ((c.tc : Thread Cert.KernelDhRestIdeal.nD Cert.KernelDhRestIdeal.τ).loc Cert.KernelDhRestIdeal.main_v0)),
      θ_run (Cert.KernelDhRestIdeal.defs (F := Ideal)) (onTc (τ := Cert.KernelDhRestIdeal.τ) (Cert.KernelDhRestIdeal.main (F := Ideal))) ⟨m, fun _ => 0, g⟩ (fun r => ∀ c : Dev Cert.KernelDhRestIdeal.nD,
          r.2.mem ((c.tc : Thread Cert.KernelDhRestIdeal.nD Cert.KernelDhRestIdeal.τ).loc Cert.KernelDhRestIdeal.main_v0) = v0 c
          ∧ r.2.mem ((c.tc : Thread Cert.KernelDhRestIdeal.nD Cert.KernelDhRestIdeal.τ).loc Cert.KernelDhRestIdeal.main_arg0) = m ((c.tc : Thread Cert.KernelDhRestIdeal.nD Cert.KernelDhRestIdeal.τ).loc Cert.KernelDhRestIdeal.main_arg0)
          ∧ r.2.mem ((c.tc : Thread Cert.KernelDhRestIdeal.nD Cert.KernelDhRestIdeal.τ).loc Cert.KernelDhRestIdeal.main_arg1) = m ((c.tc : Thread Cert.KernelDhRestIdeal.nD Cert.KernelDhRestIdeal.τ).loc Cert.KernelDhRestIdeal.main_arg1))
      ∧ θ_run (Cert.ReferenceDhRestIdeal.defs (F := Ideal)) (onTc (τ := Cert.ReferenceDhRestIdeal.τ) (Cert.ReferenceDhRestIdeal.main (F := Ideal))) ⟨m', fun _ => 0, g'⟩ (fun r => ∀ c : Dev Cert.ReferenceDhRestIdeal.nD,
          r.2.mem ((c.tc : Thread Cert.ReferenceDhRestIdeal.nD Cert.ReferenceDhRestIdeal.τ).loc Cert.ReferenceDhRestIdeal.main_v5) = v0 c
          ∧ r.2.mem ((c.tc : Thread Cert.ReferenceDhRestIdeal.nD Cert.ReferenceDhRestIdeal.τ).loc Cert.ReferenceDhRestIdeal.main_arg0) = m' ((c.tc : Thread Cert.ReferenceDhRestIdeal.nD Cert.ReferenceDhRestIdeal.τ).loc Cert.ReferenceDhRestIdeal.main_arg0)
          ∧ r.2.mem ((c.tc : Thread Cert.ReferenceDhRestIdeal.nD Cert.ReferenceDhRestIdeal.τ).loc Cert.ReferenceDhRestIdeal.main_arg1) = m' ((c.tc : Thread Cert.ReferenceDhRestIdeal.nD Cert.ReferenceDhRestIdeal.τ).loc Cert.ReferenceDhRestIdeal.main_arg1))

def preserves_KernelDhSsd_KernelDhSsdIdeal : Prop :=
  True

def algebraic_KernelDhSsdIdeal_ReferenceDhSsdIdeal [hKernelDhSsdIdeal : Cert.KernelDhSsdIdeal.Facts] [hReferenceDhSsdIdeal : Cert.ReferenceDhSsdIdeal.Facts] : Prop :=
  ∀ (m : (ℓ : Loc Cert.KernelDhSsdIdeal.nD Cert.KernelDhSsdIdeal.τ Cert.KernelDhSsdIdeal.sig) → Buf (Elt Ideal) ℓ) (g : Dev Cert.KernelDhSsdIdeal.nD → PrngReg)
    (m' : (ℓ : Loc Cert.ReferenceDhSsdIdeal.nD Cert.ReferenceDhSsdIdeal.τ Cert.ReferenceDhSsdIdeal.sig) → Buf (Elt Ideal) ℓ) (g' : Dev Cert.ReferenceDhSsdIdeal.nD → PrngReg), Pre_KernelDhSsdIdeal m →
    (∀ c : Dev Cert.KernelDhSsdIdeal.nD,
      m' ((c.tc : Thread Cert.ReferenceDhSsdIdeal.nD Cert.ReferenceDhSsdIdeal.τ).loc Cert.ReferenceDhSsdIdeal.main_arg0) = m ((c.tc : Thread Cert.KernelDhSsdIdeal.nD Cert.KernelDhSsdIdeal.τ).loc Cert.KernelDhSsdIdeal.main_arg0)
      ∧ m' ((c.tc : Thread Cert.ReferenceDhSsdIdeal.nD Cert.ReferenceDhSsdIdeal.τ).loc Cert.ReferenceDhSsdIdeal.main_arg1) = m ((c.tc : Thread Cert.KernelDhSsdIdeal.nD Cert.KernelDhSsdIdeal.τ).loc Cert.KernelDhSsdIdeal.main_arg1)) →
    ∃ (v0 : (c : Dev Cert.KernelDhSsdIdeal.nD) → Buf (Elt Ideal) ((c.tc : Thread Cert.KernelDhSsdIdeal.nD Cert.KernelDhSsdIdeal.τ).loc Cert.KernelDhSsdIdeal.main_v0)),
      θ_run (Cert.KernelDhSsdIdeal.defs (F := Ideal)) (onTc (τ := Cert.KernelDhSsdIdeal.τ) (Cert.KernelDhSsdIdeal.main (F := Ideal))) ⟨m, fun _ => 0, g⟩ (fun r => ∀ c : Dev Cert.KernelDhSsdIdeal.nD,
          r.2.mem ((c.tc : Thread Cert.KernelDhSsdIdeal.nD Cert.KernelDhSsdIdeal.τ).loc Cert.KernelDhSsdIdeal.main_v0) = v0 c
          ∧ r.2.mem ((c.tc : Thread Cert.KernelDhSsdIdeal.nD Cert.KernelDhSsdIdeal.τ).loc Cert.KernelDhSsdIdeal.main_arg0) = m ((c.tc : Thread Cert.KernelDhSsdIdeal.nD Cert.KernelDhSsdIdeal.τ).loc Cert.KernelDhSsdIdeal.main_arg0)
          ∧ r.2.mem ((c.tc : Thread Cert.KernelDhSsdIdeal.nD Cert.KernelDhSsdIdeal.τ).loc Cert.KernelDhSsdIdeal.main_arg1) = m ((c.tc : Thread Cert.KernelDhSsdIdeal.nD Cert.KernelDhSsdIdeal.τ).loc Cert.KernelDhSsdIdeal.main_arg1))
      ∧ θ_run (Cert.ReferenceDhSsdIdeal.defs (F := Ideal)) (onTc (τ := Cert.ReferenceDhSsdIdeal.τ) (Cert.ReferenceDhSsdIdeal.main (F := Ideal))) ⟨m', fun _ => 0, g'⟩ (fun r => ∀ c : Dev Cert.ReferenceDhSsdIdeal.nD,
          r.2.mem ((c.tc : Thread Cert.ReferenceDhSsdIdeal.nD Cert.ReferenceDhSsdIdeal.τ).loc Cert.ReferenceDhSsdIdeal.main_v5) = v0 c
          ∧ r.2.mem ((c.tc : Thread Cert.ReferenceDhSsdIdeal.nD Cert.ReferenceDhSsdIdeal.τ).loc Cert.ReferenceDhSsdIdeal.main_arg0) = m' ((c.tc : Thread Cert.ReferenceDhSsdIdeal.nD Cert.ReferenceDhSsdIdeal.τ).loc Cert.ReferenceDhSsdIdeal.main_arg0)
          ∧ r.2.mem ((c.tc : Thread Cert.ReferenceDhSsdIdeal.nD Cert.ReferenceDhSsdIdeal.τ).loc Cert.ReferenceDhSsdIdeal.main_arg1) = m' ((c.tc : Thread Cert.ReferenceDhSsdIdeal.nD Cert.ReferenceDhSsdIdeal.τ).loc Cert.ReferenceDhSsdIdeal.main_arg1))

def preserves_KernelDgn_KernelDgnIdeal : Prop :=
  True

def algebraic_KernelDgnIdeal_ReferenceDgnIdeal [hKernelDgnIdeal : Cert.KernelDgnIdeal.Facts] [hReferenceDgnIdeal : Cert.ReferenceDgnIdeal.Facts] : Prop :=
  ∀ (m : (ℓ : Loc Cert.KernelDgnIdeal.nD Cert.KernelDgnIdeal.τ Cert.KernelDgnIdeal.sig) → Buf (Elt Ideal) ℓ) (g : Dev Cert.KernelDgnIdeal.nD → PrngReg)
    (m' : (ℓ : Loc Cert.ReferenceDgnIdeal.nD Cert.ReferenceDgnIdeal.τ Cert.ReferenceDgnIdeal.sig) → Buf (Elt Ideal) ℓ) (g' : Dev Cert.ReferenceDgnIdeal.nD → PrngReg), Pre_KernelDgnIdeal m →
    (∀ c : Dev Cert.KernelDgnIdeal.nD,
      m' ((c.tc : Thread Cert.ReferenceDgnIdeal.nD Cert.ReferenceDgnIdeal.τ).loc Cert.ReferenceDgnIdeal.main_arg0) = m ((c.tc : Thread Cert.KernelDgnIdeal.nD Cert.KernelDgnIdeal.τ).loc Cert.KernelDgnIdeal.main_arg0)
      ∧ m' ((c.tc : Thread Cert.ReferenceDgnIdeal.nD Cert.ReferenceDgnIdeal.τ).loc Cert.ReferenceDgnIdeal.main_arg1) = m ((c.tc : Thread Cert.KernelDgnIdeal.nD Cert.KernelDgnIdeal.τ).loc Cert.KernelDgnIdeal.main_arg1)) →
    ∃ (v0 : (c : Dev Cert.KernelDgnIdeal.nD) → Buf (Elt Ideal) ((c.tc : Thread Cert.KernelDgnIdeal.nD Cert.KernelDgnIdeal.τ).loc Cert.KernelDgnIdeal.main_v0)),
      θ_run (Cert.KernelDgnIdeal.defs (F := Ideal)) (onTc (τ := Cert.KernelDgnIdeal.τ) (Cert.KernelDgnIdeal.main (F := Ideal))) ⟨m, fun _ => 0, g⟩ (fun r => ∀ c : Dev Cert.KernelDgnIdeal.nD,
          r.2.mem ((c.tc : Thread Cert.KernelDgnIdeal.nD Cert.KernelDgnIdeal.τ).loc Cert.KernelDgnIdeal.main_v0) = v0 c
          ∧ r.2.mem ((c.tc : Thread Cert.KernelDgnIdeal.nD Cert.KernelDgnIdeal.τ).loc Cert.KernelDgnIdeal.main_arg0) = m ((c.tc : Thread Cert.KernelDgnIdeal.nD Cert.KernelDgnIdeal.τ).loc Cert.KernelDgnIdeal.main_arg0)
          ∧ r.2.mem ((c.tc : Thread Cert.KernelDgnIdeal.nD Cert.KernelDgnIdeal.τ).loc Cert.KernelDgnIdeal.main_arg1) = m ((c.tc : Thread Cert.KernelDgnIdeal.nD Cert.KernelDgnIdeal.τ).loc Cert.KernelDgnIdeal.main_arg1))
      ∧ θ_run (Cert.ReferenceDgnIdeal.defs (F := Ideal)) (onTc (τ := Cert.ReferenceDgnIdeal.τ) (Cert.ReferenceDgnIdeal.main (F := Ideal))) ⟨m', fun _ => 0, g'⟩ (fun r => ∀ c : Dev Cert.ReferenceDgnIdeal.nD,
          r.2.mem ((c.tc : Thread Cert.ReferenceDgnIdeal.nD Cert.ReferenceDgnIdeal.τ).loc Cert.ReferenceDgnIdeal.main_v5) = v0 c
          ∧ r.2.mem ((c.tc : Thread Cert.ReferenceDgnIdeal.nD Cert.ReferenceDgnIdeal.τ).loc Cert.ReferenceDgnIdeal.main_arg0) = m' ((c.tc : Thread Cert.ReferenceDgnIdeal.nD Cert.ReferenceDgnIdeal.τ).loc Cert.ReferenceDgnIdeal.main_arg0)
          ∧ r.2.mem ((c.tc : Thread Cert.ReferenceDgnIdeal.nD Cert.ReferenceDgnIdeal.τ).loc Cert.ReferenceDgnIdeal.main_arg1) = m' ((c.tc : Thread Cert.ReferenceDgnIdeal.nD Cert.ReferenceDgnIdeal.τ).loc Cert.ReferenceDgnIdeal.main_arg1))

def preserves_KernelDmerged_KernelDmergedIdeal : Prop :=
  True

def algebraic_KernelDmergedIdeal_ReferenceDmergedIdeal [hKernelDmergedIdeal : Cert.KernelDmergedIdeal.Facts] [hReferenceDmergedIdeal : Cert.ReferenceDmergedIdeal.Facts] : Prop :=
  ∀ (m : (ℓ : Loc Cert.KernelDmergedIdeal.nD Cert.KernelDmergedIdeal.τ Cert.KernelDmergedIdeal.sig) → Buf (Elt Ideal) ℓ) (g : Dev Cert.KernelDmergedIdeal.nD → PrngReg)
    (m' : (ℓ : Loc Cert.ReferenceDmergedIdeal.nD Cert.ReferenceDmergedIdeal.τ Cert.ReferenceDmergedIdeal.sig) → Buf (Elt Ideal) ℓ) (g' : Dev Cert.ReferenceDmergedIdeal.nD → PrngReg), Pre_KernelDmergedIdeal m →
    (∀ c : Dev Cert.KernelDmergedIdeal.nD,
      m' ((c.tc : Thread Cert.ReferenceDmergedIdeal.nD Cert.ReferenceDmergedIdeal.τ).loc Cert.ReferenceDmergedIdeal.main_arg0) = m ((c.tc : Thread Cert.KernelDmergedIdeal.nD Cert.KernelDmergedIdeal.τ).loc Cert.KernelDmergedIdeal.main_arg0)
      ∧ m' ((c.tc : Thread Cert.ReferenceDmergedIdeal.nD Cert.ReferenceDmergedIdeal.τ).loc Cert.ReferenceDmergedIdeal.main_arg1) = m ((c.tc : Thread Cert.KernelDmergedIdeal.nD Cert.KernelDmergedIdeal.τ).loc Cert.KernelDmergedIdeal.main_arg1)) →
    ∃ (v0 : (c : Dev Cert.KernelDmergedIdeal.nD) → Buf (Elt Ideal) ((c.tc : Thread Cert.KernelDmergedIdeal.nD Cert.KernelDmergedIdeal.τ).loc Cert.KernelDmergedIdeal.main_v0)),
      θ_run (Cert.KernelDmergedIdeal.defs (F := Ideal)) (onTc (τ := Cert.KernelDmergedIdeal.τ) (Cert.KernelDmergedIdeal.main (F := Ideal))) ⟨m, fun _ => 0, g⟩ (fun r => ∀ c : Dev Cert.KernelDmergedIdeal.nD,
          r.2.mem ((c.tc : Thread Cert.KernelDmergedIdeal.nD Cert.KernelDmergedIdeal.τ).loc Cert.KernelDmergedIdeal.main_v0) = v0 c
          ∧ r.2.mem ((c.tc : Thread Cert.KernelDmergedIdeal.nD Cert.KernelDmergedIdeal.τ).loc Cert.KernelDmergedIdeal.main_arg0) = m ((c.tc : Thread Cert.KernelDmergedIdeal.nD Cert.KernelDmergedIdeal.τ).loc Cert.KernelDmergedIdeal.main_arg0)
          ∧ r.2.mem ((c.tc : Thread Cert.KernelDmergedIdeal.nD Cert.KernelDmergedIdeal.τ).loc Cert.KernelDmergedIdeal.main_arg1) = m ((c.tc : Thread Cert.KernelDmergedIdeal.nD Cert.KernelDmergedIdeal.τ).loc Cert.KernelDmergedIdeal.main_arg1))
      ∧ θ_run (Cert.ReferenceDmergedIdeal.defs (F := Ideal)) (onTc (τ := Cert.ReferenceDmergedIdeal.τ) (Cert.ReferenceDmergedIdeal.main (F := Ideal))) ⟨m', fun _ => 0, g'⟩ (fun r => ∀ c : Dev Cert.ReferenceDmergedIdeal.nD,
          r.2.mem ((c.tc : Thread Cert.ReferenceDmergedIdeal.nD Cert.ReferenceDmergedIdeal.τ).loc Cert.ReferenceDmergedIdeal.main_v5) = v0 c
          ∧ r.2.mem ((c.tc : Thread Cert.ReferenceDmergedIdeal.nD Cert.ReferenceDmergedIdeal.τ).loc Cert.ReferenceDmergedIdeal.main_arg0) = m' ((c.tc : Thread Cert.ReferenceDmergedIdeal.nD Cert.ReferenceDmergedIdeal.τ).loc Cert.ReferenceDmergedIdeal.main_arg0)
          ∧ r.2.mem ((c.tc : Thread Cert.ReferenceDmergedIdeal.nD Cert.ReferenceDmergedIdeal.τ).loc Cert.ReferenceDmergedIdeal.main_arg1) = m' ((c.tc : Thread Cert.ReferenceDmergedIdeal.nD Cert.ReferenceDmergedIdeal.τ).loc Cert.ReferenceDmergedIdeal.main_arg1))

def preserves_KernelProjRest_KernelProjRestIdeal : Prop :=
  True

def algebraic_KernelProjRestIdeal_ReferenceProjRestIdeal [hKernelProjRestIdeal : Cert.KernelProjRestIdeal.Facts] [hReferenceProjRestIdeal : Cert.ReferenceProjRestIdeal.Facts] : Prop :=
  ∀ (m : (ℓ : Loc Cert.KernelProjRestIdeal.nD Cert.KernelProjRestIdeal.τ Cert.KernelProjRestIdeal.sig) → Buf (Elt Ideal) ℓ) (g : Dev Cert.KernelProjRestIdeal.nD → PrngReg)
    (m' : (ℓ : Loc Cert.ReferenceProjRestIdeal.nD Cert.ReferenceProjRestIdeal.τ Cert.ReferenceProjRestIdeal.sig) → Buf (Elt Ideal) ℓ) (g' : Dev Cert.ReferenceProjRestIdeal.nD → PrngReg), Pre_KernelProjRestIdeal m →
    (∀ c : Dev Cert.KernelProjRestIdeal.nD,
      m' ((c.tc : Thread Cert.ReferenceProjRestIdeal.nD Cert.ReferenceProjRestIdeal.τ).loc Cert.ReferenceProjRestIdeal.main_arg0) = m ((c.tc : Thread Cert.KernelProjRestIdeal.nD Cert.KernelProjRestIdeal.τ).loc Cert.KernelProjRestIdeal.main_arg0)
      ∧ m' ((c.tc : Thread Cert.ReferenceProjRestIdeal.nD Cert.ReferenceProjRestIdeal.τ).loc Cert.ReferenceProjRestIdeal.main_arg1) = m ((c.tc : Thread Cert.KernelProjRestIdeal.nD Cert.KernelProjRestIdeal.τ).loc Cert.KernelProjRestIdeal.main_arg1)) →
    ∃ (v0 : (c : Dev Cert.KernelProjRestIdeal.nD) → Buf (Elt Ideal) ((c.tc : Thread Cert.KernelProjRestIdeal.nD Cert.KernelProjRestIdeal.τ).loc Cert.KernelProjRestIdeal.main_v0)),
      θ_run (Cert.KernelProjRestIdeal.defs (F := Ideal)) (onTc (τ := Cert.KernelProjRestIdeal.τ) (Cert.KernelProjRestIdeal.main (F := Ideal))) ⟨m, fun _ => 0, g⟩ (fun r => ∀ c : Dev Cert.KernelProjRestIdeal.nD,
          r.2.mem ((c.tc : Thread Cert.KernelProjRestIdeal.nD Cert.KernelProjRestIdeal.τ).loc Cert.KernelProjRestIdeal.main_v0) = v0 c
          ∧ r.2.mem ((c.tc : Thread Cert.KernelProjRestIdeal.nD Cert.KernelProjRestIdeal.τ).loc Cert.KernelProjRestIdeal.main_arg0) = m ((c.tc : Thread Cert.KernelProjRestIdeal.nD Cert.KernelProjRestIdeal.τ).loc Cert.KernelProjRestIdeal.main_arg0)
          ∧ r.2.mem ((c.tc : Thread Cert.KernelProjRestIdeal.nD Cert.KernelProjRestIdeal.τ).loc Cert.KernelProjRestIdeal.main_arg1) = m ((c.tc : Thread Cert.KernelProjRestIdeal.nD Cert.KernelProjRestIdeal.τ).loc Cert.KernelProjRestIdeal.main_arg1))
      ∧ θ_run (Cert.ReferenceProjRestIdeal.defs (F := Ideal)) (onTc (τ := Cert.ReferenceProjRestIdeal.τ) (Cert.ReferenceProjRestIdeal.main (F := Ideal))) ⟨m', fun _ => 0, g'⟩ (fun r => ∀ c : Dev Cert.ReferenceProjRestIdeal.nD,
          r.2.mem ((c.tc : Thread Cert.ReferenceProjRestIdeal.nD Cert.ReferenceProjRestIdeal.τ).loc Cert.ReferenceProjRestIdeal.main_v3) = v0 c
          ∧ r.2.mem ((c.tc : Thread Cert.ReferenceProjRestIdeal.nD Cert.ReferenceProjRestIdeal.τ).loc Cert.ReferenceProjRestIdeal.main_arg0) = m' ((c.tc : Thread Cert.ReferenceProjRestIdeal.nD Cert.ReferenceProjRestIdeal.τ).loc Cert.ReferenceProjRestIdeal.main_arg0)
          ∧ r.2.mem ((c.tc : Thread Cert.ReferenceProjRestIdeal.nD Cert.ReferenceProjRestIdeal.τ).loc Cert.ReferenceProjRestIdeal.main_arg1) = m' ((c.tc : Thread Cert.ReferenceProjRestIdeal.nD Cert.ReferenceProjRestIdeal.τ).loc Cert.ReferenceProjRestIdeal.main_arg1))

def preserves_KernelProjSsd_KernelProjSsdIdeal : Prop :=
  True

def algebraic_KernelProjSsdIdeal_ReferenceProjSsdIdeal [hKernelProjSsdIdeal : Cert.KernelProjSsdIdeal.Facts] [hReferenceProjSsdIdeal : Cert.ReferenceProjSsdIdeal.Facts] : Prop :=
  ∀ (m : (ℓ : Loc Cert.KernelProjSsdIdeal.nD Cert.KernelProjSsdIdeal.τ Cert.KernelProjSsdIdeal.sig) → Buf (Elt Ideal) ℓ) (g : Dev Cert.KernelProjSsdIdeal.nD → PrngReg)
    (m' : (ℓ : Loc Cert.ReferenceProjSsdIdeal.nD Cert.ReferenceProjSsdIdeal.τ Cert.ReferenceProjSsdIdeal.sig) → Buf (Elt Ideal) ℓ) (g' : Dev Cert.ReferenceProjSsdIdeal.nD → PrngReg), Pre_KernelProjSsdIdeal m →
    (∀ c : Dev Cert.KernelProjSsdIdeal.nD,
      m' ((c.tc : Thread Cert.ReferenceProjSsdIdeal.nD Cert.ReferenceProjSsdIdeal.τ).loc Cert.ReferenceProjSsdIdeal.main_arg0) = m ((c.tc : Thread Cert.KernelProjSsdIdeal.nD Cert.KernelProjSsdIdeal.τ).loc Cert.KernelProjSsdIdeal.main_arg0)
      ∧ m' ((c.tc : Thread Cert.ReferenceProjSsdIdeal.nD Cert.ReferenceProjSsdIdeal.τ).loc Cert.ReferenceProjSsdIdeal.main_arg1) = m ((c.tc : Thread Cert.KernelProjSsdIdeal.nD Cert.KernelProjSsdIdeal.τ).loc Cert.KernelProjSsdIdeal.main_arg1)) →
    ∃ (v0 : (c : Dev Cert.KernelProjSsdIdeal.nD) → Buf (Elt Ideal) ((c.tc : Thread Cert.KernelProjSsdIdeal.nD Cert.KernelProjSsdIdeal.τ).loc Cert.KernelProjSsdIdeal.main_v0)),
      θ_run (Cert.KernelProjSsdIdeal.defs (F := Ideal)) (onTc (τ := Cert.KernelProjSsdIdeal.τ) (Cert.KernelProjSsdIdeal.main (F := Ideal))) ⟨m, fun _ => 0, g⟩ (fun r => ∀ c : Dev Cert.KernelProjSsdIdeal.nD,
          r.2.mem ((c.tc : Thread Cert.KernelProjSsdIdeal.nD Cert.KernelProjSsdIdeal.τ).loc Cert.KernelProjSsdIdeal.main_v0) = v0 c
          ∧ r.2.mem ((c.tc : Thread Cert.KernelProjSsdIdeal.nD Cert.KernelProjSsdIdeal.τ).loc Cert.KernelProjSsdIdeal.main_arg0) = m ((c.tc : Thread Cert.KernelProjSsdIdeal.nD Cert.KernelProjSsdIdeal.τ).loc Cert.KernelProjSsdIdeal.main_arg0)
          ∧ r.2.mem ((c.tc : Thread Cert.KernelProjSsdIdeal.nD Cert.KernelProjSsdIdeal.τ).loc Cert.KernelProjSsdIdeal.main_arg1) = m ((c.tc : Thread Cert.KernelProjSsdIdeal.nD Cert.KernelProjSsdIdeal.τ).loc Cert.KernelProjSsdIdeal.main_arg1))
      ∧ θ_run (Cert.ReferenceProjSsdIdeal.defs (F := Ideal)) (onTc (τ := Cert.ReferenceProjSsdIdeal.τ) (Cert.ReferenceProjSsdIdeal.main (F := Ideal))) ⟨m', fun _ => 0, g'⟩ (fun r => ∀ c : Dev Cert.ReferenceProjSsdIdeal.nD,
          r.2.mem ((c.tc : Thread Cert.ReferenceProjSsdIdeal.nD Cert.ReferenceProjSsdIdeal.τ).loc Cert.ReferenceProjSsdIdeal.main_v2) = v0 c
          ∧ r.2.mem ((c.tc : Thread Cert.ReferenceProjSsdIdeal.nD Cert.ReferenceProjSsdIdeal.τ).loc Cert.ReferenceProjSsdIdeal.main_arg0) = m' ((c.tc : Thread Cert.ReferenceProjSsdIdeal.nD Cert.ReferenceProjSsdIdeal.τ).loc Cert.ReferenceProjSsdIdeal.main_arg0)
          ∧ r.2.mem ((c.tc : Thread Cert.ReferenceProjSsdIdeal.nD Cert.ReferenceProjSsdIdeal.τ).loc Cert.ReferenceProjSsdIdeal.main_arg1) = m' ((c.tc : Thread Cert.ReferenceProjSsdIdeal.nD Cert.ReferenceProjSsdIdeal.τ).loc Cert.ReferenceProjSsdIdeal.main_arg1))

def preserves_KernelOutSsm_KernelOutSsmIdeal : Prop :=
  True

def algebraic_KernelOutSsmIdeal_ReferenceOutSsmIdeal [hKernelOutSsmIdeal : Cert.KernelOutSsmIdeal.Facts] [hReferenceOutSsmIdeal : Cert.ReferenceOutSsmIdeal.Facts] : Prop :=
  ∀ (m : (ℓ : Loc Cert.KernelOutSsmIdeal.nD Cert.KernelOutSsmIdeal.τ Cert.KernelOutSsmIdeal.sig) → Buf (Elt Ideal) ℓ) (g : Dev Cert.KernelOutSsmIdeal.nD → PrngReg)
    (m' : (ℓ : Loc Cert.ReferenceOutSsmIdeal.nD Cert.ReferenceOutSsmIdeal.τ Cert.ReferenceOutSsmIdeal.sig) → Buf (Elt Ideal) ℓ) (g' : Dev Cert.ReferenceOutSsmIdeal.nD → PrngReg), Pre_KernelOutSsmIdeal m →
    (∀ c : Dev Cert.KernelOutSsmIdeal.nD,
      m' ((c.tc : Thread Cert.ReferenceOutSsmIdeal.nD Cert.ReferenceOutSsmIdeal.τ).loc Cert.ReferenceOutSsmIdeal.main_arg0) = m ((c.tc : Thread Cert.KernelOutSsmIdeal.nD Cert.KernelOutSsmIdeal.τ).loc Cert.KernelOutSsmIdeal.main_arg0)
      ∧ m' ((c.tc : Thread Cert.ReferenceOutSsmIdeal.nD Cert.ReferenceOutSsmIdeal.τ).loc Cert.ReferenceOutSsmIdeal.main_arg1) = m ((c.tc : Thread Cert.KernelOutSsmIdeal.nD Cert.KernelOutSsmIdeal.τ).loc Cert.KernelOutSsmIdeal.main_arg1)) →
    ∃ (v0 : (c : Dev Cert.KernelOutSsmIdeal.nD) → Buf (Elt Ideal) ((c.tc : Thread Cert.KernelOutSsmIdeal.nD Cert.KernelOutSsmIdeal.τ).loc Cert.KernelOutSsmIdeal.main_v0)),
      θ_run (Cert.KernelOutSsmIdeal.defs (F := Ideal)) (onTc (τ := Cert.KernelOutSsmIdeal.τ) (Cert.KernelOutSsmIdeal.main (F := Ideal))) ⟨m, fun _ => 0, g⟩ (fun r => ∀ c : Dev Cert.KernelOutSsmIdeal.nD,
          r.2.mem ((c.tc : Thread Cert.KernelOutSsmIdeal.nD Cert.KernelOutSsmIdeal.τ).loc Cert.KernelOutSsmIdeal.main_v0) = v0 c
          ∧ r.2.mem ((c.tc : Thread Cert.KernelOutSsmIdeal.nD Cert.KernelOutSsmIdeal.τ).loc Cert.KernelOutSsmIdeal.main_arg0) = m ((c.tc : Thread Cert.KernelOutSsmIdeal.nD Cert.KernelOutSsmIdeal.τ).loc Cert.KernelOutSsmIdeal.main_arg0)
          ∧ r.2.mem ((c.tc : Thread Cert.KernelOutSsmIdeal.nD Cert.KernelOutSsmIdeal.τ).loc Cert.KernelOutSsmIdeal.main_arg1) = m ((c.tc : Thread Cert.KernelOutSsmIdeal.nD Cert.KernelOutSsmIdeal.τ).loc Cert.KernelOutSsmIdeal.main_arg1))
      ∧ θ_run (Cert.ReferenceOutSsmIdeal.defs (F := Ideal)) (onTc (τ := Cert.ReferenceOutSsmIdeal.τ) (Cert.ReferenceOutSsmIdeal.main (F := Ideal))) ⟨m', fun _ => 0, g'⟩ (fun r => ∀ c : Dev Cert.ReferenceOutSsmIdeal.nD,
          r.2.mem ((c.tc : Thread Cert.ReferenceOutSsmIdeal.nD Cert.ReferenceOutSsmIdeal.τ).loc Cert.ReferenceOutSsmIdeal.main_v3) = v0 c
          ∧ r.2.mem ((c.tc : Thread Cert.ReferenceOutSsmIdeal.nD Cert.ReferenceOutSsmIdeal.τ).loc Cert.ReferenceOutSsmIdeal.main_arg0) = m' ((c.tc : Thread Cert.ReferenceOutSsmIdeal.nD Cert.ReferenceOutSsmIdeal.τ).loc Cert.ReferenceOutSsmIdeal.main_arg0)
          ∧ r.2.mem ((c.tc : Thread Cert.ReferenceOutSsmIdeal.nD Cert.ReferenceOutSsmIdeal.τ).loc Cert.ReferenceOutSsmIdeal.main_arg1) = m' ((c.tc : Thread Cert.ReferenceOutSsmIdeal.nD Cert.ReferenceOutSsmIdeal.τ).loc Cert.ReferenceOutSsmIdeal.main_arg1))

def preserves_KernelOutConf_KernelOutConfIdeal : Prop :=
  True

def algebraic_KernelOutConfIdeal_ReferenceOutConfIdeal [hKernelOutConfIdeal : Cert.KernelOutConfIdeal.Facts] [hReferenceOutConfIdeal : Cert.ReferenceOutConfIdeal.Facts] : Prop :=
  ∀ (m : (ℓ : Loc Cert.KernelOutConfIdeal.nD Cert.KernelOutConfIdeal.τ Cert.KernelOutConfIdeal.sig) → Buf (Elt Ideal) ℓ) (g : Dev Cert.KernelOutConfIdeal.nD → PrngReg)
    (m' : (ℓ : Loc Cert.ReferenceOutConfIdeal.nD Cert.ReferenceOutConfIdeal.τ Cert.ReferenceOutConfIdeal.sig) → Buf (Elt Ideal) ℓ) (g' : Dev Cert.ReferenceOutConfIdeal.nD → PrngReg), Pre_KernelOutConfIdeal m →
    (∀ c : Dev Cert.KernelOutConfIdeal.nD,
      m' ((c.tc : Thread Cert.ReferenceOutConfIdeal.nD Cert.ReferenceOutConfIdeal.τ).loc Cert.ReferenceOutConfIdeal.main_arg0) = m ((c.tc : Thread Cert.KernelOutConfIdeal.nD Cert.KernelOutConfIdeal.τ).loc Cert.KernelOutConfIdeal.main_arg0)
      ∧ m' ((c.tc : Thread Cert.ReferenceOutConfIdeal.nD Cert.ReferenceOutConfIdeal.τ).loc Cert.ReferenceOutConfIdeal.main_arg1) = m ((c.tc : Thread Cert.KernelOutConfIdeal.nD Cert.KernelOutConfIdeal.τ).loc Cert.KernelOutConfIdeal.main_arg1)) →
    ∃ (v0 : (c : Dev Cert.KernelOutConfIdeal.nD) → Buf (Elt Ideal) ((c.tc : Thread Cert.KernelOutConfIdeal.nD Cert.KernelOutConfIdeal.τ).loc Cert.KernelOutConfIdeal.main_v0)),
      θ_run (Cert.KernelOutConfIdeal.defs (F := Ideal)) (onTc (τ := Cert.KernelOutConfIdeal.τ) (Cert.KernelOutConfIdeal.main (F := Ideal))) ⟨m, fun _ => 0, g⟩ (fun r => ∀ c : Dev Cert.KernelOutConfIdeal.nD,
          r.2.mem ((c.tc : Thread Cert.KernelOutConfIdeal.nD Cert.KernelOutConfIdeal.τ).loc Cert.KernelOutConfIdeal.main_v0) = v0 c
          ∧ r.2.mem ((c.tc : Thread Cert.KernelOutConfIdeal.nD Cert.KernelOutConfIdeal.τ).loc Cert.KernelOutConfIdeal.main_arg0) = m ((c.tc : Thread Cert.KernelOutConfIdeal.nD Cert.KernelOutConfIdeal.τ).loc Cert.KernelOutConfIdeal.main_arg0)
          ∧ r.2.mem ((c.tc : Thread Cert.KernelOutConfIdeal.nD Cert.KernelOutConfIdeal.τ).loc Cert.KernelOutConfIdeal.main_arg1) = m ((c.tc : Thread Cert.KernelOutConfIdeal.nD Cert.KernelOutConfIdeal.τ).loc Cert.KernelOutConfIdeal.main_arg1))
      ∧ θ_run (Cert.ReferenceOutConfIdeal.defs (F := Ideal)) (onTc (τ := Cert.ReferenceOutConfIdeal.τ) (Cert.ReferenceOutConfIdeal.main (F := Ideal))) ⟨m', fun _ => 0, g'⟩ (fun r => ∀ c : Dev Cert.ReferenceOutConfIdeal.nD,
          r.2.mem ((c.tc : Thread Cert.ReferenceOutConfIdeal.nD Cert.ReferenceOutConfIdeal.τ).loc Cert.ReferenceOutConfIdeal.main_v3) = v0 c
          ∧ r.2.mem ((c.tc : Thread Cert.ReferenceOutConfIdeal.nD Cert.ReferenceOutConfIdeal.τ).loc Cert.ReferenceOutConfIdeal.main_arg0) = m' ((c.tc : Thread Cert.ReferenceOutConfIdeal.nD Cert.ReferenceOutConfIdeal.τ).loc Cert.ReferenceOutConfIdeal.main_arg0)
          ∧ r.2.mem ((c.tc : Thread Cert.ReferenceOutConfIdeal.nD Cert.ReferenceOutConfIdeal.τ).loc Cert.ReferenceOutConfIdeal.main_arg1) = m' ((c.tc : Thread Cert.ReferenceOutConfIdeal.nD Cert.ReferenceOutConfIdeal.τ).loc Cert.ReferenceOutConfIdeal.main_arg1))

def preserves_KernelOutProj_KernelOutProjIdeal : Prop :=
  True

def algebraic_KernelOutProjIdeal_ReferenceOutProjIdeal [hKernelOutProjIdeal : Cert.KernelOutProjIdeal.Facts] [hReferenceOutProjIdeal : Cert.ReferenceOutProjIdeal.Facts] : Prop :=
  ∀ (m : (ℓ : Loc Cert.KernelOutProjIdeal.nD Cert.KernelOutProjIdeal.τ Cert.KernelOutProjIdeal.sig) → Buf (Elt Ideal) ℓ) (g : Dev Cert.KernelOutProjIdeal.nD → PrngReg)
    (m' : (ℓ : Loc Cert.ReferenceOutProjIdeal.nD Cert.ReferenceOutProjIdeal.τ Cert.ReferenceOutProjIdeal.sig) → Buf (Elt Ideal) ℓ) (g' : Dev Cert.ReferenceOutProjIdeal.nD → PrngReg), Pre_KernelOutProjIdeal m →
    (∀ c : Dev Cert.KernelOutProjIdeal.nD,
      m' ((c.tc : Thread Cert.ReferenceOutProjIdeal.nD Cert.ReferenceOutProjIdeal.τ).loc Cert.ReferenceOutProjIdeal.main_arg0) = m ((c.tc : Thread Cert.KernelOutProjIdeal.nD Cert.KernelOutProjIdeal.τ).loc Cert.KernelOutProjIdeal.main_arg0)
      ∧ m' ((c.tc : Thread Cert.ReferenceOutProjIdeal.nD Cert.ReferenceOutProjIdeal.τ).loc Cert.ReferenceOutProjIdeal.main_arg1) = m ((c.tc : Thread Cert.KernelOutProjIdeal.nD Cert.KernelOutProjIdeal.τ).loc Cert.KernelOutProjIdeal.main_arg1)) →
    ∃ (v0 : (c : Dev Cert.KernelOutProjIdeal.nD) → Buf (Elt Ideal) ((c.tc : Thread Cert.KernelOutProjIdeal.nD Cert.KernelOutProjIdeal.τ).loc Cert.KernelOutProjIdeal.main_v0)),
      θ_run (Cert.KernelOutProjIdeal.defs (F := Ideal)) (onTc (τ := Cert.KernelOutProjIdeal.τ) (Cert.KernelOutProjIdeal.main (F := Ideal))) ⟨m, fun _ => 0, g⟩ (fun r => ∀ c : Dev Cert.KernelOutProjIdeal.nD,
          r.2.mem ((c.tc : Thread Cert.KernelOutProjIdeal.nD Cert.KernelOutProjIdeal.τ).loc Cert.KernelOutProjIdeal.main_v0) = v0 c
          ∧ r.2.mem ((c.tc : Thread Cert.KernelOutProjIdeal.nD Cert.KernelOutProjIdeal.τ).loc Cert.KernelOutProjIdeal.main_arg0) = m ((c.tc : Thread Cert.KernelOutProjIdeal.nD Cert.KernelOutProjIdeal.τ).loc Cert.KernelOutProjIdeal.main_arg0)
          ∧ r.2.mem ((c.tc : Thread Cert.KernelOutProjIdeal.nD Cert.KernelOutProjIdeal.τ).loc Cert.KernelOutProjIdeal.main_arg1) = m ((c.tc : Thread Cert.KernelOutProjIdeal.nD Cert.KernelOutProjIdeal.τ).loc Cert.KernelOutProjIdeal.main_arg1))
      ∧ θ_run (Cert.ReferenceOutProjIdeal.defs (F := Ideal)) (onTc (τ := Cert.ReferenceOutProjIdeal.τ) (Cert.ReferenceOutProjIdeal.main (F := Ideal))) ⟨m', fun _ => 0, g'⟩ (fun r => ∀ c : Dev Cert.ReferenceOutProjIdeal.nD,
          r.2.mem ((c.tc : Thread Cert.ReferenceOutProjIdeal.nD Cert.ReferenceOutProjIdeal.τ).loc Cert.ReferenceOutProjIdeal.main_v2) = v0 c
          ∧ r.2.mem ((c.tc : Thread Cert.ReferenceOutProjIdeal.nD Cert.ReferenceOutProjIdeal.τ).loc Cert.ReferenceOutProjIdeal.main_arg0) = m' ((c.tc : Thread Cert.ReferenceOutProjIdeal.nD Cert.ReferenceOutProjIdeal.τ).loc Cert.ReferenceOutProjIdeal.main_arg0)
          ∧ r.2.mem ((c.tc : Thread Cert.ReferenceOutProjIdeal.nD Cert.ReferenceOutProjIdeal.τ).loc Cert.ReferenceOutProjIdeal.main_arg1) = m' ((c.tc : Thread Cert.ReferenceOutProjIdeal.nD Cert.ReferenceOutProjIdeal.τ).loc Cert.ReferenceOutProjIdeal.main_arg1))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)) →
    ∃ (v0 : (c : Dev Cert.KernelMergeIdeal.nD) → Buf (Elt Ideal) ((c.tc : Thread Cert.KernelMergeIdeal.nD Cert.KernelMergeIdeal.τ).loc Cert.KernelMergeIdeal.main_v0)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v0) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v15) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2))

def preserves_KernelDgate_KernelDgateIdeal : Prop :=
  True

def algebraic_KernelDgateIdeal_ReferenceDgateIdeal [hKernelDgateIdeal : Cert.KernelDgateIdeal.Facts] [hReferenceDgateIdeal : Cert.ReferenceDgateIdeal.Facts] : Prop :=
  ∀ (m : (ℓ : Loc Cert.KernelDgateIdeal.nD Cert.KernelDgateIdeal.τ Cert.KernelDgateIdeal.sig) → Buf (Elt Ideal) ℓ) (g : Dev Cert.KernelDgateIdeal.nD → PrngReg)
    (m' : (ℓ : Loc Cert.ReferenceDgateIdeal.nD Cert.ReferenceDgateIdeal.τ Cert.ReferenceDgateIdeal.sig) → Buf (Elt Ideal) ℓ) (g' : Dev Cert.ReferenceDgateIdeal.nD → PrngReg), Pre_KernelDgateIdeal m →
    (∀ c : Dev Cert.KernelDgateIdeal.nD,
      m' ((c.tc : Thread Cert.ReferenceDgateIdeal.nD Cert.ReferenceDgateIdeal.τ).loc Cert.ReferenceDgateIdeal.main_arg0) = m ((c.tc : Thread Cert.KernelDgateIdeal.nD Cert.KernelDgateIdeal.τ).loc Cert.KernelDgateIdeal.main_arg0)
      ∧ m' ((c.tc : Thread Cert.ReferenceDgateIdeal.nD Cert.ReferenceDgateIdeal.τ).loc Cert.ReferenceDgateIdeal.main_arg1) = m ((c.tc : Thread Cert.KernelDgateIdeal.nD Cert.KernelDgateIdeal.τ).loc Cert.KernelDgateIdeal.main_arg1)
      ∧ m' ((c.tc : Thread Cert.ReferenceDgateIdeal.nD Cert.ReferenceDgateIdeal.τ).loc Cert.ReferenceDgateIdeal.main_arg2) = m ((c.tc : Thread Cert.KernelDgateIdeal.nD Cert.KernelDgateIdeal.τ).loc Cert.KernelDgateIdeal.main_arg2)
      ∧ m' ((c.tc : Thread Cert.ReferenceDgateIdeal.nD Cert.ReferenceDgateIdeal.τ).loc Cert.ReferenceDgateIdeal.main_arg3) = m ((c.tc : Thread Cert.KernelDgateIdeal.nD Cert.KernelDgateIdeal.τ).loc Cert.KernelDgateIdeal.main_arg3)) →
    ∃ (v0 : (c : Dev Cert.KernelDgateIdeal.nD) → Buf (Elt Ideal) ((c.tc : Thread Cert.KernelDgateIdeal.nD Cert.KernelDgateIdeal.τ).loc Cert.KernelDgateIdeal.main_v0_0)) (v1 : (c : Dev Cert.KernelDgateIdeal.nD) → Buf (Elt Ideal) ((c.tc : Thread Cert.KernelDgateIdeal.nD Cert.KernelDgateIdeal.τ).loc Cert.KernelDgateIdeal.main_v0_1)) (v2 : (c : Dev Cert.KernelDgateIdeal.nD) → Buf (Elt Ideal) ((c.tc : Thread Cert.KernelDgateIdeal.nD Cert.KernelDgateIdeal.τ).loc Cert.KernelDgateIdeal.main_v1)),
      θ_run (Cert.KernelDgateIdeal.defs (F := Ideal)) (onTc (τ := Cert.KernelDgateIdeal.τ) (Cert.KernelDgateIdeal.main (F := Ideal))) ⟨m, fun _ => 0, g⟩ (fun r => ∀ c : Dev Cert.KernelDgateIdeal.nD,
          r.2.mem ((c.tc : Thread Cert.KernelDgateIdeal.nD Cert.KernelDgateIdeal.τ).loc Cert.KernelDgateIdeal.main_v0_0) = v0 c
          ∧ r.2.mem ((c.tc : Thread Cert.KernelDgateIdeal.nD Cert.KernelDgateIdeal.τ).loc Cert.KernelDgateIdeal.main_v0_1) = v1 c
          ∧ r.2.mem ((c.tc : Thread Cert.KernelDgateIdeal.nD Cert.KernelDgateIdeal.τ).loc Cert.KernelDgateIdeal.main_v1) = v2 c
          ∧ r.2.mem ((c.tc : Thread Cert.KernelDgateIdeal.nD Cert.KernelDgateIdeal.τ).loc Cert.KernelDgateIdeal.main_arg0) = m ((c.tc : Thread Cert.KernelDgateIdeal.nD Cert.KernelDgateIdeal.τ).loc Cert.KernelDgateIdeal.main_arg0)
          ∧ r.2.mem ((c.tc : Thread Cert.KernelDgateIdeal.nD Cert.KernelDgateIdeal.τ).loc Cert.KernelDgateIdeal.main_arg1) = m ((c.tc : Thread Cert.KernelDgateIdeal.nD Cert.KernelDgateIdeal.τ).loc Cert.KernelDgateIdeal.main_arg1)
          ∧ r.2.mem ((c.tc : Thread Cert.KernelDgateIdeal.nD Cert.KernelDgateIdeal.τ).loc Cert.KernelDgateIdeal.main_arg2) = m ((c.tc : Thread Cert.KernelDgateIdeal.nD Cert.KernelDgateIdeal.τ).loc Cert.KernelDgateIdeal.main_arg2)
          ∧ r.2.mem ((c.tc : Thread Cert.KernelDgateIdeal.nD Cert.KernelDgateIdeal.τ).loc Cert.KernelDgateIdeal.main_arg3) = m ((c.tc : Thread Cert.KernelDgateIdeal.nD Cert.KernelDgateIdeal.τ).loc Cert.KernelDgateIdeal.main_arg3))
      ∧ θ_run (Cert.ReferenceDgateIdeal.defs (F := Ideal)) (onTc (τ := Cert.ReferenceDgateIdeal.τ) (Cert.ReferenceDgateIdeal.main (F := Ideal))) ⟨m', fun _ => 0, g'⟩ (fun r => ∀ c : Dev Cert.ReferenceDgateIdeal.nD,
          r.2.mem ((c.tc : Thread Cert.ReferenceDgateIdeal.nD Cert.ReferenceDgateIdeal.τ).loc Cert.ReferenceDgateIdeal.main_v27) = v0 c
          ∧ r.2.mem ((c.tc : Thread Cert.ReferenceDgateIdeal.nD Cert.ReferenceDgateIdeal.τ).loc Cert.ReferenceDgateIdeal.main_v28) = v1 c
          ∧ r.2.mem ((c.tc : Thread Cert.ReferenceDgateIdeal.nD Cert.ReferenceDgateIdeal.τ).loc Cert.ReferenceDgateIdeal.main_v29) = v2 c
          ∧ r.2.mem ((c.tc : Thread Cert.ReferenceDgateIdeal.nD Cert.ReferenceDgateIdeal.τ).loc Cert.ReferenceDgateIdeal.main_arg0) = m' ((c.tc : Thread Cert.ReferenceDgateIdeal.nD Cert.ReferenceDgateIdeal.τ).loc Cert.ReferenceDgateIdeal.main_arg0)
          ∧ r.2.mem ((c.tc : Thread Cert.ReferenceDgateIdeal.nD Cert.ReferenceDgateIdeal.τ).loc Cert.ReferenceDgateIdeal.main_arg1) = m' ((c.tc : Thread Cert.ReferenceDgateIdeal.nD Cert.ReferenceDgateIdeal.τ).loc Cert.ReferenceDgateIdeal.main_arg1)
          ∧ r.2.mem ((c.tc : Thread Cert.ReferenceDgateIdeal.nD Cert.ReferenceDgateIdeal.τ).loc Cert.ReferenceDgateIdeal.main_arg2) = m' ((c.tc : Thread Cert.ReferenceDgateIdeal.nD Cert.ReferenceDgateIdeal.τ).loc Cert.ReferenceDgateIdeal.main_arg2)
          ∧ r.2.mem ((c.tc : Thread Cert.ReferenceDgateIdeal.nD Cert.ReferenceDgateIdeal.τ).loc Cert.ReferenceDgateIdeal.main_arg3) = m' ((c.tc : Thread Cert.ReferenceDgateIdeal.nD Cert.ReferenceDgateIdeal.τ).loc Cert.ReferenceDgateIdeal.main_arg3))

def preserves_KernelAdamMod_KernelAdamModIdeal : Prop :=
  True

def algebraic_KernelAdamModIdeal_ReferenceAdamModIdeal [hKernelAdamModIdeal : Cert.KernelAdamModIdeal.Facts] [hReferenceAdamModIdeal : Cert.ReferenceAdamModIdeal.Facts] : Prop :=
  ∀ (m : (ℓ : Loc Cert.KernelAdamModIdeal.nD Cert.KernelAdamModIdeal.τ Cert.KernelAdamModIdeal.sig) → Buf (Elt Ideal) ℓ) (g : Dev Cert.KernelAdamModIdeal.nD → PrngReg)
    (m' : (ℓ : Loc Cert.ReferenceAdamModIdeal.nD Cert.ReferenceAdamModIdeal.τ Cert.ReferenceAdamModIdeal.sig) → Buf (Elt Ideal) ℓ) (g' : Dev Cert.ReferenceAdamModIdeal.nD → PrngReg), Pre_KernelAdamModIdeal m →
    (∀ c : Dev Cert.KernelAdamModIdeal.nD,
      m' ((c.tc : Thread Cert.ReferenceAdamModIdeal.nD Cert.ReferenceAdamModIdeal.τ).loc Cert.ReferenceAdamModIdeal.main_arg0) = m ((c.tc : Thread Cert.KernelAdamModIdeal.nD Cert.KernelAdamModIdeal.τ).loc Cert.KernelAdamModIdeal.main_arg0)
      ∧ m' ((c.tc : Thread Cert.ReferenceAdamModIdeal.nD Cert.ReferenceAdamModIdeal.τ).loc Cert.ReferenceAdamModIdeal.main_arg1) = m ((c.tc : Thread Cert.KernelAdamModIdeal.nD Cert.KernelAdamModIdeal.τ).loc Cert.KernelAdamModIdeal.main_arg1)
      ∧ m' ((c.tc : Thread Cert.ReferenceAdamModIdeal.nD Cert.ReferenceAdamModIdeal.τ).loc Cert.ReferenceAdamModIdeal.main_arg2) = m ((c.tc : Thread Cert.KernelAdamModIdeal.nD Cert.KernelAdamModIdeal.τ).loc Cert.KernelAdamModIdeal.main_arg2)
      ∧ m' ((c.tc : Thread Cert.ReferenceAdamModIdeal.nD Cert.ReferenceAdamModIdeal.τ).loc Cert.ReferenceAdamModIdeal.main_arg3) = m ((c.tc : Thread Cert.KernelAdamModIdeal.nD Cert.KernelAdamModIdeal.τ).loc Cert.KernelAdamModIdeal.main_arg3)) →
    ∃ (v0 : (c : Dev Cert.KernelAdamModIdeal.nD) → Buf (Elt Ideal) ((c.tc : Thread Cert.KernelAdamModIdeal.nD Cert.KernelAdamModIdeal.τ).loc Cert.KernelAdamModIdeal.main_v0_0)) (v1 : (c : Dev Cert.KernelAdamModIdeal.nD) → Buf (Elt Ideal) ((c.tc : Thread Cert.KernelAdamModIdeal.nD Cert.KernelAdamModIdeal.τ).loc Cert.KernelAdamModIdeal.main_v0_1)) (v2 : (c : Dev Cert.KernelAdamModIdeal.nD) → Buf (Elt Ideal) ((c.tc : Thread Cert.KernelAdamModIdeal.nD Cert.KernelAdamModIdeal.τ).loc Cert.KernelAdamModIdeal.main_v0_2)),
      θ_run (Cert.KernelAdamModIdeal.defs (F := Ideal)) (onTc (τ := Cert.KernelAdamModIdeal.τ) (Cert.KernelAdamModIdeal.main (F := Ideal))) ⟨m, fun _ => 0, g⟩ (fun r => ∀ c : Dev Cert.KernelAdamModIdeal.nD,
          r.2.mem ((c.tc : Thread Cert.KernelAdamModIdeal.nD Cert.KernelAdamModIdeal.τ).loc Cert.KernelAdamModIdeal.main_v0_0) = v0 c
          ∧ r.2.mem ((c.tc : Thread Cert.KernelAdamModIdeal.nD Cert.KernelAdamModIdeal.τ).loc Cert.KernelAdamModIdeal.main_v0_1) = v1 c
          ∧ r.2.mem ((c.tc : Thread Cert.KernelAdamModIdeal.nD Cert.KernelAdamModIdeal.τ).loc Cert.KernelAdamModIdeal.main_v0_2) = v2 c
          ∧ r.2.mem ((c.tc : Thread Cert.KernelAdamModIdeal.nD Cert.KernelAdamModIdeal.τ).loc Cert.KernelAdamModIdeal.main_arg0) = m ((c.tc : Thread Cert.KernelAdamModIdeal.nD Cert.KernelAdamModIdeal.τ).loc Cert.KernelAdamModIdeal.main_arg0)
          ∧ r.2.mem ((c.tc : Thread Cert.KernelAdamModIdeal.nD Cert.KernelAdamModIdeal.τ).loc Cert.KernelAdamModIdeal.main_arg1) = m ((c.tc : Thread Cert.KernelAdamModIdeal.nD Cert.KernelAdamModIdeal.τ).loc Cert.KernelAdamModIdeal.main_arg1)
          ∧ r.2.mem ((c.tc : Thread Cert.KernelAdamModIdeal.nD Cert.KernelAdamModIdeal.τ).loc Cert.KernelAdamModIdeal.main_arg2) = m ((c.tc : Thread Cert.KernelAdamModIdeal.nD Cert.KernelAdamModIdeal.τ).loc Cert.KernelAdamModIdeal.main_arg2)
          ∧ r.2.mem ((c.tc : Thread Cert.KernelAdamModIdeal.nD Cert.KernelAdamModIdeal.τ).loc Cert.KernelAdamModIdeal.main_arg3) = m ((c.tc : Thread Cert.KernelAdamModIdeal.nD Cert.KernelAdamModIdeal.τ).loc Cert.KernelAdamModIdeal.main_arg3))
      ∧ θ_run (Cert.ReferenceAdamModIdeal.defs (F := Ideal)) (onTc (τ := Cert.ReferenceAdamModIdeal.τ) (Cert.ReferenceAdamModIdeal.main (F := Ideal))) ⟨m', fun _ => 0, g'⟩ (fun r => ∀ c : Dev Cert.ReferenceAdamModIdeal.nD,
          r.2.mem ((c.tc : Thread Cert.ReferenceAdamModIdeal.nD Cert.ReferenceAdamModIdeal.τ).loc Cert.ReferenceAdamModIdeal.main_v23) = v0 c
          ∧ r.2.mem ((c.tc : Thread Cert.ReferenceAdamModIdeal.nD Cert.ReferenceAdamModIdeal.τ).loc Cert.ReferenceAdamModIdeal.main_v4) = v1 c
          ∧ r.2.mem ((c.tc : Thread Cert.ReferenceAdamModIdeal.nD Cert.ReferenceAdamModIdeal.τ).loc Cert.ReferenceAdamModIdeal.main_v10) = v2 c
          ∧ r.2.mem ((c.tc : Thread Cert.ReferenceAdamModIdeal.nD Cert.ReferenceAdamModIdeal.τ).loc Cert.ReferenceAdamModIdeal.main_arg0) = m' ((c.tc : Thread Cert.ReferenceAdamModIdeal.nD Cert.ReferenceAdamModIdeal.τ).loc Cert.ReferenceAdamModIdeal.main_arg0)
          ∧ r.2.mem ((c.tc : Thread Cert.ReferenceAdamModIdeal.nD Cert.ReferenceAdamModIdeal.τ).loc Cert.ReferenceAdamModIdeal.main_arg1) = m' ((c.tc : Thread Cert.ReferenceAdamModIdeal.nD Cert.ReferenceAdamModIdeal.τ).loc Cert.ReferenceAdamModIdeal.main_arg1)
          ∧ r.2.mem ((c.tc : Thread Cert.ReferenceAdamModIdeal.nD Cert.ReferenceAdamModIdeal.τ).loc Cert.ReferenceAdamModIdeal.main_arg2) = m' ((c.tc : Thread Cert.ReferenceAdamModIdeal.nD Cert.ReferenceAdamModIdeal.τ).loc Cert.ReferenceAdamModIdeal.main_arg2)
          ∧ r.2.mem ((c.tc : Thread Cert.ReferenceAdamModIdeal.nD Cert.ReferenceAdamModIdeal.τ).loc Cert.ReferenceAdamModIdeal.main_arg3) = m' ((c.tc : Thread Cert.ReferenceAdamModIdeal.nD Cert.ReferenceAdamModIdeal.τ).loc Cert.ReferenceAdamModIdeal.main_arg3))

def preserves_KernelAdamRest_KernelAdamRestIdeal : Prop :=
  True

def algebraic_KernelAdamRestIdeal_ReferenceAdamRestIdeal [hKernelAdamRestIdeal : Cert.KernelAdamRestIdeal.Facts] [hReferenceAdamRestIdeal : Cert.ReferenceAdamRestIdeal.Facts] : Prop :=
  ∀ (m : (ℓ : Loc Cert.KernelAdamRestIdeal.nD Cert.KernelAdamRestIdeal.τ Cert.KernelAdamRestIdeal.sig) → Buf (Elt Ideal) ℓ) (g : Dev Cert.KernelAdamRestIdeal.nD → PrngReg)
    (m' : (ℓ : Loc Cert.ReferenceAdamRestIdeal.nD Cert.ReferenceAdamRestIdeal.τ Cert.ReferenceAdamRestIdeal.sig) → Buf (Elt Ideal) ℓ) (g' : Dev Cert.ReferenceAdamRestIdeal.nD → PrngReg), Pre_KernelAdamRestIdeal m →
    (∀ c : Dev Cert.KernelAdamRestIdeal.nD,
      m' ((c.tc : Thread Cert.ReferenceAdamRestIdeal.nD Cert.ReferenceAdamRestIdeal.τ).loc Cert.ReferenceAdamRestIdeal.main_arg0) = m ((c.tc : Thread Cert.KernelAdamRestIdeal.nD Cert.KernelAdamRestIdeal.τ).loc Cert.KernelAdamRestIdeal.main_arg0)
      ∧ m' ((c.tc : Thread Cert.ReferenceAdamRestIdeal.nD Cert.ReferenceAdamRestIdeal.τ).loc Cert.ReferenceAdamRestIdeal.main_arg1) = m ((c.tc : Thread Cert.KernelAdamRestIdeal.nD Cert.KernelAdamRestIdeal.τ).loc Cert.KernelAdamRestIdeal.main_arg1)
      ∧ m' ((c.tc : Thread Cert.ReferenceAdamRestIdeal.nD Cert.ReferenceAdamRestIdeal.τ).loc Cert.ReferenceAdamRestIdeal.main_arg2) = m ((c.tc : Thread Cert.KernelAdamRestIdeal.nD Cert.KernelAdamRestIdeal.τ).loc Cert.KernelAdamRestIdeal.main_arg2)
      ∧ m' ((c.tc : Thread Cert.ReferenceAdamRestIdeal.nD Cert.ReferenceAdamRestIdeal.τ).loc Cert.ReferenceAdamRestIdeal.main_arg3) = m ((c.tc : Thread Cert.KernelAdamRestIdeal.nD Cert.KernelAdamRestIdeal.τ).loc Cert.KernelAdamRestIdeal.main_arg3)) →
    ∃ (v0 : (c : Dev Cert.KernelAdamRestIdeal.nD) → Buf (Elt Ideal) ((c.tc : Thread Cert.KernelAdamRestIdeal.nD Cert.KernelAdamRestIdeal.τ).loc Cert.KernelAdamRestIdeal.main_v0_0)) (v1 : (c : Dev Cert.KernelAdamRestIdeal.nD) → Buf (Elt Ideal) ((c.tc : Thread Cert.KernelAdamRestIdeal.nD Cert.KernelAdamRestIdeal.τ).loc Cert.KernelAdamRestIdeal.main_v0_1)) (v2 : (c : Dev Cert.KernelAdamRestIdeal.nD) → Buf (Elt Ideal) ((c.tc : Thread Cert.KernelAdamRestIdeal.nD Cert.KernelAdamRestIdeal.τ).loc Cert.KernelAdamRestIdeal.main_v0_2)),
      θ_run (Cert.KernelAdamRestIdeal.defs (F := Ideal)) (onTc (τ := Cert.KernelAdamRestIdeal.τ) (Cert.KernelAdamRestIdeal.main (F := Ideal))) ⟨m, fun _ => 0, g⟩ (fun r => ∀ c : Dev Cert.KernelAdamRestIdeal.nD,
          r.2.mem ((c.tc : Thread Cert.KernelAdamRestIdeal.nD Cert.KernelAdamRestIdeal.τ).loc Cert.KernelAdamRestIdeal.main_v0_0) = v0 c
          ∧ r.2.mem ((c.tc : Thread Cert.KernelAdamRestIdeal.nD Cert.KernelAdamRestIdeal.τ).loc Cert.KernelAdamRestIdeal.main_v0_1) = v1 c
          ∧ r.2.mem ((c.tc : Thread Cert.KernelAdamRestIdeal.nD Cert.KernelAdamRestIdeal.τ).loc Cert.KernelAdamRestIdeal.main_v0_2) = v2 c
          ∧ r.2.mem ((c.tc : Thread Cert.KernelAdamRestIdeal.nD Cert.KernelAdamRestIdeal.τ).loc Cert.KernelAdamRestIdeal.main_arg0) = m ((c.tc : Thread Cert.KernelAdamRestIdeal.nD Cert.KernelAdamRestIdeal.τ).loc Cert.KernelAdamRestIdeal.main_arg0)
          ∧ r.2.mem ((c.tc : Thread Cert.KernelAdamRestIdeal.nD Cert.KernelAdamRestIdeal.τ).loc Cert.KernelAdamRestIdeal.main_arg1) = m ((c.tc : Thread Cert.KernelAdamRestIdeal.nD Cert.KernelAdamRestIdeal.τ).loc Cert.KernelAdamRestIdeal.main_arg1)
          ∧ r.2.mem ((c.tc : Thread Cert.KernelAdamRestIdeal.nD Cert.KernelAdamRestIdeal.τ).loc Cert.KernelAdamRestIdeal.main_arg2) = m ((c.tc : Thread Cert.KernelAdamRestIdeal.nD Cert.KernelAdamRestIdeal.τ).loc Cert.KernelAdamRestIdeal.main_arg2)
          ∧ r.2.mem ((c.tc : Thread Cert.KernelAdamRestIdeal.nD Cert.KernelAdamRestIdeal.τ).loc Cert.KernelAdamRestIdeal.main_arg3) = m ((c.tc : Thread Cert.KernelAdamRestIdeal.nD Cert.KernelAdamRestIdeal.τ).loc Cert.KernelAdamRestIdeal.main_arg3))
      ∧ θ_run (Cert.ReferenceAdamRestIdeal.defs (F := Ideal)) (onTc (τ := Cert.ReferenceAdamRestIdeal.τ) (Cert.ReferenceAdamRestIdeal.main (F := Ideal))) ⟨m', fun _ => 0, g'⟩ (fun r => ∀ c : Dev Cert.ReferenceAdamRestIdeal.nD,
          r.2.mem ((c.tc : Thread Cert.ReferenceAdamRestIdeal.nD Cert.ReferenceAdamRestIdeal.τ).loc Cert.ReferenceAdamRestIdeal.main_v23) = v0 c
          ∧ r.2.mem ((c.tc : Thread Cert.ReferenceAdamRestIdeal.nD Cert.ReferenceAdamRestIdeal.τ).loc Cert.ReferenceAdamRestIdeal.main_v4) = v1 c
          ∧ r.2.mem ((c.tc : Thread Cert.ReferenceAdamRestIdeal.nD Cert.ReferenceAdamRestIdeal.τ).loc Cert.ReferenceAdamRestIdeal.main_v10) = v2 c
          ∧ r.2.mem ((c.tc : Thread Cert.ReferenceAdamRestIdeal.nD Cert.ReferenceAdamRestIdeal.τ).loc Cert.ReferenceAdamRestIdeal.main_arg0) = m' ((c.tc : Thread Cert.ReferenceAdamRestIdeal.nD Cert.ReferenceAdamRestIdeal.τ).loc Cert.ReferenceAdamRestIdeal.main_arg0)
          ∧ r.2.mem ((c.tc : Thread Cert.ReferenceAdamRestIdeal.nD Cert.ReferenceAdamRestIdeal.τ).loc Cert.ReferenceAdamRestIdeal.main_arg1) = m' ((c.tc : Thread Cert.ReferenceAdamRestIdeal.nD Cert.ReferenceAdamRestIdeal.τ).loc Cert.ReferenceAdamRestIdeal.main_arg1)
          ∧ r.2.mem ((c.tc : Thread Cert.ReferenceAdamRestIdeal.nD Cert.ReferenceAdamRestIdeal.τ).loc Cert.ReferenceAdamRestIdeal.main_arg2) = m' ((c.tc : Thread Cert.ReferenceAdamRestIdeal.nD Cert.ReferenceAdamRestIdeal.τ).loc Cert.ReferenceAdamRestIdeal.main_arg2)
          ∧ r.2.mem ((c.tc : Thread Cert.ReferenceAdamRestIdeal.nD Cert.ReferenceAdamRestIdeal.τ).loc Cert.ReferenceAdamRestIdeal.main_arg3) = m' ((c.tc : Thread Cert.ReferenceAdamRestIdeal.nD Cert.ReferenceAdamRestIdeal.τ).loc Cert.ReferenceAdamRestIdeal.main_arg3))

def preserves_KernelAdamIn_KernelAdamInIdeal : Prop :=
  True

def algebraic_KernelAdamInIdeal_ReferenceAdamInIdeal [hKernelAdamInIdeal : Cert.KernelAdamInIdeal.Facts] [hReferenceAdamInIdeal : Cert.ReferenceAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg)
    (m' : (ℓ : Loc Cert.ReferenceAdamInIdeal.nD Cert.ReferenceAdamInIdeal.τ Cert.ReferenceAdamInIdeal.sig) → Buf (Elt Ideal) ℓ) (g' : Dev Cert.ReferenceAdamInIdeal.nD → PrngReg), Pre_KernelAdamInIdeal m →
    (∀ c : Dev Cert.KernelAdamInIdeal.nD,
      m' ((c.tc : Thread Cert.ReferenceAdamInIdeal.nD Cert.ReferenceAdamInIdeal.τ).loc Cert.ReferenceAdamInIdeal.main_arg0) = m ((c.tc : Thread Cert.KernelAdamInIdeal.nD Cert.KernelAdamInIdeal.τ).loc Cert.KernelAdamInIdeal.main_arg0)
      ∧ m' ((c.tc : Thread Cert.ReferenceAdamInIdeal.nD Cert.ReferenceAdamInIdeal.τ).loc Cert.ReferenceAdamInIdeal.main_arg1) = m ((c.tc : Thread Cert.KernelAdamInIdeal.nD Cert.KernelAdamInIdeal.τ).loc Cert.KernelAdamInIdeal.main_arg1)
      ∧ m' ((c.tc : Thread Cert.ReferenceAdamInIdeal.nD Cert.ReferenceAdamInIdeal.τ).loc Cert.ReferenceAdamInIdeal.main_arg2) = m ((c.tc : Thread Cert.KernelAdamInIdeal.nD Cert.KernelAdamInIdeal.τ).loc Cert.KernelAdamInIdeal.main_arg2)
      ∧ m' ((c.tc : Thread Cert.ReferenceAdamInIdeal.nD Cert.ReferenceAdamInIdeal.τ).loc Cert.ReferenceAdamInIdeal.main_arg3) = m ((c.tc : Thread Cert.KernelAdamInIdeal.nD Cert.KernelAdamInIdeal.τ).loc Cert.KernelAdamInIdeal.main_arg3)
      ∧ m' ((c.tc : Thread Cert.ReferenceAdamInIdeal.nD Cert.ReferenceAdamInIdeal.τ).loc Cert.ReferenceAdamInIdeal.main_arg4) = m ((c.tc : Thread Cert.KernelAdamInIdeal.nD Cert.KernelAdamInIdeal.τ).loc Cert.KernelAdamInIdeal.main_arg4)
      ∧ m' ((c.tc : Thread Cert.ReferenceAdamInIdeal.nD Cert.ReferenceAdamInIdeal.τ).loc Cert.ReferenceAdamInIdeal.main_arg5) = m ((c.tc : Thread Cert.KernelAdamInIdeal.nD Cert.KernelAdamInIdeal.τ).loc Cert.KernelAdamInIdeal.main_arg5)) →
    ∃ (v0 : (c : Dev Cert.KernelAdamInIdeal.nD) → Buf (Elt Ideal) ((c.tc : Thread Cert.KernelAdamInIdeal.nD Cert.KernelAdamInIdeal.τ).loc Cert.KernelAdamInIdeal.main_v0_0)) (v1 : (c : Dev Cert.KernelAdamInIdeal.nD) → Buf (Elt Ideal) ((c.tc : Thread Cert.KernelAdamInIdeal.nD Cert.KernelAdamInIdeal.τ).loc Cert.KernelAdamInIdeal.main_v0_1)) (v2 : (c : Dev Cert.KernelAdamInIdeal.nD) → Buf (Elt Ideal) ((c.tc : Thread Cert.KernelAdamInIdeal.nD Cert.KernelAdamInIdeal.τ).loc Cert.KernelAdamInIdeal.main_v0_2)) (v3 : (c : Dev Cert.KernelAdamInIdeal.nD) → Buf (Elt Ideal) ((c.tc : Thread Cert.KernelAdamInIdeal.nD Cert.KernelAdamInIdeal.τ).loc Cert.KernelAdamInIdeal.main_v0_3)),
      θ_run (Cert.KernelAdamInIdeal.defs (F := Ideal)) (onTc (τ := Cert.KernelAdamInIdeal.τ) (Cert.KernelAdamInIdeal.main (F := Ideal))) ⟨m, fun _ => 0, g⟩ (fun r => ∀ c : Dev Cert.KernelAdamInIdeal.nD,
          r.2.mem ((c.tc : Thread Cert.KernelAdamInIdeal.nD Cert.KernelAdamInIdeal.τ).loc Cert.KernelAdamInIdeal.main_v0_0) = v0 c
          ∧ r.2.mem ((c.tc : Thread Cert.KernelAdamInIdeal.nD Cert.KernelAdamInIdeal.τ).loc Cert.KernelAdamInIdeal.main_v0_1) = v1 c
          ∧ r.2.mem ((c.tc : Thread Cert.KernelAdamInIdeal.nD Cert.KernelAdamInIdeal.τ).loc Cert.KernelAdamInIdeal.main_v0_2) = v2 c
          ∧ r.2.mem ((c.tc : Thread Cert.KernelAdamInIdeal.nD Cert.KernelAdamInIdeal.τ).loc Cert.KernelAdamInIdeal.main_v0_3) = v3 c
          ∧ r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
          ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
          ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
          ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3)
          ∧ r.2.mem ((c.tc : Thread Cert.KernelAdamInIdeal.nD Cert.KernelAdamInIdeal.τ).loc Cert.KernelAdamInIdeal.main_arg4) = m ((c.tc : Thread Cert.KernelAdamInIdeal.nD Cert.KernelAdamInIdeal.τ).loc Cert.KernelAdamInIdeal.main_arg4)
          ∧ r.2.mem ((c.tc : Thread Cert.KernelAdamInIdeal.nD Cert.KernelAdamInIdeal.τ).loc Cert.KernelAdamInIdeal.main_arg5) = m ((c.tc : Thread Cert.KernelAdamInIdeal.nD Cert.KernelAdamInIdeal.τ).loc Cert.KernelAdamInIdeal.main_arg5))
      ∧ θ_run (Cert.ReferenceAdamInIdeal.defs (F := Ideal)) (onTc (τ := Cert.ReferenceAdamInIdeal.τ) (Cert.ReferenceAdamInIdeal.main (F := Ideal))) ⟨m', fun _ => 0, g'⟩ (fun r => ∀ c : Dev Cert.ReferenceAdamInIdeal.nD,
          r.2.mem ((c.tc : Thread Cert.ReferenceAdamInIdeal.nD Cert.ReferenceAdamInIdeal.τ).loc Cert.ReferenceAdamInIdeal.main_v6) = v0 c
          ∧ r.2.mem ((c.tc : Thread Cert.ReferenceAdamInIdeal.nD Cert.ReferenceAdamInIdeal.τ).loc Cert.ReferenceAdamInIdeal.main_v30) = v1 c
          ∧ r.2.mem ((c.tc : Thread Cert.ReferenceAdamInIdeal.nD Cert.ReferenceAdamInIdeal.τ).loc Cert.ReferenceAdamInIdeal.main_v11) = v2 c
          ∧ r.2.mem ((c.tc : Thread Cert.ReferenceAdamInIdeal.nD Cert.ReferenceAdamInIdeal.τ).loc Cert.ReferenceAdamInIdeal.main_v17) = v3 c
          ∧ r.2.mem ((c.tc : Thread Cert.ReferenceAdamInIdeal.nD Cert.ReferenceAdamInIdeal.τ).loc Cert.ReferenceAdamInIdeal.main_arg0) = m' ((c.tc : Thread Cert.ReferenceAdamInIdeal.nD Cert.ReferenceAdamInIdeal.τ).loc Cert.ReferenceAdamInIdeal.main_arg0)
          ∧ r.2.mem ((c.tc : Thread Cert.ReferenceAdamInIdeal.nD Cert.ReferenceAdamInIdeal.τ).loc Cert.ReferenceAdamInIdeal.main_arg1) = m' ((c.tc : Thread Cert.ReferenceAdamInIdeal.nD Cert.ReferenceAdamInIdeal.τ).loc Cert.ReferenceAdamInIdeal.main_arg1)
          ∧ r.2.mem ((c.tc : Thread Cert.ReferenceAdamInIdeal.nD Cert.ReferenceAdamInIdeal.τ).loc Cert.ReferenceAdamInIdeal.main_arg2) = m' ((c.tc : Thread Cert.ReferenceAdamInIdeal.nD Cert.ReferenceAdamInIdeal.τ).loc Cert.ReferenceAdamInIdeal.main_arg2)
          ∧ r.2.mem ((c.tc : Thread Cert.ReferenceAdamInIdeal.nD Cert.ReferenceAdamInIdeal.τ).loc Cert.ReferenceAdamInIdeal.main_arg3) = m' ((c.tc : Thread Cert.ReferenceAdamInIdeal.nD Cert.ReferenceAdamInIdeal.τ).loc Cert.ReferenceAdamInIdeal.main_arg3)
          ∧ r.2.mem ((c.tc : Thread Cert.ReferenceAdamInIdeal.nD Cert.ReferenceAdamInIdeal.τ).loc Cert.ReferenceAdamInIdeal.main_arg4) = m' ((c.tc : Thread Cert.ReferenceAdamInIdeal.nD Cert.ReferenceAdamInIdeal.τ).loc Cert.ReferenceAdamInIdeal.main_arg4)
          ∧ r.2.mem ((c.tc : Thread Cert.ReferenceAdamInIdeal.nD Cert.ReferenceAdamInIdeal.τ).loc Cert.ReferenceAdamInIdeal.main_arg5) = m' ((c.tc : Thread Cert.ReferenceAdamInIdeal.nD Cert.ReferenceAdamInIdeal.τ).loc Cert.ReferenceAdamInIdeal.main_arg5))

def Claim : Prop :=
  ∃ (hKernel : Cert.Kernel.Facts) (hKernelIdeal : Cert.KernelIdeal.Facts) (hReferenceIdeal : Cert.ReferenceIdeal.Facts) (hKernelGwRest : Cert.KernelGwRest.Facts) (hKernelGwRestIdeal : Cert.KernelGwRestIdeal.Facts) (hReferenceGwRestIdeal : Cert.ReferenceGwRestIdeal.Facts) (hKernelGwSsd : Cert.KernelGwSsd.Facts) (hKernelGwSsdIdeal : Cert.KernelGwSsdIdeal.Facts) (hReferenceGwSsdIdeal : Cert.ReferenceGwSsdIdeal.Facts) (hKernelGwOs : Cert.KernelGwOs.Facts) (hKernelGwOsIdeal : Cert.KernelGwOsIdeal.Facts) (hReferenceGwOsIdeal : Cert.ReferenceGwOsIdeal.Facts) (hKernelGwO : Cert.KernelGwO.Facts) (hKernelGwOIdeal : Cert.KernelGwOIdeal.Facts) (hReferenceGwOIdeal : Cert.ReferenceGwOIdeal.Facts) (hKernelDhRest : Cert.KernelDhRest.Facts) (hKernelDhRestIdeal : Cert.KernelDhRestIdeal.Facts) (hReferenceDhRestIdeal : Cert.ReferenceDhRestIdeal.Facts) (hKernelDhSsd : Cert.KernelDhSsd.Facts) (hKernelDhSsdIdeal : Cert.KernelDhSsdIdeal.Facts) (hReferenceDhSsdIdeal : Cert.ReferenceDhSsdIdeal.Facts) (hKernelDgn : Cert.KernelDgn.Facts) (hKernelDgnIdeal : Cert.KernelDgnIdeal.Facts) (hReferenceDgnIdeal : Cert.ReferenceDgnIdeal.Facts) (hKernelDmerged : Cert.KernelDmerged.Facts) (hKernelDmergedIdeal : Cert.KernelDmergedIdeal.Facts) (hReferenceDmergedIdeal : Cert.ReferenceDmergedIdeal.Facts) (hKernelProjRest : Cert.KernelProjRest.Facts) (hKernelProjRestIdeal : Cert.KernelProjRestIdeal.Facts) (hReferenceProjRestIdeal : Cert.ReferenceProjRestIdeal.Facts) (hKernelProjSsd : Cert.KernelProjSsd.Facts) (hKernelProjSsdIdeal : Cert.KernelProjSsdIdeal.Facts) (hReferenceProjSsdIdeal : Cert.ReferenceProjSsdIdeal.Facts) (hKernelOutSsm : Cert.KernelOutSsm.Facts) (hKernelOutSsmIdeal : Cert.KernelOutSsmIdeal.Facts) (hReferenceOutSsmIdeal : Cert.ReferenceOutSsmIdeal.Facts) (hKernelOutConf : Cert.KernelOutConf.Facts) (hKernelOutConfIdeal : Cert.KernelOutConfIdeal.Facts) (hReferenceOutConfIdeal : Cert.ReferenceOutConfIdeal.Facts) (hKernelOutProj : Cert.KernelOutProj.Facts) (hKernelOutProjIdeal : Cert.KernelOutProjIdeal.Facts) (hReferenceOutProjIdeal : Cert.ReferenceOutProjIdeal.Facts) (hKernelMerge : Cert.KernelMerge.Facts) (hKernelMergeIdeal : Cert.KernelMergeIdeal.Facts) (hReferenceMergeIdeal : Cert.ReferenceMergeIdeal.Facts) (hKernelDgate : Cert.KernelDgate.Facts) (hKernelDgateIdeal : Cert.KernelDgateIdeal.Facts) (hReferenceDgateIdeal : Cert.ReferenceDgateIdeal.Facts) (hKernelAdamMod : Cert.KernelAdamMod.Facts) (hKernelAdamModIdeal : Cert.KernelAdamModIdeal.Facts) (hReferenceAdamModIdeal : Cert.ReferenceAdamModIdeal.Facts) (hKernelAdamRest : Cert.KernelAdamRest.Facts) (hKernelAdamRestIdeal : Cert.KernelAdamRestIdeal.Facts) (hReferenceAdamRestIdeal : Cert.ReferenceAdamRestIdeal.Facts) (hKernelAdamIn : Cert.KernelAdamIn.Facts) (hKernelAdamInIdeal : Cert.KernelAdamInIdeal.Facts) (hReferenceAdamInIdeal : Cert.ReferenceAdamInIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelGwRest (hKernelGwRest := hKernelGwRest)
    ∧ quiescent_KernelGwRestIdeal (hKernelGwRestIdeal := hKernelGwRestIdeal)
    ∧ quiescent_ReferenceGwRestIdeal (hReferenceGwRestIdeal := hReferenceGwRestIdeal)
    ∧ quiescent_KernelGwSsd (hKernelGwSsd := hKernelGwSsd)
    ∧ quiescent_KernelGwSsdIdeal (hKernelGwSsdIdeal := hKernelGwSsdIdeal)
    ∧ quiescent_ReferenceGwSsdIdeal (hReferenceGwSsdIdeal := hReferenceGwSsdIdeal)
    ∧ quiescent_KernelGwOs (hKernelGwOs := hKernelGwOs)
    ∧ quiescent_KernelGwOsIdeal (hKernelGwOsIdeal := hKernelGwOsIdeal)
    ∧ quiescent_ReferenceGwOsIdeal (hReferenceGwOsIdeal := hReferenceGwOsIdeal)
    ∧ quiescent_KernelGwO (hKernelGwO := hKernelGwO)
    ∧ quiescent_KernelGwOIdeal (hKernelGwOIdeal := hKernelGwOIdeal)
    ∧ quiescent_ReferenceGwOIdeal (hReferenceGwOIdeal := hReferenceGwOIdeal)
    ∧ quiescent_KernelDhRest (hKernelDhRest := hKernelDhRest)
    ∧ quiescent_KernelDhRestIdeal (hKernelDhRestIdeal := hKernelDhRestIdeal)
    ∧ quiescent_ReferenceDhRestIdeal (hReferenceDhRestIdeal := hReferenceDhRestIdeal)
    ∧ quiescent_KernelDhSsd (hKernelDhSsd := hKernelDhSsd)
    ∧ quiescent_KernelDhSsdIdeal (hKernelDhSsdIdeal := hKernelDhSsdIdeal)
    ∧ quiescent_ReferenceDhSsdIdeal (hReferenceDhSsdIdeal := hReferenceDhSsdIdeal)
    ∧ quiescent_KernelDgn (hKernelDgn := hKernelDgn)
    ∧ quiescent_KernelDgnIdeal (hKernelDgnIdeal := hKernelDgnIdeal)
    ∧ quiescent_ReferenceDgnIdeal (hReferenceDgnIdeal := hReferenceDgnIdeal)
    ∧ quiescent_KernelDmerged (hKernelDmerged := hKernelDmerged)
    ∧ quiescent_KernelDmergedIdeal (hKernelDmergedIdeal := hKernelDmergedIdeal)
    ∧ quiescent_ReferenceDmergedIdeal (hReferenceDmergedIdeal := hReferenceDmergedIdeal)
    ∧ quiescent_KernelProjRest (hKernelProjRest := hKernelProjRest)
    ∧ quiescent_KernelProjRestIdeal (hKernelProjRestIdeal := hKernelProjRestIdeal)
    ∧ quiescent_ReferenceProjRestIdeal (hReferenceProjRestIdeal := hReferenceProjRestIdeal)
    ∧ quiescent_KernelProjSsd (hKernelProjSsd := hKernelProjSsd)
    ∧ quiescent_KernelProjSsdIdeal (hKernelProjSsdIdeal := hKernelProjSsdIdeal)
    ∧ quiescent_ReferenceProjSsdIdeal (hReferenceProjSsdIdeal := hReferenceProjSsdIdeal)
    ∧ quiescent_KernelOutSsm (hKernelOutSsm := hKernelOutSsm)
    ∧ quiescent_KernelOutSsmIdeal (hKernelOutSsmIdeal := hKernelOutSsmIdeal)
    ∧ quiescent_ReferenceOutSsmIdeal (hReferenceOutSsmIdeal := hReferenceOutSsmIdeal)
    ∧ quiescent_KernelOutConf (hKernelOutConf := hKernelOutConf)
    ∧ quiescent_KernelOutConfIdeal (hKernelOutConfIdeal := hKernelOutConfIdeal)
    ∧ quiescent_ReferenceOutConfIdeal (hReferenceOutConfIdeal := hReferenceOutConfIdeal)
    ∧ quiescent_KernelOutProj (hKernelOutProj := hKernelOutProj)
    ∧ quiescent_KernelOutProjIdeal (hKernelOutProjIdeal := hKernelOutProjIdeal)
    ∧ quiescent_ReferenceOutProjIdeal (hReferenceOutProjIdeal := hReferenceOutProjIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelDgate (hKernelDgate := hKernelDgate)
    ∧ quiescent_KernelDgateIdeal (hKernelDgateIdeal := hKernelDgateIdeal)
    ∧ quiescent_ReferenceDgateIdeal (hReferenceDgateIdeal := hReferenceDgateIdeal)
    ∧ quiescent_KernelAdamMod (hKernelAdamMod := hKernelAdamMod)
    ∧ quiescent_KernelAdamModIdeal (hKernelAdamModIdeal := hKernelAdamModIdeal)
    ∧ quiescent_ReferenceAdamModIdeal (hReferenceAdamModIdeal := hReferenceAdamModIdeal)
    ∧ quiescent_KernelAdamRest (hKernelAdamRest := hKernelAdamRest)
    ∧ quiescent_KernelAdamRestIdeal (hKernelAdamRestIdeal := hKernelAdamRestIdeal)
    ∧ quiescent_ReferenceAdamRestIdeal (hReferenceAdamRestIdeal := hReferenceAdamRestIdeal)
    ∧ quiescent_KernelAdamIn (hKernelAdamIn := hKernelAdamIn)
    ∧ quiescent_KernelAdamInIdeal (hKernelAdamInIdeal := hKernelAdamInIdeal)
    ∧ quiescent_ReferenceAdamInIdeal (hReferenceAdamInIdeal := hReferenceAdamInIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelGwRest_KernelGwRestIdeal
    ∧ algebraic_KernelGwRestIdeal_ReferenceGwRestIdeal (hKernelGwRestIdeal := hKernelGwRestIdeal) (hReferenceGwRestIdeal := hReferenceGwRestIdeal)
    ∧ preserves_KernelGwSsd_KernelGwSsdIdeal
    ∧ algebraic_KernelGwSsdIdeal_ReferenceGwSsdIdeal (hKernelGwSsdIdeal := hKernelGwSsdIdeal) (hReferenceGwSsdIdeal := hReferenceGwSsdIdeal)
    ∧ preserves_KernelGwOs_KernelGwOsIdeal
    ∧ algebraic_KernelGwOsIdeal_ReferenceGwOsIdeal (hKernelGwOsIdeal := hKernelGwOsIdeal) (hReferenceGwOsIdeal := hReferenceGwOsIdeal)
    ∧ preserves_KernelGwO_KernelGwOIdeal
    ∧ algebraic_KernelGwOIdeal_ReferenceGwOIdeal (hKernelGwOIdeal := hKernelGwOIdeal) (hReferenceGwOIdeal := hReferenceGwOIdeal)
    ∧ preserves_KernelDhRest_KernelDhRestIdeal
    ∧ algebraic_KernelDhRestIdeal_ReferenceDhRestIdeal (hKernelDhRestIdeal := hKernelDhRestIdeal) (hReferenceDhRestIdeal := hReferenceDhRestIdeal)
    ∧ preserves_KernelDhSsd_KernelDhSsdIdeal
    ∧ algebraic_KernelDhSsdIdeal_ReferenceDhSsdIdeal (hKernelDhSsdIdeal := hKernelDhSsdIdeal) (hReferenceDhSsdIdeal := hReferenceDhSsdIdeal)
    ∧ preserves_KernelDgn_KernelDgnIdeal
    ∧ algebraic_KernelDgnIdeal_ReferenceDgnIdeal (hKernelDgnIdeal := hKernelDgnIdeal) (hReferenceDgnIdeal := hReferenceDgnIdeal)
    ∧ preserves_KernelDmerged_KernelDmergedIdeal
    ∧ algebraic_KernelDmergedIdeal_ReferenceDmergedIdeal (hKernelDmergedIdeal := hKernelDmergedIdeal) (hReferenceDmergedIdeal := hReferenceDmergedIdeal)
    ∧ preserves_KernelProjRest_KernelProjRestIdeal
    ∧ algebraic_KernelProjRestIdeal_ReferenceProjRestIdeal (hKernelProjRestIdeal := hKernelProjRestIdeal) (hReferenceProjRestIdeal := hReferenceProjRestIdeal)
    ∧ preserves_KernelProjSsd_KernelProjSsdIdeal
    ∧ algebraic_KernelProjSsdIdeal_ReferenceProjSsdIdeal (hKernelProjSsdIdeal := hKernelProjSsdIdeal) (hReferenceProjSsdIdeal := hReferenceProjSsdIdeal)
    ∧ preserves_KernelOutSsm_KernelOutSsmIdeal
    ∧ algebraic_KernelOutSsmIdeal_ReferenceOutSsmIdeal (hKernelOutSsmIdeal := hKernelOutSsmIdeal) (hReferenceOutSsmIdeal := hReferenceOutSsmIdeal)
    ∧ preserves_KernelOutConf_KernelOutConfIdeal
    ∧ algebraic_KernelOutConfIdeal_ReferenceOutConfIdeal (hKernelOutConfIdeal := hKernelOutConfIdeal) (hReferenceOutConfIdeal := hReferenceOutConfIdeal)
    ∧ preserves_KernelOutProj_KernelOutProjIdeal
    ∧ algebraic_KernelOutProjIdeal_ReferenceOutProjIdeal (hKernelOutProjIdeal := hKernelOutProjIdeal) (hReferenceOutProjIdeal := hReferenceOutProjIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelDgate_KernelDgateIdeal
    ∧ algebraic_KernelDgateIdeal_ReferenceDgateIdeal (hKernelDgateIdeal := hKernelDgateIdeal) (hReferenceDgateIdeal := hReferenceDgateIdeal)
    ∧ preserves_KernelAdamMod_KernelAdamModIdeal
    ∧ algebraic_KernelAdamModIdeal_ReferenceAdamModIdeal (hKernelAdamModIdeal := hKernelAdamModIdeal) (hReferenceAdamModIdeal := hReferenceAdamModIdeal)
    ∧ preserves_KernelAdamRest_KernelAdamRestIdeal
    ∧ algebraic_KernelAdamRestIdeal_ReferenceAdamRestIdeal (hKernelAdamRestIdeal := hKernelAdamRestIdeal) (hReferenceAdamRestIdeal := hReferenceAdamRestIdeal)
    ∧ preserves_KernelAdamIn_KernelAdamInIdeal
    ∧ algebraic_KernelAdamInIdeal_ReferenceAdamInIdeal (hKernelAdamInIdeal := hKernelAdamInIdeal) (hReferenceAdamInIdeal := hReferenceAdamInIdeal)
-- ==== Pre_finite.lean ====
abbrev S8448x4096 : Shape := ⟨2, ![8448, 4096]⟩
abbrev S8448x2x32 : Shape := ⟨3, ![8448, 2, 32]⟩
abbrev S2x32 : Shape := ⟨2, ![2, 32]⟩
abbrev S32 : Shape := ⟨1, ![32]⟩
abbrev S8448x2048 : Shape := ⟨2, ![8448, 2048]⟩
abbrev S66x128x2048 : Shape := ⟨3, ![66, 128, 2048]⟩
abbrev S_ : Shape := ⟨0, ![]⟩

class Facts : Prop where
  bcast_S_S8448x4096 : S_.BroadcastsInDim S8448x4096 (![] : Fin 0 → Fin S8448x4096.rank)
  reducesTo_S8448x4096_S_d0_1 : S8448x4096.ReducesTo [0, 1] S_
  h_S_ : 0 < S_.numel
  bcast_S_S8448x2x32 : S_.BroadcastsInDim S8448x2x32 (![] : Fin 0 → Fin S8448x2x32.rank)
  reducesTo_S8448x2x32_S_d0_1_2 : S8448x2x32.ReducesTo [0, 1, 2] S_
  bcast_S_S2x32 : S_.BroadcastsInDim S2x32 (![] : Fin 0 → Fin S2x32.rank)
  reducesTo_S2x32_S_d0_1 : S2x32.ReducesTo [0, 1] S_
  bcast_S_S8448x2048 : S_.BroadcastsInDim S8448x2048 (![] : Fin 0 → Fin S8448x2048.rank)
  reducesTo_S8448x2048_S_d0_1 : S8448x2048.ReducesTo [0, 1] S_
  bcast_S_S66x128x2048 : S_.BroadcastsInDim S66x128x2048 (![] : Fin 0 → Fin S66x128x2048.rank)
  reducesTo_S66x128x2048_S_d0_1_2 : S66x128x2048.ReducesTo [0, 1, 2] S_

variable [Facts]

def fn_part2 {F : FTy → Type} [FloatOps F] (main_arg8 : FVec F S66x128x2048 .bf16) (main_v33 : IVec S_ 1) : IVec S_ 1 :=
  let main_v34 : FVec F S66x128x2048 .bf16 := Host.absf main_arg8
  let main_cst_12 : FVec F S_ .bf16 := constant S_ .bf16 0x7F80#16
  let main_v35 : FVec F S66x128x2048 .bf16 := broadcastInDim S66x128x2048 ![] bcast_S_S66x128x2048 main_cst_12
  let main_v36 : IVec S66x128x2048 1 := cmpf .olt main_v34 main_v35
  let main_c_13 : IVec S_ 1 := constantI S_ 1 1#1
  let main_v37 : IVec S_ 1 := (fun x v => Host.reduce IntOp.andi x v reducesTo_S66x128x2048_S_d0_1_2 h_S_) main_v36 main_c_13
  let main_v38 : IVec S_ 1 := andi main_v33 main_v37
  main_v38

def fn_part1 {F : FTy → Type} [FloatOps F] (main_arg5 : FVec F S66x128x2048 .bf16) (main_arg6 : FVec F S66x128x2048 .bf16) (main_arg7 : FVec F S66x128x2048 .bf16) (main_arg8 : FVec F S66x128x2048 .bf16) (main_v13 : IVec S_ 1) (main_v16 : IVec S8448x2048 1) : IVec S_ 1 :=
  let main_c_5 : IVec S_ 1 := constantI S_ 1 1#1
  let main_v17 : IVec S_ 1 := (fun x v => Host.reduce IntOp.andi x v reducesTo_S8448x2048_S_d0_1 h_S_) main_v16 main_c_5
  let main_v18 : IVec S_ 1 := andi main_v13 main_v17
  let main_v19 : FVec F S66x128x2048 .bf16 := Host.absf main_arg5
  let main_cst_6 : FVec F S_ .bf16 := constant S_ .bf16 0x7F80#16
  let main_v20 : FVec F S66x128x2048 .bf16 := broadcastInDim S66x128x2048 ![] bcast_S_S66x128x2048 main_cst_6
  let main_v21 : IVec S66x128x2048 1 := cmpf .olt main_v19 main_v20
  let main_c_7 : IVec S_ 1 := constantI S_ 1 1#1
  let main_v22 : IVec S_ 1 := (fun x v => Host.reduce IntOp.andi x v reducesTo_S66x128x2048_S_d0_1_2 h_S_) main_v21 main_c_7
  let main_v23 : IVec S_ 1 := andi main_v18 main_v22
  let main_v24 : FVec F S66x128x2048 .bf16 := Host.absf main_arg6
  let main_cst_8 : FVec F S_ .bf16 := constant S_ .bf16 0x7F80#16
  let main_v25 : FVec F S66x128x2048 .bf16 := broadcastInDim S66x128x2048 ![] bcast_S_S66x128x2048 main_cst_8
  let main_v26 : IVec S66x128x2048 1 := cmpf .olt main_v24 main_v25
  let main_c_9 : IVec S_ 1 := constantI S_ 1 1#1
  let main_v27 : IVec S_ 1 := (fun x v => Host.reduce IntOp.andi x v reducesTo_S66x128x2048_S_d0_1_2 h_S_) main_v26 main_c_9
  let main_v28 : IVec S_ 1 := andi main_v23 main_v27
  let main_v29 : FVec F S66x128x2048 .bf16 := Host.absf main_arg7
  let main_cst_10 : FVec F S_ .bf16 := constant S_ .bf16 0x7F80#16
  let main_v30 : FVec F S66x128x2048 .bf16 := broadcastInDim S66x128x2048 ![] bcast_S_S66x128x2048 main_cst_10
  let main_v31 : IVec S66x128x2048 1 := cmpf .olt main_v29 main_v30
  let main_c_11 : IVec S_ 1 := constantI S_ 1 1#1
  let main_v32 : IVec S_ 1 := (fun x v => Host.reduce IntOp.andi x v reducesTo_S66x128x2048_S_d0_1_2 h_S_) main_v31 main_c_11
  let main_v33 : IVec S_ 1 := andi main_v28 main_v32
  fn_part2 (F := F) main_arg8 main_v33

def fn {F : FTy → Type} [FloatOps F] (main_arg0 : FVec F S8448x4096 .f32) (main_arg1 : FVec F S8448x2x32 .f32) (main_arg2 : FVec F S2x32 .f32) (main_arg3 : FVec F S32 .f32) (main_arg4 : FVec F S8448x2048 .bf16) (main_arg5 : FVec F S66x128x2048 .bf16) (main_arg6 : FVec F S66x128x2048 .bf16) (main_arg7 : FVec F S66x128x2048 .bf16) (main_arg8 : FVec F S66x128x2048 .bf16) : IVec S_ 1 :=
  let main_v0 : FVec F S8448x4096 .f32 := Host.absf main_arg0
  let main_cst : FVec F S_ .f32 := constant S_ .f32 0x7F800000#32
  let main_v1 : FVec F S8448x4096 .f32 := broadcastInDim S8448x4096 ![] bcast_S_S8448x4096 main_cst
  let main_v2 : IVec S8448x4096 1 := cmpf .olt main_v0 main_v1
  let main_c : IVec S_ 1 := constantI S_ 1 1#1
  let main_v3 : IVec S_ 1 := (fun x v => Host.reduce IntOp.andi x v reducesTo_S8448x4096_S_d0_1 h_S_) main_v2 main_c
  let main_v4 : FVec F S8448x2x32 .f32 := Host.absf main_arg1
  let main_cst_0 : FVec F S_ .f32 := constant S_ .f32 0x7F800000#32
  let main_v5 : FVec F S8448x2x32 .f32 := broadcastInDim S8448x2x32 ![] bcast_S_S8448x2x32 main_cst_0
  let main_v6 : IVec S8448x2x32 1 := cmpf .olt main_v4 main_v5
  let main_c_1 : IVec S_ 1 := constantI S_ 1 1#1
  let main_v7 : IVec S_ 1 := (fun x v => Host.reduce IntOp.andi x v reducesTo_S8448x2x32_S_d0_1_2 h_S_) main_v6 main_c_1
  let main_v8 : IVec S_ 1 := andi main_v3 main_v7
  let main_v9 : FVec F S2x32 .f32 := Host.absf main_arg2
  let main_cst_2 : FVec F S_ .f32 := constant S_ .f32 0x7F800000#32
  let main_v10 : FVec F S2x32 .f32 := broadcastInDim S2x32 ![] bcast_S_S2x32 main_cst_2
  let main_v11 : IVec S2x32 1 := cmpf .olt main_v9 main_v10
  let main_c_3 : IVec S_ 1 := constantI S_ 1 1#1
  let main_v12 : IVec S_ 1 := (fun x v => Host.reduce IntOp.andi x v reducesTo_S2x32_S_d0_1 h_S_) main_v11 main_c_3
  let main_v13 : IVec S_ 1 := andi main_v8 main_v12
  let main_v14 : FVec F S8448x2048 .bf16 := Host.absf main_arg4
  let main_cst_4 : FVec F S_ .bf16 := constant S_ .bf16 0x7F80#16
  let main_v15 : FVec F S8448x2048 .bf16 := broadcastInDim S8448x2048 ![] bcast_S_S8448x2048 main_cst_4
  let main_v16 : IVec S8448x2048 1 := cmpf .olt main_v14 main_v15
  fn_part1 (F := F) main_arg5 main_arg6 main_arg7 main_arg8 main_v13 main_v16
-- ==== Kernel.lean ====
abbrev S8448x4096 : Shape := ⟨2, ![8448, 4096]⟩
abbrev S8448x2x32 : Shape := ⟨3, ![8448, 2, 32]⟩
abbrev S2x32 : Shape := ⟨2, ![2, 32]⟩
abbrev S32 : Shape := ⟨1, ![32]⟩
abbrev S8448x2048 : Shape := ⟨2, ![8448, 2048]⟩
abbrev S66x128x2048 : Shape := ⟨3, ![66, 128, 2048]⟩
abbrev S1x64 : Shape := ⟨2, ![1, 64]⟩
abbrev S1x2x8x4 : Shape := ⟨4, ![1, 2, 8, 4]⟩
abbrev S1x8x2x4 : Shape := ⟨4, ![1, 8, 2, 4]⟩
abbrev S8x8 : Shape := ⟨2, ![8, 8]⟩
abbrev S_ : Shape := ⟨0, ![]⟩
abbrev S8x128 : Shape := ⟨2, ![8, 128]⟩
abbrev S32x64 : Shape := ⟨2, ![32, 64]⟩
abbrev S2048 : Shape := ⟨1, ![2048]⟩
abbrev S1x2048 : Shape := ⟨2, ![1, 2048]⟩
abbrev S1x2x32 : Shape := ⟨3, ![1, 2, 32]⟩
abbrev S66x128x2x32 : Shape := ⟨4, ![66, 128, 2, 32]⟩
abbrev S66x128x1x32 : Shape := ⟨4, ![66, 128, 1, 32]⟩
abbrev S66x128x32 : Shape := ⟨3, ![66, 128, 32]⟩
abbrev S8448x64 : Shape := ⟨2, ![8448, 64]⟩
abbrev S8448x2x8x4 : Shape := ⟨4, ![8448, 2, 8, 4]⟩
abbrev S8448x8x2x4 : Shape := ⟨4, ![8448, 8, 2, 4]⟩
abbrev S8448x8x8 : Shape := ⟨3, ![8448, 8, 8]⟩
abbrev S8x8448x8 : Shape := ⟨3, ![8, 8448, 8]⟩
abbrev S8x8448x128 : Shape := ⟨3, ![8, 8448, 128]⟩
abbrev S64x8448 : Shape := ⟨2, ![64, 8448]⟩
abbrev S8448x1024 : Shape := ⟨2, ![8448, 1024]⟩
abbrev S8x8x128 : Shape := ⟨3, ![8, 8, 128]⟩
abbrev S128x256 : Shape := ⟨2, ![128, 256]⟩
abbrev S128x128 : Shape := ⟨2, ![128, 128]⟩
abbrev S1x256 : Shape := ⟨2, ![1, 256]⟩
abbrev S1x128x128 : Shape := ⟨3, ![1, 128, 128]⟩
abbrev S1x128x256 : Shape := ⟨3, ![1, 128, 256]⟩
abbrev S1x8x128 : Shape := ⟨3, ![1, 8, 128]⟩
abbrev S1x128 : Shape := ⟨2, ![1, 128]⟩
abbrev S256x128 : Shape := ⟨2, ![256, 128]⟩
abbrev S256 : Shape := ⟨1, ![256]⟩
abbrev S8x256 : Shape := ⟨2, ![8, 256]⟩
abbrev S128 : Shape := ⟨1, ![128]⟩
abbrev S256x256 : Shape := ⟨2, ![256, 256]⟩
abbrev S128x1 : Shape := ⟨2, ![128, 1]⟩

abbrev nBuf : Space → Nat
  | .hbm => 68
  | .vmem => 37
  | .smem => 0
  | _ => 0

abbrev bufTy : (tb : Table) → Fin (tcTables nBuf tb) → BufTy
  | .hbm, ⟨0, _⟩ => ⟨S8448x4096, .f32⟩
  | .hbm, ⟨1, _⟩ => ⟨S8448x2x32, .f32⟩
  | .hbm, ⟨2, _⟩ => ⟨S2x32, .f32⟩
  | .hbm, ⟨3, _⟩ => ⟨S32, .f32⟩
  | .hbm, ⟨4, _⟩ => ⟨S8448x2048, .bf16⟩
  | .hbm, ⟨5, _⟩ => ⟨S66x128x2048, .bf16⟩
  | .hbm, ⟨6, _⟩ => ⟨S66x128x2048, .bf16⟩
  | .hbm, ⟨7, _⟩ => ⟨S66x128x2048, .bf16⟩
  | .hbm, ⟨8, _⟩ => ⟨S66x128x2048, .bf16⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S1x2x8x4, .f32⟩
  | .hbm, ⟨13, _⟩ => ⟨S1x8x2x4, .f32⟩
  | .hbm, ⟨14, _⟩ => ⟨S1x64, .f32⟩
  | .hbm, ⟨15, _⟩ => ⟨S8x8, .f32⟩
  | .hbm, ⟨16, _⟩ => ⟨S_, .i32⟩
  | .hbm, ⟨17, _⟩ => ⟨S_, .f32⟩
  | .hbm, ⟨18, _⟩ => ⟨S8x128, .f32⟩
  | .hbm, ⟨19, _⟩ => ⟨S32x64, .f32⟩
  | .hbm, ⟨20, _⟩ => ⟨S2048, .f32⟩
  | .hbm, ⟨21, _⟩ => ⟨S1x2048, .f32⟩
  | .hbm, ⟨22, _⟩ => ⟨S2x32, .f32⟩
  | .hbm, ⟨23, _⟩ => ⟨S2x32, .f32⟩
  | .hbm, ⟨24, _⟩ => ⟨S1x2x32, .f32⟩
  | .hbm, ⟨25, _⟩ => ⟨S8448x2x32, .f32⟩
  | .hbm, ⟨26, _⟩ => ⟨S8448x2x32, .f32⟩
  | .hbm, ⟨27, _⟩ => ⟨S66x128x2x32, .f32⟩
  | .hbm, ⟨28, _⟩ => ⟨S66x128x1x32, .f32⟩
  | .hbm, ⟨29, _⟩ => ⟨S66x128x32, .f32⟩
  | .hbm, ⟨30, _⟩ => ⟨S_, .f32⟩
  | .hbm, ⟨31, _⟩ => ⟨S_, .f32⟩
  | .hbm, ⟨32, _⟩ => ⟨S66x128x32, .f32⟩
  | .hbm, ⟨33, _⟩ => ⟨S66x128x1x32, .f32⟩
  | .hbm, ⟨34, _⟩ => ⟨S66x128x32, .f32⟩
  | .hbm, ⟨35, _⟩ => ⟨S66x128x32, .f32⟩
  | .hbm, ⟨36, _⟩ => ⟨S_, .f32⟩
  | .hbm, ⟨37, _⟩ => ⟨S_, .f32⟩
  | .hbm, ⟨38, _⟩ => ⟨S66x128x32, .f32⟩
  | .hbm, ⟨39, _⟩ => ⟨S66x128x32, .f32⟩
  | .hbm, ⟨40, _⟩ => ⟨S66x128x1x32, .f32⟩
  | .hbm, ⟨41, _⟩ => ⟨S66x128x1x32, .f32⟩
  | .hbm, ⟨42, _⟩ => ⟨S66x128x2x32, .f32⟩
  | .hbm, ⟨43, _⟩ => ⟨S8448x64, .f32⟩
  | .hbm, ⟨44, _⟩ => ⟨S8448x2x8x4, .f32⟩
  | .hbm, ⟨45, _⟩ => ⟨S8448x8x2x4, .f32⟩
  | .hbm, ⟨46, _⟩ => ⟨S8448x64, .f32⟩
  | .hbm, ⟨47, _⟩ => ⟨S8448x64, .f32⟩
  | .hbm, ⟨48, _⟩ => ⟨S8448x2x8x4, .f32⟩
  | .hbm, ⟨49, _⟩ => ⟨S8448x8x2x4, .f32⟩
  | .hbm, ⟨50, _⟩ => ⟨S8448x64, .f32⟩
  | .hbm, ⟨51, _⟩ => ⟨S8448x8x8, .f32⟩
  | .hbm, ⟨52, _⟩ => ⟨S8x8448x8, .f32⟩
  | .hbm, ⟨53, _⟩ => ⟨S_, .i32⟩
  | .hbm, ⟨54, _⟩ => ⟨S_, .f32⟩
  | .hbm, ⟨55, _⟩ => ⟨S8x8448x128, .f32⟩
  | .hbm, ⟨56, _⟩ => ⟨S8448x8x8, .f32⟩
  | .hbm, ⟨57, _⟩ => ⟨S8x8448x8, .f32⟩
  | .hbm, ⟨58, _⟩ => ⟨S_, .i32⟩
  | .hbm, ⟨59, _⟩ => ⟨S_, .f32⟩
  | .hbm, ⟨60, _⟩ => ⟨S8x8448x128, .f32⟩
  | .hbm, ⟨61, _⟩ => ⟨S64x8448, .f32⟩
  | .hbm, ⟨62, _⟩ => ⟨S64x8448, .f32⟩
  | .hbm, ⟨63, _⟩ => ⟨S8448x2048, .f32⟩
  | .hbm, ⟨64, _⟩ => ⟨S8448x1024, .f32⟩
  | .hbm, ⟨65, _⟩ => ⟨S8448x1024, .f32⟩
  | .hbm, ⟨66, _⟩ => ⟨S8x8448x128, .f32⟩
  | .hbm, ⟨67, _⟩ => ⟨S8x8x128, .f32⟩
  | .local _ .vmem, ⟨0, _⟩ => ⟨S128x256, .f32⟩
  | .local _ .vmem, ⟨1, _⟩ => ⟨S128x256, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x256, .bf16⟩
  | .local _ .vmem, ⟨7, _⟩ => ⟨S128x256, .bf16⟩
  | .local _ .vmem, ⟨8, _⟩ => ⟨S1x256, .f32⟩
  | .local _ .vmem, ⟨9, _⟩ => ⟨S1x256, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S8x128, .f32⟩
  | .local _ .vmem, ⟨15, _⟩ => ⟨S8x128, .f32⟩
  | .local _ .vmem, ⟨16, _⟩ => ⟨S8x128, .f32⟩
  | .local _ .vmem, ⟨17, _⟩ => ⟨S8x128, .f32⟩
  | .local _ .vmem, ⟨18, _⟩ => ⟨S1x128x256, .bf16⟩
  | .local _ .vmem, ⟨19, _⟩ => ⟨S1x128x256, .bf16⟩
  | .local _ .vmem, ⟨20, _⟩ => ⟨S1x128x256, .bf16⟩
  | .local _ .vmem, ⟨21, _⟩ => ⟨S1x128x256, .bf16⟩
  | .local _ .vmem, ⟨22, _⟩ => ⟨S1x128x256, .bf16⟩
  | .local _ .vmem, ⟨23, _⟩ => ⟨S1x128x256, .bf16⟩
  | .local _ .vmem, ⟨24, _⟩ => ⟨S1x128x256, .bf16⟩
  | .local _ .vmem, ⟨25, _⟩ => ⟨S1x128x256, .bf16⟩
  | .local _ .vmem, ⟨26, _⟩ => ⟨S8x128, .f32⟩
  | .local _ .vmem, ⟨27, _⟩ => ⟨S128x256, .f32⟩
  | .local _ .vmem, ⟨28, _⟩ => ⟨S128x256, .f32⟩
  | .local _ .vmem, ⟨29, _⟩ => ⟨S128x128, .f32⟩
  | .local _ .vmem, ⟨30, _⟩ => ⟨S128x128, .f32⟩
  | .local _ .vmem, ⟨31, _⟩ => ⟨S128x128, .f32⟩
  | .local _ .vmem, ⟨32, _⟩ => ⟨S128x128, .f32⟩
  | .local _ .vmem, ⟨33, _⟩ => ⟨S1x128x128, .f32⟩
  | .local _ .vmem, ⟨34, _⟩ => ⟨S1x128x128, .f32⟩
  | .local _ .vmem, ⟨35, _⟩ => ⟨S1x8x128, .f32⟩
  | .local _ .vmem, ⟨36, _⟩ => ⟨S1x8x128, .f32⟩
  | _, _ => ⟨S8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_call0_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call1_call0_cst : Ref sig .tc := ⟨.hbm, 30, rfl⟩
abbrev main_call1_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call3_call0_cst : Ref sig .tc := ⟨.hbm, 36, rfl⟩
abbrev main_call3_call0_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_0 : Ref sig .tc := ⟨.hbm, 53, rfl⟩
abbrev main_call5_v0 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_1 : Ref sig .tc := ⟨.hbm, 58, rfl⟩
abbrev main_call6_v0 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44_0 : Ref sig .tc := ⟨.hbm, 63, rfl⟩
abbrev main_v44_1 : Ref sig .tc := ⟨.hbm, 64, rfl⟩
abbrev main_v44_2 : Ref sig .tc := ⟨.hbm, 65, rfl⟩
abbrev main_v44_3 : Ref sig .tc := ⟨.hbm, 66, rfl⟩
abbrev main_v44_4 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36

abbrev nD : Nat := 1
abbrev τ : Topo := Topo.v7x

variable {F : FTy → Type} [FloatOps F]

abbrev grid0 : Pipeline.Grid := ⟨2, ![8, 66], ![false, false]⟩

def k0_off1 (i : grid0.Coords) : Fin 2 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let v752 : Index := Scalar.indexCast v4
  let c0_191 : Index := 0#32
  ![v752.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== ReferenceIdeal.lean ====
abbrev S8448x4096 : Shape := ⟨2, ![8448, 4096]⟩
abbrev S8448x2x32 : Shape := ⟨3, ![8448, 2, 32]⟩
abbrev S2x32 : Shape := ⟨2, ![2, 32]⟩
abbrev S32 : Shape := ⟨1, ![32]⟩
abbrev S8448x2048 : Shape := ⟨2, ![8448, 2048]⟩
abbrev S66x128x2048 : Shape := ⟨3, ![66, 128, 2048]⟩
abbrev S8448x1024 : Shape := ⟨2, ![8448, 1024]⟩
abbrev S66x128x8x4x64 : Shape := ⟨5, ![66, 128, 8, 4, 64]⟩
abbrev S66x8x4x64x128 : Shape := ⟨5, ![66, 8, 4, 64, 128]⟩
abbrev S66x128x8x128 : Shape := ⟨4, ![66, 128, 8, 128]⟩
abbrev S66x128x2x8x4 : Shape := ⟨5, ![66, 128, 2, 8, 4]⟩
abbrev S2x8x4 : Shape := ⟨3, ![2, 8, 4]⟩
abbrev S66x128x1x8x4 : Shape := ⟨5, ![66, 128, 1, 8, 4]⟩
abbrev S66x128x8x4 : Shape := ⟨4, ![66, 128, 8, 4]⟩
abbrev S1x8x4 : Shape := ⟨3, ![1, 8, 4]⟩
abbrev S8x4 : Shape := ⟨2, ![8, 4]⟩
abbrev S1x1x8x4 : Shape := ⟨4, ![1, 1, 8, 4]⟩
abbrev S_ : Shape := ⟨0, ![]⟩
abbrev S66x1x8x4 : Shape := ⟨4, ![66, 1, 8, 4]⟩
abbrev S66x128x8x4x1 : Shape := ⟨5, ![66, 128, 8, 4, 1]⟩
abbrev S66x8x4 : Shape := ⟨3, ![66, 8, 4]⟩
abbrev S66x8x4x1x1 : Shape := ⟨5, ![66, 8, 4, 1, 1]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128x1x1 : Shape := ⟨5, ![1, 128, 128, 1, 1]⟩
abbrev S66x1x128x8x4 : Shape := ⟨5, ![66, 1, 128, 8, 4]⟩
abbrev S66x128x128x8x4 : Shape := ⟨5, ![66, 128, 128, 8, 4]⟩
abbrev S66x8x128x128 : Shape := ⟨4, ![66, 8, 128, 128]⟩
abbrev S66x128x128x8 : Shape := ⟨4, ![66, 128, 128, 8]⟩
abbrev S66x128x128x8x1 : Shape := ⟨5, ![66, 128, 128, 8, 1]⟩
abbrev S8x4x1 : Shape := ⟨3, ![8, 4, 1]⟩
abbrev S1x1x8x4x1 : Shape := ⟨5, ![1, 1, 8, 4, 1]⟩
abbrev S66x8x4x128x128 : Shape := ⟨5, ![66, 8, 4, 128, 128]⟩
abbrev S8448x2x8x4 : Shape := ⟨4, ![8448, 2, 8, 4]⟩
abbrev S8x8448x2x4 : Shape := ⟨4, ![8, 8448, 2, 4]⟩
abbrev S8x8448x8 : Shape := ⟨3, ![8, 8448, 8]⟩
abbrev S8x2x4 : Shape := ⟨3, ![8, 2, 4]⟩
abbrev S8x8 : Shape := ⟨2, ![8, 8]⟩
abbrev S8x8448x128 : Shape := ⟨3, ![8, 8448, 128]⟩
abbrev S8x128 : Shape := ⟨2, ![8, 128]⟩
abbrev S8x1x128 : Shape := ⟨3, ![8, 1, 128]⟩
abbrev S8x8x128 : Shape := ⟨3, ![8, 8, 128]⟩

abbrev nBuf : Space → Nat
  | .hbm => 427
  | .vmem => 0
  | .smem => 0
  | _ => 0

abbrev hbmTy0_0 (i : Nat) : BufTy := match i % 128 with
  | 0 => ⟨S8448x4096, .f32⟩
  | 1 => ⟨S8448x2x32, .f32⟩
  | 2 => ⟨S2x32, .f32⟩
  | 3 => ⟨S32, .f32⟩
  | 4 => ⟨S8448x2048, .bf16⟩
  | 5 => ⟨S66x128x2048, .bf16⟩
  | 6 => ⟨S66x128x2048, .bf16⟩
  | 7 => ⟨S66x128x2048, .bf16⟩
  | 8 => ⟨S66x128x2048, .bf16⟩
  | 9 => ⟨S8448x2048, .f32⟩
  | 10 => ⟨S8448x1024, .f32⟩
  | 11 => ⟨S8448x1024, .f32⟩
  | 12 => ⟨S66x128x2048, .f32⟩
  | 13 => ⟨S66x128x8x4x64, .f32⟩
  | 14 => ⟨S66x8x4x64x128, .f32⟩
  | 15 => ⟨S66x128x2048, .f32⟩
  | 16 => ⟨S66x128x8x4x64, .f32⟩
  | 17 => ⟨S66x8x4x64x128, .f32⟩
  | 18 => ⟨S66x128x8x4x64, .f32⟩
  | 19 => ⟨S66x128x8x128, .f32⟩
  | 20 => ⟨S66x128x8x128, .f32⟩
  | 21 => ⟨S66x128x2x8x4, .f32⟩
  | 22 => ⟨S2x32, .f32⟩
  | 23 => ⟨S2x8x4, .f32⟩
  | 24 => ⟨S2x8x4, .f32⟩
  | 25 => ⟨S66x128x1x8x4, .f32⟩
  | 26 => ⟨S66x128x8x4, .f32⟩
  | 27 => ⟨S1x8x4, .f32⟩
  | 28 => ⟨S8x4, .f32⟩
  | 29 => ⟨S1x1x8x4, .f32⟩
  | 30 => ⟨S66x128x8x4, .f32⟩
  | 31 => ⟨S66x128x8x4, .f32⟩
  | 32 => ⟨S_, .f32⟩
  | 33 => ⟨S_, .f32⟩
  | 34 => ⟨S66x128x8x4, .f32⟩
  | 35 => ⟨S66x1x8x4, .f32⟩
  | 36 => ⟨S66x128x8x4, .f32⟩
  | 37 => ⟨S66x128x8x4, .f32⟩
  | 38 => ⟨S66x128x8x4, .f32⟩
  | 39 => ⟨S66x128x8x4, .f32⟩
  | 40 => ⟨S66x128x8x4x1, .f32⟩
  | 41 => ⟨S66x128x8x4x64, .f32⟩
  | 42 => ⟨S66x128x8x4x64, .f32⟩
  | 43 => ⟨S66x8x4x64x128, .f32⟩
  | 44 => ⟨S66x1x8x4, .f32⟩
  | 45 => ⟨S66x8x4, .f32⟩
  | 46 => ⟨S66x8x4, .f32⟩
  | 47 => ⟨S66x8x4x1x1, .f32⟩
  | 48 => ⟨S66x8x4x64x128, .f32⟩
  | 49 => ⟨S66x8x4x64x128, .f32⟩
  | 50 => ⟨S66x8x4x64x128, .f32⟩
  | 51 => ⟨S128, .i32⟩
  | 52 => ⟨S128x1, .i32⟩
  | 53 => ⟨S1x128, .i32⟩
  | 54 => ⟨S128x128, .i32⟩
  | 55 => ⟨S128x128, .i32⟩
  | 56 => ⟨S128x128, .i1⟩
  | 57 => ⟨S1x128x128x1x1, .i1⟩
  | 58 => ⟨S66x128x1x8x4, .f32⟩
  | 59 => ⟨S66x1x128x8x4, .f32⟩
  | 60 => ⟨S66x128x128x8x4, .f32⟩
  | 61 => ⟨S66x128x128x8x4, .f32⟩
  | 62 => ⟨S66x128x128x8x4, .f32⟩
  | 63 => ⟨S_, .f32⟩
  | 64 => ⟨S_, .f32⟩
  | 65 => ⟨S66x128x128x8x4, .i1⟩
  | 66 => ⟨S66x128x128x8x4, .f32⟩
  | 67 => ⟨S66x128x128x8x4, .f32⟩
  | 68 => ⟨S_, .f32⟩
  | 69 => ⟨S66x128x128x8x4, .f32⟩
  | 70 => ⟨S66x128x128x8x4, .f32⟩
  | 71 => ⟨S66x8x128x128, .f32⟩
  | 72 => ⟨S66x128x128x8, .f32⟩
  | 73 => ⟨S66x128x128x8x1, .f32⟩
  | 74 => ⟨S66x128x128x8x4, .f32⟩
  | 75 => ⟨S66x128x128x8x4, .f32⟩
  | 76 => ⟨S66x1x128x8x4, .f32⟩
  | 77 => ⟨S66x128x128x8x4, .f32⟩
  | 78 => ⟨S66x128x128x8x4, .f32⟩
  | 79 => ⟨S66x8x4x64x128, .f32⟩
  | 80 => ⟨S66x128x8x4x64, .f32⟩
  | 81 => ⟨S66x8x4x64x128, .f32⟩
  | 82 => ⟨S66x128x8x4x64, .f32⟩
  | 83 => ⟨S66x128x8x4, .f32⟩
  | 84 => ⟨S66x128x8x4x1, .f32⟩
  | 85 => ⟨S66x128x8x4x64, .f32⟩
  | 86 => ⟨S66x128x8x4x64, .f32⟩
  | 87 => ⟨S66x128x8x4x64, .f32⟩
  | 88 => ⟨S66x128x8x4x64, .f32⟩
  | 89 => ⟨S66x128x1x8x4, .f32⟩
  | 90 => ⟨S66x128x8x4, .f32⟩
  | 91 => ⟨S66x128x8x4, .f32⟩
  | 92 => ⟨S1x8x4, .f32⟩
  | 93 => ⟨S8x4, .f32⟩
  | 94 => ⟨S66x128x8x128, .f32⟩
  | 95 => ⟨S66x128x8x128, .f32⟩
  | 96 => ⟨S1x1x8x4, .f32⟩
  | 97 => ⟨S66x128x8x4, .f32⟩
  | 98 => ⟨S66x128x8x4, .f32⟩
  | 99 => ⟨S_, .f32⟩
  | 100 => ⟨S_, .f32⟩
  | 101 => ⟨S66x128x8x4, .f32⟩
  | 102 => ⟨S66x1x8x4, .f32⟩
  | 103 => ⟨S66x128x8x4, .f32⟩
  | 104 => ⟨S66x128x8x4, .f32⟩
  | 105 => ⟨S66x128x8x4, .f32⟩
  | 106 => ⟨S66x128x8x4, .f32⟩
  | 107 => ⟨S66x128x8x4x1, .f32⟩
  | 108 => ⟨S66x128x8x4x64, .f32⟩
  | 109 => ⟨S66x128x8x4x64, .f32⟩
  | 110 => ⟨S66x8x4x64x128, .f32⟩
  | 111 => ⟨S66x1x8x4, .f32⟩
  | 112 => ⟨S66x8x4, .f32⟩
  | 113 => ⟨S66x8x4, .f32⟩
  | 114 => ⟨S66x8x4x1x1, .f32⟩
  | 115 => ⟨S66x8x4x64x128, .f32⟩
  | 116 => ⟨S66x8x4x64x128, .f32⟩
  | 117 => ⟨S66x8x4x64x128, .f32⟩
  | 118 => ⟨S128, .i32⟩
  | 119 => ⟨S128x1, .i32⟩
  | 120 => ⟨S1x128, .i32⟩
  | 121 => ⟨S128x128, .i32⟩
  | 122 => ⟨S128x128, .i32⟩
  | 123 => ⟨S128x128, .i1⟩
  | 124 => ⟨S1x128x128x1x1, .i1⟩
  | 125 => ⟨S66x128x1x8x4, .f32⟩
  | 126 => ⟨S66x1x128x8x4, .f32⟩
  | 127 => ⟨S66x128x128x8x4, .f32⟩
  | _ => ⟨S8448x4096, .f32⟩

abbrev hbmTy0_1 (i : Nat) : BufTy := match i % 128 with
  | 0 => ⟨S66x128x128x8x4, .f32⟩
  | 1 => ⟨S66x128x128x8x4, .f32⟩
  | 2 => ⟨S_, .f32⟩
  | 3 => ⟨S_, .f32⟩
  | 4 => ⟨S66x128x128x8x4, .i1⟩
  | 5 => ⟨S66x128x128x8x4, .f32⟩
  | 6 => ⟨S66x128x128x8x4, .f32⟩
  | 7 => ⟨S_, .f32⟩
  | 8 => ⟨S66x128x128x8x4, .f32⟩
  | 9 => ⟨S66x128x128x8x4, .f32⟩
  | 10 => ⟨S66x8x128x128, .f32⟩
  | 11 => ⟨S66x128x128x8, .f32⟩
  | 12 => ⟨S66x128x128x8x1, .f32⟩
  | 13 => ⟨S66x128x128x8x4, .f32⟩
  | 14 => ⟨S66x128x128x8x4, .f32⟩
  | 15 => ⟨S66x1x128x8x4, .f32⟩
  | 16 => ⟨S66x128x128x8x4, .f32⟩
  | 17 => ⟨S66x128x128x8x4, .f32⟩
  | 18 => ⟨S66x8x4x64x128, .f32⟩
  | 19 => ⟨S66x128x8x4x64, .f32⟩
  | 20 => ⟨S66x8x4x64x128, .f32⟩
  | 21 => ⟨S66x128x8x4x64, .f32⟩
  | 22 => ⟨S66x128x8x4, .f32⟩
  | 23 => ⟨S66x128x8x4x1, .f32⟩
  | 24 => ⟨S66x128x8x4x64, .f32⟩
  | 25 => ⟨S66x128x8x4x64, .f32⟩
  | 26 => ⟨S66x128x8x4x64, .f32⟩
  | 27 => ⟨S66x128x8x4x64, .f32⟩
  | 28 => ⟨S66x128x8x4x64, .f32⟩
  | 29 => ⟨S8x4x1, .f32⟩
  | 30 => ⟨S1x1x8x4x1, .f32⟩
  | 31 => ⟨S66x128x8x4x64, .f32⟩
  | 32 => ⟨S66x128x8x4x64, .f32⟩
  | 33 => ⟨S66x128x8x4x64, .f32⟩
  | 34 => ⟨S8448x2048, .f32⟩
  | 35 => ⟨S8448x2048, .f32⟩
  | 36 => ⟨S66x128x2048, .f32⟩
  | 37 => ⟨S66x128x8x4x64, .f32⟩
  | 38 => ⟨S66x8x4x64x128, .f32⟩
  | 39 => ⟨S66x128x2048, .f32⟩
  | 40 => ⟨S66x128x8x4x64, .f32⟩
  | 41 => ⟨S66x8x4x64x128, .f32⟩
  | 42 => ⟨S66x128x8x4x64, .f32⟩
  | 43 => ⟨S66x128x8x4x64, .f32⟩
  | 44 => ⟨S66x128x8x4x64, .f32⟩
  | 45 => ⟨S66x128x8x4x64, .f32⟩
  | 46 => ⟨S66x128x8x4x64, .f32⟩
  | 47 => ⟨S_, .f32⟩
  | 48 => ⟨S66x128x8x4, .f32⟩
  | 49 => ⟨S66x128x8x4x1, .f32⟩
  | 50 => ⟨S66x128x8x4x64, .f32⟩
  | 51 => ⟨S66x128x8x4x64, .f32⟩
  | 52 => ⟨S_, .f32⟩
  | 53 => ⟨S66x128x8x4, .f32⟩
  | 54 => ⟨S66x128x8x4, .f32⟩
  | 55 => ⟨S66x8x4x64x128, .f32⟩
  | 56 => ⟨S66x8x128x128, .f32⟩
  | 57 => ⟨S66x128x8x128, .f32⟩
  | 58 => ⟨S66x8x4x64x128, .f32⟩
  | 59 => ⟨S66x8x4x128x128, .f32⟩
  | 60 => ⟨S66x128x128x8x4, .f32⟩
  | 61 => ⟨S66x8x4x64x128, .f32⟩
  | 62 => ⟨S66x128x8x4x64, .f32⟩
  | 63 => ⟨S66x128x128x8x4, .f32⟩
  | 64 => ⟨S_, .f32⟩
  | 65 => ⟨S66x128x8x4, .f32⟩
  | 66 => ⟨S66x1x128x8x4, .f32⟩
  | 67 => ⟨S66x128x128x8x4, .f32⟩
  | 68 => ⟨S66x128x128x8x4, .f32⟩
  | 69 => ⟨S_, .f32⟩
  | 70 => ⟨S66x128x8x4, .f32⟩
  | 71 => ⟨S66x128x128x8x4, .f32⟩
  | 72 => ⟨S66x128x128x8x4, .f32⟩
  | 73 => ⟨S66x128x128x8x4, .f32⟩
  | 74 => ⟨S_, .f32⟩
  | 75 => ⟨S66x128x128x8, .f32⟩
  | 76 => ⟨S66x128x128x8x1, .f32⟩
  | 77 => ⟨S_, .f32⟩
  | 78 => ⟨S66x128x128x8, .f32⟩
  | 79 => ⟨S66x8x128x128, .f32⟩
  | 80 => ⟨S66x8x128x128, .f32⟩
  | 81 => ⟨S66x128x8x128, .f32⟩
  | 82 => ⟨S66x128x8x128, .f32⟩
  | 83 => ⟨S66x8x128x128, .f32⟩
  | 84 => ⟨S66x128x8x128, .f32⟩
  | 85 => ⟨S66x128x128x8x4, .f32⟩
  | 86 => ⟨S_, .f32⟩
  | 87 => ⟨S66x128x128x8x4, .f32⟩
  | 88 => ⟨S66x128x128x8x4, .f32⟩
  | 89 => ⟨S_, .f32⟩
  | 90 => ⟨S66x128x8x4, .f32⟩
  | 91 => ⟨S66x128x1x8x4, .f32⟩
  | 92 => ⟨S66x128x128x8x4, .f32⟩
  | 93 => ⟨S_, .f32⟩
  | 94 => ⟨S66x128x8x4, .f32⟩
  | 95 => ⟨S66x1x128x8x4, .f32⟩
  | 96 => ⟨S_, .f32⟩
  | 97 => ⟨S66x128x8x4, .f32⟩
  | 98 => ⟨S66x128x8x4, .f32⟩
  | 99 => ⟨S_, .f32⟩
  | 100 => ⟨S66x128x8x4, .f32⟩
  | 101 => ⟨S66x128x8x4, .f32⟩
  | 102 => ⟨S66x8x4x64x128, .f32⟩
  | 103 => ⟨S_, .f32⟩
  | 104 => ⟨S66x8x4, .f32⟩
  | 105 => ⟨S66x8x4x1x1, .f32⟩
  | 106 => ⟨S_, .f32⟩
  | 107 => ⟨S66x8x4, .f32⟩
  | 108 => ⟨S66x8x4, .f32⟩
  | 109 => ⟨S66x1x8x4, .f32⟩
  | 110 => ⟨S_, .f32⟩
  | 111 => ⟨S66x128x8x4, .f32⟩
  | 112 => ⟨S66x128x8x4, .f32⟩
  | 113 => ⟨S66x8x128x128, .f32⟩
  | 114 => ⟨S66x128x8x128, .f32⟩
  | 115 => ⟨S66x128x8x128, .f32⟩
  | 116 => ⟨S66x8x4x64x128, .f32⟩
  | 117 => ⟨S66x128x8x4x64, .f32⟩
  | 118 => ⟨S66x128x8x4x64, .f32⟩
  | 119 => ⟨S_, .f32⟩
  | 120 => ⟨S66x128x8x4, .f32⟩
  | 121 => ⟨S66x128x8x4x1, .f32⟩
  | 122 => ⟨S66x128x8x4x64, .f32⟩
  | 123 => ⟨S66x128x8x4x64, .f32⟩
  | 124 => ⟨S66x128x8x4x64, .f32⟩
  | 125 => ⟨S_, .f32⟩
  | 126 => ⟨S66x128x8x4, .f32⟩
  | 127 => ⟨S66x128x8x4, .f32⟩
  | _ => ⟨S8448x4096, .f32⟩

abbrev hbmTy0_2 (i : Nat) : BufTy := match i % 128 with
  | 0 => ⟨S66x128x8x4, .f32⟩
  | 1 => ⟨S66x128x8x4, .f32⟩
  | 2 => ⟨S66x128x8x4, .f32⟩
  | 3 => ⟨S_, .f32⟩
  | 4 => ⟨S66x8x4, .f32⟩
  | 5 => ⟨S66x1x8x4, .f32⟩
  | 6 => ⟨S66x128x8x4, .f32⟩
  | 7 => ⟨S66x128x8x4, .f32⟩
  | 8 => ⟨S_, .f32⟩
  | 9 => ⟨S66x128x8x4, .f32⟩
  | 10 => ⟨S66x128x8x4, .f32⟩
  | 11 => ⟨S_, .f32⟩
  | 12 => ⟨S_, .f32⟩
  | 13 => ⟨S66x128x8x4, .f32⟩
  | 14 => ⟨S66x128x8x4, .f32⟩
  | 15 => ⟨S_, .f32⟩
  | 16 => ⟨S8x4, .f32⟩
  | 17 => ⟨S1x1x8x4, .f32⟩
  | 18 => ⟨S66x128x8x4, .f32⟩
  | 19 => ⟨S66x128x8x4, .f32⟩
  | 20 => ⟨S66x128x8x4, .f32⟩
  | 21 => ⟨S_, .f32⟩
  | 22 => ⟨S8x4, .f32⟩
  | 23 => ⟨S66x128x8x128, .f32⟩
  | 24 => ⟨S66x128x8x128, .f32⟩
  | 25 => ⟨S1x8x4, .f32⟩
  | 26 => ⟨S_, .f32⟩
  | 27 => ⟨S2x8x4, .f32⟩
  | 28 => ⟨S66x128x8x4, .f32⟩
  | 29 => ⟨S66x128x1x8x4, .f32⟩
  | 30 => ⟨S_, .f32⟩
  | 31 => ⟨S66x128x2x8x4, .f32⟩
  | 32 => ⟨S66x128x8x4x64, .f32⟩
  | 33 => ⟨S66x128x8x4x64, .f32⟩
  | 34 => ⟨S66x128x8x4x64, .f32⟩
  | 35 => ⟨S_, .f32⟩
  | 36 => ⟨S66x128x8x4, .f32⟩
  | 37 => ⟨S66x128x8x4x1, .f32⟩
  | 38 => ⟨S66x128x8x4x64, .f32⟩
  | 39 => ⟨S66x128x8x4x64, .f32⟩
  | 40 => ⟨S_, .f32⟩
  | 41 => ⟨S66x128x8x4, .f32⟩
  | 42 => ⟨S66x128x8x4, .f32⟩
  | 43 => ⟨S66x8x4x64x128, .f32⟩
  | 44 => ⟨S66x8x128x128, .f32⟩
  | 45 => ⟨S66x128x8x128, .f32⟩
  | 46 => ⟨S66x128x8x128, .f32⟩
  | 47 => ⟨S66x8x4x64x128, .f32⟩
  | 48 => ⟨S66x8x4x128x128, .f32⟩
  | 49 => ⟨S66x128x128x8x4, .f32⟩
  | 50 => ⟨S66x8x4x64x128, .f32⟩
  | 51 => ⟨S66x128x8x4x64, .f32⟩
  | 52 => ⟨S66x128x8x4x64, .f32⟩
  | 53 => ⟨S66x128x128x8x4, .f32⟩
  | 54 => ⟨S_, .f32⟩
  | 55 => ⟨S66x128x8x4, .f32⟩
  | 56 => ⟨S66x1x128x8x4, .f32⟩
  | 57 => ⟨S66x128x128x8x4, .f32⟩
  | 58 => ⟨S66x128x128x8x4, .f32⟩
  | 59 => ⟨S_, .f32⟩
  | 60 => ⟨S66x128x8x4, .f32⟩
  | 61 => ⟨S66x128x128x8x4, .f32⟩
  | 62 => ⟨S66x128x128x8x4, .f32⟩
  | 63 => ⟨S66x128x128x8x4, .f32⟩
  | 64 => ⟨S_, .f32⟩
  | 65 => ⟨S66x128x128x8, .f32⟩
  | 66 => ⟨S66x128x128x8x1, .f32⟩
  | 67 => ⟨S_, .f32⟩
  | 68 => ⟨S66x128x128x8, .f32⟩
  | 69 => ⟨S66x8x128x128, .f32⟩
  | 70 => ⟨S66x8x128x128, .f32⟩
  | 71 => ⟨S66x128x8x128, .f32⟩
  | 72 => ⟨S66x128x8x128, .f32⟩
  | 73 => ⟨S66x8x128x128, .f32⟩
  | 74 => ⟨S66x128x8x128, .f32⟩
  | 75 => ⟨S66x128x8x128, .f32⟩
  | 76 => ⟨S66x128x128x8x4, .f32⟩
  | 77 => ⟨S_, .f32⟩
  | 78 => ⟨S66x128x128x8x4, .f32⟩
  | 79 => ⟨S66x128x128x8x4, .f32⟩
  | 80 => ⟨S_, .f32⟩
  | 81 => ⟨S66x128x8x4, .f32⟩
  | 82 => ⟨S66x128x1x8x4, .f32⟩
  | 83 => ⟨S66x128x128x8x4, .f32⟩
  | 84 => ⟨S_, .f32⟩
  | 85 => ⟨S66x128x8x4, .f32⟩
  | 86 => ⟨S66x1x128x8x4, .f32⟩
  | 87 => ⟨S_, .f32⟩
  | 88 => ⟨S66x128x8x4, .f32⟩
  | 89 => ⟨S66x128x8x4, .f32⟩
  | 90 => ⟨S_, .f32⟩
  | 91 => ⟨S66x128x8x4, .f32⟩
  | 92 => ⟨S66x128x8x4, .f32⟩
  | 93 => ⟨S66x8x4x64x128, .f32⟩
  | 94 => ⟨S_, .f32⟩
  | 95 => ⟨S66x8x4, .f32⟩
  | 96 => ⟨S66x8x4x1x1, .f32⟩
  | 97 => ⟨S_, .f32⟩
  | 98 => ⟨S66x8x4, .f32⟩
  | 99 => ⟨S66x8x4, .f32⟩
  | 100 => ⟨S66x1x8x4, .f32⟩
  | 101 => ⟨S_, .f32⟩
  | 102 => ⟨S66x128x8x4, .f32⟩
  | 103 => ⟨S66x128x8x4, .f32⟩
  | 104 => ⟨S66x8x128x128, .f32⟩
  | 105 => ⟨S66x128x8x128, .f32⟩
  | 106 => ⟨S66x128x8x128, .f32⟩
  | 107 => ⟨S66x8x4x64x128, .f32⟩
  | 108 => ⟨S66x128x8x4x64, .f32⟩
  | 109 => ⟨S66x128x8x4x64, .f32⟩
  | 110 => ⟨S_, .f32⟩
  | 111 => ⟨S66x128x8x4, .f32⟩
  | 112 => ⟨S66x128x8x4x1, .f32⟩
  | 113 => ⟨S66x128x8x4x64, .f32⟩
  | 114 => ⟨S66x128x8x4x64, .f32⟩
  | 115 => ⟨S66x128x8x4x64, .f32⟩
  | 116 => ⟨S_, .f32⟩
  | 117 => ⟨S66x128x8x4, .f32⟩
  | 118 => ⟨S66x128x8x4, .f32⟩
  | 119 => ⟨S66x128x8x4, .f32⟩
  | 120 => ⟨S66x128x8x4, .f32⟩
  | 121 => ⟨S66x128x8x4, .f32⟩
  | 122 => ⟨S_, .f32⟩
  | 123 => ⟨S66x8x4, .f32⟩
  | 124 => ⟨S66x1x8x4, .f32⟩
  | 125 => ⟨S66x128x8x4, .f32⟩
  | 126 => ⟨S66x128x8x4, .f32⟩
  | 127 => ⟨S_, .f32⟩
  | _ => ⟨S8448x4096, .f32⟩

abbrev hbmTy0_3 (i : Nat) : BufTy := match i % 128 with
  | 0 => ⟨S66x128x8x4, .f32⟩
  | 1 => ⟨S66x128x8x4, .f32⟩
  | 2 => ⟨S_, .f32⟩
  | 3 => ⟨S_, .f32⟩
  | 4 => ⟨S66x128x8x4, .f32⟩
  | 5 => ⟨S66x128x8x4, .f32⟩
  | 6 => ⟨S_, .f32⟩
  | 7 => ⟨S8x4, .f32⟩
  | 8 => ⟨S1x1x8x4, .f32⟩
  | 9 => ⟨S66x128x8x4, .f32⟩
  | 10 => ⟨S66x128x8x4, .f32⟩
  | 11 => ⟨S66x128x8x4, .f32⟩
  | 12 => ⟨S_, .f32⟩
  | 13 => ⟨S8x4, .f32⟩
  | 14 => ⟨S1x8x4, .f32⟩
  | 15 => ⟨S_, .f32⟩
  | 16 => ⟨S2x8x4, .f32⟩
  | 17 => ⟨S2x8x4, .f32⟩
  | 18 => ⟨S66x128x1x8x4, .f32⟩
  | 19 => ⟨S_, .f32⟩
  | 20 => ⟨S66x128x2x8x4, .f32⟩
  | 21 => ⟨S66x128x2x8x4, .f32⟩
  | 22 => ⟨S2x8x4, .f32⟩
  | 23 => ⟨S2x32, .f32⟩
  | 24 => ⟨S2x32, .f32⟩
  | 25 => ⟨S8448x2x32, .f32⟩
  | 26 => ⟨S8448x1024, .f32⟩
  | 27 => ⟨S8448x1024, .f32⟩
  | 28 => ⟨S8448x2048, .f32⟩
  | 29 => ⟨S8448x2x8x4, .f32⟩
  | 30 => ⟨S8x8448x2x4, .f32⟩
  | 31 => ⟨S8x8448x8, .f32⟩
  | 32 => ⟨S2x8x4, .f32⟩
  | 33 => ⟨S8x2x4, .f32⟩
  | 34 => ⟨S8x8, .f32⟩
  | 35 => ⟨S_, .i32⟩
  | 36 => ⟨S_, .f32⟩
  | 37 => ⟨S8x8448x128, .f32⟩
  | 38 => ⟨S_, .i32⟩
  | 39 => ⟨S_, .f32⟩
  | 40 => ⟨S8x128, .f32⟩
  | 41 => ⟨S8x1x128, .f32⟩
  | 42 => ⟨S8x8x128, .f32⟩
  | _ => ⟨S8448x4096, .f32⟩

abbrev hbmTy (i : Nat) : BufTy := match i / 128 with
  | 0 => hbmTy0_0 i
  | 1 => hbmTy0_1 i
  | 2 => hbmTy0_2 i
  | 3 => hbmTy0_3 i
  | _ => ⟨S8448x4096, .f32⟩

abbrev bufTy : (tb : Table) → Fin (tcTables nBuf tb) → BufTy
  | .hbm, ⟨i, _⟩ => hbmTy i
  | _, _ => ⟨S8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_call0_cst : Ref sig .tc := ⟨.hbm, 32, rfl⟩
abbrev main_call0_call0_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst : Ref sig .tc := ⟨.hbm, 63, rfl⟩
abbrev main_call1_v0 : Ref sig .tc := ⟨.hbm, 64, rfl⟩
abbrev main_v52_1 : Ref sig .tc := ⟨.hbm, 65, rfl⟩
abbrev main_call1_v2 : Ref sig .tc := ⟨.hbm, 66, rfl⟩
abbrev main_v52_0 : Ref sig .tc := ⟨.hbm, 67, rfl⟩
abbrev main_call1_cst : Ref sig .tc := ⟨.hbm, 68, rfl⟩
abbrev main_v52_2 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_call6_call0_cst : Ref sig .tc := ⟨.hbm, 99, rfl⟩
abbrev main_call6_call0_v0 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_cst_0 : Ref sig .tc := ⟨.hbm, 130, rfl⟩
abbrev main_call7_v0 : Ref sig .tc := ⟨.hbm, 131, rfl⟩
abbrev main_v111_1 : Ref sig .tc := ⟨.hbm, 132, rfl⟩
abbrev main_call7_v2 : Ref sig .tc := ⟨.hbm, 133, rfl⟩
abbrev main_v111_0 : Ref sig .tc := ⟨.hbm, 134, rfl⟩
abbrev main_call7_cst : Ref sig .tc := ⟨.hbm, 135, rfl⟩
abbrev main_v111_2 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_cst_1 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_cst_2 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_cst_3 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_cst_4 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_cst_5 : Ref sig .tc := ⟨.hbm, 202, rfl⟩
abbrev main_v173 : Ref sig .tc := ⟨.hbm, 203, rfl⟩
abbrev main_v174 : Ref sig .tc := ⟨.hbm, 204, rfl⟩
abbrev main_cst_6 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_call10_cst : Ref sig .tc := ⟨.hbm, 214, rfl⟩
abbrev main_call10_v0 : Ref sig .tc := ⟨.hbm, 215, rfl⟩
abbrev main_v183 : Ref sig .tc := ⟨.hbm, 216, rfl⟩
abbrev main_cst_7 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_cst_8 : Ref sig .tc := ⟨.hbm, 221, rfl⟩
abbrev main_v187 : Ref sig .tc := ⟨.hbm, 222, rfl⟩
abbrev main_v188 : Ref sig .tc := ⟨.hbm, 223, rfl⟩
abbrev main_cst_9 : Ref sig .tc := ⟨.hbm, 224, rfl⟩
abbrev main_v189 : Ref sig .tc := ⟨.hbm, 225, rfl⟩
abbrev main_v190 : Ref sig .tc := ⟨.hbm, 226, rfl⟩
abbrev main_cst_10 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_cst_11 : Ref sig .tc := ⟨.hbm, 231, rfl⟩
abbrev main_v194 : Ref sig .tc := ⟨.hbm, 232, rfl⟩
abbrev main_v195 : Ref sig .tc := ⟨.hbm, 233, rfl⟩
abbrev main_cst_12 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_cst_13 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_cst_14 : Ref sig .tc := ⟨.hbm, 247, rfl⟩
abbrev main_v207 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_v211 : Ref sig .tc := ⟨.hbm, 252, rfl⟩
abbrev main_cst_15 : Ref sig .tc := ⟨.hbm, 253, rfl⟩
abbrev main_v212 : Ref sig .tc := ⟨.hbm, 254, rfl⟩
abbrev main_v213 : Ref sig .tc := ⟨.hbm, 255, rfl⟩
abbrev main_v214 : Ref sig .tc := ⟨.hbm, 256, rfl⟩
abbrev main_v215 : Ref sig .tc := ⟨.hbm, 257, rfl⟩
abbrev main_v216 : Ref sig .tc := ⟨.hbm, 258, rfl⟩
abbrev main_cst_16 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_cst_17 : Ref sig .tc := ⟨.hbm, 264, rfl⟩
abbrev main_v221 : Ref sig .tc := ⟨.hbm, 265, rfl⟩
abbrev main_v222 : Ref sig .tc := ⟨.hbm, 266, rfl⟩
abbrev main_call11_call0_cst : Ref sig .tc := ⟨.hbm, 267, rfl⟩
abbrev main_call11_call0_v0 : Ref sig .tc := ⟨.hbm, 268, rfl⟩
abbrev main_v223 : Ref sig .tc := ⟨.hbm, 269, rfl⟩
abbrev main_v224 : Ref sig .tc := ⟨.hbm, 270, rfl⟩
abbrev main_cst_18 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_cst_19 : Ref sig .tc := ⟨.hbm, 277, rfl⟩
abbrev main_v230 : Ref sig .tc := ⟨.hbm, 278, rfl⟩
abbrev main_v231 : Ref sig .tc := ⟨.hbm, 279, rfl⟩
abbrev main_v232 : Ref sig .tc := ⟨.hbm, 280, rfl⟩
abbrev main_v233 : Ref sig .tc := ⟨.hbm, 281, rfl⟩
abbrev main_cst_20 : Ref sig .tc := ⟨.hbm, 282, rfl⟩
abbrev main_v234 : Ref sig .tc := ⟨.hbm, 283, rfl⟩
abbrev main_v235 : Ref sig .tc := ⟨.hbm, 284, rfl⟩
abbrev main_v236 : Ref sig .tc := ⟨.hbm, 285, rfl⟩
abbrev main_cst_21 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_v240 : Ref sig .tc := ⟨.hbm, 290, rfl⟩
abbrev main_cst_22 : Ref sig .tc := ⟨.hbm, 291, rfl⟩
abbrev main_v241 : Ref sig .tc := ⟨.hbm, 292, rfl⟩
abbrev main_v242 : Ref sig .tc := ⟨.hbm, 293, rfl⟩
abbrev main_v243 : Ref sig .tc := ⟨.hbm, 294, rfl⟩
abbrev main_v244 : Ref sig .tc := ⟨.hbm, 295, rfl⟩
abbrev main_cst_23 : Ref sig .tc := ⟨.hbm, 296, rfl⟩
abbrev main_v245 : Ref sig .tc := ⟨.hbm, 297, rfl⟩
abbrev main_v246 : Ref sig .tc := ⟨.hbm, 298, rfl⟩
abbrev main_v247 : Ref sig .tc := ⟨.hbm, 299, rfl⟩
abbrev main_v248 : Ref sig .tc := ⟨.hbm, 300, rfl⟩
abbrev main_v249 : Ref sig .tc := ⟨.hbm, 301, rfl⟩
abbrev main_v250 : Ref sig .tc := ⟨.hbm, 302, rfl⟩
abbrev main_v251 : Ref sig .tc := ⟨.hbm, 303, rfl⟩
abbrev main_v252 : Ref sig .tc := ⟨.hbm, 304, rfl⟩
abbrev main_v253 : Ref sig .tc := ⟨.hbm, 305, rfl⟩
abbrev main_v254 : Ref sig .tc := ⟨.hbm, 306, rfl⟩
abbrev main_v255 : Ref sig .tc := ⟨.hbm, 307, rfl⟩
abbrev main_v256 : Ref sig .tc := ⟨.hbm, 308, rfl⟩
abbrev main_v257 : Ref sig .tc := ⟨.hbm, 309, rfl⟩
abbrev main_cst_24 : Ref sig .tc := ⟨.hbm, 310, rfl⟩
abbrev main_v258 : Ref sig .tc := ⟨.hbm, 311, rfl⟩
abbrev main_v259 : Ref sig .tc := ⟨.hbm, 312, rfl⟩
abbrev main_v260 : Ref sig .tc := ⟨.hbm, 313, rfl⟩
abbrev main_v261 : Ref sig .tc := ⟨.hbm, 314, rfl⟩
abbrev main_cst_25 : Ref sig .tc := ⟨.hbm, 315, rfl⟩
abbrev main_v262 : Ref sig .tc := ⟨.hbm, 316, rfl⟩
abbrev main_v263 : Ref sig .tc := ⟨.hbm, 317, rfl⟩
abbrev main_v264 : Ref sig .tc := ⟨.hbm, 318, rfl⟩
abbrev main_v265 : Ref sig .tc := ⟨.hbm, 319, rfl⟩
abbrev main_cst_26 : Ref sig .tc := ⟨.hbm, 320, rfl⟩
abbrev main_v266 : Ref sig .tc := ⟨.hbm, 321, rfl⟩
abbrev main_v267 : Ref sig .tc := ⟨.hbm, 322, rfl⟩
abbrev main_cst_27 : Ref sig .tc := ⟨.hbm, 323, rfl⟩
abbrev main_v268 : Ref sig .tc := ⟨.hbm, 324, rfl⟩
abbrev main_v269 : Ref sig .tc := ⟨.hbm, 325, rfl⟩
abbrev main_v270 : Ref sig .tc := ⟨.hbm, 326, rfl⟩
abbrev main_v271 : Ref sig .tc := ⟨.hbm, 327, rfl⟩
abbrev main_v272 : Ref sig .tc := ⟨.hbm, 328, rfl⟩
abbrev main_v273 : Ref sig .tc := ⟨.hbm, 329, rfl⟩
abbrev main_v274 : Ref sig .tc := ⟨.hbm, 330, rfl⟩
abbrev main_v275 : Ref sig .tc := ⟨.hbm, 331, rfl⟩
abbrev main_v276 : Ref sig .tc := ⟨.hbm, 332, rfl⟩
abbrev main_call16_cst : Ref sig .tc := ⟨.hbm, 333, rfl⟩
abbrev main_call16_v0 : Ref sig .tc := ⟨.hbm, 334, rfl⟩
abbrev main_v277 : Ref sig .tc := ⟨.hbm, 335, rfl⟩
abbrev main_cst_28 : Ref sig .tc := ⟨.hbm, 336, rfl⟩
abbrev main_v278 : Ref sig .tc := ⟨.hbm, 337, rfl⟩
abbrev main_v279 : Ref sig .tc := ⟨.hbm, 338, rfl⟩
abbrev main_v280 : Ref sig .tc := ⟨.hbm, 339, rfl⟩
abbrev main_cst_29 : Ref sig .tc := ⟨.hbm, 340, rfl⟩
abbrev main_v281 : Ref sig .tc := ⟨.hbm, 341, rfl⟩
abbrev main_v282 : Ref sig .tc := ⟨.hbm, 342, rfl⟩
abbrev main_cst_30 : Ref sig .tc := ⟨.hbm, 343, rfl⟩
abbrev main_v283 : Ref sig .tc := ⟨.hbm, 344, rfl⟩
abbrev main_v284 : Ref sig .tc := ⟨.hbm, 345, rfl⟩
abbrev main_cst_31 : Ref sig .tc := ⟨.hbm, 346, rfl⟩
abbrev main_v285 : Ref sig .tc := ⟨.hbm, 347, rfl⟩
abbrev main_v286 : Ref sig .tc := ⟨.hbm, 348, rfl⟩
abbrev main_v287 : Ref sig .tc := ⟨.hbm, 349, rfl⟩
abbrev main_cst_32 : Ref sig .tc := ⟨.hbm, 350, rfl⟩
abbrev main_v288 : Ref sig .tc := ⟨.hbm, 351, rfl⟩
abbrev main_v289 : Ref sig .tc := ⟨.hbm, 352, rfl⟩
abbrev main_cst_33 : Ref sig .tc := ⟨.hbm, 353, rfl⟩
abbrev main_v290 : Ref sig .tc := ⟨.hbm, 354, rfl⟩
abbrev main_v291 : Ref sig .tc := ⟨.hbm, 355, rfl⟩
abbrev main_v292 : Ref sig .tc := ⟨.hbm, 356, rfl⟩
abbrev main_cst_34 : Ref sig .tc := ⟨.hbm, 357, rfl⟩
abbrev main_v293 : Ref sig .tc := ⟨.hbm, 358, rfl⟩
abbrev main_v294 : Ref sig .tc := ⟨.hbm, 359, rfl⟩
abbrev main_v295 : Ref sig .tc := ⟨.hbm, 360, rfl⟩
abbrev main_v296 : Ref sig .tc := ⟨.hbm, 361, rfl⟩
abbrev main_v297 : Ref sig .tc := ⟨.hbm, 362, rfl⟩
abbrev main_v298 : Ref sig .tc := ⟨.hbm, 363, rfl⟩
abbrev main_v299 : Ref sig .tc := ⟨.hbm, 364, rfl⟩
abbrev main_v300 : Ref sig .tc := ⟨.hbm, 365, rfl⟩
abbrev main_cst_35 : Ref sig .tc := ⟨.hbm, 366, rfl⟩
abbrev main_v301 : Ref sig .tc := ⟨.hbm, 367, rfl⟩
abbrev main_v302 : Ref sig .tc := ⟨.hbm, 368, rfl⟩
abbrev main_v303 : Ref sig .tc := ⟨.hbm, 369, rfl⟩
abbrev main_v304 : Ref sig .tc := ⟨.hbm, 370, rfl⟩
abbrev main_v305 : Ref sig .tc := ⟨.hbm, 371, rfl⟩
abbrev main_cst_36 : Ref sig .tc := ⟨.hbm, 372, rfl⟩
abbrev main_v306 : Ref sig .tc := ⟨.hbm, 373, rfl⟩
abbrev main_v307 : Ref sig .tc := ⟨.hbm, 374, rfl⟩
abbrev main_v308 : Ref sig .tc := ⟨.hbm, 375, rfl⟩
abbrev main_v309 : Ref sig .tc := ⟨.hbm, 376, rfl⟩
abbrev main_v310 : Ref sig .tc := ⟨.hbm, 377, rfl⟩
abbrev main_cst_37 : Ref sig .tc := ⟨.hbm, 378, rfl⟩
abbrev main_v311 : Ref sig .tc := ⟨.hbm, 379, rfl⟩
abbrev main_v312 : Ref sig .tc := ⟨.hbm, 380, rfl⟩
abbrev main_v313 : Ref sig .tc := ⟨.hbm, 381, rfl⟩
abbrev main_v314 : Ref sig .tc := ⟨.hbm, 382, rfl⟩
abbrev main_cst_38 : Ref sig .tc := ⟨.hbm, 383, rfl⟩
abbrev main_v315 : Ref sig .tc := ⟨.hbm, 384, rfl⟩
abbrev main_v316 : Ref sig .tc := ⟨.hbm, 385, rfl⟩
abbrev main_call17_call0_cst : Ref sig .tc := ⟨.hbm, 386, rfl⟩
abbrev main_call17_call0_v0 : Ref sig .tc := ⟨.hbm, 387, rfl⟩
abbrev main_v317 : Ref sig .tc := ⟨.hbm, 388, rfl⟩
abbrev main_v318 : Ref sig .tc := ⟨.hbm, 389, rfl⟩
abbrev main_cst_39 : Ref sig .tc := ⟨.hbm, 390, rfl⟩
abbrev main_v319 : Ref sig .tc := ⟨.hbm, 391, rfl⟩
abbrev main_v320 : Ref sig .tc := ⟨.hbm, 392, rfl⟩
abbrev main_v321 : Ref sig .tc := ⟨.hbm, 393, rfl⟩
abbrev main_v322 : Ref sig .tc := ⟨.hbm, 394, rfl⟩
abbrev main_v323 : Ref sig .tc := ⟨.hbm, 395, rfl⟩
abbrev main_cst_40 : Ref sig .tc := ⟨.hbm, 396, rfl⟩
abbrev main_v324 : Ref sig .tc := ⟨.hbm, 397, rfl⟩
abbrev main_v325 : Ref sig .tc := ⟨.hbm, 398, rfl⟩
abbrev main_cst_41 : Ref sig .tc := ⟨.hbm, 399, rfl⟩
abbrev main_v326 : Ref sig .tc := ⟨.hbm, 400, rfl⟩
abbrev main_v327 : Ref sig .tc := ⟨.hbm, 401, rfl⟩
abbrev main_v328 : Ref sig .tc := ⟨.hbm, 402, rfl⟩
abbrev main_cst_42 : Ref sig .tc := ⟨.hbm, 403, rfl⟩
abbrev main_v329 : Ref sig .tc := ⟨.hbm, 404, rfl⟩
abbrev main_v330 : Ref sig .tc := ⟨.hbm, 405, rfl⟩
abbrev main_v331 : Ref sig .tc := ⟨.hbm, 406, rfl⟩
abbrev main_v332 : Ref sig .tc := ⟨.hbm, 407, rfl⟩
abbrev main_v333 : Ref sig .tc := ⟨.hbm, 408, rfl⟩
abbrev main_v334 : Ref sig .tc := ⟨.hbm, 409, rfl⟩
abbrev main_v335 : Ref sig .tc := ⟨.hbm, 410, rfl⟩
abbrev main_v336 : Ref sig .tc := ⟨.hbm, 411, rfl⟩
abbrev main_v337 : Ref sig .tc := ⟨.hbm, 412, rfl⟩
abbrev main_v338 : Ref sig .tc := ⟨.hbm, 413, rfl⟩
abbrev main_v339 : Ref sig .tc := ⟨.hbm, 414, rfl⟩
abbrev main_v340 : Ref sig .tc := ⟨.hbm, 415, rfl⟩
abbrev main_v341 : Ref sig .tc := ⟨.hbm, 416, rfl⟩
abbrev main_v342 : Ref sig .tc := ⟨.hbm, 417, rfl⟩
abbrev main_v343 : Ref sig .tc := ⟨.hbm, 418, rfl⟩
abbrev main_c : Ref sig .tc := ⟨.hbm, 419, rfl⟩
abbrev main_call18_v0 : Ref sig .tc := ⟨.hbm, 420, rfl⟩
abbrev main_v344 : Ref sig .tc := ⟨.hbm, 421, rfl⟩
abbrev main_c_43 : Ref sig .tc := ⟨.hbm, 422, rfl⟩
abbrev main_call19_v0 : Ref sig .tc := ⟨.hbm, 423, rfl⟩
abbrev main_v345 : Ref sig .tc := ⟨.hbm, 424, rfl⟩
abbrev main_v346 : Ref sig .tc := ⟨.hbm, 425, rfl⟩
abbrev main_v347 : Ref sig .tc := ⟨.hbm, 426, rfl⟩

abbrev nD : Nat := 1
abbrev τ : Topo := Topo.v7x

variable {F : FTy → Type} [FloatOps F]
-- ==== KernelGwRest.lean ====
abbrev S8192x1024 : Shape := ⟨2, ![8192, 1024]⟩
abbrev S8192x7168 : Shape := ⟨2, ![8192, 7168]⟩
abbrev S1024x7168 : Shape := ⟨2, ![1024, 7168]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S1024x7168, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGwRestIdeal.lean ====
abbrev S8192x1024 : Shape := ⟨2, ![8192, 1024]⟩
abbrev S8192x7168 : Shape := ⟨2, ![8192, 7168]⟩
abbrev S_ : Shape := ⟨0, ![]⟩
abbrev S1024x7168 : Shape := ⟨2, ![1024, 7168]⟩
abbrev S7168x1024 : Shape := ⟨2, ![7168, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S8192x1024, .f32⟩
  | .hbm, ⟨3, _⟩ => ⟨S8192x7168, .f32⟩
  | .hbm, ⟨4, _⟩ => ⟨S_, .f32⟩
  | .hbm, ⟨5, _⟩ => ⟨S1024x7168, .f32⟩
  | .hbm, ⟨6, _⟩ => ⟨S8192x7168, .f32⟩
  | .hbm, ⟨7, _⟩ => ⟨S7168x1024, .f32⟩
  | .hbm, ⟨8, _⟩ => ⟨S1024x7168, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelGwSsd.lean ====
abbrev S8448x1024 : Shape := ⟨2, ![8448, 1024]⟩
abbrev S8448x4224 : Shape := ⟨2, ![8448, 4224]⟩
abbrev S1024x4224 : Shape := ⟨2, ![1024, 4224]⟩
abbrev S768x1024 : Shape := ⟨2, ![768, 1024]⟩
abbrev S768x1408 : Shape := ⟨2, ![768, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x4224, .bf16⟩
  | .hbm, ⟨2, _⟩ => ⟨S1024x4224, .f32⟩
  | .local _ .vmem, ⟨0, _⟩ => ⟨S768x1024, .bf16⟩
  | .local _ .vmem, ⟨1, _⟩ => ⟨S768x1024, .bf16⟩
  | .local _ .vmem, ⟨2, _⟩ => ⟨S768x1408, .bf16⟩
  | .local _ .vmem, ⟨3, _⟩ => ⟨S768x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S768x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGwSsdIdeal.lean ====
abbrev S8448x1024 : Shape := ⟨2, ![8448, 1024]⟩
abbrev S8448x4224 : Shape := ⟨2, ![8448, 4224]⟩
abbrev S_ : Shape := ⟨0, ![]⟩
abbrev S1024x4224 : Shape := ⟨2, ![1024, 4224]⟩
abbrev S4224x1024 : Shape := ⟨2, ![4224, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x4224, .bf16⟩
  | .hbm, ⟨2, _⟩ => ⟨S8448x1024, .f32⟩
  | .hbm, ⟨3, _⟩ => ⟨S8448x4224, .f32⟩
  | .hbm, ⟨4, _⟩ => ⟨S_, .f32⟩
  | .hbm, ⟨5, _⟩ => ⟨S1024x4224, .f32⟩
  | .hbm, ⟨6, _⟩ => ⟨S8448x4224, .f32⟩
  | .hbm, ⟨7, _⟩ => ⟨S4224x1024, .f32⟩
  | .hbm, ⟨8, _⟩ => ⟨S1024x4224, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelGwOs.lean ====
abbrev S8192x2048 : Shape := ⟨2, ![8192, 2048]⟩
abbrev S8192x1024 : Shape := ⟨2, ![8192, 1024]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceGwOsIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x2048, .f32⟩
  | .hbm, ⟨3, _⟩ => ⟨S8192x1024, .f32⟩
  | .hbm, ⟨4, _⟩ => ⟨S_, .f32⟩
  | .hbm, ⟨5, _⟩ => ⟨S2048x1024, .f32⟩
  | .hbm, ⟨6, _⟩ => ⟨S8192x1024, .f32⟩
  | .hbm, ⟨7, _⟩ => ⟨S1024x2048, .f32⟩
  | .hbm, ⟨8, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelGwO.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceGwOIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDhRest.lean ====
abbrev S8192x7168 : Shape := ⟨2, ![8192, 7168]⟩
abbrev S1024x7168 : Shape := ⟨2, ![1024, 7168]⟩
abbrev S8192x1024 : Shape := ⟨2, ![8192, 1024]⟩
abbrev S256x7168 : Shape := ⟨2, ![256, 7168]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x7168, .bf16⟩
  | .hbm, ⟨1, _⟩ => ⟨S1024x7168, .bf16⟩
  | .hbm, ⟨2, _⟩ => ⟨S8192x1024, .bf16⟩
  | .local _ .vmem, ⟨0, _⟩ => ⟨S256x7168, .bf16⟩
  | .local _ .vmem, ⟨1, _⟩ => ⟨S256x7168, .bf16⟩
  | .local _ .vmem, ⟨2, _⟩ => ⟨S1024x7168, .bf16⟩
  | .local _ .vmem, ⟨3, _⟩ => ⟨S256x1024, .bf16⟩
  | .local _ .vmem, ⟨4, _⟩ => ⟨S256x1024, .bf16⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDhRestIdeal.lean ====
abbrev S8192x7168 : Shape := ⟨2, ![8192, 7168]⟩
abbrev S1024x7168 : Shape := ⟨2, ![1024, 7168]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S1024x7168, .bf16⟩
  | .hbm, ⟨2, _⟩ => ⟨S8192x7168, .f32⟩
  | .hbm, ⟨3, _⟩ => ⟨S1024x7168, .f32⟩
  | .hbm, ⟨4, _⟩ => ⟨S_, .f32⟩
  | .hbm, ⟨5, _⟩ => ⟨S8192x1024, .f32⟩
  | .hbm, ⟨6, _⟩ => ⟨S8192x7168, .f32⟩
  | .hbm, ⟨7, _⟩ => ⟨S8192x1024, .f32⟩
  | .hbm, ⟨8, _⟩ => ⟨S8192x1024, .bf16⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDhSsd.lean ====
abbrev S8448x4224 : Shape := ⟨2, ![8448, 4224]⟩
abbrev S1024x4224 : Shape := ⟨2, ![1024, 4224]⟩
abbrev S8448x1024 : Shape := ⟨2, ![8448, 1024]⟩
abbrev S256x4224 : Shape := ⟨2, ![256, 4224]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x4224, .bf16⟩
  | .hbm, ⟨1, _⟩ => ⟨S1024x4224, .bf16⟩
  | .hbm, ⟨2, _⟩ => ⟨S8448x1024, .bf16⟩
  | .local _ .vmem, ⟨0, _⟩ => ⟨S256x4224, .bf16⟩
  | .local _ .vmem, ⟨1, _⟩ => ⟨S256x4224, .bf16⟩
  | .local _ .vmem, ⟨2, _⟩ => ⟨S1024x4224, .bf16⟩
  | .local _ .vmem, ⟨3, _⟩ => ⟨S256x1024, .bf16⟩
  | .local _ .vmem, ⟨4, _⟩ => ⟨S256x1024, .bf16⟩
  | _, _ => ⟨S8448x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 33, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x4224 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x4224 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDhSsdIdeal.lean ====
abbrev S8448x4224 : Shape := ⟨2, ![8448, 4224]⟩
abbrev S1024x4224 : Shape := ⟨2, ![1024, 4224]⟩
abbrev S_ : Shape := ⟨0, ![]⟩
abbrev S8448x1024 : Shape := ⟨2, ![8448, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x4224, .bf16⟩
  | .hbm, ⟨1, _⟩ => ⟨S1024x4224, .bf16⟩
  | .hbm, ⟨2, _⟩ => ⟨S8448x4224, .f32⟩
  | .hbm, ⟨3, _⟩ => ⟨S1024x4224, .f32⟩
  | .hbm, ⟨4, _⟩ => ⟨S_, .f32⟩
  | .hbm, ⟨5, _⟩ => ⟨S8448x1024, .f32⟩
  | .hbm, ⟨6, _⟩ => ⟨S8448x4224, .f32⟩
  | .hbm, ⟨7, _⟩ => ⟨S8448x1024, .f32⟩
  | .hbm, ⟨8, _⟩ => ⟨S8448x1024, .bf16⟩
  | _, _ => ⟨S8448x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDgn.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S1024x2048, .bf16⟩
  | .local _ .vmem, ⟨4, _⟩ => ⟨S1024x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDgnIdeal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x1024, .f32⟩
  | .hbm, ⟨3, _⟩ => ⟨S2048x1024, .f32⟩
  | .hbm, ⟨4, _⟩ => ⟨S_, .f32⟩
  | .hbm, ⟨5, _⟩ => ⟨S8192x2048, .f32⟩
  | .hbm, ⟨6, _⟩ => ⟨S8192x1024, .f32⟩
  | .hbm, ⟨7, _⟩ => ⟨S8192x2048, .f32⟩
  | .hbm, ⟨8, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDmerged.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDmergedIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelProjRest.lean ====
abbrev S8192x1024 : Shape := ⟨2, ![8192, 1024]⟩
abbrev S1024x7168 : Shape := ⟨2, ![1024, 7168]⟩
abbrev S8192x7168 : Shape := ⟨2, ![8192, 7168]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x7168, .bf16⟩
  | .hbm, ⟨2, _⟩ => ⟨S8192x7168, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceProjRestIdeal.lean ====
abbrev S8192x1024 : Shape := ⟨2, ![8192, 1024]⟩
abbrev S1024x7168 : Shape := ⟨2, ![1024, 7168]⟩
abbrev S8192x7168 : Shape := ⟨2, ![8192, 7168]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x7168, .bf16⟩
  | .hbm, ⟨2, _⟩ => ⟨S8192x1024, .f32⟩
  | .hbm, ⟨3, _⟩ => ⟨S1024x7168, .f32⟩
  | .hbm, ⟨4, _⟩ => ⟨S8192x7168, .f32⟩
  | .hbm, ⟨5, _⟩ => ⟨S8192x7168, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelProjSsd.lean ====
abbrev S8448x1024 : Shape := ⟨2, ![8448, 1024]⟩
abbrev S1024x4224 : Shape := ⟨2, ![1024, 4224]⟩
abbrev S8448x4224 : Shape := ⟨2, ![8448, 4224]⟩
abbrev S768x1024 : Shape := ⟨2, ![768, 1024]⟩
abbrev S1024x1408 : Shape := ⟨2, ![1024, 1408]⟩
abbrev S768x1408 : Shape := ⟨2, ![768, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S1024x4224, .bf16⟩
  | .hbm, ⟨2, _⟩ => ⟨S8448x4224, .f32⟩
  | .local _ .vmem, ⟨0, _⟩ => ⟨S768x1024, .bf16⟩
  | .local _ .vmem, ⟨1, _⟩ => ⟨S768x1024, .bf16⟩
  | .local _ .vmem, ⟨2, _⟩ => ⟨S1024x1408, .bf16⟩
  | .local _ .vmem, ⟨3, _⟩ => ⟨S1024x1408, .bf16⟩
  | .local _ .vmem, ⟨4, _⟩ => ⟨S768x1408, .f32⟩
  | .local _ .vmem, ⟨5, _⟩ => ⟨S768x1408, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S768x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceProjSsdIdeal.lean ====
abbrev S8448x1024 : Shape := ⟨2, ![8448, 1024]⟩
abbrev S1024x4224 : Shape := ⟨2, ![1024, 4224]⟩
abbrev S8448x4224 : Shape := ⟨2, ![8448, 4224]⟩

abbrev nBuf : Space → Nat
  | .hbm => 5
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x4224, .bf16⟩
  | .hbm, ⟨2, _⟩ => ⟨S8448x1024, .f32⟩
  | .hbm, ⟨3, _⟩ => ⟨S1024x4224, .f32⟩
  | .hbm, ⟨4, _⟩ => ⟨S8448x4224, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelOutSsm.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutSsmIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x2048, .f32⟩
  | .hbm, ⟨3, _⟩ => ⟨S2048x1024, .f32⟩
  | .hbm, ⟨4, _⟩ => ⟨S8192x1024, .f32⟩
  | .hbm, ⟨5, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelOutConf.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutConfIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelOutProj.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutProjIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelMerge.lean ====
abbrev S8192x1024 : Shape := ⟨2, ![8192, 1024]⟩
abbrev S8192x7168 : Shape := ⟨2, ![8192, 7168]⟩
abbrev S512x1024 : Shape := ⟨2, ![512, 1024]⟩

abbrev nBuf : Space → Nat
  | .hbm => 4
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x7168, .bf16⟩
  | .hbm, ⟨3, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceMergeIdeal.lean ====
abbrev S8192x1024 : Shape := ⟨2, ![8192, 1024]⟩
abbrev S8192x7168 : Shape := ⟨2, ![8192, 7168]⟩
abbrev S8192x2048 : Shape := ⟨2, ![8192, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x7168, .bf16⟩
  | .hbm, ⟨3, _⟩ => ⟨S8192x1024, .f32⟩
  | .hbm, ⟨4, _⟩ => ⟨S8192x1024, .f32⟩
  | .hbm, ⟨5, _⟩ => ⟨S8192x2048, .bf16⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== KernelDgate.lean ====
abbrev S8192x1024 : Shape := ⟨2, ![8192, 1024]⟩
abbrev S8192x7168 : Shape := ⟨2, ![8192, 7168]⟩
abbrev S512x1024 : Shape := ⟨2, ![512, 1024]⟩
abbrev S512x2048 : Shape := ⟨2, ![512, 2048]⟩
abbrev S8192x2048 : Shape := ⟨2, ![8192, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x7168, .bf16⟩
  | .hbm, ⟨4, _⟩ => ⟨S8192x1024, .bf16⟩
  | .hbm, ⟨5, _⟩ => ⟨S8192x1024, .bf16⟩
  | .hbm, ⟨6, _⟩ => ⟨S8192x7168, .bf16⟩
  | .hbm, ⟨7, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x2048, .bf16⟩
  | .local _ .vmem, ⟨15, _⟩ => ⟨S512x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceDgateIdeal.lean ====
abbrev S8192x1024 : Shape := ⟨2, ![8192, 1024]⟩
abbrev S8192x7168 : Shape := ⟨2, ![8192, 7168]⟩
abbrev S8192x2048 : Shape := ⟨2, ![8192, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x7168, .bf16⟩
  | .hbm, ⟨4, _⟩ => ⟨S8192x1024, .f32⟩
  | .hbm, ⟨5, _⟩ => ⟨S8192x1024, .f32⟩
  | .hbm, ⟨6, _⟩ => ⟨S8192x2048, .bf16⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x2048, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x1024, .bf16⟩
  | .hbm, ⟨37, _⟩ => ⟨S8192x1024, .bf16⟩
  | .hbm, ⟨38, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== KernelAdamMod.lean ====
abbrev S1024x768 : Shape := ⟨2, ![1024, 768]⟩
abbrev S512x768 : Shape := ⟨2, ![512, 768]⟩

abbrev nBuf : Space → Nat
  | .hbm => 7
  | .vmem => 14
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamModIdeal.lean ====
abbrev S1024x768 : Shape := ⟨2, ![1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamRest.lean ====
abbrev S1040x1024 : Shape := ⟨2, ![1040, 1024]⟩
abbrev S520x1024 : Shape := ⟨2, ![520, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1040x1024, .f32⟩
  | .hbm, ⟨1, _⟩ => ⟨S1040x1024, .f32⟩
  | .hbm, ⟨2, _⟩ => ⟨S1040x1024, .f32⟩
  | .hbm, ⟨3, _⟩ => ⟨S1040x1024, .f32⟩
  | .hbm, ⟨4, _⟩ => ⟨S1040x1024, .f32⟩
  | .hbm, ⟨5, _⟩ => ⟨S1040x1024, .f32⟩
  | .hbm, ⟨6, _⟩ => ⟨S1040x1024, .f32⟩
  | .local _ .vmem, ⟨0, _⟩ => ⟨S520x1024, .f32⟩
  | .local _ .vmem, ⟨1, _⟩ => ⟨S520x1024, .f32⟩
  | .local _ .vmem, ⟨2, _⟩ => ⟨S520x1024, .f32⟩
  | .local _ .vmem, ⟨3, _⟩ => ⟨S520x1024, .f32⟩
  | .local _ .vmem, ⟨4, _⟩ => ⟨S520x1024, .f32⟩
  | .local _ .vmem, ⟨5, _⟩ => ⟨S520x1024, .f32⟩
  | .local _ .vmem, ⟨6, _⟩ => ⟨S520x1024, .f32⟩
  | .local _ .vmem, ⟨7, _⟩ => ⟨S520x1024, .f32⟩
  | .local _ .vmem, ⟨8, _⟩ => ⟨S520x1024, .f32⟩
  | .local _ .vmem, ⟨9, _⟩ => ⟨S520x1024, .f32⟩
  | .local _ .vmem, ⟨10, _⟩ => ⟨S520x1024, .f32⟩
  | .local _ .vmem, ⟨11, _⟩ => ⟨S520x1024, .f32⟩
  | .local _ .vmem, ⟨12, _⟩ => ⟨S520x1024, .f32⟩
  | .local _ .vmem, ⟨13, _⟩ => ⟨S520x1024, .f32⟩
  | _, _ => ⟨S1040x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S520x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S520x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S520x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S520x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S520x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S520x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S520x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamRestIdeal.lean ====
abbrev S1040x1024 : Shape := ⟨2, ![1040, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1040x1024, .f32⟩
  | .hbm, ⟨1, _⟩ => ⟨S1040x1024, .f32⟩
  | .hbm, ⟨2, _⟩ => ⟨S1040x1024, .f32⟩
  | .hbm, ⟨3, _⟩ => ⟨S1040x1024, .f32⟩
  | .hbm, ⟨4, _⟩ => ⟨S_, .f32⟩
  | .hbm, ⟨5, _⟩ => ⟨S1040x1024, .f32⟩
  | .hbm, ⟨6, _⟩ => ⟨S1040x1024, .f32⟩
  | .hbm, ⟨7, _⟩ => ⟨S_, .f32⟩
  | .hbm, ⟨8, _⟩ => ⟨S1040x1024, .f32⟩
  | .hbm, ⟨9, _⟩ => ⟨S1040x1024, .f32⟩
  | .hbm, ⟨10, _⟩ => ⟨S1040x1024, .f32⟩
  | .hbm, ⟨11, _⟩ => ⟨S_, .f32⟩
  | .hbm, ⟨12, _⟩ => ⟨S1040x1024, .f32⟩
  | .hbm, ⟨13, _⟩ => ⟨S1040x1024, .f32⟩
  | .hbm, ⟨14, _⟩ => ⟨S1040x1024, .f32⟩
  | .hbm, ⟨15, _⟩ => ⟨S_, .f32⟩
  | .hbm, ⟨16, _⟩ => ⟨S1040x1024, .f32⟩
  | .hbm, ⟨17, _⟩ => ⟨S1040x1024, .f32⟩
  | .hbm, ⟨18, _⟩ => ⟨S1040x1024, .f32⟩
  | .hbm, ⟨19, _⟩ => ⟨S_, .f32⟩
  | .hbm, ⟨20, _⟩ => ⟨S1040x1024, .f32⟩
  | .hbm, ⟨21, _⟩ => ⟨S1040x1024, .f32⟩
  | .hbm, ⟨22, _⟩ => ⟨S_, .f32⟩
  | .hbm, ⟨23, _⟩ => ⟨S1040x1024, .f32⟩
  | .hbm, ⟨24, _⟩ => ⟨S1040x1024, .f32⟩
  | .hbm, ⟨25, _⟩ => ⟨S1040x1024, .f32⟩
  | .hbm, ⟨26, _⟩ => ⟨S_, .f32⟩
  | .hbm, ⟨27, _⟩ => ⟨S1040x1024, .f32⟩
  | .hbm, ⟨28, _⟩ => ⟨S1040x1024, .f32⟩
  | .hbm, ⟨29, _⟩ => ⟨S1040x1024, .f32⟩
  | .hbm, ⟨30, _⟩ => ⟨S_, .f32⟩
  | .hbm, ⟨31, _⟩ => ⟨S1040x1024, .f32⟩
  | .hbm, ⟨32, _⟩ => ⟨S1040x1024, .f32⟩
  | .hbm, ⟨33, _⟩ => ⟨S1040x1024, .f32⟩
  | .hbm, ⟨34, _⟩ => ⟨S_, .f32⟩
  | .hbm, ⟨35, _⟩ => ⟨S1040x1024, .f32⟩
  | .hbm, ⟨36, _⟩ => ⟨S1040x1024, .f32⟩
  | _, _ => ⟨S1040x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamIn.lean ====
abbrev S1 : Shape := ⟨1, ![1]⟩
abbrev S512x2832 : Shape := ⟨2, ![512, 2832]⟩
abbrev S1024x2832 : Shape := ⟨2, ![1024, 2832]⟩
abbrev S128x2832 : Shape := ⟨2, ![128, 2832]⟩

abbrev nBuf : Space → Nat
  | .hbm => 9
  | .vmem => 18
  | .smem => 1
  | _ => 0

abbrev bufTy : (tb : Table) → Fin (tcTables nBuf tb) → BufTy
  | .hbm, ⟨0, _⟩ => ⟨S512x2832, .f32⟩
  | .hbm, ⟨1, _⟩ => ⟨S512x2832, .f32⟩
  | .hbm, ⟨2, _⟩ => ⟨S1024x2832, .f32⟩
  | .hbm, ⟨3, _⟩ => ⟨S1024x2832, .f32⟩
  | .hbm, ⟨4, _⟩ => ⟨S1024x2832, .f32⟩
  | .hbm, ⟨5, _⟩ => ⟨S1024x2832, .f32⟩
  | .hbm, ⟨6, _⟩ => ⟨S1024x2832, .f32⟩
  | .hbm, ⟨7, _⟩ => ⟨S1024x2832, .f32⟩
  | .hbm, ⟨8, _⟩ => ⟨S1024x2832, .f32⟩
  | .local _ .vmem, ⟨0, _⟩ => ⟨S128x2832, .f32⟩
  | .local _ .vmem, ⟨1, _⟩ => ⟨S128x2832, .f32⟩
  | .local _ .vmem, ⟨2, _⟩ => ⟨S128x2832, .f32⟩
  | .local _ .vmem, ⟨3, _⟩ => ⟨S128x2832, .f32⟩
  | .local _ .vmem, ⟨4, _⟩ => ⟨S128x2832, .f32⟩
  | .local _ .vmem, ⟨5, _⟩ => ⟨S128x2832, .f32⟩
  | .local _ .vmem, ⟨6, _⟩ => ⟨S128x2832, .f32⟩
  | .local _ .vmem, ⟨7, _⟩ => ⟨S128x2832, .f32⟩
  | .local _ .vmem, ⟨8, _⟩ => ⟨S128x2832, .f32⟩
  | .local _ .vmem, ⟨9, _⟩ => ⟨S128x2832, .f32⟩
  | .local _ .vmem, ⟨10, _⟩ => ⟨S128x2832, .f32⟩
  | .local _ .vmem, ⟨11, _⟩ => ⟨S128x2832, .f32⟩
  | .local _ .vmem, ⟨12, _⟩ => ⟨S128x2832, .f32⟩
  | .local _ .vmem, ⟨13, _⟩ => ⟨S128x2832, .f32⟩
  | .local _ .vmem, ⟨14, _⟩ => ⟨S128x2832, .f32⟩
  | .local _ .vmem, ⟨15, _⟩ => ⟨S128x2832, .f32⟩
  | .local _ .vmem, ⟨16, _⟩ => ⟨S128x2832, .f32⟩
  | .local _ .vmem, ⟨17, _⟩ => ⟨S128x2832, .f32⟩
  | .local _ .smem, ⟨0, _⟩ => ⟨S1, .i32⟩
  | _, _ => ⟨S512x2832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2832 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2832 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2832 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2832 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2832 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2832 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2832 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2832 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2832 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceAdamInIdeal.lean ====
abbrev S1 : Shape := ⟨1, ![1]⟩
abbrev S512x2832 : Shape := ⟨2, ![512, 2832]⟩
abbrev S1024x2832 : Shape := ⟨2, ![1024, 2832]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S512x2832, .f32⟩
  | .hbm, ⟨2, _⟩ => ⟨S512x2832, .f32⟩
  | .hbm, ⟨3, _⟩ => ⟨S1024x2832, .f32⟩
  | .hbm, ⟨4, _⟩ => ⟨S1024x2832, .f32⟩
  | .hbm, ⟨5, _⟩ => ⟨S1024x2832, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x2832, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x2832, .f32⟩
  | .hbm, ⟨14, _⟩ => ⟨S1024x2832, .f32⟩
  | .hbm, ⟨15, _⟩ => ⟨S_, .f32⟩
  | .hbm, ⟨16, _⟩ => ⟨S1024x2832, .f32⟩
  | .hbm, ⟨17, _⟩ => ⟨S1024x2832, .f32⟩
  | .hbm, ⟨18, _⟩ => ⟨S_, .f32⟩
  | .hbm, ⟨19, _⟩ => ⟨S1024x2832, .f32⟩
  | .hbm, ⟨20, _⟩ => ⟨S1024x2832, .f32⟩
  | .hbm, ⟨21, _⟩ => ⟨S1024x2832, .f32⟩
  | .hbm, ⟨22, _⟩ => ⟨S_, .f32⟩
  | .hbm, ⟨23, _⟩ => ⟨S1024x2832, .f32⟩
  | .hbm, ⟨24, _⟩ => ⟨S1024x2832, .f32⟩
  | .hbm, ⟨25, _⟩ => ⟨S1024x2832, .f32⟩
  | .hbm, ⟨26, _⟩ => ⟨S_, .f32⟩
  | .hbm, ⟨27, _⟩ => ⟨S1024x2832, .f32⟩
  | .hbm, ⟨28, _⟩ => ⟨S1024x2832, .f32⟩
  | .hbm, ⟨29, _⟩ => ⟨S1024x2832, .f32⟩
  | .hbm, ⟨30, _⟩ => ⟨S_, .f32⟩
  | .hbm, ⟨31, _⟩ => ⟨S1024x2832, .f32⟩
  | .hbm, ⟨32, _⟩ => ⟨S1024x2832, .f32⟩
  | .hbm, ⟨33, _⟩ => ⟨S_, .f32⟩
  | .hbm, ⟨34, _⟩ => ⟨S1024x2832, .f32⟩
  | .hbm, ⟨35, _⟩ => ⟨S1024x2832, .f32⟩
  | .hbm, ⟨36, _⟩ => ⟨S1024x2832, .f32⟩
  | .hbm, ⟨37, _⟩ => ⟨S_, .f32⟩
  | .hbm, ⟨38, _⟩ => ⟨S1024x2832, .f32⟩
  | .hbm, ⟨39, _⟩ => ⟨S1024x2832, .f32⟩
  | .hbm, ⟨40, _⟩ => ⟨S1024x2832, .f32⟩
  | .hbm, ⟨41, _⟩ => ⟨S_, .f32⟩
  | .hbm, ⟨42, _⟩ => ⟨S1024x2832, .f32⟩
  | .hbm, ⟨43, _⟩ => ⟨S1024x2832, .f32⟩
  | .hbm, ⟨44, _⟩ => ⟨S1024x2832, .f32⟩
  | .hbm, ⟨45, _⟩ => ⟨S_, .f32⟩
  | .hbm, ⟨46, _⟩ => ⟨S1024x2832, .f32⟩
  | .hbm, ⟨47, _⟩ => ⟨S1024x2832, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Proof.Blocks.lean ====
module

public import Idealize.ShloMosaic.PureOps.Ideal.Laws
public import Idealize.ShloMosaic.Lib.MatmulPlain
public import Idealize.ShloMosaic.Lib.Pipeline.Value

/-! Products of matrices computed in blocks. An array of extended reals is written as a function of two numbers, and
the sum over the contracted axis is split into the blocks in which the kernels take it. Sums of extended reals may be
regrouped and products commuted whatever the entries are, so nothing here asks that they be finite. -/

@[expose] public section

noncomputable section

namespace Blocks

open Idealize.ShloMosaic Idealize.ShloMosaic.ValueIdx
open scoped BigOperators

/-- The array of two axes whose entries are the values of a function. -/
def arr {M N : ℕ} (f : ℕ → ℕ → EReal) : (⟨2, ![M, N]⟩ : Shape).Idx → EReal := fun i => f (i 0).val (i 1).val

/-- Every array of two axes is the array of some function. -/
theorem exists_arr {M N : ℕ} (x : (⟨2, ![M, N]⟩ : Shape).Idx → EReal) : ∃ f, x = arr f := by
  refine ⟨fun p q => if h : p < M ∧ q < N then x (ix2 ⟨p, h.1⟩ ⟨q, h.2⟩) else 0, funext fun i => ?_⟩
  have h : (i 0).val < M ∧ (i 1).val < N := ⟨(i 0).isLt, (i 1).isLt⟩
  refine Eq.trans ?_ (dif_pos h).symm
  refine congrArg x (funext fun a => Fin.ext ?_)
  match a with
  | ⟨0, _⟩ => rfl
  | ⟨1, _⟩ => rfl

/-- The product of the transpose of `A` and `B`, summed over the first `n` rows. -/
def colSum (A B : ℕ → ℕ → EReal) (n p q : ℕ) : EReal := ∑ k ∈ Finset.range n, A k p * B k q

/-- The product of `A` and the transpose of `B`, summed over the first `n` columns. -/
def rowSum (A B : ℕ → ℕ → EReal) (n p q : ℕ) : EReal := ∑ k ∈ Finset.range n, A p k * B q k

/-- The dimension numbers of a product that contracts the first axis of both operands. -/
def firstAxes (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- A product that contracts the first axes, at an entry of its result. -/
theorem firstAxes_apply {K M N : ℕ} (lhs : FVec Ideal ⟨2, ![K, M]⟩ .bf16) (rhs : FVec Ideal ⟨2, ![K, N]⟩ .bf16)
    (acc : FVec Ideal ⟨2, ![M, N]⟩ .f32) (r : Fin M) (c : Fin N) :
    FloatOps.matmul (firstAxes K M N) none lhs rhs acc (ix2 r c) = acc (ix2 r c) + ∑ k : Fin K, lhs (ix2 k r) * rhs (ix2 k c) := by
  rw [Ideal.matmul_apply, ← Equiv.sum_comp (contrEquiv1 (firstAxes K M N) K rfl rfl).symm]
  refine congrArg (acc (ix2 r c) + ·) (Finset.sum_congr rfl fun k _ => ?_)
  have hk := contrEquiv1_symm_val (firstAxes K M N) K rfl rfl k
  have el : (firstAxes K M N).lhsIdx (ix2 r c) ((contrEquiv1 (firstAxes K M N) K rfl rfl).symm k) = ix2 k r := by
    funext a; apply Fin.ext
    match a with
    | ⟨0, _⟩ => exact hk
    | ⟨1, _⟩ => rfl
  have er : (firstAxes K M N).rhsIdx (ix2 r c) ((contrEquiv1 (firstAxes K M N) K rfl rfl).symm k) = ix2 k c := by
    funext a; apply Fin.ext
    match a with
    | ⟨0, _⟩ => exact hk
    | ⟨1, _⟩ => rfl
  rw [el, er]

/-- The offsets of a whole buffer are zero. -/
theorem hz : (![0, 0] : Fin 2 → Nat) = fun _ => 0 := funext fun a => by fin_cases a <;> rfl

/-- The word of the number zero is the number zero. -/
theorem zero_word : (FloatOps.ofBits (F := Ideal) .f32 0x00000000#32 : EReal) = 0 := Ideal.ofBits_zero_f32

/-- An index of two axes is the pair of its coordinates. -/
theorem ix2_eta {M N : ℕ} (i : (⟨2, ![M, N]⟩ : Shape).Idx) : ix2 ⟨(i 0).val, (i 0).isLt⟩ ⟨(i 1).val, (i 1).isLt⟩ = i := by
  funext a
  match a with
  | ⟨0, _⟩ => rfl
  | ⟨1, _⟩ => rfl

/-- One block of a product that contracts the first axes, added to what the blocks before it gave, gives the sum up to
the end of the block. The block is the `s`-th along the contracted axis and the `j`-th along the result's columns. -/
theorem colSum_step {K M N : ℕ} (A B : ℕ → ℕ → EReal) (s j : ℕ) :
    addf (F := Ideal) (φ := .f32) (arr fun p q => colSum A B (K * s) p (N * j + q))
      (matmul (F := Ideal) (φ₁ := .bf16) (φ₂ := .bf16) (firstAxes K M N) none (arr fun k p => A (K * s + k) p)
        (arr fun k q => B (K * s + k) (N * j + q)) (constant ⟨2, ![M, N]⟩ .f32 0x00000000#32))
      = arr fun p q => colSum A B (K * (s + 1)) p (N * j + q) := by
  funext i
  rw [← ix2_eta i]
  refine congrArg (colSum A B (K * s) (i 0).val (N * j + (i 1).val) + ·) (firstAxes_apply _ _ _ _ _) |>.trans ?_
  show _ + (FloatOps.ofBits (F := Ideal) .f32 0x00000000#32 + ∑ k : Fin K, A (K * s + k) (i 0).val * B (K * s + k) (N * j + (i 1).val))
    = ∑ k ∈ Finset.range (K * (s + 1)), A k (i 0).val * B k (N * j + (i 1).val)
  rw [zero_word, zero_add, Nat.mul_succ, Finset.sum_range_add, Finset.sum_range fun k => A (K * s + k) (i 0).val * _]
  rfl

/-- Before the first block the sum is zero. -/
theorem colSum_zero {M N : ℕ} (A B : ℕ → ℕ → EReal) (K j : ℕ) :
    (broadcast ⟨2, ![M, N]⟩ (Scalar.ofBits .f32 0x00000000#32) : FVec Ideal ⟨2, ![M, N]⟩ .f32)
      = arr fun p q => colSum A B (K * 0) p (N * j + q) := by
  funext i
  show (FloatOps.ofBits (F := Ideal) .f32 0x00000000#32 : EReal) = ∑ k ∈ Finset.range (K * 0), A k (i 0).val * B k (N * j + (i 1).val)
  rw [zero_word, Nat.mul_zero, Finset.sum_range_zero]

/-- A sum over the rows, with the factors in the other order. -/
theorem colSum_swap (A B : ℕ → ℕ → EReal) (K p q : ℕ) : ∑ k : Fin K, B k.val q * A k.val p = colSum A B K p q :=
  (Finset.sum_congr rfl fun k _ => mul_comm (B k.val q) (A k.val p)).trans (Finset.sum_range fun k => A k p * B k q).symm

/-- A sum over the columns. -/
theorem rowSum_fin (A B : ℕ → ℕ → EReal) (K p q : ℕ) : ∑ k : Fin K, A p k.val * B q k.val = rowSum A B K p q :=
  (Finset.sum_range fun k => A p k * B q k).symm

/-- A block of a product that contracts the last axes, of some rows of both factors, is the block of the sums. -/
theorem rowSum_block {K M N : ℕ} (A B : ℕ → ℕ → EReal) (s j : ℕ) :
    matmul (F := Ideal) (φ₁ := .bf16) (φ₂ := .bf16) (DotDims.transposedRhs M K N) none (arr fun p k => A (M * s + p) (K * 0 + k))
        (arr fun q k => B (N * j + q) (K * 0 + k)) (constant ⟨2, ![M, N]⟩ .f32 0x00000000#32)
      = arr fun p q => rowSum A B K (M * s + p) (N * j + q) := by
  funext i
  rw [← ix2_eta i]
  refine (Ideal.matmul_transposedRhs_apply none _ _ _ _ _).trans ?_
  show FloatOps.ofBits (F := Ideal) .f32 0x00000000#32 + ∑ k : Fin K, A (M * s + (i 0).val) (K * 0 + k) * B (N * j + (i 1).val) (K * 0 + k)
    = ∑ k ∈ Finset.range K, A (M * s + (i 0).val) k * B (N * j + (i 1).val) k
  simp only [zero_word, Nat.mul_zero, zero_add, Finset.sum_range]

/-- The product of `A` and `B`, whose common axis has `n` places. -/
def plainSum (A B : ℕ → ℕ → EReal) (n p q : ℕ) : EReal := ∑ k ∈ Finset.range n, A p k * B k q

/-- A sum over the common axis. -/
theorem plainSum_fin (A B : ℕ → ℕ → EReal) (K p q : ℕ) : ∑ k : Fin K, A p k.val * B k.val q = plainSum A B K p q :=
  (Finset.sum_range fun k => A p k * B k q).symm

/-- A block of a product of some rows and some columns is the block of the sums. -/
theorem plainSum_block {K M N : ℕ} (A B : ℕ → ℕ → EReal) (s j : ℕ) :
    matmul (F := Ideal) (φ₁ := .bf16) (φ₂ := .bf16) (DotDims.plain M K N) none (arr fun p k => A (M * s + p) (K * 0 + k))
        (arr fun k q => B (K * 0 + k) (N * j + q)) (constant ⟨2, ![M, N]⟩ .f32 0x00000000#32)
      = arr fun p q => plainSum A B K (M * s + p) (N * j + q) := by
  funext i
  rw [← ix2_eta i]
  refine (Ideal.matmul_plain_apply none _ _ _ _ _).trans ?_
  show FloatOps.ofBits (F := Ideal) .f32 0x00000000#32 + ∑ k : Fin K, A (M * s + (i 0).val) (K * 0 + k) * B (K * 0 + k) (N * j + (i 1).val)
    = ∑ k ∈ Finset.range K, A (M * s + (i 0).val) k * B k (N * j + (i 1).val)
  simp only [zero_word, Nat.mul_zero, zero_add, Finset.sum_range]

section Tile

variable {M N R C : ℕ} (e : (⟨2, ![R, C]⟩ : Shape).Idx ↪ (⟨2, ![M, N]⟩ : Shape).Idx) (r s : ℕ)
  (h0 : ∀ i, (e i 0).val = r * R + 1 * (i 0).val) (h1 : ∀ i, (e i 1).val = s * C + 1 * (i 1).val)
include h0 h1

/-- The entries of an array that lie in the block of the given numbers. -/
theorem tile {x : (⟨2, ![M, N]⟩ : Shape).Idx → EReal} {A : ℕ → ℕ → EReal} (hx : x = arr A) :
    (fun i => x (e i)) = arr fun k l => A (R * r + k) (C * s + l) := by
  subst hx
  funext i
  show A (e i 0).val (e i 1).val = A (R * r + (i 0).val) (C * s + (i 1).val)
  rw [h0, h1, Nat.mul_comm r, Nat.mul_comm s, Nat.one_mul, Nat.one_mul]

/-- An entry whose coordinates divided by the extents of a block are the block's numbers lies in it. -/
theorem mem_tile (i : (⟨2, ![M, N]⟩ : Shape).Idx) (hR : 0 < R) (hC : 0 < C) (hr : r = (i 0).val / R) (hs : s = (i 1).val / C) :
    i ∈ Finset.univ.map e := by
  refine Finset.mem_map.2 ⟨ValueIdx.ix2 ⟨(i 0).val % R, Nat.mod_lt _ hR⟩ ⟨(i 1).val % C, Nat.mod_lt _ hC⟩, Finset.mem_univ _, ?_⟩
  funext a
  refine Fin.ext ?_
  match a with
  | ⟨0, _⟩ => exact (h0 _).trans (by rw [hr, Nat.one_mul]; exact Nat.div_add_mod' _ _)
  | ⟨1, _⟩ => exact (h1 _).trans (by rw [hs, Nat.one_mul]; exact Nat.div_add_mod' _ _)

end Tile

/-- What is carried from point to point, begun anew at every `J`-th point and taken one step further at the others, is at
each point what the steps of its run give. -/
theorem carried {X : Type} {n J : ℕ} (f : (t : ℕ) → t < n → X) (S : ℕ → ℕ → X)
    (first : ∀ t : Fin n, t.val % J = 0 → f t.val t.isLt = S 1 (t.val / J))
    (next : ∀ t : Fin n, ¬t.val % J = 0 → f (t.val - 1) (Nat.lt_of_le_of_lt (Nat.sub_le _ _) t.isLt) = S (t.val % J) (t.val / J) →
      f t.val t.isLt = S (t.val % J + 1) (t.val / J)) (t : ℕ) (ht : t < n) : f t ht = S (t % J + 1) (t / J) := by
  induction t with
  | zero =>
    have h := first ⟨0, ht⟩ (Nat.zero_mod J)
    simpa using h
  | succ t ih =>
    by_cases h : (t + 1) % J = 0
    · rw [h]
      exact first ⟨t + 1, ht⟩ h
    · refine next ⟨t + 1, ht⟩ h ((ih (Nat.lt_of_succ_lt ht)).trans ?_)
      have hd : (t + 1) / J = t / J := Nat.succ_div_of_not_dvd fun hd => h (Nat.mod_eq_zero_of_dvd hd)
      have e1 := Nat.div_add_mod (t + 1) J
      have e2 := Nat.div_add_mod t J
      rw [hd] at e1
      show S (t % J + 1) (t / J) = S ((t + 1) % J) ((t + 1) / J)
      rw [hd]
      congr 1
      omega

/-- What is carried from point to point, begun anew from zero at every `J`-th point and increased at each by the product of
the point's blocks, is at each point the sum over the blocks of rows of its run up to it. -/
theorem sums {K M N n J : ℕ} {A B : ℕ → ℕ → EReal} (f : (t : ℕ) → t < n → FVec Ideal ⟨2, ![M, N]⟩ .f32)
    (pay : FVec Ideal ⟨2, ![M, N]⟩ .f32 → FVec Ideal ⟨2, ![K, M]⟩ .bf16 → FVec Ideal ⟨2, ![K, N]⟩ .bf16 → FVec Ideal ⟨2, ![M, N]⟩ .f32)
    (zero : FVec Ideal ⟨2, ![M, N]⟩ .f32) (a : Fin n → FVec Ideal ⟨2, ![K, M]⟩ .bf16) (b : Fin n → FVec Ideal ⟨2, ![K, N]⟩ .bf16)
    (hpay : ∀ z x y, pay z x y = addf z (matmul (firstAxes K M N) none x y (constant ⟨2, ![M, N]⟩ .f32 0x00000000#32)))
    (hzero : zero = broadcast ⟨2, ![M, N]⟩ (Scalar.ofBits .f32 0x00000000#32))
    (ha : ∀ t : Fin n, a t = arr fun k p => A (K * (t.val % J) + k) (M * 0 + p))
    (hb : ∀ t : Fin n, b t = arr fun k q => B (K * (t.val % J) + k) (N * (t.val / J) + q))
    (first : ∀ t : Fin n, t.val % J = 0 → f t.val t.isLt = pay zero (a t) (b t))
    (next : ∀ t : Fin n, ¬t.val % J = 0 →
      f t.val t.isLt = pay (f (t.val - 1) (Nat.lt_of_le_of_lt (Nat.sub_le _ _) t.isLt)) (a t) (b t)) :
    ∀ (t : ℕ) (ht : t < n), f t ht = arr fun p q => colSum A B (K * (t % J + 1)) p (N * (t / J) + q) := by
  have step (t : Fin n) : pay (arr fun p q => colSum A B (K * (t.val % J)) p (N * (t.val / J) + q)) (a t) (b t)
      = arr fun p q => colSum A B (K * (t.val % J + 1)) p (N * (t.val / J) + q) := by
    rw [hpay, ha, hb]
    simpa only [Nat.mul_zero, zero_add] using colSum_step A B (t.val % J) (t.val / J)
  refine carried f (fun s j => arr fun p q => colSum A B (K * s) p (N * j + q)) (fun t h => ?_) fun t h e => ?_
  · have e := step t
    rw [h, ← colSum_zero, ← hzero] at e
    exact (first t h).trans e
  · rw [next t h, e]
    exact step t

end Blocks

end
-- ==== Proof.GwRestVal.lean ====
module

public import proofs.«01_k».proof.Proof.Blocks
public import proofs.«01_k».proof.Proof.Gen.KernelGwRestIdeal.Value
public import proofs.«01_k».proof.Proof.Gen.ReferenceGwRestIdeal.Read
public import proofs.«01_k».proof.Proof.Gen.ReferenceGwRestIdeal.Run
public import proofs.«01_k».proof.Defs

/-! The gradient of the projection's weights but those of the state-space columns: the sum over the rows that the kernel
carries from point to point, and the array it ends with. -/

@[expose] public section

set_option maxRecDepth 16384

noncomputable section

namespace Cert.KernelGwRestIdeal.Value

open Cert.KernelGwRestIdeal Cert.KernelGwRestIdeal.Gen Cert.ReferenceGwRestIdeal.Read Idealize.ShloMosaic Idealize.ShloMosaic.TcCoe Idealize.SL.Sem Blocks

/-- Which blocks a point reads and writes. -/
theorem index : ∀ t : Fin cfg0.N, win0_0.index t (0 : Fin 2) = t.val % 8 ∧ win0_0.index t (1 : Fin 2) = 0
    ∧ win0_1.index t (0 : Fin 2) = t.val % 8 ∧ win0_1.index t (1 : Fin 2) = t.val / 8
    ∧ win0_2.index t (0 : Fin 2) = 0 ∧ win0_2.index t (1 : Fin 2) = t.val / 8 :=
  (by decide +kernel : ∀ t : Fin grid0.N, _)

section Cases

variable (c : Dev nD) (i : grid0.Coords) (a0 : Memref sig .tc .vmem S1024x1024 .bf16) (h0 : a0.IsWhole)
  (a1 : Memref sig .tc .vmem S1024x1024 .bf16) (h1 : a1.IsWhole) (a2 : Memref sig .tc .vmem S1024x1024 .f32) (h2 : a2.IsWhole)
  (a3 : Memref sig .tc .vmem S1024x1024 .f32) (h3 : a3.IsWhole) (x0 x1 : Vec Ideal S1024x1024 .bf16)
  (acc : Vec Ideal S1024x1024 .f32)

/-- The first point of a run leaves its product, added to zero. -/
theorem first (hc0 hc1) : sout0_A_0 c i a0 h0 a1 h1 a2 h2 a3 h3 hc0 hc1 x0 x1 = k0_pay2 k0_pay1 x0 x1 := by
  unfold sout0_A_0
  rw [View.read_writes_eq_canon _ _ _ (scover0_A_0 c i a0 h0 a1 h1 a2 h2 a3 h3 hc0 hc1 x0 x1)]
  unfold kernelRun0_A
  dsimp only
  sl_unfold_words
  rw [View.canon_cons_unit_zero (S := S1024x1024) hz, View.readCov_unit_zero (S := S1024x1024) _ hz]
  simp only [View.readAt_eq_ld, h0.read_unread, h1.read_unread, View.ld_unit_zero (S := S1024x1024) hz]

/-- A later point adds its product to what is carried. -/
theorem middle (hc0 hc1) : sout0_B_0 c i a0 h0 a1 h1 a2 h2 a3 h3 hc0 hc1 x0 x1 acc = k0_pay2 acc x0 x1 := by
  unfold sout0_B_0
  rw [View.read_writes_eq_canon _ _ _ (scover0_B_0 c i a0 h0 a1 h1 a2 h2 a3 h3 hc0 hc1 x0 x1 acc)]
  unfold kernelRun0_B
  dsimp only
  sl_unfold_words
  rw [View.canon_unit_zero hz]
  simp only [View.readAt_eq_ld, h0.read_unread, h1.read_unread, h3.read_unread, View.ld_unit_zero (S := S1024x1024) hz]

/-- So does the last point of a run. -/
theorem last (hc0 hc1) : sout0_C_0 c i a0 h0 a1 h1 a2 h2 a3 h3 hc0 hc1 x0 x1 acc = k0_pay2 acc x0 x1 := by
  unfold sout0_C_0
  rw [View.read_writes_eq_canon _ _ _ (scover0_C_0 c i a0 h0 a1 h1 a2 h2 a3 h3 hc0 hc1 x0 x1 acc)]
  unfold kernelRun0_C
  dsimp only
  sl_unfold_words
  rw [View.canon_unit_zero hz]
  simp only [View.readAt_eq_ld, h0.read_unread, h1.read_unread, h3.read_unread, View.ld_unit_zero (S := S1024x1024) hz]

/-- The last point of a run also writes what it carries into the result's block. -/
theorem written (hc0 hc1) : out0_C_2 c i a0 h0 a1 h1 a2 h2 a3 h3 hc0 hc1 x0 x1 acc = k0_pay2 acc x0 x1 := by
  unfold out0_C_2
  rw [View.read_writes_eq_canon _ _ _ (cover0_C_2 c i a0 h0 a1 h1 a2 h2 a3 h3 hc0 hc1 x0 x1 acc)]
  unfold kernelRun0_C
  dsimp only
  sl_unfold_words
  rw [View.canon_unit_zero hz, View.readCov_unit_zero (S := S1024x1024) _ hz]
  simp only [View.readAt_eq_ld, h0.read_unread, h1.read_unread, h3.read_unread, View.ld_unit_zero (S := S1024x1024) hz]

end Cases

variable (m : (ℓ : Loc nD τ sig) → Buf (Elt Ideal) ℓ) (c : Dev nD) (A B : ℕ → ℕ → EReal)

/-- What is carried out of a point: the sum over the blocks of rows up to it. -/
theorem carry (hA : (m ((c : Thread nD τ).loc main_arg0) : S8192x1024.Idx → EReal) = arr A)
    (hB : (m ((c : Thread nD τ).loc main_arg1) : S8192x7168.Idx → EReal) = arr B) (t : ℕ) (ht : t < cfg0.N) :
    (outsAt0 m c t ht).2 = (arr fun p q => colSum A B (1024 * (t % 8 + 1)) p (1024 * (t / 8) + q) : S1024x1024.Idx → EReal) := by
  refine sums (fun t ht => (outsAt0 m c t ht).2) (k0_pay2 (F := Ideal)) k0_pay1 (iblk m c 0) (iblk m c 1)
    (fun z x y => shapeCast_self _ _) (shapeCast_self _ _) (fun t => ?_) (fun t => ?_) (fun t h => ?_) (fun t h => ?_) t ht
  · obtain ⟨e0, e1, -⟩ := index t
    have b := tile ((cfg0.win 0).blk t).view.emb _ _ (fun _ => rfl) (fun _ => rfl) hA
    rwa [e0, e1] at b
  · obtain ⟨-, -, e0, e1, -⟩ := index t
    have b := tile ((cfg0.win 1).blk t).view.emb _ _ (fun _ => rfl) (fun _ => rfl) hB
    rwa [e0, e1] at b
  · rw [outsAt0_A m c t h (by omega)]
    dsimp only
    rw [first]
  · by_cases h' : t.val % 8 = 7
    · rw [outsAt0_C m c t h h']
      dsimp only
      rw [last]
    · rw [outsAt0_B m c t h h']
      dsimp only
      rw [middle]

/-- The array the kernel ends with: the product of the transpose of the first argument and the second. -/
theorem final (hA : (m ((c : Thread nD τ).loc main_arg0) : S8192x1024.Idx → EReal) = arr A)
    (hB : (m ((c : Thread nD τ).loc main_arg1) : S8192x7168.Idx → EReal) = arr B) :
    (dats m 0 c).arrAt 2 cfg0.N = (arr (colSum A B 8192) : S1024x7168.Idx → EReal) := by
  refine (dats m 0 c).arrAt_eq_of_cover 2 (arr (colSum A B 8192) : S1024x7168.Idx → EReal) (fun t ht => ?_)
    fun i => (covered_iff2 i).2 ⟨Nat.zero_le _, (i 0).isLt, Nat.zero_le _, (i 1).isLt⟩
  have h := (flush0_2 t).1 ht
  have e : (outsAt0 m c t.val t.isLt).1 = (outsAt0 m c t.val t.isLt).2 := by
    rw [outsAt0_C m c t (by omega) h]
    dsimp only
    rw [written, last]
  rw [flushed2, e, carry m c A B hA hB, h]
  obtain ⟨-, -, -, -, e0, e1⟩ := index t
  funext i
  show colSum A B (1024 * (7 + 1)) (i 0).val (1024 * (t.val / 8) + (i 1).val)
    = colSum A B 8192 (win0_2.index t (0 : Fin 2) * 1024 + 1 * (i 0).val) (win0_2.index t (1 : Fin 2) * 1024 + 1 * (i 1).val)
  rw [e0, e1]
  congr 1 <;> omega

/-- The reference's array is the same product. -/
theorem reference : val_main_v5 (F := Ideal) (arr A) (arr B) = (arr (colSum A B 8192) : S1024x7168.Idx → EReal) :=
  funext fun i => (val_main_v5_apply (F := Ideal) _ _ i).trans
    ((val_main_v4_apply _ _ _).trans (colSum_swap A B 8192 (i 0).val (i 1).val))

/-- The reference runs and leaves its arguments as they were. -/
theorem frameRef : Cert.quiescent_ReferenceGwRestIdeal (hReferenceGwRestIdeal := Cert.ReferenceGwRestIdeal.Gen.facts) := fun m ρ _ =>
  (θ_run Cert.ReferenceGwRestIdeal.defs _ _).mono (fun r h => ⟨fun c => (h c).2, sem_eq_zero_of_no_sems (by decide) r.2⟩) (Cert.ReferenceGwRestIdeal.Value.run (F := Ideal) m ρ)

/-- The kernel's array is the reference's. -/
theorem equal : Cert.algebraic_KernelGwRestIdeal_ReferenceGwRestIdeal (hKernelGwRestIdeal := Cert.KernelGwRestIdeal.Gen.facts)
    (hReferenceGwRestIdeal := Cert.ReferenceGwRestIdeal.Gen.facts) := by
  intro m ρ m' ρ' _ hagree
  refine ⟨fun c => (dats m 0 c).arrAt 2 cfg0.N, run_blocks (F := Ideal) m ρ, ?_⟩
  refine (θ_run Cert.ReferenceGwRestIdeal.defs _ _).mono (fun r h c => ?_) (Cert.ReferenceGwRestIdeal.Value.run (F := Ideal) m' ρ')
  obtain ⟨r0, rest⟩ := h c
  obtain ⟨A, hA⟩ := exists_arr (m ((c : Thread nD τ).loc main_arg0) : S8192x1024.Idx → EReal)
  obtain ⟨B, hB⟩ := exists_arr (m ((c : Thread nD τ).loc main_arg1) : S8192x7168.Idx → EReal)
  obtain ⟨a0, a1⟩ := hagree c
  refine ⟨r0.trans ((val_main_v5_eq (F := Ideal) _ _).trans (Eq.trans ?_ (final m c A B hA hB).symm)), rest⟩
  rw [a0.trans hA, a1.trans hB]
  exact reference A B

end Cert.KernelGwRestIdeal.Value

end
-- ==== Proof.GwSsdVal.lean ====
module

public import proofs.«01_k».proof.Proof.Blocks
public import proofs.«01_k».proof.Proof.Gen.KernelGwSsdIdeal.Value
public import proofs.«01_k».proof.Proof.Gen.ReferenceGwSsdIdeal.Read
public import proofs.«01_k».proof.Proof.Gen.ReferenceGwSsdIdeal.Run
public import proofs.«01_k».proof.Defs

/-! The gradient of the projection's state-space weights: the sum over the rows that the kernel carries from point to
point, and the array it ends with. -/

@[expose] public section

set_option maxRecDepth 16384

noncomputable section

namespace Cert.KernelGwSsdIdeal.Value

open Cert.KernelGwSsdIdeal Cert.KernelGwSsdIdeal.Gen Cert.ReferenceGwSsdIdeal.Read Idealize.ShloMosaic Idealize.ShloMosaic.TcCoe Idealize.SL.Sem Blocks

/-- Which blocks a point reads and writes. -/
theorem index : ∀ t : Fin cfg0.N, win0_0.index t (0 : Fin 2) = t.val % 11 ∧ win0_0.index t (1 : Fin 2) = 0
    ∧ win0_1.index t (0 : Fin 2) = t.val % 11 ∧ win0_1.index t (1 : Fin 2) = t.val / 11
    ∧ win0_2.index t (0 : Fin 2) = 0 ∧ win0_2.index t (1 : Fin 2) = t.val / 11 :=
  (by decide +kernel : ∀ t : Fin grid0.N, _)

section Cases

variable (c : Dev nD) (i : grid0.Coords) (a0 : Memref sig .tc .vmem S768x1024 .bf16) (h0 : a0.IsWhole)
  (a1 : Memref sig .tc .vmem S768x1408 .bf16) (h1 : a1.IsWhole) (a2 : Memref sig .tc .vmem S1024x1408 .f32) (h2 : a2.IsWhole)
  (a3 : Memref sig .tc .vmem S1024x1408 .f32) (h3 : a3.IsWhole) (x0 : Vec Ideal S768x1024 .bf16) (x1 : Vec Ideal S768x1408 .bf16)
  (acc : Vec Ideal S1024x1408 .f32)

/-- The first point of a run leaves its product, added to zero. -/
theorem first (hc0 hc1) : sout0_A_0 c i a0 h0 a1 h1 a2 h2 a3 h3 hc0 hc1 x0 x1 = k0_pay2 k0_pay1 x0 x1 := by
  unfold sout0_A_0
  rw [View.read_writes_eq_canon _ _ _ (scover0_A_0 c i a0 h0 a1 h1 a2 h2 a3 h3 hc0 hc1 x0 x1)]
  unfold kernelRun0_A
  dsimp only
  sl_unfold_words
  rw [View.canon_cons_unit_zero (S := S1024x1408) hz, View.readCov_unit_zero (S := S1024x1408) _ hz]
  simp only [View.readAt_eq_ld, h0.read_unread, h1.read_unread, View.ld_unit_zero (S := S768x1024) hz, View.ld_unit_zero (S := S768x1408) hz]

/-- A later point adds its product to what is carried. -/
theorem middle (hc0 hc1) : sout0_B_0 c i a0 h0 a1 h1 a2 h2 a3 h3 hc0 hc1 x0 x1 acc = k0_pay2 acc x0 x1 := by
  unfold sout0_B_0
  rw [View.read_writes_eq_canon _ _ _ (scover0_B_0 c i a0 h0 a1 h1 a2 h2 a3 h3 hc0 hc1 x0 x1 acc)]
  unfold kernelRun0_B
  dsimp only
  sl_unfold_words
  rw [View.canon_unit_zero hz]
  simp only [View.readAt_eq_ld, h0.read_unread, h1.read_unread, h3.read_unread,
    View.ld_unit_zero (S := S768x1024) hz, View.ld_unit_zero (S := S768x1408) hz, View.ld_unit_zero (S := S1024x1408) hz]

/-- So does the last point of a run. -/
theorem last (hc0 hc1) : sout0_C_0 c i a0 h0 a1 h1 a2 h2 a3 h3 hc0 hc1 x0 x1 acc = k0_pay2 acc x0 x1 := by
  unfold sout0_C_0
  rw [View.read_writes_eq_canon _ _ _ (scover0_C_0 c i a0 h0 a1 h1 a2 h2 a3 h3 hc0 hc1 x0 x1 acc)]
  unfold kernelRun0_C
  dsimp only
  sl_unfold_words
  rw [View.canon_unit_zero hz]
  simp only [View.readAt_eq_ld, h0.read_unread, h1.read_unread, h3.read_unread,
    View.ld_unit_zero (S := S768x1024) hz, View.ld_unit_zero (S := S768x1408) hz, View.ld_unit_zero (S := S1024x1408) hz]

/-- The last point of a run also writes what it carries into the result's block. -/
theorem written (hc0 hc1) : out0_C_2 c i a0 h0 a1 h1 a2 h2 a3 h3 hc0 hc1 x0 x1 acc = k0_pay2 acc x0 x1 := by
  unfold out0_C_2
  rw [View.read_writes_eq_canon _ _ _ (cover0_C_2 c i a0 h0 a1 h1 a2 h2 a3 h3 hc0 hc1 x0 x1 acc)]
  unfold kernelRun0_C
  dsimp only
  sl_unfold_words
  rw [View.canon_unit_zero hz, View.readCov_unit_zero (S := S1024x1408) _ hz]
  simp only [View.readAt_eq_ld, h0.read_unread, h1.read_unread, h3.read_unread,
    View.ld_unit_zero (S := S768x1024) hz, View.ld_unit_zero (S := S768x1408) hz, View.ld_unit_zero (S := S1024x1408) hz]

end Cases

variable (m : (ℓ : Loc nD τ sig) → Buf (Elt Ideal) ℓ) (c : Dev nD) (A B : ℕ → ℕ → EReal)

/-- What is carried out of a point: the sum over the blocks of rows up to it. -/
theorem carry (hA : (m ((c : Thread nD τ).loc main_arg0) : S8448x1024.Idx → EReal) = arr A)
    (hB : (m ((c : Thread nD τ).loc main_arg1) : S8448x4224.Idx → EReal) = arr B) (t : ℕ) (ht : t < cfg0.N) :
    (outsAt0 m c t ht).2 = (arr fun p q => colSum A B (768 * (t % 11 + 1)) p (1408 * (t / 11) + q) : S1024x1408.Idx → EReal) := by
  refine sums (fun t ht => (outsAt0 m c t ht).2) (k0_pay2 (F := Ideal)) k0_pay1 (iblk m c 0) (iblk m c 1)
    (fun z x y => shapeCast_self _ _) (shapeCast_self _ _) (fun t => ?_) (fun t => ?_) (fun t h => ?_) (fun t h => ?_) t ht
  · obtain ⟨e0, e1, -⟩ := index t
    have b := tile ((cfg0.win 0).blk t).view.emb _ _ (fun _ => rfl) (fun _ => rfl) hA
    rwa [e0, e1] at b
  · obtain ⟨-, -, e0, e1, -⟩ := index t
    have b := tile ((cfg0.win 1).blk t).view.emb _ _ (fun _ => rfl) (fun _ => rfl) hB
    rwa [e0, e1] at b
  · rw [outsAt0_A m c t h (by omega)]
    dsimp only
    rw [first]
  · by_cases h' : t.val % 11 = 10
    · rw [outsAt0_C m c t h h']
      dsimp only
      rw [last]
    · rw [outsAt0_B m c t h h']
      dsimp only
      rw [middle]

/-- The array the kernel ends with: the product of the transpose of the first argument and the second. -/
theorem final (hA : (m ((c : Thread nD τ).loc main_arg0) : S8448x1024.Idx → EReal) = arr A)
    (hB : (m ((c : Thread nD τ).loc main_arg1) : S8448x4224.Idx → EReal) = arr B) :
    (dats m 0 c).arrAt 2 cfg0.N = (arr (colSum A B 8448) : S1024x4224.Idx → EReal) := by
  refine (dats m 0 c).arrAt_eq_of_cover 2 (arr (colSum A B 8448) : S1024x4224.Idx → EReal) (fun t ht => ?_)
    fun i => (covered_iff2 i).2 ⟨Nat.zero_le _, (i 0).isLt, Nat.zero_le _, (i 1).isLt⟩
  have h := (flush0_2 t).1 ht
  have e : (outsAt0 m c t.val t.isLt).1 = (outsAt0 m c t.val t.isLt).2 := by
    rw [outsAt0_C m c t (by omega) h]
    dsimp only
    rw [written, last]
  rw [flushed2, e, carry m c A B hA hB, h]
  obtain ⟨-, -, -, -, e0, e1⟩ := index t
  funext i
  show colSum A B (768 * (10 + 1)) (i 0).val (1408 * (t.val / 11) + (i 1).val)
    = colSum A B 8448 (win0_2.index t (0 : Fin 2) * 1024 + 1 * (i 0).val) (win0_2.index t (1 : Fin 2) * 1408 + 1 * (i 1).val)
  rw [e0, e1]
  congr 1 <;> omega

/-- The reference's array is the same product. -/
theorem reference : val_main_v5 (F := Ideal) (arr A) (arr B) = (arr (colSum A B 8448) : S1024x4224.Idx → EReal) :=
  funext fun i => (val_main_v5_apply (F := Ideal) _ _ i).trans
    ((val_main_v4_apply _ _ _).trans (colSum_swap A B 8448 (i 0).val (i 1).val))

/-- The reference runs and leaves its arguments as they were. -/
theorem frameRef : Cert.quiescent_ReferenceGwSsdIdeal (hReferenceGwSsdIdeal := Cert.ReferenceGwSsdIdeal.Gen.facts) := fun m ρ _ =>
  (θ_run Cert.ReferenceGwSsdIdeal.defs _ _).mono (fun r h => ⟨fun c => (h c).2, sem_eq_zero_of_no_sems (by decide) r.2⟩) (Cert.ReferenceGwSsdIdeal.Value.run (F := Ideal) m ρ)

/-- The kernel's array is the reference's. -/
theorem equal : Cert.algebraic_KernelGwSsdIdeal_ReferenceGwSsdIdeal (hKernelGwSsdIdeal := Cert.KernelGwSsdIdeal.Gen.facts)
    (hReferenceGwSsdIdeal := Cert.ReferenceGwSsdIdeal.Gen.facts) := by
  intro m ρ m' ρ' _ hagree
  refine ⟨fun c => (dats m 0 c).arrAt 2 cfg0.N, run_blocks (F := Ideal) m ρ, ?_⟩
  refine (θ_run Cert.ReferenceGwSsdIdeal.defs _ _).mono (fun r h c => ?_) (Cert.ReferenceGwSsdIdeal.Value.run (F := Ideal) m' ρ')
  obtain ⟨r0, rest⟩ := h c
  obtain ⟨A, hA⟩ := exists_arr (m ((c : Thread nD τ).loc main_arg0) : S8448x1024.Idx → EReal)
  obtain ⟨B, hB⟩ := exists_arr (m ((c : Thread nD τ).loc main_arg1) : S8448x4224.Idx → EReal)
  obtain ⟨a0, a1⟩ := hagree c
  refine ⟨r0.trans ((val_main_v5_eq (F := Ideal) _ _).trans (Eq.trans ?_ (final m c A B hA hB).symm)), rest⟩
  rw [a0.trans hA, a1.trans hB]
  exact reference A B

end Cert.KernelGwSsdIdeal.Value

end
-- ==== Proof.GwOsVal.lean ====
module

public import proofs.«01_k».proof.Proof.Blocks
public import proofs.«01_k».proof.Proof.Gen.KernelGwOsIdeal.Value
public import proofs.«01_k».proof.Proof.Gen.ReferenceGwOsIdeal.Read
public import proofs.«01_k».proof.Proof.Gen.ReferenceGwOsIdeal.Run
public import proofs.«01_k».proof.Defs

/-! The gradient of the state-space layer's output weights: the sum over the rows that the kernel carries from point to
point, and the array it ends with. -/

@[expose] public section

set_option maxRecDepth 16384

noncomputable section

namespace Cert.KernelGwOsIdeal.Value

open Cert.KernelGwOsIdeal Cert.KernelGwOsIdeal.Gen Cert.ReferenceGwOsIdeal.Read Idealize.ShloMosaic Idealize.ShloMosaic.TcCoe Idealize.SL.Sem Blocks

/-- Which blocks a point reads and writes. -/
theorem index : ∀ t : Fin cfg0.N, win0_0.index t (0 : Fin 2) = t.val % 8 ∧ win0_0.index t (1 : Fin 2) = 0
    ∧ win0_1.index t (0 : Fin 2) = t.val % 8 ∧ win0_1.index t (1 : Fin 2) = t.val / 8
    ∧ win0_2.index t (0 : Fin 2) = 0 ∧ win0_2.index t (1 : Fin 2) = t.val / 8 :=
  (by decide +kernel : ∀ t : Fin grid0.N, _)

section Cases

variable (c : Dev nD) (i : grid0.Coords) (a0 : Memref sig .tc .vmem S1024x2048 .bf16) (h0 : a0.IsWhole)
  (a1 : Memref sig .tc .vmem S1024x1024 .bf16) (h1 : a1.IsWhole) (a2 : Memref sig .tc .vmem S2048x1024 .f32) (h2 : a2.IsWhole)
  (a3 : Memref sig .tc .vmem S2048x1024 .f32) (h3 : a3.IsWhole) (x0 : Vec Ideal S1024x2048 .bf16) (x1 : Vec Ideal S1024x1024 .bf16)
  (acc : Vec Ideal S2048x1024 .f32)

/-- The first point of a run leaves its product, added to zero. -/
theorem first (hc0 hc1) : sout0_A_0 c i a0 h0 a1 h1 a2 h2 a3 h3 hc0 hc1 x0 x1 = k0_pay2 k0_pay1 x0 x1 := by
  unfold sout0_A_0
  rw [View.read_writes_eq_canon _ _ _ (scover0_A_0 c i a0 h0 a1 h1 a2 h2 a3 h3 hc0 hc1 x0 x1)]
  unfold kernelRun0_A
  dsimp only
  sl_unfold_words
  rw [View.canon_cons_unit_zero (S := S2048x1024) hz, View.readCov_unit_zero (S := S2048x1024) _ hz]
  simp only [View.readAt_eq_ld, h0.read_unread, h1.read_unread, View.ld_unit_zero (S := S1024x2048) hz, View.ld_unit_zero (S := S1024x1024) hz]

/-- A later point adds its product to what is carried. -/
theorem middle (hc0 hc1) : sout0_B_0 c i a0 h0 a1 h1 a2 h2 a3 h3 hc0 hc1 x0 x1 acc = k0_pay2 acc x0 x1 := by
  unfold sout0_B_0
  rw [View.read_writes_eq_canon _ _ _ (scover0_B_0 c i a0 h0 a1 h1 a2 h2 a3 h3 hc0 hc1 x0 x1 acc)]
  unfold kernelRun0_B
  dsimp only
  sl_unfold_words
  rw [View.canon_unit_zero hz]
  simp only [View.readAt_eq_ld, h0.read_unread, h1.read_unread, h3.read_unread,
    View.ld_unit_zero (S := S1024x2048) hz, View.ld_unit_zero (S := S1024x1024) hz, View.ld_unit_zero (S := S2048x1024) hz]

/-- So does the last point of a run. -/
theorem last (hc0 hc1) : sout0_C_0 c i a0 h0 a1 h1 a2 h2 a3 h3 hc0 hc1 x0 x1 acc = k0_pay2 acc x0 x1 := by
  unfold sout0_C_0
  rw [View.read_writes_eq_canon _ _ _ (scover0_C_0 c i a0 h0 a1 h1 a2 h2 a3 h3 hc0 hc1 x0 x1 acc)]
  unfold kernelRun0_C
  dsimp only
  sl_unfold_words
  rw [View.canon_unit_zero hz]
  simp only [View.readAt_eq_ld, h0.read_unread, h1.read_unread, h3.read_unread,
    View.ld_unit_zero (S := S1024x2048) hz, View.ld_unit_zero (S := S1024x1024) hz, View.ld_unit_zero (S := S2048x1024) hz]

/-- The last point of a run also writes what it carries into the result's block. -/
theorem written (hc0 hc1) : out0_C_2 c i a0 h0 a1 h1 a2 h2 a3 h3 hc0 hc1 x0 x1 acc = k0_pay2 acc x0 x1 := by
  unfold out0_C_2
  rw [View.read_writes_eq_canon _ _ _ (cover0_C_2 c i a0 h0 a1 h1 a2 h2 a3 h3 hc0 hc1 x0 x1 acc)]
  unfold kernelRun0_C
  dsimp only
  sl_unfold_words
  rw [View.canon_unit_zero hz, View.readCov_unit_zero (S := S2048x1024) _ hz]
  simp only [View.readAt_eq_ld, h0.read_unread, h1.read_unread, h3.read_unread,
    View.ld_unit_zero (S := S1024x2048) hz, View.ld_unit_zero (S := S1024x1024) hz, View.ld_unit_zero (S := S2048x1024) hz]

end Cases

variable (m : (ℓ : Loc nD τ sig) → Buf (Elt Ideal) ℓ) (c : Dev nD) (A B : ℕ → ℕ → EReal)

/-- What is carried out of a point: the sum over the blocks of rows up to it. -/
theorem carry (hA : (m ((c : Thread nD τ).loc main_arg0) : S8192x2048.Idx → EReal) = arr A)
    (hB : (m ((c : Thread nD τ).loc main_arg1) : S8192x1024.Idx → EReal) = arr B) (t : ℕ) (ht : t < cfg0.N) :
    (outsAt0 m c t ht).2 = (arr fun p q => colSum A B (1024 * (t % 8 + 1)) p (1024 * (t / 8) + q) : S2048x1024.Idx → EReal) := by
  refine sums (fun t ht => (outsAt0 m c t ht).2) (k0_pay2 (F := Ideal)) k0_pay1 (iblk m c 0) (iblk m c 1)
    (fun z x y => shapeCast_self _ _) (shapeCast_self _ _) (fun t => ?_) (fun t => ?_) (fun t h => ?_) (fun t h => ?_) t ht
  · obtain ⟨e0, e1, -⟩ := index t
    have b := tile ((cfg0.win 0).blk t).view.emb _ _ (fun _ => rfl) (fun _ => rfl) hA
    rwa [e0, e1] at b
  · obtain ⟨-, -, e0, e1, -⟩ := index t
    have b := tile ((cfg0.win 1).blk t).view.emb _ _ (fun _ => rfl) (fun _ => rfl) hB
    rwa [e0, e1] at b
  · rw [outsAt0_A m c t h (by omega)]
    dsimp only
    rw [first]
  · by_cases h' : t.val % 8 = 7
    · rw [outsAt0_C m c t h h']
      dsimp only
      rw [last]
    · rw [outsAt0_B m c t h h']
      dsimp only
      rw [middle]

/-- The array the kernel ends with: the product of the transpose of the first argument and the second. -/
theorem final (hA : (m ((c : Thread nD τ).loc main_arg0) : S8192x2048.Idx → EReal) = arr A)
    (hB : (m ((c : Thread nD τ).loc main_arg1) : S8192x1024.Idx → EReal) = arr B) :
    (dats m 0 c).arrAt 2 cfg0.N = (arr (colSum A B 8192) : S2048x1024.Idx → EReal) := by
  refine (dats m 0 c).arrAt_eq_of_cover 2 (arr (colSum A B 8192) : S2048x1024.Idx → EReal) (fun t ht => ?_)
    fun i => (covered_iff2 i).2 ⟨Nat.zero_le _, (i 0).isLt, Nat.zero_le _, (i 1).isLt⟩
  have h := (flush0_2 t).1 ht
  have e : (outsAt0 m c t.val t.isLt).1 = (outsAt0 m c t.val t.isLt).2 := by
    rw [outsAt0_C m c t (by omega) h]
    dsimp only
    rw [written, last]
  rw [flushed2, e, carry m c A B hA hB, h]
  obtain ⟨-, -, -, -, e0, e1⟩ := index t
  funext i
  show colSum A B (1024 * (7 + 1)) (i 0).val (1024 * (t.val / 8) + (i 1).val)
    = colSum A B 8192 (win0_2.index t (0 : Fin 2) * 2048 + 1 * (i 0).val) (win0_2.index t (1 : Fin 2) * 1024 + 1 * (i 1).val)
  rw [e0, e1]
  congr 1 <;> omega

/-- The reference's array is the same product. -/
theorem reference : val_main_v5 (F := Ideal) (arr A) (arr B) = (arr (colSum A B 8192) : S2048x1024.Idx → EReal) :=
  funext fun i => (val_main_v5_apply (F := Ideal) _ _ i).trans
    ((val_main_v4_apply _ _ _).trans (colSum_swap A B 8192 (i 0).val (i 1).val))

/-- The reference runs and leaves its arguments as they were. -/
theorem frameRef : Cert.quiescent_ReferenceGwOsIdeal (hReferenceGwOsIdeal := Cert.ReferenceGwOsIdeal.Gen.facts) := fun m ρ _ =>
  (θ_run Cert.ReferenceGwOsIdeal.defs _ _).mono (fun r h => ⟨fun c => (h c).2, sem_eq_zero_of_no_sems (by decide) r.2⟩) (Cert.ReferenceGwOsIdeal.Value.run (F := Ideal) m ρ)

/-- The kernel's array is the reference's. -/
theorem equal : Cert.algebraic_KernelGwOsIdeal_ReferenceGwOsIdeal (hKernelGwOsIdeal := Cert.KernelGwOsIdeal.Gen.facts)
    (hReferenceGwOsIdeal := Cert.ReferenceGwOsIdeal.Gen.facts) := by
  intro m ρ m' ρ' _ hagree
  refine ⟨fun c => (dats m 0 c).arrAt 2 cfg0.N, run_blocks (F := Ideal) m ρ, ?_⟩
  refine (θ_run Cert.ReferenceGwOsIdeal.defs _ _).mono (fun r h c => ?_) (Cert.ReferenceGwOsIdeal.Value.run (F := Ideal) m' ρ')
  obtain ⟨r0, rest⟩ := h c
  obtain ⟨A, hA⟩ := exists_arr (m ((c : Thread nD τ).loc main_arg0) : S8192x2048.Idx → EReal)
  obtain ⟨B, hB⟩ := exists_arr (m ((c : Thread nD τ).loc main_arg1) : S8192x1024.Idx → EReal)
  obtain ⟨a0, a1⟩ := hagree c
  refine ⟨r0.trans ((val_main_v5_eq (F := Ideal) _ _).trans (Eq.trans ?_ (final m c A B hA hB).symm)), rest⟩
  rw [a0.trans hA, a1.trans hB]
  exact reference A B

end Cert.KernelGwOsIdeal.Value

end
-- ==== Proof.GwOVal.lean ====
module

public import proofs.«01_k».proof.Proof.Blocks
public import proofs.«01_k».proof.Proof.Gen.KernelGwOIdeal.Value
public import proofs.«01_k».proof.Proof.Gen.ReferenceGwOIdeal.Read
public import proofs.«01_k».proof.Proof.Gen.ReferenceGwOIdeal.Run
public import proofs.«01_k».proof.Defs

/-! The gradient of the output weights, and of the convolution's output weights: the sum over the rows that the kernel
carries from point to point, and the array it ends with. -/

@[expose] public section

set_option maxRecDepth 16384

noncomputable section

namespace Cert.KernelGwOIdeal.Value

open Cert.KernelGwOIdeal Cert.KernelGwOIdeal.Gen Cert.ReferenceGwOIdeal.Read Idealize.ShloMosaic Idealize.ShloMosaic.TcCoe Idealize.SL.Sem Blocks

/-- Which blocks a point reads and writes. -/
theorem index : ∀ t : Fin cfg0.N, win0_0.index t (0 : Fin 2) = t.val % 8 ∧ win0_0.index t (1 : Fin 2) = 0
    ∧ win0_1.index t (0 : Fin 2) = t.val % 8 ∧ win0_1.index t (1 : Fin 2) = t.val / 8
    ∧ win0_2.index t (0 : Fin 2) = 0 ∧ win0_2.index t (1 : Fin 2) = t.val / 8 :=
  (by decide +kernel : ∀ t : Fin grid0.N, _)

section Cases

variable (c : Dev nD) (i : grid0.Coords) (a0 : Memref sig .tc .vmem S1024x1024 .bf16) (h0 : a0.IsWhole)
  (a1 : Memref sig .tc .vmem S1024x1024 .bf16) (h1 : a1.IsWhole) (a2 : Memref sig .tc .vmem S1024x1024 .f32) (h2 : a2.IsWhole)
  (a3 : Memref sig .tc .vmem S1024x1024 .f32) (h3 : a3.IsWhole) (x0 x1 : Vec Ideal S1024x1024 .bf16)
  (acc : Vec Ideal S1024x1024 .f32)

/-- The first point of a run leaves its product, added to zero. -/
theorem first (hc0 hc1) : sout0_A_0 c i a0 h0 a1 h1 a2 h2 a3 h3 hc0 hc1 x0 x1 = k0_pay2 k0_pay1 x0 x1 := by
  unfold sout0_A_0
  rw [View.read_writes_eq_canon _ _ _ (scover0_A_0 c i a0 h0 a1 h1 a2 h2 a3 h3 hc0 hc1 x0 x1)]
  unfold kernelRun0_A
  dsimp only
  sl_unfold_words
  rw [View.canon_cons_unit_zero (S := S1024x1024) hz, View.readCov_unit_zero (S := S1024x1024) _ hz]
  simp only [View.readAt_eq_ld, h0.read_unread, h1.read_unread, View.ld_unit_zero (S := S1024x1024) hz]

/-- A later point adds its product to what is carried. -/
theorem middle (hc0 hc1) : sout0_B_0 c i a0 h0 a1 h1 a2 h2 a3 h3 hc0 hc1 x0 x1 acc = k0_pay2 acc x0 x1 := by
  unfold sout0_B_0
  rw [View.read_writes_eq_canon _ _ _ (scover0_B_0 c i a0 h0 a1 h1 a2 h2 a3 h3 hc0 hc1 x0 x1 acc)]
  unfold kernelRun0_B
  dsimp only
  sl_unfold_words
  rw [View.canon_unit_zero hz]
  simp only [View.readAt_eq_ld, h0.read_unread, h1.read_unread, h3.read_unread,
    View.ld_unit_zero (S := S1024x1024) hz]

/-- So does the last point of a run. -/
theorem last (hc0 hc1) : sout0_C_0 c i a0 h0 a1 h1 a2 h2 a3 h3 hc0 hc1 x0 x1 acc = k0_pay2 acc x0 x1 := by
  unfold sout0_C_0
  rw [View.read_writes_eq_canon _ _ _ (scover0_C_0 c i a0 h0 a1 h1 a2 h2 a3 h3 hc0 hc1 x0 x1 acc)]
  unfold kernelRun0_C
  dsimp only
  sl_unfold_words
  rw [View.canon_unit_zero hz]
  simp only [View.readAt_eq_ld, h0.read_unread, h1.read_unread, h3.read_unread,
    View.ld_unit_zero (S := S1024x1024) hz]

/-- The last point of a run also writes what it carries into the result's block. -/
theorem written (hc0 hc1) : out0_C_2 c i a0 h0 a1 h1 a2 h2 a3 h3 hc0 hc1 x0 x1 acc = k0_pay2 acc x0 x1 := by
  unfold out0_C_2
  rw [View.read_writes_eq_canon _ _ _ (cover0_C_2 c i a0 h0 a1 h1 a2 h2 a3 h3 hc0 hc1 x0 x1 acc)]
  unfold kernelRun0_C
  dsimp only
  sl_unfold_words
  rw [View.canon_unit_zero hz, View.readCov_unit_zero (S := S1024x1024) _ hz]
  simp only [View.readAt_eq_ld, h0.read_unread, h1.read_unread, h3.read_unread,
    View.ld_unit_zero (S := S1024x1024) hz]

end Cases

variable (m : (ℓ : Loc nD τ sig) → Buf (Elt Ideal) ℓ) (c : Dev nD) (A B : ℕ → ℕ → EReal)

/-- What is carried out of a point: the sum over the blocks of rows up to it. -/
theorem carry (hA : (m ((c : Thread nD τ).loc main_arg0) : S8192x1024.Idx → EReal) = arr A)
    (hB : (m ((c : Thread nD τ).loc main_arg1) : S8192x1024.Idx → EReal) = arr B) (t : ℕ) (ht : t < cfg0.N) :
    (outsAt0 m c t ht).2 = (arr fun p q => colSum A B (1024 * (t % 8 + 1)) p (1024 * (t / 8) + q) : S1024x1024.Idx → EReal) := by
  refine sums (fun t ht => (outsAt0 m c t ht).2) (k0_pay2 (F := Ideal)) k0_pay1 (iblk m c 0) (iblk m c 1)
    (fun z x y => shapeCast_self _ _) (shapeCast_self _ _) (fun t => ?_) (fun t => ?_) (fun t h => ?_) (fun t h => ?_) t ht
  · obtain ⟨e0, e1, -⟩ := index t
    have b := tile ((cfg0.win 0).blk t).view.emb _ _ (fun _ => rfl) (fun _ => rfl) hA
    rwa [e0, e1] at b
  · obtain ⟨-, -, e0, e1, -⟩ := index t
    have b := tile ((cfg0.win 1).blk t).view.emb _ _ (fun _ => rfl) (fun _ => rfl) hB
    rwa [e0, e1] at b
  · rw [outsAt0_A m c t h (by omega)]
    dsimp only
    rw [first]
  · by_cases h' : t.val % 8 = 7
    · rw [outsAt0_C m c t h h']
      dsimp only
      rw [last]
    · rw [outsAt0_B m c t h h']
      dsimp only
      rw [middle]

/-- The array the kernel ends with: the product of the transpose of the first argument and the second. -/
theorem final (hA : (m ((c : Thread nD τ).loc main_arg0) : S8192x1024.Idx → EReal) = arr A)
    (hB : (m ((c : Thread nD τ).loc main_arg1) : S8192x1024.Idx → EReal) = arr B) :
    (dats m 0 c).arrAt 2 cfg0.N = (arr (colSum A B 8192) : S1024x1024.Idx → EReal) := by
  refine (dats m 0 c).arrAt_eq_of_cover 2 (arr (colSum A B 8192) : S1024x1024.Idx → EReal) (fun t ht => ?_)
    fun i => (covered_iff2 i).2 ⟨Nat.zero_le _, (i 0).isLt, Nat.zero_le _, (i 1).isLt⟩
  have h := (flush0_2 t).1 ht
  have e : (outsAt0 m c t.val t.isLt).1 = (outsAt0 m c t.val t.isLt).2 := by
    rw [outsAt0_C m c t (by omega) h]
    dsimp only
    rw [written, last]
  rw [flushed2, e, carry m c A B hA hB, h]
  obtain ⟨-, -, -, -, e0, e1⟩ := index t
  funext i
  show colSum A B (1024 * (7 + 1)) (i 0).val (1024 * (t.val / 8) + (i 1).val)
    = colSum A B 8192 (win0_2.index t (0 : Fin 2) * 1024 + 1 * (i 0).val) (win0_2.index t (1 : Fin 2) * 1024 + 1 * (i 1).val)
  rw [e0, e1]
  congr 1 <;> omega

/-- The reference's array is the same product. -/
theorem reference : val_main_v5 (F := Ideal) (arr A) (arr B) = (arr (colSum A B 8192) : S1024x1024.Idx → EReal) :=
  funext fun i => (val_main_v5_apply (F := Ideal) _ _ i).trans
    ((val_main_v4_apply _ _ _).trans (colSum_swap A B 8192 (i 0).val (i 1).val))

/-- The reference runs and leaves its arguments as they were. -/
theorem frameRef : Cert.quiescent_ReferenceGwOIdeal (hReferenceGwOIdeal := Cert.ReferenceGwOIdeal.Gen.facts) := fun m ρ _ =>
  (θ_run Cert.ReferenceGwOIdeal.defs _ _).mono (fun r h => ⟨fun c => (h c).2, sem_eq_zero_of_no_sems (by decide) r.2⟩) (Cert.ReferenceGwOIdeal.Value.run (F := Ideal) m ρ)

/-- The kernel's array is the reference's. -/
theorem equal : Cert.algebraic_KernelGwOIdeal_ReferenceGwOIdeal (hKernelGwOIdeal := Cert.KernelGwOIdeal.Gen.facts)
    (hReferenceGwOIdeal := Cert.ReferenceGwOIdeal.Gen.facts) := by
  intro m ρ m' ρ' _ hagree
  refine ⟨fun c => (dats m 0 c).arrAt 2 cfg0.N, run_blocks (F := Ideal) m ρ, ?_⟩
  refine (θ_run Cert.ReferenceGwOIdeal.defs _ _).mono (fun r h c => ?_) (Cert.ReferenceGwOIdeal.Value.run (F := Ideal) m' ρ')
  obtain ⟨r0, rest⟩ := h c
  obtain ⟨A, hA⟩ := exists_arr (m ((c : Thread nD τ).loc main_arg0) : S8192x1024.Idx → EReal)
  obtain ⟨B, hB⟩ := exists_arr (m ((c : Thread nD τ).loc main_arg1) : S8192x1024.Idx → EReal)
  obtain ⟨a0, a1⟩ := hagree c
  refine ⟨r0.trans ((val_main_v5_eq (F := Ideal) _ _).trans (Eq.trans ?_ (final m c A B hA hB).symm)), rest⟩
  rw [a0.trans hA, a1.trans hB]
  exact reference A B

end Cert.KernelGwOIdeal.Value

end
-- ==== Proof.DhRestVal.lean ====
module

public import proofs.«01_k».proof.Proof.Blocks
public import proofs.«01_k».proof.Proof.Gen.KernelDhRestIdeal.Value
public import proofs.«01_k».proof.Proof.Gen.ReferenceDhRestIdeal.Read
public import proofs.«01_k».proof.Proof.Gen.ReferenceDhRestIdeal.Run
public import proofs.«01_k».proof.Defs

/-! The gradient of the latent rows through all columns but the state-space ones: a point's block of the product, and the array the kernel ends with. -/

@[expose] public section

set_option maxRecDepth 16384

noncomputable section

namespace Cert.KernelDhRestIdeal.Value

open Cert.KernelDhRestIdeal Cert.KernelDhRestIdeal.Gen Cert.ReferenceDhRestIdeal.Read Idealize.ShloMosaic Idealize.ShloMosaic.TcCoe Idealize.SL.Sem Blocks

/-- Which blocks a point reads and writes. -/
theorem index : ∀ t : Fin cfg0.N, win0_0.index t (0 : Fin 2) = t.val % 32 ∧ win0_0.index t (1 : Fin 2) = 0
    ∧ win0_1.index t (0 : Fin 2) = t.val / 32 ∧ win0_1.index t (1 : Fin 2) = 0
    ∧ win0_2.index t (0 : Fin 2) = t.val % 32 ∧ win0_2.index t (1 : Fin 2) = t.val / 32 :=
  (by decide +kernel : ∀ t : Fin grid0.N, _)

/-- Every entry of the result lies in the block of its rows and columns. -/
theorem cover (i : S8192x1024.Idx) : ∃ t : Fin cfg0.N, (cfg0.win 2).flush t = true ∧ i ∈ ((cfg0.win 2).blk t).view.set := by
  have b0 : (i 0 : Nat) < 8192 := (i 0).isLt
  have b1 : (i 1 : Nat) < 1024 := (i 1).isLt
  let t : Fin cfg0.N := ⟨(i 1).val / 1024 * 32 + (i 0).val / 256, by rw [show cfg0.N = 32 from N_0]; omega⟩
  have e : t.val = (i 1).val / 1024 * 32 + (i 0).val / 256 := rfl
  obtain ⟨-, -, -, -, e0, e1⟩ := index t
  exact ⟨t, flush0_2 t, mem_tile ((cfg0.win 2).blk t).view.emb _ _ (fun _ => rfl) (fun _ => rfl) i (by decide) (by decide)
    (e0.trans (by omega)) (e1.trans (by omega))⟩

variable (m : (ℓ : Loc nD τ sig) → Buf (Elt Ideal) ℓ) (c : Dev nD) (A B : ℕ → ℕ → EReal)

/-- The array the kernel ends with: the product of the first argument and the transpose of the second. Each point leaves its block of it. -/
theorem final (hA : (m ((c : Thread nD τ).loc main_arg0) : S8192x7168.Idx → EReal) = arr A)
    (hB : (m ((c : Thread nD τ).loc main_arg1) : S1024x7168.Idx → EReal) = arr B) :
    (dats m 0 c).arrAt 2 cfg0.N = (arr (rowSum A B 7168) : S8192x1024.Idx → EReal) := by
  refine (dats m 0 c).arrAt_eq_of_cover 2 (arr (rowSum A B 7168) : S8192x1024.Idx → EReal) (fun t _ => ?_) cover
  obtain ⟨e0, e1, e2, e3, e4, e5⟩ := index t
  have b0 : (iblk m c 0 t : S256x7168.Idx → EReal) = _ := tile ((cfg0.win 0).blk t).view.emb _ _ (fun _ => rfl) (fun _ => rfl) hA
  have b1 : (iblk m c 1 t : S1024x7168.Idx → EReal) = _ := tile ((cfg0.win 1).blk t).view.emb _ _ (fun _ => rfl) (fun _ => rfl) hB
  have b2 := tile (A := rowSum A B 7168) ((cfg0.win 2).blk t).view.emb _ _ (fun _ => rfl) (fun _ => rfl) rfl
  rw [e0, e1] at b0
  rw [e2, e3] at b1
  rw [e4, e5] at b2
  rw [flushed2, b0, b1]
  unfold out0_2
  rw [View.canon_unit_zero hz, View.ld_unit_zero (S := S256x7168) hz, View.ld_unit_zero (S := S1024x7168) hz]
  exact (rowSum_block A B _ _).trans b2.symm

/-- The reference's array is the same product. -/
theorem reference : val_main_v5 (F := Ideal) (arr A) (arr B) = (arr (rowSum A B 7168) : S8192x1024.Idx → EReal) :=
  funext fun i => (val_main_v4_apply _ _ i).trans (rowSum_fin A B 7168 (i 0).val (i 1).val)

/-- The reference runs and leaves its arguments as they were. -/
theorem frameRef : Cert.quiescent_ReferenceDhRestIdeal (hReferenceDhRestIdeal := Cert.ReferenceDhRestIdeal.Gen.facts) := fun m ρ _ =>
  (θ_run Cert.ReferenceDhRestIdeal.defs _ _).mono (fun r h => ⟨fun c => (h c).2, sem_eq_zero_of_no_sems (by decide) r.2⟩) (Cert.ReferenceDhRestIdeal.Value.run (F := Ideal) m ρ)

/-- The kernel's array is the reference's. -/
theorem equal : Cert.algebraic_KernelDhRestIdeal_ReferenceDhRestIdeal (hKernelDhRestIdeal := Cert.KernelDhRestIdeal.Gen.facts)
    (hReferenceDhRestIdeal := Cert.ReferenceDhRestIdeal.Gen.facts) := by
  intro m ρ m' ρ' _ hagree
  refine ⟨fun c => (dats m 0 c).arrAt 2 cfg0.N, run_blocks (F := Ideal) m ρ, ?_⟩
  refine (θ_run Cert.ReferenceDhRestIdeal.defs _ _).mono (fun r h c => ?_) (Cert.ReferenceDhRestIdeal.Value.run (F := Ideal) m' ρ')
  obtain ⟨r0, rest⟩ := h c
  obtain ⟨A, hA⟩ := exists_arr (m ((c : Thread nD τ).loc main_arg0) : S8192x7168.Idx → EReal)
  obtain ⟨B, hB⟩ := exists_arr (m ((c : Thread nD τ).loc main_arg1) : S1024x7168.Idx → EReal)
  obtain ⟨a0, a1⟩ := hagree c
  refine ⟨r0.trans ((val_main_v5_eq (F := Ideal) _ _).trans (Eq.trans ?_ (final m c A B hA hB).symm)), rest⟩
  rw [a0.trans hA, a1.trans hB]
  exact reference A B

end Cert.KernelDhRestIdeal.Value

end
-- ==== Proof.DhSsdVal.lean ====
module

public import proofs.«01_k».proof.Proof.Blocks
public import proofs.«01_k».proof.Proof.Gen.KernelDhSsdIdeal.Value
public import proofs.«01_k».proof.Proof.Gen.ReferenceDhSsdIdeal.Read
public import proofs.«01_k».proof.Proof.Gen.ReferenceDhSsdIdeal.Run
public import proofs.«01_k».proof.Defs

/-! The gradient of all rows through the state-space columns: a point's block of the product, and the array the kernel ends with. -/

@[expose] public section

set_option maxRecDepth 16384

noncomputable section

namespace Cert.KernelDhSsdIdeal.Value

open Cert.KernelDhSsdIdeal Cert.KernelDhSsdIdeal.Gen Cert.ReferenceDhSsdIdeal.Read Idealize.ShloMosaic Idealize.ShloMosaic.TcCoe Idealize.SL.Sem Blocks

/-- Which blocks a point reads and writes. -/
theorem index : ∀ t : Fin cfg0.N, win0_0.index t (0 : Fin 2) = t.val % 33 ∧ win0_0.index t (1 : Fin 2) = 0
    ∧ win0_1.index t (0 : Fin 2) = t.val / 33 ∧ win0_1.index t (1 : Fin 2) = 0
    ∧ win0_2.index t (0 : Fin 2) = t.val % 33 ∧ win0_2.index t (1 : Fin 2) = t.val / 33 :=
  (by decide +kernel : ∀ t : Fin grid0.N, _)

/-- Every entry of the result lies in the block of its rows and columns. -/
theorem cover (i : S8448x1024.Idx) : ∃ t : Fin cfg0.N, (cfg0.win 2).flush t = true ∧ i ∈ ((cfg0.win 2).blk t).view.set := by
  have b0 : (i 0 : Nat) < 8448 := (i 0).isLt
  have b1 : (i 1 : Nat) < 1024 := (i 1).isLt
  let t : Fin cfg0.N := ⟨(i 1).val / 1024 * 33 + (i 0).val / 256, by rw [show cfg0.N = 33 from N_0]; omega⟩
  have e : t.val = (i 1).val / 1024 * 33 + (i 0).val / 256 := rfl
  obtain ⟨-, -, -, -, e0, e1⟩ := index t
  exact ⟨t, flush0_2 t, mem_tile ((cfg0.win 2).blk t).view.emb _ _ (fun _ => rfl) (fun _ => rfl) i (by decide) (by decide)
    (e0.trans (by omega)) (e1.trans (by omega))⟩

variable (m : (ℓ : Loc nD τ sig) → Buf (Elt Ideal) ℓ) (c : Dev nD) (A B : ℕ → ℕ → EReal)

/-- The array the kernel ends with: the product of the first argument and the transpose of the second. Each point leaves its block of it. -/
theorem final (hA : (m ((c : Thread nD τ).loc main_arg0) : S8448x4224.Idx → EReal) = arr A)
    (hB : (m ((c : Thread nD τ).loc main_arg1) : S1024x4224.Idx → EReal) = arr B) :
    (dats m 0 c).arrAt 2 cfg0.N = (arr (rowSum A B 4224) : S8448x1024.Idx → EReal) := by
  refine (dats m 0 c).arrAt_eq_of_cover 2 (arr (rowSum A B 4224) : S8448x1024.Idx → EReal) (fun t _ => ?_) cover
  obtain ⟨e0, e1, e2, e3, e4, e5⟩ := index t
  have b0 : (iblk m c 0 t : S256x4224.Idx → EReal) = _ := tile ((cfg0.win 0).blk t).view.emb _ _ (fun _ => rfl) (fun _ => rfl) hA
  have b1 : (iblk m c 1 t : S1024x4224.Idx → EReal) = _ := tile ((cfg0.win 1).blk t).view.emb _ _ (fun _ => rfl) (fun _ => rfl) hB
  have b2 := tile (A := rowSum A B 4224) ((cfg0.win 2).blk t).view.emb _ _ (fun _ => rfl) (fun _ => rfl) rfl
  rw [e0, e1] at b0
  rw [e2, e3] at b1
  rw [e4, e5] at b2
  rw [flushed2, b0, b1]
  unfold out0_2
  rw [View.canon_unit_zero hz, View.ld_unit_zero (S := S256x4224) hz, View.ld_unit_zero (S := S1024x4224) hz]
  exact (rowSum_block A B _ _).trans b2.symm

/-- The reference's array is the same product. -/
theorem reference : val_main_v5 (F := Ideal) (arr A) (arr B) = (arr (rowSum A B 4224) : S8448x1024.Idx → EReal) :=
  funext fun i => (val_main_v4_apply _ _ i).trans (rowSum_fin A B 4224 (i 0).val (i 1).val)

/-- The reference runs and leaves its arguments as they were. -/
theorem frameRef : Cert.quiescent_ReferenceDhSsdIdeal (hReferenceDhSsdIdeal := Cert.ReferenceDhSsdIdeal.Gen.facts) := fun m ρ _ =>
  (θ_run Cert.ReferenceDhSsdIdeal.defs _ _).mono (fun r h => ⟨fun c => (h c).2, sem_eq_zero_of_no_sems (by decide) r.2⟩) (Cert.ReferenceDhSsdIdeal.Value.run (F := Ideal) m ρ)

/-- The kernel's array is the reference's. -/
theorem equal : Cert.algebraic_KernelDhSsdIdeal_ReferenceDhSsdIdeal (hKernelDhSsdIdeal := Cert.KernelDhSsdIdeal.Gen.facts)
    (hReferenceDhSsdIdeal := Cert.ReferenceDhSsdIdeal.Gen.facts) := by
  intro m ρ m' ρ' _ hagree
  refine ⟨fun c => (dats m 0 c).arrAt 2 cfg0.N, run_blocks (F := Ideal) m ρ, ?_⟩
  refine (θ_run Cert.ReferenceDhSsdIdeal.defs _ _).mono (fun r h c => ?_) (Cert.ReferenceDhSsdIdeal.Value.run (F := Ideal) m' ρ')
  obtain ⟨r0, rest⟩ := h c
  obtain ⟨A, hA⟩ := exists_arr (m ((c : Thread nD τ).loc main_arg0) : S8448x4224.Idx → EReal)
  obtain ⟨B, hB⟩ := exists_arr (m ((c : Thread nD τ).loc main_arg1) : S1024x4224.Idx → EReal)
  obtain ⟨a0, a1⟩ := hagree c
  refine ⟨r0.trans ((val_main_v5_eq (F := Ideal) _ _).trans (Eq.trans ?_ (final m c A B hA hB).symm)), rest⟩
  rw [a0.trans hA, a1.trans hB]
  exact reference A B

end Cert.KernelDhSsdIdeal.Value

end
-- ==== Proof.DgnVal.lean ====
module

public import proofs.«01_k».proof.Proof.Blocks
public import proofs.«01_k».proof.Proof.Gen.KernelDgnIdeal.Value
public import proofs.«01_k».proof.Proof.Gen.ReferenceDgnIdeal.Read
public import proofs.«01_k».proof.Proof.Gen.ReferenceDgnIdeal.Run
public import proofs.«01_k».proof.Defs

/-! The gradient of the state-space branch through its output projection: a point's block of the product, and the array the kernel ends with. -/

@[expose] public section

set_option maxRecDepth 16384

noncomputable section

namespace Cert.KernelDgnIdeal.Value

open Cert.KernelDgnIdeal Cert.KernelDgnIdeal.Gen Cert.ReferenceDgnIdeal.Read Idealize.ShloMosaic Idealize.ShloMosaic.TcCoe Idealize.SL.Sem Blocks

/-- Which blocks a point reads and writes. -/
theorem index : ∀ t : Fin cfg0.N, win0_0.index t (0 : Fin 2) = t.val % 8 ∧ win0_0.index t (1 : Fin 2) = 0
    ∧ win0_1.index t (0 : Fin 2) = t.val / 8 ∧ win0_1.index t (1 : Fin 2) = 0
    ∧ win0_2.index t (0 : Fin 2) = t.val % 8 ∧ win0_2.index t (1 : Fin 2) = t.val / 8 :=
  (by decide +kernel : ∀ t : Fin grid0.N, _)

/-- Every entry of the result lies in the block of its rows and columns. -/
theorem cover (i : S8192x2048.Idx) : ∃ t : Fin cfg0.N, (cfg0.win 2).flush t = true ∧ i ∈ ((cfg0.win 2).blk t).view.set := by
  have b0 : (i 0 : Nat) < 8192 := (i 0).isLt
  have b1 : (i 1 : Nat) < 2048 := (i 1).isLt
  let t : Fin cfg0.N := ⟨(i 1).val / 2048 * 8 + (i 0).val / 1024, by rw [show cfg0.N = 8 from N_0]; omega⟩
  have e : t.val = (i 1).val / 2048 * 8 + (i 0).val / 1024 := rfl
  obtain ⟨-, -, -, -, e0, e1⟩ := index t
  exact ⟨t, flush0_2 t, mem_tile ((cfg0.win 2).blk t).view.emb _ _ (fun _ => rfl) (fun _ => rfl) i (by decide) (by decide)
    (e0.trans (by omega)) (e1.trans (by omega))⟩

variable (m : (ℓ : Loc nD τ sig) → Buf (Elt Ideal) ℓ) (c : Dev nD) (A B : ℕ → ℕ → EReal)

/-- The array the kernel ends with: the product of the first argument and the transpose of the second. Each point leaves its block of it. -/
theorem final (hA : (m ((c : Thread nD τ).loc main_arg0) : S8192x1024.Idx → EReal) = arr A)
    (hB : (m ((c : Thread nD τ).loc main_arg1) : S2048x1024.Idx → EReal) = arr B) :
    (dats m 0 c).arrAt 2 cfg0.N = (arr (rowSum A B 1024) : S8192x2048.Idx → EReal) := by
  refine (dats m 0 c).arrAt_eq_of_cover 2 (arr (rowSum A B 1024) : S8192x2048.Idx → EReal) (fun t _ => ?_) cover
  obtain ⟨e0, e1, e2, e3, e4, e5⟩ := index t
  have b0 : (iblk m c 0 t : S1024x1024.Idx → EReal) = _ := tile ((cfg0.win 0).blk t).view.emb _ _ (fun _ => rfl) (fun _ => rfl) hA
  have b1 : (iblk m c 1 t : S2048x1024.Idx → EReal) = _ := tile ((cfg0.win 1).blk t).view.emb _ _ (fun _ => rfl) (fun _ => rfl) hB
  have b2 := tile (A := rowSum A B 1024) ((cfg0.win 2).blk t).view.emb _ _ (fun _ => rfl) (fun _ => rfl) rfl
  rw [e0, e1] at b0
  rw [e2, e3] at b1
  rw [e4, e5] at b2
  rw [flushed2, b0, b1]
  unfold out0_2
  rw [View.canon_unit_zero hz, View.ld_unit_zero (S := S1024x1024) hz, View.ld_unit_zero (S := S2048x1024) hz]
  exact (rowSum_block A B _ _).trans b2.symm

/-- The reference's array is the same product. -/
theorem reference : val_main_v5 (F := Ideal) (arr A) (arr B) = (arr (rowSum A B 1024) : S8192x2048.Idx → EReal) :=
  funext fun i => (val_main_v4_apply _ _ i).trans (rowSum_fin A B 1024 (i 0).val (i 1).val)

/-- The reference runs and leaves its arguments as they were. -/
theorem frameRef : Cert.quiescent_ReferenceDgnIdeal (hReferenceDgnIdeal := Cert.ReferenceDgnIdeal.Gen.facts) := fun m ρ _ =>
  (θ_run Cert.ReferenceDgnIdeal.defs _ _).mono (fun r h => ⟨fun c => (h c).2, sem_eq_zero_of_no_sems (by decide) r.2⟩) (Cert.ReferenceDgnIdeal.Value.run (F := Ideal) m ρ)

/-- The kernel's array is the reference's. -/
theorem equal : Cert.algebraic_KernelDgnIdeal_ReferenceDgnIdeal (hKernelDgnIdeal := Cert.KernelDgnIdeal.Gen.facts)
    (hReferenceDgnIdeal := Cert.ReferenceDgnIdeal.Gen.facts) := by
  intro m ρ m' ρ' _ hagree
  refine ⟨fun c => (dats m 0 c).arrAt 2 cfg0.N, run_blocks (F := Ideal) m ρ, ?_⟩
  refine (θ_run Cert.ReferenceDgnIdeal.defs _ _).mono (fun r h c => ?_) (Cert.ReferenceDgnIdeal.Value.run (F := Ideal) m' ρ')
  obtain ⟨r0, rest⟩ := h c
  obtain ⟨A, hA⟩ := exists_arr (m ((c : Thread nD τ).loc main_arg0) : S8192x1024.Idx → EReal)
  obtain ⟨B, hB⟩ := exists_arr (m ((c : Thread nD τ).loc main_arg1) : S2048x1024.Idx → EReal)
  obtain ⟨a0, a1⟩ := hagree c
  refine ⟨r0.trans ((val_main_v5_eq (F := Ideal) _ _).trans (Eq.trans ?_ (final m c A B hA hB).symm)), rest⟩
  rw [a0.trans hA, a1.trans hB]
  exact reference A B

end Cert.KernelDgnIdeal.Value

end
-- ==== Proof.DmergedVal.lean ====
module

public import proofs.«01_k».proof.Proof.Blocks
public import proofs.«01_k».proof.Proof.Gen.KernelDmergedIdeal.Value
public import proofs.«01_k».proof.Proof.Gen.ReferenceDmergedIdeal.Read
public import proofs.«01_k».proof.Proof.Gen.ReferenceDmergedIdeal.Run
public import proofs.«01_k».proof.Defs

/-! The gradient of the merged branches, or of the convolution branch, through the output projection: a point's block of the product, and the array the kernel ends with. -/

@[expose] public section

set_option maxRecDepth 16384

noncomputable section

namespace Cert.KernelDmergedIdeal.Value

open Cert.KernelDmergedIdeal Cert.KernelDmergedIdeal.Gen Cert.ReferenceDmergedIdeal.Read Idealize.ShloMosaic Idealize.ShloMosaic.TcCoe Idealize.SL.Sem Blocks

/-- Which blocks a point reads and writes. -/
theorem index : ∀ t : Fin cfg0.N, win0_0.index t (0 : Fin 2) = t.val % 8 ∧ win0_0.index t (1 : Fin 2) = 0
    ∧ win0_1.index t (0 : Fin 2) = t.val / 8 ∧ win0_1.index t (1 : Fin 2) = 0
    ∧ win0_2.index t (0 : Fin 2) = t.val % 8 ∧ win0_2.index t (1 : Fin 2) = t.val / 8 :=
  (by decide +kernel : ∀ t : Fin grid0.N, _)

/-- Every entry of the result lies in the block of its rows and columns. -/
theorem cover (i : S8192x1024.Idx) : ∃ t : Fin cfg0.N, (cfg0.win 2).flush t = true ∧ i ∈ ((cfg0.win 2).blk t).view.set := by
  have b0 : (i 0 : Nat) < 8192 := (i 0).isLt
  have b1 : (i 1 : Nat) < 1024 := (i 1).isLt
  let t : Fin cfg0.N := ⟨(i 1).val / 1024 * 8 + (i 0).val / 1024, by rw [show cfg0.N = 8 from N_0]; omega⟩
  have e : t.val = (i 1).val / 1024 * 8 + (i 0).val / 1024 := rfl
  obtain ⟨-, -, -, -, e0, e1⟩ := index t
  exact ⟨t, flush0_2 t, mem_tile ((cfg0.win 2).blk t).view.emb _ _ (fun _ => rfl) (fun _ => rfl) i (by decide) (by decide)
    (e0.trans (by omega)) (e1.trans (by omega))⟩

variable (m : (ℓ : Loc nD τ sig) → Buf (Elt Ideal) ℓ) (c : Dev nD) (A B : ℕ → ℕ → EReal)

/-- The array the kernel ends with: the product of the first argument and the transpose of the second. Each point leaves its block of it. -/
theorem final (hA : (m ((c : Thread nD τ).loc main_arg0) : S8192x1024.Idx → EReal) = arr A)
    (hB : (m ((c : Thread nD τ).loc main_arg1) : S1024x1024.Idx → EReal) = arr B) :
    (dats m 0 c).arrAt 2 cfg0.N = (arr (rowSum A B 1024) : S8192x1024.Idx → EReal) := by
  refine (dats m 0 c).arrAt_eq_of_cover 2 (arr (rowSum A B 1024) : S8192x1024.Idx → EReal) (fun t _ => ?_) cover
  obtain ⟨e0, e1, e2, e3, e4, e5⟩ := index t
  have b0 : (iblk m c 0 t : S1024x1024.Idx → EReal) = _ := tile ((cfg0.win 0).blk t).view.emb _ _ (fun _ => rfl) (fun _ => rfl) hA
  have b1 : (iblk m c 1 t : S1024x1024.Idx → EReal) = _ := tile ((cfg0.win 1).blk t).view.emb _ _ (fun _ => rfl) (fun _ => rfl) hB
  have b2 := tile (A := rowSum A B 1024) ((cfg0.win 2).blk t).view.emb _ _ (fun _ => rfl) (fun _ => rfl) rfl
  rw [e0, e1] at b0
  rw [e2, e3] at b1
  rw [e4, e5] at b2
  rw [flushed2, b0, b1]
  unfold out0_2
  rw [View.canon_unit_zero hz, View.ld_unit_zero (S := S1024x1024) hz, View.ld_unit_zero (S := S1024x1024) hz]
  exact (rowSum_block A B _ _).trans b2.symm

/-- The reference's array is the same product. -/
theorem reference : val_main_v5 (F := Ideal) (arr A) (arr B) = (arr (rowSum A B 1024) : S8192x1024.Idx → EReal) :=
  funext fun i => (val_main_v4_apply _ _ i).trans (rowSum_fin A B 1024 (i 0).val (i 1).val)

/-- The reference runs and leaves its arguments as they were. -/
theorem frameRef : Cert.quiescent_ReferenceDmergedIdeal (hReferenceDmergedIdeal := Cert.ReferenceDmergedIdeal.Gen.facts) := fun m ρ _ =>
  (θ_run Cert.ReferenceDmergedIdeal.defs _ _).mono (fun r h => ⟨fun c => (h c).2, sem_eq_zero_of_no_sems (by decide) r.2⟩) (Cert.ReferenceDmergedIdeal.Value.run (F := Ideal) m ρ)

/-- The kernel's array is the reference's. -/
theorem equal : Cert.algebraic_KernelDmergedIdeal_ReferenceDmergedIdeal (hKernelDmergedIdeal := Cert.KernelDmergedIdeal.Gen.facts)
    (hReferenceDmergedIdeal := Cert.ReferenceDmergedIdeal.Gen.facts) := by
  intro m ρ m' ρ' _ hagree
  refine ⟨fun c => (dats m 0 c).arrAt 2 cfg0.N, run_blocks (F := Ideal) m ρ, ?_⟩
  refine (θ_run Cert.ReferenceDmergedIdeal.defs _ _).mono (fun r h c => ?_) (Cert.ReferenceDmergedIdeal.Value.run (F := Ideal) m' ρ')
  obtain ⟨r0, rest⟩ := h c
  obtain ⟨A, hA⟩ := exists_arr (m ((c : Thread nD τ).loc main_arg0) : S8192x1024.Idx → EReal)
  obtain ⟨B, hB⟩ := exists_arr (m ((c : Thread nD τ).loc main_arg1) : S1024x1024.Idx → EReal)
  obtain ⟨a0, a1⟩ := hagree c
  refine ⟨r0.trans ((val_main_v5_eq (F := Ideal) _ _).trans (Eq.trans ?_ (final m c A B hA hB).symm)), rest⟩
  rw [a0.trans hA, a1.trans hB]
  exact reference A B

end Cert.KernelDmergedIdeal.Value

end
-- ==== Proof.ProjRestVal.lean ====
module

public import proofs.«01_k».proof.Proof.Blocks
public import proofs.«01_k».proof.Proof.Gen.KernelProjRestIdeal.Value
public import proofs.«01_k».proof.Proof.Gen.ReferenceProjRestIdeal.Read
public import proofs.«01_k».proof.Proof.Gen.ReferenceProjRestIdeal.Run
public import proofs.«01_k».proof.Defs

/-! The projection of the latent rows on all columns but the state-space ones: a point's block of the product, and the array the kernel ends with. -/

@[expose] public section

set_option maxRecDepth 16384

noncomputable section

namespace Cert.KernelProjRestIdeal.Value

open Cert.KernelProjRestIdeal Cert.KernelProjRestIdeal.Gen Cert.ReferenceProjRestIdeal.Read Idealize.ShloMosaic Idealize.ShloMosaic.TcCoe Idealize.SL.Sem Blocks

/-- Which blocks a point reads and writes. -/
theorem index : ∀ t : Fin cfg0.N, win0_0.index t (0 : Fin 2) = t.val % 8 ∧ win0_0.index t (1 : Fin 2) = 0
    ∧ win0_1.index t (0 : Fin 2) = 0 ∧ win0_1.index t (1 : Fin 2) = t.val / 8
    ∧ win0_2.index t (0 : Fin 2) = t.val % 8 ∧ win0_2.index t (1 : Fin 2) = t.val / 8 :=
  (by decide +kernel : ∀ t : Fin grid0.N, _)

/-- Every entry of the result lies in the block of its rows and columns. -/
theorem cover (i : S8192x7168.Idx) : ∃ t : Fin cfg0.N, (cfg0.win 2).flush t = true ∧ i ∈ ((cfg0.win 2).blk t).view.set := by
  have b0 : (i 0 : Nat) < 8192 := (i 0).isLt
  have b1 : (i 1 : Nat) < 7168 := (i 1).isLt
  let t : Fin cfg0.N := ⟨(i 1).val / 1024 * 8 + (i 0).val / 1024, by rw [show cfg0.N = 56 from N_0]; omega⟩
  have e : t.val = (i 1).val / 1024 * 8 + (i 0).val / 1024 := rfl
  obtain ⟨-, -, -, -, e0, e1⟩ := index t
  exact ⟨t, flush0_2 t, mem_tile ((cfg0.win 2).blk t).view.emb _ _ (fun _ => rfl) (fun _ => rfl) i (by decide) (by decide)
    (e0.trans (by omega)) (e1.trans (by omega))⟩

variable (m : (ℓ : Loc nD τ sig) → Buf (Elt Ideal) ℓ) (c : Dev nD) (A B : ℕ → ℕ → EReal)

/-- The array the kernel ends with: the product of its arguments. Each point leaves its block of it. -/
theorem final (hA : (m ((c : Thread nD τ).loc main_arg0) : S8192x1024.Idx → EReal) = arr A)
    (hB : (m ((c : Thread nD τ).loc main_arg1) : S1024x7168.Idx → EReal) = arr B) :
    (dats m 0 c).arrAt 2 cfg0.N = (arr (plainSum A B 1024) : S8192x7168.Idx → EReal) := by
  refine (dats m 0 c).arrAt_eq_of_cover 2 (arr (plainSum A B 1024) : S8192x7168.Idx → EReal) (fun t _ => ?_) cover
  obtain ⟨e0, e1, e2, e3, e4, e5⟩ := index t
  have b0 : (iblk m c 0 t : S1024x1024.Idx → EReal) = _ := tile ((cfg0.win 0).blk t).view.emb _ _ (fun _ => rfl) (fun _ => rfl) hA
  have b1 : (iblk m c 1 t : S1024x1024.Idx → EReal) = _ := tile ((cfg0.win 1).blk t).view.emb _ _ (fun _ => rfl) (fun _ => rfl) hB
  have b2 := tile (A := plainSum A B 1024) ((cfg0.win 2).blk t).view.emb _ _ (fun _ => rfl) (fun _ => rfl) rfl
  rw [e0, e1] at b0
  rw [e2, e3] at b1
  rw [e4, e5] at b2
  rw [flushed2, b0, b1]
  unfold out0_2
  rw [View.canon_unit_zero hz, View.ld_unit_zero (S := S1024x1024) hz, View.ld_unit_zero (S := S1024x1024) hz]
  exact (plainSum_block A B _ _).trans b2.symm

/-- The reference's array is the same product. -/
theorem reference : val_main_v3 (F := Ideal) (arr A) (arr B) = (arr (plainSum A B 1024) : S8192x7168.Idx → EReal) :=
  funext fun i => (val_main_v2_apply _ _ i).trans (plainSum_fin A B 1024 (i 0).val (i 1).val)

/-- The reference runs and leaves its arguments as they were. -/
theorem frameRef : Cert.quiescent_ReferenceProjRestIdeal (hReferenceProjRestIdeal := Cert.ReferenceProjRestIdeal.Gen.facts) := fun m ρ _ =>
  (θ_run Cert.ReferenceProjRestIdeal.defs _ _).mono (fun r h => ⟨fun c => (h c).2, sem_eq_zero_of_no_sems (by decide) r.2⟩) (Cert.ReferenceProjRestIdeal.Value.run (F := Ideal) m ρ)

/-- The kernel's array is the reference's. -/
theorem equal : Cert.algebraic_KernelProjRestIdeal_ReferenceProjRestIdeal (hKernelProjRestIdeal := Cert.KernelProjRestIdeal.Gen.facts)
    (hReferenceProjRestIdeal := Cert.ReferenceProjRestIdeal.Gen.facts) := by
  intro m ρ m' ρ' _ hagree
  refine ⟨fun c => (dats m 0 c).arrAt 2 cfg0.N, run_blocks (F := Ideal) m ρ, ?_⟩
  refine (θ_run Cert.ReferenceProjRestIdeal.defs _ _).mono (fun r h c => ?_) (Cert.ReferenceProjRestIdeal.Value.run (F := Ideal) m' ρ')
  obtain ⟨r0, rest⟩ := h c
  obtain ⟨A, hA⟩ := exists_arr (m ((c : Thread nD τ).loc main_arg0) : S8192x1024.Idx → EReal)
  obtain ⟨B, hB⟩ := exists_arr (m ((c : Thread nD τ).loc main_arg1) : S1024x7168.Idx → EReal)
  obtain ⟨a0, a1⟩ := hagree c
  refine ⟨r0.trans ((val_main_v3_eq (F := Ideal) _ _).trans (Eq.trans ?_ (final m c A B hA hB).symm)), rest⟩
  rw [a0.trans hA, a1.trans hB]
  exact reference A B

end Cert.KernelProjRestIdeal.Value

end
-- ==== Proof.ProjSsdVal.lean ====
module

public import proofs.«01_k».proof.Proof.Blocks
public import proofs.«01_k».proof.Proof.Gen.KernelProjSsdIdeal.Value
public import proofs.«01_k».proof.Proof.Gen.ReferenceProjSsdIdeal.Read
public import proofs.«01_k».proof.Proof.Gen.ReferenceProjSsdIdeal.Run
public import proofs.«01_k».proof.Defs

/-! The projection of all rows on the state-space columns: a point's block of the product, and the array the kernel ends with. -/

@[expose] public section

set_option maxRecDepth 16384

noncomputable section

namespace Cert.KernelProjSsdIdeal.Value

open Cert.KernelProjSsdIdeal Cert.KernelProjSsdIdeal.Gen Cert.ReferenceProjSsdIdeal.Read Idealize.ShloMosaic Idealize.ShloMosaic.TcCoe Idealize.SL.Sem Blocks

/-- Which blocks a point reads and writes. -/
theorem index : ∀ t : Fin cfg0.N, win0_0.index t (0 : Fin 2) = t.val % 11 ∧ win0_0.index t (1 : Fin 2) = 0
    ∧ win0_1.index t (0 : Fin 2) = 0 ∧ win0_1.index t (1 : Fin 2) = t.val / 11
    ∧ win0_2.index t (0 : Fin 2) = t.val % 11 ∧ win0_2.index t (1 : Fin 2) = t.val / 11 :=
  (by decide +kernel : ∀ t : Fin grid0.N, _)

/-- Every entry of the result lies in the block of its rows and columns. -/
theorem cover (i : S8448x4224.Idx) : ∃ t : Fin cfg0.N, (cfg0.win 2).flush t = true ∧ i ∈ ((cfg0.win 2).blk t).view.set := by
  have b0 : (i 0 : Nat) < 8448 := (i 0).isLt
  have b1 : (i 1 : Nat) < 4224 := (i 1).isLt
  let t : Fin cfg0.N := ⟨(i 1).val / 1408 * 11 + (i 0).val / 768, by rw [show cfg0.N = 33 from N_0]; omega⟩
  have e : t.val = (i 1).val / 1408 * 11 + (i 0).val / 768 := rfl
  obtain ⟨-, -, -, -, e0, e1⟩ := index t
  exact ⟨t, flush0_2 t, mem_tile ((cfg0.win 2).blk t).view.emb _ _ (fun _ => rfl) (fun _ => rfl) i (by decide) (by decide)
    (e0.trans (by omega)) (e1.trans (by omega))⟩

variable (m : (ℓ : Loc nD τ sig) → Buf (Elt Ideal) ℓ) (c : Dev nD) (A B : ℕ → ℕ → EReal)

/-- The array the kernel ends with: the product of its arguments. Each point leaves its block of it. -/
theorem final (hA : (m ((c : Thread nD τ).loc main_arg0) : S8448x1024.Idx → EReal) = arr A)
    (hB : (m ((c : Thread nD τ).loc main_arg1) : S1024x4224.Idx → EReal) = arr B) :
    (dats m 0 c).arrAt 2 cfg0.N = (arr (plainSum A B 1024) : S8448x4224.Idx → EReal) := by
  refine (dats m 0 c).arrAt_eq_of_cover 2 (arr (plainSum A B 1024) : S8448x4224.Idx → EReal) (fun t _ => ?_) cover
  obtain ⟨e0, e1, e2, e3, e4, e5⟩ := index t
  have b0 : (iblk m c 0 t : S768x1024.Idx → EReal) = _ := tile ((cfg0.win 0).blk t).view.emb _ _ (fun _ => rfl) (fun _ => rfl) hA
  have b1 : (iblk m c 1 t : S1024x1408.Idx → EReal) = _ := tile ((cfg0.win 1).blk t).view.emb _ _ (fun _ => rfl) (fun _ => rfl) hB
  have b2 := tile (A := plainSum A B 1024) ((cfg0.win 2).blk t).view.emb _ _ (fun _ => rfl) (fun _ => rfl) rfl
  rw [e0, e1] at b0
  rw [e2, e3] at b1
  rw [e4, e5] at b2
  rw [flushed2, b0, b1]
  unfold out0_2
  rw [View.canon_unit_zero hz, View.ld_unit_zero (S := S768x1024) hz, View.ld_unit_zero (S := S1024x1408) hz]
  exact (plainSum_block A B _ _).trans b2.symm

/-- The reference's array is the same product. -/
theorem reference : val_main_v2 (F := Ideal) (arr A) (arr B) = (arr (plainSum A B 1024) : S8448x4224.Idx → EReal) :=
  funext fun i => (val_main_v2_apply _ _ i).trans (plainSum_fin A B 1024 (i 0).val (i 1).val)

/-- The reference runs and leaves its arguments as they were. -/
theorem frameRef : Cert.quiescent_ReferenceProjSsdIdeal (hReferenceProjSsdIdeal := Cert.ReferenceProjSsdIdeal.Gen.facts) := fun m ρ _ =>
  (θ_run Cert.ReferenceProjSsdIdeal.defs _ _).mono (fun r h => ⟨fun c => (h c).2, sem_eq_zero_of_no_sems (by decide) r.2⟩) (Cert.ReferenceProjSsdIdeal.Value.run (F := Ideal) m ρ)

/-- The kernel's array is the reference's. -/
theorem equal : Cert.algebraic_KernelProjSsdIdeal_ReferenceProjSsdIdeal (hKernelProjSsdIdeal := Cert.KernelProjSsdIdeal.Gen.facts)
    (hReferenceProjSsdIdeal := Cert.ReferenceProjSsdIdeal.Gen.facts) := by
  intro m ρ m' ρ' _ hagree
  refine ⟨fun c => (dats m 0 c).arrAt 2 cfg0.N, run_blocks (F := Ideal) m ρ, ?_⟩
  refine (θ_run Cert.ReferenceProjSsdIdeal.defs _ _).mono (fun r h c => ?_) (Cert.ReferenceProjSsdIdeal.Value.run (F := Ideal) m' ρ')
  obtain ⟨r0, rest⟩ := h c
  obtain ⟨A, hA⟩ := exists_arr (m ((c : Thread nD τ).loc main_arg0) : S8448x1024.Idx → EReal)
  obtain ⟨B, hB⟩ := exists_arr (m ((c : Thread nD τ).loc main_arg1) : S1024x4224.Idx → EReal)
  obtain ⟨a0, a1⟩ := hagree c
  refine ⟨r0.trans ((val_main_v2_eq (F := Ideal) _ _).trans (Eq.trans ?_ (final m c A B hA hB).symm)), rest⟩
  rw [a0.trans hA, a1.trans hB]
  exact reference A B

end Cert.KernelProjSsdIdeal.Value

end
-- ==== Proof.OutSsmVal.lean ====
module

public import proofs.«01_k».proof.Proof.Blocks
public import proofs.«01_k».proof.Proof.Gen.KernelOutSsmIdeal.Value
public import proofs.«01_k».proof.Proof.Gen.ReferenceOutSsmIdeal.Read
public import proofs.«01_k».proof.Proof.Gen.ReferenceOutSsmIdeal.Run
public import proofs.«01_k».proof.Defs

/-! The output projection of the state-space branch: a point's block of the product, and the array the kernel ends with. -/

@[expose] public section

set_option maxRecDepth 16384

noncomputable section

namespace Cert.KernelOutSsmIdeal.Value

open Cert.KernelOutSsmIdeal Cert.KernelOutSsmIdeal.Gen Cert.ReferenceOutSsmIdeal.Read Idealize.ShloMosaic Idealize.ShloMosaic.TcCoe Idealize.SL.Sem Blocks

/-- Which blocks a point reads and writes. -/
theorem index : ∀ t : Fin cfg0.N, win0_0.index t (0 : Fin 2) = t.val % 8 ∧ win0_0.index t (1 : Fin 2) = 0
    ∧ win0_1.index t (0 : Fin 2) = 0 ∧ win0_1.index t (1 : Fin 2) = t.val / 8
    ∧ win0_2.index t (0 : Fin 2) = t.val % 8 ∧ win0_2.index t (1 : Fin 2) = t.val / 8 :=
  (by decide +kernel : ∀ t : Fin grid0.N, _)

/-- Every entry of the result lies in the block of its rows and columns. -/
theorem cover (i : S8192x1024.Idx) : ∃ t : Fin cfg0.N, (cfg0.win 2).flush t = true ∧ i ∈ ((cfg0.win 2).blk t).view.set := by
  have b0 : (i 0 : Nat) < 8192 := (i 0).isLt
  have b1 : (i 1 : Nat) < 1024 := (i 1).isLt
  let t : Fin cfg0.N := ⟨(i 1).val / 1024 * 8 + (i 0).val / 1024, by rw [show cfg0.N = 8 from N_0]; omega⟩
  have e : t.val = (i 1).val / 1024 * 8 + (i 0).val / 1024 := rfl
  obtain ⟨-, -, -, -, e0, e1⟩ := index t
  exact ⟨t, flush0_2 t, mem_tile ((cfg0.win 2).blk t).view.emb _ _ (fun _ => rfl) (fun _ => rfl) i (by decide) (by decide)
    (e0.trans (by omega)) (e1.trans (by omega))⟩

variable (m : (ℓ : Loc nD τ sig) → Buf (Elt Ideal) ℓ) (c : Dev nD) (A B : ℕ → ℕ → EReal)

/-- The array the kernel ends with: the product of its arguments. Each point leaves its block of it. -/
theorem final (hA : (m ((c : Thread nD τ).loc main_arg0) : S8192x2048.Idx → EReal) = arr A)
    (hB : (m ((c : Thread nD τ).loc main_arg1) : S2048x1024.Idx → EReal) = arr B) :
    (dats m 0 c).arrAt 2 cfg0.N = (arr (plainSum A B 2048) : S8192x1024.Idx → EReal) := by
  refine (dats m 0 c).arrAt_eq_of_cover 2 (arr (plainSum A B 2048) : S8192x1024.Idx → EReal) (fun t _ => ?_) cover
  obtain ⟨e0, e1, e2, e3, e4, e5⟩ := index t
  have b0 : (iblk m c 0 t : S1024x2048.Idx → EReal) = _ := tile ((cfg0.win 0).blk t).view.emb _ _ (fun _ => rfl) (fun _ => rfl) hA
  have b1 : (iblk m c 1 t : S2048x1024.Idx → EReal) = _ := tile ((cfg0.win 1).blk t).view.emb _ _ (fun _ => rfl) (fun _ => rfl) hB
  have b2 := tile (A := plainSum A B 2048) ((cfg0.win 2).blk t).view.emb _ _ (fun _ => rfl) (fun _ => rfl) rfl
  rw [e0, e1] at b0
  rw [e2, e3] at b1
  rw [e4, e5] at b2
  rw [flushed2, b0, b1]
  unfold out0_2
  rw [View.canon_unit_zero hz, View.ld_unit_zero (S := S1024x2048) hz, View.ld_unit_zero (S := S2048x1024) hz]
  exact (plainSum_block A B _ _).trans b2.symm

/-- The reference's array is the same product. -/
theorem reference : val_main_v3 (F := Ideal) (arr A) (arr B) = (arr (plainSum A B 2048) : S8192x1024.Idx → EReal) :=
  funext fun i => (val_main_v2_apply _ _ i).trans (plainSum_fin A B 2048 (i 0).val (i 1).val)

/-- The reference runs and leaves its arguments as they were. -/
theorem frameRef : Cert.quiescent_ReferenceOutSsmIdeal (hReferenceOutSsmIdeal := Cert.ReferenceOutSsmIdeal.Gen.facts) := fun m ρ _ =>
  (θ_run Cert.ReferenceOutSsmIdeal.defs _ _).mono (fun r h => ⟨fun c => (h c).2, sem_eq_zero_of_no_sems (by decide) r.2⟩) (Cert.ReferenceOutSsmIdeal.Value.run (F := Ideal) m ρ)

/-- The kernel's array is the reference's. -/
theorem equal : Cert.algebraic_KernelOutSsmIdeal_ReferenceOutSsmIdeal (hKernelOutSsmIdeal := Cert.KernelOutSsmIdeal.Gen.facts)
    (hReferenceOutSsmIdeal := Cert.ReferenceOutSsmIdeal.Gen.facts) := by
  intro m ρ m' ρ' _ hagree
  refine ⟨fun c => (dats m 0 c).arrAt 2 cfg0.N, run_blocks (F := Ideal) m ρ, ?_⟩
  refine (θ_run Cert.ReferenceOutSsmIdeal.defs _ _).mono (fun r h c => ?_) (Cert.ReferenceOutSsmIdeal.Value.run (F := Ideal) m' ρ')
  obtain ⟨r0, rest⟩ := h c
  obtain ⟨A, hA⟩ := exists_arr (m ((c : Thread nD τ).loc main_arg0) : S8192x2048.Idx → EReal)
  obtain ⟨B, hB⟩ := exists_arr (m ((c : Thread nD τ).loc main_arg1) : S2048x1024.Idx → EReal)
  obtain ⟨a0, a1⟩ := hagree c
  refine ⟨r0.trans ((val_main_v3_eq (F := Ideal) _ _).trans (Eq.trans ?_ (final m c A B hA hB).symm)), rest⟩
  rw [a0.trans hA, a1.trans hB]
  exact reference A B

end Cert.KernelOutSsmIdeal.Value

end
-- ==== Proof.OutConfVal.lean ====
module

public import proofs.«01_k».proof.Proof.Blocks
public import proofs.«01_k».proof.Proof.Gen.KernelOutConfIdeal.Value
public import proofs.«01_k».proof.Proof.Gen.ReferenceOutConfIdeal.Read
public import proofs.«01_k».proof.Proof.Gen.ReferenceOutConfIdeal.Run
public import proofs.«01_k».proof.Defs

/-! The output projection of the convolution branch: a point's block of the product, and the array the kernel ends with. -/

@[expose] public section

set_option maxRecDepth 16384

noncomputable section

namespace Cert.KernelOutConfIdeal.Value

open Cert.KernelOutConfIdeal Cert.KernelOutConfIdeal.Gen Cert.ReferenceOutConfIdeal.Read Idealize.ShloMosaic Idealize.ShloMosaic.TcCoe Idealize.SL.Sem Blocks

/-- Which blocks a point reads and writes. -/
theorem index : ∀ t : Fin cfg0.N, win0_0.index t (0 : Fin 2) = t.val % 8 ∧ win0_0.index t (1 : Fin 2) = 0
    ∧ win0_1.index t (0 : Fin 2) = 0 ∧ win0_1.index t (1 : Fin 2) = t.val / 8
    ∧ win0_2.index t (0 : Fin 2) = t.val % 8 ∧ win0_2.index t (1 : Fin 2) = t.val / 8 :=
  (by decide +kernel : ∀ t : Fin grid0.N, _)

/-- Every entry of the result lies in the block of its rows and columns. -/
theorem cover (i : S8192x1024.Idx) : ∃ t : Fin cfg0.N, (cfg0.win 2).flush t = true ∧ i ∈ ((cfg0.win 2).blk t).view.set := by
  have b0 : (i 0 : Nat) < 8192 := (i 0).isLt
  have b1 : (i 1 : Nat) < 1024 := (i 1).isLt
  let t : Fin cfg0.N := ⟨(i 1).val / 1024 * 8 + (i 0).val / 1024, by rw [show cfg0.N = 8 from N_0]; omega⟩
  have e : t.val = (i 1).val / 1024 * 8 + (i 0).val / 1024 := rfl
  obtain ⟨-, -, -, -, e0, e1⟩ := index t
  exact ⟨t, flush0_2 t, mem_tile ((cfg0.win 2).blk t).view.emb _ _ (fun _ => rfl) (fun _ => rfl) i (by decide) (by decide)
    (e0.trans (by omega)) (e1.trans (by omega))⟩

variable (m : (ℓ : Loc nD τ sig) → Buf (Elt Ideal) ℓ) (c : Dev nD) (A B : ℕ → ℕ → EReal)

/-- The array the kernel ends with: the product of its arguments. Each point leaves its block of it. -/
theorem final (hA : (m ((c : Thread nD τ).loc main_arg0) : S8192x1024.Idx → EReal) = arr A)
    (hB : (m ((c : Thread nD τ).loc main_arg1) : S1024x1024.Idx → EReal) = arr B) :
    (dats m 0 c).arrAt 2 cfg0.N = (arr (plainSum A B 1024) : S8192x1024.Idx → EReal) := by
  refine (dats m 0 c).arrAt_eq_of_cover 2 (arr (plainSum A B 1024) : S8192x1024.Idx → EReal) (fun t _ => ?_) cover
  obtain ⟨e0, e1, e2, e3, e4, e5⟩ := index t
  have b0 : (iblk m c 0 t : S1024x1024.Idx → EReal) = _ := tile ((cfg0.win 0).blk t).view.emb _ _ (fun _ => rfl) (fun _ => rfl) hA
  have b1 : (iblk m c 1 t : S1024x1024.Idx → EReal) = _ := tile ((cfg0.win 1).blk t).view.emb _ _ (fun _ => rfl) (fun _ => rfl) hB
  have b2 := tile (A := plainSum A B 1024) ((cfg0.win 2).blk t).view.emb _ _ (fun _ => rfl) (fun _ => rfl) rfl
  rw [e0, e1] at b0
  rw [e2, e3] at b1
  rw [e4, e5] at b2
  rw [flushed2, b0, b1]
  unfold out0_2
  rw [View.canon_unit_zero hz, View.ld_unit_zero (S := S1024x1024) hz, View.ld_unit_zero (S := S1024x1024) hz]
  exact (plainSum_block A B _ _).trans b2.symm

/-- The reference's array is the same product. -/
theorem reference : val_main_v3 (F := Ideal) (arr A) (arr B) = (arr (plainSum A B 1024) : S8192x1024.Idx → EReal) :=
  funext fun i => (val_main_v2_apply _ _ i).trans (plainSum_fin A B 1024 (i 0).val (i 1).val)

/-- The reference runs and leaves its arguments as they were. -/
theorem frameRef : Cert.quiescent_ReferenceOutConfIdeal (hReferenceOutConfIdeal := Cert.ReferenceOutConfIdeal.Gen.facts) := fun m ρ _ =>
  (θ_run Cert.ReferenceOutConfIdeal.defs _ _).mono (fun r h => ⟨fun c => (h c).2, sem_eq_zero_of_no_sems (by decide) r.2⟩) (Cert.ReferenceOutConfIdeal.Value.run (F := Ideal) m ρ)

/-- The kernel's array is the reference's. -/
theorem equal : Cert.algebraic_KernelOutConfIdeal_ReferenceOutConfIdeal (hKernelOutConfIdeal := Cert.KernelOutConfIdeal.Gen.facts)
    (hReferenceOutConfIdeal := Cert.ReferenceOutConfIdeal.Gen.facts) := by
  intro m ρ m' ρ' _ hagree
  refine ⟨fun c => (dats m 0 c).arrAt 2 cfg0.N, run_blocks (F := Ideal) m ρ, ?_⟩
  refine (θ_run Cert.ReferenceOutConfIdeal.defs _ _).mono (fun r h c => ?_) (Cert.ReferenceOutConfIdeal.Value.run (F := Ideal) m' ρ')
  obtain ⟨r0, rest⟩ := h c
  obtain ⟨A, hA⟩ := exists_arr (m ((c : Thread nD τ).loc main_arg0) : S8192x1024.Idx → EReal)
  obtain ⟨B, hB⟩ := exists_arr (m ((c : Thread nD τ).loc main_arg1) : S1024x1024.Idx → EReal)
  obtain ⟨a0, a1⟩ := hagree c
  refine ⟨r0.trans ((val_main_v3_eq (F := Ideal) _ _).trans (Eq.trans ?_ (final m c A B hA hB).symm)), rest⟩
  rw [a0.trans hA, a1.trans hB]
  exact reference A B

end Cert.KernelOutConfIdeal.Value

end
-- ==== Proof.OutProjVal.lean ====
module

public import proofs.«01_k».proof.Proof.Blocks
public import proofs.«01_k».proof.Proof.Gen.KernelOutProjIdeal.Value
public import proofs.«01_k».proof.Proof.Gen.ReferenceOutProjIdeal.Read
public import proofs.«01_k».proof.Proof.Gen.ReferenceOutProjIdeal.Run
public import proofs.«01_k».proof.Defs

/-! The output projection of the merged branches: a point's block of the product, and the array the kernel ends with. -/

@[expose] public section

set_option maxRecDepth 16384

noncomputable section

namespace Cert.KernelOutProjIdeal.Value

open Cert.KernelOutProjIdeal Cert.KernelOutProjIdeal.Gen Cert.ReferenceOutProjIdeal.Read Idealize.ShloMosaic Idealize.ShloMosaic.TcCoe Idealize.SL.Sem Blocks

/-- Which blocks a point reads and writes. -/
theorem index : ∀ t : Fin cfg0.N, win0_0.index t (0 : Fin 2) = t.val % 8 ∧ win0_0.index t (1 : Fin 2) = 0
    ∧ win0_1.index t (0 : Fin 2) = 0 ∧ win0_1.index t (1 : Fin 2) = t.val / 8
    ∧ win0_2.index t (0 : Fin 2) = t.val % 8 ∧ win0_2.index t (1 : Fin 2) = t.val / 8 :=
  (by decide +kernel : ∀ t : Fin grid0.N, _)

/-- Every entry of the result lies in the block of its rows and columns. -/
theorem cover (i : S8192x1024.Idx) : ∃ t : Fin cfg0.N, (cfg0.win 2).flush t = true ∧ i ∈ ((cfg0.win 2).blk t).view.set := by
  have b0 : (i 0 : Nat) < 8192 := (i 0).isLt
  have b1 : (i 1 : Nat) < 1024 := (i 1).isLt
  let t : Fin cfg0.N := ⟨(i 1).val / 1024 * 8 + (i 0).val / 1024, by rw [show cfg0.N = 8 from N_0]; omega⟩
  have e : t.val = (i 1).val / 1024 * 8 + (i 0).val / 1024 := rfl
  obtain ⟨-, -, -, -, e0, e1⟩ := index t
  exact ⟨t, flush0_2 t, mem_tile ((cfg0.win 2).blk t).view.emb _ _ (fun _ => rfl) (fun _ => rfl) i (by decide) (by decide)
    (e0.trans (by omega)) (e1.trans (by omega))⟩

variable (m : (ℓ : Loc nD τ sig) → Buf (Elt Ideal) ℓ) (c : Dev nD) (A B : ℕ → ℕ → EReal)

/-- The array the kernel ends with: the product of its arguments. Each point leaves its block of it. -/
theorem final (hA : (m ((c : Thread nD τ).loc main_arg0) : S8192x1024.Idx → EReal) = arr A)
    (hB : (m ((c : Thread nD τ).loc main_arg1) : S1024x1024.Idx → EReal) = arr B) :
    (dats m 0 c).arrAt 2 cfg0.N = (arr (plainSum A B 1024) : S8192x1024.Idx → EReal) := by
  refine (dats m 0 c).arrAt_eq_of_cover 2 (arr (plainSum A B 1024) : S8192x1024.Idx → EReal) (fun t _ => ?_) cover
  obtain ⟨e0, e1, e2, e3, e4, e5⟩ := index t
  have b0 : (iblk m c 0 t : S1024x1024.Idx → EReal) = _ := tile ((cfg0.win 0).blk t).view.emb _ _ (fun _ => rfl) (fun _ => rfl) hA
  have b1 : (iblk m c 1 t : S1024x1024.Idx → EReal) = _ := tile ((cfg0.win 1).blk t).view.emb _ _ (fun _ => rfl) (fun _ => rfl) hB
  have b2 := tile (A := plainSum A B 1024) ((cfg0.win 2).blk t).view.emb _ _ (fun _ => rfl) (fun _ => rfl) rfl
  rw [e0, e1] at b0
  rw [e2, e3] at b1
  rw [e4, e5] at b2
  rw [flushed2, b0, b1]
  unfold out0_2
  rw [View.canon_unit_zero hz, View.ld_unit_zero (S := S1024x1024) hz, View.ld_unit_zero (S := S1024x1024) hz]
  exact (plainSum_block A B _ _).trans b2.symm

/-- The reference's array is the same product. -/
theorem reference : val_main_v2 (F := Ideal) (arr A) (arr B) = (arr (plainSum A B 1024) : S8192x1024.Idx → EReal) :=
  funext fun i => (val_main_v2_apply _ _ i).trans (plainSum_fin A B 1024 (i 0).val (i 1).val)

/-- The reference runs and leaves its arguments as they were. -/
theorem frameRef : Cert.quiescent_ReferenceOutProjIdeal (hReferenceOutProjIdeal := Cert.ReferenceOutProjIdeal.Gen.facts) := fun m ρ _ =>
  (θ_run Cert.ReferenceOutProjIdeal.defs _ _).mono (fun r h => ⟨fun c => (h c).2, sem_eq_zero_of_no_sems (by decide) r.2⟩) (Cert.ReferenceOutProjIdeal.Value.run (F := Ideal) m ρ)

/-- The kernel's array is the reference's. -/
theorem equal : Cert.algebraic_KernelOutProjIdeal_ReferenceOutProjIdeal (hKernelOutProjIdeal := Cert.KernelOutProjIdeal.Gen.facts)
    (hReferenceOutProjIdeal := Cert.ReferenceOutProjIdeal.Gen.facts) := by
  intro m ρ m' ρ' _ hagree
  refine ⟨fun c => (dats m 0 c).arrAt 2 cfg0.N, run_blocks (F := Ideal) m ρ, ?_⟩
  refine (θ_run Cert.ReferenceOutProjIdeal.defs _ _).mono (fun r h c => ?_) (Cert.ReferenceOutProjIdeal.Value.run (F := Ideal) m' ρ')
  obtain ⟨r0, rest⟩ := h c
  obtain ⟨A, hA⟩ := exists_arr (m ((c : Thread nD τ).loc main_arg0) : S8192x1024.Idx → EReal)
  obtain ⟨B, hB⟩ := exists_arr (m ((c : Thread nD τ).loc main_arg1) : S1024x1024.Idx → EReal)
  obtain ⟨a0, a1⟩ := hagree c
  refine ⟨r0.trans ((val_main_v2_eq (F := Ideal) _ _).trans (Eq.trans ?_ (final m c A B hA hB).symm)), rest⟩
  rw [a0.trans hA, a1.trans hB]
  exact reference A B

end Cert.KernelOutProjIdeal.Value

end
-- ==== Proof.MergeVal.lean ====
module

public import proofs.«01_k».proof.Proof.Gen.KernelMergeIdeal.Value
public import proofs.«01_k».proof.Proof.Gen.ReferenceMergeIdeal.Run
public import proofs.«01_k».proof.Proof.Gen.ReferenceMergeIdeal.Read
public import proofs.«01_k».proof.Defs
public import Idealize.ShloMosaic.Lib.IdealHost

/-! The gated merge of the two branches: the kernel's array is the reference's. -/

@[expose] public section

set_option maxRecDepth 16384

noncomputable section

namespace Cert.KernelMergeIdeal.Value

open Cert.KernelMergeIdeal Cert.ReferenceMergeIdeal.Read Idealize.ShloMosaic Idealize.ShloMosaic.TcCoe Idealize.SL.Sem

/-- The reference runs and leaves its arguments as they were. -/
theorem frameRef : Cert.quiescent_ReferenceMergeIdeal (hReferenceMergeIdeal := Cert.ReferenceMergeIdeal.Gen.facts) := fun m ρ _ =>
  (θ_run Cert.ReferenceMergeIdeal.defs _ _).mono (fun r h => ⟨fun c => (h c).2, sem_eq_zero_of_no_sems (by decide) r.2⟩) (Cert.ReferenceMergeIdeal.Value.run (F := Ideal) m ρ)

/-- The kernel's array is the reference's: each branch times its own gate, added. -/
theorem equal : Cert.algebraic_KernelMergeIdeal_ReferenceMergeIdeal (hKernelMergeIdeal := Cert.KernelMergeIdeal.Gen.facts)
    (hReferenceMergeIdeal := Cert.ReferenceMergeIdeal.Gen.facts) := by
  intro m ρ m' ρ' _ hagree
  refine ⟨_, run (F := Ideal) m ρ, ?_⟩
  refine (θ_run Cert.ReferenceMergeIdeal.defs _ _).mono (fun r h c => ?_) (Cert.ReferenceMergeIdeal.Value.run (F := Ideal) m' ρ')
  obtain ⟨r0, rest⟩ := h c
  obtain ⟨a0, a1, a2⟩ := hagree c
  refine ⟨r0.trans ((val_main_v15_eq (F := Ideal) _ _ _).trans ?_), rest⟩
  rw [a0, a1, a2]
  funext i
  simp only [val_main_v15_apply, val_main_v14_apply, val_main_v13_apply, val_main_v12_apply, val_main_v11_apply, val_main_v10_apply, val_main_v9_apply,
    val_main_v8_apply, val_main_v7_apply, val_main_v6_apply, val_main_v5_apply, val_main_v4_apply, val_main_v3_apply, val_main_v2_apply,
    val_main_v1_apply, val_main_v0_apply, val_main_cst_apply, val_main_cst_0_apply]
  simp only [show (FloatOps.ofBits .f32 0x3F800000#32 : Ideal .f32) = 1 from Ideal.ofBits_one_f32]
  have e0 : idx_main_v2 (idx_main_v10 i) = inIdx4_0 i := by funext a; fin_cases a <;> apply Fin.ext <;> simp [idx_main_v2, idx_main_v10, inIdx4_0, Nat.add_comm]
  have e1 : idx_main_v2 (idx_main_v12 i) = inIdx4_2 i := by funext a; fin_cases a <;> apply Fin.ext <;> simp [idx_main_v2, idx_main_v12, inIdx4_2] <;> omega
  rw [e0, e1]
  rfl

end Cert.KernelMergeIdeal.Value

end
-- ==== Proof.DgateVal.lean ====
module

public import proofs.«01_k».proof.Proof.Blocks
public import proofs.«01_k».proof.Proof.Gen.KernelDgateIdeal.Frame
public import proofs.«01_k».proof.Proof.Gen.ReferenceDgateIdeal.Read
public import proofs.«01_k».proof.Proof.Gen.ReferenceDgateIdeal.Run
public import proofs.«01_k».proof.Defs
public import Idealize.ShloMosaic.Lib.IdealHost
public import Idealize.ShloMosaic.Lib.KernelVsHost
import Idealize.ShloMosaic.Lib.Pipeline.ValueKit

/-! The backward pass of the gated merge: both branches' gradients and the gates' columns of the projection's gradient. -/

@[expose] public section

set_option maxRecDepth 16384

noncomputable section

namespace Cert.KernelDgateIdeal.Value

open Cert.KernelDgateIdeal Cert.KernelDgateIdeal.Gen Cert.ReferenceDgateIdeal.Read Idealize.ShloMosaic Idealize.ShloMosaic.TcCoe Idealize.SL.Sem Blocks

/-- Indices with equal coordinates are equal. -/
theorem at2 {a b : ℕ} {x y : (⟨2, ![a, b]⟩ : Shape).Idx} (h0 : (x 0).val = (y 0).val) (h1 : (x 1).val = (y 1).val) : x = y :=
  funext fun i => Fin.ext (match i with
    | ⟨0, _⟩ => h0
    | ⟨1, _⟩ => h1)

/-- The reference's gate at an entry. -/
theorem gate_at (G : S8192x7168.Idx → EReal) (k : S8192x2048.Idx) : val_main_v9 (F := Ideal) G k = Ideal.logistic (G (idx_main_v2 k)) := by
  simp only [val_main_v9_apply, val_main_v8_apply, val_main_v7_apply, val_main_v6_apply, val_main_v5_apply, val_main_v4_apply, val_main_v3_apply,
    val_main_v2_apply, val_main_cst_apply, val_main_cst_0_apply]
  simp only [show (FloatOps.ofBits .f32 0x3F800000#32 : Ideal .f32) = 1 from Ideal.ofBits_one_f32]
  rfl

/-- The gradient of a gate's argument: the branch's product with the gradient, times the gate and what it leaves. -/
def dg (d b g : EReal) : EReal := d * b * Ideal.logistic g * (1 - Ideal.logistic g)

/-- The reference's gates' gradient at an entry, from what the two padded products have there. -/
theorem ref (D B C : S8192x1024.Idx → EReal) (G : S8192x7168.Idx → EReal) (k : S8192x2048.Idx) (i : S8192x1024.Idx) (b : EReal)
    (h : val_main_v21 (F := Ideal) D C k + val_main_v24 (F := Ideal) D B k = D i * b) :
    val_main_v29 (F := Ideal) D B C G k = dg (D i) b (G (idx_main_v2 k)) := by
  rw [val_main_v29_apply, val_main_v26_apply, val_main_v25_apply, val_main_v12_apply, val_main_v11_apply, val_main_v10_apply, val_main_cst_1_apply, gate_at]
  refine (congrArg₂ (· * ·) h (congrArg (Ideal.logistic (G (idx_main_v2 k)) * ·) (congrArg (· - Ideal.logistic (G (idx_main_v2 k))) Ideal.ofBits_one_f32))).trans ?_
  exact (mul_assoc _ _ _).symm

/-- In the first gate's columns it is the first branch's. -/
theorem ref_left (D B C : S8192x1024.Idx → EReal) (G : S8192x7168.Idx → EReal) (k : S8192x2048.Idx) (i : S8192x1024.Idx)
    (h0 : (k 0).val = (i 0).val) (h1 : (k 1).val = (i 1).val) : val_main_v29 (F := Ideal) D B C G k = dg (D i) (B i) (G (idx_main_v2 k)) := by
  have hi : (i 1).val < 1024 := (i 1).isLt
  refine ref D B C G k i _ ?_
  have e1 : val_main_v21 (F := Ideal) D C k = 0 := (pad_apply_of_not_inside _ _ _ _ _ _ _ k ⟨1, by decide⟩ fun hh => by
    have hb : 1024 ≤ (k 1).val := hh.1
    omega).trans Ideal.ofBits_zero_f32
  have e2 : val_main_v24 (F := Ideal) D B k = D i * B i := pad_apply_of_inside _ _ _ _ _ _ _ k i fun b => match b with
    | ⟨0, _⟩ => by show (k 0).val = 0 + (i 0).val * (0 + 1); omega
    | ⟨1, _⟩ => by show (k 1).val = 0 + (i 1).val * (0 + 1); omega
  rw [e1, e2, zero_add]

/-- In the second gate's columns it is the second branch's. -/
theorem ref_right (D B C : S8192x1024.Idx → EReal) (G : S8192x7168.Idx → EReal) (k : S8192x2048.Idx) (i : S8192x1024.Idx)
    (h0 : (k 0).val = (i 0).val) (h1 : (k 1).val = 1024 + (i 1).val) : val_main_v29 (F := Ideal) D B C G k = dg (D i) (C i) (G (idx_main_v2 k)) := by
  refine ref D B C G k i _ ?_
  have e1 : val_main_v21 (F := Ideal) D C k = D i * C i := pad_apply_of_inside _ _ _ _ _ _ _ k i fun b => match b with
    | ⟨0, _⟩ => by show (k 0).val = 0 + (i 0).val * (0 + 1); omega
    | ⟨1, _⟩ => by show (k 1).val = 1024 + (i 1).val * (0 + 1); omega
  have e2 : val_main_v24 (F := Ideal) D B k = 0 := (pad_apply_of_not_inside _ _ _ _ _ _ _ k ⟨1, by decide⟩ fun hh => by
    have hb : ((k 1).val - 0) / (0 + 1) < 1024 := hh.2.2
    omega).trans Ideal.ofBits_zero_f32
  rw [e1, e2, add_zero]

/-- What the kernel computes of a gate's gradient at an entry. -/
theorem pay (D G B : S512x1024.Idx → EReal) (x : S512x1024.Idx) :
    k0_pay6 (F := Ideal) D G B x = dg (D x) (B x) (G x) ∧ k0_pay7 (F := Ideal) D G B x = dg (D x) (B x) (G x) := by
  have h : (Scalar.ofBits .f32 0x3F800000#32 : Ideal .f32) = 1 := Ideal.ofBits_one_f32
  unfold k0_pay6 k0_pay7
  simp only [h]
  exact ⟨rfl, rfl⟩

/-- Which rows a point's blocks are of. -/
theorem index : ∀ t : Fin cfg0.N, win0_5.index t (0 : Fin 2) = t.val ∧ win0_5.index t (1 : Fin 2) = 0 :=
  (by decide +kernel : ∀ t : Fin grid0.N, _)

/-- Where a point's block of the third array is, and what of it is written back. -/
theorem index7 : ∀ t : Fin cfg0.N, win0_7.index t (0 : Fin 2) = t.val ∧ win0_7.index t (1 : Fin 2) = 1
    ∧ win0_7.xsize (grid0.coords t) (0 : Fin 2) = 512 ∧ win0_7.xsize (grid0.coords t) (1 : Fin 2) = 2048 :=
  (by decide +kernel : ∀ t : Fin grid0.N, _)

/-- The point whose blocks hold a row. -/
def point (r : Fin 8192) : Fin cfg0.N := ⟨r.val / 512, by rw [show cfg0.N = 16 from N_0]; omega⟩

variable (m : (ℓ : Loc nD τ sig) → Buf (Elt Ideal) ℓ) (c : Dev nD)

/-- The branches' gradients the kernel ends with: the gradient times each branch's gate. -/
theorem final (D : S8192x1024.Idx → EReal) (G : S8192x7168.Idx → EReal) (hD : D = m ((c : Thread nD τ).loc main_arg0))
    (hG : G = m ((c : Thread nD τ).loc main_arg3)) :
    (dats m 0 c).arrAt 5 cfg0.N = val_main_v27 (F := Ideal) D G ∧ (dats m 0 c).arrAt 6 cfg0.N = val_main_v28 (F := Ideal) D G := by
  subst hD hG
  have cov : ∀ i : S8192x1024.Idx, i ∈ ((cfg0.win 5).blk (point (i 0))).view.set := fun i => by
    have b1 : (i 1 : Nat) < 1024 := (i 1).isLt
    obtain ⟨e0, e1⟩ := index (point (i 0))
    exact mem_tile ((cfg0.win 5).blk (point (i 0))).view.emb _ _ (fun _ => rfl) (fun _ => rfl) i (by decide) (by decide) e0 (e1.trans (by omega))
  constructor
  · refine (dats m 0 c).arrAt_eq_of_emb 5 (val_main_v27 (F := Ideal) _ _) (fun t _ y => ?_) fun i => ⟨point (i 0), flush0_5 _, cov i⟩
    rw [after0_5]
    unfold out0_5
    rw [View.canon_unit_zero hz, View.ld_unit_zero hz, View.ld_unit_zero hz, val_main_v27_apply, val_main_v22_apply, val_main_v13_apply, gate_at]
    refine (mul_comm _ _).trans (congrArg₂ (· * ·) (congrArg (fun k => Ideal.logistic (m ((c : Thread nD τ).loc main_arg3) k)) ?_) rfl)
    exact at2 rfl (by show 2 * 1024 + 1 * (y 1).val = 2048 + (0 * 1024 + 1 * (y 1).val); omega)
  · refine (dats m 0 c).arrAt_eq_of_emb 6 (val_main_v28 (F := Ideal) _ _) (fun t _ y => ?_) fun i => ⟨point (i 0), flush0_6 _, cov i⟩
    rw [after0_6]
    unfold out0_6
    rw [View.canon_unit_zero hz, View.ld_unit_zero hz, View.ld_unit_zero hz, val_main_v28_apply, val_main_v19_apply, val_main_v15_apply, gate_at]
    refine (mul_comm _ _).trans (congrArg₂ (· * ·) (congrArg (fun k => Ideal.logistic (m ((c : Thread nD τ).loc main_arg3) k)) ?_) rfl)
    exact at2 rfl (by show 3 * 1024 + 1 * (y 1).val = 2048 + (1024 + (0 * 1024 + 1 * (y 1).val)); omega)

/-- What a point leaves in the gates' columns is that block of the gates' gradient. -/
theorem gates_block (D B C : S8192x1024.Idx → EReal) (G : S8192x7168.Idx → EReal) (hD : D = m ((c : Thread nD τ).loc main_arg0))
    (hB : B = m ((c : Thread nD τ).loc main_arg1)) (hC : C = m ((c : Thread nD τ).loc main_arg2)) (hG : G = m ((c : Thread nD τ).loc main_arg3))
    (t : Fin cfg0.N) (e : S512x2048.Idx → S8192x2048.Idx) (h0 : ∀ y, (e y 0).val = t.val * 512 + (y 0).val) (h1 : ∀ y, (e y 1).val = (y 1).val)
    (y : S512x2048.Idx) : out0_7 (F := Ideal) (iblk m c 0 t) (iblk m c 1 t) (iblk m c 2 t) (iblk m c 3 t) (iblk m c 4 t) y
      = val_main_v29 (F := Ideal) D B C G (e y) := by
  subst hD hB hC hG
  have row : ∀ (y : S512x2048.Idx) (x : S512x1024.Idx), (y 0).val = 0 + 1 * (x 0).val →
      (e y 0).val = win0_5.index t (0 : Fin 2) * 512 + 1 * (x 0).val := fun y x h => by
    rw [(index t).1, h0, h]; omega
  unfold out0_7
  refine View.canon_apply_of_pieces (fun y => val_main_v29 (F := Ideal) _ _ _ _ (e y)) _ ?_ y (cover0_7 _ _ y)
  intro p hp
  simp only [List.mem_cons, List.mem_nil_iff, or_false] at hp
  rcases hp with rfl | rfl <;> intro (x : S512x1024.Idx)
  · have e1 : (e (r0_2.emb x) 1).val = 1024 + 1 * (x 1).val := h1 _
    show k0_pay7 _ _ _ x = _
    rw [View.ld_unit_zero hz, View.ld_unit_zero hz, View.ld_unit_zero hz]
    refine (pay _ _ _ x).2.trans ((ref_right _ _ _ _ _ (((cfg0.win 5).blk t).view.emb x) (row _ x rfl) ?_).trans
      (congrArg (fun k => dg _ _ (m ((c : Thread nD τ).loc main_arg3) k)) (at2 (row _ x rfl) ?_))).symm
    · show (e (r0_2.emb x) 1).val = 1024 + (0 * 1024 + 1 * (x 1).val); omega
    · show 2048 + (e (r0_2.emb x) 1).val = 3 * 1024 + 1 * (x 1).val; omega
  · have e1 : (e (r0_1.emb x) 1).val = 0 + 1 * (x 1).val := h1 _
    show k0_pay6 _ _ _ x = _
    rw [View.ld_unit_zero hz, View.ld_unit_zero hz, View.ld_unit_zero hz]
    refine (pay _ _ _ x).1.trans ((ref_left _ _ _ _ _ (((cfg0.win 5).blk t).view.emb x) (row _ x rfl) ?_).trans
      (congrArg (fun k => dg _ _ (m ((c : Thread nD τ).loc main_arg3) k)) (at2 (row _ x rfl) ?_))).symm
    · show (e (r0_1.emb x) 1).val = 0 * 1024 + 1 * (x 1).val; omega
    · show 2048 + (e (r0_1.emb x) 1).val = 2 * 1024 + 1 * (x 1).val; omega

/-- The gates' columns of the third array the kernel ends with are the gates' gradient. -/
theorem final_gates (D B C : S8192x1024.Idx → EReal) (G : S8192x7168.Idx → EReal) (hD : D = m ((c : Thread nD τ).loc main_arg0))
    (hB : B = m ((c : Thread nD τ).loc main_arg1)) (hC : C = m ((c : Thread nD τ).loc main_arg2)) (hG : G = m ((c : Thread nD τ).loc main_arg3))
    (j : S8192x2048.Idx) : (dats m 0 c).arrAt 7 cfg0.N (idx_main_v2 j) = val_main_v29 (F := Ideal) D B C G j := by
  refine (dats m 0 c).arrAt_forall_of_flushed 7 (fun i v => ∀ j : S8192x2048.Idx, i = idx_main_v2 j → v = val_main_v29 (F := Ideal) D B C G j)
    (fun t _ => ?_) cfg0.N (point (j 0)) (idx_main_v2 j) (point (j 0)).isLt (flush0_7 _) ?_ j rfl
  · intro x j hj
    let y : S512x2048.Idx := (cfg0.win 7).xinj (cfg0.grid.coords t) x
    have ht : t.val < 16 := by rw [← show cfg0.N = 16 from N_0]; exact t.isLt
    have h0 : win0_7.index t (0 : Fin 2) * 512 + 1 * (y 0).val = (j 0).val := congrArg (fun i : S8192x7168.Idx => (i 0).val) hj
    have h1 : win0_7.index t (1 : Fin 2) * 2048 + 1 * (y 1).val = 2048 + (j 1).val := congrArg (fun i : S8192x7168.Idx => (i 1).val) hj
    rw [(index7 t).1] at h0
    rw [(index7 t).2.1] at h1
    refine (congrFun (after0_7 m c t) y).trans ((gates_block m c D B C G hD hB hC hG t (fun y a => match a with
      | ⟨0, _⟩ => ⟨t.val * 512 + (y 0).val, by
        have h : (y 0).val < 512 := (y 0).isLt
        show _ < 8192; omega⟩
      | ⟨1, _⟩ => ⟨(y 1).val, (y 1).isLt⟩) (fun _ => rfl) (fun _ => rfl) y).trans (congrArg _ (at2 ?_ ?_)))
    · show t.val * 512 + (y 0).val = (j 0).val; omega
    · show (y 1).val = (j 1).val; omega
  · have b0 : (j 0 : Nat) < 8192 := (j 0).isLt
    have b1 : (j 1 : Nat) < 2048 := (j 1).isLt
    have p : (point (j 0)).val = (j 0).val / 512 := rfl
    obtain ⟨e0, e1, e2, e3⟩ := index7 (point (j 0))
    refine (win0_7.emb_mem_blk_iff (point (j 0)) (idx_main_v2 j)).2 fun a => ?_
    match a with
    | ⟨0, _⟩ =>
      show win0_7.index (point (j 0)) (0 : Fin 2) * 512 ≤ (j 0).val
        ∧ (j 0).val < win0_7.index (point (j 0)) (0 : Fin 2) * 512 + win0_7.xsize (grid0.coords (point (j 0))) (0 : Fin 2)
      rw [e0, e2]; omega
    | ⟨1, _⟩ =>
      show win0_7.index (point (j 0)) (1 : Fin 2) * 2048 ≤ 2048 + (j 1).val
        ∧ 2048 + (j 1).val < win0_7.index (point (j 0)) (1 : Fin 2) * 2048 + win0_7.xsize (grid0.coords (point (j 0))) (1 : Fin 2)
      rw [e1, e3]; omega

/-- The kernel's third result is the gates' columns of its third array. -/
theorem tail : Pipeline.afterTail₀ cfgs (dats m) 0 (V0 m) [hostOps1] c main_v1
    = extractStridedSlice S8192x2048 ![0, 2048] ((dats m 0 c).arrAt 7 cfg0.N) slices_S8192x7168_S8192x2048_0_2048 := by
  show StableHlo.after hostOps1 _ (Proc.devRef .tc main_v1) = _
  after_results
  exact congrArg (extractStridedSlice S8192x2048 ![0, 2048] · slices_S8192x7168_S8192x2048_0_2048)
    ((dats m 0 c).withArrays_arrAt sharedIn0 (V0 m c) (A_eq m c) 7)

/-- The reference runs and leaves its arguments as they were. -/
theorem frameRef : Cert.quiescent_ReferenceDgateIdeal (hReferenceDgateIdeal := Cert.ReferenceDgateIdeal.Gen.facts) := fun m ρ _ =>
  (θ_run Cert.ReferenceDgateIdeal.defs _ _).mono (fun r h => ⟨fun c => (h c).2.2.2, sem_eq_zero_of_no_sems (by decide) r.2⟩) (Cert.ReferenceDgateIdeal.Value.run (F := Ideal) m ρ)

/-- The kernel's three arrays are the reference's. -/
theorem equal : Cert.algebraic_KernelDgateIdeal_ReferenceDgateIdeal (hKernelDgateIdeal := Cert.KernelDgateIdeal.Gen.facts)
    (hReferenceDgateIdeal := Cert.ReferenceDgateIdeal.Gen.facts) := by
  intro m ρ m' ρ' _ hagree
  refine ⟨fun c => (dats m 0 c).arrAt 5 cfg0.N, fun c => (dats m 0 c).arrAt 6 cfg0.N,
    fun c => Pipeline.afterTail₀ cfgs (dats m) 0 (V0 m) [hostOps1] c main_v1, ?_, ?_⟩
  · exact (θ_run defs _ _).mono (fun r h c => ⟨(h.1 c).1 5, (h.1 c).1 6, (h.1 c).2 main_v1 (by decide), h.2 c⟩)
      (θ_run_and (run_main m ρ) (unchanged m ρ))
  · refine (θ_run Cert.ReferenceDgateIdeal.defs _ _).mono (fun r h c => ?_) (Cert.ReferenceDgateIdeal.Value.run (F := Ideal) m' ρ')
    obtain ⟨r0, r1, r2, rest⟩ := h c
    obtain ⟨a0, a1, a2, a3⟩ := hagree c
    obtain ⟨f0, f1⟩ := final m c _ _ a0 a3
    refine ⟨r0.trans ((val_main_v27_eq (F := Ideal) _ _).trans f0.symm), r1.trans ((val_main_v28_eq (F := Ideal) _ _).trans f1.symm),
      r2.trans ((val_main_v29_eq (F := Ideal) _ _ _ _).trans ((tail m c).trans (funext fun j => ?_)).symm), rest⟩
    exact (extractStridedSlice_apply ![0, 2048] _ slices_S8192x7168_S8192x2048_0_2048 j (idx_main_v2 j) (fun a => match a with
      | ⟨0, _⟩ => by show (j 0).val = 0 + (j 0).val; omega
      | ⟨1, _⟩ => rfl)).trans (final_gates m c _ _ _ _ a0 a1 a2 a3 j)

end Cert.KernelDgateIdeal.Value

end
-- ==== Proof.AdamModVal.lean ====
module

public import proofs.«01_k».proof.Proof.Gen.KernelAdamModIdeal.Value
public import proofs.«01_k».proof.Proof.Gen.ReferenceAdamModIdeal.Run
public import proofs.«01_k».proof.Defs

/-! The optimiser's step on the modulation's weights: the kernel's three arrays are the reference's. -/

@[expose] public section

set_option maxRecDepth 16384

noncomputable section

namespace Cert.KernelAdamModIdeal.Value

open Cert.KernelAdamModIdeal Idealize.ShloMosaic Idealize.ShloMosaic.TcCoe Idealize.SL.Sem

/-- The reference runs and leaves its arguments as they were. -/
theorem frameRef : Cert.quiescent_ReferenceAdamModIdeal (hReferenceAdamModIdeal := Cert.ReferenceAdamModIdeal.Gen.facts) := fun m ρ _ =>
  (θ_run Cert.ReferenceAdamModIdeal.defs _ _).mono (fun r h => ⟨fun c => (h c).2.2.2, sem_eq_zero_of_no_sems (by decide) r.2⟩) (Cert.ReferenceAdamModIdeal.Value.run (F := Ideal) m ρ)

/-- The kernel's change of the weights and its two new moments are the reference's: entry by entry both do the same operations. -/
theorem equal : Cert.algebraic_KernelAdamModIdeal_ReferenceAdamModIdeal (hKernelAdamModIdeal := Cert.KernelAdamModIdeal.Gen.facts)
    (hReferenceAdamModIdeal := Cert.ReferenceAdamModIdeal.Gen.facts) := by
  intro m ρ m' ρ' _ hagree
  refine ⟨_, _, _, run (F := Ideal) m ρ, ?_⟩
  refine (θ_run Cert.ReferenceAdamModIdeal.defs _ _).mono (fun r h c => ?_) (Cert.ReferenceAdamModIdeal.Value.run (F := Ideal) m' ρ')
  obtain ⟨r0, r1, r2, rest⟩ := h c
  obtain ⟨a0, a1, a2, a3⟩ := hagree c
  refine ⟨r0.trans ?_, r1.trans ?_, r2.trans ?_, rest⟩ <;> simp only [a0, a1, a2, a3] <;> rfl

end Cert.KernelAdamModIdeal.Value

end
-- ==== Proof.AdamRestVal.lean ====
module

public import proofs.«01_k».proof.Proof.Gen.KernelAdamRestIdeal.Value
public import proofs.«01_k».proof.Proof.Gen.ReferenceAdamRestIdeal.Run
public import proofs.«01_k».proof.Defs

/-! The optimiser's step on the five packed weights: the kernel's three arrays are the reference's. -/

@[expose] public section

set_option maxRecDepth 16384

noncomputable section

namespace Cert.KernelAdamRestIdeal.Value

open Cert.KernelAdamRestIdeal Idealize.ShloMosaic Idealize.ShloMosaic.TcCoe Idealize.SL.Sem

/-- The reference runs and leaves its arguments as they were. -/
theorem frameRef : Cert.quiescent_ReferenceAdamRestIdeal (hReferenceAdamRestIdeal := Cert.ReferenceAdamRestIdeal.Gen.facts) := fun m ρ _ =>
  (θ_run Cert.ReferenceAdamRestIdeal.defs _ _).mono (fun r h => ⟨fun c => (h c).2.2.2, sem_eq_zero_of_no_sems (by decide) r.2⟩) (Cert.ReferenceAdamRestIdeal.Value.run (F := Ideal) m ρ)

/-- The kernel's change of the weights and its two new moments are the reference's: entry by entry both do the same operations. -/
theorem equal : Cert.algebraic_KernelAdamRestIdeal_ReferenceAdamRestIdeal (hKernelAdamRestIdeal := Cert.KernelAdamRestIdeal.Gen.facts)
    (hReferenceAdamRestIdeal := Cert.ReferenceAdamRestIdeal.Gen.facts) := by
  intro m ρ m' ρ' _ hagree
  refine ⟨_, _, _, run (F := Ideal) m ρ, ?_⟩
  refine (θ_run Cert.ReferenceAdamRestIdeal.defs _ _).mono (fun r h c => ?_) (Cert.ReferenceAdamRestIdeal.Value.run (F := Ideal) m' ρ')
  obtain ⟨r0, r1, r2, rest⟩ := h c
  obtain ⟨a0, a1, a2, a3⟩ := hagree c
  refine ⟨r0.trans ?_, r1.trans ?_, r2.trans ?_, rest⟩ <;> simp only [a0, a1, a2, a3] <;> rfl

end Cert.KernelAdamRestIdeal.Value

end
-- ==== Proof.AdamInVal.lean ====
module

public import proofs.«01_k».proof.Proof.Gen.KernelAdamInIdeal.Frame
public import proofs.«01_k».proof.Proof.Gen.ReferenceAdamInIdeal.Read
public import proofs.«01_k».proof.Proof.Gen.ReferenceAdamInIdeal.Run
public import proofs.«01_k».proof.Defs
import Idealize.ShloMosaic.Lib.Pipeline.ValueKit
public import Idealize.ShloMosaic.Lib.ValueIdxCore

/-! The optimiser's step on the input weights, whose gradient comes in two halves: this core's and the other core's. -/

@[expose] public section

set_option maxRecDepth 16384

noncomputable section

namespace Cert.KernelAdamInIdeal.Value

open Cert.KernelAdamInIdeal Cert.KernelAdamInIdeal.Gen Cert.ReferenceAdamInIdeal.Read Idealize.ShloMosaic Idealize.ShloMosaic.TcCoe Idealize.SL.Sem

/-- Blocks 0 to 3 take the first core's rows, blocks 4 to 7 the second's: the kernel picks by the core's number. -/
theorem pick (w : BitVec 32) (X Y : Vec Ideal S128x2832 .f32) (t : Fin grid0.N) :
    k0_pay2 (grid0.coords t) w X Y = Scalar.select (Scalar.cmpi .eq (if t.val < 4 then 0#32 else 1#32) w) X Y := by
  rcases fin_N0 t with rfl | rfl | rfl | rfl | rfl | rfl | rfl | rfl <;> rfl

/-- The kernel's gradient at an entry of a block is the reference's there. -/
theorem grad (T : S1.Idx → BitVec 32) (w : BitVec 32) (hw : ∀ z, val_main_v0 (F := Ideal) T z = w) (A B : S512x2832.Idx → EReal)
    (t : Fin grid0.N) (j : S128x2832.Idx) (i : S512x2832.Idx) (k : S1024x2832.Idx) (X Y : Vec Ideal S128x2832 .f32)
    (hX : X j = A i) (hY : Y j = B i) (hi : (i 0).val = 128 * (t.val % 4) + (j 0).val) (hk : (k 0).val = 128 * t.val + (j 0).val)
    (hik : (i 1).val = (k 1).val) : k0_pay2 (F := Ideal) (grid0.coords t) w X Y j = val_main_v6 (F := Ideal) T A B k := by
  have hc : ∀ a b : BitVec 32, Scalar.cmpi .eq a b = IntOp.cmpi .eq b a := fun a b => congrArg BitVec.ofBool BEq.comm
  have ht : t.val < 8 := t.isLt
  have hj : (j 0).val < 128 := (j 0).isLt
  rw [pick, hc]
  unfold val_main_v6
  by_cases h : t.val < 4
  · rw [if_pos h]
    refine Eq.trans ?_ (concatenate_pair_apply_left (s₁ := S512x2832) (s₂ := S512x2832) (t := S1024x2832) 0 _ _ _ k rfl i
      (fun b => by fin_cases b; · show (i 0).val = (k 0).val; omega
                   · exact hik)).symm
    show Scalar.select _ X Y j = Scalar.select (val_main_v1 (F := Ideal) T _) (A i) (B i)
    rw [val_main_v1_apply, hw, val_main_c_apply, ← hX, ← hY]
    unfold Scalar.select
    split <;> rfl
  · rw [if_neg h]
    refine Eq.trans ?_ (concatenate_pair_apply_right (s₁ := S512x2832) (s₂ := S512x2832) (t := S1024x2832) 0 _ _ _ k rfl rfl i
      (fun b hb => by fin_cases b; · exact absurd rfl hb
                      · exact hik) (by show (i 0).val + 512 = (k 0).val; omega)).symm
    show Scalar.select _ X Y j = Scalar.select (val_main_v4 (F := Ideal) T _) (A i) (B i)
    rw [val_main_v4_apply, show ∀ z, val_main_v3 (F := Ideal) T z = w from hw, val_main_c_0_apply, ← hX, ← hY]
    unfold Scalar.select
    split <;> rfl

/-- So a block of each array the kernel writes is that block of the reference's: entry by entry both do the same operations. -/
theorem step (T : S1.Idx → BitVec 32) (w : BitVec 32) (A B : S512x2832.Idx → EReal) (W M N : S1024x2832.Idx → EReal)
    (e : S128x2832.Idx → S1024x2832.Idx) (i : grid0.Coords) (X Y : Vec Ideal S128x2832 .f32)
    (g : k0_pay2 (F := Ideal) i w X Y = fun j => val_main_v6 (F := Ideal) T A B (e j)) (j : S128x2832.Idx) :
    k0_pay1 (F := Ideal) (k0_pay4 i w X Y fun j => N (e j)) (k0_pay5 i w X Y fun j => M (e j)) (FloatOps.ofBits .f32 1008933580#32)
        (fun j => W (e j)) j = val_main_v30 (F := Ideal) T A B W M N (e j)
    ∧ k0_pay3 (F := Ideal) i w X Y (fun j => M (e j)) j = val_main_v11 (F := Ideal) T A B M (e j)
    ∧ k0_pay4 (F := Ideal) i w X Y (fun j => N (e j)) j = val_main_v17 (F := Ideal) T A B N (e j) := by
  unfold k0_pay5 k0_pay4 k0_pay3
  simp only [g]
  exact ⟨rfl, rfl, rfl⟩

variable (m : (ℓ : Loc nD τ sig) → Buf (Elt Ideal) ℓ) (hO : Ok m) (c : Dev nD)

/-- Which rows a point reads of the halves, and writes. -/
theorem index : ∀ t : Fin grid0.N, cc0_transform_0 (grid0.coords t) 0 = t.val % 4 ∧ cc0_transform_5 (grid0.coords t) 0 = t.val := by
  decide +kernel

/-- The gradient's block at a point. -/
theorem grad_block (t : Fin (cfgM m hO).N) (w : BitVec 32) (hw : ∀ z, val_main_v0 (F := Ideal) (m ((c : Thread nD τ).loc main_arg0)) z = w) :
    k0_pay2 (F := Ideal) (grid0.coords t) w (iblk m hO c 0 t) (iblk m hO c 1 t)
      = fun j => val_main_v6 (F := Ideal) (m ((c : Thread nD τ).loc main_arg0)) (m ((c : Thread nD τ).loc main_arg1)) (m ((c : Thread nD τ).loc main_arg2))
        ((((cfgM m hO).win 5).blk t).view.emb j) :=
  funext fun j => grad _ w hw _ _ t j ((((cfgM m hO).win 0).blk t).view.emb j) _ _ _ rfl rfl
    (by show cc0_transform_0 (grid0.coords t) 0 * 128 + 1 * (j 0).val = _; rw [(index t).1]; omega)
    (by show cc0_transform_5 (grid0.coords t) 0 * 128 + 1 * (j 0).val = _; rw [(index t).2]; omega) rfl

section Opened

variable (i : grid0.Coords) (a2 a3 a4 a5 a6 a7 a8 a9 a10 : Memref sig .tc .vmem S128x2832 .f32) (h2 : a2.IsWhole) (h3 : a3.IsWhole)
  (h4 : a4.IsWhole) (h5 : a5.IsWhole) (h6 : a6.IsWhole) (h7 : a7.IsWhole) (h8 : a8.IsWhole) (h9 : a9.IsWhole) (h10 : a10.IsWhole)
  (X Y W M N : Vec Ideal S128x2832 .f32) (T : S1.Idx → BitVec 32)

/-- What a point leaves in the four output blocks. -/
theorem opened : ∃ w : BitVec 32, (∀ z, val_main_v0 (F := Ideal) T z = w)
    ∧ out0_A_5 c i a2 h2 a3 h3 a4 h4 a5 h5 a6 h6 a7 h7 a8 h8 a9 h9 a10 h10 X Y W M N T = k0_pay2 i w X Y
    ∧ out0_A_6 c i a2 h2 a3 h3 a4 h4 a5 h5 a6 h6 a7 h7 a8 h8 a9 h9 a10 h10 X Y W M N T
      = k0_pay1 (k0_pay4 i w X Y N) (k0_pay5 i w X Y M) (FloatOps.ofBits .f32 1008933580#32) W
    ∧ out0_A_7 c i a2 h2 a3 h3 a4 h4 a5 h5 a6 h6 a7 h7 a8 h8 a9 h9 a10 h10 X Y W M N T = k0_pay3 i w X Y M
    ∧ out0_A_8 c i a2 h2 a3 h3 a4 h4 a5 h5 a6 h6 a7 h7 a8 h8 a9 h9 a10 h10 X Y W M N T = k0_pay4 i w X Y N := by
  refine ⟨T fun a => ⟨0, by fin_cases a; exact Nat.one_pos⟩, fun z => congrArg T (funext fun a => ?_), ?_, ?_, ?_, ?_⟩
  · fin_cases a
    exact Subsingleton.elim (α := Fin 1) _ _
  all_goals
    frame_out
    rfl

end Opened

/-- Every entry of the weights' arrays lies in some point's block. -/
theorem cover (k : S1024x2832.Idx) : ∃ (t : Fin (cfgM m hO).N) (j : S128x2832.Idx), (((cfgM m hO).win 5).blk t).view.emb j = k := by
  have h0 : (k 0).val < 1024 := (k 0).isLt
  refine ⟨⟨(k 0).val / 128, by show _ < 8; omega⟩, fun a => ⟨if a = 0 then (k 0).val % 128 else (k 1).val, ?_⟩, funext fun a => Fin.ext ?_⟩
  · fin_cases a
    · exact Nat.mod_lt _ (by decide)
    · exact (k 1).isLt
  · fin_cases a
    · show cc0_transform_5 (grid0.coords ⟨(k 0).val / 128, _⟩) 0 * 128 + 1 * ((k 0).val % 128) = (k 0).val
      rw [(index _).2]; show (k 0).val / 128 * 128 + _ = _; omega
    · show 0 * 2832 + 1 * (k 1).val = (k 1).val
      omega

/-- What a point leaves in the four output blocks, as blocks of the reference's arrays. -/
theorem blocks (t : Fin (cfgM m hO).N) (T : S1.Idx → BitVec 32) (hT : T = tbl m 0) (A B : S512x2832.Idx → EReal) (W M N : S1024x2832.Idx → EReal)
    (hA : A = m ((c : Thread nD τ).loc main_arg1)) (hB : B = m ((c : Thread nD τ).loc main_arg2)) (hW : W = m ((c : Thread nD τ).loc main_arg3))
    (hM : M = m ((c : Thread nD τ).loc main_arg4)) (hN : N = m ((c : Thread nD τ).loc main_arg5)) (e : S128x2832.Idx → S1024x2832.Idx)
    (he : e = (((cfgM m hO).win 5).blk t).view.emb) :
    outsAt0 m hO c t = (fun j => val_main_v6 (F := Ideal) T A B (e j), fun j => val_main_v30 (F := Ideal) T A B W M N (e j),
      fun j => val_main_v11 (F := Ideal) T A B M (e j), fun j => val_main_v17 (F := Ideal) T A B N (e j)) := by
  subst hT hA hB hW hM hN he
  obtain rfl : c = 0 := Subsingleton.elim _ _
  obtain ⟨w, hw, o5, o6, o7, o8⟩ := opened 0 (grid0.coords t) _ _ _ _ _ _ _ _ _ (hs0_0 m hO t) (hs0_1 m hO t) (hs0_2 m hO t) (hs0_3 m hO t)
    (hs0_4 m hO t) (hs0_5 m hO t) (hs0_6 m hO t) (hs0_7 m hO t) (hs0_8 m hO t) (iblk m hO 0 0 t) (iblk m hO 0 1 t) (iblk m hO 0 2 t)
    (iblk m hO 0 3 t) (iblk m hO 0 4 t) (tbl m 0)
  have g := grad_block m hO 0 t w hw
  have st := step (tbl m 0) w (m (((0 : Dev nD) : Thread nD τ).loc main_arg1)) (m (((0 : Dev nD) : Thread nD τ).loc main_arg2))
    (m (((0 : Dev nD) : Thread nD τ).loc main_arg3)) (m (((0 : Dev nD) : Thread nD τ).loc main_arg4)) (m (((0 : Dev nD) : Thread nD τ).loc main_arg5))
    (((cfgM m hO).win 5).blk t).view.emb (grid0.coords t) (iblk m hO 0 0 t) (iblk m hO 0 1 t) g
  exact congrArg₂ Prod.mk (o5.trans g) (congrArg₂ Prod.mk (o6.trans (funext fun j => (st j).1))
    (congrArg₂ Prod.mk (o7.trans (funext fun j => (st j).2.1)) (o8.trans (funext fun j => (st j).2.2))))

/-- What the kernel's four arrays end with: the reference's arrays. -/
theorem final (T : S1.Idx → BitVec 32) (hT : T = m ((c : Thread nD τ).loc main_arg0)) (A B : S512x2832.Idx → EReal) (W M N : S1024x2832.Idx → EReal)
    (hA : A = m ((c : Thread nD τ).loc main_arg1)) (hB : B = m ((c : Thread nD τ).loc main_arg2)) (hW : W = m ((c : Thread nD τ).loc main_arg3))
    (hM : M = m ((c : Thread nD τ).loc main_arg4)) (hN : N = m ((c : Thread nD τ).loc main_arg5)) :
    (dats m hO 0 c).arrAt 5 (cfgM m hO).N = val_main_v6 (F := Ideal) T A B
    ∧ (dats m hO 0 c).arrAt 6 (cfgM m hO).N = val_main_v30 (F := Ideal) T A B W M N
    ∧ (dats m hO 0 c).arrAt 7 (cfgM m hO).N = val_main_v11 (F := Ideal) T A B M
    ∧ (dats m hO 0 c).arrAt 8 (cfgM m hO).N = val_main_v17 (F := Ideal) T A B N := by
  obtain rfl : c = 0 := Subsingleton.elim _ _
  have b := fun t => blocks m hO 0 t T hT A B W M N hA hB hW hM hN _ rfl
  have h : ∀ k : S1024x2832.Idx, _ := cover m hO
  refine ⟨(dats m hO 0 0).arrAt_eq_of_emb 5 (val_main_v6 (F := Ideal) T A B) (fun t _ y => ?_) fun k => ?_,
    (dats m hO 0 0).arrAt_eq_of_emb 6 (val_main_v30 (F := Ideal) T A B W M N) (fun t _ y => ?_) fun k => ?_,
    (dats m hO 0 0).arrAt_eq_of_emb 7 (val_main_v11 (F := Ideal) T A B M) (fun t _ y => ?_) fun k => ?_,
    (dats m hO 0 0).arrAt_eq_of_emb 8 (val_main_v17 (F := Ideal) T A B N) (fun t _ y => ?_) fun k => ?_⟩
  · rw [after0_5, b]; rfl
  · obtain ⟨t, j, e⟩ := h k; exact ⟨t, flush0_5 _ t, e ▸ View.emb_mem_set (((cfgM m hO).win 5).blk t).view j⟩
  · rw [after0_6, b]; rfl
  · obtain ⟨t, j, e⟩ := h k; exact ⟨t, flush0_6 _ t, e ▸ View.emb_mem_set (((cfgM m hO).win 6).blk t).view j⟩
  · rw [after0_7, b]; rfl
  · obtain ⟨t, j, e⟩ := h k; exact ⟨t, flush0_7 _ t, e ▸ View.emb_mem_set (((cfgM m hO).win 7).blk t).view j⟩
  · rw [after0_8, b]; rfl
  · obtain ⟨t, j, e⟩ := h k; exact ⟨t, flush0_8 _ t, e ▸ View.emb_mem_set (((cfgM m hO).win 8).blk t).view j⟩

/-- The reference runs and leaves its arguments as they were. -/
theorem frameRef : Cert.quiescent_ReferenceAdamInIdeal (hReferenceAdamInIdeal := Cert.ReferenceAdamInIdeal.Gen.facts) := fun m ρ _ =>
  (θ_run Cert.ReferenceAdamInIdeal.defs _ _).mono (fun r h => ⟨fun c => (h c).2.2.2.2, sem_eq_zero_of_no_sems (by decide) r.2⟩) (Cert.ReferenceAdamInIdeal.Value.run (F := Ideal) m ρ)

/-- The kernel's gradient, change of the weights and two new moments are the reference's. -/
theorem equal : Cert.algebraic_KernelAdamInIdeal_ReferenceAdamInIdeal (hKernelAdamInIdeal := Cert.KernelAdamInIdeal.Gen.facts)
    (hReferenceAdamInIdeal := Cert.ReferenceAdamInIdeal.Gen.facts) := by
  intro m ρ m' ρ' _ hagree
  have hO : Ok m := trivial
  refine ⟨fun c => (dats m hO 0 c).arrAt 5 (cfgM m hO).N, fun c => (dats m hO 0 c).arrAt 6 (cfgM m hO).N,
    fun c => (dats m hO 0 c).arrAt 7 (cfgM m hO).N, fun c => (dats m hO 0 c).arrAt 8 (cfgM m hO).N, ?_, ?_⟩
  · refine (θ_run defs _ _).mono (fun r h c => ⟨(h.1 c).1 5, (h.1 c).1 6, (h.1 c).1 7, (h.1 c).1 8, h.2 c⟩)
      (θ_run_and (run_main m ρ hO) (unchanged m ρ hO))
  · refine (θ_run Cert.ReferenceAdamInIdeal.defs _ _).mono (fun r h c => ?_) (Cert.ReferenceAdamInIdeal.Value.run (F := Ideal) m' ρ')
    obtain ⟨r0, r1, r2, r3, rest⟩ := h c
    obtain ⟨a0, a1, a2, a3, a4, a5⟩ := hagree c
    obtain ⟨f0, f1, f2, f3⟩ := final m hO c _ a0 _ _ _ _ _ a1 a2 a3 a4 a5
    exact ⟨r0.trans ((val_main_v6_eq (F := Ideal) _ _ _).trans f0.symm), r1.trans ((val_main_v30_eq (F := Ideal) _ _ _ _ _ _).trans f1.symm),
      r2.trans ((val_main_v11_eq (F := Ideal) _ _ _ _).trans f2.symm), r3.trans ((val_main_v17_eq (F := Ideal) _ _ _ _).trans f3.symm), rest⟩

end Cert.KernelAdamInIdeal.Value

end
-- ==== Proof.Base.lean ====
module

public import Idealize.ShloMosaic.PureOps.Ideal.Laws
public import Idealize.ShloMosaic.Lib.Pointwise
public import Idealize.ShloMosaic.Lib.WordCmp

/-! Real numbers inside the extended reals: an array of finite entries is written as the lift of a real function of
its indices, and each operation of the two programs maps lifts to lifts. -/

@[expose] public section

set_option maxRecDepth 16384

noncomputable section

namespace Ssd

open Idealize.ShloMosaic

/-- The real functions of two indices. -/
abbrev Fun2 := ℕ → ℕ → ℝ
/-- The real functions of three indices. -/
abbrev Fun3 := ℕ → ℕ → ℕ → ℝ
/-- The real functions of four indices. -/
abbrev Fun4 := ℕ → ℕ → ℕ → ℕ → ℝ
/-- The real functions of five indices. -/
abbrev Fun5 := ℕ → ℕ → ℕ → ℕ → ℕ → ℝ

/-- Equal real numbers are equal extended reals. -/
theorem coe_of {a b : ℝ} (h : a = b) : (a : EReal) = (b : EReal) := congrArg _ h

/-- The array of one axis whose entries are the values of a real function. -/
def lift1 {a : ℕ} (f : ℕ → ℝ) : (⟨1, ![a]⟩ : Shape).Idx → EReal := fun i => ((f (i 0).val : ℝ) : EReal)
/-- The array of two axes whose entries are the values of a real function. -/
def lift2 {a b : ℕ} (f : ℕ → ℕ → ℝ) : (⟨2, ![a, b]⟩ : Shape).Idx → EReal := fun i => ((f (i 0).val (i 1).val : ℝ) : EReal)
/-- The array of three axes whose entries are the values of a real function. -/
def lift3 {a b c : ℕ} (f : ℕ → ℕ → ℕ → ℝ) : (⟨3, ![a, b, c]⟩ : Shape).Idx → EReal :=
  fun i => ((f (i 0).val (i 1).val (i 2).val : ℝ) : EReal)
/-- The array of four axes whose entries are the values of a real function. -/
def lift4 {a b c d : ℕ} (f : ℕ → ℕ → ℕ → ℕ → ℝ) : (⟨4, ![a, b, c, d]⟩ : Shape).Idx → EReal :=
  fun i => ((f (i 0).val (i 1).val (i 2).val (i 3).val : ℝ) : EReal)
/-- The array of five axes whose entries are the values of a real function. -/
def lift5 {a b c d e : ℕ} (f : ℕ → ℕ → ℕ → ℕ → ℕ → ℝ) : (⟨5, ![a, b, c, d, e]⟩ : Shape).Idx → EReal :=
  fun i => ((f (i 0).val (i 1).val (i 2).val (i 3).val (i 4).val : ℝ) : EReal)
/-- The array of one-bit words that a condition on the two indices gives. -/
def liftB {a b : ℕ} (f : ℕ → ℕ → Bool) : (⟨2, ![a, b]⟩ : Shape).Idx → BitVec 1 := fun i => BitVec.ofBool (f (i 0).val (i 1).val)
/-- The array of 32-bit words that a number of the two indices gives. -/
def liftI {a b : ℕ} (f : ℕ → ℕ → ℕ) : (⟨2, ![a, b]⟩ : Shape).Idx → BitVec 32 := fun i => BitVec.ofNat 32 (f (i 0).val (i 1).val)

theorem lift1_ix {a : ℕ} (f : ℕ → ℝ) (i : Fin a) : lift1 f (ix1 i) = ((f i.val : ℝ) : EReal) := rfl
theorem lift2_ix {a b : ℕ} (f : ℕ → ℕ → ℝ) (i : Fin a) (j : Fin b) : lift2 f (ix2 i j) = ((f i.val j.val : ℝ) : EReal) := rfl
theorem lift3_ix {a b c : ℕ} (f : ℕ → ℕ → ℕ → ℝ) (i : Fin a) (j : Fin b) (k : Fin c) :
    lift3 f (ix3 i j k) = ((f i.val j.val k.val : ℝ) : EReal) := rfl
theorem lift4_ix {a b c d : ℕ} (f : ℕ → ℕ → ℕ → ℕ → ℝ) (i : Fin a) (j : Fin b) (k : Fin c) (l : Fin d) :
    lift4 f (ix4 i j k l) = ((f i.val j.val k.val l.val : ℝ) : EReal) := rfl
theorem lift5_ix {a b c d e : ℕ} (f : ℕ → ℕ → ℕ → ℕ → ℕ → ℝ) (i : Fin a) (j : Fin b) (k : Fin c) (l : Fin d) (n : Fin e) :
    lift5 f (ix5 i j k l n) = ((f i.val j.val k.val l.val n.val : ℝ) : EReal) := rfl
theorem liftB_ix {a b : ℕ} (f : ℕ → ℕ → Bool) (i : Fin a) (j : Fin b) : liftB f (ix2 i j) = BitVec.ofBool (f i.val j.val) := rfl
theorem liftI_ix {a b : ℕ} (f : ℕ → ℕ → ℕ) (i : Fin a) (j : Fin b) : liftI f (ix2 i j) = BitVec.ofNat 32 (f i.val j.val) := rfl

/-- The exponential of a real number, taken in the extended reals. -/
theorem exp_coe (x : ℝ) : Ideal.exp (x : EReal) = ((Real.exp x : ℝ) : EReal) := rfl

theorem exp_bot : Ideal.exp (⊥ : EReal) = 0 := rfl

/-- A finite sum of real numbers, taken in the extended reals. -/
theorem sum_coe {ι : Type} (s : Finset ι) (f : ι → ℝ) : (∑ i ∈ s, ((f i : ℝ) : EReal)) = ((∑ i ∈ s, f i : ℝ) : EReal) := by
  classical
  induction s using Finset.induction_on with
  | empty => simp
  | insert a s h ih => rw [Finset.sum_insert h, Finset.sum_insert h, ih, EReal.coe_add]

theorem select_ofBool {α : Type} (b : Bool) (x y : α) : Scalar.select (BitVec.ofBool b) x y = if b = true then x else y := by
  cases b <;> rfl

theorem ite_coe (p : Prop) [Decidable p] (x y : ℝ) : (if p then (x : EReal) else (y : EReal)) = ((if p then x else y : ℝ) : EReal) := by
  split <;> rfl

theorem andi_ofBool (a b : Bool) : IntOp.andi (BitVec.ofBool a) (BitVec.ofBool b) = BitVec.ofBool (a && b) := by
  cases a <;> cases b <;> rfl

/-- A small number shifted right by six is its quotient by 64. -/
theorem shrsi_six (u : ArithUnit) (n : ℕ) (h : n < 2 ^ 31) : IntOp.shrsi u (BitVec.ofNat 32 n) 6#32 = BitVec.ofNat 32 (n / 64) := by
  have h6 : (6#32).toNat = 6 := rfl
  unfold IntOp.shrsi
  rw [if_pos (by rw [h6]; omega)]
  apply BitVec.eq_of_toNat_eq
  show ((BitVec.ofNat 32 n).sshiftRight 6).toNat = _
  rw [BitVec.sshiftRight_eq_of_msb_false, BitVec.toNat_ushiftRight, BitVec.toNat_ofNat, BitVec.toNat_ofNat,
    Nat.mod_eq_of_lt (by omega), Nat.mod_eq_of_lt (by omega), Nat.shiftRight_eq_div_pow]
  rw [BitVec.msb_eq_decide, BitVec.toNat_ofNat]
  simp only [decide_eq_false_iff_not, not_le]
  rw [Nat.mod_eq_of_lt (by omega)]
  omega

theorem addi_ofNat (m n : ℕ) : IntOp.addi (BitVec.ofNat 32 m) (BitVec.ofNat 32 n) = BitVec.ofNat 32 (m + n) := by
  unfold IntOp.addi
  exact (BitVec.ofNat_add m n).symm

/-- A sum against the indicator of one index is the entry at that index. -/
theorem sum_mul_one_hot {N : ℕ} (f : ℕ → ℝ) (m : ℕ) (h : m < N) : (∑ k : Fin N, f k.val * (if k.val = m then 1 else 0)) = f m := by
  rw [Finset.sum_eq_single (⟨m, h⟩ : Fin N)]
  · simp
  · intro b _ hb
    rw [if_neg (fun he => hb (Fin.ext he)), mul_zero]
  · intro hn
    exact absurd (Finset.mem_univ _) hn

/-- A sum over `m * 64` columns, read head by head. -/
theorem sum_heads (m : ℕ) (f : ℕ → ℝ) : (∑ e : Fin (m * 64), f e.val) = ∑ r : Fin m, ∑ p : Fin 64, f (64 * r.val + p.val) := by
  rw [← finProdFinEquiv.sum_comp, Fintype.sum_prod_type]
  refine Finset.sum_congr rfl fun r _ => Finset.sum_congr rfl fun p _ => ?_
  rw [finProdFinEquiv_apply_val, add_comm]

/-! ### The cumulative sum -/

theorem foldl_add {N : ℕ} (f : Fin N → EReal) (v : EReal) : ∀ l : List (Fin N), l.foldl (fun r n => r + f n) v = v + (l.map f).sum
  | [] => by simp
  | a :: l => by
    rw [List.foldl_cons, foldl_add f _ l, List.map_cons, List.sum_cons, add_assoc]

theorem reduceWindow_sum {s t u : Shape} (window strides lo hi : Fin s.rank → ℕ) (x : s.Idx → EReal) (v : EReal)
    (h : s.ReduceWindows window strides lo hi t) (hu : 0 < u.numel) (j : t.Idx) :
    Host.reduceWindow (· + ·) window strides lo hi x (fun _ : u.Idx => v) h hu j
      = v + ∑ w : (⟨s.rank, window⟩ : Shape).Idx,
          if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else v := by
  rw [← Equiv.sum_comp (⟨s.rank, window⟩ : Shape).rowMajor.symm]
  unfold Host.reduceWindow
  dsimp only
  rw [foldl_add, ← List.ofFn_eq_map, List.sum_ofFn]
  refine congrArg (v + ·) (Finset.sum_congr rfl fun i _ => ?_)
  split_ifs <;> rfl

/-- The indices of a window with one long axis among four. -/
def winEquiv4 (N : ℕ) : Fin N ≃ (⟨4, ![1, N, 1, 1]⟩ : Shape).Idx where
  toFun k := ix4 (0 : Fin 1) k (0 : Fin 1) (0 : Fin 1)
  invFun i := i 1
  left_inv _ := rfl
  right_inv i := by
    funext a
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _

/-- The indices of a window with one long axis among three. -/
def winEquiv3 (N : ℕ) : Fin N ≃ (⟨3, ![1, N, 1]⟩ : Shape).Idx where
  toFun k := ix3 (0 : Fin 1) k (0 : Fin 1)
  invFun i := i 1
  left_inv _ := rfl
  right_inv i := by
    funext a
    match a with
    | ⟨0, _⟩ => exact Subsingleton.elim (α := Fin 1) _ _
    | ⟨1, _⟩ => rfl
    | ⟨2, _⟩ => exact Subsingleton.elim (α := Fin 1) _ _

theorem winEquiv4_apply (N : ℕ) (k : Fin N) : winEquiv4 N k = ix4 (0 : Fin 1) k (0 : Fin 1) (0 : Fin 1) := rfl
theorem winEquiv3_apply (N : ℕ) (k : Fin N) : winEquiv3 N k = ix3 (0 : Fin 1) k (0 : Fin 1) := rfl

theorem prefix_window (f : ℕ → ℝ) (t : ℕ) (ht : t < 128) :
    (∑ w : Fin 128, if 127 ≤ t + w.val then f (t + w.val - 127) else 0) = ∑ s : Fin 128, if s.val ≤ t then f s.val else 0 := by
  rw [Fin.sum_univ_eq_sum_range (fun w => if 127 ≤ t + w then f (t + w - 127) else 0) 128,
    Fin.sum_univ_eq_sum_range (fun s => if s ≤ t then f s else 0) 128, ← Finset.sum_filter, ← Finset.sum_filter]
  refine Finset.sum_nbij' (fun w => t + w - 127) (fun s => s + 127 - t) ?_ ?_ ?_ ?_ ?_ <;> intro w hw <;>
    rw [Finset.mem_filter, Finset.mem_range] at hw
  · rw [Finset.mem_filter, Finset.mem_range]; omega
  · rw [Finset.mem_filter, Finset.mem_range]; omega
  · omega
  · omega

theorem suffix_window (f : ℕ → ℝ) (t : ℕ) (ht : t < 128) :
    (∑ w : Fin 128, if t + w.val < 128 then f (t + w.val) else 0) = ∑ s : Fin 128, if t ≤ s.val then f s.val else 0 := by
  rw [Fin.sum_univ_eq_sum_range (fun w => if t + w < 128 then f (t + w) else 0) 128,
    Fin.sum_univ_eq_sum_range (fun s => if t ≤ s then f s else 0) 128, ← Finset.sum_filter, ← Finset.sum_filter]
  refine Finset.sum_nbij' (fun w => t + w) (fun s => s - t) ?_ ?_ ?_ ?_ ?_ <;> intro w hw <;>
    rw [Finset.mem_filter, Finset.mem_range] at hw
  · rw [Finset.mem_filter, Finset.mem_range]; omega
  · rw [Finset.mem_filter, Finset.mem_range]; omega
  · omega
  · omega

theorem dite_forall4 {p : Fin 4 → Prop} [Decidable (∀ a, p a)] (q : Prop) [Decidable q] (hq : (∀ a, p a) ↔ q) (x : (∀ a, p a) → EReal) (y : ℝ)
    (hx : ∀ h, x h = (y : EReal)) : (if h : ∀ a, p a then x h else 0) = ((if q then y else 0 : ℝ) : EReal) := by
  by_cases h : ∀ a, p a
  · rw [dif_pos h, if_pos (hq.1 h), hx]
  · rw [dif_neg h, if_neg (fun h' => h (hq.2 h'))]; rfl

theorem dite_forall3 {p : Fin 3 → Prop} [Decidable (∀ a, p a)] (q : Prop) [Decidable q] (hq : (∀ a, p a) ↔ q) (x : (∀ a, p a) → EReal) (y : ℝ)
    (hx : ∀ h, x h = (y : EReal)) : (if h : ∀ a, p a then x h else 0) = ((if q then y else 0 : ℝ) : EReal) := by
  by_cases h : ∀ a, p a
  · rw [dif_pos h, if_pos (hq.1 h), hx]
  · rw [dif_neg h, if_neg (fun h' => h (hq.2 h'))]; rfl

/-- The windowed sum of length 128 padded below is the running sum. -/
theorem prefix4 {u : Shape} (f : ℕ → ℕ → ℕ → ℕ → ℝ) (init : u.Idx → EReal) (hi : ∀ i, init i = 0) (hu : 0 < u.numel)
    (h : (⟨4, ![66, 128, 8, 4]⟩ : Shape).ReduceWindows ![1, 128, 1, 1] ![1, 1, 1, 1] ![0, 127, 0, 0] ![0, 0, 0, 0] (⟨4, ![66, 128, 8, 4]⟩ : Shape)) :
    Host.reduceWindowAdd (F := Ideal) (φ := .f32) (s := (⟨4, ![66, 128, 8, 4]⟩ : Shape)) (t := (⟨4, ![66, 128, 8, 4]⟩ : Shape)) ![1, 128, 1, 1] ![1, 1, 1, 1] ![0, 127, 0, 0] ![0, 0, 0, 0] (lift4 f) init h hu
      = (lift4 (fun c t g r => ∑ s : Fin 128, if s.val ≤ t then f c s.val g r else 0) : (⟨4, ![66, 128, 8, 4]⟩ : Shape).Idx → EReal) := by
  funext j
  idx_vars j
  obtain rfl : init = fun _ => 0 := funext hi
  unfold Host.reduceWindowAdd
  rw [Ideal.hostReduceWindowAdd_def]
  unfold Ideal.hostReduceWindowAdd
  dsimp only
  rw [reduceWindow_sum, zero_add, ← (winEquiv4 128).sum_comp, lift4_ix, ← prefix_window (fun s => f j0.val s j2.val j3.val) _ (Fin.isLt _), ← sum_coe]
  refine Finset.sum_congr rfl fun k _ => ?_
  refine dite_forall4 _ ?_ _ _ ?_
  · constructor
    · intro hh
      have h1 := hh 1
      rw [winEquiv4_apply] at h1
      dsimp [ix4] at h1
      omega
    · intro hh a
      rw [winEquiv4_apply]
      fin_cases a <;> dsimp [ix4] <;> omega
  · intro hh
    unfold lift4
    simp only [winEquiv4_apply]
    dsimp [ix4]
    simp

/-- The windowed sum of length 128 padded above is the running sum from the end. -/
theorem suffix4 {u : Shape} (f : ℕ → ℕ → ℕ → ℕ → ℝ) (init : u.Idx → EReal) (hi : ∀ i, init i = 0) (hu : 0 < u.numel)
    (h : (⟨4, ![66, 128, 8, 4]⟩ : Shape).ReduceWindows ![1, 128, 1, 1] ![1, 1, 1, 1] ![0, 0, 0, 0] ![0, 127, 0, 0] (⟨4, ![66, 128, 8, 4]⟩ : Shape)) :
    Host.reduceWindowAdd (F := Ideal) (φ := .f32) (s := (⟨4, ![66, 128, 8, 4]⟩ : Shape)) (t := (⟨4, ![66, 128, 8, 4]⟩ : Shape)) ![1, 128, 1, 1] ![1, 1, 1, 1] ![0, 0, 0, 0] ![0, 127, 0, 0] (lift4 f) init h hu
      = (lift4 (fun c t g r => ∑ s : Fin 128, if t ≤ s.val then f c s.val g r else 0) : (⟨4, ![66, 128, 8, 4]⟩ : Shape).Idx → EReal) := by
  funext j
  idx_vars j
  obtain rfl : init = fun _ => 0 := funext hi
  unfold Host.reduceWindowAdd
  rw [Ideal.hostReduceWindowAdd_def]
  unfold Ideal.hostReduceWindowAdd
  dsimp only
  rw [reduceWindow_sum, zero_add, ← (winEquiv4 128).sum_comp, lift4_ix, ← suffix_window (fun s => f j0.val s j2.val j3.val) _ (Fin.isLt _), ← sum_coe]
  refine Finset.sum_congr rfl fun k _ => ?_
  refine dite_forall4 _ ?_ _ _ ?_
  · constructor
    · intro hh
      have h1 := hh 1
      rw [winEquiv4_apply] at h1
      dsimp [ix4] at h1
      omega
    · intro hh a
      rw [winEquiv4_apply]
      fin_cases a <;> dsimp [ix4] <;> omega
  · intro hh
    unfold lift4
    simp only [winEquiv4_apply]
    dsimp [ix4]
    simp

/-- The windowed sum of length 128 padded below is the running sum. -/
theorem prefix3 {u : Shape} (f : ℕ → ℕ → ℕ → ℝ) (init : u.Idx → EReal) (hi : ∀ i, init i = 0) (hu : 0 < u.numel)
    (h : (⟨3, ![66, 128, 32]⟩ : Shape).ReduceWindows ![1, 128, 1] ![1, 1, 1] ![0, 127, 0] ![0, 0, 0] (⟨3, ![66, 128, 32]⟩ : Shape)) :
    Host.reduceWindowAdd (F := Ideal) (φ := .f32) (s := (⟨3, ![66, 128, 32]⟩ : Shape)) (t := (⟨3, ![66, 128, 32]⟩ : Shape)) ![1, 128, 1] ![1, 1, 1] ![0, 127, 0] ![0, 0, 0] (lift3 f) init h hu
      = (lift3 (fun c t g => ∑ s : Fin 128, if s.val ≤ t then f c s.val g else 0) : (⟨3, ![66, 128, 32]⟩ : Shape).Idx → EReal) := by
  funext j
  idx_vars j
  obtain rfl : init = fun _ => 0 := funext hi
  unfold Host.reduceWindowAdd
  rw [Ideal.hostReduceWindowAdd_def]
  unfold Ideal.hostReduceWindowAdd
  dsimp only
  rw [reduceWindow_sum, zero_add, ← (winEquiv3 128).sum_comp, lift3_ix, ← prefix_window (fun s => f j0.val s j2.val) _ (Fin.isLt _), ← sum_coe]
  refine Finset.sum_congr rfl fun k _ => ?_
  refine dite_forall3 _ ?_ _ _ ?_
  · constructor
    · intro hh
      have h1 := hh 1
      rw [winEquiv3_apply] at h1
      dsimp [ix3] at h1
      omega
    · intro hh a
      rw [winEquiv3_apply]
      fin_cases a <;> dsimp [ix3] <;> omega
  · intro hh
    unfold lift3
    simp only [winEquiv3_apply]
    dsimp [ix3]
    simp

end Ssd
-- ==== Proof.Ops.lean ====
module

public import proofs.«01_k».proof.Proof.Base
public import proofs.«01_k».proof.Proof.Gen.KernelIdeal.Skeleton

/-! Each vector operation of the kernel's body maps lifts of real functions to the lift of a real function. -/

@[expose] public section

set_option maxRecDepth 16384

noncomputable section

namespace Cert.KernelIdeal.Gen

open Idealize.ShloMosaic Ssd

/-! ### The operations on real functions -/

/-- Entrywise product. -/
def rmul (f g : Fun2) : Fun2 := fun i j => f i j * g i j
/-- Entrywise sum. -/
def radd (f g : Fun2) : Fun2 := fun i j => f i j + g i j
/-- Entrywise difference. -/
def rsub (f g : Fun2) : Fun2 := fun i j => f i j - g i j
/-- Entrywise exponential. -/
def rexp (f : Fun2) : Fun2 := fun i j => Real.exp (f i j)
/-- The constant function. -/
def rcst (x : ℝ) : Fun2 := fun _ _ => x
/-- Choice by a condition on the indices. -/
def rsel (c : ℕ → ℕ → Bool) (f g : Fun2) : Fun2 := fun i j => if c i j = true then f i j else g i j
/-- The matrix product over an inner axis of length `K`. -/
def rmm (K : ℕ) (f g : Fun2) : Fun2 := fun i j => ∑ k : Fin K, f i k.val * g k.val j
/-- The product with the transpose of the second factor. -/
def rmmT (K : ℕ) (f g : Fun2) : Fun2 := fun i j => ∑ k : Fin K, f i k.val * g j k.val
/-- The window that begins at row `a` and column `b`. -/
def rslice (a b : ℕ) (f : Fun2) : Fun2 := fun i j => f (a + i) (b + j)
/-- Every row is row zero. -/
def rrow (f : Fun2) : Fun2 := fun _ j => f 0 j
/-- Every column is column zero. -/
def rcol (f : Fun2) : Fun2 := fun i _ => f i 0
/-- Two functions side by side, the second from column 128 on. -/
def rcat1 (f g : Fun2) : Fun2 := fun i j => if j < 128 then f i j else g i (j - 128)
/-- Two functions one under the other, the second from row 128 on. -/
def rcat0 (f g : Fun2) : Fun2 := fun i j => if i < 128 then f i j else g (i - 128) j
/-- The transpose. -/
def rtr (f : Fun2) : Fun2 := fun i j => f j i
/-- The sums of the columns. -/
def rsum0 (K : ℕ) (f : Fun2) : ℕ → ℝ := fun j => ∑ k : Fin K, f k.val j
/-- The sums of the rows. -/
def rsum1 (K : ℕ) (f : Fun2) : ℕ → ℝ := fun i => ∑ k : Fin K, f i k.val
/-- A list as one row. -/
def ras0 (f : ℕ → ℝ) : Fun2 := fun _ j => f j
/-- A list as one column. -/
def ras1 (f : ℕ → ℝ) : Fun2 := fun i _ => f i
/-- The one matrix of a stack of one. -/
def runst (f : Fun3) : Fun2 := fun i j => f 0 i j
/-- A matrix as a stack of one. -/
def rst (f : Fun2) : Fun3 := fun _ i j => f i j

/-! ### The operations of the body -/

theorem op_mulf {s : Shape} {φ : FTy} (x y : FVec Ideal s φ) : mulf x y = fun i => (x i * y i : EReal) := rfl
theorem op_truncf {s : Shape} (x : FVec Ideal s .f32) (h : FTy.bits .bf16 < FTy.bits .f32) : truncf .bf16 x h = (x : s.Idx → EReal) := rfl
theorem op_extf {s : Shape} (x : FVec Ideal s .bf16) (h : FTy.bits .bf16 < FTy.bits .f32) : extf .f32 x h = (x : s.Idx → EReal) := rfl

theorem op_constant_S128x128  :
    constant (F := Ideal) S128x128 .f32 0x00000000#32 = (lift2 (rcst 0) : ((S128x128).Idx → EReal)) := by
  funext i
  idx_vars i
  pointwise []
  simp only [lift1_ix, lift2_ix, lift3_ix, liftB_ix, liftI_ix, rcst, EReal.coe_zero]

theorem op_dot_S128x128_S128x128_S128x128_1_1_0_0_n_n (f g : Fun2) :
    matmul (F := Ideal) (φ₁ := .bf16) (φ₂ := .bf16) dot_S128x128_S128x128_S128x128_1_1_0_0_n_n none (lift2 f : S128x128.Idx → EReal) (lift2 g : S128x128.Idx → EReal) (lift2 (rcst 0) : S128x128.Idx → EReal) = (lift2 (rmmT 128 f g) : ((S128x128).Idx → EReal)) := by
  funext i
  idx_vars i
  pointwise []
  simp only [lift1_ix, lift2_ix, lift3_ix, liftB_ix, liftI_ix, rmmT, rcst, ← EReal.coe_mul, sum_coe, EReal.coe_zero, zero_add, add_zero]

theorem op_shapeCasts_S1x128x128_S128x128_f32 (f : Fun3) :
    shapeCast (s := S1x128x128) (α := Ideal .f32) S128x128 (lift3 f) shapeCasts_S1x128x128_S128x128 = (lift2 (runst f) : ((S128x128).Idx → EReal)) := by
  funext i
  idx_vars i
  pointwise []
  simp only [lift1_ix, lift2_ix, lift3_ix, liftB_ix, liftI_ix, runst, rst, ras0, ras1, Fin.val_zero, Fin.isValue]

theorem op_shapeCasts_S8x128_S8x128_f32 (f : Fun2) :
    shapeCast (s := S8x128) (α := Ideal .f32) S8x128 (lift2 f) shapeCasts_S8x128_S8x128 = (lift2 f : ((S8x128).Idx → EReal)) := by
  funext i
  idx_vars i
  pointwise []

theorem op_exp_S128x128 (f : Fun2) :
    exp (F := Ideal) (s := S128x128) (φ := .f32) (lift2 f) = (lift2 (rexp f) : ((S128x128).Idx → EReal)) := by
  rfl

theorem op_zero_S128x128  :
    broadcast S128x128 (Scalar.ofBits (F := Ideal) .f32 0x00000000#32) = (lift2 (rcst 0) : ((S128x128).Idx → EReal)) := by
  funext i
  idx_vars i
  pointwise []
  simp only [lift1_ix, lift2_ix, lift3_ix, liftB_ix, liftI_ix, rcst, EReal.coe_zero]

theorem op_one_S128x128  :
    broadcast S128x128 (Scalar.ofBits (F := Ideal) .f32 0x3F800000#32) = (lift2 (rcst 1) : ((S128x128).Idx → EReal)) := by
  funext i
  idx_vars i
  pointwise []
  simp only [lift1_ix, lift2_ix, lift3_ix, liftB_ix, liftI_ix, rcst, EReal.coe_one]

theorem op_shapeCasts_S1x128x256_S128x256_bf16 (f : Fun3) :
    shapeCast (s := S1x128x256) (α := Ideal .bf16) S128x256 (lift3 f) shapeCasts_S1x128x256_S128x256 = (lift2 (runst f) : ((S128x256).Idx → EReal)) := by
  funext i
  idx_vars i
  pointwise []
  simp only [lift1_ix, lift2_ix, lift3_ix, liftB_ix, liftI_ix, runst, rst, ras0, ras1, Fin.val_zero, Fin.isValue]

theorem op_shapeCasts_S1x128x256_S128x256_f32 (f : Fun3) :
    shapeCast (s := S1x128x256) (α := Ideal .f32) S128x256 (lift3 f) shapeCasts_S1x128x256_S128x256 = (lift2 (runst f) : ((S128x256).Idx → EReal)) := by
  funext i
  idx_vars i
  pointwise []
  simp only [lift1_ix, lift2_ix, lift3_ix, liftB_ix, liftI_ix, runst, rst, ras0, ras1, Fin.val_zero, Fin.isValue]

theorem op_iota_S128x128_d1_w32  :
    iota .tc S128x128 32 [1] iota_S128x128_d1_w32 = (liftI (fun i j => j) : S128x128.Idx → BitVec 32) := by
  funext i
  idx_vars i
  pointwise []
  simp only [lift1_ix, lift2_ix, lift3_ix, liftB_ix, liftI_ix, ]

theorem op_word_S128x128 (n : ℕ) :
    broadcast S128x128 (BitVec.ofNat 32 n) = (liftI (fun _ _ => n) : S128x128.Idx → BitVec 32) := by
  rfl

theorem op_cmpi_sge_S128x128 (f g : ℕ → ℕ → ℕ) (hf : ∀ i j, i < 128 → j < 128 → f i j < 2 ^ 31) (hg : ∀ i j, i < 128 → j < 128 → g i j < 2 ^ 31) :
    cmpi .sge (liftI f : S128x128.Idx → BitVec 32) (liftI g) = (liftB (fun i j => decide (g i j ≤ f i j)) : S128x128.Idx → BitVec 1) := by
  funext i
  have h1 := hf _ _ (i 0).isLt (i 1).isLt
  have h2 := hg _ _ (i 0).isLt (i 1).isLt
  exact WordCmp.cmpi_sge_ofNat (by omega) (by omega)

theorem op_cmpi_slt_S128x128 (f g : ℕ → ℕ → ℕ) (hf : ∀ i j, i < 128 → j < 128 → f i j < 2 ^ 31) (hg : ∀ i j, i < 128 → j < 128 → g i j < 2 ^ 31) :
    cmpi .slt (liftI f : S128x128.Idx → BitVec 32) (liftI g) = (liftB (fun i j => decide (f i j < g i j)) : S128x128.Idx → BitVec 1) := by
  funext i
  have h1 := hf _ _ (i 0).isLt (i 1).isLt
  have h2 := hg _ _ (i 0).isLt (i 1).isLt
  exact WordCmp.cmpi_slt_ofNat (by omega) (by omega)

theorem op_andi_S128x128 (f g : ℕ → ℕ → Bool) :
    andi (liftB f : S128x128.Idx → BitVec 1) (liftB g) = (liftB (fun i j => f i j && g i j) : S128x128.Idx → BitVec 1) := by
  funext i
  exact andi_ofBool _ _

theorem op_select_S128x128 (c : ℕ → ℕ → Bool) (f g : Fun2) :
    select (s := S128x128) (liftB c) (lift2 f : S128x128.Idx → EReal) (lift2 g) = (lift2 (rsel c f g) : ((S128x128).Idx → EReal)) := by
  funext i
  idx_vars i
  pointwise []
  simp only [lift1_ix, lift2_ix, lift3_ix, liftB_ix, liftI_ix, rsel, select_ofBool, ite_coe]

theorem op_slices_S128x128_o127_0_S1x128 (f : Fun2) :
    extractStridedSlice S1x128 ![127, 0] (lift2 f : S128x128.Idx → EReal) slices_S128x128_o127_0_S1x128 = (lift2 (rslice 127 0 f) : ((S1x128).Idx → EReal)) := by
  funext i
  idx_vars i
  pointwise []
  simp only [lift2, rslice]
  congr 2 <;> simp

theorem op_broadcasts_S1x128_S128x128 (f : Fun2) :
    broadcastTo S128x128 (lift2 f : S1x128.Idx → EReal) broadcasts_S1x128_S128x128 = (lift2 (rrow f) : ((S128x128).Idx → EReal)) := by
  funext i
  idx_vars i
  pointwise []
  simp only [lift1_ix, lift2_ix, lift3_ix, liftB_ix, liftI_ix, rrow, Fin.val_zero, Fin.isValue]

theorem op_subf_S128x128 (f g : Fun2) :
    subf (F := Ideal) (s := S128x128) (φ := .f32) (lift2 f) (lift2 g) = (lift2 (rsub f g) : ((S128x128).Idx → EReal)) := by
  funext i
  exact (EReal.coe_sub _ _).symm

theorem op_mulf_S128x128 (f g : Fun2) :
    mulf (F := Ideal) (s := S128x128) (φ := .f32) (lift2 f) (lift2 g) = (lift2 (rmul f g) : ((S128x128).Idx → EReal)) := by
  funext i
  exact (EReal.coe_mul _ _).symm

theorem op_iota_S128x256_d0_w32  :
    iota .tc S128x256 32 [0] iota_S128x256_d0_w32 = (liftI (fun i j => i) : S128x256.Idx → BitVec 32) := by
  funext i
  idx_vars i
  pointwise []
  simp only [lift1_ix, lift2_ix, lift3_ix, liftB_ix, liftI_ix, ]

theorem op_iota_S128x256_d1_w32  :
    iota .tc S128x256 32 [1] iota_S128x256_d1_w32 = (liftI (fun i j => j) : S128x256.Idx → BitVec 32) := by
  funext i
  idx_vars i
  pointwise []
  simp only [lift1_ix, lift2_ix, lift3_ix, liftB_ix, liftI_ix, ]

theorem op_word_S128x256 (n : ℕ) :
    broadcast S128x256 (BitVec.ofNat 32 n) = (liftI (fun _ _ => n) : S128x256.Idx → BitVec 32) := by
  rfl

theorem op_shrsi_S128x256 (f : ℕ → ℕ → ℕ) (hf : ∀ i j, i < 128 → j < 256 → f i j < 2 ^ 31) :
    shrsi (liftI f : S128x256.Idx → BitVec 32) (liftI (fun _ _ => 6)) = (liftI (fun i j => f i j / 64) : S128x256.Idx → BitVec 32) := by
  funext i
  exact shrsi_six _ _ (hf _ _ (i 0).isLt (i 1).isLt)

theorem op_addi_S128x256 (f g : ℕ → ℕ → ℕ) :
    addi (liftI f : S128x256.Idx → BitVec 32) (liftI g) = (liftI (fun i j => f i j + g i j) : S128x256.Idx → BitVec 32) := by
  funext i
  exact addi_ofNat _ _

theorem op_cmpi_eq_S128x256 (f g : ℕ → ℕ → ℕ) (hf : ∀ i j, i < 128 → j < 256 → f i j < 2 ^ 31) (hg : ∀ i j, i < 128 → j < 256 → g i j < 2 ^ 31) :
    cmpi .eq (liftI f : S128x256.Idx → BitVec 32) (liftI g) = (liftB (fun i j => decide (f i j = g i j)) : S128x256.Idx → BitVec 1) := by
  funext i
  have h1 := hf _ _ (i 0).isLt (i 1).isLt
  have h2 := hg _ _ (i 0).isLt (i 1).isLt
  exact WordCmp.cmpi_eq_ofNat (by omega) (by omega)

theorem op_zero_S128x256  :
    broadcast S128x256 (Scalar.ofBits (F := Ideal) .f32 0x00000000#32) = (lift2 (rcst 0) : ((S128x256).Idx → EReal)) := by
  funext i
  idx_vars i
  pointwise []
  simp only [lift1_ix, lift2_ix, lift3_ix, liftB_ix, liftI_ix, rcst, EReal.coe_zero]

theorem op_one_S128x256  :
    broadcast S128x256 (Scalar.ofBits (F := Ideal) .f32 0x3F800000#32) = (lift2 (rcst 1) : ((S128x256).Idx → EReal)) := by
  funext i
  idx_vars i
  pointwise []
  simp only [lift1_ix, lift2_ix, lift3_ix, liftB_ix, liftI_ix, rcst, EReal.coe_one]

theorem op_select_S128x256 (c : ℕ → ℕ → Bool) (f g : Fun2) :
    select (s := S128x256) (liftB c) (lift2 f : S128x256.Idx → EReal) (lift2 g) = (lift2 (rsel c f g) : ((S128x256).Idx → EReal)) := by
  funext i
  idx_vars i
  pointwise []
  simp only [lift1_ix, lift2_ix, lift3_ix, liftB_ix, liftI_ix, rsel, select_ofBool, ite_coe]

theorem op_word_S256x128 (n : ℕ) :
    broadcast S256x128 (BitVec.ofNat 32 n) = (liftI (fun _ _ => n) : S256x128.Idx → BitVec 32) := by
  rfl

theorem op_shrsi_S256x128 (f : ℕ → ℕ → ℕ) (hf : ∀ i j, i < 256 → j < 128 → f i j < 2 ^ 31) :
    shrsi (liftI f : S256x128.Idx → BitVec 32) (liftI (fun _ _ => 6)) = (liftI (fun i j => f i j / 64) : S256x128.Idx → BitVec 32) := by
  funext i
  exact shrsi_six _ _ (hf _ _ (i 0).isLt (i 1).isLt)

theorem op_addi_S256x128 (f g : ℕ → ℕ → ℕ) :
    addi (liftI f : S256x128.Idx → BitVec 32) (liftI g) = (liftI (fun i j => f i j + g i j) : S256x128.Idx → BitVec 32) := by
  funext i
  exact addi_ofNat _ _

theorem op_cmpi_eq_S256x128 (f g : ℕ → ℕ → ℕ) (hf : ∀ i j, i < 256 → j < 128 → f i j < 2 ^ 31) (hg : ∀ i j, i < 256 → j < 128 → g i j < 2 ^ 31) :
    cmpi .eq (liftI f : S256x128.Idx → BitVec 32) (liftI g) = (liftB (fun i j => decide (f i j = g i j)) : S256x128.Idx → BitVec 1) := by
  funext i
  have h1 := hf _ _ (i 0).isLt (i 1).isLt
  have h2 := hg _ _ (i 0).isLt (i 1).isLt
  exact WordCmp.cmpi_eq_ofNat (by omega) (by omega)

theorem op_zero_S256x128  :
    broadcast S256x128 (Scalar.ofBits (F := Ideal) .f32 0x00000000#32) = (lift2 (rcst 0) : ((S256x128).Idx → EReal)) := by
  funext i
  idx_vars i
  pointwise []
  simp only [lift1_ix, lift2_ix, lift3_ix, liftB_ix, liftI_ix, rcst, EReal.coe_zero]

theorem op_one_S256x128  :
    broadcast S256x128 (Scalar.ofBits (F := Ideal) .f32 0x3F800000#32) = (lift2 (rcst 1) : ((S256x128).Idx → EReal)) := by
  funext i
  idx_vars i
  pointwise []
  simp only [lift1_ix, lift2_ix, lift3_ix, liftB_ix, liftI_ix, rcst, EReal.coe_one]

theorem op_select_S256x128 (c : ℕ → ℕ → Bool) (f g : Fun2) :
    select (s := S256x128) (liftB c) (lift2 f : S256x128.Idx → EReal) (lift2 g) = (lift2 (rsel c f g) : ((S256x128).Idx → EReal)) := by
  funext i
  idx_vars i
  pointwise []
  simp only [lift1_ix, lift2_ix, lift3_ix, liftB_ix, liftI_ix, rsel, select_ofBool, ite_coe]

theorem op_constant_S128x256  :
    constant (F := Ideal) S128x256 .f32 0x00000000#32 = (lift2 (rcst 0) : ((S128x256).Idx → EReal)) := by
  funext i
  idx_vars i
  pointwise []
  simp only [lift1_ix, lift2_ix, lift3_ix, liftB_ix, liftI_ix, rcst, EReal.coe_zero]

theorem op_dot_S128x128_S128x256_S128x256_1_0_0_1_n_n (f g : Fun2) :
    matmul (F := Ideal) (φ₁ := .bf16) (φ₂ := .bf16) dot_S128x128_S128x256_S128x256_1_0_0_1_n_n none (lift2 f : S128x128.Idx → EReal) (lift2 g : S128x256.Idx → EReal) (lift2 (rcst 0) : S128x256.Idx → EReal) = (lift2 (rmm 128 f g) : ((S128x256).Idx → EReal)) := by
  funext i
  idx_vars i
  pointwise []
  simp only [lift1_ix, lift2_ix, lift3_ix, liftB_ix, liftI_ix, rmm, rcst, ← EReal.coe_mul, sum_coe, EReal.coe_zero, zero_add, add_zero]

theorem op_addf_S128x256 (f g : Fun2) :
    addf (F := Ideal) (s := S128x256) (φ := .f32) (lift2 f) (lift2 g) = (lift2 (radd f g) : ((S128x256).Idx → EReal)) := by
  funext i
  exact (EReal.coe_add _ _).symm

theorem op_mulf_S128x256 (f g : Fun2) :
    mulf (F := Ideal) (s := S128x256) (φ := .f32) (lift2 f) (lift2 g) = (lift2 (rmul f g) : ((S128x256).Idx → EReal)) := by
  funext i
  exact (EReal.coe_mul _ _).symm

theorem op_dot_S128x256_S128x256_S128x128_1_1_0_0_n_n (f g : Fun2) :
    matmul (F := Ideal) (φ₁ := .bf16) (φ₂ := .bf16) dot_S128x256_S128x256_S128x128_1_1_0_0_n_n none (lift2 f : S128x256.Idx → EReal) (lift2 g : S128x256.Idx → EReal) (lift2 (rcst 0) : S128x128.Idx → EReal) = (lift2 (rmmT 256 f g) : ((S128x128).Idx → EReal)) := by
  funext i
  idx_vars i
  pointwise []
  simp only [lift1_ix, lift2_ix, lift3_ix, liftB_ix, liftI_ix, rmmT, rcst, ← EReal.coe_mul, sum_coe, EReal.coe_zero, zero_add, add_zero]

theorem op_addf_S128x128 (f g : Fun2) :
    addf (F := Ideal) (s := S128x128) (φ := .f32) (lift2 f) (lift2 g) = (lift2 (radd f g) : ((S128x128).Idx → EReal)) := by
  funext i
  exact (EReal.coe_add _ _).symm

theorem op_subf_S128x256 (f g : Fun2) :
    subf (F := Ideal) (s := S128x256) (φ := .f32) (lift2 f) (lift2 g) = (lift2 (rsub f g) : ((S128x256).Idx → EReal)) := by
  funext i
  exact (EReal.coe_sub _ _).symm

theorem op_dot_S128x256_S256x128_S128x128_1_0_0_1_n_n (f g : Fun2) :
    matmul (F := Ideal) (φ₁ := .bf16) (φ₂ := .bf16) dot_S128x256_S256x128_S128x128_1_0_0_1_n_n none (lift2 f : S128x256.Idx → EReal) (lift2 g : S256x128.Idx → EReal) (lift2 (rcst 0) : S128x128.Idx → EReal) = (lift2 (rmm 256 f g) : ((S128x128).Idx → EReal)) := by
  funext i
  idx_vars i
  pointwise []
  simp only [lift1_ix, lift2_ix, lift3_ix, liftB_ix, liftI_ix, rmm, rcst, ← EReal.coe_mul, sum_coe, EReal.coe_zero, zero_add, add_zero]

theorem op_reduces_S128x256_S256 (f : Fun2) :
    multiReduction (F := Ideal) (φ := .f32) .add [0] S256 (lift2 f : S128x256.Idx → EReal) 0x00000000#32 reduces_S128x256_S256 (.inl rfl) rfl = (lift1 (rsum0 128 f) : ((S256).Idx → EReal)) := by
  funext i
  idx_vars i
  pointwise []
  simp only [lift1_ix, lift2_ix, lift3_ix, liftB_ix, liftI_ix, rsum0, sum_coe, EReal.coe_zero, zero_add, add_zero]

theorem op_shapeCasts_S256_S1x256_f32 (f : ℕ → ℝ) :
    shapeCast (s := S256) (α := Ideal .f32) S1x256 (lift1 f) shapeCasts_S256_S1x256 = (lift2 (ras0 f) : ((S1x256).Idx → EReal)) := by
  funext i
  idx_vars i
  pointwise []
  simp only [lift1_ix, lift2_ix, lift3_ix, liftB_ix, liftI_ix, runst, rst, ras0, ras1, Fin.val_zero, Fin.isValue]

theorem op_shapeCasts_S1x256_S1x256_f32 (f : Fun2) :
    shapeCast (s := S1x256) (α := Ideal .f32) S1x256 (lift2 f) shapeCasts_S1x256_S1x256 = (lift2 f : ((S1x256).Idx → EReal)) := by
  funext i
  idx_vars i
  pointwise []

theorem op_broadcasts_S1x256_S8x256 (f : Fun2) :
    broadcastTo S8x256 (lift2 f : S1x256.Idx → EReal) broadcasts_S1x256_S8x256 = (lift2 (rrow f) : ((S8x256).Idx → EReal)) := by
  funext i
  idx_vars i
  pointwise []
  simp only [lift1_ix, lift2_ix, lift3_ix, liftB_ix, liftI_ix, rrow, Fin.val_zero, Fin.isValue]

theorem op_subf_S8x256 (f g : Fun2) :
    subf (F := Ideal) (s := S8x256) (φ := .f32) (lift2 f) (lift2 g) = (lift2 (rsub f g) : ((S8x256).Idx → EReal)) := by
  funext i
  exact (EReal.coe_sub _ _).symm

theorem op_constant_S8x128  :
    constant (F := Ideal) S8x128 .f32 0x00000000#32 = (lift2 (rcst 0) : ((S8x128).Idx → EReal)) := by
  funext i
  idx_vars i
  pointwise []
  simp only [lift1_ix, lift2_ix, lift3_ix, liftB_ix, liftI_ix, rcst, EReal.coe_zero]

theorem op_dot_S8x256_S256x128_S8x128_1_0_0_1_n_n (f g : Fun2) :
    matmul (F := Ideal) (φ₁ := .bf16) (φ₂ := .bf16) dot_S8x256_S256x128_S8x128_1_0_0_1_n_n none (lift2 f : S8x256.Idx → EReal) (lift2 g : S256x128.Idx → EReal) (lift2 (rcst 0) : S8x128.Idx → EReal) = (lift2 (rmm 256 f g) : ((S8x128).Idx → EReal)) := by
  funext i
  idx_vars i
  pointwise []
  simp only [lift1_ix, lift2_ix, lift3_ix, liftB_ix, liftI_ix, rmm, rcst, ← EReal.coe_mul, sum_coe, EReal.coe_zero, zero_add, add_zero]

theorem op_addf_S8x128 (f g : Fun2) :
    addf (F := Ideal) (s := S8x128) (φ := .f32) (lift2 f) (lift2 g) = (lift2 (radd f g) : ((S8x128).Idx → EReal)) := by
  funext i
  exact (EReal.coe_add _ _).symm

theorem op_slices_S8x128_o0_0_S1x128 (f : Fun2) :
    extractStridedSlice S1x128 ![0, 0] (lift2 f : S8x128.Idx → EReal) slices_S8x128_o0_0_S1x128 = (lift2 (rslice 0 0 f) : ((S1x128).Idx → EReal)) := by
  funext i
  idx_vars i
  pointwise []
  simp only [lift2, rslice]
  congr 2 <;> simp

theorem op_reduces_S128x128_S128 (f : Fun2) :
    multiReduction (F := Ideal) (φ := .f32) .add [0] S128 (lift2 f : S128x128.Idx → EReal) 0x00000000#32 reduces_S128x128_S128 (.inl rfl) rfl = (lift1 (rsum0 128 f) : ((S128).Idx → EReal)) := by
  funext i
  idx_vars i
  pointwise []
  simp only [lift1_ix, lift2_ix, lift3_ix, liftB_ix, liftI_ix, rsum0, sum_coe, EReal.coe_zero, zero_add, add_zero]

theorem op_shapeCasts_S128_S1x128_f32 (f : ℕ → ℝ) :
    shapeCast (s := S128) (α := Ideal .f32) S1x128 (lift1 f) shapeCasts_S128_S1x128 = (lift2 (ras0 f) : ((S1x128).Idx → EReal)) := by
  funext i
  idx_vars i
  pointwise []
  simp only [lift1_ix, lift2_ix, lift3_ix, liftB_ix, liftI_ix, runst, rst, ras0, ras1, Fin.val_zero, Fin.isValue]

theorem op_exp_S1x128 (f : Fun2) :
    exp (F := Ideal) (s := S1x128) (φ := .f32) (lift2 f) = (lift2 (rexp f) : ((S1x128).Idx → EReal)) := by
  rfl

theorem op_mulf_S1x128 (f g : Fun2) :
    mulf (F := Ideal) (s := S1x128) (φ := .f32) (lift2 f) (lift2 g) = (lift2 (rmul f g) : ((S1x128).Idx → EReal)) := by
  funext i
  exact (EReal.coe_mul _ _).symm

theorem op_addf_S1x128 (f g : Fun2) :
    addf (F := Ideal) (s := S1x128) (φ := .f32) (lift2 f) (lift2 g) = (lift2 (radd f g) : ((S1x128).Idx → EReal)) := by
  funext i
  exact (EReal.coe_add _ _).symm

theorem op_cmpi_eq_S128x128 (f g : ℕ → ℕ → ℕ) (hf : ∀ i j, i < 128 → j < 128 → f i j < 2 ^ 31) (hg : ∀ i j, i < 128 → j < 128 → g i j < 2 ^ 31) :
    cmpi .eq (liftI f : S128x128.Idx → BitVec 32) (liftI g) = (liftB (fun i j => decide (f i j = g i j)) : S128x128.Idx → BitVec 1) := by
  funext i
  have h1 := hf _ _ (i 0).isLt (i 1).isLt
  have h2 := hg _ _ (i 0).isLt (i 1).isLt
  exact WordCmp.cmpi_eq_ofNat (by omega) (by omega)

theorem op_shapeCasts_S1x128_S1x128_f32 (f : Fun2) :
    shapeCast (s := S1x128) (α := Ideal .f32) S1x128 (lift2 f) shapeCasts_S1x128_S1x128 = (lift2 f : ((S1x128).Idx → EReal)) := by
  funext i
  idx_vars i
  pointwise []

theorem op_concatenates_S128x256_S128x256_S256x256_d0 (f g : Fun2) :
    concatenate S256x256 0 [⟨S128x256, (lift2 f : S128x256.Idx → EReal)⟩, ⟨S128x256, (lift2 g : S128x256.Idx → EReal)⟩] concatenates_S128x256_S128x256_S256x256_d0 = (lift2 (rcat0 f g) : ((S256x256).Idx → EReal)) := by
  funext i
  idx_vars i
  pointwise []
  simp only [lift2_ix, rcat0]
  split <;> rfl

theorem op_slices_S128x128_o0_0_S1x128 (f : Fun2) :
    extractStridedSlice S1x128 ![0, 0] (lift2 f : S128x128.Idx → EReal) slices_S128x128_o0_0_S1x128 = (lift2 (rslice 0 0 f) : ((S1x128).Idx → EReal)) := by
  funext i
  idx_vars i
  pointwise []
  simp only [lift2, rslice]
  congr 2 <;> simp

theorem op_iota_S256x128_d0_w32  :
    iota .tc S256x128 32 [0] iota_S256x128_d0_w32 = (liftI (fun i j => i) : S256x128.Idx → BitVec 32) := by
  funext i
  idx_vars i
  pointwise []
  simp only [lift1_ix, lift2_ix, lift3_ix, liftB_ix, liftI_ix, ]

theorem op_iota_S256x128_d1_w32  :
    iota .tc S256x128 32 [1] iota_S256x128_d1_w32 = (liftI (fun i j => j) : S256x128.Idx → BitVec 32) := by
  funext i
  idx_vars i
  pointwise []
  simp only [lift1_ix, lift2_ix, lift3_ix, liftB_ix, liftI_ix, ]

theorem op_cmpi_sle_S128x128 (f g : ℕ → ℕ → ℕ) (hf : ∀ i j, i < 128 → j < 128 → f i j < 2 ^ 31) (hg : ∀ i j, i < 128 → j < 128 → g i j < 2 ^ 31) :
    cmpi .sle (liftI f : S128x128.Idx → BitVec 32) (liftI g) = (liftB (fun i j => decide (f i j ≤ g i j)) : S128x128.Idx → BitVec 1) := by
  funext i
  have h1 := hf _ _ (i 0).isLt (i 1).isLt
  have h2 := hg _ _ (i 0).isLt (i 1).isLt
  exact WordCmp.cmpi_sle_ofNat (by omega) (by omega)

theorem op_shrsi_S128x128 (f : ℕ → ℕ → ℕ) (hf : ∀ i j, i < 128 → j < 128 → f i j < 2 ^ 31) :
    shrsi (liftI f : S128x128.Idx → BitVec 32) (liftI (fun _ _ => 6)) = (liftI (fun i j => f i j / 64) : S128x128.Idx → BitVec 32) := by
  funext i
  exact shrsi_six _ _ (hf _ _ (i 0).isLt (i 1).isLt)

theorem op_slices_S128x256_o0_0_S128x128 (f : Fun2) :
    extractStridedSlice S128x128 ![0, 0] (lift2 f : S128x256.Idx → EReal) slices_S128x256_o0_0_S128x128 = (lift2 (rslice 0 0 f) : ((S128x128).Idx → EReal)) := by
  funext i
  idx_vars i
  pointwise []
  simp only [lift2, rslice]
  congr 2 <;> simp

theorem op_slices_S128x128_o0_0_S128x1 (f : Fun2) :
    extractStridedSlice S128x1 ![0, 0] (lift2 f : S128x128.Idx → EReal) slices_S128x128_o0_0_S128x1 = (lift2 (rslice 0 0 f) : ((S128x1).Idx → EReal)) := by
  funext i
  idx_vars i
  pointwise []
  simp only [lift2, rslice]
  congr 2 <;> simp

theorem op_broadcasts_S128x1_S128x128 (f : Fun2) :
    broadcastTo S128x128 (lift2 f : S128x1.Idx → EReal) broadcasts_S128x1_S128x128 = (lift2 (rcol f) : ((S128x128).Idx → EReal)) := by
  funext i
  idx_vars i
  pointwise []
  simp only [lift1_ix, lift2_ix, lift3_ix, liftB_ix, liftI_ix, rcol, Fin.val_zero, Fin.isValue]

theorem op_shapeCasts_S128x1_S128x1_f32 (f : Fun2) :
    shapeCast (s := S128x1) (α := Ideal .f32) S128x1 (lift2 f) shapeCasts_S128x1_S128x1 = (lift2 f : ((S128x1).Idx → EReal)) := by
  funext i
  idx_vars i
  pointwise []

theorem op_concatenates_S128x128_S128x128_S128x256_d1 (f g : Fun2) :
    concatenate S128x256 1 [⟨S128x128, (lift2 f : S128x128.Idx → EReal)⟩, ⟨S128x128, (lift2 g : S128x128.Idx → EReal)⟩] concatenates_S128x128_S128x128_S128x256_d1 = (lift2 (rcat1 f g) : ((S128x256).Idx → EReal)) := by
  funext i
  idx_vars i
  pointwise []
  simp only [lift2_ix, rcat1]
  split <;> rfl

theorem op_slices_S256x256_o0_0_S256x128 (f : Fun2) :
    extractStridedSlice S256x128 ![0, 0] (lift2 f : S256x256.Idx → EReal) slices_S256x256_o0_0_S256x128 = (lift2 (rslice 0 0 f) : ((S256x128).Idx → EReal)) := by
  funext i
  idx_vars i
  pointwise []
  simp only [lift2, rslice]
  congr 2 <;> simp

theorem op_reduces_S128x128_S128_2 (f : Fun2) :
    multiReduction (F := Ideal) (φ := .f32) .add [1] S128 (lift2 f : S128x128.Idx → EReal) 0x00000000#32 reduces_S128x128_S128_2 (.inl rfl) rfl = (lift1 (rsum1 128 f) : ((S128).Idx → EReal)) := by
  funext i
  idx_vars i
  pointwise []
  simp only [lift1_ix, lift2_ix, lift3_ix, liftB_ix, liftI_ix, rsum1, sum_coe, EReal.coe_zero, zero_add, add_zero]

theorem op_shapeCasts_S128_S128x1_f32 (f : ℕ → ℝ) :
    shapeCast (s := S128) (α := Ideal .f32) S128x1 (lift1 f) shapeCasts_S128_S128x1 = (lift2 (ras1 f) : ((S128x1).Idx → EReal)) := by
  funext i
  idx_vars i
  pointwise []
  simp only [lift1_ix, lift2_ix, lift3_ix, liftB_ix, liftI_ix, runst, rst, ras0, ras1, Fin.val_zero, Fin.isValue]

theorem op_mulf_S128x1 (f g : Fun2) :
    mulf (F := Ideal) (s := S128x1) (φ := .f32) (lift2 f) (lift2 g) = (lift2 (rmul f g) : ((S128x1).Idx → EReal)) := by
  funext i
  exact (EReal.coe_mul _ _).symm

theorem op_slices_S128x128_o0_4_S128x1 (f : Fun2) :
    extractStridedSlice S128x1 ![0, 4] (lift2 f : S128x128.Idx → EReal) slices_S128x128_o0_4_S128x1 = (lift2 (rslice 0 4 f) : ((S128x1).Idx → EReal)) := by
  funext i
  idx_vars i
  pointwise []
  simp only [lift2, rslice]
  congr 2 <;> simp

theorem op_slices_S8x128_o4_0_S1x128 (f : Fun2) :
    extractStridedSlice S1x128 ![4, 0] (lift2 f : S8x128.Idx → EReal) slices_S8x128_o4_0_S1x128 = (lift2 (rslice 4 0 f) : ((S1x128).Idx → EReal)) := by
  funext i
  idx_vars i
  pointwise []
  simp only [lift2, rslice]
  congr 2 <;> simp

theorem op_slices_S128x128_o0_1_S128x1 (f : Fun2) :
    extractStridedSlice S128x1 ![0, 1] (lift2 f : S128x128.Idx → EReal) slices_S128x128_o0_1_S128x1 = (lift2 (rslice 0 1 f) : ((S128x1).Idx → EReal)) := by
  funext i
  idx_vars i
  pointwise []
  simp only [lift2, rslice]
  congr 2 <;> simp

theorem op_slices_S8x128_o1_0_S1x128 (f : Fun2) :
    extractStridedSlice S1x128 ![1, 0] (lift2 f : S8x128.Idx → EReal) slices_S8x128_o1_0_S1x128 = (lift2 (rslice 1 0 f) : ((S1x128).Idx → EReal)) := by
  funext i
  idx_vars i
  pointwise []
  simp only [lift2, rslice]
  congr 2 <;> simp

theorem op_slices_S128x128_o0_5_S128x1 (f : Fun2) :
    extractStridedSlice S128x1 ![0, 5] (lift2 f : S128x128.Idx → EReal) slices_S128x128_o0_5_S128x1 = (lift2 (rslice 0 5 f) : ((S128x1).Idx → EReal)) := by
  funext i
  idx_vars i
  pointwise []
  simp only [lift2, rslice]
  congr 2 <;> simp

theorem op_slices_S8x128_o5_0_S1x128 (f : Fun2) :
    extractStridedSlice S1x128 ![5, 0] (lift2 f : S8x128.Idx → EReal) slices_S8x128_o5_0_S1x128 = (lift2 (rslice 5 0 f) : ((S1x128).Idx → EReal)) := by
  funext i
  idx_vars i
  pointwise []
  simp only [lift2, rslice]
  congr 2 <;> simp

theorem op_slices_S128x256_o0_128_S128x128 (f : Fun2) :
    extractStridedSlice S128x128 ![0, 128] (lift2 f : S128x256.Idx → EReal) slices_S128x256_o0_128_S128x128 = (lift2 (rslice 0 128 f) : ((S128x128).Idx → EReal)) := by
  funext i
  idx_vars i
  pointwise []
  simp only [lift2, rslice]
  congr 2 <;> simp

theorem op_slices_S128x128_o0_2_S128x1 (f : Fun2) :
    extractStridedSlice S128x1 ![0, 2] (lift2 f : S128x128.Idx → EReal) slices_S128x128_o0_2_S128x1 = (lift2 (rslice 0 2 f) : ((S128x1).Idx → EReal)) := by
  funext i
  idx_vars i
  pointwise []
  simp only [lift2, rslice]
  congr 2 <;> simp

theorem op_slices_S8x128_o2_0_S1x128 (f : Fun2) :
    extractStridedSlice S1x128 ![2, 0] (lift2 f : S8x128.Idx → EReal) slices_S8x128_o2_0_S1x128 = (lift2 (rslice 2 0 f) : ((S1x128).Idx → EReal)) := by
  funext i
  idx_vars i
  pointwise []
  simp only [lift2, rslice]
  congr 2 <;> simp

theorem op_slices_S256x256_o0_128_S256x128 (f : Fun2) :
    extractStridedSlice S256x128 ![0, 128] (lift2 f : S256x256.Idx → EReal) slices_S256x256_o0_128_S256x128 = (lift2 (rslice 0 128 f) : ((S256x128).Idx → EReal)) := by
  funext i
  idx_vars i
  pointwise []
  simp only [lift2, rslice]
  congr 2 <;> simp

theorem op_slices_S128x128_o0_6_S128x1 (f : Fun2) :
    extractStridedSlice S128x1 ![0, 6] (lift2 f : S128x128.Idx → EReal) slices_S128x128_o0_6_S128x1 = (lift2 (rslice 0 6 f) : ((S128x1).Idx → EReal)) := by
  funext i
  idx_vars i
  pointwise []
  simp only [lift2, rslice]
  congr 2 <;> simp

theorem op_slices_S8x128_o6_0_S1x128 (f : Fun2) :
    extractStridedSlice S1x128 ![6, 0] (lift2 f : S8x128.Idx → EReal) slices_S8x128_o6_0_S1x128 = (lift2 (rslice 6 0 f) : ((S1x128).Idx → EReal)) := by
  funext i
  idx_vars i
  pointwise []
  simp only [lift2, rslice]
  congr 2 <;> simp

theorem op_slices_S128x128_o0_3_S128x1 (f : Fun2) :
    extractStridedSlice S128x1 ![0, 3] (lift2 f : S128x128.Idx → EReal) slices_S128x128_o0_3_S128x1 = (lift2 (rslice 0 3 f) : ((S128x1).Idx → EReal)) := by
  funext i
  idx_vars i
  pointwise []
  simp only [lift2, rslice]
  congr 2 <;> simp

theorem op_slices_S8x128_o3_0_S1x128 (f : Fun2) :
    extractStridedSlice S1x128 ![3, 0] (lift2 f : S8x128.Idx → EReal) slices_S8x128_o3_0_S1x128 = (lift2 (rslice 3 0 f) : ((S1x128).Idx → EReal)) := by
  funext i
  idx_vars i
  pointwise []
  simp only [lift2, rslice]
  congr 2 <;> simp

theorem op_slices_S128x128_o0_7_S128x1 (f : Fun2) :
    extractStridedSlice S128x1 ![0, 7] (lift2 f : S128x128.Idx → EReal) slices_S128x128_o0_7_S128x1 = (lift2 (rslice 0 7 f) : ((S128x1).Idx → EReal)) := by
  funext i
  idx_vars i
  pointwise []
  simp only [lift2, rslice]
  congr 2 <;> simp

theorem op_slices_S8x128_o7_0_S1x128 (f : Fun2) :
    extractStridedSlice S1x128 ![7, 0] (lift2 f : S8x128.Idx → EReal) slices_S8x128_o7_0_S1x128 = (lift2 (rslice 7 0 f) : ((S1x128).Idx → EReal)) := by
  funext i
  idx_vars i
  pointwise []
  simp only [lift2, rslice]
  congr 2 <;> simp

theorem op_dot_S128x128_S128x128_S128x128_1_0_0_1_n_n (f g : Fun2) :
    matmul (F := Ideal) (φ₁ := .bf16) (φ₂ := .bf16) dot_S128x128_S128x128_S128x128_1_0_0_1_n_n none (lift2 f : S128x128.Idx → EReal) (lift2 g : S128x128.Idx → EReal) (lift2 (rcst 0) : S128x128.Idx → EReal) = (lift2 (rmm 128 f g) : ((S128x128).Idx → EReal)) := by
  funext i
  idx_vars i
  pointwise []
  simp only [lift1_ix, lift2_ix, lift3_ix, liftB_ix, liftI_ix, rmm, rcst, ← EReal.coe_mul, sum_coe, EReal.coe_zero, zero_add, add_zero]

theorem op_transposes_S128x128_p1_0_S128x128 (f : Fun2) :
    transpose S128x128 [1, 0] (lift2 f : S128x128.Idx → EReal) transposes_S128x128_p1_0_S128x128 = (lift2 (rtr f) : ((S128x128).Idx → EReal)) := by
  funext i
  idx_vars i
  pointwise []
  simp only [lift1_ix, lift2_ix, lift3_ix, liftB_ix, liftI_ix, rtr]

theorem op_iota_S128x128_d0_w32  :
    iota .tc S128x128 32 [0] iota_S128x128_d0_w32 = (liftI (fun i j => i) : S128x128.Idx → BitVec 32) := by
  funext i
  idx_vars i
  pointwise []
  simp only [lift1_ix, lift2_ix, lift3_ix, liftB_ix, liftI_ix, ]

theorem op_shapeCasts_S128x128_S1x128x128_f32 (f : Fun2) :
    shapeCast (s := S128x128) (α := Ideal .f32) S1x128x128 (lift2 f) shapeCasts_S128x128_S1x128x128 = (lift3 (rst f) : ((S1x128x128).Idx → EReal)) := by
  funext i
  idx_vars i
  pointwise []
  simp only [lift1_ix, lift2_ix, lift3_ix, liftB_ix, liftI_ix, runst, rst, ras0, ras1, Fin.val_zero, Fin.isValue]

theorem op_shapeCasts_S1x8x128_S8x128_f32 (f : Fun3) :
    shapeCast (s := S1x8x128) (α := Ideal .f32) S8x128 (lift3 f) shapeCasts_S1x8x128_S8x128 = (lift2 (runst f) : ((S8x128).Idx → EReal)) := by
  funext i
  idx_vars i
  pointwise []
  simp only [lift1_ix, lift2_ix, lift3_ix, liftB_ix, liftI_ix, runst, rst, ras0, ras1, Fin.val_zero, Fin.isValue]

theorem op_broadcasts_S1x128_S8x128 (f : Fun2) :
    broadcastTo S8x128 (lift2 f : S1x128.Idx → EReal) broadcasts_S1x128_S8x128 = (lift2 (rrow f) : ((S8x128).Idx → EReal)) := by
  funext i
  idx_vars i
  pointwise []
  simp only [lift1_ix, lift2_ix, lift3_ix, liftB_ix, liftI_ix, rrow, Fin.val_zero, Fin.isValue]

theorem op_shapeCasts_S8x128_S1x8x128_f32 (f : Fun2) :
    shapeCast (s := S8x128) (α := Ideal .f32) S1x8x128 (lift2 f) shapeCasts_S8x128_S1x8x128 = (lift3 (rst f) : ((S1x8x128).Idx → EReal)) := by
  funext i
  idx_vars i
  pointwise []
  simp only [lift1_ix, lift2_ix, lift3_ix, liftB_ix, liftI_ix, runst, rst, ras0, ras1, Fin.val_zero, Fin.isValue]

theorem op_broadcasts_S1x256_S128x256 (f : Fun2) :
    broadcastTo S128x256 (lift2 f : S1x256.Idx → EReal) broadcasts_S1x256_S128x256 = (lift2 (rrow f) : ((S128x256).Idx → EReal)) := by
  funext i
  idx_vars i
  pointwise []
  simp only [lift1_ix, lift2_ix, lift3_ix, liftB_ix, liftI_ix, rrow, Fin.val_zero, Fin.isValue]

end Cert.KernelIdeal.Gen
-- ==== Proof.Pay.lean ====
module

public import proofs.«01_k».proof.Proof.Ops

/-! Each named value of the kernel's body, computed on lifts of real functions: `Rn` is the real function of value n, and `payn_eq` states that value n of
    lifts is the lift of `Rn`. -/

@[expose] public section

set_option maxRecDepth 16384

noncomputable section

namespace Cert.KernelIdeal.Gen

open Idealize.ShloMosaic Ssd

theorem rsub_self (f : Fun2) : rsub f f = rcst 0 := by funext i j; exact sub_self _
theorem rmm_zero (K : ℕ) (f : Fun2) : rmm K (rcst 0) f = rcst 0 := by funext i j; simp [rmm, rcst]
theorem radd_zero (f : Fun2) : radd f (rcst 0) = f := by funext i j; simp [radd, rcst]

theorem pay1_eq : k0_pay1 (F := Ideal) = lift3 (fun _ _ _ => 0) := by
  funext i
  idx_vars i
  pointwise [k0_pay1]
  rw [lift3_ix, EReal.coe_zero]

def R2 (v8 : Fun2) : Fun2 := v8
theorem pay2_eq (v8 : Fun2) :
    k0_pay2 (F := Ideal) (lift2 v8) = lift2 (R2 v8) := by
  unfold k0_pay2
  simp (proj := false) only [op_extf]
  rfl

def R3 (v6 : Fun2) : Fun2 := v6
theorem pay3_eq (v6 : Fun2) :
    k0_pay3 (F := Ideal) (lift2 v6) = lift2 (R3 v6) := by
  unfold k0_pay3
  simp (proj := false) only [op_truncf]
  rfl

def R4 (v7 : Fun2) : Fun2 := v7
theorem pay4_eq (v7 : Fun2) :
    k0_pay4 (F := Ideal) (lift2 v7) = lift2 (R4 v7) := by
  unfold k0_pay4
  simp (proj := false) only [op_truncf]
  rfl

def R5 (v8 : Fun2) : Fun2 := R2 v8
theorem pay5_eq (v8 : Fun2) :
    k0_pay5 (F := Ideal) (lift2 v8) = lift2 (R5 v8) := by
  unfold k0_pay5
  simp (proj := false) only [op_truncf, pay2_eq]
  rfl

def R6 (v6 v7 : Fun2) : Fun2 := rmmT 128 (R3 v6) (R4 v7)
theorem pay6_eq (v6 v7 : Fun2) :
    k0_pay6 (F := Ideal) (lift2 v6) (lift2 v7) = lift2 (R6 v6 v7) := by
  unfold k0_pay6
  simp (proj := false) only [op_constant_S128x128, op_dot_S128x128_S128x128_S128x128_1_1_0_0_n_n, pay3_eq, pay4_eq]
  rfl

def R7 (v19 : Fun3) : Fun2 := runst v19
theorem pay7_eq (v19 : Fun3) :
    k0_pay7 (F := Ideal) (lift3 v19) = lift2 (R7 v19) := by
  unfold k0_pay7
  simp (proj := false) only [op_shapeCasts_S1x128x128_S128x128_f32]
  rfl

def R8 (v21 : Fun3) : Fun2 := runst v21
theorem pay8_eq (v21 : Fun3) :
    k0_pay8 (F := Ideal) (lift3 v21) = lift2 (R8 v21) := by
  unfold k0_pay8
  simp (proj := false) only [op_shapeCasts_S1x128x128_S128x128_f32]
  rfl

def R9 (v23 : Fun2) : Fun2 := v23
theorem pay9_eq (v23 : Fun2) :
    k0_pay9 (F := Ideal) (lift2 v23) = lift2 (R9 v23) := by
  unfold k0_pay9
  simp (proj := false) only [op_shapeCasts_S8x128_S8x128_f32]
  rfl

def R10 (v19 : Fun3) : Fun2 := rexp (R7 v19)
theorem pay10_eq (v19 : Fun3) :
    k0_pay10 (F := Ideal) (lift3 v19) = lift2 (R10 v19) := by
  unfold k0_pay10
  simp (proj := false) only [op_exp_S128x128, pay7_eq]
  rfl

theorem pay11_eq  :
    k0_pay11 (F := Ideal)  = lift2 (rcst 0) := by
  unfold k0_pay11
  simp (proj := false) only [op_zero_S128x128, op_one_S128x128]

theorem pay12_eq : k0_pay12 (F := Ideal) = lift2 (rcst 0) := pay11_eq
theorem pay13_eq : k0_pay13 (F := Ideal) = lift2 (rcst 0) := pay11_eq
theorem pay14_eq : k0_pay14 (F := Ideal) = lift2 (rcst 0) := pay11_eq
theorem pay15_eq : k0_pay15 (F := Ideal) = lift2 (rcst 0) := pay11_eq
theorem pay16_eq : k0_pay16 (F := Ideal) = lift2 (rcst 0) := pay11_eq
theorem pay17_eq : k0_pay17 (F := Ideal) = lift2 (rcst 0) := pay11_eq
theorem pay18_eq : k0_pay18 (F := Ideal) = lift2 (rcst 0) := pay11_eq
theorem pay19_eq : k0_pay19 (F := Ideal) = lift2 (rcst 0) := pay11_eq
theorem pay20_eq : k0_pay20 (F := Ideal) = lift2 (rcst 0) := pay11_eq

def R21 (v36 : Fun3) : Fun2 := runst v36
theorem pay21_eq (v36 : Fun3) :
    k0_pay21 (F := Ideal) (lift3 v36) = lift2 (R21 v36) := by
  unfold k0_pay21
  simp (proj := false) only [op_extf, op_shapeCasts_S1x128x256_S128x256_bf16, op_shapeCasts_S1x128x256_S128x256_f32]
  rfl

def R22 (v39 : Fun3) : Fun2 := runst v39
theorem pay22_eq (v39 : Fun3) :
    k0_pay22 (F := Ideal) (lift3 v39) = lift2 (R22 v39) := by
  unfold k0_pay22
  simp (proj := false) only [op_extf, op_shapeCasts_S1x128x256_S128x256_bf16, op_shapeCasts_S1x128x256_S128x256_f32]
  rfl

def R23 (v36 : Fun3) : Fun2 := R21 v36
theorem pay23_eq (v36 : Fun3) :
    k0_pay23 (F := Ideal) (lift3 v36) = lift2 (R23 v36) := by
  unfold k0_pay23
  simp (proj := false) only [op_truncf, pay21_eq]
  rfl

def R24 (v39 : Fun3) : Fun2 := R22 v39
theorem pay24_eq (v39 : Fun3) :
    k0_pay24 (F := Ideal) (lift3 v39) = lift2 (R24 v39) := by
  unfold k0_pay24
  simp (proj := false) only [op_truncf, pay22_eq]
  rfl

def R25  : ℕ → ℕ → Bool := fun i j => decide (0 ≤ j) && decide (j < 4)
theorem pay25_eq  :
    k0_pay25  = liftB R25 := by
  unfold k0_pay25
  simp (proj := false) (disch := first | decide | (intros; omega)) only [op_iota_S128x128_d1_w32, op_word_S128x128, op_cmpi_sge_S128x128, op_cmpi_slt_S128x128, op_andi_S128x128]
  rfl

def R26 (v20 : Fun2) : Fun2 := rsel R25 v20 (rcst 0)
theorem pay26_eq (v20 : Fun2) :
    k0_pay26 (F := Ideal) (lift2 v20) = lift2 (R26 v20) := by
  unfold k0_pay26
  simp (proj := false) only [op_zero_S128x128, op_one_S128x128, op_select_S128x128, pay25_eq]
  rfl

def R27 (v20 : Fun2) : Fun2 := rslice 127 0 (R26 v20)
theorem pay27_eq (v20 : Fun2) :
    k0_pay27 (F := Ideal) (lift2 v20) = lift2 (R27 v20) := by
  unfold k0_pay27
  simp (proj := false) only [op_slices_S128x128_o127_0_S1x128, pay26_eq]
  rfl

def R28 (v20 : Fun2) : Fun2 := rexp (rsub (rrow (R27 v20)) (R26 v20))
theorem pay28_eq (v20 : Fun2) :
    k0_pay28 (F := Ideal) (lift2 v20) = lift2 (R28 v20) := by
  unfold k0_pay28
  simp (proj := false) only [op_exp_S128x128, op_broadcasts_S1x128_S128x128, op_subf_S128x128, pay26_eq, pay27_eq, rsub_self, rmm_zero, radd_zero]
  rfl

def R29 (v20 v22 : Fun2) : Fun2 := rmul (R28 v20) (rsel R25 v22 (rcst 0))
theorem pay29_eq (v20 v22 : Fun2) :
    k0_pay29 (F := Ideal) (lift2 v20) (lift2 v22) = lift2 (R29 v20 v22) := by
  unfold k0_pay29
  simp (proj := false) only [op_zero_S128x128, op_one_S128x128, op_select_S128x128, op_mulf_S128x128, pay25_eq, pay28_eq]
  rfl

def R30  : Fun2 := rsel (fun i j => decide (i = 0 + j / 64)) (rcst 1) (rcst 0)
theorem pay30_eq  :
    k0_pay30 (F := Ideal)  = lift2 R30 := by
  unfold k0_pay30
  simp (proj := false) (disch := first | decide | (intros; omega)) only [op_truncf, op_iota_S128x256_d0_w32, op_iota_S128x256_d1_w32, op_word_S128x256, op_shrsi_S128x256, op_addi_S128x256, op_cmpi_eq_S128x256, op_zero_S128x256, op_one_S128x256, op_select_S128x256]
  rfl

def R31  : Fun2 := rsel (fun i j => decide (j = 0 + i / 64)) (rcst 1) (rcst 0)
theorem pay31_eq  :
    k0_pay31 (F := Ideal) (liftI (fun i j => i)) (liftI (fun i j => j)) = lift2 R31 := by
  unfold k0_pay31
  simp (proj := false) (disch := first | decide | (intros; omega)) only [op_truncf, op_word_S256x128, op_shrsi_S256x128, op_addi_S256x128, op_cmpi_eq_S256x128, op_zero_S256x128, op_one_S256x128, op_select_S256x128]
  rfl

def R32 (v9 v25 v69 : Fun2) : Fun2 := rmul v9 (rmm 128 v25 v69)
theorem pay32_eq (v9 v25 v69 : Fun2) :
    k0_pay32 (F := Ideal) (lift2 v9) (lift2 v25) (lift2 v69) = lift2 (R32 v9 v25 v69) := by
  unfold k0_pay32
  simp (proj := false) only [op_truncf, op_extf, op_subf_S128x128, op_constant_S128x256, op_dot_S128x128_S128x256_S128x256_1_0_0_1_n_n, op_addf_S128x256, op_mulf_S128x256, rsub_self, rmm_zero, radd_zero]
  rfl

def R33 (v9 v25 v32 v42 v69 : Fun2) : Fun2 := radd v32 (rmmT 256 (R32 v9 v25 v69) v42)
theorem pay33_eq (v9 v25 v32 v42 v69 : Fun2) :
    k0_pay33 (F := Ideal) (lift2 v9) (lift2 v25) (lift2 v32) (lift2 v42) (lift2 v69) = lift2 (R33 v9 v25 v32 v42 v69) := by
  unfold k0_pay33
  simp (proj := false) only [op_truncf, op_constant_S128x128, op_dot_S128x256_S128x256_S128x128_1_1_0_0_n_n, op_addf_S128x128, pay32_eq]
  rfl

def R34 (v5 v31 v43 v58 v69 : Fun2) : Fun2 := radd v31 (rmmT 256 (rmul v5 (rmm 128 v58 v69)) v43)
theorem pay34_eq (v5 v31 v43 v58 v69 : Fun2) :
    k0_pay34 (F := Ideal) (lift2 v5) (lift2 v31) (lift2 v43) (lift2 v58) (lift2 v69) = lift2 (R34 v5 v31 v43 v58 v69) := by
  unfold k0_pay34
  simp (proj := false) only [op_truncf, op_extf, op_constant_S128x128, op_subf_S128x128, op_constant_S128x256, op_dot_S128x128_S128x256_S128x256_1_0_0_1_n_n, op_addf_S128x256, op_mulf_S128x256, op_dot_S128x256_S128x256_S128x128_1_1_0_0_n_n, op_addf_S128x128, rsub_self, rmm_zero, radd_zero]
  rfl

def R35 (v9 v11 v25 v33 v42 v69 : Fun2) : Fun2 := radd v33 (rmm 256 (rmul (R32 v9 v25 v69) (rmm 128 v11 v42)) R31)
theorem pay35_eq (v9 v11 v25 v33 v42 v69 : Fun2) :
    k0_pay35 (F := Ideal) (lift2 v9) (lift2 v11) (lift2 v25) (lift2 v33) (lift2 v42) (lift2 v69) (liftI (fun i j => i)) (liftI (fun i j => j)) = lift2 (R35 v9 v11 v25 v33 v42 v69) := by
  unfold k0_pay35
  simp (proj := false) only [op_truncf, op_extf, op_constant_S128x128, op_constant_S128x256, op_dot_S128x128_S128x256_S128x256_1_0_0_1_n_n, op_mulf_S128x256, op_addf_S128x128, op_subf_S128x256, op_dot_S128x256_S256x128_S128x128_1_0_0_1_n_n, pay31_eq, pay32_eq, rsub_self, rmm_zero, radd_zero]
  rfl

def R36 (v5 v10 v43 : Fun2) : Fun2 := rmul v5 (rmm 128 v10 v43)
theorem pay36_eq (v5 v10 v43 : Fun2) :
    k0_pay36 (F := Ideal) (lift2 v5) (lift2 v10) (lift2 v43) = lift2 (R36 v5 v10 v43) := by
  unfold k0_pay36
  simp (proj := false) only [op_constant_S128x256, op_dot_S128x128_S128x256_S128x256_1_0_0_1_n_n, op_mulf_S128x256]
  rfl

def R37 (v5 v10 v43 : Fun2) : Fun2 := R36 v5 v10 v43
theorem pay37_eq (v5 v10 v43 : Fun2) :
    k0_pay37 (F := Ideal) (lift2 v5) (lift2 v10) (lift2 v43) = lift2 (R37 v5 v10 v43) := by
  unfold k0_pay37
  simp (proj := false) only [op_truncf, pay36_eq]
  rfl

def R38 (v5 v10 v43 : Fun2) : Fun2 := rsub (R36 v5 v10 v43) (R37 v5 v10 v43)
theorem pay38_eq (v5 v10 v43 : Fun2) :
    k0_pay38 (F := Ideal) (lift2 v5) (lift2 v10) (lift2 v43) = lift2 (R38 v5 v10 v43) := by
  unfold k0_pay38
  simp (proj := false) only [op_extf, op_subf_S128x256, pay36_eq, pay37_eq, rsub_self, rmm_zero, radd_zero]
  rfl

def R39 (v80 v115 v117 : Fun2) : Fun2 := radd (rmm 256 v115 v80) (rmm 256 v117 v80)
theorem pay39_eq (v80 v115 v117 : Fun2) :
    k0_pay39 (F := Ideal) (lift2 v80) (lift2 v115) (lift2 v117) = lift2 (R39 v80 v115 v117) := by
  unfold k0_pay39
  simp (proj := false) only [op_truncf, op_constant_S128x128, op_addf_S128x128, op_dot_S128x256_S256x128_S128x128_1_0_0_1_n_n]
  rfl

def R40 (v34 v55 v80 v115 v117 : Fun2) : Fun2 := radd v34 (rmul v55 (R39 v80 v115 v117))
theorem pay40_eq (v34 v55 v80 v115 v117 : Fun2) :
    k0_pay40 (F := Ideal) (lift2 v34) (lift2 v55) (lift2 v80) (lift2 v115) (lift2 v117) = lift2 (R40 v34 v55 v80 v115 v117) := by
  unfold k0_pay40
  simp (proj := false) only [op_mulf_S128x128, op_addf_S128x128, pay39_eq]
  rfl

def R41 (v38 v41 v52 v58 v80 v113 v115 v117 : Fun2) : Fun2 := radd (rsub v113 (rmul v58 (R39 v80 v115 v117))) (rsel (fun i j => decide (i = 127)) (rrow (radd (ras0 (rsum0 128 (rmul v58 (R39 v80 v115 v117)))) (rmul (rexp v52) (rslice 0 0 (rmm 256 (rrow (ras0 (rsum0 128 (rmul v41 v38)))) v80))))) (rcst 0))
theorem pay41_eq (v38 v41 v52 v58 v80 v113 v115 v117 : Fun2) :
    k0_pay41 (F := Ideal) (liftI (fun i j => i)) (lift2 v38) (lift2 v41) (lift2 v52) (lift2 v58) (lift2 v80) (lift2 v113) (lift2 v115) (lift2 v117) = lift2 (R41 v38 v41 v52 v58 v80 v113 v115 v117) := by
  unfold k0_pay41
  simp (proj := false) (disch := first | decide | (intros; omega)) only [op_truncf, op_extf, op_zero_S128x128, op_one_S128x128, op_word_S128x128, op_select_S128x128, op_broadcasts_S1x128_S128x128, op_subf_S128x128, op_mulf_S128x128, op_mulf_S128x256, op_addf_S128x128, op_reduces_S128x256_S256, op_shapeCasts_S256_S1x256_f32, op_shapeCasts_S1x256_S1x256_f32, op_broadcasts_S1x256_S8x256, op_subf_S8x256, op_constant_S8x128, op_dot_S8x256_S256x128_S8x128_1_0_0_1_n_n, op_addf_S8x128, op_slices_S8x128_o0_0_S1x128, op_reduces_S128x128_S128, op_shapeCasts_S128_S1x128_f32, op_exp_S1x128, op_mulf_S1x128, op_addf_S1x128, op_cmpi_eq_S128x128, op_shapeCasts_S1x128_S1x128_f32, pay39_eq, rsub_self, rmm_zero, radd_zero]
  rfl

def R42 (v12 v43 : Fun2) : Fun2 := rcat0 v12 v43
theorem pay42_eq (v12 v43 : Fun2) :
    k0_pay42 (F := Ideal) (lift2 v12) (lift2 v43) = lift2 (R42 v12 v43) := by
  unfold k0_pay42
  simp (proj := false) only [op_concatenates_S128x256_S128x256_S256x256_d0]
  rfl

def R43  : ℕ → ℕ → Bool := fun i j => decide (i ≤ j)
theorem pay43_eq  :
    k0_pay43 (liftI (fun i j => i)) (liftI (fun i j => j)) = liftB R43 := by
  unfold k0_pay43
  simp (proj := false) (disch := first | decide | (intros; omega)) only [op_cmpi_sge_S128x128]
  rfl

def R44 (v153 : Fun3) : Fun2 := runst v153
theorem pay44_eq (v153 : Fun3) :
    k0_pay44 (F := Ideal) (lift3 v153) = lift2 (R44 v153) := by
  unfold k0_pay44
  simp (proj := false) only [op_extf, op_shapeCasts_S1x128x256_S128x256_bf16, op_shapeCasts_S1x128x256_S128x256_f32]
  rfl

def R45 (v156 : Fun3) : Fun2 := runst v156
theorem pay45_eq (v156 : Fun3) :
    k0_pay45 (F := Ideal) (lift3 v156) = lift2 (R45 v156) := by
  unfold k0_pay45
  simp (proj := false) only [op_extf, op_shapeCasts_S1x128x256_S128x256_bf16, op_shapeCasts_S1x128x256_S128x256_f32]
  rfl

def R46 (v153 : Fun3) : Fun2 := R44 v153
theorem pay46_eq (v153 : Fun3) :
    k0_pay46 (F := Ideal) (lift3 v153) = lift2 (R46 v153) := by
  unfold k0_pay46
  simp (proj := false) only [op_truncf, pay44_eq]
  rfl

def R47 (v156 : Fun3) : Fun2 := R45 v156
theorem pay47_eq (v156 : Fun3) :
    k0_pay47 (F := Ideal) (lift3 v156) = lift2 (R47 v156) := by
  unfold k0_pay47
  simp (proj := false) only [op_truncf, pay45_eq]
  rfl

theorem pay48_eq : k0_pay48 = liftI (fun _ _ => 4) := rfl

def R49  : ℕ → ℕ → Bool := fun i j => decide (4 ≤ j) && decide (j < 8)
theorem pay49_eq  :
    k0_pay49 (liftI (fun i j => j)) (liftI (fun _ _ => 4)) = liftB R49 := by
  unfold k0_pay49
  simp (proj := false) (disch := first | decide | (intros; omega)) only [op_word_S128x128, op_cmpi_sge_S128x128, op_cmpi_slt_S128x128, op_andi_S128x128]
  rfl

def R50 (v20 : Fun2) : Fun2 := rsel R49 v20 (rcst 0)
theorem pay50_eq (v20 : Fun2) :
    k0_pay50 (F := Ideal) (lift2 v20) (liftI (fun i j => j)) (liftI (fun _ _ => 4)) = lift2 (R50 v20) := by
  unfold k0_pay50
  simp (proj := false) only [op_zero_S128x128, op_one_S128x128, op_select_S128x128, pay49_eq]
  rfl

def R51 (v20 : Fun2) : Fun2 := rslice 0 0 (R50 v20)
theorem pay51_eq (v20 : Fun2) :
    k0_pay51 (F := Ideal) (lift2 v20) (liftI (fun i j => j)) (liftI (fun _ _ => 4)) = lift2 (R51 v20) := by
  unfold k0_pay51
  simp (proj := false) only [op_slices_S128x128_o0_0_S1x128, pay50_eq]
  rfl

def R52 (v20 : Fun2) : Fun2 := rexp (rsub (rrow (R51 v20)) (R50 v20))
theorem pay52_eq (v20 : Fun2) :
    k0_pay52 (F := Ideal) (lift2 v20) (liftI (fun i j => j)) (liftI (fun _ _ => 4)) = lift2 (R52 v20) := by
  unfold k0_pay52
  simp (proj := false) only [op_exp_S128x128, op_broadcasts_S1x128_S128x128, op_subf_S128x128, pay50_eq, pay51_eq, rsub_self, rmm_zero, radd_zero]
  rfl

def R53 (v20 v22 : Fun2) : Fun2 := rmul (R52 v20) (rsel R49 v22 (rcst 0))
theorem pay53_eq (v20 v22 : Fun2) :
    k0_pay53 (F := Ideal) (lift2 v20) (lift2 v22) (liftI (fun i j => j)) (liftI (fun _ _ => 4)) = lift2 (R53 v20 v22) := by
  unfold k0_pay53
  simp (proj := false) only [op_zero_S128x128, op_one_S128x128, op_select_S128x128, op_mulf_S128x128, pay49_eq, pay52_eq]
  rfl

def R54  : Fun2 := rsel (fun i j => decide (i = 4 + j / 64)) (rcst 1) (rcst 0)
theorem pay54_eq  :
    k0_pay54 (F := Ideal)  = lift2 R54 := by
  unfold k0_pay54
  simp (proj := false) (disch := first | decide | (intros; omega)) only [op_truncf, op_iota_S128x256_d0_w32, op_iota_S128x256_d1_w32, op_word_S128x256, op_shrsi_S128x256, op_addi_S128x256, op_cmpi_eq_S128x256, op_zero_S128x256, op_one_S128x256, op_select_S128x256]
  rfl

def R55  : Fun2 := rsel (fun i j => decide (j = 4 + i / 64)) (rcst 1) (rcst 0)
theorem pay55_eq  :
    k0_pay55 (F := Ideal)  = lift2 R55 := by
  unfold k0_pay55
  simp (proj := false) (disch := first | decide | (intros; omega)) only [op_truncf, op_word_S256x128, op_shrsi_S256x128, op_addi_S256x128, op_cmpi_eq_S256x128, op_zero_S256x128, op_one_S256x128, op_select_S256x128, op_iota_S256x128_d0_w32, op_iota_S256x128_d1_w32]
  rfl

def R56 (v25 : Fun2) : Fun2 := rmm 128 v25 R54
theorem pay56_eq (v25 : Fun2) :
    k0_pay56 (F := Ideal) (lift2 v25) = lift2 (R56 v25) := by
  unfold k0_pay56
  simp (proj := false) only [op_truncf, op_extf, op_subf_S128x128, op_constant_S128x256, op_dot_S128x128_S128x256_S128x256_1_0_0_1_n_n, op_addf_S128x256, pay54_eq, rsub_self, rmm_zero, radd_zero]
  rfl

def R57 (v20 v22 : Fun2) : Fun2 := R53 v20 v22
theorem pay57_eq (v20 v22 : Fun2) :
    k0_pay57 (F := Ideal) (lift2 v20) (lift2 v22) (liftI (fun i j => j)) (liftI (fun _ _ => 4)) = lift2 (R57 v20 v22) := by
  unfold k0_pay57
  simp (proj := false) only [op_truncf, pay53_eq]
  rfl

def R58 (v20 v22 : Fun2) : Fun2 := rsub (R53 v20 v22) (R57 v20 v22)
theorem pay58_eq (v20 v22 : Fun2) :
    k0_pay58 (F := Ideal) (lift2 v20) (lift2 v22) (liftI (fun i j => j)) (liftI (fun _ _ => 4)) = lift2 (R58 v20 v22) := by
  unfold k0_pay58
  simp (proj := false) only [op_truncf, op_extf, op_subf_S128x128, pay53_eq, pay57_eq, rsub_self, rmm_zero, radd_zero]
  rfl

def R59 (v9 v204 : Fun2) : Fun2 := rmul v9 v204
theorem pay59_eq (v9 v204 : Fun2) :
    k0_pay59 (F := Ideal) (lift2 v9) (lift2 v204) = lift2 (R59 v9 v204) := by
  unfold k0_pay59
  simp (proj := false) only [op_mulf_S128x256]
  rfl

def R60 (v9 v100 v159 v204 : Fun2) : Fun2 := radd v100 (rmmT 256 (R59 v9 v204) v159)
theorem pay60_eq (v9 v100 v159 v204 : Fun2) :
    k0_pay60 (F := Ideal) (lift2 v9) (lift2 v100) (lift2 v159) (lift2 v204) = lift2 (R60 v9 v100 v159 v204) := by
  unfold k0_pay60
  simp (proj := false) only [op_truncf, op_constant_S128x128, op_dot_S128x256_S128x256_S128x128_1_1_0_0_n_n, op_addf_S128x128, pay59_eq]
  rfl

def R61 (v5 v104 v160 v186 v205 v208 _ : Fun2) : Fun2 := radd v104 (rmmT 256 (rmul v5 (radd (rmm 128 v205 v186) (rmm 128 v208 v186))) v160)
theorem pay61_eq (v5 v104 v160 v186 v205 v208 : Fun2) :
    k0_pay61 (F := Ideal) (lift2 v5) (lift2 v104) (lift2 v160) (lift2 v186) (lift2 v205) (lift2 v208) (lift2 (rcst 0)) = lift2 (R61 v5 v104 v160 v186 v205 v208 (rcst 0)) := by
  unfold k0_pay61
  simp (proj := false) only [op_truncf, op_constant_S128x128, op_constant_S128x256, op_dot_S128x128_S128x256_S128x256_1_0_0_1_n_n, op_addf_S128x256, op_mulf_S128x256, op_dot_S128x256_S128x256_S128x128_1_1_0_0_n_n, op_addf_S128x128]
  rfl

def R62 (v5 v10 v160 v197 : Fun2) : Fun2 := rmm 256 (rmul v5 (rmm 128 v10 v160)) v197
theorem pay62_eq (v5 v10 v160 v197 : Fun2) :
    k0_pay62 (F := Ideal) (lift2 v5) (lift2 v10) (lift2 v160) (lift2 v197) = lift2 (R62 v5 v10 v160 v197) := by
  unfold k0_pay62
  simp (proj := false) only [op_truncf, op_extf, op_constant_S128x128, op_constant_S128x256, op_dot_S128x128_S128x256_S128x256_1_0_0_1_n_n, op_mulf_S128x256, op_addf_S128x128, op_subf_S128x256, op_dot_S128x256_S256x128_S128x128_1_0_0_1_n_n, rsub_self, rmm_zero, radd_zero]
  rfl

def R63 (v5 v10 v160 v175 v197 : Fun2) : Fun2 := rmul v175 (R62 v5 v10 v160 v197)
theorem pay63_eq (v5 v10 v160 v175 v197 : Fun2) :
    k0_pay63 (F := Ideal) (lift2 v5) (lift2 v10) (lift2 v160) (lift2 v175) (lift2 v197) = lift2 (R63 v5 v10 v160 v175 v197) := by
  unfold k0_pay63
  simp (proj := false) only [op_mulf_S128x128, pay62_eq]
  rfl

def R64 (v5 v9 v10 v11 v150 v159 v160 v175 v197 v204 : Fun2) : Fun2 := rsub (radd v150 (rmm 256 (rmul (R59 v9 v204) (rmm 128 v11 v159)) v197)) (R63 v5 v10 v160 v175 v197)
theorem pay64_eq (v5 v9 v10 v11 v150 v159 v160 v175 v197 v204 : Fun2) :
    k0_pay64 (F := Ideal) (lift2 v5) (lift2 v9) (lift2 v10) (lift2 v11) (lift2 v150) (lift2 v159) (lift2 v160) (lift2 v175) (lift2 v197) (lift2 v204) = lift2 (R64 v5 v9 v10 v11 v150 v159 v160 v175 v197 v204) := by
  unfold k0_pay64
  simp (proj := false) only [op_truncf, op_extf, op_constant_S128x128, op_subf_S128x128, op_constant_S128x256, op_dot_S128x128_S128x256_S128x256_1_0_0_1_n_n, op_mulf_S128x256, op_addf_S128x128, op_subf_S128x256, op_dot_S128x256_S256x128_S128x128_1_0_0_1_n_n, pay59_eq, pay63_eq, rsub_self, rmm_zero, radd_zero]
  rfl

def R65 (v5 v10 v125 v160 v172 v197 : Fun2) : Fun2 := radd v125 (rmul v172 (R62 v5 v10 v160 v197))
theorem pay65_eq (v5 v10 v125 v160 v172 v197 : Fun2) :
    k0_pay65 (F := Ideal) (lift2 v5) (lift2 v10) (lift2 v125) (lift2 v160) (lift2 v172) (lift2 v197) = lift2 (R65 v5 v10 v125 v160 v172 v197) := by
  unfold k0_pay65
  simp (proj := false) only [op_mulf_S128x128, op_addf_S128x128, pay62_eq]
  rfl

def R66 (v155 v158 v197 : Fun2) : Fun2 := rslice 0 0 (rmm 256 (rrow (ras0 (rsum0 128 (rmul v158 v155)))) v197)
theorem pay66_eq (v155 v158 v197 : Fun2) :
    k0_pay66 (F := Ideal) (lift2 v155) (lift2 v158) (lift2 v197) = lift2 (R66 v155 v158 v197) := by
  unfold k0_pay66
  simp (proj := false) only [op_truncf, op_extf, op_mulf_S128x256, op_reduces_S128x256_S256, op_shapeCasts_S256_S1x256_f32, op_shapeCasts_S1x256_S1x256_f32, op_broadcasts_S1x256_S8x256, op_subf_S8x256, op_constant_S8x128, op_dot_S8x256_S256x128_S8x128_1_0_0_1_n_n, op_addf_S8x128, op_slices_S8x128_o0_0_S1x128, rsub_self, rmm_zero, radd_zero]
  rfl

def R67 (v169 v239 v240 v255 : Fun2) : Fun2 := radd v240 (rsel (fun i j => decide (i = 0)) (rrow (radd (ras0 (rsum0 128 v239)) (rmul (rexp v169) v255))) (rcst 0))
theorem pay67_eq (v169 v239 v240 v255 : Fun2) :
    k0_pay67 (F := Ideal) (liftI (fun i j => i)) (lift2 v169) (lift2 v239) (lift2 v240) (lift2 v255) = lift2 (R67 v169 v239 v240 v255) := by
  unfold k0_pay67
  simp (proj := false) (disch := first | decide | (intros; omega)) only [op_zero_S128x128, op_one_S128x128, op_word_S128x128, op_select_S128x128, op_broadcasts_S1x128_S128x128, op_addf_S128x128, op_reduces_S128x128_S128, op_shapeCasts_S128_S1x128_f32, op_exp_S1x128, op_mulf_S1x128, op_addf_S1x128, op_cmpi_eq_S128x128, op_shapeCasts_S1x128_S1x128_f32]
  rfl

def R68 (v12 v160 : Fun2) : Fun2 := rcat0 v12 v160
theorem pay68_eq (v12 v160 : Fun2) :
    k0_pay68 (F := Ideal) (lift2 v12) (lift2 v160) = lift2 (R68 v12 v160) := by
  unfold k0_pay68
  simp (proj := false) only [op_concatenates_S128x256_S128x256_S256x256_d0]
  rfl

def R69  : ℕ → ℕ → Bool := fun i j => decide (j ≤ i)
theorem pay69_eq  :
    k0_pay69 (liftI (fun i j => i)) (liftI (fun i j => j)) = liftB R69 := by
  unfold k0_pay69
  simp (proj := false) (disch := first | decide | (intros; omega)) only [op_cmpi_sle_S128x128]
  rfl

def R70  : ℕ → ℕ → Bool := fun i j => decide (j / 64 = 0)
theorem pay70_eq  :
    k0_pay70 (liftI (fun i j => j)) = liftB R70 := by
  unfold k0_pay70
  simp (proj := false) (disch := first | decide | (intros; omega)) only [op_word_S128x128, op_cmpi_eq_S128x128, op_shrsi_S128x128]
  rfl

def R71 (v5 v12 : Fun2) : Fun2 := rmmT 128 (rsel R70 (rslice 0 0 v5) (rcst 0)) (rslice 0 0 v12)
theorem pay71_eq (v5 v12 : Fun2) :
    k0_pay71 (F := Ideal) (lift2 v5) (lift2 v12) (liftI (fun i j => j)) = lift2 (R71 v5 v12) := by
  unfold k0_pay71
  simp (proj := false) only [op_truncf, op_constant_S128x128, op_dot_S128x128_S128x128_S128x128_1_1_0_0_n_n, op_zero_S128x128, op_one_S128x128, op_select_S128x128, op_slices_S128x256_o0_0_S128x128, pay70_eq]
  rfl

def R72 (v5 v12 v13 : Fun2) : Fun2 := rmul (R71 v5 v12) v13
theorem pay72_eq (v5 v12 v13 : Fun2) :
    k0_pay72 (F := Ideal) (lift2 v5) (lift2 v12) (lift2 v13) (liftI (fun i j => j)) = lift2 (R72 v5 v12 v13) := by
  unfold k0_pay72
  simp (proj := false) only [op_mulf_S128x128, pay71_eq]
  rfl

def R73 (v22 : Fun2) : Fun2 := rslice 0 0 v22
theorem pay73_eq (v22 : Fun2) :
    k0_pay73 (F := Ideal) (lift2 v22) = lift2 (R73 v22) := by
  unfold k0_pay73
  simp (proj := false) only [op_slices_S128x128_o0_0_S128x1]
  rfl

def R74 (v20 v24 : Fun2) (v152 : ℕ → ℕ → Bool) : Fun2 := rsel v152 (rexp (rsub (rrow (rslice 0 0 v24)) (rcol (rslice 0 0 v20)))) (rcst 0)
theorem pay74_eq (v20 v24 : Fun2) (v152 : ℕ → ℕ → Bool) :
    k0_pay74 (F := Ideal) (lift2 v20) (lift2 v24) (liftB v152) = lift2 (R74 v20 v24 v152) := by
  unfold k0_pay74
  simp (proj := false) only [op_exp_S128x128, op_zero_S128x128, op_one_S128x128, op_select_S128x128, op_broadcasts_S1x128_S128x128, op_subf_S128x128, op_slices_S8x128_o0_0_S1x128, op_slices_S128x128_o0_0_S128x1, op_broadcasts_S128x1_S128x128, rsub_self, rmm_zero, radd_zero]
  rfl

def R75 (v20 v22 v24 : Fun2) (v152 : ℕ → ℕ → Bool) : Fun2 := rmul (R74 v20 v24 v152) (rcol (R73 v22))
theorem pay75_eq (v20 v22 v24 : Fun2) (v152 : ℕ → ℕ → Bool) :
    k0_pay75 (F := Ideal) (lift2 v20) (lift2 v22) (lift2 v24) (liftB v152) = lift2 (R75 v20 v22 v24 v152) := by
  unfold k0_pay75
  simp (proj := false) only [op_mulf_S128x128, op_broadcasts_S128x1_S128x128, op_shapeCasts_S128x1_S128x1_f32, pay73_eq, pay74_eq]
  rfl

def R76 (v6 v13 v20 v22 v24 v27 v58 v151 : Fun2) (v152 : ℕ → ℕ → Bool) : Fun2 := radd v27 (rsel R70 (rmm 256 (rcat1 (rmul v13 (R75 v20 v22 v24 v152)) (rmul v6 (rcol (rslice 0 0 v58)))) (rslice 0 0 v151)) (rcst 0))
theorem pay76_eq (v6 v13 v20 v22 v24 v27 v58 v151 : Fun2) (v152 : ℕ → ℕ → Bool) :
    k0_pay76 (F := Ideal) (lift2 v6) (lift2 v13) (liftI (fun i j => j)) (lift2 v20) (lift2 v22) (lift2 v24) (lift2 v27) (lift2 v58) (lift2 v151) (liftB v152) = lift2 (R76 v6 v13 v20 v22 v24 v27 v58 v151 v152) := by
  unfold k0_pay76
  dsimp only
  repeat first | rw [op_one_S128x128] | rw [op_mulf_S128x128] | rw [op_dot_S128x256_S256x128_S128x128_1_0_0_1_n_n] | rw [op_slices_S128x128_o0_0_S128x1] | rw [op_broadcasts_S128x1_S128x128] | rw [op_concatenates_S128x128_S128x128_S128x256_d1] | rw [op_slices_S256x256_o0_0_S256x128] | rw [pay70_eq] | rw [pay75_eq] | rw [rsub_self] | rw [rmm_zero] | rw [radd_zero]
  try simp (proj := false) only [op_truncf, op_constant_S128x128, op_zero_S128x128, op_one_S128x128, op_select_S128x128, op_mulf_S128x128, op_addf_S128x128, op_dot_S128x256_S256x128_S128x128_1_0_0_1_n_n, op_slices_S128x128_o0_0_S128x1, op_broadcasts_S128x1_S128x128, op_concatenates_S128x128_S128x128_S128x256_d1, op_slices_S256x256_o0_0_S256x128, pay70_eq, pay75_eq]
  rfl

def R77 (v5 v12 v13 v20 v24 : Fun2) (v152 : ℕ → ℕ → Bool) : ℕ → ℝ := rsum1 128 (rmul (R72 v5 v12 v13) (R74 v20 v24 v152))
theorem pay77_eq (v5 v12 v13 v20 v24 : Fun2) (v152 : ℕ → ℕ → Bool) :
    k0_pay77 (F := Ideal) (lift2 v5) (lift2 v12) (lift2 v13) (liftI (fun i j => j)) (lift2 v20) (lift2 v24) (liftB v152) = lift1 (R77 v5 v12 v13 v20 v24 v152) := by
  unfold k0_pay77
  simp (proj := false) only [op_mulf_S128x128, op_reduces_S128x128_S128_2, pay72_eq, pay74_eq]
  rfl

def R78 (v305 : ℕ → ℝ) : Fun2 := ras1 v305
theorem pay78_eq (v305 : ℕ → ℝ) :
    k0_pay78 (F := Ideal) (lift1 v305) = lift2 (R78 v305) := by
  unfold k0_pay78
  simp (proj := false) only [op_shapeCasts_S128_S128x1_f32]
  rfl

def R79 (v29 : Fun2) (v305 : ℕ → ℝ) : Fun2 := rsel (fun i j => decide (j = 0)) (rcol (R78 v305)) v29
theorem pay79_eq (v29 : Fun2) (v305 : ℕ → ℝ) :
    k0_pay79 (F := Ideal) (liftI (fun i j => j)) (lift2 v29) (lift1 v305) = lift2 (R79 v29 v305) := by
  unfold k0_pay79
  simp (proj := false) (disch := first | decide | (intros; omega)) only [op_word_S128x128, op_select_S128x128, op_cmpi_eq_S128x128, op_broadcasts_S128x1_S128x128, op_shapeCasts_S128x1_S128x1_f32, pay78_eq]
  rfl

def R80 (v30 v281 : Fun2) (v305 : ℕ → ℝ) : Fun2 := rsel (fun i j => decide (j = 0)) (rcol (rmul (R78 v305) v281)) v30
theorem pay80_eq (v30 v281 : Fun2) (v305 : ℕ → ℝ) :
    k0_pay80 (F := Ideal) (liftI (fun i j => j)) (lift2 v30) (lift2 v281) (lift1 v305) = lift2 (R80 v30 v281 v305) := by
  unfold k0_pay80
  simp (proj := false) (disch := first | decide | (intros; omega)) only [op_word_S128x128, op_select_S128x128, op_cmpi_eq_S128x128, op_broadcasts_S128x1_S128x128, op_shapeCasts_S128x1_S128x1_f32, op_mulf_S128x1, pay78_eq]
  rfl

def R81 (v35 v280 v292 : Fun2) : Fun2 := radd v35 (rsel (fun i j => decide (i = 0)) (rrow (ras0 (rsum0 128 (rmul v280 v292)))) (rcst 0))
theorem pay81_eq (v35 v280 v292 : Fun2) :
    k0_pay81 (F := Ideal) (liftI (fun i j => i)) (lift2 v35) (lift2 v280) (lift2 v292) = lift2 (R81 v35 v280 v292) := by
  unfold k0_pay81
  simp (proj := false) (disch := first | decide | (intros; omega)) only [op_zero_S128x128, op_one_S128x128, op_word_S128x128, op_select_S128x128, op_broadcasts_S1x128_S128x128, op_mulf_S128x128, op_addf_S128x128, op_reduces_S128x128_S128, op_shapeCasts_S128_S1x128_f32, op_cmpi_eq_S128x128, op_shapeCasts_S1x128_S1x128_f32]
  rfl

def R82 (v26 v279 v292 : Fun2) : Fun2 := radd v26 (rmul v279 v292)
theorem pay82_eq (v26 v279 v292 : Fun2) :
    k0_pay82 (F := Ideal) (lift2 v26) (lift2 v279) (lift2 v292) = lift2 (R82 v26 v279 v292) := by
  unfold k0_pay82
  simp (proj := false) only [op_mulf_S128x128, op_addf_S128x128]
  rfl

def R83 (v22 : Fun2) : Fun2 := rslice 0 4 v22
theorem pay83_eq (v22 : Fun2) :
    k0_pay83 (F := Ideal) (lift2 v22) = lift2 (R83 v22) := by
  unfold k0_pay83
  simp (proj := false) only [op_slices_S128x128_o0_4_S128x1]
  rfl

def R84 (v20 v24 : Fun2) (v269 : ℕ → ℕ → Bool) : Fun2 := rsel v269 (rexp (rsub (rrow (rslice 4 0 v24)) (rcol (rslice 0 4 v20)))) (rcst 0)
theorem pay84_eq (v20 v24 : Fun2) (v269 : ℕ → ℕ → Bool) :
    k0_pay84 (F := Ideal) (lift2 v20) (lift2 v24) (liftB v269) = lift2 (R84 v20 v24 v269) := by
  unfold k0_pay84
  simp (proj := false) only [op_exp_S128x128, op_zero_S128x128, op_one_S128x128, op_select_S128x128, op_broadcasts_S1x128_S128x128, op_subf_S128x128, op_broadcasts_S128x1_S128x128, op_slices_S128x128_o0_4_S128x1, op_slices_S8x128_o4_0_S1x128, rsub_self, rmm_zero, radd_zero]
  rfl

def R85 (v20 v22 v24 : Fun2) (v269 : ℕ → ℕ → Bool) : Fun2 := rmul (R84 v20 v24 v269) (rcol (R83 v22))
theorem pay85_eq (v20 v22 v24 : Fun2) (v269 : ℕ → ℕ → Bool) :
    k0_pay85 (F := Ideal) (lift2 v20) (lift2 v22) (lift2 v24) (liftB v269) = lift2 (R85 v20 v22 v24 v269) := by
  unfold k0_pay85
  simp (proj := false) only [op_mulf_S128x128, op_broadcasts_S128x1_S128x128, op_shapeCasts_S128x1_S128x1_f32, pay83_eq, pay84_eq]
  rfl

def R86 (v6 v13 v20 v22 v24 v175 v268 : Fun2) (v269 v273 : ℕ → ℕ → Bool) (v303 : Fun2) : Fun2 := radd v303 (rsel v273 (rmm 256 (rcat1 (rmul v13 (R85 v20 v22 v24 v269)) (rmul v6 (rcol (rslice 0 4 v175)))) (rslice 0 0 v268)) (rcst 0))
theorem pay86_eq (v6 v13 v20 v22 v24 v175 v268 : Fun2) (v269 v273 : ℕ → ℕ → Bool) (v303 : Fun2) :
    k0_pay86 (F := Ideal) (lift2 v6) (lift2 v13) (lift2 v20) (lift2 v22) (lift2 v24) (lift2 v175) (lift2 v268) (liftB v269) (liftB v273) (lift2 v303) = lift2 (R86 v6 v13 v20 v22 v24 v175 v268 v269 v273 v303) := by
  unfold k0_pay86
  dsimp only
  repeat first | rw [op_one_S128x128] | rw [op_mulf_S128x128] | rw [op_dot_S128x256_S256x128_S128x128_1_0_0_1_n_n] | rw [op_broadcasts_S128x1_S128x128] | rw [op_concatenates_S128x128_S128x128_S128x256_d1] | rw [op_slices_S256x256_o0_0_S256x128] | rw [op_slices_S128x128_o0_4_S128x1] | rw [pay85_eq] | rw [rsub_self] | rw [rmm_zero] | rw [radd_zero]
  try simp (proj := false) only [op_truncf, op_constant_S128x128, op_zero_S128x128, op_one_S128x128, op_select_S128x128, op_mulf_S128x128, op_addf_S128x128, op_dot_S128x256_S256x128_S128x128_1_0_0_1_n_n, op_broadcasts_S128x1_S128x128, op_concatenates_S128x128_S128x128_S128x256_d1, op_slices_S256x256_o0_0_S256x128, op_slices_S128x128_o0_4_S128x1, pay85_eq]
  rfl

def R87 (v20 v24 : Fun2) (v269 : ℕ → ℕ → Bool) (v280 : Fun2) : Fun2 := ras1 (rsum1 128 (rmul v280 (R84 v20 v24 v269)))
theorem pay87_eq (v20 v24 : Fun2) (v269 : ℕ → ℕ → Bool) (v280 : Fun2) :
    k0_pay87 (F := Ideal) (lift2 v20) (lift2 v24) (liftB v269) (lift2 v280) = lift2 (R87 v20 v24 v269 v280) := by
  unfold k0_pay87
  simp (proj := false) only [op_mulf_S128x128, op_reduces_S128x128_S128_2, op_shapeCasts_S128_S128x1_f32, pay84_eq]
  rfl

def R88 (v311 v355 : Fun2) : Fun2 := rsel (fun i j => decide (j = 4)) (rcol v355) v311
theorem pay88_eq (v311 v355 : Fun2) :
    k0_pay88 (F := Ideal) (liftI (fun i j => j)) (lift2 v311) (lift2 v355) 4#32 = lift2 (R88 v311 v355) := by
  unfold k0_pay88
  simp (proj := false) (disch := first | decide | (intros; omega)) only [op_word_S128x128, op_select_S128x128, op_cmpi_eq_S128x128, op_broadcasts_S128x1_S128x128, op_shapeCasts_S128x1_S128x1_f32]
  rfl

def R89 (v317 v330 v355 : Fun2) : Fun2 := rsel (fun i j => decide (j = 4)) (rcol (rmul v355 v330)) v317
theorem pay89_eq (v317 v330 v355 : Fun2) :
    k0_pay89 (F := Ideal) (liftI (fun i j => j)) (lift2 v317) (lift2 v330) (lift2 v355) = lift2 (R89 v317 v330 v355) := by
  unfold k0_pay89
  simp (proj := false) (disch := first | decide | (intros; omega)) only [op_word_S128x128, op_select_S128x128, op_cmpi_eq_S128x128, op_broadcasts_S128x1_S128x128, op_shapeCasts_S128x1_S128x1_f32, op_mulf_S128x1]
  rfl

def R90 (v280 v327 v341 : Fun2) : Fun2 := radd v327 (rsel (fun i j => decide (i = 4)) (rrow (ras0 (rsum0 128 (rmul v280 v341)))) (rcst 0))
theorem pay90_eq (v280 v327 v341 : Fun2) :
    k0_pay90 (F := Ideal) (liftI (fun i j => i)) (lift2 v280) (lift2 v327) (lift2 v341) = lift2 (R90 v280 v327 v341) := by
  unfold k0_pay90
  simp (proj := false) (disch := first | decide | (intros; omega)) only [op_zero_S128x128, op_one_S128x128, op_word_S128x128, op_select_S128x128, op_broadcasts_S1x128_S128x128, op_mulf_S128x128, op_addf_S128x128, op_reduces_S128x128_S128, op_shapeCasts_S128_S1x128_f32, op_cmpi_eq_S128x128, op_shapeCasts_S1x128_S1x128_f32]
  rfl

def R91 (v279 v329 v341 : Fun2) : Fun2 := radd v329 (rmul v279 v341)
theorem pay91_eq (v279 v329 v341 : Fun2) :
    k0_pay91 (F := Ideal) (lift2 v279) (lift2 v329) (lift2 v341) = lift2 (R91 v279 v329 v341) := by
  unfold k0_pay91
  simp (proj := false) only [op_mulf_S128x128, op_addf_S128x128]
  rfl

def R92  : ℕ → ℕ → Bool := fun i j => decide (j / 64 = 1)
theorem pay92_eq  :
    k0_pay92 (liftI (fun i j => j)) = liftB R92 := by
  unfold k0_pay92
  simp (proj := false) (disch := first | decide | (intros; omega)) only [op_word_S128x128, op_cmpi_eq_S128x128, op_shrsi_S128x128]
  rfl

def R93 (v5 v12 : Fun2) : Fun2 := rmmT 128 (rsel R92 (rslice 0 0 v5) (rcst 0)) (rslice 0 0 v12)
theorem pay93_eq (v5 v12 : Fun2) :
    k0_pay93 (F := Ideal) (lift2 v5) (lift2 v12) (liftI (fun i j => j)) = lift2 (R93 v5 v12) := by
  unfold k0_pay93
  simp (proj := false) only [op_truncf, op_constant_S128x128, op_dot_S128x128_S128x128_S128x128_1_1_0_0_n_n, op_zero_S128x128, op_one_S128x128, op_select_S128x128, op_slices_S128x256_o0_0_S128x128, pay92_eq]
  rfl

def R94 (v5 v12 v13 : Fun2) : Fun2 := rmul (R93 v5 v12) v13
theorem pay94_eq (v5 v12 v13 : Fun2) :
    k0_pay94 (F := Ideal) (lift2 v5) (lift2 v12) (lift2 v13) (liftI (fun i j => j)) = lift2 (R94 v5 v12 v13) := by
  unfold k0_pay94
  simp (proj := false) only [op_mulf_S128x128, pay93_eq]
  rfl

def R95 (v22 : Fun2) : Fun2 := rslice 0 1 v22
theorem pay95_eq (v22 : Fun2) :
    k0_pay95 (F := Ideal) (lift2 v22) = lift2 (R95 v22) := by
  unfold k0_pay95
  simp (proj := false) only [op_slices_S128x128_o0_1_S128x1]
  rfl

def R96 (v20 v24 : Fun2) (v152 : ℕ → ℕ → Bool) : Fun2 := rsel v152 (rexp (rsub (rrow (rslice 1 0 v24)) (rcol (rslice 0 1 v20)))) (rcst 0)
theorem pay96_eq (v20 v24 : Fun2) (v152 : ℕ → ℕ → Bool) :
    k0_pay96 (F := Ideal) (lift2 v20) (lift2 v24) (liftB v152) = lift2 (R96 v20 v24 v152) := by
  unfold k0_pay96
  simp (proj := false) only [op_exp_S128x128, op_zero_S128x128, op_one_S128x128, op_select_S128x128, op_broadcasts_S1x128_S128x128, op_subf_S128x128, op_broadcasts_S128x1_S128x128, op_slices_S128x128_o0_1_S128x1, op_slices_S8x128_o1_0_S1x128, rsub_self, rmm_zero, radd_zero]
  rfl

def R97 (v20 v22 v24 : Fun2) (v152 : ℕ → ℕ → Bool) : Fun2 := rmul (R96 v20 v24 v152) (rcol (R95 v22))
theorem pay97_eq (v20 v22 v24 : Fun2) (v152 : ℕ → ℕ → Bool) :
    k0_pay97 (F := Ideal) (lift2 v20) (lift2 v22) (lift2 v24) (liftB v152) = lift2 (R97 v20 v22 v24 v152) := by
  unfold k0_pay97
  simp (proj := false) only [op_mulf_S128x128, op_broadcasts_S128x1_S128x128, op_shapeCasts_S128x1_S128x1_f32, pay95_eq, pay96_eq]
  rfl

def R98 (v6 v13 v20 v22 v24 v58 : Fun2) (v152 : ℕ → ℕ → Bool) : Fun2 := rcat1 (rmul v13 (R97 v20 v22 v24 v152)) (rmul v6 (rcol (rslice 0 1 v58)))
theorem pay98_eq (v6 v13 v20 v22 v24 v58 : Fun2) (v152 : ℕ → ℕ → Bool) :
    k0_pay98 (F := Ideal) (lift2 v6) (lift2 v13) (lift2 v20) (lift2 v22) (lift2 v24) (lift2 v58) (liftB v152) = lift2 (R98 v6 v13 v20 v22 v24 v58 v152) := by
  unfold k0_pay98
  dsimp only
  repeat first | rw [op_mulf_S128x128] | rw [op_broadcasts_S128x1_S128x128] | rw [op_concatenates_S128x128_S128x128_S128x256_d1] | rw [op_slices_S128x128_o0_1_S128x1] | rw [pay97_eq] | rw [rsub_self] | rw [rmm_zero] | rw [radd_zero]
  try simp (proj := false) only [op_mulf_S128x128, op_broadcasts_S128x1_S128x128, op_concatenates_S128x128_S128x128_S128x256_d1, op_slices_S128x128_o0_1_S128x1, pay97_eq]
  rfl

def R99 (v151 v352 : Fun2) (v382 : ℕ → ℕ → Bool) (v406 : Fun2) : Fun2 := radd v352 (rsel v382 (rmm 256 v406 (rslice 0 0 v151)) (rcst 0))
theorem pay99_eq (v151 v352 : Fun2) (v382 : ℕ → ℕ → Bool) (v406 : Fun2) :
    k0_pay99 (F := Ideal) (lift2 v151) (lift2 v352) (liftB v382) (lift2 v406) = lift2 (R99 v151 v352 v382 v406) := by
  unfold k0_pay99
  simp (proj := false) only [op_truncf, op_constant_S128x128, op_zero_S128x128, op_one_S128x128, op_select_S128x128, op_addf_S128x128, op_dot_S128x256_S256x128_S128x128_1_0_0_1_n_n, op_slices_S256x256_o0_0_S256x128]
  rfl

def R100 (v389 v398 : Fun2) : Fun2 := ras1 (rsum1 128 (rmul v389 v398))
theorem pay100_eq (v389 v398 : Fun2) :
    k0_pay100 (F := Ideal) (lift2 v389) (lift2 v398) = lift2 (R100 v389 v398) := by
  unfold k0_pay100
  simp (proj := false) only [op_mulf_S128x128, op_reduces_S128x128_S128_2, op_shapeCasts_S128_S128x1_f32]
  rfl

def R101 (v360 v389 v398 : Fun2) : Fun2 := rsel (fun i j => decide (j = 1)) (rcol (R100 v389 v398)) v360
theorem pay101_eq (v360 v389 v398 : Fun2) :
    k0_pay101 (F := Ideal) (liftI (fun i j => j)) (lift2 v360) (lift2 v389) (lift2 v398) = lift2 (R101 v360 v389 v398) := by
  unfold k0_pay101
  simp (proj := false) (disch := first | decide | (intros; omega)) only [op_word_S128x128, op_select_S128x128, op_cmpi_eq_S128x128, op_broadcasts_S128x1_S128x128, op_shapeCasts_S128x1_S128x1_f32, pay100_eq]
  rfl

def R102 (v366 v389 v390 v398 : Fun2) : Fun2 := rsel (fun i j => decide (j = 1)) (rcol (rmul (R100 v389 v398) v390)) v366
theorem pay102_eq (v366 v389 v390 v398 : Fun2) :
    k0_pay102 (F := Ideal) (liftI (fun i j => j)) (lift2 v366) (lift2 v389) (lift2 v390) (lift2 v398) = lift2 (R102 v366 v389 v390 v398) := by
  unfold k0_pay102
  simp (proj := false) (disch := first | decide | (intros; omega)) only [op_word_S128x128, op_select_S128x128, op_cmpi_eq_S128x128, op_broadcasts_S128x1_S128x128, op_shapeCasts_S128x1_S128x1_f32, op_mulf_S128x1, pay100_eq]
  rfl

def R103 (v376 v389 v401 : Fun2) : Fun2 := radd v376 (rsel (fun i j => decide (i = 1)) (rrow (ras0 (rsum0 128 (rmul v389 v401)))) (rcst 0))
theorem pay103_eq (v376 v389 v401 : Fun2) :
    k0_pay103 (F := Ideal) (liftI (fun i j => i)) (lift2 v376) (lift2 v389) (lift2 v401) = lift2 (R103 v376 v389 v401) := by
  unfold k0_pay103
  simp (proj := false) (disch := first | decide | (intros; omega)) only [op_zero_S128x128, op_one_S128x128, op_word_S128x128, op_select_S128x128, op_broadcasts_S1x128_S128x128, op_mulf_S128x128, op_addf_S128x128, op_reduces_S128x128_S128, op_shapeCasts_S128_S1x128_f32, op_cmpi_eq_S128x128, op_shapeCasts_S1x128_S1x128_f32]
  rfl

def R104 (v378 v388 v401 : Fun2) : Fun2 := radd v378 (rmul v388 v401)
theorem pay104_eq (v378 v388 v401 : Fun2) :
    k0_pay104 (F := Ideal) (lift2 v378) (lift2 v388) (lift2 v401) = lift2 (R104 v378 v388 v401) := by
  unfold k0_pay104
  simp (proj := false) only [op_mulf_S128x128, op_addf_S128x128]
  rfl

def R105 (v22 : Fun2) : Fun2 := rslice 0 5 v22
theorem pay105_eq (v22 : Fun2) :
    k0_pay105 (F := Ideal) (lift2 v22) = lift2 (R105 v22) := by
  unfold k0_pay105
  simp (proj := false) only [op_slices_S128x128_o0_5_S128x1]
  rfl

def R106 (v20 v24 : Fun2) (v269 : ℕ → ℕ → Bool) : Fun2 := rsel v269 (rexp (rsub (rrow (rslice 5 0 v24)) (rcol (rslice 0 5 v20)))) (rcst 0)
theorem pay106_eq (v20 v24 : Fun2) (v269 : ℕ → ℕ → Bool) :
    k0_pay106 (F := Ideal) (lift2 v20) (lift2 v24) (liftB v269) = lift2 (R106 v20 v24 v269) := by
  unfold k0_pay106
  simp (proj := false) only [op_exp_S128x128, op_zero_S128x128, op_one_S128x128, op_select_S128x128, op_broadcasts_S1x128_S128x128, op_subf_S128x128, op_broadcasts_S128x1_S128x128, op_slices_S128x128_o0_5_S128x1, op_slices_S8x128_o5_0_S1x128, rsub_self, rmm_zero, radd_zero]
  rfl

def R107 (v20 v22 v24 : Fun2) (v269 : ℕ → ℕ → Bool) : Fun2 := rmul (R106 v20 v24 v269) (rcol (R105 v22))
theorem pay107_eq (v20 v22 v24 : Fun2) (v269 : ℕ → ℕ → Bool) :
    k0_pay107 (F := Ideal) (lift2 v20) (lift2 v22) (lift2 v24) (liftB v269) = lift2 (R107 v20 v22 v24 v269) := by
  unfold k0_pay107
  simp (proj := false) only [op_mulf_S128x128, op_broadcasts_S128x1_S128x128, op_shapeCasts_S128x1_S128x1_f32, pay105_eq, pay106_eq]
  rfl

def R108 (v6 v13 v20 v22 v24 v175 : Fun2) (v269 : ℕ → ℕ → Bool) : Fun2 := rcat1 (rmul v13 (R107 v20 v22 v24 v269)) (rmul v6 (rcol (rslice 0 5 v175)))
theorem pay108_eq (v6 v13 v20 v22 v24 v175 : Fun2) (v269 : ℕ → ℕ → Bool) :
    k0_pay108 (F := Ideal) (lift2 v6) (lift2 v13) (lift2 v20) (lift2 v22) (lift2 v24) (lift2 v175) (liftB v269) = lift2 (R108 v6 v13 v20 v22 v24 v175 v269) := by
  unfold k0_pay108
  dsimp only
  repeat first | rw [op_mulf_S128x128] | rw [op_broadcasts_S128x1_S128x128] | rw [op_concatenates_S128x128_S128x128_S128x256_d1] | rw [op_slices_S128x128_o0_5_S128x1] | rw [pay107_eq] | rw [rsub_self] | rw [rmm_zero] | rw [radd_zero]
  try simp (proj := false) only [op_truncf, op_mulf_S128x128, op_broadcasts_S128x1_S128x128, op_concatenates_S128x128_S128x128_S128x256_d1, op_slices_S128x128_o0_5_S128x1, pay107_eq]
  rfl

def R109 (v268 : Fun2) : Fun2 := rslice 0 0 v268
theorem pay109_eq (v268 : Fun2) :
    k0_pay109 (F := Ideal) (lift2 v268) = lift2 (R109 v268) := by
  unfold k0_pay109
  simp (proj := false) only [op_slices_S256x256_o0_0_S256x128]
  rfl

def R110 (v382 : ℕ → ℕ → Bool) (v412 v456 v457 : Fun2) : Fun2 := radd v412 (rsel v382 (rmm 256 v456 v457) (rcst 0))
theorem pay110_eq (v382 : ℕ → ℕ → Bool) (v412 v456 v457 : Fun2) :
    k0_pay110 (F := Ideal) (liftB v382) (lift2 v412) (lift2 v456) (lift2 v457) = lift2 (R110 v382 v412 v456 v457) := by
  unfold k0_pay110
  simp (proj := false) only [op_constant_S128x128, op_zero_S128x128, op_one_S128x128, op_select_S128x128, op_addf_S128x128, op_dot_S128x256_S256x128_S128x128_1_0_0_1_n_n]
  rfl

def R111 (v389 v447 : Fun2) : Fun2 := ras1 (rsum1 128 (rmul v389 v447))
theorem pay111_eq (v389 v447 : Fun2) :
    k0_pay111 (F := Ideal) (lift2 v389) (lift2 v447) = lift2 (R111 v389 v447) := by
  unfold k0_pay111
  simp (proj := false) only [op_mulf_S128x128, op_reduces_S128x128_S128_2, op_shapeCasts_S128_S128x1_f32]
  rfl

def R112 (v389 v420 v447 : Fun2) : Fun2 := rsel (fun i j => decide (j = 5)) (rcol (R111 v389 v447)) v420
theorem pay112_eq (v389 v420 v447 : Fun2) :
    k0_pay112 (F := Ideal) (liftI (fun i j => j)) (lift2 v389) (lift2 v420) (lift2 v447) = lift2 (R112 v389 v420 v447) := by
  unfold k0_pay112
  simp (proj := false) (disch := first | decide | (intros; omega)) only [op_word_S128x128, op_select_S128x128, op_cmpi_eq_S128x128, op_broadcasts_S128x1_S128x128, op_shapeCasts_S128x1_S128x1_f32, pay111_eq]
  rfl

def R113 (v389 v426 v439 v447 : Fun2) : Fun2 := rsel (fun i j => decide (j = 5)) (rcol (rmul (R111 v389 v447) v439)) v426
theorem pay113_eq (v389 v426 v439 v447 : Fun2) :
    k0_pay113 (F := Ideal) (liftI (fun i j => j)) (lift2 v389) (lift2 v426) (lift2 v439) (lift2 v447) = lift2 (R113 v389 v426 v439 v447) := by
  unfold k0_pay113
  simp (proj := false) (disch := first | decide | (intros; omega)) only [op_word_S128x128, op_select_S128x128, op_cmpi_eq_S128x128, op_broadcasts_S128x1_S128x128, op_shapeCasts_S128x1_S128x1_f32, op_mulf_S128x1, pay111_eq]
  rfl

def R114 (v389 v436 v450 : Fun2) : Fun2 := radd v436 (rsel (fun i j => decide (i = 5)) (rrow (ras0 (rsum0 128 (rmul v389 v450)))) (rcst 0))
theorem pay114_eq (v389 v436 v450 : Fun2) :
    k0_pay114 (F := Ideal) (liftI (fun i j => i)) (lift2 v389) (lift2 v436) (lift2 v450) = lift2 (R114 v389 v436 v450) := by
  unfold k0_pay114
  simp (proj := false) (disch := first | decide | (intros; omega)) only [op_zero_S128x128, op_one_S128x128, op_word_S128x128, op_select_S128x128, op_broadcasts_S1x128_S128x128, op_mulf_S128x128, op_addf_S128x128, op_reduces_S128x128_S128, op_shapeCasts_S128_S1x128_f32, op_cmpi_eq_S128x128, op_shapeCasts_S1x128_S1x128_f32]
  rfl

def R115 (v388 v438 v450 : Fun2) : Fun2 := radd v438 (rmul v388 v450)
theorem pay115_eq (v388 v438 v450 : Fun2) :
    k0_pay115 (F := Ideal) (lift2 v388) (lift2 v438) (lift2 v450) = lift2 (R115 v388 v438 v450) := by
  unfold k0_pay115
  simp (proj := false) only [op_mulf_S128x128, op_addf_S128x128]
  rfl

def R116  : ℕ → ℕ → Bool := fun i j => decide (j / 64 = 0)
theorem pay116_eq  :
    k0_pay116 (liftI (fun i j => j)) = liftB R116 := by
  unfold k0_pay116
  simp (proj := false) (disch := first | decide | (intros; omega)) only [op_word_S128x128, op_cmpi_eq_S128x128, op_shrsi_S128x128]
  rfl

def R117 (v5 v12 : Fun2) : Fun2 := rmmT 128 (rsel R116 (rslice 0 128 v5) (rcst 0)) (rslice 0 128 v12)
theorem pay117_eq (v5 v12 : Fun2) :
    k0_pay117 (F := Ideal) (lift2 v5) (lift2 v12) (liftI (fun i j => j)) = lift2 (R117 v5 v12) := by
  unfold k0_pay117
  simp (proj := false) only [op_truncf, op_constant_S128x128, op_dot_S128x128_S128x128_S128x128_1_1_0_0_n_n, op_zero_S128x128, op_one_S128x128, op_select_S128x128, op_slices_S128x256_o0_128_S128x128, pay116_eq]
  rfl

def R118 (v5 v12 v13 : Fun2) : Fun2 := rmul (R117 v5 v12) v13
theorem pay118_eq (v5 v12 v13 : Fun2) :
    k0_pay118 (F := Ideal) (lift2 v5) (lift2 v12) (lift2 v13) (liftI (fun i j => j)) = lift2 (R118 v5 v12 v13) := by
  unfold k0_pay118
  simp (proj := false) only [op_mulf_S128x128, pay117_eq]
  rfl

def R119 (v22 : Fun2) : Fun2 := rslice 0 2 v22
theorem pay119_eq (v22 : Fun2) :
    k0_pay119 (F := Ideal) (lift2 v22) = lift2 (R119 v22) := by
  unfold k0_pay119
  simp (proj := false) only [op_slices_S128x128_o0_2_S128x1]
  rfl

def R120 (v20 v24 : Fun2) : Fun2 := rexp (rsub (rrow (rslice 2 0 v24)) (rcol (rslice 0 2 v20)))
theorem pay120_eq (v20 v24 : Fun2) :
    k0_pay120 (F := Ideal) (lift2 v20) (lift2 v24) = lift2 (R120 v20 v24) := by
  unfold k0_pay120
  simp (proj := false) only [op_exp_S128x128, op_broadcasts_S1x128_S128x128, op_subf_S128x128, op_broadcasts_S128x1_S128x128, op_slices_S128x128_o0_2_S128x1, op_slices_S8x128_o2_0_S1x128, rsub_self, rmm_zero, radd_zero]
  rfl

def R121 (v152 : ℕ → ℕ → Bool) (v505 : Fun2) : Fun2 := rsel v152 v505 (rcst 0)
theorem pay121_eq (v152 : ℕ → ℕ → Bool) (v505 : Fun2) :
    k0_pay121 (F := Ideal) (liftB v152) (lift2 v505) = lift2 (R121 v152 v505) := by
  unfold k0_pay121
  simp (proj := false) only [op_zero_S128x128, op_one_S128x128, op_select_S128x128]
  rfl

def R122 (v152 : ℕ → ℕ → Bool) (v499 v505 : Fun2) : Fun2 := rmul (R121 v152 v505) (rcol v499)
theorem pay122_eq (v152 : ℕ → ℕ → Bool) (v499 v505 : Fun2) :
    k0_pay122 (F := Ideal) (liftB v152) (lift2 v499) (lift2 v505) = lift2 (R122 v152 v499 v505) := by
  unfold k0_pay122
  simp (proj := false) only [op_mulf_S128x128, op_broadcasts_S128x1_S128x128, op_shapeCasts_S128x1_S128x1_f32, pay121_eq]
  rfl

def R123 (v6 v13 v28 v58 v151 : Fun2) (v152 v491 : ℕ → ℕ → Bool) (v499 v505 : Fun2) : Fun2 := radd v28 (rsel v491 (rmm 256 (rcat1 (rmul v13 (R122 v152 v499 v505)) (rmul v6 (rcol (rslice 0 2 v58)))) (rslice 0 128 v151)) (rcst 0))
theorem pay123_eq (v6 v13 v28 v58 v151 : Fun2) (v152 v491 : ℕ → ℕ → Bool) (v499 v505 : Fun2) :
    k0_pay123 (F := Ideal) (lift2 v6) (lift2 v13) (lift2 v28) (lift2 v58) (lift2 v151) (liftB v152) (liftB v491) (lift2 v499) (lift2 v505) = lift2 (R123 v6 v13 v28 v58 v151 v152 v491 v499 v505) := by
  unfold k0_pay123
  dsimp only
  repeat first | rw [op_one_S128x128] | rw [op_mulf_S128x128] | rw [op_dot_S128x256_S256x128_S128x128_1_0_0_1_n_n] | rw [op_broadcasts_S128x1_S128x128] | rw [op_concatenates_S128x128_S128x128_S128x256_d1] | rw [op_slices_S128x128_o0_2_S128x1] | rw [op_slices_S256x256_o0_128_S256x128] | rw [pay122_eq] | rw [rsub_self] | rw [rmm_zero] | rw [radd_zero]
  try simp (proj := false) only [op_truncf, op_constant_S128x128, op_zero_S128x128, op_one_S128x128, op_select_S128x128, op_mulf_S128x128, op_addf_S128x128, op_dot_S128x256_S256x128_S128x128_1_0_0_1_n_n, op_broadcasts_S128x1_S128x128, op_concatenates_S128x128_S128x128_S128x256_d1, op_slices_S128x128_o0_2_S128x1, op_slices_S256x256_o0_128_S256x128, pay122_eq]
  rfl

def R124 (v152 : ℕ → ℕ → Bool) (v498 v505 : Fun2) : Fun2 := ras1 (rsum1 128 (rmul v498 (R121 v152 v505)))
theorem pay124_eq (v152 : ℕ → ℕ → Bool) (v498 v505 : Fun2) :
    k0_pay124 (F := Ideal) (liftB v152) (lift2 v498) (lift2 v505) = lift2 (R124 v152 v498 v505) := by
  unfold k0_pay124
  simp (proj := false) only [op_mulf_S128x128, op_reduces_S128x128_S128_2, op_shapeCasts_S128_S128x1_f32, pay121_eq]
  rfl

def R125 (v152 : ℕ → ℕ → Bool) (v469 v498 v505 : Fun2) : Fun2 := rsel (fun i j => decide (j = 2)) (rcol (R124 v152 v498 v505)) v469
theorem pay125_eq (v152 : ℕ → ℕ → Bool) (v469 v498 v505 : Fun2) :
    k0_pay125 (F := Ideal) (liftI (fun i j => j)) (liftB v152) (lift2 v469) (lift2 v498) (lift2 v505) = lift2 (R125 v152 v469 v498 v505) := by
  unfold k0_pay125
  simp (proj := false) (disch := first | decide | (intros; omega)) only [op_word_S128x128, op_select_S128x128, op_cmpi_eq_S128x128, op_broadcasts_S128x1_S128x128, op_shapeCasts_S128x1_S128x1_f32, pay124_eq]
  rfl

def R126 (v152 : ℕ → ℕ → Bool) (v475 v498 v499 v505 : Fun2) : Fun2 := rsel (fun i j => decide (j = 2)) (rcol (rmul (R124 v152 v498 v505) v499)) v475
theorem pay126_eq (v152 : ℕ → ℕ → Bool) (v475 v498 v499 v505 : Fun2) :
    k0_pay126 (F := Ideal) (liftI (fun i j => j)) (liftB v152) (lift2 v475) (lift2 v498) (lift2 v499) (lift2 v505) = lift2 (R126 v152 v475 v498 v499 v505) := by
  unfold k0_pay126
  simp (proj := false) (disch := first | decide | (intros; omega)) only [op_word_S128x128, op_select_S128x128, op_cmpi_eq_S128x128, op_broadcasts_S128x1_S128x128, op_shapeCasts_S128x1_S128x1_f32, op_mulf_S128x1, pay124_eq]
  rfl

def R127 (v152 : ℕ → ℕ → Bool) (v485 v498 v499 v505 : Fun2) : Fun2 := radd v485 (rsel (fun i j => decide (i = 2)) (rrow (ras0 (rsum0 128 (rmul v498 (R122 v152 v499 v505))))) (rcst 0))
theorem pay127_eq (v152 : ℕ → ℕ → Bool) (v485 v498 v499 v505 : Fun2) :
    k0_pay127 (F := Ideal) (liftI (fun i j => i)) (liftB v152) (lift2 v485) (lift2 v498) (lift2 v499) (lift2 v505) = lift2 (R127 v152 v485 v498 v499 v505) := by
  unfold k0_pay127
  simp (proj := false) (disch := first | decide | (intros; omega)) only [op_zero_S128x128, op_one_S128x128, op_word_S128x128, op_select_S128x128, op_broadcasts_S1x128_S128x128, op_mulf_S128x128, op_addf_S128x128, op_reduces_S128x128_S128, op_shapeCasts_S128_S1x128_f32, op_cmpi_eq_S128x128, op_shapeCasts_S1x128_S1x128_f32, pay122_eq]
  rfl

def R128 (v152 : ℕ → ℕ → Bool) (v487 v497 v499 v505 : Fun2) : Fun2 := radd v487 (rmul v497 (R122 v152 v499 v505))
theorem pay128_eq (v152 : ℕ → ℕ → Bool) (v487 v497 v499 v505 : Fun2) :
    k0_pay128 (F := Ideal) (liftB v152) (lift2 v487) (lift2 v497) (lift2 v499) (lift2 v505) = lift2 (R128 v152 v487 v497 v499 v505) := by
  unfold k0_pay128
  simp (proj := false) only [op_mulf_S128x128, op_addf_S128x128, pay122_eq]
  rfl

def R129 (v22 : Fun2) : Fun2 := rslice 0 6 v22
theorem pay129_eq (v22 : Fun2) :
    k0_pay129 (F := Ideal) (lift2 v22) = lift2 (R129 v22) := by
  unfold k0_pay129
  simp (proj := false) only [op_slices_S128x128_o0_6_S128x1]
  rfl

def R130 (v20 v24 : Fun2) : Fun2 := rexp (rsub (rrow (rslice 6 0 v24)) (rcol (rslice 0 6 v20)))
theorem pay130_eq (v20 v24 : Fun2) :
    k0_pay130 (F := Ideal) (lift2 v20) (lift2 v24) = lift2 (R130 v20 v24) := by
  unfold k0_pay130
  simp (proj := false) only [op_exp_S128x128, op_broadcasts_S1x128_S128x128, op_subf_S128x128, op_broadcasts_S128x1_S128x128, op_slices_S128x128_o0_6_S128x1, op_slices_S8x128_o6_0_S1x128, rsub_self, rmm_zero, radd_zero]
  rfl

theorem pay131_eq  :
    k0_pay131 (F := Ideal)  = lift2 (rcst 0) := by
  unfold k0_pay131
  simp (proj := false) only [op_zero_S128x128, op_one_S128x128]

def R132 (v269 : ℕ → ℕ → Bool) (v554 v555 : Fun2) : Fun2 := rsel v269 v554 v555
theorem pay132_eq (v269 : ℕ → ℕ → Bool) (v554 v555 : Fun2) :
    k0_pay132 (F := Ideal) (liftB v269) (lift2 v554) (lift2 v555) = lift2 (R132 v269 v554 v555) := by
  unfold k0_pay132
  simp (proj := false) only [op_select_S128x128]
  rfl

def R133 (v269 : ℕ → ℕ → Bool) (v548 v554 v555 : Fun2) : Fun2 := rmul (R132 v269 v554 v555) (rcol v548)
theorem pay133_eq (v269 : ℕ → ℕ → Bool) (v548 v554 v555 : Fun2) :
    k0_pay133 (F := Ideal) (liftB v269) (lift2 v548) (lift2 v554) (lift2 v555) = lift2 (R133 v269 v548 v554 v555) := by
  unfold k0_pay133
  simp (proj := false) only [op_mulf_S128x128, op_broadcasts_S128x1_S128x128, op_shapeCasts_S128x1_S128x1_f32, pay132_eq]
  rfl

def R134 (v6 v13 v175 v268 : Fun2) (v269 v491 : ℕ → ℕ → Bool) (v521 v548 v554 v555 : Fun2) : Fun2 := radd v521 (rsel v491 (rmm 256 (rcat1 (rmul v13 (R133 v269 v548 v554 v555)) (rmul v6 (rcol (rslice 0 6 v175)))) (rslice 0 128 v268)) (rcst 0))
theorem pay134_eq (v6 v13 v175 v268 : Fun2) (v269 v491 : ℕ → ℕ → Bool) (v521 v548 v554 v555 : Fun2) :
    k0_pay134 (F := Ideal) (lift2 v6) (lift2 v13) (lift2 v175) (lift2 v268) (liftB v269) (liftB v491) (lift2 v521) (lift2 v548) (lift2 v554) (lift2 v555) = lift2 (R134 v6 v13 v175 v268 v269 v491 v521 v548 v554 v555) := by
  unfold k0_pay134
  dsimp only
  repeat first | rw [op_one_S128x128] | rw [op_mulf_S128x128] | rw [op_dot_S128x256_S256x128_S128x128_1_0_0_1_n_n] | rw [op_broadcasts_S128x1_S128x128] | rw [op_concatenates_S128x128_S128x128_S128x256_d1] | rw [op_slices_S256x256_o0_128_S256x128] | rw [op_slices_S128x128_o0_6_S128x1] | rw [pay133_eq] | rw [rsub_self] | rw [rmm_zero] | rw [radd_zero]
  try simp (proj := false) only [op_truncf, op_constant_S128x128, op_zero_S128x128, op_one_S128x128, op_select_S128x128, op_mulf_S128x128, op_addf_S128x128, op_dot_S128x256_S256x128_S128x128_1_0_0_1_n_n, op_broadcasts_S128x1_S128x128, op_concatenates_S128x128_S128x128_S128x256_d1, op_slices_S256x256_o0_128_S256x128, op_slices_S128x128_o0_6_S128x1, pay133_eq]
  rfl

def R135 (v269 : ℕ → ℕ → Bool) (v498 v554 v555 : Fun2) : Fun2 := ras1 (rsum1 128 (rmul v498 (R132 v269 v554 v555)))
theorem pay135_eq (v269 : ℕ → ℕ → Bool) (v498 v554 v555 : Fun2) :
    k0_pay135 (F := Ideal) (liftB v269) (lift2 v498) (lift2 v554) (lift2 v555) = lift2 (R135 v269 v498 v554 v555) := by
  unfold k0_pay135
  simp (proj := false) only [op_mulf_S128x128, op_reduces_S128x128_S128_2, op_shapeCasts_S128_S128x1_f32, pay132_eq]
  rfl

def R136 (v269 : ℕ → ℕ → Bool) (v498 v529 v554 v555 : Fun2) : Fun2 := rsel (fun i j => decide (j = 6)) (rcol (R135 v269 v498 v554 v555)) v529
theorem pay136_eq (v269 : ℕ → ℕ → Bool) (v498 v529 v554 v555 : Fun2) :
    k0_pay136 (F := Ideal) (liftI (fun i j => j)) (liftB v269) (lift2 v498) (lift2 v529) (lift2 v554) (lift2 v555) = lift2 (R136 v269 v498 v529 v554 v555) := by
  unfold k0_pay136
  simp (proj := false) (disch := first | decide | (intros; omega)) only [op_word_S128x128, op_select_S128x128, op_cmpi_eq_S128x128, op_broadcasts_S128x1_S128x128, op_shapeCasts_S128x1_S128x1_f32, pay135_eq]
  rfl

def R137 (v269 : ℕ → ℕ → Bool) (v498 v535 v548 v554 v555 : Fun2) : Fun2 := rsel (fun i j => decide (j = 6)) (rcol (rmul (R135 v269 v498 v554 v555) v548)) v535
theorem pay137_eq (v269 : ℕ → ℕ → Bool) (v498 v535 v548 v554 v555 : Fun2) :
    k0_pay137 (F := Ideal) (liftI (fun i j => j)) (liftB v269) (lift2 v498) (lift2 v535) (lift2 v548) (lift2 v554) (lift2 v555) = lift2 (R137 v269 v498 v535 v548 v554 v555) := by
  unfold k0_pay137
  simp (proj := false) (disch := first | decide | (intros; omega)) only [op_word_S128x128, op_select_S128x128, op_cmpi_eq_S128x128, op_broadcasts_S128x1_S128x128, op_shapeCasts_S128x1_S128x1_f32, op_mulf_S128x1, pay135_eq]
  rfl

def R138 (v269 : ℕ → ℕ → Bool) (v498 v545 v548 v554 v555 : Fun2) : Fun2 := radd v545 (rsel (fun i j => decide (i = 6)) (rrow (ras0 (rsum0 128 (rmul v498 (R133 v269 v548 v554 v555))))) (rcst 0))
theorem pay138_eq (v269 : ℕ → ℕ → Bool) (v498 v545 v548 v554 v555 : Fun2) :
    k0_pay138 (F := Ideal) (liftI (fun i j => i)) (liftB v269) (lift2 v498) (lift2 v545) (lift2 v548) (lift2 v554) (lift2 v555) = lift2 (R138 v269 v498 v545 v548 v554 v555) := by
  unfold k0_pay138
  simp (proj := false) (disch := first | decide | (intros; omega)) only [op_zero_S128x128, op_one_S128x128, op_word_S128x128, op_select_S128x128, op_broadcasts_S1x128_S128x128, op_mulf_S128x128, op_addf_S128x128, op_reduces_S128x128_S128, op_shapeCasts_S128_S1x128_f32, op_cmpi_eq_S128x128, op_shapeCasts_S1x128_S1x128_f32, pay133_eq]
  rfl

def R139 (v269 : ℕ → ℕ → Bool) (v497 v547 v548 v554 v555 : Fun2) : Fun2 := radd v547 (rmul v497 (R133 v269 v548 v554 v555))
theorem pay139_eq (v269 : ℕ → ℕ → Bool) (v497 v547 v548 v554 v555 : Fun2) :
    k0_pay139 (F := Ideal) (liftB v269) (lift2 v497) (lift2 v547) (lift2 v548) (lift2 v554) (lift2 v555) = lift2 (R139 v269 v497 v547 v548 v554 v555) := by
  unfold k0_pay139
  simp (proj := false) only [op_mulf_S128x128, op_addf_S128x128, pay133_eq]
  rfl

def R140  : ℕ → ℕ → Bool := fun i j => decide (j / 64 = 1)
theorem pay140_eq  :
    k0_pay140 (liftI (fun i j => j)) = liftB R140 := by
  unfold k0_pay140
  simp (proj := false) (disch := first | decide | (intros; omega)) only [op_word_S128x128, op_cmpi_eq_S128x128, op_shrsi_S128x128]
  rfl

def R141 (v5 : Fun2) : Fun2 := rsel R140 (rslice 0 128 v5) (rcst 0)
theorem pay141_eq (v5 : Fun2) :
    k0_pay141 (F := Ideal) (lift2 v5) (liftI (fun i j => j)) = lift2 (R141 v5) := by
  unfold k0_pay141
  simp (proj := false) only [op_truncf, op_zero_S128x128, op_one_S128x128, op_select_S128x128, op_slices_S128x256_o0_128_S128x128, pay140_eq]
  rfl

def R142 (v12 v604 : Fun2) : Fun2 := rmmT 128 v604 (rslice 0 128 v12)
theorem pay142_eq (v12 v604 : Fun2) :
    k0_pay142 (F := Ideal) (lift2 v12) (lift2 v604) = lift2 (R142 v12 v604) := by
  unfold k0_pay142
  simp (proj := false) only [op_constant_S128x128, op_dot_S128x128_S128x128_S128x128_1_1_0_0_n_n, op_slices_S128x256_o0_128_S128x128]
  rfl

def R143 (v12 v13 v604 : Fun2) : Fun2 := rmul (R142 v12 v604) v13
theorem pay143_eq (v12 v13 v604 : Fun2) :
    k0_pay143 (F := Ideal) (lift2 v12) (lift2 v13) (lift2 v604) = lift2 (R143 v12 v13 v604) := by
  unfold k0_pay143
  simp (proj := false) only [op_mulf_S128x128, pay142_eq]
  rfl

def R144 (v22 : Fun2) : Fun2 := rslice 0 3 v22
theorem pay144_eq (v22 : Fun2) :
    k0_pay144 (F := Ideal) (lift2 v22) = lift2 (R144 v22) := by
  unfold k0_pay144
  simp (proj := false) only [op_slices_S128x128_o0_3_S128x1]
  rfl

def R145 (v20 v24 : Fun2) (v152 : ℕ → ℕ → Bool) : Fun2 := rsel v152 (rexp (rsub (rrow (rslice 3 0 v24)) (rcol (rslice 0 3 v20)))) (rcst 0)
theorem pay145_eq (v20 v24 : Fun2) (v152 : ℕ → ℕ → Bool) :
    k0_pay145 (F := Ideal) (lift2 v20) (lift2 v24) (liftB v152) = lift2 (R145 v20 v24 v152) := by
  unfold k0_pay145
  simp (proj := false) only [op_exp_S128x128, op_zero_S128x128, op_one_S128x128, op_select_S128x128, op_broadcasts_S1x128_S128x128, op_subf_S128x128, op_broadcasts_S128x1_S128x128, op_slices_S128x128_o0_3_S128x1, op_slices_S8x128_o3_0_S1x128, rsub_self, rmm_zero, radd_zero]
  rfl

def R146 (v20 v22 v24 : Fun2) (v152 : ℕ → ℕ → Bool) : Fun2 := rmul (R145 v20 v24 v152) (rcol (R144 v22))
theorem pay146_eq (v20 v22 v24 : Fun2) (v152 : ℕ → ℕ → Bool) :
    k0_pay146 (F := Ideal) (lift2 v20) (lift2 v22) (lift2 v24) (liftB v152) = lift2 (R146 v20 v22 v24 v152) := by
  unfold k0_pay146
  simp (proj := false) only [op_mulf_S128x128, op_broadcasts_S128x1_S128x128, op_shapeCasts_S128x1_S128x1_f32, pay144_eq, pay145_eq]
  rfl

def R147 (v6 v13 v20 v22 v24 v58 v151 : Fun2) (v152 : ℕ → ℕ → Bool) (v570 : Fun2) (v600 : ℕ → ℕ → Bool) : Fun2 := radd v570 (rsel v600 (rmm 256 (rcat1 (rmul v13 (R146 v20 v22 v24 v152)) (rmul v6 (rcol (rslice 0 3 v58)))) (rslice 0 128 v151)) (rcst 0))
theorem pay147_eq (v6 v13 v20 v22 v24 v58 v151 : Fun2) (v152 : ℕ → ℕ → Bool) (v570 : Fun2) (v600 : ℕ → ℕ → Bool) :
    k0_pay147 (F := Ideal) (lift2 v6) (lift2 v13) (lift2 v20) (lift2 v22) (lift2 v24) (lift2 v58) (lift2 v151) (liftB v152) (lift2 v570) (liftB v600) = lift2 (R147 v6 v13 v20 v22 v24 v58 v151 v152 v570 v600) := by
  unfold k0_pay147
  dsimp only
  repeat first | rw [op_one_S128x128] | rw [op_mulf_S128x128] | rw [op_dot_S128x256_S256x128_S128x128_1_0_0_1_n_n] | rw [op_broadcasts_S128x1_S128x128] | rw [op_concatenates_S128x128_S128x128_S128x256_d1] | rw [op_slices_S256x256_o0_128_S256x128] | rw [op_slices_S128x128_o0_3_S128x1] | rw [pay146_eq] | rw [rsub_self] | rw [rmm_zero] | rw [radd_zero]
  try simp (proj := false) only [op_truncf, op_constant_S128x128, op_zero_S128x128, op_one_S128x128, op_select_S128x128, op_mulf_S128x128, op_addf_S128x128, op_dot_S128x256_S256x128_S128x128_1_0_0_1_n_n, op_broadcasts_S128x1_S128x128, op_concatenates_S128x128_S128x128_S128x256_d1, op_slices_S256x256_o0_128_S256x128, op_slices_S128x128_o0_3_S128x1, pay146_eq]
  rfl

def R148 (v12 v13 v20 v24 : Fun2) (v152 : ℕ → ℕ → Bool) (v604 : Fun2) : Fun2 := ras1 (rsum1 128 (rmul (R143 v12 v13 v604) (R145 v20 v24 v152)))
theorem pay148_eq (v12 v13 v20 v24 : Fun2) (v152 : ℕ → ℕ → Bool) (v604 : Fun2) :
    k0_pay148 (F := Ideal) (lift2 v12) (lift2 v13) (lift2 v20) (lift2 v24) (liftB v152) (lift2 v604) = lift2 (R148 v12 v13 v20 v24 v152 v604) := by
  unfold k0_pay148
  simp (proj := false) only [op_mulf_S128x128, op_reduces_S128x128_S128_2, op_shapeCasts_S128_S128x1_f32, pay143_eq, pay145_eq]
  rfl

def R149 (v12 v13 v20 v24 : Fun2) (v152 : ℕ → ℕ → Bool) (v578 v604 : Fun2) : Fun2 := rsel (fun i j => decide (j = 3)) (rcol (R148 v12 v13 v20 v24 v152 v604)) v578
theorem pay149_eq (v12 v13 v20 v24 : Fun2) (v152 : ℕ → ℕ → Bool) (v578 v604 : Fun2) :
    k0_pay149 (F := Ideal) (lift2 v12) (lift2 v13) (liftI (fun i j => j)) (lift2 v20) (lift2 v24) (liftB v152) (lift2 v578) (lift2 v604) = lift2 (R149 v12 v13 v20 v24 v152 v578 v604) := by
  unfold k0_pay149
  simp (proj := false) (disch := first | decide | (intros; omega)) only [op_word_S128x128, op_select_S128x128, op_cmpi_eq_S128x128, op_broadcasts_S128x1_S128x128, op_shapeCasts_S128x1_S128x1_f32, pay148_eq]
  rfl

def R150 (v12 v13 v20 v22 v24 : Fun2) (v152 : ℕ → ℕ → Bool) (v584 v604 : Fun2) : Fun2 := rsel (fun i j => decide (j = 3)) (rcol (rmul (R148 v12 v13 v20 v24 v152 v604) (R144 v22))) v584
theorem pay150_eq (v12 v13 v20 v22 v24 : Fun2) (v152 : ℕ → ℕ → Bool) (v584 v604 : Fun2) :
    k0_pay150 (F := Ideal) (lift2 v12) (lift2 v13) (liftI (fun i j => j)) (lift2 v20) (lift2 v22) (lift2 v24) (liftB v152) (lift2 v584) (lift2 v604) = lift2 (R150 v12 v13 v20 v22 v24 v152 v584 v604) := by
  unfold k0_pay150
  simp (proj := false) (disch := first | decide | (intros; omega)) only [op_word_S128x128, op_select_S128x128, op_cmpi_eq_S128x128, op_broadcasts_S128x1_S128x128, op_shapeCasts_S128x1_S128x1_f32, op_mulf_S128x1, pay144_eq, pay148_eq]
  rfl

def R151 (v12 v13 v20 v22 v24 : Fun2) (v152 : ℕ → ℕ → Bool) (v594 v604 : Fun2) : Fun2 := radd v594 (rsel (fun i j => decide (i = 3)) (rrow (ras0 (rsum0 128 (rmul (R143 v12 v13 v604) (R146 v20 v22 v24 v152))))) (rcst 0))
theorem pay151_eq (v12 v13 v20 v22 v24 : Fun2) (v152 : ℕ → ℕ → Bool) (v594 v604 : Fun2) :
    k0_pay151 (F := Ideal) (lift2 v12) (lift2 v13) (liftI (fun i j => i)) (lift2 v20) (lift2 v22) (lift2 v24) (liftB v152) (lift2 v594) (lift2 v604) = lift2 (R151 v12 v13 v20 v22 v24 v152 v594 v604) := by
  unfold k0_pay151
  simp (proj := false) (disch := first | decide | (intros; omega)) only [op_zero_S128x128, op_one_S128x128, op_word_S128x128, op_select_S128x128, op_broadcasts_S1x128_S128x128, op_mulf_S128x128, op_addf_S128x128, op_reduces_S128x128_S128, op_shapeCasts_S128_S1x128_f32, op_cmpi_eq_S128x128, op_shapeCasts_S1x128_S1x128_f32, pay143_eq, pay146_eq]
  rfl

def R152 (v22 : Fun2) : Fun2 := rslice 0 7 v22
theorem pay152_eq (v22 : Fun2) :
    k0_pay152 (F := Ideal) (lift2 v22) = lift2 (R152 v22) := by
  unfold k0_pay152
  simp (proj := false) only [op_slices_S128x128_o0_7_S128x1]
  rfl

def R153 (v20 v24 : Fun2) (v269 : ℕ → ℕ → Bool) : Fun2 := rsel v269 (rexp (rsub (rrow (rslice 7 0 v24)) (rcol (rslice 0 7 v20)))) (rcst 0)
theorem pay153_eq (v20 v24 : Fun2) (v269 : ℕ → ℕ → Bool) :
    k0_pay153 (F := Ideal) (lift2 v20) (lift2 v24) (liftB v269) = lift2 (R153 v20 v24 v269) := by
  unfold k0_pay153
  simp (proj := false) only [op_exp_S128x128, op_zero_S128x128, op_one_S128x128, op_select_S128x128, op_broadcasts_S1x128_S128x128, op_subf_S128x128, op_broadcasts_S128x1_S128x128, op_slices_S128x128_o0_7_S128x1, op_slices_S8x128_o7_0_S1x128, rsub_self, rmm_zero, radd_zero]
  rfl

def R154 (v20 v22 v24 : Fun2) (v269 : ℕ → ℕ → Bool) : Fun2 := rmul (R153 v20 v24 v269) (rcol (R152 v22))
theorem pay154_eq (v20 v22 v24 : Fun2) (v269 : ℕ → ℕ → Bool) :
    k0_pay154 (F := Ideal) (lift2 v20) (lift2 v22) (lift2 v24) (liftB v269) = lift2 (R154 v20 v22 v24 v269) := by
  unfold k0_pay154
  simp (proj := false) only [op_mulf_S128x128, op_broadcasts_S128x1_S128x128, op_shapeCasts_S128x1_S128x1_f32, pay152_eq, pay153_eq]
  rfl

def R155 (v6 v13 v20 v22 v24 v175 v268 : Fun2) (v269 v600 : ℕ → ℕ → Bool) (v630 : Fun2) : Fun2 := radd v630 (rsel v600 (rmm 256 (rcat1 (rmul v13 (R154 v20 v22 v24 v269)) (rmul v6 (rcol (rslice 0 7 v175)))) (rslice 0 128 v268)) (rcst 0))
theorem pay155_eq (v6 v13 v20 v22 v24 v175 v268 : Fun2) (v269 v600 : ℕ → ℕ → Bool) (v630 : Fun2) :
    k0_pay155 (F := Ideal) (lift2 v6) (lift2 v13) (lift2 v20) (lift2 v22) (lift2 v24) (lift2 v175) (lift2 v268) (liftB v269) (liftB v600) (lift2 v630) = lift2 (R155 v6 v13 v20 v22 v24 v175 v268 v269 v600 v630) := by
  unfold k0_pay155
  dsimp only
  repeat first | rw [op_one_S128x128] | rw [op_mulf_S128x128] | rw [op_dot_S128x256_S256x128_S128x128_1_0_0_1_n_n] | rw [op_broadcasts_S128x1_S128x128] | rw [op_concatenates_S128x128_S128x128_S128x256_d1] | rw [op_slices_S256x256_o0_128_S256x128] | rw [op_slices_S128x128_o0_7_S128x1] | rw [pay154_eq] | rw [rsub_self] | rw [rmm_zero] | rw [radd_zero]
  try simp (proj := false) only [op_truncf, op_constant_S128x128, op_zero_S128x128, op_one_S128x128, op_select_S128x128, op_mulf_S128x128, op_addf_S128x128, op_dot_S128x256_S256x128_S128x128_1_0_0_1_n_n, op_broadcasts_S128x1_S128x128, op_concatenates_S128x128_S128x128_S128x256_d1, op_slices_S256x256_o0_128_S256x128, op_slices_S128x128_o0_7_S128x1, pay154_eq]
  rfl

def R156 (v20 v24 : Fun2) (v269 : ℕ → ℕ → Bool) (v607 : Fun2) : Fun2 := ras1 (rsum1 128 (rmul v607 (R153 v20 v24 v269)))
theorem pay156_eq (v20 v24 : Fun2) (v269 : ℕ → ℕ → Bool) (v607 : Fun2) :
    k0_pay156 (F := Ideal) (lift2 v20) (lift2 v24) (liftB v269) (lift2 v607) = lift2 (R156 v20 v24 v269 v607) := by
  unfold k0_pay156
  simp (proj := false) only [op_mulf_S128x128, op_reduces_S128x128_S128_2, op_shapeCasts_S128_S128x1_f32, pay153_eq]
  rfl

def R157 (v20 v24 : Fun2) (v269 : ℕ → ℕ → Bool) (v607 v638 : Fun2) : Fun2 := rsel (fun i j => decide (j = 7)) (rcol (R156 v20 v24 v269 v607)) v638
theorem pay157_eq (v20 v24 : Fun2) (v269 : ℕ → ℕ → Bool) (v607 v638 : Fun2) :
    k0_pay157 (F := Ideal) (liftI (fun i j => j)) (lift2 v20) (lift2 v24) (liftB v269) (lift2 v607) (lift2 v638) = lift2 (R157 v20 v24 v269 v607 v638) := by
  unfold k0_pay157
  simp (proj := false) (disch := first | decide | (intros; omega)) only [op_word_S128x128, op_select_S128x128, op_cmpi_eq_S128x128, op_broadcasts_S128x1_S128x128, op_shapeCasts_S128x1_S128x1_f32, pay156_eq]
  rfl

def R158 (v20 v22 v24 : Fun2) (v269 : ℕ → ℕ → Bool) (v607 v644 : Fun2) : Fun2 := rsel (fun i j => decide (j = 7)) (rcol (rmul (R156 v20 v24 v269 v607) (R152 v22))) v644
theorem pay158_eq (v20 v22 v24 : Fun2) (v269 : ℕ → ℕ → Bool) (v607 v644 : Fun2) :
    k0_pay158 (F := Ideal) (liftI (fun i j => j)) (lift2 v20) (lift2 v22) (lift2 v24) (liftB v269) (lift2 v607) (lift2 v644) = lift2 (R158 v20 v22 v24 v269 v607 v644) := by
  unfold k0_pay158
  simp (proj := false) (disch := first | decide | (intros; omega)) only [op_word_S128x128, op_select_S128x128, op_cmpi_eq_S128x128, op_broadcasts_S128x1_S128x128, op_shapeCasts_S128x1_S128x1_f32, op_mulf_S128x1, pay152_eq, pay156_eq]
  rfl

def R159 (v20 v22 v24 : Fun2) (v269 : ℕ → ℕ → Bool) (v607 v654 : Fun2) : Fun2 := radd v654 (rsel (fun i j => decide (i = 7)) (rrow (ras0 (rsum0 128 (rmul v607 (R154 v20 v22 v24 v269))))) (rcst 0))
theorem pay159_eq (v20 v22 v24 : Fun2) (v269 : ℕ → ℕ → Bool) (v607 v654 : Fun2) :
    k0_pay159 (F := Ideal) (liftI (fun i j => i)) (lift2 v20) (lift2 v22) (lift2 v24) (liftB v269) (lift2 v607) (lift2 v654) = lift2 (R159 v20 v22 v24 v269 v607 v654) := by
  unfold k0_pay159
  simp (proj := false) (disch := first | decide | (intros; omega)) only [op_zero_S128x128, op_one_S128x128, op_word_S128x128, op_select_S128x128, op_broadcasts_S1x128_S128x128, op_mulf_S128x128, op_addf_S128x128, op_reduces_S128x128_S128, op_shapeCasts_S128_S1x128_f32, op_cmpi_eq_S128x128, op_shapeCasts_S1x128_S1x128_f32, pay154_eq]
  rfl

def R160 (v20 v22 v24 : Fun2) (v269 : ℕ → ℕ → Bool) (v596 v606 v619 : Fun2) : Fun2 := radd (radd v596 (rmul v606 v619)) (rmul v606 (R154 v20 v22 v24 v269))
theorem pay160_eq (v20 v22 v24 : Fun2) (v269 : ℕ → ℕ → Bool) (v596 v606 v619 : Fun2) :
    k0_pay160 (F := Ideal) (lift2 v20) (lift2 v22) (lift2 v24) (liftB v269) (lift2 v596) (lift2 v606) (lift2 v619) = lift2 (R160 v20 v22 v24 v269 v596 v606 v619) := by
  unfold k0_pay160
  simp (proj := false) only [op_mulf_S128x128, op_addf_S128x128, pay154_eq]
  rfl

def R161 (v461 v679 : Fun2) : Fun2 := rcat1 v461 v679
theorem pay161_eq (v461 v679 : Fun2) :
    k0_pay161 (F := Ideal) (lift2 v461) (lift2 v679) = lift2 (R161 v461 v679) := by
  unfold k0_pay161
  dsimp only
  repeat first | rw [op_concatenates_S128x128_S128x128_S128x256_d1] | rw [rsub_self] | rw [rmm_zero] | rw [radd_zero]
  try simp (proj := false) only [op_concatenates_S128x128_S128x128_S128x256_d1]
  rfl

def R162 (v242 v687 : Fun2) : Fun2 := radd v242 v687
theorem pay162_eq (v242 v687 : Fun2) :
    k0_pay162 (F := Ideal) (lift2 v242) (lift2 v687) = lift2 (R162 v242 v687) := by
  unfold k0_pay162
  simp (proj := false) only [op_addf_S128x128]
  rfl

def R163 (v11 v221 v705 : Fun2) : Fun2 := radd v221 (rmm 128 v705 v11)
theorem pay163_eq (v11 v221 v705 : Fun2) :
    k0_pay163 (F := Ideal) (lift2 v11) (lift2 v221) (lift2 v705) = lift2 (R163 v11 v221 v705) := by
  unfold k0_pay163
  simp (proj := false) only [op_truncf, op_constant_S128x128, op_addf_S128x128, op_dot_S128x128_S128x128_S128x128_1_0_0_1_n_n]
  rfl

def R164 (v10 v217 v705 : Fun2) : Fun2 := radd v217 (rmm 128 (rtr v705) v10)
theorem pay164_eq (v10 v217 v705 : Fun2) :
    k0_pay164 (F := Ideal) (lift2 v10) (lift2 v217) (lift2 v705) = lift2 (R164 v10 v217 v705) := by
  unfold k0_pay164
  simp (proj := false) only [op_truncf, op_constant_S128x128, op_addf_S128x128, op_dot_S128x128_S128x128_S128x128_1_0_0_1_n_n, op_transposes_S128x128_p1_0_S128x128]
  rfl

def R165 (v267 v693 v703 : Fun2) : Fun2 := rsel (fun i j => decide (4 ≤ j) && decide (j < 8)) (radd (rmm 128 (rsel (fun i j => decide (j ≤ i)) (rcst 1) (rcst 0)) (radd (rsub v267 v693) (rtr v703))) (rmm 128 (rsel (fun i j => decide (j ≤ i)) (rcst 1) (rcst 0)) (rcst 0))) (radd (rmm 128 (rsel (fun i j => decide (i ≤ j)) (rcst 1) (rcst 0)) (radd (rsub v267 v693) (rtr v703))) (rmm 128 (rsel (fun i j => decide (i ≤ j)) (rcst 1) (rcst 0)) (rcst 0)))
theorem pay165_eq (v267 v693 v703 : Fun2) :
    k0_pay165 (F := Ideal) (liftI (fun i j => j)) (lift2 v267) (lift2 v693) (lift2 v703) = lift2 (R165 v267 v693 v703) := by
  unfold k0_pay165
  simp (proj := false) (disch := first | decide | (intros; omega)) only [op_truncf, op_extf, op_constant_S128x128, op_zero_S128x128, op_one_S128x128, op_iota_S128x128_d1_w32, op_word_S128x128, op_cmpi_sge_S128x128, op_cmpi_slt_S128x128, op_andi_S128x128, op_select_S128x128, op_subf_S128x128, op_addf_S128x128, op_cmpi_sle_S128x128, op_dot_S128x128_S128x128_S128x128_1_0_0_1_n_n, op_transposes_S128x128_p1_0_S128x128, op_iota_S128x128_d0_w32, rsub_self, rmm_zero, radd_zero]
  rfl

def R166 (v753 : Fun2) : Fun2 := v753
theorem pay166_eq (v753 : Fun2) :
    k0_pay166 (F := Ideal) (lift2 v753) = lift2 (R166 v753) := by
  unfold k0_pay166
  simp (proj := false) only [op_shapeCasts_S1x128_S1x128_f32]
  rfl

def R167 (v707 v751 v753 : Fun2) : Fun3 := rst (radd v707 (rmul (rrow (R166 v753)) v751))
theorem pay167_eq (v707 v751 v753 : Fun2) :
    k0_pay167 (F := Ideal) (lift2 v707) (lift2 v751) (lift2 v753) = lift3 (R167 v707 v751 v753) := by
  unfold k0_pay167
  simp (proj := false) only [op_broadcasts_S1x128_S128x128, op_mulf_S128x128, op_addf_S128x128, op_shapeCasts_S128x128_S1x128x128_f32, pay166_eq]
  rfl

def R168 (v22 v751 v753 : Fun2) (v761 : Fun3) : Fun3 := rst (radd (runst v761) (rrow (rmul (R166 v753) (ras0 (rsum0 128 (rmul v22 v751))))))
theorem pay168_eq (v22 v751 v753 : Fun2) (v761 : Fun3) :
    k0_pay168 (F := Ideal) (lift2 v22) (lift2 v751) (lift2 v753) (lift3 v761) = lift3 (R168 v22 v751 v753 v761) := by
  unfold k0_pay168
  simp (proj := false) only [op_mulf_S128x128, op_addf_S8x128, op_reduces_S128x128_S128, op_shapeCasts_S128_S1x128_f32, op_mulf_S1x128, op_shapeCasts_S1x128_S1x128_f32, op_shapeCasts_S1x8x128_S8x128_f32, op_broadcasts_S1x128_S8x128, op_shapeCasts_S8x128_S1x8x128_f32, pay166_eq]
  rfl

end Cert.KernelIdeal.Gen
-- ==== Proof.Point.lean ====
module

public import proofs.«01_k».proof.Proof.Pay

/-! The values of the kernel's body at one grid point, as real functions of the blocks it reads. -/

@[expose] public section

set_option maxRecDepth 16384

noncomputable section

namespace Cert.KernelIdeal.Gen

open Idealize.ShloMosaic Idealize.ShloMosaic.TcCoe Ssd

/-- The blocks of one grid point as real functions: `x0` the inner channels, `x1` and `x2` the two group projections,
    `x3` the cotangent, `x5` the step sizes, `x6` and `x8` the running sums of the decay by row and by column, `x9` and
    `x10` the states the two directions enter with, `x11` and `x12` the cotangents of the states they leave. -/
structure Blk where
  x0 : Fun2
  x1 : Fun2
  x2 : Fun2
  x3 : Fun2
  x5 : Fun3
  x6 : Fun3
  x8 : Fun2
  x9 : Fun3
  x10 : Fun3
  x11 : Fun3
  x12 : Fun3

/-- Value z of the body at a grid point. -/
def qz (B : Blk) : Fun2 := B.x0
/-- Value 1 of the body at a grid point. -/
def q1 (B : Blk) : Fun2 := B.x1
/-- Value 2 of the body at a grid point. -/
def q2 (B : Blk) : Fun2 := R2 B.x3
/-- Value 3 of the body at a grid point. -/
def q3 (B : Blk) : Fun2 := R3 B.x1
/-- Value 4 of the body at a grid point. -/
def q4 (B : Blk) : Fun2 := R4 B.x2
/-- Value 5 of the body at a grid point. -/
def q5 (B : Blk) : Fun2 := R5 B.x3
/-- Value 6 of the body at a grid point. -/
def q6 (B : Blk) : Fun2 := R6 B.x1 B.x2
/-- Value 7 of the body at a grid point. -/
def q7 (B : Blk) : Fun2 := R7 B.x6
/-- Value 8 of the body at a grid point. -/
def q8 (B : Blk) : Fun2 := R8 B.x5
/-- Value 9 of the body at a grid point. -/
def q9 (B : Blk) : Fun2 := R9 B.x8
/-- Value 10 of the body at a grid point. -/
def q10 (B : Blk) : Fun2 := R10 B.x6
/-- Value 11 of the body at a grid point. -/
def q11 (B : Blk) : Fun2 := R21 B.x9
/-- Value 12 of the body at a grid point. -/
def q12 (B : Blk) : Fun2 := R22 B.x11
/-- Value 13 of the body at a grid point. -/
def q13 (B : Blk) : Fun2 := R23 B.x9
/-- Value 14 of the body at a grid point. -/
def q14 (B : Blk) : Fun2 := R24 B.x11
/-- Value 15 of the body at a grid point. -/
def q15 (B : Blk) : Fun2 := R27 (q7 B)
/-- Value 16 of the body at a grid point. -/
def q16 (B : Blk) : Fun2 := R28 (q7 B)
/-- Value 17 of the body at a grid point. -/
def q17 (B : Blk) : Fun2 := R29 (q7 B) (q8 B)
/-- Value 18 of the body at a grid point. -/
def q18 (B : Blk) : Fun2 := R33 (q2 B) (q10 B) (rcst 0) (q13 B) R30
/-- Value 19 of the body at a grid point. -/
def q19 (B : Blk) : Fun2 := R34 (qz B) (rcst 0) (q14 B) (q17 B) R30
/-- Value 20 of the body at a grid point. -/
def q20 (B : Blk) : Fun2 := R35 (q2 B) (q4 B) (q10 B) (rcst 0) (q13 B) R30
/-- Value 21 of the body at a grid point. -/
def q21 (B : Blk) : Fun2 := R37 (qz B) (q3 B) (q14 B)
/-- Value 22 of the body at a grid point. -/
def q22 (B : Blk) : Fun2 := R38 (qz B) (q3 B) (q14 B)
/-- Value 23 of the body at a grid point. -/
def q23 (B : Blk) : Fun2 := R40 (rcst 0) (q16 B) R31 (q21 B) (q22 B)
/-- Value 24 of the body at a grid point. -/
def q24 (B : Blk) : Fun2 := R41 (q11 B) (q12 B) (q15 B) (q17 B) R31 (q20 B) (q21 B) (q22 B)
/-- Value 25 of the body at a grid point. -/
def q25 (B : Blk) : Fun2 := R42 (q5 B) (q14 B)
/-- Value 26 of the body at a grid point. -/
def q26 (B : Blk) : Fun2 := R44 B.x10
/-- Value 27 of the body at a grid point. -/
def q27 (B : Blk) : Fun2 := R45 B.x12
/-- Value 28 of the body at a grid point. -/
def q28 (B : Blk) : Fun2 := R46 B.x10
/-- Value 29 of the body at a grid point. -/
def q29 (B : Blk) : Fun2 := R47 B.x12
/-- Value 30 of the body at a grid point. -/
def q30 (B : Blk) : Fun2 := R51 (q7 B)
/-- Value 31 of the body at a grid point. -/
def q31 (B : Blk) : Fun2 := R52 (q7 B)
/-- Value 32 of the body at a grid point. -/
def q32 (B : Blk) : Fun2 := R53 (q7 B) (q8 B)
/-- Value 33 of the body at a grid point. -/
def q33 (B : Blk) : Fun2 := R56 (q10 B)
/-- Value 34 of the body at a grid point. -/
def q34 (B : Blk) : Fun2 := R57 (q7 B) (q8 B)
/-- Value 35 of the body at a grid point. -/
def q35 (B : Blk) : Fun2 := R58 (q7 B) (q8 B)
/-- Value 36 of the body at a grid point. -/
def q36 (B : Blk) : Fun2 := R60 (q2 B) (q18 B) (q28 B) (q33 B)
/-- Value 37 of the body at a grid point. -/
def q37 (B : Blk) : Fun2 := R61 (qz B) (q19 B) (q29 B) R54 (q34 B) (q35 B) (rcst 0)
/-- Value 38 of the body at a grid point. -/
def q38 (B : Blk) : Fun2 := R63 (qz B) (q3 B) (q29 B) (q32 B) R55
/-- Value 39 of the body at a grid point. -/
def q39 (B : Blk) : Fun2 := R64 (qz B) (q2 B) (q3 B) (q4 B) (q24 B) (q28 B) (q29 B) (q32 B) R55 (q33 B)
/-- Value 40 of the body at a grid point. -/
def q40 (B : Blk) : Fun2 := R65 (qz B) (q3 B) (q23 B) (q29 B) (q31 B) R55
/-- Value 41 of the body at a grid point. -/
def q41 (B : Blk) : Fun2 := R66 (q26 B) (q27 B) R55
/-- Value 42 of the body at a grid point. -/
def q42 (B : Blk) : Fun2 := R67 (q30 B) (q38 B) (q39 B) (q41 B)
/-- Value 43 of the body at a grid point. -/
def q43 (B : Blk) : Fun2 := R68 (q5 B) (q29 B)
/-- Value 44 of the body at a grid point. -/
def q44 (B : Blk) : Fun2 := R71 (qz B) (q5 B)
/-- Value 45 of the body at a grid point. -/
def q45 (B : Blk) : Fun2 := R72 (qz B) (q5 B) (q6 B)
/-- Value 46 of the body at a grid point. -/
def q46 (B : Blk) : Fun2 := R73 (q8 B)
/-- Value 47 of the body at a grid point. -/
def q47 (B : Blk) : Fun2 := R75 (q7 B) (q8 B) (q9 B) R43
/-- Value 48 of the body at a grid point. -/
def q48 (B : Blk) : Fun2 := R76 (q1 B) (q6 B) (q7 B) (q8 B) (q9 B) (rcst 0) (q17 B) (q25 B) R43
/-- Value 49 of the body at a grid point. -/
def q49 (B : Blk) : ℕ → ℝ := R77 (qz B) (q5 B) (q6 B) (q7 B) (q9 B) R43
/-- Value 50 of the body at a grid point. -/
def q50 (B : Blk) : Fun2 := R79 (rcst 0) (q49 B)
/-- Value 51 of the body at a grid point. -/
def q51 (B : Blk) : Fun2 := R80 (rcst 0) (q46 B) (q49 B)
/-- Value 52 of the body at a grid point. -/
def q52 (B : Blk) : Fun2 := R81 (rcst 0) (q45 B) (q47 B)
/-- Value 53 of the body at a grid point. -/
def q53 (B : Blk) : Fun2 := R82 (rcst 0) (q44 B) (q47 B)
/-- Value 54 of the body at a grid point. -/
def q54 (B : Blk) : Fun2 := R83 (q8 B)
/-- Value 55 of the body at a grid point. -/
def q55 (B : Blk) : Fun2 := R85 (q7 B) (q8 B) (q9 B) R69
/-- Value 56 of the body at a grid point. -/
def q56 (B : Blk) : Fun2 := R86 (q1 B) (q6 B) (q7 B) (q8 B) (q9 B) (q32 B) (q43 B) R69 R70 (q48 B)
/-- Value 57 of the body at a grid point. -/
def q57 (B : Blk) : Fun2 := R87 (q7 B) (q9 B) R69 (q45 B)
/-- Value 58 of the body at a grid point. -/
def q58 (B : Blk) : Fun2 := R88 (q50 B) (q57 B)
/-- Value 59 of the body at a grid point. -/
def q59 (B : Blk) : Fun2 := R89 (q51 B) (q54 B) (q57 B)
/-- Value 60 of the body at a grid point. -/
def q60 (B : Blk) : Fun2 := R90 (q45 B) (q52 B) (q55 B)
/-- Value 61 of the body at a grid point. -/
def q61 (B : Blk) : Fun2 := R91 (q44 B) (q53 B) (q55 B)
/-- Value 62 of the body at a grid point. -/
def q62 (B : Blk) : Fun2 := R93 (qz B) (q5 B)
/-- Value 63 of the body at a grid point. -/
def q63 (B : Blk) : Fun2 := R94 (qz B) (q5 B) (q6 B)
/-- Value 64 of the body at a grid point. -/
def q64 (B : Blk) : Fun2 := R95 (q8 B)
/-- Value 65 of the body at a grid point. -/
def q65 (B : Blk) : Fun2 := R96 (q7 B) (q9 B) R43
/-- Value 66 of the body at a grid point. -/
def q66 (B : Blk) : Fun2 := R97 (q7 B) (q8 B) (q9 B) R43
/-- Value 67 of the body at a grid point. -/
def q67 (B : Blk) : Fun2 := R98 (q1 B) (q6 B) (q7 B) (q8 B) (q9 B) (q17 B) R43
/-- Value 68 of the body at a grid point. -/
def q68 (B : Blk) : Fun2 := R99 (q25 B) (q56 B) R92 (q67 B)
/-- Value 69 of the body at a grid point. -/
def q69 (B : Blk) : Fun2 := R101 (q58 B) (q63 B) (q65 B)
/-- Value 70 of the body at a grid point. -/
def q70 (B : Blk) : Fun2 := R102 (q59 B) (q63 B) (q64 B) (q65 B)
/-- Value 71 of the body at a grid point. -/
def q71 (B : Blk) : Fun2 := R103 (q60 B) (q63 B) (q66 B)
/-- Value 72 of the body at a grid point. -/
def q72 (B : Blk) : Fun2 := R104 (q61 B) (q62 B) (q66 B)
/-- Value 73 of the body at a grid point. -/
def q73 (B : Blk) : Fun2 := R105 (q8 B)
/-- Value 74 of the body at a grid point. -/
def q74 (B : Blk) : Fun2 := R106 (q7 B) (q9 B) R69
/-- Value 75 of the body at a grid point. -/
def q75 (B : Blk) : Fun2 := R107 (q7 B) (q8 B) (q9 B) R69
/-- Value 76 of the body at a grid point. -/
def q76 (B : Blk) : Fun2 := R108 (q1 B) (q6 B) (q7 B) (q8 B) (q9 B) (q32 B) R69
/-- Value 77 of the body at a grid point. -/
def q77 (B : Blk) : Fun2 := R109 (q43 B)
/-- Value 78 of the body at a grid point. -/
def q78 (B : Blk) : Fun2 := R110 R92 (q68 B) (q76 B) (q77 B)
/-- Value 79 of the body at a grid point. -/
def q79 (B : Blk) : Fun2 := R112 (q63 B) (q69 B) (q74 B)
/-- Value 80 of the body at a grid point. -/
def q80 (B : Blk) : Fun2 := R113 (q63 B) (q70 B) (q73 B) (q74 B)
/-- Value 81 of the body at a grid point. -/
def q81 (B : Blk) : Fun2 := R114 (q63 B) (q71 B) (q75 B)
/-- Value 82 of the body at a grid point. -/
def q82 (B : Blk) : Fun2 := R115 (q62 B) (q72 B) (q75 B)
/-- Value 83 of the body at a grid point. -/
def q83 (B : Blk) : Fun2 := R117 (qz B) (q5 B)
/-- Value 84 of the body at a grid point. -/
def q84 (B : Blk) : Fun2 := R118 (qz B) (q5 B) (q6 B)
/-- Value 85 of the body at a grid point. -/
def q85 (B : Blk) : Fun2 := R119 (q8 B)
/-- Value 86 of the body at a grid point. -/
def q86 (B : Blk) : Fun2 := R120 (q7 B) (q9 B)
/-- Value 87 of the body at a grid point. -/
def q87 (B : Blk) : Fun2 := R123 (q1 B) (q6 B) (rcst 0) (q17 B) (q25 B) R43 R116 (q85 B) (q86 B)
/-- Value 88 of the body at a grid point. -/
def q88 (B : Blk) : Fun2 := R125 R43 (q79 B) (q84 B) (q86 B)
/-- Value 89 of the body at a grid point. -/
def q89 (B : Blk) : Fun2 := R126 R43 (q80 B) (q84 B) (q85 B) (q86 B)
/-- Value 90 of the body at a grid point. -/
def q90 (B : Blk) : Fun2 := R127 R43 (q81 B) (q84 B) (q85 B) (q86 B)
/-- Value 91 of the body at a grid point. -/
def q91 (B : Blk) : Fun2 := R128 R43 (q82 B) (q83 B) (q85 B) (q86 B)
/-- Value 92 of the body at a grid point. -/
def q92 (B : Blk) : Fun2 := R129 (q8 B)
/-- Value 93 of the body at a grid point. -/
def q93 (B : Blk) : Fun2 := R130 (q7 B) (q9 B)
/-- Value 94 of the body at a grid point. -/
def q94 (B : Blk) : Fun2 := R134 (q1 B) (q6 B) (q32 B) (q43 B) R69 R116 (q87 B) (q92 B) (q93 B) (rcst 0)
/-- Value 95 of the body at a grid point. -/
def q95 (B : Blk) : Fun2 := R136 R69 (q84 B) (q88 B) (q93 B) (rcst 0)
/-- Value 96 of the body at a grid point. -/
def q96 (B : Blk) : Fun2 := R137 R69 (q84 B) (q89 B) (q92 B) (q93 B) (rcst 0)
/-- Value 97 of the body at a grid point. -/
def q97 (B : Blk) : Fun2 := R138 R69 (q84 B) (q90 B) (q92 B) (q93 B) (rcst 0)
/-- Value 98 of the body at a grid point. -/
def q98 (B : Blk) : Fun2 := R139 R69 (q83 B) (q91 B) (q92 B) (q93 B) (rcst 0)
/-- Value 99 of the body at a grid point. -/
def q99 (B : Blk) : Fun2 := R141 (qz B)
/-- Value 100 of the body at a grid point. -/
def q100 (B : Blk) : Fun2 := R142 (q5 B) (q99 B)
/-- Value 101 of the body at a grid point. -/
def q101 (B : Blk) : Fun2 := R143 (q5 B) (q6 B) (q99 B)
/-- Value 102 of the body at a grid point. -/
def q102 (B : Blk) : Fun2 := R146 (q7 B) (q8 B) (q9 B) R43
/-- Value 103 of the body at a grid point. -/
def q103 (B : Blk) : Fun2 := R147 (q1 B) (q6 B) (q7 B) (q8 B) (q9 B) (q17 B) (q25 B) R43 (q94 B) R140
/-- Value 104 of the body at a grid point. -/
def q104 (B : Blk) : Fun2 := R149 (q5 B) (q6 B) (q7 B) (q9 B) R43 (q95 B) (q99 B)
/-- Value 105 of the body at a grid point. -/
def q105 (B : Blk) : Fun2 := R150 (q5 B) (q6 B) (q7 B) (q8 B) (q9 B) R43 (q96 B) (q99 B)
/-- Value 106 of the body at a grid point. -/
def q106 (B : Blk) : Fun2 := R151 (q5 B) (q6 B) (q7 B) (q8 B) (q9 B) R43 (q97 B) (q99 B)
/-- Value 107 of the body at a grid point. -/
def q107 (B : Blk) : Fun2 := R155 (q1 B) (q6 B) (q7 B) (q8 B) (q9 B) (q32 B) (q43 B) R69 R140 (q103 B)
/-- Value 108 of the body at a grid point. -/
def q108 (B : Blk) : Fun2 := R157 (q7 B) (q9 B) R69 (q101 B) (q104 B)
/-- Value 109 of the body at a grid point. -/
def q109 (B : Blk) : Fun2 := R158 (q7 B) (q8 B) (q9 B) R69 (q101 B) (q105 B)
/-- Value 110 of the body at a grid point. -/
def q110 (B : Blk) : Fun2 := R159 (q7 B) (q8 B) (q9 B) R69 (q101 B) (q106 B)
/-- Value 111 of the body at a grid point. -/
def q111 (B : Blk) : Fun2 := R160 (q7 B) (q8 B) (q9 B) R69 (q98 B) (q100 B) (q102 B)
/-- Value 112 of the body at a grid point. -/
def q112 (B : Blk) : Fun2 := R161 (q78 B) (q107 B)
/-- Value 113 of the body at a grid point. -/
def q113 (B : Blk) : Fun2 := R162 (q40 B) (q108 B)
/-- Value 114 of the body at a grid point. -/
def q114 (B : Blk) : Fun2 := R163 (q4 B) (q37 B) (q111 B)
/-- Value 115 of the body at a grid point. -/
def q115 (B : Blk) : Fun2 := R164 (q3 B) (q36 B) (q111 B)
/-- Value 116 of the body at a grid point. -/
def q116 (B : Blk) : Fun2 := R165 (q42 B) (q109 B) (q110 B)

end Cert.KernelIdeal.Gen
-- ==== Proof.RunAVal.lean ====
module

public import proofs.«01_k».proof.Proof.Point
public import proofs.«01_k».proof.Proof.Gen.KernelIdeal.Frame

/-! The named values of the body, at the first chunk of a group, equal the real functions of the blocks. -/

@[expose] public section

set_option maxRecDepth 16384

noncomputable section

namespace Cert.KernelIdeal.Gen

open Idealize.ShloMosaic Idealize.ShloMosaic.TcCoe Ssd kernelRun0_A.sl

theorem hz2 : (![0, 0] : Fin 2 → Nat) = fun _ => 0 := funext fun a => by fin_cases a <;> rfl
theorem hz3 : (![0, 0, 0] : Fin 3 → Nat) = fun _ => 0 := funext fun a => by fin_cases a <;> rfl
theorem A_v14 : v14 = liftI (fun i j => i) := op_iota_S128x128_d0_w32
theorem A_v15 : v15 = liftI (fun i j => j) := op_iota_S128x128_d1_w32
theorem A_v70 : v70 = liftI (fun i j => i) := op_iota_S256x128_d0_w32
theorem A_v71 : v71 = liftI (fun i j => j) := op_iota_S256x128_d1_w32
theorem A_cst : cst_79 (F := Ideal) = lift2 (rcst 0) := op_constant_S128x256

variable (c : Dev nD)
  (a2 : Memref sig .tc .vmem S128x256 .f32) (h2 : a2.IsWhole)
  (a3 : Memref sig .tc .vmem S128x128 .f32) (h3 : a3.IsWhole)
  (a4 : Memref sig .tc .vmem S128x128 .f32) (h4 : a4.IsWhole)
  (a5 : Memref sig .tc .vmem S128x256 .bf16) (h5 : a5.IsWhole)
  (a7 : Memref sig .tc .vmem S1x128x128 .f32) (h7 : a7.IsWhole)
  (a8 : Memref sig .tc .vmem S1x128x128 .f32) (h8 : a8.IsWhole)
  (a10 : Memref sig .tc .vmem S8x128 .f32) (h10 : a10.IsWhole)
  (a11 : Memref sig .tc .vmem S1x128x256 .bf16) (h11 : a11.IsWhole)
  (a12 : Memref sig .tc .vmem S1x128x256 .bf16) (h12 : a12.IsWhole)
  (a13 : Memref sig .tc .vmem S1x128x256 .bf16) (h13 : a13.IsWhole)
  (a14 : Memref sig .tc .vmem S1x128x256 .bf16) (h14 : a14.IsWhole)

theorem rA_z (B : Blk) :
    r (F := Ideal) c a2 h2 (lift2 B.x0) = lift2 (qz B) := by
  unfold r
  simp (proj := false) only [View.readAt_eq_ld, h2.read_unread, View.ld_unit_zero (S := S128x256) hz2]
  rfl

theorem rA_1 (B : Blk) :
    r_1 (F := Ideal) c a3 h3 (lift2 B.x1) = lift2 (q1 B) := by
  unfold r_1
  simp (proj := false) only [View.readAt_eq_ld, h3.read_unread, View.ld_unit_zero (S := S128x128) hz2]
  rfl

theorem rA_2 (B : Blk) :
    r_2 (F := Ideal) c a5 h5 (lift2 B.x3) = lift2 (q2 B) := by
  unfold r_2
  simp (proj := false) only [View.readAt_eq_ld, h5.read_unread, View.ld_unit_zero (S := S128x256) hz2, pay2_eq]
  rfl

theorem rA_3 (B : Blk) :
    r_3 (F := Ideal) c a3 h3 (lift2 B.x1) = lift2 (q3 B) := by
  unfold r_3
  simp (proj := false) only [View.readAt_eq_ld, h3.read_unread, View.ld_unit_zero (S := S128x128) hz2, pay3_eq]
  rfl

theorem rA_4 (B : Blk) :
    r_4 (F := Ideal) c a4 h4 (lift2 B.x2) = lift2 (q4 B) := by
  unfold r_4
  simp (proj := false) only [View.readAt_eq_ld, h4.read_unread, View.ld_unit_zero (S := S128x128) hz2, pay4_eq]
  rfl

theorem rA_5 (B : Blk) :
    r_5 (F := Ideal) c a5 h5 (lift2 B.x3) = lift2 (q5 B) := by
  unfold r_5
  simp (proj := false) only [View.readAt_eq_ld, h5.read_unread, View.ld_unit_zero (S := S128x256) hz2, pay5_eq]
  rfl

theorem rA_6 (B : Blk) :
    r_6 (F := Ideal) c a3 h3 a4 h4 (lift2 B.x1) (lift2 B.x2) = lift2 (q6 B) := by
  unfold r_6
  simp (proj := false) only [View.readAt_eq_ld, h3.read_unread, View.ld_unit_zero (S := S128x128) hz2, View.readAt_eq_ld, h4.read_unread, View.ld_unit_zero (S := S128x128) hz2, pay6_eq]
  rfl

theorem rA_7 (B : Blk) :
    r_7 (F := Ideal) c a8 h8 (lift3 B.x6) = lift2 (q7 B) := by
  unfold r_7
  simp (proj := false) only [View.readAt_eq_ld, h8.read_unread, View.ld_unit_zero (S := S1x128x128) hz3, pay7_eq]
  rfl

theorem rA_8 (B : Blk) :
    r_8 (F := Ideal) c a7 h7 (lift3 B.x5) = lift2 (q8 B) := by
  unfold r_8
  simp (proj := false) only [View.readAt_eq_ld, h7.read_unread, View.ld_unit_zero (S := S1x128x128) hz3, pay8_eq]
  rfl

theorem rA_9 (B : Blk) :
    r_9 (F := Ideal) c a10 h10 (lift2 B.x8) = lift2 (q9 B) := by
  unfold r_9
  simp (proj := false) only [View.readAt_eq_ld, h10.read_unread, View.ld_unit_zero (S := S8x128) hz2, pay9_eq]
  rfl

theorem rA_10 (B : Blk) :
    r_10 (F := Ideal) c a8 h8 (lift3 B.x6) = lift2 (q10 B) := by
  unfold r_10
  simp (proj := false) only [View.readAt_eq_ld, h8.read_unread, View.ld_unit_zero (S := S1x128x128) hz3, pay10_eq]
  rfl

theorem rA_11 (B : Blk) :
    r_11 (F := Ideal) c a11 h11 (lift3 B.x9) = lift2 (q11 B) := by
  unfold r_11
  simp (proj := false) only [View.readAt_eq_ld, h11.read_unread, View.ld_unit_zero (S := S1x128x256) hz3, pay21_eq]
  rfl

theorem rA_12 (B : Blk) :
    r_12 (F := Ideal) c a13 h13 (lift3 B.x11) = lift2 (q12 B) := by
  unfold r_12
  simp (proj := false) only [View.readAt_eq_ld, h13.read_unread, View.ld_unit_zero (S := S1x128x256) hz3, pay22_eq]
  rfl

theorem rA_13 (B : Blk) :
    r_13 (F := Ideal) c a11 h11 (lift3 B.x9) = lift2 (q13 B) := by
  unfold r_13
  simp (proj := false) only [View.readAt_eq_ld, h11.read_unread, View.ld_unit_zero (S := S1x128x256) hz3, pay23_eq]
  rfl

theorem rA_14 (B : Blk) :
    r_14 (F := Ideal) c a13 h13 (lift3 B.x11) = lift2 (q14 B) := by
  unfold r_14
  simp (proj := false) only [View.readAt_eq_ld, h13.read_unread, View.ld_unit_zero (S := S1x128x256) hz3, pay24_eq]
  rfl

theorem rA_15 (B : Blk) :
    r_15 (F := Ideal) c a8 h8 (lift3 B.x6) = lift2 (q15 B) := by
  unfold r_15
  simp (proj := false) only [rA_7, pay27_eq]
  rfl

theorem rA_16 (B : Blk) :
    r_16 (F := Ideal) c a8 h8 (lift3 B.x6) = lift2 (q16 B) := by
  unfold r_16
  simp (proj := false) only [rA_7, pay28_eq]
  rfl

theorem rA_17 (B : Blk) :
    r_17 (F := Ideal) c a7 h7 a8 h8 (lift3 B.x5) (lift3 B.x6) = lift2 (q17 B) := by
  unfold r_17
  simp (proj := false) only [rA_7, rA_8, pay29_eq]
  rfl

theorem rA_18 (B : Blk) :
    r_18 (F := Ideal) c a5 h5 a8 h8 a11 h11 (lift2 B.x3) (lift3 B.x6) (lift3 B.x9) = lift2 (q18 B) := by
  unfold r_18
  simp (proj := false) only [rA_10, rA_13, rA_2, pay17_eq, pay30_eq, pay33_eq]
  rfl

theorem rA_19 (B : Blk) :
    r_19 (F := Ideal) c a2 h2 a7 h7 a8 h8 a13 h13 (lift2 B.x0) (lift3 B.x5) (lift3 B.x6) (lift3 B.x11) = lift2 (q19 B) := by
  unfold r_19
  simp (proj := false) only [rA_14, rA_17, rA_z, pay16_eq, pay30_eq, pay34_eq]
  rfl

theorem rA_20 (B : Blk) :
    r_20 (F := Ideal) c a4 h4 a5 h5 a8 h8 a11 h11 (lift2 B.x2) (lift2 B.x3) (lift3 B.x6) (lift3 B.x9) = lift2 (q20 B) := by
  unfold r_20
  simp (proj := false) only [A_v70, A_v71, rA_10, rA_13, rA_2, rA_4, pay18_eq, pay30_eq, pay35_eq]
  rfl

theorem rA_21 (B : Blk) :
    r_21 (F := Ideal) c a2 h2 a3 h3 a13 h13 (lift2 B.x0) (lift2 B.x1) (lift3 B.x11) = lift2 (q21 B) := by
  unfold r_21
  simp (proj := false) only [rA_14, rA_3, rA_z, pay37_eq]
  rfl

theorem rA_22 (B : Blk) :
    r_22 (F := Ideal) c a2 h2 a3 h3 a13 h13 (lift2 B.x0) (lift2 B.x1) (lift3 B.x11) = lift2 (q22 B) := by
  unfold r_22
  simp (proj := false) only [rA_14, rA_3, rA_z, pay38_eq]
  rfl

theorem rA_23 (B : Blk) :
    r_23 (F := Ideal) c a2 h2 a3 h3 a8 h8 a13 h13 (lift2 B.x0) (lift2 B.x1) (lift3 B.x6) (lift3 B.x11) = lift2 (q23 B) := by
  unfold r_23
  simp (proj := false) only [A_v70, A_v71, rA_16, rA_21, rA_22, pay19_eq, pay31_eq, pay40_eq]
  rfl

theorem rA_24 (B : Blk) :
    r_24 (F := Ideal) c a2 h2 a3 h3 a4 h4 a5 h5 a7 h7 a8 h8 a11 h11 a13 h13 (lift2 B.x0) (lift2 B.x1) (lift2 B.x2) (lift2 B.x3) (lift3 B.x5) (lift3 B.x6) (lift3 B.x9) (lift3 B.x11) = lift2 (q24 B) := by
  unfold r_24
  simp (proj := false) only [A_v14, A_v70, A_v71, rA_11, rA_12, rA_15, rA_17, rA_20, rA_21, rA_22, pay31_eq, pay41_eq]
  rfl

theorem rA_25 (B : Blk) :
    r_25 (F := Ideal) c a5 h5 a13 h13 (lift2 B.x3) (lift3 B.x11) = lift2 (q25 B) := by
  unfold r_25
  simp (proj := false) only [rA_14, rA_5, pay42_eq]
  rfl

theorem rA_26 (B : Blk) :
    r_26 (F := Ideal) c a12 h12 (lift3 B.x10) = lift2 (q26 B) := by
  unfold r_26
  simp (proj := false) only [View.readAt_eq_ld, h12.read_unread, View.ld_unit_zero (S := S1x128x256) hz3, pay44_eq]
  rfl

theorem rA_27 (B : Blk) :
    r_27 (F := Ideal) c a14 h14 (lift3 B.x12) = lift2 (q27 B) := by
  unfold r_27
  simp (proj := false) only [View.readAt_eq_ld, h14.read_unread, View.ld_unit_zero (S := S1x128x256) hz3, pay45_eq]
  rfl

theorem rA_28 (B : Blk) :
    r_28 (F := Ideal) c a12 h12 (lift3 B.x10) = lift2 (q28 B) := by
  unfold r_28
  simp (proj := false) only [View.readAt_eq_ld, h12.read_unread, View.ld_unit_zero (S := S1x128x256) hz3, pay46_eq]
  rfl

theorem rA_29 (B : Blk) :
    r_29 (F := Ideal) c a14 h14 (lift3 B.x12) = lift2 (q29 B) := by
  unfold r_29
  simp (proj := false) only [View.readAt_eq_ld, h14.read_unread, View.ld_unit_zero (S := S1x128x256) hz3, pay47_eq]
  rfl

theorem rA_30 (B : Blk) :
    r_30 (F := Ideal) c a8 h8 (lift3 B.x6) = lift2 (q30 B) := by
  unfold r_30
  simp (proj := false) only [A_v15, rA_7, pay48_eq, pay51_eq]
  rfl

theorem rA_31 (B : Blk) :
    r_31 (F := Ideal) c a8 h8 (lift3 B.x6) = lift2 (q31 B) := by
  unfold r_31
  simp (proj := false) only [A_v15, rA_7, pay48_eq, pay52_eq]
  rfl

theorem rA_32 (B : Blk) :
    r_32 (F := Ideal) c a7 h7 a8 h8 (lift3 B.x5) (lift3 B.x6) = lift2 (q32 B) := by
  unfold r_32
  simp (proj := false) only [A_v15, rA_7, rA_8, pay48_eq, pay53_eq]
  rfl

theorem rA_33 (B : Blk) :
    r_33 (F := Ideal) c a8 h8 (lift3 B.x6) = lift2 (q33 B) := by
  unfold r_33
  simp (proj := false) only [rA_10, pay56_eq]
  rfl

theorem rA_34 (B : Blk) :
    r_34 (F := Ideal) c a7 h7 a8 h8 (lift3 B.x5) (lift3 B.x6) = lift2 (q34 B) := by
  unfold r_34
  simp (proj := false) only [A_v15, rA_7, rA_8, pay48_eq, pay57_eq]
  rfl

theorem rA_35 (B : Blk) :
    r_35 (F := Ideal) c a7 h7 a8 h8 (lift3 B.x5) (lift3 B.x6) = lift2 (q35 B) := by
  unfold r_35
  simp (proj := false) only [A_v15, rA_7, rA_8, pay48_eq, pay58_eq]
  rfl

theorem rA_36 (B : Blk) :
    r_36 (F := Ideal) c a5 h5 a8 h8 a11 h11 a12 h12 (lift2 B.x3) (lift3 B.x6) (lift3 B.x9) (lift3 B.x10) = lift2 (q36 B) := by
  unfold r_36
  simp (proj := false) only [rA_18, rA_2, rA_28, rA_33, pay60_eq]
  rfl

theorem rA_37 (B : Blk) :
    r_37 (F := Ideal) c a2 h2 a7 h7 a8 h8 a13 h13 a14 h14 (lift2 B.x0) (lift3 B.x5) (lift3 B.x6) (lift3 B.x11) (lift3 B.x12) = lift2 (q37 B) := by
  unfold r_37
  simp (proj := false) only [rA_19, rA_29, rA_34, rA_35, rA_z, pay54_eq, pay61_eq, A_cst]
  rfl

theorem rA_38 (B : Blk) :
    r_38 (F := Ideal) c a2 h2 a3 h3 a7 h7 a8 h8 a14 h14 (lift2 B.x0) (lift2 B.x1) (lift3 B.x5) (lift3 B.x6) (lift3 B.x12) = lift2 (q38 B) := by
  unfold r_38
  simp (proj := false) only [rA_29, rA_3, rA_32, rA_z, pay55_eq, pay63_eq]
  rfl

theorem rA_39 (B : Blk) :
    r_39 (F := Ideal) c a2 h2 a3 h3 a4 h4 a5 h5 a7 h7 a8 h8 a11 h11 a12 h12 a13 h13 a14 h14 (lift2 B.x0) (lift2 B.x1) (lift2 B.x2) (lift2 B.x3) (lift3 B.x5) (lift3 B.x6) (lift3 B.x9) (lift3 B.x10) (lift3 B.x11) (lift3 B.x12) = lift2 (q39 B) := by
  unfold r_39
  simp (proj := false) only [rA_2, rA_24, rA_28, rA_29, rA_3, rA_32, rA_33, rA_4, rA_z, pay55_eq, pay64_eq]
  rfl

theorem rA_40 (B : Blk) :
    r_40 (F := Ideal) c a2 h2 a3 h3 a8 h8 a13 h13 a14 h14 (lift2 B.x0) (lift2 B.x1) (lift3 B.x6) (lift3 B.x11) (lift3 B.x12) = lift2 (q40 B) := by
  unfold r_40
  simp (proj := false) only [rA_23, rA_29, rA_3, rA_31, rA_z, pay55_eq, pay65_eq]
  rfl

theorem rA_41 (B : Blk) :
    r_41 (F := Ideal) c a12 h12 a14 h14 (lift3 B.x10) (lift3 B.x12) = lift2 (q41 B) := by
  unfold r_41
  simp (proj := false) only [rA_26, rA_27, pay55_eq, pay66_eq]
  rfl

theorem rA_42 (B : Blk) :
    r_42 (F := Ideal) c a2 h2 a3 h3 a4 h4 a5 h5 a7 h7 a8 h8 a11 h11 a12 h12 a13 h13 a14 h14 (lift2 B.x0) (lift2 B.x1) (lift2 B.x2) (lift2 B.x3) (lift3 B.x5) (lift3 B.x6) (lift3 B.x9) (lift3 B.x10) (lift3 B.x11) (lift3 B.x12) = lift2 (q42 B) := by
  unfold r_42
  simp (proj := false) only [A_v14, rA_30, rA_38, rA_39, rA_41, pay67_eq]
  rfl

theorem rA_43 (B : Blk) :
    r_43 (F := Ideal) c a5 h5 a14 h14 (lift2 B.x3) (lift3 B.x12) = lift2 (q43 B) := by
  unfold r_43
  simp (proj := false) only [rA_29, rA_5, pay68_eq]
  rfl

theorem rA_44 (B : Blk) :
    r_44 (F := Ideal) c a2 h2 a5 h5 (lift2 B.x0) (lift2 B.x3) = lift2 (q44 B) := by
  unfold r_44
  simp (proj := false) only [A_v15, rA_5, rA_z, pay71_eq]
  rfl

theorem rA_45 (B : Blk) :
    r_45 (F := Ideal) c a2 h2 a3 h3 a4 h4 a5 h5 (lift2 B.x0) (lift2 B.x1) (lift2 B.x2) (lift2 B.x3) = lift2 (q45 B) := by
  unfold r_45
  simp (proj := false) only [A_v15, rA_5, rA_6, rA_z, pay72_eq]
  rfl

theorem rA_46 (B : Blk) :
    r_46 (F := Ideal) c a7 h7 (lift3 B.x5) = lift2 (q46 B) := by
  unfold r_46
  simp (proj := false) only [rA_8, pay73_eq]
  rfl

theorem rA_47 (B : Blk) :
    r_47 (F := Ideal) c a7 h7 a8 h8 a10 h10 (lift3 B.x5) (lift3 B.x6) (lift2 B.x8) = lift2 (q47 B) := by
  unfold r_47
  simp (proj := false) only [A_v14, A_v15, rA_7, rA_8, rA_9, pay43_eq, pay75_eq]
  rfl

theorem rA_48 (B : Blk) :
    r_48 (F := Ideal) c a3 h3 a4 h4 a5 h5 a7 h7 a8 h8 a10 h10 a13 h13 (lift2 B.x1) (lift2 B.x2) (lift2 B.x3) (lift3 B.x5) (lift3 B.x6) (lift2 B.x8) (lift3 B.x11) = lift2 (q48 B) := by
  unfold r_48
  simp (proj := false) only [A_v14, A_v15, rA_1, rA_17, rA_25, rA_6, rA_7, rA_8, rA_9, pay12_eq, pay43_eq, pay76_eq]
  rfl

theorem rA_49 (B : Blk) :
    r_49 (F := Ideal) c a2 h2 a3 h3 a4 h4 a5 h5 a8 h8 a10 h10 (lift2 B.x0) (lift2 B.x1) (lift2 B.x2) (lift2 B.x3) (lift3 B.x6) (lift2 B.x8) = lift1 (q49 B) := by
  unfold r_49
  simp (proj := false) only [A_v14, A_v15, rA_5, rA_6, rA_7, rA_9, rA_z, pay43_eq, pay77_eq]
  rfl

theorem rA_50 (B : Blk) :
    r_50 (F := Ideal) c a2 h2 a3 h3 a4 h4 a5 h5 a8 h8 a10 h10 (lift2 B.x0) (lift2 B.x1) (lift2 B.x2) (lift2 B.x3) (lift3 B.x6) (lift2 B.x8) = lift2 (q50 B) := by
  unfold r_50
  simp (proj := false) only [A_v15, rA_49, pay14_eq, pay79_eq]
  rfl

theorem rA_51 (B : Blk) :
    r_51 (F := Ideal) c a2 h2 a3 h3 a4 h4 a5 h5 a7 h7 a8 h8 a10 h10 (lift2 B.x0) (lift2 B.x1) (lift2 B.x2) (lift2 B.x3) (lift3 B.x5) (lift3 B.x6) (lift2 B.x8) = lift2 (q51 B) := by
  unfold r_51
  simp (proj := false) only [A_v15, rA_46, rA_49, pay15_eq, pay80_eq]
  rfl

theorem rA_52 (B : Blk) :
    r_52 (F := Ideal) c a2 h2 a3 h3 a4 h4 a5 h5 a7 h7 a8 h8 a10 h10 (lift2 B.x0) (lift2 B.x1) (lift2 B.x2) (lift2 B.x3) (lift3 B.x5) (lift3 B.x6) (lift2 B.x8) = lift2 (q52 B) := by
  unfold r_52
  simp (proj := false) only [A_v14, rA_45, rA_47, pay20_eq, pay81_eq]
  rfl

theorem rA_53 (B : Blk) :
    r_53 (F := Ideal) c a2 h2 a5 h5 a7 h7 a8 h8 a10 h10 (lift2 B.x0) (lift2 B.x3) (lift3 B.x5) (lift3 B.x6) (lift2 B.x8) = lift2 (q53 B) := by
  unfold r_53
  simp (proj := false) only [rA_44, rA_47, pay11_eq, pay82_eq]
  rfl

theorem rA_54 (B : Blk) :
    r_54 (F := Ideal) c a7 h7 (lift3 B.x5) = lift2 (q54 B) := by
  unfold r_54
  simp (proj := false) only [rA_8, pay83_eq]
  rfl

theorem rA_55 (B : Blk) :
    r_55 (F := Ideal) c a7 h7 a8 h8 a10 h10 (lift3 B.x5) (lift3 B.x6) (lift2 B.x8) = lift2 (q55 B) := by
  unfold r_55
  simp (proj := false) only [A_v14, A_v15, rA_7, rA_8, rA_9, pay69_eq, pay85_eq]
  rfl

theorem rA_56 (B : Blk) :
    r_56 (F := Ideal) c a3 h3 a4 h4 a5 h5 a7 h7 a8 h8 a10 h10 a13 h13 a14 h14 (lift2 B.x1) (lift2 B.x2) (lift2 B.x3) (lift3 B.x5) (lift3 B.x6) (lift2 B.x8) (lift3 B.x11) (lift3 B.x12) = lift2 (q56 B) := by
  unfold r_56
  simp (proj := false) only [A_v14, A_v15, rA_1, rA_32, rA_43, rA_48, rA_6, rA_7, rA_8, rA_9, pay69_eq, pay70_eq, pay86_eq]
  rfl

theorem rA_57 (B : Blk) :
    r_57 (F := Ideal) c a2 h2 a3 h3 a4 h4 a5 h5 a8 h8 a10 h10 (lift2 B.x0) (lift2 B.x1) (lift2 B.x2) (lift2 B.x3) (lift3 B.x6) (lift2 B.x8) = lift2 (q57 B) := by
  unfold r_57
  simp (proj := false) only [A_v14, A_v15, rA_45, rA_7, rA_9, pay69_eq, pay87_eq]
  rfl

theorem rA_58 (B : Blk) :
    r_58 (F := Ideal) c a2 h2 a3 h3 a4 h4 a5 h5 a8 h8 a10 h10 (lift2 B.x0) (lift2 B.x1) (lift2 B.x2) (lift2 B.x3) (lift3 B.x6) (lift2 B.x8) = lift2 (q58 B) := by
  unfold r_58
  simp (proj := false) only [A_v15, rA_50, rA_57, pay88_eq]
  rfl

theorem rA_59 (B : Blk) :
    r_59 (F := Ideal) c a2 h2 a3 h3 a4 h4 a5 h5 a7 h7 a8 h8 a10 h10 (lift2 B.x0) (lift2 B.x1) (lift2 B.x2) (lift2 B.x3) (lift3 B.x5) (lift3 B.x6) (lift2 B.x8) = lift2 (q59 B) := by
  unfold r_59
  simp (proj := false) only [A_v15, rA_51, rA_54, rA_57, pay89_eq]
  rfl

theorem rA_60 (B : Blk) :
    r_60 (F := Ideal) c a2 h2 a3 h3 a4 h4 a5 h5 a7 h7 a8 h8 a10 h10 (lift2 B.x0) (lift2 B.x1) (lift2 B.x2) (lift2 B.x3) (lift3 B.x5) (lift3 B.x6) (lift2 B.x8) = lift2 (q60 B) := by
  unfold r_60
  simp (proj := false) only [A_v14, rA_45, rA_52, rA_55, pay90_eq]
  rfl

theorem rA_61 (B : Blk) :
    r_61 (F := Ideal) c a2 h2 a5 h5 a7 h7 a8 h8 a10 h10 (lift2 B.x0) (lift2 B.x3) (lift3 B.x5) (lift3 B.x6) (lift2 B.x8) = lift2 (q61 B) := by
  unfold r_61
  simp (proj := false) only [rA_44, rA_53, rA_55, pay91_eq]
  rfl

theorem rA_62 (B : Blk) :
    r_62 (F := Ideal) c a2 h2 a5 h5 (lift2 B.x0) (lift2 B.x3) = lift2 (q62 B) := by
  unfold r_62
  simp (proj := false) only [A_v15, rA_5, rA_z, pay93_eq]
  rfl

theorem rA_63 (B : Blk) :
    r_63 (F := Ideal) c a2 h2 a3 h3 a4 h4 a5 h5 (lift2 B.x0) (lift2 B.x1) (lift2 B.x2) (lift2 B.x3) = lift2 (q63 B) := by
  unfold r_63
  simp (proj := false) only [A_v15, rA_5, rA_6, rA_z, pay94_eq]
  rfl

theorem rA_64 (B : Blk) :
    r_64 (F := Ideal) c a7 h7 (lift3 B.x5) = lift2 (q64 B) := by
  unfold r_64
  simp (proj := false) only [rA_8, pay95_eq]
  rfl

theorem rA_65 (B : Blk) :
    r_65 (F := Ideal) c a8 h8 a10 h10 (lift3 B.x6) (lift2 B.x8) = lift2 (q65 B) := by
  unfold r_65
  simp (proj := false) only [A_v14, A_v15, rA_7, rA_9, pay43_eq, pay96_eq]
  rfl

theorem rA_66 (B : Blk) :
    r_66 (F := Ideal) c a7 h7 a8 h8 a10 h10 (lift3 B.x5) (lift3 B.x6) (lift2 B.x8) = lift2 (q66 B) := by
  unfold r_66
  simp (proj := false) only [A_v14, A_v15, rA_7, rA_8, rA_9, pay43_eq, pay97_eq]
  rfl

theorem rA_67 (B : Blk) :
    r_67 (F := Ideal) c a3 h3 a4 h4 a7 h7 a8 h8 a10 h10 (lift2 B.x1) (lift2 B.x2) (lift3 B.x5) (lift3 B.x6) (lift2 B.x8) = lift2 (q67 B) := by
  unfold r_67
  simp (proj := false) only [A_v14, A_v15, rA_1, rA_17, rA_6, rA_7, rA_8, rA_9, pay43_eq, pay98_eq]
  rfl

theorem rA_68 (B : Blk) :
    r_68 (F := Ideal) c a3 h3 a4 h4 a5 h5 a7 h7 a8 h8 a10 h10 a13 h13 a14 h14 (lift2 B.x1) (lift2 B.x2) (lift2 B.x3) (lift3 B.x5) (lift3 B.x6) (lift2 B.x8) (lift3 B.x11) (lift3 B.x12) = lift2 (q68 B) := by
  unfold r_68
  simp (proj := false) only [A_v15, rA_25, rA_56, rA_67, pay92_eq, pay99_eq]
  rfl

theorem rA_69 (B : Blk) :
    r_69 (F := Ideal) c a2 h2 a3 h3 a4 h4 a5 h5 a8 h8 a10 h10 (lift2 B.x0) (lift2 B.x1) (lift2 B.x2) (lift2 B.x3) (lift3 B.x6) (lift2 B.x8) = lift2 (q69 B) := by
  unfold r_69
  simp (proj := false) only [A_v15, rA_58, rA_63, rA_65, pay101_eq]
  rfl

theorem rA_70 (B : Blk) :
    r_70 (F := Ideal) c a2 h2 a3 h3 a4 h4 a5 h5 a7 h7 a8 h8 a10 h10 (lift2 B.x0) (lift2 B.x1) (lift2 B.x2) (lift2 B.x3) (lift3 B.x5) (lift3 B.x6) (lift2 B.x8) = lift2 (q70 B) := by
  unfold r_70
  simp (proj := false) only [A_v15, rA_59, rA_63, rA_64, rA_65, pay102_eq]
  rfl

theorem rA_71 (B : Blk) :
    r_71 (F := Ideal) c a2 h2 a3 h3 a4 h4 a5 h5 a7 h7 a8 h8 a10 h10 (lift2 B.x0) (lift2 B.x1) (lift2 B.x2) (lift2 B.x3) (lift3 B.x5) (lift3 B.x6) (lift2 B.x8) = lift2 (q71 B) := by
  unfold r_71
  simp (proj := false) only [A_v14, rA_60, rA_63, rA_66, pay103_eq]
  rfl

theorem rA_72 (B : Blk) :
    r_72 (F := Ideal) c a2 h2 a5 h5 a7 h7 a8 h8 a10 h10 (lift2 B.x0) (lift2 B.x3) (lift3 B.x5) (lift3 B.x6) (lift2 B.x8) = lift2 (q72 B) := by
  unfold r_72
  simp (proj := false) only [rA_61, rA_62, rA_66, pay104_eq]
  rfl

theorem rA_73 (B : Blk) :
    r_73 (F := Ideal) c a7 h7 (lift3 B.x5) = lift2 (q73 B) := by
  unfold r_73
  simp (proj := false) only [rA_8, pay105_eq]
  rfl

theorem rA_74 (B : Blk) :
    r_74 (F := Ideal) c a8 h8 a10 h10 (lift3 B.x6) (lift2 B.x8) = lift2 (q74 B) := by
  unfold r_74
  simp (proj := false) only [A_v14, A_v15, rA_7, rA_9, pay69_eq, pay106_eq]
  rfl

theorem rA_75 (B : Blk) :
    r_75 (F := Ideal) c a7 h7 a8 h8 a10 h10 (lift3 B.x5) (lift3 B.x6) (lift2 B.x8) = lift2 (q75 B) := by
  unfold r_75
  simp (proj := false) only [A_v14, A_v15, rA_7, rA_8, rA_9, pay69_eq, pay107_eq]
  rfl

theorem rA_76 (B : Blk) :
    r_76 (F := Ideal) c a3 h3 a4 h4 a7 h7 a8 h8 a10 h10 (lift2 B.x1) (lift2 B.x2) (lift3 B.x5) (lift3 B.x6) (lift2 B.x8) = lift2 (q76 B) := by
  unfold r_76
  simp (proj := false) only [A_v14, A_v15, rA_1, rA_32, rA_6, rA_7, rA_8, rA_9, pay69_eq, pay108_eq]
  rfl

theorem rA_77 (B : Blk) :
    r_77 (F := Ideal) c a5 h5 a14 h14 (lift2 B.x3) (lift3 B.x12) = lift2 (q77 B) := by
  unfold r_77
  simp (proj := false) only [rA_43, pay109_eq]
  rfl

theorem rA_78 (B : Blk) :
    r_78 (F := Ideal) c a3 h3 a4 h4 a5 h5 a7 h7 a8 h8 a10 h10 a13 h13 a14 h14 (lift2 B.x1) (lift2 B.x2) (lift2 B.x3) (lift3 B.x5) (lift3 B.x6) (lift2 B.x8) (lift3 B.x11) (lift3 B.x12) = lift2 (q78 B) := by
  unfold r_78
  simp (proj := false) only [A_v15, rA_68, rA_76, rA_77, pay92_eq, pay110_eq]
  rfl

theorem rA_79 (B : Blk) :
    r_79 (F := Ideal) c a2 h2 a3 h3 a4 h4 a5 h5 a8 h8 a10 h10 (lift2 B.x0) (lift2 B.x1) (lift2 B.x2) (lift2 B.x3) (lift3 B.x6) (lift2 B.x8) = lift2 (q79 B) := by
  unfold r_79
  simp (proj := false) only [A_v15, rA_63, rA_69, rA_74, pay112_eq]
  rfl

theorem rA_80 (B : Blk) :
    r_80 (F := Ideal) c a2 h2 a3 h3 a4 h4 a5 h5 a7 h7 a8 h8 a10 h10 (lift2 B.x0) (lift2 B.x1) (lift2 B.x2) (lift2 B.x3) (lift3 B.x5) (lift3 B.x6) (lift2 B.x8) = lift2 (q80 B) := by
  unfold r_80
  simp (proj := false) only [A_v15, rA_63, rA_70, rA_73, rA_74, pay113_eq]
  rfl

theorem rA_81 (B : Blk) :
    r_81 (F := Ideal) c a2 h2 a3 h3 a4 h4 a5 h5 a7 h7 a8 h8 a10 h10 (lift2 B.x0) (lift2 B.x1) (lift2 B.x2) (lift2 B.x3) (lift3 B.x5) (lift3 B.x6) (lift2 B.x8) = lift2 (q81 B) := by
  unfold r_81
  simp (proj := false) only [A_v14, rA_63, rA_71, rA_75, pay114_eq]
  rfl

theorem rA_82 (B : Blk) :
    r_82 (F := Ideal) c a2 h2 a5 h5 a7 h7 a8 h8 a10 h10 (lift2 B.x0) (lift2 B.x3) (lift3 B.x5) (lift3 B.x6) (lift2 B.x8) = lift2 (q82 B) := by
  unfold r_82
  simp (proj := false) only [rA_62, rA_72, rA_75, pay115_eq]
  rfl

theorem rA_83 (B : Blk) :
    r_83 (F := Ideal) c a2 h2 a5 h5 (lift2 B.x0) (lift2 B.x3) = lift2 (q83 B) := by
  unfold r_83
  simp (proj := false) only [A_v15, rA_5, rA_z, pay117_eq]
  rfl

theorem rA_84 (B : Blk) :
    r_84 (F := Ideal) c a2 h2 a3 h3 a4 h4 a5 h5 (lift2 B.x0) (lift2 B.x1) (lift2 B.x2) (lift2 B.x3) = lift2 (q84 B) := by
  unfold r_84
  simp (proj := false) only [A_v15, rA_5, rA_6, rA_z, pay118_eq]
  rfl

theorem rA_85 (B : Blk) :
    r_85 (F := Ideal) c a7 h7 (lift3 B.x5) = lift2 (q85 B) := by
  unfold r_85
  simp (proj := false) only [rA_8, pay119_eq]
  rfl

theorem rA_86 (B : Blk) :
    r_86 (F := Ideal) c a8 h8 a10 h10 (lift3 B.x6) (lift2 B.x8) = lift2 (q86 B) := by
  unfold r_86
  simp (proj := false) only [rA_7, rA_9, pay120_eq]
  rfl

theorem rA_87 (B : Blk) :
    r_87 (F := Ideal) c a3 h3 a4 h4 a5 h5 a7 h7 a8 h8 a10 h10 a13 h13 (lift2 B.x1) (lift2 B.x2) (lift2 B.x3) (lift3 B.x5) (lift3 B.x6) (lift2 B.x8) (lift3 B.x11) = lift2 (q87 B) := by
  unfold r_87
  simp (proj := false) only [A_v14, A_v15, rA_1, rA_17, rA_25, rA_6, rA_85, rA_86, pay13_eq, pay43_eq, pay116_eq, pay123_eq]
  rfl

theorem rA_88 (B : Blk) :
    r_88 (F := Ideal) c a2 h2 a3 h3 a4 h4 a5 h5 a8 h8 a10 h10 (lift2 B.x0) (lift2 B.x1) (lift2 B.x2) (lift2 B.x3) (lift3 B.x6) (lift2 B.x8) = lift2 (q88 B) := by
  unfold r_88
  simp (proj := false) only [A_v14, A_v15, rA_79, rA_84, rA_86, pay43_eq, pay125_eq]
  rfl

theorem rA_89 (B : Blk) :
    r_89 (F := Ideal) c a2 h2 a3 h3 a4 h4 a5 h5 a7 h7 a8 h8 a10 h10 (lift2 B.x0) (lift2 B.x1) (lift2 B.x2) (lift2 B.x3) (lift3 B.x5) (lift3 B.x6) (lift2 B.x8) = lift2 (q89 B) := by
  unfold r_89
  simp (proj := false) only [A_v14, A_v15, rA_80, rA_84, rA_85, rA_86, pay43_eq, pay126_eq]
  rfl

theorem rA_90 (B : Blk) :
    r_90 (F := Ideal) c a2 h2 a3 h3 a4 h4 a5 h5 a7 h7 a8 h8 a10 h10 (lift2 B.x0) (lift2 B.x1) (lift2 B.x2) (lift2 B.x3) (lift3 B.x5) (lift3 B.x6) (lift2 B.x8) = lift2 (q90 B) := by
  unfold r_90
  simp (proj := false) only [A_v14, A_v15, rA_81, rA_84, rA_85, rA_86, pay43_eq, pay127_eq]
  rfl

theorem rA_91 (B : Blk) :
    r_91 (F := Ideal) c a2 h2 a5 h5 a7 h7 a8 h8 a10 h10 (lift2 B.x0) (lift2 B.x3) (lift3 B.x5) (lift3 B.x6) (lift2 B.x8) = lift2 (q91 B) := by
  unfold r_91
  simp (proj := false) only [A_v14, A_v15, rA_82, rA_83, rA_85, rA_86, pay43_eq, pay128_eq]
  rfl

theorem rA_92 (B : Blk) :
    r_92 (F := Ideal) c a7 h7 (lift3 B.x5) = lift2 (q92 B) := by
  unfold r_92
  simp (proj := false) only [rA_8, pay129_eq]
  rfl

theorem rA_93 (B : Blk) :
    r_93 (F := Ideal) c a8 h8 a10 h10 (lift3 B.x6) (lift2 B.x8) = lift2 (q93 B) := by
  unfold r_93
  simp (proj := false) only [rA_7, rA_9, pay130_eq]
  rfl

theorem rA_94 (B : Blk) :
    r_94 (F := Ideal) c a3 h3 a4 h4 a5 h5 a7 h7 a8 h8 a10 h10 a13 h13 a14 h14 (lift2 B.x1) (lift2 B.x2) (lift2 B.x3) (lift3 B.x5) (lift3 B.x6) (lift2 B.x8) (lift3 B.x11) (lift3 B.x12) = lift2 (q94 B) := by
  unfold r_94
  simp (proj := false) only [A_v14, A_v15, rA_1, rA_32, rA_43, rA_6, rA_87, rA_92, rA_93, pay69_eq, pay116_eq, pay131_eq, pay134_eq]
  rfl

theorem rA_95 (B : Blk) :
    r_95 (F := Ideal) c a2 h2 a3 h3 a4 h4 a5 h5 a8 h8 a10 h10 (lift2 B.x0) (lift2 B.x1) (lift2 B.x2) (lift2 B.x3) (lift3 B.x6) (lift2 B.x8) = lift2 (q95 B) := by
  unfold r_95
  simp (proj := false) only [A_v14, A_v15, rA_84, rA_88, rA_93, pay69_eq, pay131_eq, pay136_eq]
  rfl

theorem rA_96 (B : Blk) :
    r_96 (F := Ideal) c a2 h2 a3 h3 a4 h4 a5 h5 a7 h7 a8 h8 a10 h10 (lift2 B.x0) (lift2 B.x1) (lift2 B.x2) (lift2 B.x3) (lift3 B.x5) (lift3 B.x6) (lift2 B.x8) = lift2 (q96 B) := by
  unfold r_96
  simp (proj := false) only [A_v14, A_v15, rA_84, rA_89, rA_92, rA_93, pay69_eq, pay131_eq, pay137_eq]
  rfl

theorem rA_97 (B : Blk) :
    r_97 (F := Ideal) c a2 h2 a3 h3 a4 h4 a5 h5 a7 h7 a8 h8 a10 h10 (lift2 B.x0) (lift2 B.x1) (lift2 B.x2) (lift2 B.x3) (lift3 B.x5) (lift3 B.x6) (lift2 B.x8) = lift2 (q97 B) := by
  unfold r_97
  simp (proj := false) only [A_v14, A_v15, rA_84, rA_90, rA_92, rA_93, pay69_eq, pay131_eq, pay138_eq]
  rfl

theorem rA_98 (B : Blk) :
    r_98 (F := Ideal) c a2 h2 a5 h5 a7 h7 a8 h8 a10 h10 (lift2 B.x0) (lift2 B.x3) (lift3 B.x5) (lift3 B.x6) (lift2 B.x8) = lift2 (q98 B) := by
  unfold r_98
  simp (proj := false) only [A_v14, A_v15, rA_83, rA_91, rA_92, rA_93, pay69_eq, pay131_eq, pay139_eq]
  rfl

theorem rA_99 (B : Blk) :
    r_99 (F := Ideal) c a2 h2 (lift2 B.x0) = lift2 (q99 B) := by
  unfold r_99
  simp (proj := false) only [A_v15, rA_z, pay141_eq]
  rfl

theorem rA_100 (B : Blk) :
    r_100 (F := Ideal) c a2 h2 a5 h5 (lift2 B.x0) (lift2 B.x3) = lift2 (q100 B) := by
  unfold r_100
  simp (proj := false) only [rA_5, rA_99, pay142_eq]
  rfl

theorem rA_101 (B : Blk) :
    r_101 (F := Ideal) c a2 h2 a3 h3 a4 h4 a5 h5 (lift2 B.x0) (lift2 B.x1) (lift2 B.x2) (lift2 B.x3) = lift2 (q101 B) := by
  unfold r_101
  simp (proj := false) only [rA_5, rA_6, rA_99, pay143_eq]
  rfl

theorem rA_102 (B : Blk) :
    r_102 (F := Ideal) c a7 h7 a8 h8 a10 h10 (lift3 B.x5) (lift3 B.x6) (lift2 B.x8) = lift2 (q102 B) := by
  unfold r_102
  simp (proj := false) only [A_v14, A_v15, rA_7, rA_8, rA_9, pay43_eq, pay146_eq]
  rfl

theorem rA_103 (B : Blk) :
    r_103 (F := Ideal) c a3 h3 a4 h4 a5 h5 a7 h7 a8 h8 a10 h10 a13 h13 a14 h14 (lift2 B.x1) (lift2 B.x2) (lift2 B.x3) (lift3 B.x5) (lift3 B.x6) (lift2 B.x8) (lift3 B.x11) (lift3 B.x12) = lift2 (q103 B) := by
  unfold r_103
  simp (proj := false) only [A_v14, A_v15, rA_1, rA_17, rA_25, rA_6, rA_7, rA_8, rA_9, rA_94, pay43_eq, pay140_eq, pay147_eq]
  rfl

theorem rA_104 (B : Blk) :
    r_104 (F := Ideal) c a2 h2 a3 h3 a4 h4 a5 h5 a8 h8 a10 h10 (lift2 B.x0) (lift2 B.x1) (lift2 B.x2) (lift2 B.x3) (lift3 B.x6) (lift2 B.x8) = lift2 (q104 B) := by
  unfold r_104
  simp (proj := false) only [A_v14, A_v15, rA_5, rA_6, rA_7, rA_9, rA_95, rA_99, pay43_eq, pay149_eq]
  rfl

theorem rA_105 (B : Blk) :
    r_105 (F := Ideal) c a2 h2 a3 h3 a4 h4 a5 h5 a7 h7 a8 h8 a10 h10 (lift2 B.x0) (lift2 B.x1) (lift2 B.x2) (lift2 B.x3) (lift3 B.x5) (lift3 B.x6) (lift2 B.x8) = lift2 (q105 B) := by
  unfold r_105
  simp (proj := false) only [A_v14, A_v15, rA_5, rA_6, rA_7, rA_8, rA_9, rA_96, rA_99, pay43_eq, pay150_eq]
  rfl

theorem rA_106 (B : Blk) :
    r_106 (F := Ideal) c a2 h2 a3 h3 a4 h4 a5 h5 a7 h7 a8 h8 a10 h10 (lift2 B.x0) (lift2 B.x1) (lift2 B.x2) (lift2 B.x3) (lift3 B.x5) (lift3 B.x6) (lift2 B.x8) = lift2 (q106 B) := by
  unfold r_106
  simp (proj := false) only [A_v14, A_v15, rA_5, rA_6, rA_7, rA_8, rA_9, rA_97, rA_99, pay43_eq, pay151_eq]
  rfl

theorem rA_107 (B : Blk) :
    r_107 (F := Ideal) c a3 h3 a4 h4 a5 h5 a7 h7 a8 h8 a10 h10 a13 h13 a14 h14 (lift2 B.x1) (lift2 B.x2) (lift2 B.x3) (lift3 B.x5) (lift3 B.x6) (lift2 B.x8) (lift3 B.x11) (lift3 B.x12) = lift2 (q107 B) := by
  unfold r_107
  simp (proj := false) only [A_v14, A_v15, rA_1, rA_103, rA_32, rA_43, rA_6, rA_7, rA_8, rA_9, pay69_eq, pay140_eq, pay155_eq]
  rfl

theorem rA_108 (B : Blk) :
    r_108 (F := Ideal) c a2 h2 a3 h3 a4 h4 a5 h5 a8 h8 a10 h10 (lift2 B.x0) (lift2 B.x1) (lift2 B.x2) (lift2 B.x3) (lift3 B.x6) (lift2 B.x8) = lift2 (q108 B) := by
  unfold r_108
  simp (proj := false) only [A_v14, A_v15, rA_101, rA_104, rA_7, rA_9, pay69_eq, pay157_eq]
  rfl

theorem rA_109 (B : Blk) :
    r_109 (F := Ideal) c a2 h2 a3 h3 a4 h4 a5 h5 a7 h7 a8 h8 a10 h10 (lift2 B.x0) (lift2 B.x1) (lift2 B.x2) (lift2 B.x3) (lift3 B.x5) (lift3 B.x6) (lift2 B.x8) = lift2 (q109 B) := by
  unfold r_109
  simp (proj := false) only [A_v14, A_v15, rA_101, rA_105, rA_7, rA_8, rA_9, pay69_eq, pay158_eq]
  rfl

theorem rA_110 (B : Blk) :
    r_110 (F := Ideal) c a2 h2 a3 h3 a4 h4 a5 h5 a7 h7 a8 h8 a10 h10 (lift2 B.x0) (lift2 B.x1) (lift2 B.x2) (lift2 B.x3) (lift3 B.x5) (lift3 B.x6) (lift2 B.x8) = lift2 (q110 B) := by
  unfold r_110
  simp (proj := false) only [A_v14, A_v15, rA_101, rA_106, rA_7, rA_8, rA_9, pay69_eq, pay159_eq]
  rfl

theorem rA_111 (B : Blk) :
    r_111 (F := Ideal) c a2 h2 a5 h5 a7 h7 a8 h8 a10 h10 (lift2 B.x0) (lift2 B.x3) (lift3 B.x5) (lift3 B.x6) (lift2 B.x8) = lift2 (q111 B) := by
  unfold r_111
  simp (proj := false) only [A_v14, A_v15, rA_100, rA_102, rA_7, rA_8, rA_9, rA_98, pay69_eq, pay160_eq]
  rfl

theorem rA_112 (B : Blk) :
    r_112 (F := Ideal) c a3 h3 a4 h4 a5 h5 a7 h7 a8 h8 a10 h10 a13 h13 a14 h14 (lift2 B.x1) (lift2 B.x2) (lift2 B.x3) (lift3 B.x5) (lift3 B.x6) (lift2 B.x8) (lift3 B.x11) (lift3 B.x12) = lift2 (q112 B) := by
  unfold r_112
  simp (proj := false) only [rA_107, rA_78, pay161_eq]
  rfl

theorem rA_113 (B : Blk) :
    r_113 (F := Ideal) c a2 h2 a3 h3 a4 h4 a5 h5 a8 h8 a10 h10 a13 h13 a14 h14 (lift2 B.x0) (lift2 B.x1) (lift2 B.x2) (lift2 B.x3) (lift3 B.x6) (lift2 B.x8) (lift3 B.x11) (lift3 B.x12) = lift2 (q113 B) := by
  unfold r_113
  simp (proj := false) only [rA_108, rA_40, pay162_eq]
  rfl

theorem rA_114 (B : Blk) :
    r_114 (F := Ideal) c a2 h2 a4 h4 a5 h5 a7 h7 a8 h8 a10 h10 a13 h13 a14 h14 (lift2 B.x0) (lift2 B.x2) (lift2 B.x3) (lift3 B.x5) (lift3 B.x6) (lift2 B.x8) (lift3 B.x11) (lift3 B.x12) = lift2 (q114 B) := by
  unfold r_114
  simp (proj := false) only [rA_111, rA_37, rA_4, pay163_eq]
  rfl

theorem rA_115 (B : Blk) :
    r_115 (F := Ideal) c a2 h2 a3 h3 a5 h5 a7 h7 a8 h8 a10 h10 a11 h11 a12 h12 (lift2 B.x0) (lift2 B.x1) (lift2 B.x3) (lift3 B.x5) (lift3 B.x6) (lift2 B.x8) (lift3 B.x9) (lift3 B.x10) = lift2 (q115 B) := by
  unfold r_115
  simp (proj := false) only [rA_111, rA_3, rA_36, pay164_eq]
  rfl

theorem rA_116 (B : Blk) :
    r_116 (F := Ideal) c a2 h2 a3 h3 a4 h4 a5 h5 a7 h7 a8 h8 a10 h10 a11 h11 a12 h12 a13 h13 a14 h14 (lift2 B.x0) (lift2 B.x1) (lift2 B.x2) (lift2 B.x3) (lift3 B.x5) (lift3 B.x6) (lift2 B.x8) (lift3 B.x9) (lift3 B.x10) (lift3 B.x11) (lift3 B.x12) = lift2 (q116 B) := by
  unfold r_116
  simp (proj := false) only [A_v15, rA_109, rA_110, rA_42, pay165_eq]
  rfl

end Cert.KernelIdeal.Gen
-- ==== Proof.RunBVal.lean ====
module

public import proofs.«01_k».proof.Proof.RunAVal

/-! The named values of the body at the later chunks of a group are those at the first chunk, as functions of the blocks:
the two differ only in what is stored into the carried buffers. -/

@[expose] public section

set_option maxRecDepth 16384

noncomputable section

namespace Cert.KernelIdeal.Gen

open Idealize.ShloMosaic Idealize.ShloMosaic.TcCoe Ssd

theorem rB_2 : kernelRun0_B.sl.r_2 (F := Ideal) = kernelRun0_A.sl.r_2 := rfl
theorem rB_8 : kernelRun0_B.sl.r_8 (F := Ideal) = kernelRun0_A.sl.r_8 := rfl
theorem rB_112 : kernelRun0_B.sl.r_112 (F := Ideal) = kernelRun0_A.sl.r_112 := rfl
theorem rB_113 : kernelRun0_B.sl.r_113 (F := Ideal) = kernelRun0_A.sl.r_113 := rfl
theorem rB_114 : kernelRun0_B.sl.r_114 (F := Ideal) = kernelRun0_A.sl.r_114 := rfl
theorem rB_115 : kernelRun0_B.sl.r_115 (F := Ideal) = kernelRun0_A.sl.r_115 := rfl
theorem rB_116 : kernelRun0_B.sl.r_116 (F := Ideal) = kernelRun0_A.sl.r_116 := rfl

end Cert.KernelIdeal.Gen

end
-- ==== Proof.OutVal.lean ====
module

public import proofs.«01_k».proof.Proof.RunAVal
public import proofs.«01_k».proof.Proof.RunBVal

/-! What the body leaves in each output block, on blocks of real entries. -/

@[expose] public section

set_option maxRecDepth 16384

noncomputable section

namespace Cert.KernelIdeal.Gen

open Idealize.ShloMosaic Idealize.ShloMosaic.TcCoe Ssd

/-- The row of the decay rates that the point of a group reads. -/
theorem row_read (i : grid0.Coords) (a : ℕ → ℕ → ℝ) (h : ∀ x, (k0_off1 i) x + (![1, 128] : Fin 2 → ℕ) x ≤ S8x128.size x) :
    View.ld (S := S8x128) (e' := .f32) (Val := Elt Ideal) (lift2 a) (Rect.unit (s := S8x128) (k0_off1 i) ![1, 128] h)
      = lift2 (fun _ j => a (i 0).val j) := by
  funext y
  have e0 : k0_off1 i 0 = (i 0).val := congrFun (k0_off1_eq i) 0
  have e1 : k0_off1 i 1 = 0 := congrFun (k0_off1_eq i) 1
  have hy : (y 0).val < 1 := (y 0).isLt
  show ((a (k0_off1 i 0 + 1 * (y 0).val) (k0_off1 i 1 + 1 * (y 1).val) : ℝ) : EReal) = ((a (i 0).val (y 1).val : ℝ) : EReal)
  rw [e0, e1, show (i 0).val + 1 * (y 0).val = (i 0).val by omega, show 0 + 1 * (y 1).val = (y 1).val by omega]

variable (c : Dev nD) (i : grid0.Coords)
  (arg2 : Memref sig .tc .vmem S128x256 .f32) (harg2 : arg2.IsWhole)
  (arg3 : Memref sig .tc .vmem S128x128 .f32) (harg3 : arg3.IsWhole)
  (arg4 : Memref sig .tc .vmem S128x128 .f32) (harg4 : arg4.IsWhole)
  (arg5 : Memref sig .tc .vmem S128x256 .bf16) (harg5 : arg5.IsWhole)
  (arg6 : Memref sig .tc .vmem S1x256 .f32) (harg6 : arg6.IsWhole)
  (arg7 : Memref sig .tc .vmem S1x128x128 .f32) (harg7 : arg7.IsWhole)
  (arg8 : Memref sig .tc .vmem S1x128x128 .f32) (harg8 : arg8.IsWhole)
  (arg9 : Memref sig .tc .vmem S8x128 .f32) (harg9 : arg9.IsWhole)
  (arg10 : Memref sig .tc .vmem S8x128 .f32) (harg10 : arg10.IsWhole)
  (arg11 : Memref sig .tc .vmem S1x128x256 .bf16) (harg11 : arg11.IsWhole)
  (arg12 : Memref sig .tc .vmem S1x128x256 .bf16) (harg12 : arg12.IsWhole)
  (arg13 : Memref sig .tc .vmem S1x128x256 .bf16) (harg13 : arg13.IsWhole)
  (arg14 : Memref sig .tc .vmem S1x128x256 .bf16) (harg14 : arg14.IsWhole)
  (arg15 : Memref sig .tc .vmem S8x128 .f32) (harg15 : arg15.IsWhole)
  (arg16 : Memref sig .tc .vmem S128x256 .f32) (harg16 : arg16.IsWhole)
  (arg17 : Memref sig .tc .vmem S128x128 .f32) (harg17 : arg17.IsWhole)
  (arg18 : Memref sig .tc .vmem S128x128 .f32) (harg18 : arg18.IsWhole)
  (arg19 : Memref sig .tc .vmem S1x128x128 .f32) (harg19 : arg19.IsWhole)
  (arg20 : Memref sig .tc .vmem S1x8x128 .f32) (harg20 : arg20.IsWhole)

theorem outA14 (hc : cond0_0 i) (B : Blk) (x4 : S1x256.Idx → EReal) (x7 : S8x128.Idx → EReal) (a : ℕ → ℕ → ℝ) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc (lift2 B.x0) (lift2 B.x1) (lift2 B.x2) (lift2 B.x3) x4 (lift3 B.x5) (lift3 B.x6) x7 (lift2 B.x8) (lift3 B.x9) (lift3 B.x10) (lift3 B.x11) (lift3 B.x12) (lift2 a) = k0_pay169 (F := Ideal) (lift2 (q2 B)) (lift2 (q112 B)) x4 := by
  unfold out0_A_14
  refine (View.read_writes_eq_canon _ _ _ (fun y => cover0_A_14 (F := Ideal) (y := y) ..)).trans ?_
  unfold kernelRun0_A
  dsimp only
  rw [View.canon_unit_zero hz2]
  simp (proj := false) only [View.readAt_eq_ld, harg6.read_unread, View.ld_unit_zero (S := S1x256) hz2, rA_2, rA_112]

theorem outA15 (hc : cond0_0 i) (B : Blk) (x4 : S1x256.Idx → EReal) (x7 : S8x128.Idx → EReal) (a : ℕ → ℕ → ℝ) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc (lift2 B.x0) (lift2 B.x1) (lift2 B.x2) (lift2 B.x3) x4 (lift3 B.x5) (lift3 B.x6) x7 (lift2 B.x8) (lift3 B.x9) (lift3 B.x10) (lift3 B.x11) (lift3 B.x12) (lift2 a) = lift2 (q114 B) := by
  unfold out0_A_15
  refine (View.read_writes_eq_canon _ _ _ (fun y => cover0_A_15 (F := Ideal) (y := y) ..)).trans ?_
  unfold kernelRun0_A
  dsimp only
  rw [View.canon_unit_zero hz2]
  simp (proj := false) only [rA_114]

theorem outA16 (hc : cond0_0 i) (B : Blk) (x4 : S1x256.Idx → EReal) (x7 : S8x128.Idx → EReal) (a : ℕ → ℕ → ℝ) :
    out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc (lift2 B.x0) (lift2 B.x1) (lift2 B.x2) (lift2 B.x3) x4 (lift3 B.x5) (lift3 B.x6) x7 (lift2 B.x8) (lift3 B.x9) (lift3 B.x10) (lift3 B.x11) (lift3 B.x12) (lift2 a) = lift2 (q115 B) := by
  unfold out0_A_16
  refine (View.read_writes_eq_canon _ _ _ (fun y => cover0_A_16 (F := Ideal) (y := y) ..)).trans ?_
  unfold kernelRun0_A
  dsimp only
  rw [View.canon_unit_zero hz2]
  simp (proj := false) only [rA_115]

theorem outA17 (hc : cond0_0 i) (B : Blk) (x4 : S1x256.Idx → EReal) (x7 : S8x128.Idx → EReal) (a : ℕ → ℕ → ℝ) :
    out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc (lift2 B.x0) (lift2 B.x1) (lift2 B.x2) (lift2 B.x3) x4 (lift3 B.x5) (lift3 B.x6) x7 (lift2 B.x8) (lift3 B.x9) (lift3 B.x10) (lift3 B.x11) (lift3 B.x12) (lift2 a) = lift3 (R167 (q113 B) (q116 B) (fun _ j => a (i 0).val j)) := by
  unfold out0_A_17
  refine (View.read_writes_eq_canon _ _ _ (fun y => cover0_A_17 (F := Ideal) (y := y) ..)).trans ?_
  unfold kernelRun0_A
  dsimp only
  rw [View.canon_unit_zero hz3]
  simp (proj := false) only [View.readAt_eq_ld, harg15.read_unread, row_read, rA_113, rA_116, pay167_eq]

theorem outA18 (hc : cond0_0 i) (B : Blk) (x4 : S1x256.Idx → EReal) (x7 : S8x128.Idx → EReal) (a : ℕ → ℕ → ℝ) :
    out0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc (lift2 B.x0) (lift2 B.x1) (lift2 B.x2) (lift2 B.x3) x4 (lift3 B.x5) (lift3 B.x6) x7 (lift2 B.x8) (lift3 B.x9) (lift3 B.x10) (lift3 B.x11) (lift3 B.x12) (lift2 a) = lift3 (R168 (q8 B) (q116 B) (fun _ j => a (i 0).val j) (fun _ _ _ => 0)) := by
  unfold out0_A_18
  refine (View.read_writes_eq_canon _ _ _ (fun y => cover0_A_18 (F := Ideal) (y := y) ..)).trans ?_
  unfold kernelRun0_A
  dsimp only
  rw [View.canon_cons_unit_zero (S := S1x8x128) hz3]
  unfold kernelRun0_A.sl.v761 kernelRun0_A.sl.H18_1
  rw [View.readCov_unit_zero (S := S1x8x128) _ hz3]
  simp (proj := false) only [View.readAt_eq_ld, harg15.read_unread, row_read, rA_8, rA_116, pay1_eq, pay168_eq, harg20.read_unread, View.ld_unit_zero (S := S1x8x128) hz3]

theorem outB14 (hc : ¬cond0_0 i) (B : Blk) (x4 : S1x256.Idx → EReal) (x7 : S8x128.Idx → EReal) (a : ℕ → ℕ → ℝ) (p : ℕ → ℕ → ℕ → ℝ) :
    out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc (lift2 B.x0) (lift2 B.x1) (lift2 B.x2) (lift2 B.x3) x4 (lift3 B.x5) (lift3 B.x6) x7 (lift2 B.x8) (lift3 B.x9) (lift3 B.x10) (lift3 B.x11) (lift3 B.x12) (lift2 a) (lift3 p) = k0_pay169 (F := Ideal) (lift2 (q2 B)) (lift2 (q112 B)) x4 := by
  unfold out0_B_14
  refine (View.read_writes_eq_canon _ _ _ (fun y => cover0_B_14 (F := Ideal) (y := y) ..)).trans ?_
  unfold kernelRun0_B
  dsimp only
  rw [View.canon_unit_zero hz2]
  simp (proj := false) only [View.readAt_eq_ld, harg6.read_unread, View.ld_unit_zero (S := S1x256) hz2, rB_2, rA_2, rB_112, rA_112]

theorem outB15 (hc : ¬cond0_0 i) (B : Blk) (x4 : S1x256.Idx → EReal) (x7 : S8x128.Idx → EReal) (a : ℕ → ℕ → ℝ) (p : ℕ → ℕ → ℕ → ℝ) :
    out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc (lift2 B.x0) (lift2 B.x1) (lift2 B.x2) (lift2 B.x3) x4 (lift3 B.x5) (lift3 B.x6) x7 (lift2 B.x8) (lift3 B.x9) (lift3 B.x10) (lift3 B.x11) (lift3 B.x12) (lift2 a) (lift3 p) = lift2 (q114 B) := by
  unfold out0_B_15
  refine (View.read_writes_eq_canon _ _ _ (fun y => cover0_B_15 (F := Ideal) (y := y) ..)).trans ?_
  unfold kernelRun0_B
  dsimp only
  rw [View.canon_unit_zero hz2]
  simp (proj := false) only [rB_114, rA_114]

theorem outB16 (hc : ¬cond0_0 i) (B : Blk) (x4 : S1x256.Idx → EReal) (x7 : S8x128.Idx → EReal) (a : ℕ → ℕ → ℝ) (p : ℕ → ℕ → ℕ → ℝ) :
    out0_B_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc (lift2 B.x0) (lift2 B.x1) (lift2 B.x2) (lift2 B.x3) x4 (lift3 B.x5) (lift3 B.x6) x7 (lift2 B.x8) (lift3 B.x9) (lift3 B.x10) (lift3 B.x11) (lift3 B.x12) (lift2 a) (lift3 p) = lift2 (q115 B) := by
  unfold out0_B_16
  refine (View.read_writes_eq_canon _ _ _ (fun y => cover0_B_16 (F := Ideal) (y := y) ..)).trans ?_
  unfold kernelRun0_B
  dsimp only
  rw [View.canon_unit_zero hz2]
  simp (proj := false) only [rB_115, rA_115]

theorem outB17 (hc : ¬cond0_0 i) (B : Blk) (x4 : S1x256.Idx → EReal) (x7 : S8x128.Idx → EReal) (a : ℕ → ℕ → ℝ) (p : ℕ → ℕ → ℕ → ℝ) :
    out0_B_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc (lift2 B.x0) (lift2 B.x1) (lift2 B.x2) (lift2 B.x3) x4 (lift3 B.x5) (lift3 B.x6) x7 (lift2 B.x8) (lift3 B.x9) (lift3 B.x10) (lift3 B.x11) (lift3 B.x12) (lift2 a) (lift3 p) = lift3 (R167 (q113 B) (q116 B) (fun _ j => a (i 0).val j)) := by
  unfold out0_B_17
  refine (View.read_writes_eq_canon _ _ _ (fun y => cover0_B_17 (F := Ideal) (y := y) ..)).trans ?_
  unfold kernelRun0_B
  dsimp only
  rw [View.canon_unit_zero hz3]
  simp (proj := false) only [View.readAt_eq_ld, harg15.read_unread, row_read, rB_113, rA_113, rB_116, rA_116, pay167_eq]

theorem outB18 (hc : ¬cond0_0 i) (B : Blk) (x4 : S1x256.Idx → EReal) (x7 : S8x128.Idx → EReal) (a : ℕ → ℕ → ℝ) (p : ℕ → ℕ → ℕ → ℝ) :
    out0_B_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc (lift2 B.x0) (lift2 B.x1) (lift2 B.x2) (lift2 B.x3) x4 (lift3 B.x5) (lift3 B.x6) x7 (lift2 B.x8) (lift3 B.x9) (lift3 B.x10) (lift3 B.x11) (lift3 B.x12) (lift2 a) (lift3 p) = lift3 (R168 (q8 B) (q116 B) (fun _ j => a (i 0).val j) p) := by
  unfold out0_B_18
  refine (View.read_writes_eq_canon _ _ _ (fun y => cover0_B_18 (F := Ideal) (y := y) ..)).trans ?_
  unfold kernelRun0_B
  dsimp only
  rw [View.canon_unit_zero hz3]
  simp (proj := false) only [View.readAt_eq_ld, harg15.read_unread, row_read, rB_8, rA_8, rB_116, rA_116, pay1_eq, pay168_eq, harg20.read_unread, View.ld_unit_zero (S := S1x8x128) hz3]

end Cert.KernelIdeal.Gen
-- ==== Proof.RefOps.lean ====
module

public import proofs.«01_k».proof.Proof.Base
public import proofs.«01_k».proof.Proof.Gen.ReferenceIdeal.Read
public import Idealize.ShloMosaic.Lib.KernelVsHost

/-! The arguments of the reference as arrays of real numbers, and the operations with several summed, reversed or padded axes. -/

@[expose] public section

set_option maxRecDepth 16384

noncomputable section

namespace Ssd.Ref

open Idealize.ShloMosaic Ssd Cert.ReferenceIdeal Cert.ReferenceIdeal.Gen Cert.ReferenceIdeal.Read

/-- The real numbers behind the arguments: inputs, step sizes, decay logarithms, output gradients, saved states and state gradients. -/
structure In where
  X : Fun2
  DT : Fun3
  AL : Fun2
  DY : Fun2
  HF : Fun3
  HB : Fun3
  GF : Fun3
  GB : Fun3

abbrev A0 (I : In) : S8448x4096.Idx → EReal := lift2 I.X
abbrev A1 (I : In) : S8448x2x32.Idx → EReal := lift3 I.DT
abbrev A2 (I : In) : S2x32.Idx → EReal := lift2 I.AL
abbrev A4 (I : In) : S8448x2048.Idx → EReal := lift2 I.DY
abbrev A5 (I : In) : S66x128x2048.Idx → EReal := lift3 I.HF
abbrev A6 (I : In) : S66x128x2048.Idx → EReal := lift3 I.HB
abbrev A7 (I : In) : S66x128x2048.Idx → EReal := lift3 I.GF
abbrev A8 (I : In) : S66x128x2048.Idx → EReal := lift3 I.GB

theorem sum_mul_coe {ι : Type} [Fintype ι] (f g : ι → ℝ) : (∑ k, ((f k : ℝ) : EReal) * ((g k : ℝ) : EReal)) = ((∑ k, f k * g k : ℝ) : EReal) := by
  rw [← sum_coe]
  exact Finset.sum_congr rfl fun k _ => (EReal.coe_mul _ _).symm

theorem sitofp_zero : FloatOps.sitofp (F := Ideal) .f32 (0#32) = (0 : EReal) := by
  show (((0#32 : BitVec 32).toInt : ℝ) : EReal) = 0
  simp

theorem sel_mask (p : Prop) [Decidable p] (x : ℝ) : (if decide p = true then (x : EReal) else 0) = ((if p then x else 0 : ℝ) : EReal) := by
  by_cases h : p <;> simp [h]

theorem exp_mask (p : Prop) [Decidable p] (x : ℝ) : Ideal.exp (if decide p = true then (x : EReal) else ⊥) = ((if p then Real.exp x else 0 : ℝ) : EReal) := by
  by_cases h : p <;> simp [h, exp_coe, exp_bot]

theorem ofBits_bot : FloatOps.ofBits (F := Ideal) .f32 0xFF800000#32 = (⊥ : EReal) := by
  show Ideal.ofBits .f32 0xFF800000#32 = ⊥
  simp [Ideal.ofBits, Ideal.ieee]

theorem mask52 (i : S66x128x128x8x4.Idx) : val_main_v52_1 (F := Ideal) i = BitVec.ofBool (decide ((i 2).val ≤ (i 1).val)) := by
  have h1 : (i 1).val < 128 := (i 1).isLt
  have h2 : (i 2).val < 128 := (i 2).isLt
  rw [val_main_v52_1_apply, val_main_v46_apply, val_main_v45_apply, val_main_v43_apply, val_main_v44_apply, val_main_v41_apply, val_main_v42_apply, val_main_v40_apply, val_main_v40_apply]
  show IntOp.cmpi .sge (BitVec.ofNat 32 (i 1).val) (BitVec.ofNat 32 (i 2).val) = _
  exact WordCmp.cmpi_sge_ofNat (by omega) (by omega)

theorem bot_call1_v2 (i : S66x128x128x8x4.Idx) : val_main_call1_v2 (F := Ideal) i = (⊥ : EReal) := by
  rw [val_main_call1_v2_apply, val_main_call1_v0_apply, val_main_cst_apply]
  exact ofBits_bot

theorem mask111 (i : S66x128x128x8x4.Idx) : val_main_v111_1 (F := Ideal) i = BitVec.ofBool (decide ((i 2).val ≤ (i 1).val)) := by
  have h1 : (i 1).val < 128 := (i 1).isLt
  have h2 : (i 2).val < 128 := (i 2).isLt
  rw [val_main_v111_1_apply, val_main_v105_apply, val_main_v104_apply, val_main_v102_apply, val_main_v103_apply, val_main_v100_apply, val_main_v101_apply, val_main_v99_apply, val_main_v99_apply]
  show IntOp.cmpi .sge (BitVec.ofNat 32 (i 1).val) (BitVec.ofNat 32 (i 2).val) = _
  exact WordCmp.cmpi_sge_ofNat (by omega) (by omega)

theorem bot_call7_v2 (i : S66x128x128x8x4.Idx) : val_main_call7_v2 (F := Ideal) i = (⊥ : EReal) := by
  rw [val_main_call7_v2_apply, val_main_call7_v0_apply, val_main_cst_0_apply]
  exact ofBits_bot

theorem op_rev_S66x128x8x4x64 (f : Fun5) :
    Host.reverse (s := S66x128x8x4x64) (α := Ideal .f32) [1] (lift5 f : S66x128x8x4x64.Idx → EReal) = (lift5 (fun i0 i1 i2 i3 i4 => f i0 (127 - i1) i2 i3 i4) : S66x128x8x4x64.Idx → EReal) := by
  funext i
  refine coe_of ?_
  show f (i 0).val (Fin.rev (i 1)).val (i 2).val (i 3).val (i 4).val = f (i 0).val (127 - (i 1).val) (i 2).val (i 3).val (i 4).val
  rw [Fin.val_rev]
  show f _ (128 - ((i 1).val + 1)) _ _ _ = _
  rw [show 128 - ((i 1).val + 1) = 127 - (i 1).val by omega]

theorem op_rev_S66x128x8x4 (f : Fun4) :
    Host.reverse (s := S66x128x8x4) (α := Ideal .f32) [1] (lift4 f : S66x128x8x4.Idx → EReal) = (lift4 (fun i0 i1 i2 i3 => f i0 (127 - i1) i2 i3) : S66x128x8x4.Idx → EReal) := by
  funext i
  refine coe_of ?_
  show f (i 0).val (Fin.rev (i 1)).val (i 2).val (i 3).val = f (i 0).val (127 - (i 1).val) (i 2).val (i 3).val
  rw [Fin.val_rev]
  show f _ (128 - ((i 1).val + 1)) _ _ = _
  rw [show 128 - ((i 1).val + 1) = 127 - (i 1).val by omega]

theorem op_rev_S66x128x8x128 (f : Fun4) :
    Host.reverse (s := S66x128x8x128) (α := Ideal .f32) [1] (lift4 f : S66x128x8x128.Idx → EReal) = (lift4 (fun i0 i1 i2 i3 => f i0 (127 - i1) i2 i3) : S66x128x8x128.Idx → EReal) := by
  funext i
  refine coe_of ?_
  show f (i 0).val (Fin.rev (i 1)).val (i 2).val (i 3).val = f (i 0).val (127 - (i 1).val) (i 2).val (i 3).val
  rw [Fin.val_rev]
  show f _ (128 - ((i 1).val + 1)) _ _ = _
  rw [show 128 - ((i 1).val + 1) = 127 - (i 1).val by omega]

theorem op_dot_a (f g : Fun5) :
    Host.dotGeneral (F := Ideal) (φ₁ := .f32) (φ₂ := .f32) dot_S66x8x4x64x128_S66x8x4x64x128_S66x8x128x128_23_23_4_4_01_01 none (lift5 f : S66x8x4x64x128.Idx → EReal) (lift5 g : S66x8x4x64x128.Idx → EReal)
      = (lift4 (fun i0 i1 i2 i3 => ∑ r : Fin 4, ∑ p : Fin 64, f i0 i1 r.val p.val i2 * g i0 i1 r.val p.val i3) : S66x8x128x128.Idx → EReal) := by
  funext i
  idx_vars i
  pointwise []
  simp only [lift4_ix, lift5_ix, ← EReal.coe_mul, sum_coe]

theorem op_dot_b (f g : Fun5) :
    Host.dotGeneral (F := Ideal) (φ₁ := .f32) (φ₂ := .f32) dot_S66x8x4x64x128_S66x128x8x4x64_S66x8x128x128_23_34_4_1_01_02 none (lift5 f : S66x8x4x64x128.Idx → EReal) (lift5 g : S66x128x8x4x64.Idx → EReal)
      = (lift4 (fun i0 i1 i2 i3 => ∑ r : Fin 4, ∑ p : Fin 64, f i0 i1 r.val p.val i2 * g i0 i3 i1 r.val p.val) : S66x8x128x128.Idx → EReal) := by
  funext i
  idx_vars i
  pointwise []
  simp only [lift4_ix, lift5_ix, ← EReal.coe_mul, sum_coe]

theorem op_red_S66x8x4x64x128_3_4 (f : Fun5) (z : S_.Idx → EReal) (hz : ∀ i, z i = 0) :
    Host.reduceAdd (F := Ideal) (φ := .f32) (lift5 f : S66x8x4x64x128.Idx → EReal) z reducesTo_S66x8x4x64x128_S66x8x4_d3_4 h_S_ = (lift3 (fun i0 i1 i2 => ∑ k3 : Fin 64, ∑ k4 : Fin 128, f i0 i1 i2 k3.val k4.val) : S66x8x4.Idx → EReal) := by
  funext i
  show Ideal.hostReduceAdd reducesTo_S66x8x4x64x128_S66x8x4_d3_4 (lift5 f : S66x8x4x64x128.Idx → EReal) (z (Shape.Idx.first h_S_)) i = _
  unfold Ideal.hostReduceAdd
  rw [hz, zero_add]
  refine (Finset.sum_filter_eq_sum_of_fiber _ (fun k : Fin 64 × Fin 128 => (ix5 (i 0) (i 1) (i 2) k.1 k.2 : S66x8x4x64x128.Idx)) (fun _ _ e => Prod.ext (congrFun e 3) (congrFun e 4)) (fun j => ?_) _).trans ?_
  · constructor
    · intro e
      refine ⟨(j 3, j 4), ?_⟩
      funext a; apply Fin.ext
      match a with
      | ⟨0, _⟩ => exact (congrArg Fin.val (congrFun e 0)).symm
      | ⟨1, _⟩ => exact (congrArg Fin.val (congrFun e 1)).symm
      | ⟨2, _⟩ => exact (congrArg Fin.val (congrFun e 2)).symm
      | ⟨3, _⟩ => rfl
      | ⟨4, _⟩ => rfl
    · rintro ⟨k, rfl⟩
      funext b
      apply Fin.ext
      match b with
      | ⟨0, _⟩ => rfl
      | ⟨1, _⟩ => rfl
      | ⟨2, _⟩ => rfl
  · exact (Fintype.sum_prod_type _).trans ((Finset.sum_congr rfl fun a _ => sum_coe Finset.univ (fun b : Fin 128 => f (i 0).val (i 1).val (i 2).val a.val b.val)).trans (sum_coe Finset.univ (fun a : Fin 64 => ∑ b : Fin 128, f (i 0).val (i 1).val (i 2).val a.val b.val)))

theorem op_red_S66x8x4x1x1_3_4 (f : Fun5) (z : S_.Idx → EReal) (hz : ∀ i, z i = 0) :
    Host.reduceAdd (F := Ideal) (φ := .f32) (lift5 f : S66x8x4x1x1.Idx → EReal) z reducesTo_S66x8x4x1x1_S66x8x4_d3_4 h_S_ = (lift3 (fun i0 i1 i2 => f i0 i1 i2 0 0) : S66x8x4.Idx → EReal) := by
  funext i
  show Ideal.hostReduceAdd reducesTo_S66x8x4x1x1_S66x8x4_d3_4 (lift5 f : S66x8x4x1x1.Idx → EReal) (z (Shape.Idx.first h_S_)) i = _
  unfold Ideal.hostReduceAdd
  rw [hz, zero_add]
  refine (Finset.sum_filter_eq_sum_of_fiber _ (fun k : Fin 1 × Fin 1 => (ix5 (i 0) (i 1) (i 2) k.1 k.2 : S66x8x4x1x1.Idx)) (fun _ _ e => Prod.ext (congrFun e 3) (congrFun e 4)) (fun j => ?_) _).trans ?_
  · constructor
    · intro e
      refine ⟨(j 3, j 4), ?_⟩
      funext a; apply Fin.ext
      match a with
      | ⟨0, _⟩ => exact (congrArg Fin.val (congrFun e 0)).symm
      | ⟨1, _⟩ => exact (congrArg Fin.val (congrFun e 1)).symm
      | ⟨2, _⟩ => exact (congrArg Fin.val (congrFun e 2)).symm
      | ⟨3, _⟩ => rfl
      | ⟨4, _⟩ => rfl
    · rintro ⟨k, rfl⟩
      funext b
      apply Fin.ext
      match b with
      | ⟨0, _⟩ => rfl
      | ⟨1, _⟩ => rfl
      | ⟨2, _⟩ => rfl
  · exact (Fintype.sum_prod_type _).trans ((Fintype.sum_unique _).trans ((Fintype.sum_unique _).trans rfl))

theorem op_red_S66x128x8x4_0_1 (f : Fun4) (z : S_.Idx → EReal) (hz : ∀ i, z i = 0) :
    Host.reduceAdd (F := Ideal) (φ := .f32) (lift4 f : S66x128x8x4.Idx → EReal) z reducesTo_S66x128x8x4_S8x4_d0_1 h_S_ = (lift2 (fun i0 i1 => ∑ k0 : Fin 66, ∑ k1 : Fin 128, f k0.val k1.val i0 i1) : S8x4.Idx → EReal) := by
  funext i
  show Ideal.hostReduceAdd reducesTo_S66x128x8x4_S8x4_d0_1 (lift4 f : S66x128x8x4.Idx → EReal) (z (Shape.Idx.first h_S_)) i = _
  unfold Ideal.hostReduceAdd
  rw [hz, zero_add]
  refine (Finset.sum_filter_eq_sum_of_fiber _ (fun k : Fin 66 × Fin 128 => (ix4 k.1 k.2 (i 0) (i 1) : S66x128x8x4.Idx)) (fun _ _ e => Prod.ext (congrFun e 0) (congrFun e 1)) (fun j => ?_) _).trans ?_
  · constructor
    · intro e
      refine ⟨(j 0, j 1), ?_⟩
      funext a; apply Fin.ext
      match a with
      | ⟨0, _⟩ => rfl
      | ⟨1, _⟩ => rfl
      | ⟨2, _⟩ => exact (congrArg Fin.val (congrFun e 0)).symm
      | ⟨3, _⟩ => exact (congrArg Fin.val (congrFun e 1)).symm
    · rintro ⟨k, rfl⟩
      funext b
      apply Fin.ext
      match b with
      | ⟨0, _⟩ => rfl
      | ⟨1, _⟩ => rfl
  · exact (Fintype.sum_prod_type _).trans ((Finset.sum_congr rfl fun a _ => sum_coe Finset.univ (fun b : Fin 128 => f a.val b.val (i 0).val (i 1).val)).trans (sum_coe Finset.univ (fun a : Fin 66 => ∑ b : Fin 128, f a.val b.val (i 0).val (i 1).val)))

theorem op_red_S1x1x8x4_0_1 (f : Fun4) (z : S_.Idx → EReal) (hz : ∀ i, z i = 0) :
    Host.reduceAdd (F := Ideal) (φ := .f32) (lift4 f : S1x1x8x4.Idx → EReal) z reducesTo_S1x1x8x4_S8x4_d0_1 h_S_ = (lift2 (fun i0 i1 => f 0 0 i0 i1) : S8x4.Idx → EReal) := by
  funext i
  show Ideal.hostReduceAdd reducesTo_S1x1x8x4_S8x4_d0_1 (lift4 f : S1x1x8x4.Idx → EReal) (z (Shape.Idx.first h_S_)) i = _
  unfold Ideal.hostReduceAdd
  rw [hz, zero_add]
  refine (Finset.sum_filter_eq_sum_of_fiber _ (fun k : Fin 1 × Fin 1 => (ix4 k.1 k.2 (i 0) (i 1) : S1x1x8x4.Idx)) (fun _ _ e => Prod.ext (congrFun e 0) (congrFun e 1)) (fun j => ?_) _).trans ?_
  · constructor
    · intro e
      refine ⟨(j 0, j 1), ?_⟩
      funext a; apply Fin.ext
      match a with
      | ⟨0, _⟩ => rfl
      | ⟨1, _⟩ => rfl
      | ⟨2, _⟩ => exact (congrArg Fin.val (congrFun e 0)).symm
      | ⟨3, _⟩ => exact (congrArg Fin.val (congrFun e 1)).symm
    · rintro ⟨k, rfl⟩
      funext b
      apply Fin.ext
      match b with
      | ⟨0, _⟩ => rfl
      | ⟨1, _⟩ => rfl
  · exact (Fintype.sum_prod_type _).trans ((Fintype.sum_unique _).trans ((Fintype.sum_unique _).trans rfl))

theorem op_pad_pads_S66x1x8x4_S66x128x8x4_000_12700_000_000 (f : Fun4) (z : S_.Idx → EReal) (hz : ∀ i, z i = 0) :
    pad (α := Ideal .f32) S66x128x8x4 ![0, 127, 0, 0] ![0, 0, 0, 0] ![0, 0, 0, 0] (lift4 f : S66x1x8x4.Idx → EReal) z pads_S66x1x8x4_S66x128x8x4_000_12700_000_000 h_S_ = (lift4 (fun i0 i1 i2 i3 => if 127 ≤ i1 ∧ i1 - 127 < 1 then f i0 (i1 - 127) i2 i3 else 0) : S66x128x8x4.Idx → EReal) := by
  funext i
  have h0 : (i 0).val < 66 := (i 0).isLt
  have h1 : (i 1).val < 128 := (i 1).isLt
  have h2 : (i 2).val < 8 := (i 2).isLt
  have h3 : (i 3).val < 4 := (i 3).isLt
  show _ = ((if 127 ≤ (i 1).val ∧ (i 1).val - 127 < 1 then f (i 0).val ((i 1).val - 127) (i 2).val (i 3).val else 0 : ℝ) : EReal)
  by_cases h : 127 ≤ (i 1).val ∧ (i 1).val - 127 < 1
  · rw [if_pos h]
    refine (pad_apply_of_inside _ _ _ _ _ _ _ i (ix4 ⟨(i 0).val, by omega⟩ ⟨(i 1).val - 127, by omega⟩ ⟨(i 2).val, by omega⟩ ⟨(i 3).val, by omega⟩) ?_).trans rfl
    intro b
    match b with
    | ⟨0, _⟩ => show (i 0).val = 0 + (i 0).val * (0 + 1); omega
    | ⟨1, _⟩ => show (i 1).val = 127 + ((i 1).val - 127) * (0 + 1); omega
    | ⟨2, _⟩ => show (i 2).val = 0 + (i 2).val * (0 + 1); omega
    | ⟨3, _⟩ => show (i 3).val = 0 + (i 3).val * (0 + 1); omega
  · rw [if_neg h]
    refine (pad_apply_of_not_inside _ _ _ _ _ _ _ i ⟨1, by decide⟩ ?_).trans (hz _)
    intro hh
    apply h
    have hb : 127 ≤ (i 1).val ∧ ((i 1).val - 127) % (0 + 1) = 0 ∧ ((i 1).val - 127) / (0 + 1) < 1 := hh
    omega

theorem op_pad_pads_S1x8x4_S2x8x4_100_000_000 (f : Fun3) (z : S_.Idx → EReal) (hz : ∀ i, z i = 0) :
    pad (α := Ideal .f32) S2x8x4 ![1, 0, 0] ![0, 0, 0] ![0, 0, 0] (lift3 f : S1x8x4.Idx → EReal) z pads_S1x8x4_S2x8x4_100_000_000 h_S_ = (lift3 (fun i0 i1 i2 => if 1 ≤ i0 ∧ i0 - 1 < 1 then f (i0 - 1) i1 i2 else 0) : S2x8x4.Idx → EReal) := by
  funext i
  have h0 : (i 0).val < 2 := (i 0).isLt
  have h1 : (i 1).val < 8 := (i 1).isLt
  have h2 : (i 2).val < 4 := (i 2).isLt
  show _ = ((if 1 ≤ (i 0).val ∧ (i 0).val - 1 < 1 then f ((i 0).val - 1) (i 1).val (i 2).val else 0 : ℝ) : EReal)
  by_cases h : 1 ≤ (i 0).val ∧ (i 0).val - 1 < 1
  · rw [if_pos h]
    refine (pad_apply_of_inside _ _ _ _ _ _ _ i (ix3 ⟨(i 0).val - 1, by omega⟩ ⟨(i 1).val, by omega⟩ ⟨(i 2).val, by omega⟩) ?_).trans rfl
    intro b
    match b with
    | ⟨0, _⟩ => show (i 0).val = 1 + ((i 0).val - 1) * (0 + 1); omega
    | ⟨1, _⟩ => show (i 1).val = 0 + (i 1).val * (0 + 1); omega
    | ⟨2, _⟩ => show (i 2).val = 0 + (i 2).val * (0 + 1); omega
  · rw [if_neg h]
    refine (pad_apply_of_not_inside _ _ _ _ _ _ _ i ⟨0, by decide⟩ ?_).trans (hz _)
    intro hh
    apply h
    have hb : 1 ≤ (i 0).val ∧ ((i 0).val - 1) % (0 + 1) = 0 ∧ ((i 0).val - 1) / (0 + 1) < 1 := hh
    omega

theorem op_pad_pads_S66x128x1x8x4_S66x128x2x8x4_000_000_100_000_000 (f : Fun5) (z : S_.Idx → EReal) (hz : ∀ i, z i = 0) :
    pad (α := Ideal .f32) S66x128x2x8x4 ![0, 0, 1, 0, 0] ![0, 0, 0, 0, 0] ![0, 0, 0, 0, 0] (lift5 f : S66x128x1x8x4.Idx → EReal) z pads_S66x128x1x8x4_S66x128x2x8x4_000_000_100_000_000 h_S_ = (lift5 (fun i0 i1 i2 i3 i4 => if 1 ≤ i2 ∧ i2 - 1 < 1 then f i0 i1 (i2 - 1) i3 i4 else 0) : S66x128x2x8x4.Idx → EReal) := by
  funext i
  have h0 : (i 0).val < 66 := (i 0).isLt
  have h1 : (i 1).val < 128 := (i 1).isLt
  have h2 : (i 2).val < 2 := (i 2).isLt
  have h3 : (i 3).val < 8 := (i 3).isLt
  have h4 : (i 4).val < 4 := (i 4).isLt
  show _ = ((if 1 ≤ (i 2).val ∧ (i 2).val - 1 < 1 then f (i 0).val (i 1).val ((i 2).val - 1) (i 3).val (i 4).val else 0 : ℝ) : EReal)
  by_cases h : 1 ≤ (i 2).val ∧ (i 2).val - 1 < 1
  · rw [if_pos h]
    refine (pad_apply_of_inside _ _ _ _ _ _ _ i (ix5 ⟨(i 0).val, by omega⟩ ⟨(i 1).val, by omega⟩ ⟨(i 2).val - 1, by omega⟩ ⟨(i 3).val, by omega⟩ ⟨(i 4).val, by omega⟩) ?_).trans rfl
    intro b
    match b with
    | ⟨0, _⟩ => show (i 0).val = 0 + (i 0).val * (0 + 1); omega
    | ⟨1, _⟩ => show (i 1).val = 0 + (i 1).val * (0 + 1); omega
    | ⟨2, _⟩ => show (i 2).val = 1 + ((i 2).val - 1) * (0 + 1); omega
    | ⟨3, _⟩ => show (i 3).val = 0 + (i 3).val * (0 + 1); omega
    | ⟨4, _⟩ => show (i 4).val = 0 + (i 4).val * (0 + 1); omega
  · rw [if_neg h]
    refine (pad_apply_of_not_inside _ _ _ _ _ _ _ i ⟨2, by decide⟩ ?_).trans (hz _)
    intro hh
    apply h
    have hb : 1 ≤ (i 2).val ∧ ((i 2).val - 1) % (0 + 1) = 0 ∧ ((i 2).val - 1) / (0 + 1) < 1 := hh
    omega

theorem op_pad_pads_S1x8x4_S2x8x4_010_000_000 (f : Fun3) (z : S_.Idx → EReal) (hz : ∀ i, z i = 0) :
    pad (α := Ideal .f32) S2x8x4 ![0, 0, 0] ![1, 0, 0] ![0, 0, 0] (lift3 f : S1x8x4.Idx → EReal) z pads_S1x8x4_S2x8x4_010_000_000 h_S_ = (lift3 (fun i0 i1 i2 => if 0 ≤ i0 ∧ i0 - 0 < 1 then f (i0 - 0) i1 i2 else 0) : S2x8x4.Idx → EReal) := by
  funext i
  have h0 : (i 0).val < 2 := (i 0).isLt
  have h1 : (i 1).val < 8 := (i 1).isLt
  have h2 : (i 2).val < 4 := (i 2).isLt
  show _ = ((if 0 ≤ (i 0).val ∧ (i 0).val - 0 < 1 then f ((i 0).val - 0) (i 1).val (i 2).val else 0 : ℝ) : EReal)
  by_cases h : 0 ≤ (i 0).val ∧ (i 0).val - 0 < 1
  · rw [if_pos h]
    refine (pad_apply_of_inside _ _ _ _ _ _ _ i (ix3 ⟨(i 0).val - 0, by omega⟩ ⟨(i 1).val, by omega⟩ ⟨(i 2).val, by omega⟩) ?_).trans rfl
    intro b
    match b with
    | ⟨0, _⟩ => show (i 0).val = 0 + ((i 0).val - 0) * (0 + 1); omega
    | ⟨1, _⟩ => show (i 1).val = 0 + (i 1).val * (0 + 1); omega
    | ⟨2, _⟩ => show (i 2).val = 0 + (i 2).val * (0 + 1); omega
  · rw [if_neg h]
    refine (pad_apply_of_not_inside _ _ _ _ _ _ _ i ⟨0, by decide⟩ ?_).trans (hz _)
    intro hh
    apply h
    have hb : 0 ≤ (i 0).val ∧ ((i 0).val - 0) % (0 + 1) = 0 ∧ ((i 0).val - 0) / (0 + 1) < 1 := hh
    omega

theorem op_pad_pads_S66x128x1x8x4_S66x128x2x8x4_000_000_010_000_000 (f : Fun5) (z : S_.Idx → EReal) (hz : ∀ i, z i = 0) :
    pad (α := Ideal .f32) S66x128x2x8x4 ![0, 0, 0, 0, 0] ![0, 0, 1, 0, 0] ![0, 0, 0, 0, 0] (lift5 f : S66x128x1x8x4.Idx → EReal) z pads_S66x128x1x8x4_S66x128x2x8x4_000_000_010_000_000 h_S_ = (lift5 (fun i0 i1 i2 i3 i4 => if 0 ≤ i2 ∧ i2 - 0 < 1 then f i0 i1 (i2 - 0) i3 i4 else 0) : S66x128x2x8x4.Idx → EReal) := by
  funext i
  have h0 : (i 0).val < 66 := (i 0).isLt
  have h1 : (i 1).val < 128 := (i 1).isLt
  have h2 : (i 2).val < 2 := (i 2).isLt
  have h3 : (i 3).val < 8 := (i 3).isLt
  have h4 : (i 4).val < 4 := (i 4).isLt
  show _ = ((if 0 ≤ (i 2).val ∧ (i 2).val - 0 < 1 then f (i 0).val (i 1).val ((i 2).val - 0) (i 3).val (i 4).val else 0 : ℝ) : EReal)
  by_cases h : 0 ≤ (i 2).val ∧ (i 2).val - 0 < 1
  · rw [if_pos h]
    refine (pad_apply_of_inside _ _ _ _ _ _ _ i (ix5 ⟨(i 0).val, by omega⟩ ⟨(i 1).val, by omega⟩ ⟨(i 2).val - 0, by omega⟩ ⟨(i 3).val, by omega⟩ ⟨(i 4).val, by omega⟩) ?_).trans rfl
    intro b
    match b with
    | ⟨0, _⟩ => show (i 0).val = 0 + (i 0).val * (0 + 1); omega
    | ⟨1, _⟩ => show (i 1).val = 0 + (i 1).val * (0 + 1); omega
    | ⟨2, _⟩ => show (i 2).val = 0 + ((i 2).val - 0) * (0 + 1); omega
    | ⟨3, _⟩ => show (i 3).val = 0 + (i 3).val * (0 + 1); omega
    | ⟨4, _⟩ => show (i 4).val = 0 + (i 4).val * (0 + 1); omega
  · rw [if_neg h]
    refine (pad_apply_of_not_inside _ _ _ _ _ _ _ i ⟨2, by decide⟩ ?_).trans (hz _)
    intro hh
    apply h
    have hb : 0 ≤ (i 2).val ∧ ((i 2).val - 0) % (0 + 1) = 0 ∧ ((i 2).val - 0) / (0 + 1) < 1 := hh
    omega

theorem op_pad_pads_S8x8448x8_S8x8448x128_000_000_01200 (f : Fun3) (z : S_.Idx → EReal) (hz : ∀ i, z i = 0) :
    pad (α := Ideal .f32) S8x8448x128 ![0, 0, 0] ![0, 0, 120] ![0, 0, 0] (lift3 f : S8x8448x8.Idx → EReal) z pads_S8x8448x8_S8x8448x128_000_000_01200 h_S_ = (lift3 (fun i0 i1 i2 => if 0 ≤ i2 ∧ i2 - 0 < 8 then f i0 i1 (i2 - 0) else 0) : S8x8448x128.Idx → EReal) := by
  funext i
  have h0 : (i 0).val < 8 := (i 0).isLt
  have h1 : (i 1).val < 8448 := (i 1).isLt
  have h2 : (i 2).val < 128 := (i 2).isLt
  show _ = ((if 0 ≤ (i 2).val ∧ (i 2).val - 0 < 8 then f (i 0).val (i 1).val ((i 2).val - 0) else 0 : ℝ) : EReal)
  by_cases h : 0 ≤ (i 2).val ∧ (i 2).val - 0 < 8
  · rw [if_pos h]
    refine (pad_apply_of_inside _ _ _ _ _ _ _ i (ix3 ⟨(i 0).val, by omega⟩ ⟨(i 1).val, by omega⟩ ⟨(i 2).val - 0, by omega⟩) ?_).trans rfl
    intro b
    match b with
    | ⟨0, _⟩ => show (i 0).val = 0 + (i 0).val * (0 + 1); omega
    | ⟨1, _⟩ => show (i 1).val = 0 + (i 1).val * (0 + 1); omega
    | ⟨2, _⟩ => show (i 2).val = 0 + ((i 2).val - 0) * (0 + 1); omega
  · rw [if_neg h]
    refine (pad_apply_of_not_inside _ _ _ _ _ _ _ i ⟨2, by decide⟩ ?_).trans (hz _)
    intro hh
    apply h
    have hb : 0 ≤ (i 2).val ∧ ((i 2).val - 0) % (0 + 1) = 0 ∧ ((i 2).val - 0) / (0 + 1) < 8 := hh
    omega

theorem op_pad_pads_S8x8_S8x128_000_01200 (f : Fun2) (z : S_.Idx → EReal) (hz : ∀ i, z i = 0) :
    pad (α := Ideal .f32) S8x128 ![0, 0] ![0, 120] ![0, 0] (lift2 f : S8x8.Idx → EReal) z pads_S8x8_S8x128_000_01200 h_S_ = (lift2 (fun i0 i1 => if 0 ≤ i1 ∧ i1 - 0 < 8 then f i0 (i1 - 0) else 0) : S8x128.Idx → EReal) := by
  funext i
  have h0 : (i 0).val < 8 := (i 0).isLt
  have h1 : (i 1).val < 128 := (i 1).isLt
  show _ = ((if 0 ≤ (i 1).val ∧ (i 1).val - 0 < 8 then f (i 0).val ((i 1).val - 0) else 0 : ℝ) : EReal)
  by_cases h : 0 ≤ (i 1).val ∧ (i 1).val - 0 < 8
  · rw [if_pos h]
    refine (pad_apply_of_inside _ _ _ _ _ _ _ i (ix2 ⟨(i 0).val, by omega⟩ ⟨(i 1).val - 0, by omega⟩) ?_).trans rfl
    intro b
    match b with
    | ⟨0, _⟩ => show (i 0).val = 0 + (i 0).val * (0 + 1); omega
    | ⟨1, _⟩ => show (i 1).val = 0 + ((i 1).val - 0) * (0 + 1); omega
  · rw [if_neg h]
    refine (pad_apply_of_not_inside _ _ _ _ _ _ _ i ⟨1, by decide⟩ ?_).trans (hz _)
    intro hh
    apply h
    have hb : 0 ≤ (i 1).val ∧ ((i 1).val - 0) % (0 + 1) = 0 ∧ ((i 1).val - 0) / (0 + 1) < 8 := hh
    omega

end Ssd.Ref
-- ==== Proof.RefVal1.lean ====
module

public import proofs.«01_k».proof.Proof.RefOps

/-! The arrays of the reference, operation by operation, as lifts of real functions of the indices: `Fn` is the n-th array's function, and `e_vn` states
    that the n-th array is its lift. -/

@[expose] public section

set_option maxRecDepth 16384

noncomputable section

namespace Ssd.Ref

open Idealize.ShloMosaic Ssd Cert.ReferenceIdeal Cert.ReferenceIdeal.Gen Cert.ReferenceIdeal.Read

def F0 (I : In) : Fun2 := fun i0 i1 => I.X i0 i1
theorem e_v0 (I : In) : val_main_v0 (F := Ideal) (A0 I) = (lift2 (F0 I) : S8448x2048.Idx → EReal) := by
  funext i
  rw [val_main_v0_apply]
  rfl

def F1 (I : In) : Fun2 := fun i0 i1 => I.X i0 (2048 + i1)
theorem e_v1 (I : In) : val_main_v1 (F := Ideal) (A0 I) = (lift2 (F1 I) : S8448x1024.Idx → EReal) := by
  funext i
  rw [val_main_v1_apply]
  rfl

def F2 (I : In) : Fun2 := fun i0 i1 => I.X i0 (3072 + i1)
theorem e_v2 (I : In) : val_main_v2 (F := Ideal) (A0 I) = (lift2 (F2 I) : S8448x1024.Idx → EReal) := by
  funext i
  rw [val_main_v2_apply]
  rfl

def F3 (I : In) : Fun3 := fun i0 i1 i2 => I.HF i0 i1 i2
theorem e_v3 (I : In) : val_main_v3 (F := Ideal) (A5 I) = (lift3 (F3 I) : S66x128x2048.Idx → EReal) := by
  funext i
  rw [val_main_v3_apply]
  rfl

def F4 (I : In) : Fun5 := fun i0 i1 i2 i3 i4 => F3 I i0 i1 (256 * i2 + 64 * i3 + i4)
theorem e_v4 (I : In) : val_main_v4 (F := Ideal) (A5 I) = (lift5 (F4 I) : S66x128x8x4x64.Idx → EReal) := by
  funext i
  rw [val_main_v4_apply, e_v3]
  refine coe_of ?_
  have h0 : (i 0).val < 66 := (i 0).isLt
  have h1 : (i 1).val < 128 := (i 1).isLt
  have h2 : (i 2).val < 8 := (i 2).isLt
  have h3 : (i 3).val < 4 := (i 3).isLt
  have h4 : (i 4).val < 64 := (i 4).isLt
  show F3 I ((((((i 0).val * 128 + (i 1).val) * 8 + (i 2).val) * 4 + (i 3).val) * 64 + (i 4).val) / 262144) ((((((i 0).val * 128 + (i 1).val) * 8 + (i 2).val) * 4 + (i 3).val) * 64 + (i 4).val) / 2048 % 128) ((((((i 0).val * 128 + (i 1).val) * 8 + (i 2).val) * 4 + (i 3).val) * 64 + (i 4).val) % 2048) = F3 I ((i 0).val) ((i 1).val) (256 * (i 2).val + 64 * (i 3).val + (i 4).val)
  congr 1 <;> omega

def F5 (I : In) : Fun5 := fun i0 i1 i2 i3 i4 => F4 I i0 i4 i1 i2 i3
theorem e_v5 (I : In) : val_main_v5 (F := Ideal) (A5 I) = (lift5 (F5 I) : S66x8x4x64x128.Idx → EReal) := by
  funext i
  rw [val_main_v5_apply, e_v4]
  rfl

def F6 (I : In) : Fun3 := fun i0 i1 i2 => I.HB i0 i1 i2
theorem e_v6 (I : In) : val_main_v6 (F := Ideal) (A6 I) = (lift3 (F6 I) : S66x128x2048.Idx → EReal) := by
  funext i
  rw [val_main_v6_apply]
  rfl

def F7 (I : In) : Fun5 := fun i0 i1 i2 i3 i4 => F6 I i0 i1 (256 * i2 + 64 * i3 + i4)
theorem e_v7 (I : In) : val_main_v7 (F := Ideal) (A6 I) = (lift5 (F7 I) : S66x128x8x4x64.Idx → EReal) := by
  funext i
  rw [val_main_v7_apply, e_v6]
  refine coe_of ?_
  have h0 : (i 0).val < 66 := (i 0).isLt
  have h1 : (i 1).val < 128 := (i 1).isLt
  have h2 : (i 2).val < 8 := (i 2).isLt
  have h3 : (i 3).val < 4 := (i 3).isLt
  have h4 : (i 4).val < 64 := (i 4).isLt
  show F6 I ((((((i 0).val * 128 + (i 1).val) * 8 + (i 2).val) * 4 + (i 3).val) * 64 + (i 4).val) / 262144) ((((((i 0).val * 128 + (i 1).val) * 8 + (i 2).val) * 4 + (i 3).val) * 64 + (i 4).val) / 2048 % 128) ((((((i 0).val * 128 + (i 1).val) * 8 + (i 2).val) * 4 + (i 3).val) * 64 + (i 4).val) % 2048) = F6 I ((i 0).val) ((i 1).val) (256 * (i 2).val + 64 * (i 3).val + (i 4).val)
  congr 1 <;> omega

def F8 (I : In) : Fun5 := fun i0 i1 i2 i3 i4 => F7 I i0 i4 i1 i2 i3
theorem e_v8 (I : In) : val_main_v8 (F := Ideal) (A6 I) = (lift5 (F8 I) : S66x8x4x64x128.Idx → EReal) := by
  funext i
  rw [val_main_v8_apply, e_v7]
  rfl

def F9 (I : In) : Fun5 := fun i0 i1 i2 i3 i4 => F0 I (128 * i0 + i1) (256 * i2 + 64 * i3 + i4)
theorem e_v9 (I : In) : val_main_v9 (F := Ideal) (A0 I) = (lift5 (F9 I) : S66x128x8x4x64.Idx → EReal) := by
  funext i
  rw [val_main_v9_apply, e_v0]
  refine coe_of ?_
  have h0 : (i 0).val < 66 := (i 0).isLt
  have h1 : (i 1).val < 128 := (i 1).isLt
  have h2 : (i 2).val < 8 := (i 2).isLt
  have h3 : (i 3).val < 4 := (i 3).isLt
  have h4 : (i 4).val < 64 := (i 4).isLt
  show F0 I ((((((i 0).val * 128 + (i 1).val) * 8 + (i 2).val) * 4 + (i 3).val) * 64 + (i 4).val) / 2048) ((((((i 0).val * 128 + (i 1).val) * 8 + (i 2).val) * 4 + (i 3).val) * 64 + (i 4).val) % 2048) = F0 I (128 * (i 0).val + (i 1).val) (256 * (i 2).val + 64 * (i 3).val + (i 4).val)
  congr 1 <;> omega

def F10 (I : In) : Fun4 := fun i0 i1 i2 i3 => F1 I (128 * i0 + i1) (128 * i2 + i3)
theorem e_v10 (I : In) : val_main_v10 (F := Ideal) (A0 I) = (lift4 (F10 I) : S66x128x8x128.Idx → EReal) := by
  funext i
  rw [val_main_v10_apply, e_v1]
  refine coe_of ?_
  have h0 : (i 0).val < 66 := (i 0).isLt
  have h1 : (i 1).val < 128 := (i 1).isLt
  have h2 : (i 2).val < 8 := (i 2).isLt
  have h3 : (i 3).val < 128 := (i 3).isLt
  show F1 I (((((i 0).val * 128 + (i 1).val) * 8 + (i 2).val) * 128 + (i 3).val) / 1024) (((((i 0).val * 128 + (i 1).val) * 8 + (i 2).val) * 128 + (i 3).val) % 1024) = F1 I (128 * (i 0).val + (i 1).val) (128 * (i 2).val + (i 3).val)
  congr 1 <;> omega

def F11 (I : In) : Fun4 := fun i0 i1 i2 i3 => F2 I (128 * i0 + i1) (128 * i2 + i3)
theorem e_v11 (I : In) : val_main_v11 (F := Ideal) (A0 I) = (lift4 (F11 I) : S66x128x8x128.Idx → EReal) := by
  funext i
  rw [val_main_v11_apply, e_v2]
  refine coe_of ?_
  have h0 : (i 0).val < 66 := (i 0).isLt
  have h1 : (i 1).val < 128 := (i 1).isLt
  have h2 : (i 2).val < 8 := (i 2).isLt
  have h3 : (i 3).val < 128 := (i 3).isLt
  show F2 I (((((i 0).val * 128 + (i 1).val) * 8 + (i 2).val) * 128 + (i 3).val) / 1024) (((((i 0).val * 128 + (i 1).val) * 8 + (i 2).val) * 128 + (i 3).val) % 1024) = F2 I (128 * (i 0).val + (i 1).val) (128 * (i 2).val + (i 3).val)
  congr 1 <;> omega

def F12 (I : In) : Fun5 := fun i0 i1 i2 i3 i4 => I.DT (128 * i0 + i1) i2 (4 * i3 + i4)
theorem e_v12 (I : In) : val_main_v12 (F := Ideal) (A1 I) = (lift5 (F12 I) : S66x128x2x8x4.Idx → EReal) := by
  funext i
  rw [val_main_v12_apply]
  refine coe_of ?_
  have h0 : (i 0).val < 66 := (i 0).isLt
  have h1 : (i 1).val < 128 := (i 1).isLt
  have h2 : (i 2).val < 2 := (i 2).isLt
  have h3 : (i 3).val < 8 := (i 3).isLt
  have h4 : (i 4).val < 4 := (i 4).isLt
  show I.DT ((((((i 0).val * 128 + (i 1).val) * 2 + (i 2).val) * 8 + (i 3).val) * 4 + (i 4).val) / 64) ((((((i 0).val * 128 + (i 1).val) * 2 + (i 2).val) * 8 + (i 3).val) * 4 + (i 4).val) / 32 % 2) ((((((i 0).val * 128 + (i 1).val) * 2 + (i 2).val) * 8 + (i 3).val) * 4 + (i 4).val) % 32) = I.DT (128 * (i 0).val + (i 1).val) ((i 2).val) (4 * (i 3).val + (i 4).val)
  congr 1 <;> omega

def F13 (I : In) : Fun2 := fun i0 i1 => Real.exp (I.AL i0 i1)
theorem e_v13 (I : In) : val_main_v13 (F := Ideal) (A2 I) = (lift2 (F13 I) : S2x32.Idx → EReal) := by
  funext i
  rw [val_main_v13_apply]
  rfl

def F14 (I : In) : Fun3 := fun i0 i1 i2 => F13 I i0 (4 * i1 + i2)
theorem e_v14 (I : In) : val_main_v14 (F := Ideal) (A2 I) = (lift3 (F14 I) : S2x8x4.Idx → EReal) := by
  funext i
  rw [val_main_v14_apply, e_v13]
  refine coe_of ?_
  have h0 : (i 0).val < 2 := (i 0).isLt
  have h1 : (i 1).val < 8 := (i 1).isLt
  have h2 : (i 2).val < 4 := (i 2).isLt
  show F13 I ((((i 0).val * 8 + (i 1).val) * 4 + (i 2).val) / 32) ((((i 0).val * 8 + (i 1).val) * 4 + (i 2).val) % 32) = F13 I ((i 0).val) (4 * (i 1).val + (i 2).val)
  congr 1 <;> omega

def F15 (I : In) : Fun3 := fun i0 i1 i2 => -(F14 I i0 i1 i2)
theorem e_v15 (I : In) : val_main_v15 (F := Ideal) (A2 I) = (lift3 (F15 I) : S2x8x4.Idx → EReal) := by
  funext i
  rw [val_main_v15_apply, e_v14]
  exact (EReal.coe_neg _).symm

def F16 (I : In) : Fun5 := fun i0 i1 i2 i3 i4 => F12 I i0 i1 i2 i3 i4
theorem e_v16 (I : In) : val_main_v16 (F := Ideal) (A1 I) = (lift5 (F16 I) : S66x128x1x8x4.Idx → EReal) := by
  funext i
  rw [val_main_v16_apply, e_v12]
  rfl

def F17 (I : In) : Fun4 := fun i0 i1 i2 i3 => F16 I i0 i1 0 i2 i3
theorem e_v17 (I : In) : val_main_v17 (F := Ideal) (A1 I) = (lift4 (F17 I) : S66x128x8x4.Idx → EReal) := by
  funext i
  rw [val_main_v17_apply, e_v16]
  refine coe_of ?_
  have h0 : (i 0).val < 66 := (i 0).isLt
  have h1 : (i 1).val < 128 := (i 1).isLt
  have h2 : (i 2).val < 8 := (i 2).isLt
  have h3 : (i 3).val < 4 := (i 3).isLt
  show F16 I (((((i 0).val * 128 + (i 1).val) * 8 + (i 2).val) * 4 + (i 3).val) / 4096) (((((i 0).val * 128 + (i 1).val) * 8 + (i 2).val) * 4 + (i 3).val) / 32 % 128) 0 (((((i 0).val * 128 + (i 1).val) * 8 + (i 2).val) * 4 + (i 3).val) / 4 % 8) (((((i 0).val * 128 + (i 1).val) * 8 + (i 2).val) * 4 + (i 3).val) % 4) = F16 I ((i 0).val) ((i 1).val) 0 ((i 2).val) ((i 3).val)
  congr 1 <;> omega

def F18 (I : In) : Fun3 := fun i0 i1 i2 => F15 I i0 i1 i2
theorem e_v18 (I : In) : val_main_v18 (F := Ideal) (A2 I) = (lift3 (F18 I) : S1x8x4.Idx → EReal) := by
  funext i
  rw [val_main_v18_apply, e_v15]
  rfl

def F19 (I : In) : Fun2 := fun i0 i1 => F18 I 0 i0 i1
theorem e_v19 (I : In) : val_main_v19 (F := Ideal) (A2 I) = (lift2 (F19 I) : S8x4.Idx → EReal) := by
  funext i
  rw [val_main_v19_apply, e_v18]
  refine coe_of ?_
  have h0 : (i 0).val < 8 := (i 0).isLt
  have h1 : (i 1).val < 4 := (i 1).isLt
  show F18 I 0 (((i 0).val * 4 + (i 1).val) / 4 % 8) (((i 0).val * 4 + (i 1).val) % 4) = F18 I 0 ((i 0).val) ((i 1).val)
  congr 1 <;> omega

def F20 (I : In) : Fun4 := fun i0 i1 i2 i3 => F19 I i2 i3
theorem e_v20 (I : In) : val_main_v20 (F := Ideal) (A2 I) = (lift4 (F20 I) : S1x1x8x4.Idx → EReal) := by
  funext i
  rw [val_main_v20_apply, e_v19]
  rfl

def F21 (I : In) : Fun4 := fun i0 i1 i2 i3 => F20 I 0 0 i2 i3
theorem e_v21 (I : In) : val_main_v21 (F := Ideal) (A2 I) = (lift4 (F21 I) : S66x128x8x4.Idx → EReal) := by
  funext i
  rw [val_main_v21_apply, e_v20]
  rfl

def F22 (I : In) : Fun4 := fun i0 i1 i2 i3 => F17 I i0 i1 i2 i3 * F21 I i0 i1 i2 i3
theorem e_v22 (I : In) : val_main_v22 (F := Ideal) (A1 I) (A2 I) = (lift4 (F22 I) : S66x128x8x4.Idx → EReal) := by
  funext i
  rw [val_main_v22_apply, e_v17, e_v21]
  exact (EReal.coe_mul _ _).symm

theorem z_call0_call0_cst (i : S_.Idx) : val_main_call0_call0_cst (F := Ideal) i = (0 : EReal) := Ideal.ofBits_zero_f32
theorem z_call0_call0_v0 (i : S_.Idx) : val_main_call0_call0_v0 (F := Ideal) i = (0 : EReal) := by
  rw [val_main_call0_call0_v0_apply]
  exact z_call0_call0_cst _
def F23 (I : In) : Fun4 := fun i0 i1 i2 i3 => ∑ s : Fin 128, if s.val ≤ i1 then F22 I i0 s.val i2 i3 else 0
theorem e_v23 (I : In) : val_main_v23 (F := Ideal) (A1 I) (A2 I) = (lift4 (F23 I) : S66x128x8x4.Idx → EReal) := by
  unfold val_main_v23
  rw [e_v22]
  exact prefix4 _ _ z_call0_call0_v0 _ _

def F24 (I : In) : Fun4 := fun i0 i1 i2 i3 => F23 I i0 (127 + i1) i2 i3
theorem e_v24 (I : In) : val_main_v24 (F := Ideal) (A1 I) (A2 I) = (lift4 (F24 I) : S66x1x8x4.Idx → EReal) := by
  funext i
  rw [val_main_v24_apply, e_v23]
  rfl

def F25 (I : In) : Fun4 := fun i0 i1 i2 i3 => F24 I i0 0 i2 i3
theorem e_v25 (I : In) : val_main_v25 (F := Ideal) (A1 I) (A2 I) = (lift4 (F25 I) : S66x128x8x4.Idx → EReal) := by
  funext i
  rw [val_main_v25_apply, e_v24]
  rfl

def F26 (I : In) : Fun4 := fun i0 i1 i2 i3 => F25 I i0 i1 i2 i3 - F23 I i0 i1 i2 i3
theorem e_v26 (I : In) : val_main_v26 (F := Ideal) (A1 I) (A2 I) = (lift4 (F26 I) : S66x128x8x4.Idx → EReal) := by
  funext i
  rw [val_main_v26_apply, e_v25, e_v23]
  exact (EReal.coe_sub _ _).symm

def F27 (I : In) : Fun4 := fun i0 i1 i2 i3 => Real.exp (F26 I i0 i1 i2 i3)
theorem e_v27 (I : In) : val_main_v27 (F := Ideal) (A1 I) (A2 I) = (lift4 (F27 I) : S66x128x8x4.Idx → EReal) := by
  funext i
  rw [val_main_v27_apply, e_v26]
  rfl

def F28 (I : In) : Fun4 := fun i0 i1 i2 i3 => F27 I i0 i1 i2 i3 * F17 I i0 i1 i2 i3
theorem e_v28 (I : In) : val_main_v28 (F := Ideal) (A1 I) (A2 I) = (lift4 (F28 I) : S66x128x8x4.Idx → EReal) := by
  funext i
  rw [val_main_v28_apply, e_v27, e_v17]
  exact (EReal.coe_mul _ _).symm

def F29 (I : In) : Fun5 := fun i0 i1 i2 i3 i4 => F28 I i0 i1 i2 i3
theorem e_v29 (I : In) : val_main_v29 (F := Ideal) (A1 I) (A2 I) = (lift5 (F29 I) : S66x128x8x4x1.Idx → EReal) := by
  funext i
  rw [val_main_v29_apply, e_v28]
  rfl

def F30 (I : In) : Fun5 := fun i0 i1 i2 i3 i4 => F29 I i0 i1 i2 i3 0
theorem e_v30 (I : In) : val_main_v30 (F := Ideal) (A1 I) (A2 I) = (lift5 (F30 I) : S66x128x8x4x64.Idx → EReal) := by
  funext i
  rw [val_main_v30_apply, e_v29]
  rfl

def F31 (I : In) : Fun5 := fun i0 i1 i2 i3 i4 => F9 I i0 i1 i2 i3 i4 * F30 I i0 i1 i2 i3 i4
theorem e_v31 (I : In) : val_main_v31 (F := Ideal) (A0 I) (A1 I) (A2 I) = (lift5 (F31 I) : S66x128x8x4x64.Idx → EReal) := by
  funext i
  rw [val_main_v31_apply, e_v9, e_v30]
  exact (EReal.coe_mul _ _).symm

def F33 (I : In) : Fun4 := fun i0 i1 i2 i3 => F23 I i0 (127 + i1) i2 i3
theorem e_v33 (I : In) : val_main_v33 (F := Ideal) (A1 I) (A2 I) = (lift4 (F33 I) : S66x1x8x4.Idx → EReal) := by
  funext i
  rw [val_main_v33_apply, e_v23]
  rfl

def F34 (I : In) : Fun3 := fun i0 i1 i2 => F33 I i0 0 i1 i2
theorem e_v34 (I : In) : val_main_v34 (F := Ideal) (A1 I) (A2 I) = (lift3 (F34 I) : S66x8x4.Idx → EReal) := by
  funext i
  rw [val_main_v34_apply, e_v33]
  refine coe_of ?_
  have h0 : (i 0).val < 66 := (i 0).isLt
  have h1 : (i 1).val < 8 := (i 1).isLt
  have h2 : (i 2).val < 4 := (i 2).isLt
  show F33 I ((((i 0).val * 8 + (i 1).val) * 4 + (i 2).val) / 32) 0 ((((i 0).val * 8 + (i 1).val) * 4 + (i 2).val) / 4 % 8) ((((i 0).val * 8 + (i 1).val) * 4 + (i 2).val) % 4) = F33 I ((i 0).val) 0 ((i 1).val) ((i 2).val)
  congr 1 <;> omega

def F35 (I : In) : Fun3 := fun i0 i1 i2 => Real.exp (F34 I i0 i1 i2)
theorem e_v35 (I : In) : val_main_v35 (F := Ideal) (A1 I) (A2 I) = (lift3 (F35 I) : S66x8x4.Idx → EReal) := by
  funext i
  rw [val_main_v35_apply, e_v34]
  rfl

def F47 (I : In) : Fun5 := fun i0 i1 i2 i3 i4 => F23 I i0 i1 i3 i4
theorem e_v47 (I : In) : val_main_v47 (F := Ideal) (A1 I) (A2 I) = (lift5 (F47 I) : S66x128x1x8x4.Idx → EReal) := by
  funext i
  rw [val_main_v47_apply, e_v23]
  rfl

def F48 (I : In) : Fun5 := fun i0 i1 i2 i3 i4 => F23 I i0 i2 i3 i4
theorem e_v48 (I : In) : val_main_v48 (F := Ideal) (A1 I) (A2 I) = (lift5 (F48 I) : S66x1x128x8x4.Idx → EReal) := by
  funext i
  rw [val_main_v48_apply, e_v23]
  rfl

def F49 (I : In) : Fun5 := fun i0 i1 i2 i3 i4 => F47 I i0 i1 0 i3 i4
theorem e_v49 (I : In) : val_main_v49 (F := Ideal) (A1 I) (A2 I) = (lift5 (F49 I) : S66x128x128x8x4.Idx → EReal) := by
  funext i
  rw [val_main_v49_apply, e_v47]
  rfl

def F50 (I : In) : Fun5 := fun i0 i1 i2 i3 i4 => F48 I i0 0 i2 i3 i4
theorem e_v50 (I : In) : val_main_v50 (F := Ideal) (A1 I) (A2 I) = (lift5 (F50 I) : S66x128x128x8x4.Idx → EReal) := by
  funext i
  rw [val_main_v50_apply, e_v48]
  rfl

def F51 (I : In) : Fun5 := fun i0 i1 i2 i3 i4 => F49 I i0 i1 i2 i3 i4 - F50 I i0 i1 i2 i3 i4
theorem e_v51 (I : In) : val_main_v51 (F := Ideal) (A1 I) (A2 I) = (lift5 (F51 I) : S66x128x128x8x4.Idx → EReal) := by
  funext i
  rw [val_main_v51_apply, e_v49, e_v50]
  exact (EReal.coe_sub _ _).symm

def F53 (I : In) : Fun5 := fun i0 i1 i2 i3 i4 => if i2 ≤ i1 then Real.exp (F51 I i0 i1 i2 i3 i4) else 0
theorem e_v53 (I : In) : val_main_v53 (F := Ideal) (A1 I) (A2 I) = (lift5 (F53 I) : S66x128x128x8x4.Idx → EReal) := by
  funext i
  rw [val_main_v53_apply, val_main_v52_0_apply, e_v51, mask52, bot_call1_v2, select_ofBool]
  exact exp_mask _ _

def F54 (I : In) : Fun4 := fun i0 i1 i2 i3 => ∑ k : Fin 128, F10 I i0 i2 i1 (k.val) * F11 I i0 i3 i1 (k.val)
theorem e_v54 (I : In) : val_main_v54 (F := Ideal) (A0 I) = (lift4 (F54 I) : S66x8x128x128.Idx → EReal) := by
  funext i
  rw [val_main_v54_apply, e_v10, e_v11]
  exact sum_mul_coe _ _

def F55 (I : In) : Fun4 := fun i0 i1 i2 i3 => F54 I i0 i3 i2 i1
theorem e_v55 (I : In) : val_main_v55 (F := Ideal) (A0 I) = (lift4 (F55 I) : S66x128x128x8.Idx → EReal) := by
  funext i
  rw [val_main_v55_apply, e_v54]
  rfl

def F56 (I : In) : Fun5 := fun i0 i1 i2 i3 i4 => F55 I i0 i1 i2 i3
theorem e_v56 (I : In) : val_main_v56 (F := Ideal) (A0 I) = (lift5 (F56 I) : S66x128x128x8x1.Idx → EReal) := by
  funext i
  rw [val_main_v56_apply, e_v55]
  rfl

def F57 (I : In) : Fun5 := fun i0 i1 i2 i3 i4 => F56 I i0 i1 i2 i3 0
theorem e_v57 (I : In) : val_main_v57 (F := Ideal) (A0 I) = (lift5 (F57 I) : S66x128x128x8x4.Idx → EReal) := by
  funext i
  rw [val_main_v57_apply, e_v56]
  rfl

def F58 (I : In) : Fun5 := fun i0 i1 i2 i3 i4 => F57 I i0 i1 i2 i3 i4 * F53 I i0 i1 i2 i3 i4
theorem e_v58 (I : In) : val_main_v58 (F := Ideal) (A0 I) (A1 I) (A2 I) = (lift5 (F58 I) : S66x128x128x8x4.Idx → EReal) := by
  funext i
  rw [val_main_v58_apply, e_v57, e_v53]
  exact (EReal.coe_mul _ _).symm

def F59 (I : In) : Fun5 := fun i0 i1 i2 i3 i4 => F17 I i0 i2 i3 i4
theorem e_v59 (I : In) : val_main_v59 (F := Ideal) (A1 I) = (lift5 (F59 I) : S66x1x128x8x4.Idx → EReal) := by
  funext i
  rw [val_main_v59_apply, e_v17]
  rfl

def F60 (I : In) : Fun5 := fun i0 i1 i2 i3 i4 => F59 I i0 0 i2 i3 i4
theorem e_v60 (I : In) : val_main_v60 (F := Ideal) (A1 I) = (lift5 (F60 I) : S66x128x128x8x4.Idx → EReal) := by
  funext i
  rw [val_main_v60_apply, e_v59]
  rfl

def F61 (I : In) : Fun5 := fun i0 i1 i2 i3 i4 => F58 I i0 i1 i2 i3 i4 * F60 I i0 i1 i2 i3 i4
theorem e_v61 (I : In) : val_main_v61 (F := Ideal) (A0 I) (A1 I) (A2 I) = (lift5 (F61 I) : S66x128x128x8x4.Idx → EReal) := by
  funext i
  rw [val_main_v61_apply, e_v58, e_v60]
  exact (EReal.coe_mul _ _).symm

def F64 (I : In) : Fun5 := fun i0 i1 i2 i3 i4 => ∑ k : Fin 128, F5 I i0 i1 i2 i3 (k.val) * F11 I i0 i4 i1 (k.val)
theorem e_v64 (I : In) : val_main_v64 (F := Ideal) (A0 I) (A5 I) = (lift5 (F64 I) : S66x8x4x64x128.Idx → EReal) := by
  funext i
  rw [val_main_v64_apply, e_v5, e_v11]
  exact sum_mul_coe _ _

def F65 (I : In) : Fun5 := fun i0 i1 i2 i3 i4 => F64 I i0 i2 i3 i4 i1
theorem e_v65 (I : In) : val_main_v65 (F := Ideal) (A0 I) (A5 I) = (lift5 (F65 I) : S66x128x8x4x64.Idx → EReal) := by
  funext i
  rw [val_main_v65_apply, e_v64]
  rfl

def F66 (I : In) : Fun4 := fun i0 i1 i2 i3 => Real.exp (F23 I i0 i1 i2 i3)
theorem e_v66 (I : In) : val_main_v66 (F := Ideal) (A1 I) (A2 I) = (lift4 (F66 I) : S66x128x8x4.Idx → EReal) := by
  funext i
  rw [val_main_v66_apply, e_v23]
  rfl

def F67 (I : In) : Fun5 := fun i0 i1 i2 i3 i4 => F66 I i0 i1 i2 i3
theorem e_v67 (I : In) : val_main_v67 (F := Ideal) (A1 I) (A2 I) = (lift5 (F67 I) : S66x128x8x4x1.Idx → EReal) := by
  funext i
  rw [val_main_v67_apply, e_v66]
  rfl

def F71 (I : In) : Fun5 := fun i0 i1 i2 i3 i4 => F9 I i0 (127 - i1) i2 i3 i4
theorem e_v71 (I : In) : val_main_v71 (F := Ideal) (A0 I) = (lift5 (F71 I) : S66x128x8x4x64.Idx → EReal) := by
  unfold val_main_v71
  rw [e_v9]
  exact op_rev_S66x128x8x4x64 _

def F72 (I : In) : Fun5 := fun i0 i1 i2 i3 i4 => F12 I i0 i1 (1 + i2) i3 i4
theorem e_v72 (I : In) : val_main_v72 (F := Ideal) (A1 I) = (lift5 (F72 I) : S66x128x1x8x4.Idx → EReal) := by
  funext i
  rw [val_main_v72_apply, e_v12]
  rfl

def F73 (I : In) : Fun4 := fun i0 i1 i2 i3 => F72 I i0 i1 0 i2 i3
theorem e_v73 (I : In) : val_main_v73 (F := Ideal) (A1 I) = (lift4 (F73 I) : S66x128x8x4.Idx → EReal) := by
  funext i
  rw [val_main_v73_apply, e_v72]
  refine coe_of ?_
  have h0 : (i 0).val < 66 := (i 0).isLt
  have h1 : (i 1).val < 128 := (i 1).isLt
  have h2 : (i 2).val < 8 := (i 2).isLt
  have h3 : (i 3).val < 4 := (i 3).isLt
  show F72 I (((((i 0).val * 128 + (i 1).val) * 8 + (i 2).val) * 4 + (i 3).val) / 4096) (((((i 0).val * 128 + (i 1).val) * 8 + (i 2).val) * 4 + (i 3).val) / 32 % 128) 0 (((((i 0).val * 128 + (i 1).val) * 8 + (i 2).val) * 4 + (i 3).val) / 4 % 8) (((((i 0).val * 128 + (i 1).val) * 8 + (i 2).val) * 4 + (i 3).val) % 4) = F72 I ((i 0).val) ((i 1).val) 0 ((i 2).val) ((i 3).val)
  congr 1 <;> omega

def F74 (I : In) : Fun4 := fun i0 i1 i2 i3 => F73 I i0 (127 - i1) i2 i3
theorem e_v74 (I : In) : val_main_v74 (F := Ideal) (A1 I) = (lift4 (F74 I) : S66x128x8x4.Idx → EReal) := by
  unfold val_main_v74
  rw [e_v73]
  exact op_rev_S66x128x8x4 _

def F75 (I : In) : Fun3 := fun i0 i1 i2 => F15 I (1 + i0) i1 i2
theorem e_v75 (I : In) : val_main_v75 (F := Ideal) (A2 I) = (lift3 (F75 I) : S1x8x4.Idx → EReal) := by
  funext i
  rw [val_main_v75_apply, e_v15]
  rfl

def F76 (I : In) : Fun2 := fun i0 i1 => F75 I 0 i0 i1
theorem e_v76 (I : In) : val_main_v76 (F := Ideal) (A2 I) = (lift2 (F76 I) : S8x4.Idx → EReal) := by
  funext i
  rw [val_main_v76_apply, e_v75]
  refine coe_of ?_
  have h0 : (i 0).val < 8 := (i 0).isLt
  have h1 : (i 1).val < 4 := (i 1).isLt
  show F75 I 0 (((i 0).val * 4 + (i 1).val) / 4 % 8) (((i 0).val * 4 + (i 1).val) % 4) = F75 I 0 ((i 0).val) ((i 1).val)
  congr 1 <;> omega

def F77 (I : In) : Fun4 := fun i0 i1 i2 i3 => F10 I i0 (127 - i1) i2 i3
theorem e_v77 (I : In) : val_main_v77 (F := Ideal) (A0 I) = (lift4 (F77 I) : S66x128x8x128.Idx → EReal) := by
  unfold val_main_v77
  rw [e_v10]
  exact op_rev_S66x128x8x128 _

def F78 (I : In) : Fun4 := fun i0 i1 i2 i3 => F11 I i0 (127 - i1) i2 i3
theorem e_v78 (I : In) : val_main_v78 (F := Ideal) (A0 I) = (lift4 (F78 I) : S66x128x8x128.Idx → EReal) := by
  unfold val_main_v78
  rw [e_v11]
  exact op_rev_S66x128x8x128 _

def F79 (I : In) : Fun4 := fun i0 i1 i2 i3 => F76 I i2 i3
theorem e_v79 (I : In) : val_main_v79 (F := Ideal) (A2 I) = (lift4 (F79 I) : S1x1x8x4.Idx → EReal) := by
  funext i
  rw [val_main_v79_apply, e_v76]
  rfl

def F80 (I : In) : Fun4 := fun i0 i1 i2 i3 => F79 I 0 0 i2 i3
theorem e_v80 (I : In) : val_main_v80 (F := Ideal) (A2 I) = (lift4 (F80 I) : S66x128x8x4.Idx → EReal) := by
  funext i
  rw [val_main_v80_apply, e_v79]
  rfl

def F81 (I : In) : Fun4 := fun i0 i1 i2 i3 => F74 I i0 i1 i2 i3 * F80 I i0 i1 i2 i3
theorem e_v81 (I : In) : val_main_v81 (F := Ideal) (A1 I) (A2 I) = (lift4 (F81 I) : S66x128x8x4.Idx → EReal) := by
  funext i
  rw [val_main_v81_apply, e_v74, e_v80]
  exact (EReal.coe_mul _ _).symm

theorem z_call6_call0_cst (i : S_.Idx) : val_main_call6_call0_cst (F := Ideal) i = (0 : EReal) := Ideal.ofBits_zero_f32
theorem z_call6_call0_v0 (i : S_.Idx) : val_main_call6_call0_v0 (F := Ideal) i = (0 : EReal) := by
  rw [val_main_call6_call0_v0_apply]
  exact z_call6_call0_cst _
def F82 (I : In) : Fun4 := fun i0 i1 i2 i3 => ∑ s : Fin 128, if s.val ≤ i1 then F81 I i0 s.val i2 i3 else 0
theorem e_v82 (I : In) : val_main_v82 (F := Ideal) (A1 I) (A2 I) = (lift4 (F82 I) : S66x128x8x4.Idx → EReal) := by
  unfold val_main_v82
  rw [e_v81]
  exact prefix4 _ _ z_call6_call0_v0 _ _

def F83 (I : In) : Fun4 := fun i0 i1 i2 i3 => F82 I i0 (127 + i1) i2 i3
theorem e_v83 (I : In) : val_main_v83 (F := Ideal) (A1 I) (A2 I) = (lift4 (F83 I) : S66x1x8x4.Idx → EReal) := by
  funext i
  rw [val_main_v83_apply, e_v82]
  rfl

def F84 (I : In) : Fun4 := fun i0 i1 i2 i3 => F83 I i0 0 i2 i3
theorem e_v84 (I : In) : val_main_v84 (F := Ideal) (A1 I) (A2 I) = (lift4 (F84 I) : S66x128x8x4.Idx → EReal) := by
  funext i
  rw [val_main_v84_apply, e_v83]
  rfl

def F85 (I : In) : Fun4 := fun i0 i1 i2 i3 => F84 I i0 i1 i2 i3 - F82 I i0 i1 i2 i3
theorem e_v85 (I : In) : val_main_v85 (F := Ideal) (A1 I) (A2 I) = (lift4 (F85 I) : S66x128x8x4.Idx → EReal) := by
  funext i
  rw [val_main_v85_apply, e_v84, e_v82]
  exact (EReal.coe_sub _ _).symm

def F86 (I : In) : Fun4 := fun i0 i1 i2 i3 => Real.exp (F85 I i0 i1 i2 i3)
theorem e_v86 (I : In) : val_main_v86 (F := Ideal) (A1 I) (A2 I) = (lift4 (F86 I) : S66x128x8x4.Idx → EReal) := by
  funext i
  rw [val_main_v86_apply, e_v85]
  rfl

def F87 (I : In) : Fun4 := fun i0 i1 i2 i3 => F86 I i0 i1 i2 i3 * F74 I i0 i1 i2 i3
theorem e_v87 (I : In) : val_main_v87 (F := Ideal) (A1 I) (A2 I) = (lift4 (F87 I) : S66x128x8x4.Idx → EReal) := by
  funext i
  rw [val_main_v87_apply, e_v86, e_v74]
  exact (EReal.coe_mul _ _).symm

def F88 (I : In) : Fun5 := fun i0 i1 i2 i3 i4 => F87 I i0 i1 i2 i3
theorem e_v88 (I : In) : val_main_v88 (F := Ideal) (A1 I) (A2 I) = (lift5 (F88 I) : S66x128x8x4x1.Idx → EReal) := by
  funext i
  rw [val_main_v88_apply, e_v87]
  rfl

def F89 (I : In) : Fun5 := fun i0 i1 i2 i3 i4 => F88 I i0 i1 i2 i3 0
theorem e_v89 (I : In) : val_main_v89 (F := Ideal) (A1 I) (A2 I) = (lift5 (F89 I) : S66x128x8x4x64.Idx → EReal) := by
  funext i
  rw [val_main_v89_apply, e_v88]
  rfl

def F90 (I : In) : Fun5 := fun i0 i1 i2 i3 i4 => F71 I i0 i1 i2 i3 i4 * F89 I i0 i1 i2 i3 i4
theorem e_v90 (I : In) : val_main_v90 (F := Ideal) (A0 I) (A1 I) (A2 I) = (lift5 (F90 I) : S66x128x8x4x64.Idx → EReal) := by
  funext i
  rw [val_main_v90_apply, e_v71, e_v89]
  exact (EReal.coe_mul _ _).symm

def F92 (I : In) : Fun4 := fun i0 i1 i2 i3 => F82 I i0 (127 + i1) i2 i3
theorem e_v92 (I : In) : val_main_v92 (F := Ideal) (A1 I) (A2 I) = (lift4 (F92 I) : S66x1x8x4.Idx → EReal) := by
  funext i
  rw [val_main_v92_apply, e_v82]
  rfl

def F93 (I : In) : Fun3 := fun i0 i1 i2 => F92 I i0 0 i1 i2
theorem e_v93 (I : In) : val_main_v93 (F := Ideal) (A1 I) (A2 I) = (lift3 (F93 I) : S66x8x4.Idx → EReal) := by
  funext i
  rw [val_main_v93_apply, e_v92]
  refine coe_of ?_
  have h0 : (i 0).val < 66 := (i 0).isLt
  have h1 : (i 1).val < 8 := (i 1).isLt
  have h2 : (i 2).val < 4 := (i 2).isLt
  show F92 I ((((i 0).val * 8 + (i 1).val) * 4 + (i 2).val) / 32) 0 ((((i 0).val * 8 + (i 1).val) * 4 + (i 2).val) / 4 % 8) ((((i 0).val * 8 + (i 1).val) * 4 + (i 2).val) % 4) = F92 I ((i 0).val) 0 ((i 1).val) ((i 2).val)
  congr 1 <;> omega

def F94 (I : In) : Fun3 := fun i0 i1 i2 => Real.exp (F93 I i0 i1 i2)
theorem e_v94 (I : In) : val_main_v94 (F := Ideal) (A1 I) (A2 I) = (lift3 (F94 I) : S66x8x4.Idx → EReal) := by
  funext i
  rw [val_main_v94_apply, e_v93]
  rfl

def F106 (I : In) : Fun5 := fun i0 i1 i2 i3 i4 => F82 I i0 i1 i3 i4
theorem e_v106 (I : In) : val_main_v106 (F := Ideal) (A1 I) (A2 I) = (lift5 (F106 I) : S66x128x1x8x4.Idx → EReal) := by
  funext i
  rw [val_main_v106_apply, e_v82]
  rfl

def F107 (I : In) : Fun5 := fun i0 i1 i2 i3 i4 => F82 I i0 i2 i3 i4
theorem e_v107 (I : In) : val_main_v107 (F := Ideal) (A1 I) (A2 I) = (lift5 (F107 I) : S66x1x128x8x4.Idx → EReal) := by
  funext i
  rw [val_main_v107_apply, e_v82]
  rfl

def F108 (I : In) : Fun5 := fun i0 i1 i2 i3 i4 => F106 I i0 i1 0 i3 i4
theorem e_v108 (I : In) : val_main_v108 (F := Ideal) (A1 I) (A2 I) = (lift5 (F108 I) : S66x128x128x8x4.Idx → EReal) := by
  funext i
  rw [val_main_v108_apply, e_v106]
  rfl

def F109 (I : In) : Fun5 := fun i0 i1 i2 i3 i4 => F107 I i0 0 i2 i3 i4
theorem e_v109 (I : In) : val_main_v109 (F := Ideal) (A1 I) (A2 I) = (lift5 (F109 I) : S66x128x128x8x4.Idx → EReal) := by
  funext i
  rw [val_main_v109_apply, e_v107]
  rfl

def F110 (I : In) : Fun5 := fun i0 i1 i2 i3 i4 => F108 I i0 i1 i2 i3 i4 - F109 I i0 i1 i2 i3 i4
theorem e_v110 (I : In) : val_main_v110 (F := Ideal) (A1 I) (A2 I) = (lift5 (F110 I) : S66x128x128x8x4.Idx → EReal) := by
  funext i
  rw [val_main_v110_apply, e_v108, e_v109]
  exact (EReal.coe_sub _ _).symm

def F112 (I : In) : Fun5 := fun i0 i1 i2 i3 i4 => if i2 ≤ i1 then Real.exp (F110 I i0 i1 i2 i3 i4) else 0
theorem e_v112 (I : In) : val_main_v112 (F := Ideal) (A1 I) (A2 I) = (lift5 (F112 I) : S66x128x128x8x4.Idx → EReal) := by
  funext i
  rw [val_main_v112_apply, val_main_v111_0_apply, e_v110, mask111, bot_call7_v2, select_ofBool]
  exact exp_mask _ _

def F113 (I : In) : Fun4 := fun i0 i1 i2 i3 => ∑ k : Fin 128, F77 I i0 i2 i1 (k.val) * F78 I i0 i3 i1 (k.val)
theorem e_v113 (I : In) : val_main_v113 (F := Ideal) (A0 I) = (lift4 (F113 I) : S66x8x128x128.Idx → EReal) := by
  funext i
  rw [val_main_v113_apply, e_v77, e_v78]
  exact sum_mul_coe _ _

def F114 (I : In) : Fun4 := fun i0 i1 i2 i3 => F113 I i0 i3 i2 i1
theorem e_v114 (I : In) : val_main_v114 (F := Ideal) (A0 I) = (lift4 (F114 I) : S66x128x128x8.Idx → EReal) := by
  funext i
  rw [val_main_v114_apply, e_v113]
  rfl

def F115 (I : In) : Fun5 := fun i0 i1 i2 i3 i4 => F114 I i0 i1 i2 i3
theorem e_v115 (I : In) : val_main_v115 (F := Ideal) (A0 I) = (lift5 (F115 I) : S66x128x128x8x1.Idx → EReal) := by
  funext i
  rw [val_main_v115_apply, e_v114]
  rfl

def F116 (I : In) : Fun5 := fun i0 i1 i2 i3 i4 => F115 I i0 i1 i2 i3 0
theorem e_v116 (I : In) : val_main_v116 (F := Ideal) (A0 I) = (lift5 (F116 I) : S66x128x128x8x4.Idx → EReal) := by
  funext i
  rw [val_main_v116_apply, e_v115]
  rfl

def F117 (I : In) : Fun5 := fun i0 i1 i2 i3 i4 => F116 I i0 i1 i2 i3 i4 * F112 I i0 i1 i2 i3 i4
theorem e_v117 (I : In) : val_main_v117 (F := Ideal) (A0 I) (A1 I) (A2 I) = (lift5 (F117 I) : S66x128x128x8x4.Idx → EReal) := by
  funext i
  rw [val_main_v117_apply, e_v116, e_v112]
  exact (EReal.coe_mul _ _).symm

def F118 (I : In) : Fun5 := fun i0 i1 i2 i3 i4 => F74 I i0 i2 i3 i4
theorem e_v118 (I : In) : val_main_v118 (F := Ideal) (A1 I) = (lift5 (F118 I) : S66x1x128x8x4.Idx → EReal) := by
  funext i
  rw [val_main_v118_apply, e_v74]
  rfl

def F119 (I : In) : Fun5 := fun i0 i1 i2 i3 i4 => F118 I i0 0 i2 i3 i4
theorem e_v119 (I : In) : val_main_v119 (F := Ideal) (A1 I) = (lift5 (F119 I) : S66x128x128x8x4.Idx → EReal) := by
  funext i
  rw [val_main_v119_apply, e_v118]
  rfl

def F120 (I : In) : Fun5 := fun i0 i1 i2 i3 i4 => F117 I i0 i1 i2 i3 i4 * F119 I i0 i1 i2 i3 i4
theorem e_v120 (I : In) : val_main_v120 (F := Ideal) (A0 I) (A1 I) (A2 I) = (lift5 (F120 I) : S66x128x128x8x4.Idx → EReal) := by
  funext i
  rw [val_main_v120_apply, e_v117, e_v119]
  exact (EReal.coe_mul _ _).symm

def F123 (I : In) : Fun5 := fun i0 i1 i2 i3 i4 => ∑ k : Fin 128, F8 I i0 i1 i2 i3 (k.val) * F78 I i0 i4 i1 (k.val)
theorem e_v123 (I : In) : val_main_v123 (F := Ideal) (A0 I) (A6 I) = (lift5 (F123 I) : S66x8x4x64x128.Idx → EReal) := by
  funext i
  rw [val_main_v123_apply, e_v8, e_v78]
  exact sum_mul_coe _ _

def F124 (I : In) : Fun5 := fun i0 i1 i2 i3 i4 => F123 I i0 i2 i3 i4 i1
theorem e_v124 (I : In) : val_main_v124 (F := Ideal) (A0 I) (A6 I) = (lift5 (F124 I) : S66x128x8x4x64.Idx → EReal) := by
  funext i
  rw [val_main_v124_apply, e_v123]
  rfl

def F125 (I : In) : Fun4 := fun i0 i1 i2 i3 => Real.exp (F82 I i0 i1 i2 i3)
theorem e_v125 (I : In) : val_main_v125 (F := Ideal) (A1 I) (A2 I) = (lift4 (F125 I) : S66x128x8x4.Idx → EReal) := by
  funext i
  rw [val_main_v125_apply, e_v82]
  rfl

def F126 (I : In) : Fun5 := fun i0 i1 i2 i3 i4 => F125 I i0 i1 i2 i3
theorem e_v126 (I : In) : val_main_v126 (F := Ideal) (A1 I) (A2 I) = (lift5 (F126 I) : S66x128x8x4x1.Idx → EReal) := by
  funext i
  rw [val_main_v126_apply, e_v125]
  rfl

def F138 (I : In) : Fun2 := fun i0 i1 => I.DY i0 i1
theorem e_v138 (I : In) : val_main_v138 (F := Ideal) (A4 I) = (lift2 (F138 I) : S8448x2048.Idx → EReal) := by
  funext i
  rw [val_main_v138_apply]
  rfl

def F139 (I : In) : Fun3 := fun i0 i1 i2 => I.GF i0 i1 i2
theorem e_v139 (I : In) : val_main_v139 (F := Ideal) (A7 I) = (lift3 (F139 I) : S66x128x2048.Idx → EReal) := by
  funext i
  rw [val_main_v139_apply]
  rfl

def F140 (I : In) : Fun5 := fun i0 i1 i2 i3 i4 => F139 I i0 i1 (256 * i2 + 64 * i3 + i4)
theorem e_v140 (I : In) : val_main_v140 (F := Ideal) (A7 I) = (lift5 (F140 I) : S66x128x8x4x64.Idx → EReal) := by
  funext i
  rw [val_main_v140_apply, e_v139]
  refine coe_of ?_
  have h0 : (i 0).val < 66 := (i 0).isLt
  have h1 : (i 1).val < 128 := (i 1).isLt
  have h2 : (i 2).val < 8 := (i 2).isLt
  have h3 : (i 3).val < 4 := (i 3).isLt
  have h4 : (i 4).val < 64 := (i 4).isLt
  show F139 I ((((((i 0).val * 128 + (i 1).val) * 8 + (i 2).val) * 4 + (i 3).val) * 64 + (i 4).val) / 262144) ((((((i 0).val * 128 + (i 1).val) * 8 + (i 2).val) * 4 + (i 3).val) * 64 + (i 4).val) / 2048 % 128) ((((((i 0).val * 128 + (i 1).val) * 8 + (i 2).val) * 4 + (i 3).val) * 64 + (i 4).val) % 2048) = F139 I ((i 0).val) ((i 1).val) (256 * (i 2).val + 64 * (i 3).val + (i 4).val)
  congr 1 <;> omega

def F141 (I : In) : Fun5 := fun i0 i1 i2 i3 i4 => F140 I i0 i4 i1 i2 i3
theorem e_v141 (I : In) : val_main_v141 (F := Ideal) (A7 I) = (lift5 (F141 I) : S66x8x4x64x128.Idx → EReal) := by
  funext i
  rw [val_main_v141_apply, e_v140]
  rfl

def F142 (I : In) : Fun3 := fun i0 i1 i2 => I.GB i0 i1 i2
theorem e_v142 (I : In) : val_main_v142 (F := Ideal) (A8 I) = (lift3 (F142 I) : S66x128x2048.Idx → EReal) := by
  funext i
  rw [val_main_v142_apply]
  rfl

def F143 (I : In) : Fun5 := fun i0 i1 i2 i3 i4 => F142 I i0 i1 (256 * i2 + 64 * i3 + i4)
theorem e_v143 (I : In) : val_main_v143 (F := Ideal) (A8 I) = (lift5 (F143 I) : S66x128x8x4x64.Idx → EReal) := by
  funext i
  rw [val_main_v143_apply, e_v142]
  refine coe_of ?_
  have h0 : (i 0).val < 66 := (i 0).isLt
  have h1 : (i 1).val < 128 := (i 1).isLt
  have h2 : (i 2).val < 8 := (i 2).isLt
  have h3 : (i 3).val < 4 := (i 3).isLt
  have h4 : (i 4).val < 64 := (i 4).isLt
  show F142 I ((((((i 0).val * 128 + (i 1).val) * 8 + (i 2).val) * 4 + (i 3).val) * 64 + (i 4).val) / 262144) ((((((i 0).val * 128 + (i 1).val) * 8 + (i 2).val) * 4 + (i 3).val) * 64 + (i 4).val) / 2048 % 128) ((((((i 0).val * 128 + (i 1).val) * 8 + (i 2).val) * 4 + (i 3).val) * 64 + (i 4).val) % 2048) = F142 I ((i 0).val) ((i 1).val) (256 * (i 2).val + 64 * (i 3).val + (i 4).val)
  congr 1 <;> omega

def F144 (I : In) : Fun5 := fun i0 i1 i2 i3 i4 => F143 I i0 i4 i1 i2 i3
theorem e_v144 (I : In) : val_main_v144 (F := Ideal) (A8 I) = (lift5 (F144 I) : S66x8x4x64x128.Idx → EReal) := by
  funext i
  rw [val_main_v144_apply, e_v143]
  rfl

def F145 (I : In) : Fun5 := fun i0 i1 i2 i3 i4 => F138 I (128 * i0 + i1) (256 * i2 + 64 * i3 + i4)
theorem e_v145 (I : In) : val_main_v145 (F := Ideal) (A4 I) = (lift5 (F145 I) : S66x128x8x4x64.Idx → EReal) := by
  funext i
  rw [val_main_v145_apply, e_v138]
  refine coe_of ?_
  have h0 : (i 0).val < 66 := (i 0).isLt
  have h1 : (i 1).val < 128 := (i 1).isLt
  have h2 : (i 2).val < 8 := (i 2).isLt
  have h3 : (i 3).val < 4 := (i 3).isLt
  have h4 : (i 4).val < 64 := (i 4).isLt
  show F138 I ((((((i 0).val * 128 + (i 1).val) * 8 + (i 2).val) * 4 + (i 3).val) * 64 + (i 4).val) / 2048) ((((((i 0).val * 128 + (i 1).val) * 8 + (i 2).val) * 4 + (i 3).val) * 64 + (i 4).val) % 2048) = F138 I (128 * (i 0).val + (i 1).val) (256 * (i 2).val + 64 * (i 3).val + (i 4).val)
  congr 1 <;> omega

def F148 (I : In) : Fun5 := fun i0 i1 i2 i3 i4 => F145 I i0 (127 - i1) i2 i3 i4
theorem e_v148 (I : In) : val_main_v148 (F := Ideal) (A4 I) = (lift5 (F148 I) : S66x128x8x4x64.Idx → EReal) := by
  unfold val_main_v148
  rw [e_v145]
  exact op_rev_S66x128x8x4x64 _

def F149 (I : In) : Fun5 := fun i0 i1 i2 i3 i4 => F124 I i0 i1 i2 i3 i4 * F148 I i0 i1 i2 i3 i4
theorem e_v149 (I : In) : val_main_v149 (F := Ideal) (A0 I) (A4 I) (A6 I) = (lift5 (F149 I) : S66x128x8x4x64.Idx → EReal) := by
  funext i
  rw [val_main_v149_apply, e_v124, e_v148]
  exact (EReal.coe_mul _ _).symm

theorem z_cst_1 (i : S_.Idx) : val_main_cst_1 (F := Ideal) i = (0 : EReal) := Ideal.ofBits_zero_f32
def F150 (I : In) : Fun4 := fun i0 i1 i2 i3 => ∑ k : Fin 64, F149 I i0 i1 i2 i3 (k.val)
theorem e_v150 (I : In) : val_main_v150 (F := Ideal) (A0 I) (A4 I) (A6 I) = (lift4 (F150 I) : S66x128x8x4.Idx → EReal) := by
  funext i
  rw [val_main_v150_apply, z_cst_1, zero_add, e_v149]
  exact sum_coe _ _

def F151 (I : In) : Fun5 := fun i0 i1 i2 i3 i4 => F150 I i0 i1 i2 i3
theorem e_v151 (I : In) : val_main_v151 (F := Ideal) (A0 I) (A4 I) (A6 I) = (lift5 (F151 I) : S66x128x8x4x1.Idx → EReal) := by
  funext i
  rw [val_main_v151_apply, e_v150]
  refine coe_of ?_
  have h0 : (i 0).val < 66 := (i 0).isLt
  have h1 : (i 1).val < 128 := (i 1).isLt
  have h2 : (i 2).val < 8 := (i 2).isLt
  have h3 : (i 3).val < 4 := (i 3).isLt
  have h4 : (i 4).val < 1 := (i 4).isLt
  show F150 I ((((((i 0).val * 128 + (i 1).val) * 8 + (i 2).val) * 4 + (i 3).val) * 1 + (i 4).val) / 4096) ((((((i 0).val * 128 + (i 1).val) * 8 + (i 2).val) * 4 + (i 3).val) * 1 + (i 4).val) / 32 % 128) ((((((i 0).val * 128 + (i 1).val) * 8 + (i 2).val) * 4 + (i 3).val) * 1 + (i 4).val) / 4 % 8) ((((((i 0).val * 128 + (i 1).val) * 8 + (i 2).val) * 4 + (i 3).val) * 1 + (i 4).val) % 4) = F150 I ((i 0).val) ((i 1).val) ((i 2).val) ((i 3).val)
  congr 1 <;> omega

def F152 (I : In) : Fun5 := fun i0 i1 i2 i3 i4 => F126 I i0 i1 i2 i3 0
theorem e_v152 (I : In) : val_main_v152 (F := Ideal) (A1 I) (A2 I) = (lift5 (F152 I) : S66x128x8x4x64.Idx → EReal) := by
  funext i
  rw [val_main_v152_apply, e_v126]
  rfl

def F153 (I : In) : Fun5 := fun i0 i1 i2 i3 i4 => F148 I i0 i1 i2 i3 i4 * F152 I i0 i1 i2 i3 i4
theorem e_v153 (I : In) : val_main_v153 (F := Ideal) (A1 I) (A2 I) (A4 I) = (lift5 (F153 I) : S66x128x8x4x64.Idx → EReal) := by
  funext i
  rw [val_main_v153_apply, e_v148, e_v152]
  exact (EReal.coe_mul _ _).symm

theorem z_cst_2 (i : S_.Idx) : val_main_cst_2 (F := Ideal) i = (0 : EReal) := Ideal.ofBits_zero_f32
def F154 (I : In) : Fun4 := fun i0 i1 i2 i3 => ∑ k : Fin 1, F151 I i0 i1 i2 i3 (k.val)
theorem e_v154 (I : In) : val_main_v154 (F := Ideal) (A0 I) (A4 I) (A6 I) = (lift4 (F154 I) : S66x128x8x4.Idx → EReal) := by
  funext i
  rw [val_main_v154_apply, z_cst_2, zero_add, e_v151]
  exact sum_coe _ _

def F155 (I : In) : Fun4 := fun i0 i1 i2 i3 => F154 I i0 i1 i2 i3 * F125 I i0 i1 i2 i3
theorem e_v155 (I : In) : val_main_v155 (F := Ideal) (A0 I) (A1 I) (A2 I) (A4 I) (A6 I) = (lift4 (F155 I) : S66x128x8x4.Idx → EReal) := by
  funext i
  rw [val_main_v155_apply, e_v154, e_v125]
  exact (EReal.coe_mul _ _).symm

def F156 (I : In) : Fun5 := fun i0 i1 i2 i3 i4 => F153 I i0 i4 i1 i2 i3
theorem e_v156 (I : In) : val_main_v156 (F := Ideal) (A1 I) (A2 I) (A4 I) = (lift5 (F156 I) : S66x8x4x64x128.Idx → EReal) := by
  funext i
  rw [val_main_v156_apply, e_v153]
  rfl

def F157 (I : In) : Fun4 := fun i0 i1 i2 i3 => ∑ r : Fin 4, ∑ p : Fin 64, F156 I i0 i1 r.val p.val i2 * F8 I i0 i1 r.val p.val i3
theorem e_v157 (I : In) : val_main_v157 (F := Ideal) (A1 I) (A2 I) (A4 I) (A6 I) = (lift4 (F157 I) : S66x8x128x128.Idx → EReal) := by
  unfold val_main_v157
  rw [e_v156, e_v8]
  exact op_dot_a _ _

end Ssd.Ref
-- ==== Proof.RefVal2.lean ====
module

public import proofs.«01_k».proof.Proof.RefVal1

/-! The arrays of the reference, operation by operation, as lifts of real functions of the indices: `Fn` is the n-th array's function, and `e_vn` states
    that the n-th array is its lift. -/

@[expose] public section

set_option maxRecDepth 16384

noncomputable section

namespace Ssd.Ref

open Idealize.ShloMosaic Ssd Cert.ReferenceIdeal Cert.ReferenceIdeal.Gen Cert.ReferenceIdeal.Read

def F158 (I : In) : Fun4 := fun i0 i1 i2 i3 => F157 I i0 i2 i1 i3
theorem e_v158 (I : In) : val_main_v158 (F := Ideal) (A1 I) (A2 I) (A4 I) (A6 I) = (lift4 (F158 I) : S66x128x8x128.Idx → EReal) := by
  funext i
  rw [val_main_v158_apply, e_v157]
  rfl

def F159 (I : In) : Fun5 := fun i0 i1 i2 i3 i4 => F148 I i0 i4 i1 i2 i3
theorem e_v159 (I : In) : val_main_v159 (F := Ideal) (A4 I) = (lift5 (F159 I) : S66x8x4x64x128.Idx → EReal) := by
  funext i
  rw [val_main_v159_apply, e_v148]
  rfl

def F160 (I : In) : Fun5 := fun i0 i1 i2 i3 i4 => ∑ k : Fin 64, F159 I i0 i1 i2 (k.val) i3 * F71 I i0 i4 i1 i2 (k.val)
theorem e_v160 (I : In) : val_main_v160 (F := Ideal) (A0 I) (A4 I) = (lift5 (F160 I) : S66x8x4x128x128.Idx → EReal) := by
  funext i
  rw [val_main_v160_apply, e_v159, e_v71]
  exact sum_mul_coe _ _

def F161 (I : In) : Fun5 := fun i0 i1 i2 i3 i4 => F160 I i0 i3 i4 i1 i2
theorem e_v161 (I : In) : val_main_v161 (F := Ideal) (A0 I) (A4 I) = (lift5 (F161 I) : S66x128x128x8x4.Idx → EReal) := by
  funext i
  rw [val_main_v161_apply, e_v160]
  rfl

def F162 (I : In) : Fun5 := fun i0 i1 i2 i3 i4 => ∑ k : Fin 128, F159 I i0 i1 i2 i3 (k.val) * F120 I i0 (k.val) i4 i1 i2
theorem e_v162 (I : In) : val_main_v162 (F := Ideal) (A0 I) (A1 I) (A2 I) (A4 I) = (lift5 (F162 I) : S66x8x4x64x128.Idx → EReal) := by
  funext i
  rw [val_main_v162_apply, e_v159, e_v120]
  exact sum_mul_coe _ _

def F163 (I : In) : Fun5 := fun i0 i1 i2 i3 i4 => F162 I i0 i2 i3 i4 i1
theorem e_v163 (I : In) : val_main_v163 (F := Ideal) (A0 I) (A1 I) (A2 I) (A4 I) = (lift5 (F163 I) : S66x128x8x4x64.Idx → EReal) := by
  funext i
  rw [val_main_v163_apply, e_v162]
  rfl

def F164 (I : In) : Fun5 := fun i0 i1 i2 i3 i4 => F117 I i0 i1 i2 i3 i4 * F161 I i0 i1 i2 i3 i4
theorem e_v164 (I : In) : val_main_v164 (F := Ideal) (A0 I) (A1 I) (A2 I) (A4 I) = (lift5 (F164 I) : S66x128x128x8x4.Idx → EReal) := by
  funext i
  rw [val_main_v164_apply, e_v117, e_v161]
  exact (EReal.coe_mul _ _).symm

theorem z_cst_3 (i : S_.Idx) : val_main_cst_3 (F := Ideal) i = (0 : EReal) := Ideal.ofBits_zero_f32
def F165 (I : In) : Fun4 := fun i0 i1 i2 i3 => ∑ k : Fin 128, F164 I i0 (k.val) i1 i2 i3
theorem e_v165 (I : In) : val_main_v165 (F := Ideal) (A0 I) (A1 I) (A2 I) (A4 I) = (lift4 (F165 I) : S66x128x8x4.Idx → EReal) := by
  funext i
  rw [val_main_v165_apply, z_cst_3, zero_add, e_v164]
  exact sum_coe _ _

def F166 (I : In) : Fun5 := fun i0 i1 i2 i3 i4 => F165 I i0 i2 i3 i4
theorem e_v166 (I : In) : val_main_v166 (F := Ideal) (A0 I) (A1 I) (A2 I) (A4 I) = (lift5 (F166 I) : S66x1x128x8x4.Idx → EReal) := by
  funext i
  rw [val_main_v166_apply, e_v165]
  refine coe_of ?_
  have h0 : (i 0).val < 66 := (i 0).isLt
  have h1 : (i 1).val < 1 := (i 1).isLt
  have h2 : (i 2).val < 128 := (i 2).isLt
  have h3 : (i 3).val < 8 := (i 3).isLt
  have h4 : (i 4).val < 4 := (i 4).isLt
  show F165 I ((((((i 0).val * 1 + (i 1).val) * 128 + (i 2).val) * 8 + (i 3).val) * 4 + (i 4).val) / 4096) ((((((i 0).val * 1 + (i 1).val) * 128 + (i 2).val) * 8 + (i 3).val) * 4 + (i 4).val) / 32 % 128) ((((((i 0).val * 1 + (i 1).val) * 128 + (i 2).val) * 8 + (i 3).val) * 4 + (i 4).val) / 4 % 8) ((((((i 0).val * 1 + (i 1).val) * 128 + (i 2).val) * 8 + (i 3).val) * 4 + (i 4).val) % 4) = F165 I ((i 0).val) ((i 2).val) ((i 3).val) ((i 4).val)
  congr 1 <;> omega

def F167 (I : In) : Fun5 := fun i0 i1 i2 i3 i4 => F118 I i0 0 i2 i3 i4
theorem e_v167 (I : In) : val_main_v167 (F := Ideal) (A1 I) = (lift5 (F167 I) : S66x128x128x8x4.Idx → EReal) := by
  funext i
  rw [val_main_v167_apply, e_v118]
  rfl

def F168 (I : In) : Fun5 := fun i0 i1 i2 i3 i4 => F161 I i0 i1 i2 i3 i4 * F167 I i0 i1 i2 i3 i4
theorem e_v168 (I : In) : val_main_v168 (F := Ideal) (A0 I) (A1 I) (A4 I) = (lift5 (F168 I) : S66x128x128x8x4.Idx → EReal) := by
  funext i
  rw [val_main_v168_apply, e_v161, e_v167]
  exact (EReal.coe_mul _ _).symm

theorem z_cst_4 (i : S_.Idx) : val_main_cst_4 (F := Ideal) i = (0 : EReal) := Ideal.ofBits_zero_f32
def F169 (I : In) : Fun4 := fun i0 i1 i2 i3 => ∑ k : Fin 1, F166 I i0 (k.val) i1 i2 i3
theorem e_v169 (I : In) : val_main_v169 (F := Ideal) (A0 I) (A1 I) (A2 I) (A4 I) = (lift4 (F169 I) : S66x128x8x4.Idx → EReal) := by
  funext i
  rw [val_main_v169_apply, z_cst_4, zero_add, e_v166]
  exact sum_coe _ _

def F170 (I : In) : Fun5 := fun i0 i1 i2 i3 i4 => F115 I i0 i1 i2 i3 0
theorem e_v170 (I : In) : val_main_v170 (F := Ideal) (A0 I) = (lift5 (F170 I) : S66x128x128x8x4.Idx → EReal) := by
  funext i
  rw [val_main_v170_apply, e_v115]
  rfl

def F171 (I : In) : Fun5 := fun i0 i1 i2 i3 i4 => F170 I i0 i1 i2 i3 i4 * F168 I i0 i1 i2 i3 i4
theorem e_v171 (I : In) : val_main_v171 (F := Ideal) (A0 I) (A1 I) (A4 I) = (lift5 (F171 I) : S66x128x128x8x4.Idx → EReal) := by
  funext i
  rw [val_main_v171_apply, e_v170, e_v168]
  exact (EReal.coe_mul _ _).symm

def F172 (I : In) : Fun5 := fun i0 i1 i2 i3 i4 => F168 I i0 i1 i2 i3 i4 * F112 I i0 i1 i2 i3 i4
theorem e_v172 (I : In) : val_main_v172 (F := Ideal) (A0 I) (A1 I) (A2 I) (A4 I) = (lift5 (F172 I) : S66x128x128x8x4.Idx → EReal) := by
  funext i
  rw [val_main_v172_apply, e_v168, e_v112]
  exact (EReal.coe_mul _ _).symm

theorem z_cst_5 (i : S_.Idx) : val_main_cst_5 (F := Ideal) i = (0 : EReal) := Ideal.ofBits_zero_f32
def F173 (I : In) : Fun4 := fun i0 i1 i2 i3 => ∑ k : Fin 4, F172 I i0 i1 i2 i3 (k.val)
theorem e_v173 (I : In) : val_main_v173 (F := Ideal) (A0 I) (A1 I) (A2 I) (A4 I) = (lift4 (F173 I) : S66x128x128x8.Idx → EReal) := by
  funext i
  rw [val_main_v173_apply, z_cst_5, zero_add, e_v172]
  exact sum_coe _ _

def F174 (I : In) : Fun5 := fun i0 i1 i2 i3 i4 => F173 I i0 i1 i2 i3
theorem e_v174 (I : In) : val_main_v174 (F := Ideal) (A0 I) (A1 I) (A2 I) (A4 I) = (lift5 (F174 I) : S66x128x128x8x1.Idx → EReal) := by
  funext i
  rw [val_main_v174_apply, e_v173]
  refine coe_of ?_
  have h0 : (i 0).val < 66 := (i 0).isLt
  have h1 : (i 1).val < 128 := (i 1).isLt
  have h2 : (i 2).val < 128 := (i 2).isLt
  have h3 : (i 3).val < 8 := (i 3).isLt
  have h4 : (i 4).val < 1 := (i 4).isLt
  show F173 I ((((((i 0).val * 128 + (i 1).val) * 128 + (i 2).val) * 8 + (i 3).val) * 1 + (i 4).val) / 131072) ((((((i 0).val * 128 + (i 1).val) * 128 + (i 2).val) * 8 + (i 3).val) * 1 + (i 4).val) / 1024 % 128) ((((((i 0).val * 128 + (i 1).val) * 128 + (i 2).val) * 8 + (i 3).val) * 1 + (i 4).val) / 8 % 128) ((((((i 0).val * 128 + (i 1).val) * 128 + (i 2).val) * 8 + (i 3).val) * 1 + (i 4).val) % 8) = F173 I ((i 0).val) ((i 1).val) ((i 2).val) ((i 3).val)
  congr 1 <;> omega

theorem z_cst_6 (i : S_.Idx) : val_main_cst_6 (F := Ideal) i = (0 : EReal) := Ideal.ofBits_zero_f32
def F175 (I : In) : Fun4 := fun i0 i1 i2 i3 => ∑ k : Fin 1, F174 I i0 i1 i2 i3 (k.val)
theorem e_v175 (I : In) : val_main_v175 (F := Ideal) (A0 I) (A1 I) (A2 I) (A4 I) = (lift4 (F175 I) : S66x128x128x8.Idx → EReal) := by
  funext i
  rw [val_main_v175_apply, z_cst_6, zero_add, e_v174]
  exact sum_coe _ _

def F176 (I : In) : Fun4 := fun i0 i1 i2 i3 => F175 I i0 i3 i2 i1
theorem e_v176 (I : In) : val_main_v176 (F := Ideal) (A0 I) (A1 I) (A2 I) (A4 I) = (lift4 (F176 I) : S66x8x128x128.Idx → EReal) := by
  funext i
  rw [val_main_v176_apply, e_v175]
  rfl

def F177 (I : In) : Fun4 := fun i0 i1 i2 i3 => ∑ k : Fin 128, F176 I i0 i1 (k.val) i2 * F77 I i0 (k.val) i1 i3
theorem e_v177 (I : In) : val_main_v177 (F := Ideal) (A0 I) (A1 I) (A2 I) (A4 I) = (lift4 (F177 I) : S66x8x128x128.Idx → EReal) := by
  funext i
  rw [val_main_v177_apply, e_v176, e_v77]
  exact sum_mul_coe _ _

def F178 (I : In) : Fun4 := fun i0 i1 i2 i3 => F177 I i0 i2 i1 i3
theorem e_v178 (I : In) : val_main_v178 (F := Ideal) (A0 I) (A1 I) (A2 I) (A4 I) = (lift4 (F178 I) : S66x128x8x128.Idx → EReal) := by
  funext i
  rw [val_main_v178_apply, e_v177]
  rfl

def F179 (I : In) : Fun4 := fun i0 i1 i2 i3 => F158 I i0 i1 i2 i3 + F178 I i0 i1 i2 i3
theorem e_v179 (I : In) : val_main_v179 (F := Ideal) (A0 I) (A1 I) (A2 I) (A4 I) (A6 I) = (lift4 (F179 I) : S66x128x8x128.Idx → EReal) := by
  funext i
  rw [val_main_v179_apply, e_v158, e_v178]
  exact (EReal.coe_add _ _).symm

def F180 (I : In) : Fun4 := fun i0 i1 i2 i3 => ∑ k : Fin 128, F176 I i0 i1 i2 (k.val) * F78 I i0 (k.val) i1 i3
theorem e_v180 (I : In) : val_main_v180 (F := Ideal) (A0 I) (A1 I) (A2 I) (A4 I) = (lift4 (F180 I) : S66x8x128x128.Idx → EReal) := by
  funext i
  rw [val_main_v180_apply, e_v176, e_v78]
  exact sum_mul_coe _ _

def F181 (I : In) : Fun4 := fun i0 i1 i2 i3 => F180 I i0 i2 i1 i3
theorem e_v181 (I : In) : val_main_v181 (F := Ideal) (A0 I) (A1 I) (A2 I) (A4 I) = (lift4 (F181 I) : S66x128x8x128.Idx → EReal) := by
  funext i
  rw [val_main_v181_apply, e_v180]
  rfl

def F182 (I : In) : Fun5 := fun i0 i1 i2 i3 i4 => F171 I i0 i1 i2 i3 i4 * F112 I i0 i1 i2 i3 i4
theorem e_v182 (I : In) : val_main_v182 (F := Ideal) (A0 I) (A1 I) (A2 I) (A4 I) = (lift5 (F182 I) : S66x128x128x8x4.Idx → EReal) := by
  funext i
  rw [val_main_v182_apply, e_v171, e_v112]
  exact (EReal.coe_mul _ _).symm

theorem z_call10_cst (i : S_.Idx) : val_main_call10_cst (F := Ideal) i = (0 : EReal) := Ideal.ofBits_zero_f32
theorem z_call10_v0 (i : S66x128x128x8x4.Idx) : val_main_call10_v0 (F := Ideal) i = (0 : EReal) := by
  rw [val_main_call10_v0_apply]
  exact z_call10_cst _
def F183 (I : In) : Fun5 := fun i0 i1 i2 i3 i4 => if i2 ≤ i1 then F182 I i0 i1 i2 i3 i4 else 0
theorem e_v183 (I : In) : val_main_v183 (F := Ideal) (A0 I) (A1 I) (A2 I) (A4 I) = (lift5 (F183 I) : S66x128x128x8x4.Idx → EReal) := by
  funext i
  rw [val_main_v183_apply, e_v182, mask111, z_call10_v0, select_ofBool]
  exact sel_mask _ _

theorem z_cst_7 (i : S_.Idx) : val_main_cst_7 (F := Ideal) i = (0 : EReal) := Ideal.ofBits_zero_f32
def F184 (I : In) : Fun4 := fun i0 i1 i2 i3 => ∑ k : Fin 128, F183 I i0 i1 (k.val) i2 i3
theorem e_v184 (I : In) : val_main_v184 (F := Ideal) (A0 I) (A1 I) (A2 I) (A4 I) = (lift4 (F184 I) : S66x128x8x4.Idx → EReal) := by
  funext i
  rw [val_main_v184_apply, z_cst_7, zero_add, e_v183]
  exact sum_coe _ _

def F185 (I : In) : Fun5 := fun i0 i1 i2 i3 i4 => F184 I i0 i1 i3 i4
theorem e_v185 (I : In) : val_main_v185 (F := Ideal) (A0 I) (A1 I) (A2 I) (A4 I) = (lift5 (F185 I) : S66x128x1x8x4.Idx → EReal) := by
  funext i
  rw [val_main_v185_apply, e_v184]
  refine coe_of ?_
  have h0 : (i 0).val < 66 := (i 0).isLt
  have h1 : (i 1).val < 128 := (i 1).isLt
  have h2 : (i 2).val < 1 := (i 2).isLt
  have h3 : (i 3).val < 8 := (i 3).isLt
  have h4 : (i 4).val < 4 := (i 4).isLt
  show F184 I ((((((i 0).val * 128 + (i 1).val) * 1 + (i 2).val) * 8 + (i 3).val) * 4 + (i 4).val) / 4096) ((((((i 0).val * 128 + (i 1).val) * 1 + (i 2).val) * 8 + (i 3).val) * 4 + (i 4).val) / 32 % 128) ((((((i 0).val * 128 + (i 1).val) * 1 + (i 2).val) * 8 + (i 3).val) * 4 + (i 4).val) / 4 % 8) ((((((i 0).val * 128 + (i 1).val) * 1 + (i 2).val) * 8 + (i 3).val) * 4 + (i 4).val) % 4) = F184 I ((i 0).val) ((i 1).val) ((i 3).val) ((i 4).val)
  congr 1 <;> omega

def F186 (I : In) : Fun5 := fun i0 i1 i2 i3 i4 => -(F183 I i0 i1 i2 i3 i4)
theorem e_v186 (I : In) : val_main_v186 (F := Ideal) (A0 I) (A1 I) (A2 I) (A4 I) = (lift5 (F186 I) : S66x128x128x8x4.Idx → EReal) := by
  funext i
  rw [val_main_v186_apply, e_v183]
  exact (EReal.coe_neg _).symm

theorem z_cst_8 (i : S_.Idx) : val_main_cst_8 (F := Ideal) i = (0 : EReal) := Ideal.ofBits_zero_f32
def F187 (I : In) : Fun4 := fun i0 i1 i2 i3 => ∑ k : Fin 128, F186 I i0 (k.val) i1 i2 i3
theorem e_v187 (I : In) : val_main_v187 (F := Ideal) (A0 I) (A1 I) (A2 I) (A4 I) = (lift4 (F187 I) : S66x128x8x4.Idx → EReal) := by
  funext i
  rw [val_main_v187_apply, z_cst_8, zero_add, e_v186]
  exact sum_coe _ _

def F188 (I : In) : Fun5 := fun i0 i1 i2 i3 i4 => F187 I i0 i2 i3 i4
theorem e_v188 (I : In) : val_main_v188 (F := Ideal) (A0 I) (A1 I) (A2 I) (A4 I) = (lift5 (F188 I) : S66x1x128x8x4.Idx → EReal) := by
  funext i
  rw [val_main_v188_apply, e_v187]
  refine coe_of ?_
  have h0 : (i 0).val < 66 := (i 0).isLt
  have h1 : (i 1).val < 1 := (i 1).isLt
  have h2 : (i 2).val < 128 := (i 2).isLt
  have h3 : (i 3).val < 8 := (i 3).isLt
  have h4 : (i 4).val < 4 := (i 4).isLt
  show F187 I ((((((i 0).val * 1 + (i 1).val) * 128 + (i 2).val) * 8 + (i 3).val) * 4 + (i 4).val) / 4096) ((((((i 0).val * 1 + (i 1).val) * 128 + (i 2).val) * 8 + (i 3).val) * 4 + (i 4).val) / 32 % 128) ((((((i 0).val * 1 + (i 1).val) * 128 + (i 2).val) * 8 + (i 3).val) * 4 + (i 4).val) / 4 % 8) ((((((i 0).val * 1 + (i 1).val) * 128 + (i 2).val) * 8 + (i 3).val) * 4 + (i 4).val) % 4) = F187 I ((i 0).val) ((i 2).val) ((i 3).val) ((i 4).val)
  congr 1 <;> omega

theorem z_cst_9 (i : S_.Idx) : val_main_cst_9 (F := Ideal) i = (0 : EReal) := Ideal.ofBits_zero_f32
def F189 (I : In) : Fun4 := fun i0 i1 i2 i3 => ∑ k : Fin 1, F188 I i0 (k.val) i1 i2 i3
theorem e_v189 (I : In) : val_main_v189 (F := Ideal) (A0 I) (A1 I) (A2 I) (A4 I) = (lift4 (F189 I) : S66x128x8x4.Idx → EReal) := by
  funext i
  rw [val_main_v189_apply, z_cst_9, zero_add, e_v188]
  exact sum_coe _ _

def F190 (I : In) : Fun4 := fun i0 i1 i2 i3 => F155 I i0 i1 i2 i3 + F189 I i0 i1 i2 i3
theorem e_v190 (I : In) : val_main_v190 (F := Ideal) (A0 I) (A1 I) (A2 I) (A4 I) (A6 I) = (lift4 (F190 I) : S66x128x8x4.Idx → EReal) := by
  funext i
  rw [val_main_v190_apply, e_v155, e_v189]
  exact (EReal.coe_add _ _).symm

theorem z_cst_10 (i : S_.Idx) : val_main_cst_10 (F := Ideal) i = (0 : EReal) := Ideal.ofBits_zero_f32
def F191 (I : In) : Fun4 := fun i0 i1 i2 i3 => ∑ k : Fin 1, F185 I i0 i1 (k.val) i2 i3
theorem e_v191 (I : In) : val_main_v191 (F := Ideal) (A0 I) (A1 I) (A2 I) (A4 I) = (lift4 (F191 I) : S66x128x8x4.Idx → EReal) := by
  funext i
  rw [val_main_v191_apply, z_cst_10, zero_add, e_v185]
  exact sum_coe _ _

def F192 (I : In) : Fun4 := fun i0 i1 i2 i3 => F190 I i0 i1 i2 i3 + F191 I i0 i1 i2 i3
theorem e_v192 (I : In) : val_main_v192 (F := Ideal) (A0 I) (A1 I) (A2 I) (A4 I) (A6 I) = (lift4 (F192 I) : S66x128x8x4.Idx → EReal) := by
  funext i
  rw [val_main_v192_apply, e_v190, e_v191]
  exact (EReal.coe_add _ _).symm

def F193 (I : In) : Fun5 := fun i0 i1 i2 i3 i4 => F8 I i0 i1 i2 i3 i4 * F144 I i0 i1 i2 i3 i4
theorem e_v193 (I : In) : val_main_v193 (F := Ideal) (A6 I) (A8 I) = (lift5 (F193 I) : S66x8x4x64x128.Idx → EReal) := by
  funext i
  rw [val_main_v193_apply, e_v8, e_v144]
  exact (EReal.coe_mul _ _).symm

theorem z_cst_11 (i : S_.Idx) : val_main_cst_11 (F := Ideal) i = (0 : EReal) := Ideal.ofBits_zero_f32
def F194 (I : In) : Fun3 := fun i0 i1 i2 => ∑ k3 : Fin 64, ∑ k4 : Fin 128, F193 I i0 i1 i2 (k3.val) (k4.val)
theorem e_v194 (I : In) : val_main_v194 (F := Ideal) (A6 I) (A8 I) = (lift3 (F194 I) : S66x8x4.Idx → EReal) := by
  unfold val_main_v194
  rw [e_v193]
  exact op_red_S66x8x4x64x128_3_4 _ _ z_cst_11

def F195 (I : In) : Fun5 := fun i0 i1 i2 i3 i4 => F194 I i0 i1 i2
theorem e_v195 (I : In) : val_main_v195 (F := Ideal) (A6 I) (A8 I) = (lift5 (F195 I) : S66x8x4x1x1.Idx → EReal) := by
  funext i
  rw [val_main_v195_apply, e_v194]
  refine coe_of ?_
  have h0 : (i 0).val < 66 := (i 0).isLt
  have h1 : (i 1).val < 8 := (i 1).isLt
  have h2 : (i 2).val < 4 := (i 2).isLt
  have h3 : (i 3).val < 1 := (i 3).isLt
  have h4 : (i 4).val < 1 := (i 4).isLt
  show F194 I ((((((i 0).val * 8 + (i 1).val) * 4 + (i 2).val) * 1 + (i 3).val) * 1 + (i 4).val) / 32) ((((((i 0).val * 8 + (i 1).val) * 4 + (i 2).val) * 1 + (i 3).val) * 1 + (i 4).val) / 4 % 8) ((((((i 0).val * 8 + (i 1).val) * 4 + (i 2).val) * 1 + (i 3).val) * 1 + (i 4).val) % 4) = F194 I ((i 0).val) ((i 1).val) ((i 2).val)
  congr 1 <;> omega

theorem z_cst_12 (i : S_.Idx) : val_main_cst_12 (F := Ideal) i = (0 : EReal) := Ideal.ofBits_zero_f32
def F196 (I : In) : Fun3 := fun i0 i1 i2 => F195 I i0 i1 i2 0 0
theorem e_v196 (I : In) : val_main_v196 (F := Ideal) (A6 I) (A8 I) = (lift3 (F196 I) : S66x8x4.Idx → EReal) := by
  unfold val_main_v196
  rw [e_v195]
  exact op_red_S66x8x4x1x1_3_4 _ _ z_cst_12

def F197 (I : In) : Fun3 := fun i0 i1 i2 => F196 I i0 i1 i2 * F94 I i0 i1 i2
theorem e_v197 (I : In) : val_main_v197 (F := Ideal) (A1 I) (A2 I) (A6 I) (A8 I) = (lift3 (F197 I) : S66x8x4.Idx → EReal) := by
  funext i
  rw [val_main_v197_apply, e_v196, e_v94]
  exact (EReal.coe_mul _ _).symm

def F198 (I : In) : Fun4 := fun i0 i1 i2 i3 => F197 I i0 i2 i3
theorem e_v198 (I : In) : val_main_v198 (F := Ideal) (A1 I) (A2 I) (A6 I) (A8 I) = (lift4 (F198 I) : S66x1x8x4.Idx → EReal) := by
  funext i
  rw [val_main_v198_apply, e_v197]
  rfl

theorem z_cst_13 (i : S_.Idx) : val_main_cst_13 (F := Ideal) i = (0 : EReal) := Ideal.ofBits_zero_f32
def F199 (I : In) : Fun4 := fun i0 i1 i2 i3 => if 127 ≤ i1 ∧ i1 - 127 < 1 then F198 I i0 (i1 - 127) i2 i3 else 0
theorem e_v199 (I : In) : val_main_v199 (F := Ideal) (A1 I) (A2 I) (A6 I) (A8 I) = (lift4 (F199 I) : S66x128x8x4.Idx → EReal) := by
  unfold val_main_v199
  rw [e_v198]
  exact op_pad_pads_S66x1x8x4_S66x128x8x4_000_12700_000_000 _ _ z_cst_13

def F200 (I : In) : Fun4 := fun i0 i1 i2 i3 => F192 I i0 i1 i2 i3 + F199 I i0 i1 i2 i3
theorem e_v200 (I : In) : val_main_v200 (F := Ideal) (A0 I) (A1 I) (A2 I) (A4 I) (A6 I) (A8 I) = (lift4 (F200 I) : S66x128x8x4.Idx → EReal) := by
  funext i
  rw [val_main_v200_apply, e_v192, e_v199]
  exact (EReal.coe_add _ _).symm

def F201 (I : In) : Fun4 := fun i0 i1 i2 i3 => ∑ r : Fin 4, ∑ p : Fin 64, F144 I i0 i1 r.val p.val i2 * F90 I i0 i3 i1 r.val p.val
theorem e_v201 (I : In) : val_main_v201 (F := Ideal) (A0 I) (A1 I) (A2 I) (A8 I) = (lift4 (F201 I) : S66x8x128x128.Idx → EReal) := by
  unfold val_main_v201
  rw [e_v144, e_v90]
  exact op_dot_b _ _

def F202 (I : In) : Fun4 := fun i0 i1 i2 i3 => F201 I i0 i2 i3 i1
theorem e_v202 (I : In) : val_main_v202 (F := Ideal) (A0 I) (A1 I) (A2 I) (A8 I) = (lift4 (F202 I) : S66x128x8x128.Idx → EReal) := by
  funext i
  rw [val_main_v202_apply, e_v201]
  rfl

def F203 (I : In) : Fun4 := fun i0 i1 i2 i3 => F181 I i0 i1 i2 i3 + F202 I i0 i1 i2 i3
theorem e_v203 (I : In) : val_main_v203 (F := Ideal) (A0 I) (A1 I) (A2 I) (A4 I) (A8 I) = (lift4 (F203 I) : S66x128x8x128.Idx → EReal) := by
  funext i
  rw [val_main_v203_apply, e_v181, e_v202]
  exact (EReal.coe_add _ _).symm

def F204 (I : In) : Fun5 := fun i0 i1 i2 i3 i4 => ∑ k : Fin 128, F144 I i0 i1 i2 i3 (k.val) * F77 I i0 i4 i1 (k.val)
theorem e_v204 (I : In) : val_main_v204 (F := Ideal) (A0 I) (A8 I) = (lift5 (F204 I) : S66x8x4x64x128.Idx → EReal) := by
  funext i
  rw [val_main_v204_apply, e_v144, e_v77]
  exact sum_mul_coe _ _

def F205 (I : In) : Fun5 := fun i0 i1 i2 i3 i4 => F204 I i0 i2 i3 i4 i1
theorem e_v205 (I : In) : val_main_v205 (F := Ideal) (A0 I) (A8 I) = (lift5 (F205 I) : S66x128x8x4x64.Idx → EReal) := by
  funext i
  rw [val_main_v205_apply, e_v204]
  rfl

def F206 (I : In) : Fun5 := fun i0 i1 i2 i3 i4 => F71 I i0 i1 i2 i3 i4 * F205 I i0 i1 i2 i3 i4
theorem e_v206 (I : In) : val_main_v206 (F := Ideal) (A0 I) (A8 I) = (lift5 (F206 I) : S66x128x8x4x64.Idx → EReal) := by
  funext i
  rw [val_main_v206_apply, e_v71, e_v205]
  exact (EReal.coe_mul _ _).symm

theorem z_cst_14 (i : S_.Idx) : val_main_cst_14 (F := Ideal) i = (0 : EReal) := Ideal.ofBits_zero_f32
def F207 (I : In) : Fun4 := fun i0 i1 i2 i3 => ∑ k : Fin 64, F206 I i0 i1 i2 i3 (k.val)
theorem e_v207 (I : In) : val_main_v207 (F := Ideal) (A0 I) (A8 I) = (lift4 (F207 I) : S66x128x8x4.Idx → EReal) := by
  funext i
  rw [val_main_v207_apply, z_cst_14, zero_add, e_v206]
  exact sum_coe _ _

def F208 (I : In) : Fun5 := fun i0 i1 i2 i3 i4 => F207 I i0 i1 i2 i3
theorem e_v208 (I : In) : val_main_v208 (F := Ideal) (A0 I) (A8 I) = (lift5 (F208 I) : S66x128x8x4x1.Idx → EReal) := by
  funext i
  rw [val_main_v208_apply, e_v207]
  refine coe_of ?_
  have h0 : (i 0).val < 66 := (i 0).isLt
  have h1 : (i 1).val < 128 := (i 1).isLt
  have h2 : (i 2).val < 8 := (i 2).isLt
  have h3 : (i 3).val < 4 := (i 3).isLt
  have h4 : (i 4).val < 1 := (i 4).isLt
  show F207 I ((((((i 0).val * 128 + (i 1).val) * 8 + (i 2).val) * 4 + (i 3).val) * 1 + (i 4).val) / 4096) ((((((i 0).val * 128 + (i 1).val) * 8 + (i 2).val) * 4 + (i 3).val) * 1 + (i 4).val) / 32 % 128) ((((((i 0).val * 128 + (i 1).val) * 8 + (i 2).val) * 4 + (i 3).val) * 1 + (i 4).val) / 4 % 8) ((((((i 0).val * 128 + (i 1).val) * 8 + (i 2).val) * 4 + (i 3).val) * 1 + (i 4).val) % 4) = F207 I ((i 0).val) ((i 1).val) ((i 2).val) ((i 3).val)
  congr 1 <;> omega

def F209 (I : In) : Fun5 := fun i0 i1 i2 i3 i4 => F88 I i0 i1 i2 i3 0
theorem e_v209 (I : In) : val_main_v209 (F := Ideal) (A1 I) (A2 I) = (lift5 (F209 I) : S66x128x8x4x64.Idx → EReal) := by
  funext i
  rw [val_main_v209_apply, e_v88]
  rfl

def F210 (I : In) : Fun5 := fun i0 i1 i2 i3 i4 => F205 I i0 i1 i2 i3 i4 * F209 I i0 i1 i2 i3 i4
theorem e_v210 (I : In) : val_main_v210 (F := Ideal) (A0 I) (A1 I) (A2 I) (A8 I) = (lift5 (F210 I) : S66x128x8x4x64.Idx → EReal) := by
  funext i
  rw [val_main_v210_apply, e_v205, e_v209]
  exact (EReal.coe_mul _ _).symm

def F211 (I : In) : Fun5 := fun i0 i1 i2 i3 i4 => F163 I i0 i1 i2 i3 i4 + F210 I i0 i1 i2 i3 i4
theorem e_v211 (I : In) : val_main_v211 (F := Ideal) (A0 I) (A1 I) (A2 I) (A4 I) (A8 I) = (lift5 (F211 I) : S66x128x8x4x64.Idx → EReal) := by
  funext i
  rw [val_main_v211_apply, e_v163, e_v210]
  exact (EReal.coe_add _ _).symm

theorem z_cst_15 (i : S_.Idx) : val_main_cst_15 (F := Ideal) i = (0 : EReal) := Ideal.ofBits_zero_f32
def F212 (I : In) : Fun4 := fun i0 i1 i2 i3 => ∑ k : Fin 1, F208 I i0 i1 i2 i3 (k.val)
theorem e_v212 (I : In) : val_main_v212 (F := Ideal) (A0 I) (A8 I) = (lift4 (F212 I) : S66x128x8x4.Idx → EReal) := by
  funext i
  rw [val_main_v212_apply, z_cst_15, zero_add, e_v208]
  exact sum_coe _ _

def F213 (I : In) : Fun4 := fun i0 i1 i2 i3 => F86 I i0 i1 i2 i3 * F212 I i0 i1 i2 i3
theorem e_v213 (I : In) : val_main_v213 (F := Ideal) (A0 I) (A1 I) (A2 I) (A8 I) = (lift4 (F213 I) : S66x128x8x4.Idx → EReal) := by
  funext i
  rw [val_main_v213_apply, e_v86, e_v212]
  exact (EReal.coe_mul _ _).symm

def F214 (I : In) : Fun4 := fun i0 i1 i2 i3 => F169 I i0 i1 i2 i3 + F213 I i0 i1 i2 i3
theorem e_v214 (I : In) : val_main_v214 (F := Ideal) (A0 I) (A1 I) (A2 I) (A4 I) (A8 I) = (lift4 (F214 I) : S66x128x8x4.Idx → EReal) := by
  funext i
  rw [val_main_v214_apply, e_v169, e_v213]
  exact (EReal.coe_add _ _).symm

def F215 (I : In) : Fun4 := fun i0 i1 i2 i3 => F212 I i0 i1 i2 i3 * F74 I i0 i1 i2 i3
theorem e_v215 (I : In) : val_main_v215 (F := Ideal) (A0 I) (A1 I) (A8 I) = (lift4 (F215 I) : S66x128x8x4.Idx → EReal) := by
  funext i
  rw [val_main_v215_apply, e_v212, e_v74]
  exact (EReal.coe_mul _ _).symm

def F216 (I : In) : Fun4 := fun i0 i1 i2 i3 => F215 I i0 i1 i2 i3 * F86 I i0 i1 i2 i3
theorem e_v216 (I : In) : val_main_v216 (F := Ideal) (A0 I) (A1 I) (A2 I) (A8 I) = (lift4 (F216 I) : S66x128x8x4.Idx → EReal) := by
  funext i
  rw [val_main_v216_apply, e_v215, e_v86]
  exact (EReal.coe_mul _ _).symm

theorem z_cst_16 (i : S_.Idx) : val_main_cst_16 (F := Ideal) i = (0 : EReal) := Ideal.ofBits_zero_f32
def F217 (I : In) : Fun3 := fun i0 i1 i2 => ∑ k : Fin 128, F216 I i0 (k.val) i1 i2
theorem e_v217 (I : In) : val_main_v217 (F := Ideal) (A0 I) (A1 I) (A2 I) (A8 I) = (lift3 (F217 I) : S66x8x4.Idx → EReal) := by
  funext i
  rw [val_main_v217_apply, z_cst_16, zero_add, e_v216]
  exact sum_coe _ _

def F218 (I : In) : Fun4 := fun i0 i1 i2 i3 => F217 I i0 i2 i3
theorem e_v218 (I : In) : val_main_v218 (F := Ideal) (A0 I) (A1 I) (A2 I) (A8 I) = (lift4 (F218 I) : S66x1x8x4.Idx → EReal) := by
  funext i
  rw [val_main_v218_apply, e_v217]
  refine coe_of ?_
  have h0 : (i 0).val < 66 := (i 0).isLt
  have h1 : (i 1).val < 1 := (i 1).isLt
  have h2 : (i 2).val < 8 := (i 2).isLt
  have h3 : (i 3).val < 4 := (i 3).isLt
  show F217 I (((((i 0).val * 1 + (i 1).val) * 8 + (i 2).val) * 4 + (i 3).val) / 32) (((((i 0).val * 1 + (i 1).val) * 8 + (i 2).val) * 4 + (i 3).val) / 4 % 8) (((((i 0).val * 1 + (i 1).val) * 8 + (i 2).val) * 4 + (i 3).val) % 4) = F217 I ((i 0).val) ((i 2).val) ((i 3).val)
  congr 1 <;> omega

def F219 (I : In) : Fun4 := fun i0 i1 i2 i3 => -(F216 I i0 i1 i2 i3)
theorem e_v219 (I : In) : val_main_v219 (F := Ideal) (A0 I) (A1 I) (A2 I) (A8 I) = (lift4 (F219 I) : S66x128x8x4.Idx → EReal) := by
  funext i
  rw [val_main_v219_apply, e_v216]
  exact (EReal.coe_neg _).symm

def F220 (I : In) : Fun4 := fun i0 i1 i2 i3 => F200 I i0 i1 i2 i3 + F219 I i0 i1 i2 i3
theorem e_v220 (I : In) : val_main_v220 (F := Ideal) (A0 I) (A1 I) (A2 I) (A4 I) (A6 I) (A8 I) = (lift4 (F220 I) : S66x128x8x4.Idx → EReal) := by
  funext i
  rw [val_main_v220_apply, e_v200, e_v219]
  exact (EReal.coe_add _ _).symm

theorem z_cst_17 (i : S_.Idx) : val_main_cst_17 (F := Ideal) i = (0 : EReal) := Ideal.ofBits_zero_f32
def F221 (I : In) : Fun4 := fun i0 i1 i2 i3 => if 127 ≤ i1 ∧ i1 - 127 < 1 then F218 I i0 (i1 - 127) i2 i3 else 0
theorem e_v221 (I : In) : val_main_v221 (F := Ideal) (A0 I) (A1 I) (A2 I) (A8 I) = (lift4 (F221 I) : S66x128x8x4.Idx → EReal) := by
  unfold val_main_v221
  rw [e_v218]
  exact op_pad_pads_S66x1x8x4_S66x128x8x4_000_12700_000_000 _ _ z_cst_17

def F222 (I : In) : Fun4 := fun i0 i1 i2 i3 => F220 I i0 i1 i2 i3 + F221 I i0 i1 i2 i3
theorem e_v222 (I : In) : val_main_v222 (F := Ideal) (A0 I) (A1 I) (A2 I) (A4 I) (A6 I) (A8 I) = (lift4 (F222 I) : S66x128x8x4.Idx → EReal) := by
  funext i
  rw [val_main_v222_apply, e_v220, e_v221]
  exact (EReal.coe_add _ _).symm

theorem z_call11_call0_cst (i : S_.Idx) : val_main_call11_call0_cst (F := Ideal) i = (0 : EReal) := Ideal.ofBits_zero_f32
theorem z_call11_call0_v0 (i : S_.Idx) : val_main_call11_call0_v0 (F := Ideal) i = (0 : EReal) := by
  rw [val_main_call11_call0_v0_apply]
  exact z_call11_call0_cst _
def F223 (I : In) : Fun4 := fun i0 i1 i2 i3 => ∑ s : Fin 128, if i1 ≤ s.val then F222 I i0 s.val i2 i3 else 0
theorem e_v223 (I : In) : val_main_v223 (F := Ideal) (A0 I) (A1 I) (A2 I) (A4 I) (A6 I) (A8 I) = (lift4 (F223 I) : S66x128x8x4.Idx → EReal) := by
  unfold val_main_v223
  rw [e_v222]
  exact suffix4 _ _ z_call11_call0_v0 _ _

def F224 (I : In) : Fun4 := fun i0 i1 i2 i3 => F74 I i0 i1 i2 i3 * F223 I i0 i1 i2 i3
theorem e_v224 (I : In) : val_main_v224 (F := Ideal) (A0 I) (A1 I) (A2 I) (A4 I) (A6 I) (A8 I) = (lift4 (F224 I) : S66x128x8x4.Idx → EReal) := by
  funext i
  rw [val_main_v224_apply, e_v74, e_v223]
  exact (EReal.coe_mul _ _).symm

theorem z_cst_18 (i : S_.Idx) : val_main_cst_18 (F := Ideal) i = (0 : EReal) := Ideal.ofBits_zero_f32
def F225 (I : In) : Fun2 := fun i0 i1 => ∑ k0 : Fin 66, ∑ k1 : Fin 128, F224 I (k0.val) (k1.val) i0 i1
theorem e_v225 (I : In) : val_main_v225 (F := Ideal) (A0 I) (A1 I) (A2 I) (A4 I) (A6 I) (A8 I) = (lift2 (F225 I) : S8x4.Idx → EReal) := by
  unfold val_main_v225
  rw [e_v224]
  exact op_red_S66x128x8x4_0_1 _ _ z_cst_18

def F226 (I : In) : Fun4 := fun i0 i1 i2 i3 => F225 I i2 i3
theorem e_v226 (I : In) : val_main_v226 (F := Ideal) (A0 I) (A1 I) (A2 I) (A4 I) (A6 I) (A8 I) = (lift4 (F226 I) : S1x1x8x4.Idx → EReal) := by
  funext i
  rw [val_main_v226_apply, e_v225]
  refine coe_of ?_
  have h0 : (i 0).val < 1 := (i 0).isLt
  have h1 : (i 1).val < 1 := (i 1).isLt
  have h2 : (i 2).val < 8 := (i 2).isLt
  have h3 : (i 3).val < 4 := (i 3).isLt
  show F225 I (((((i 0).val * 1 + (i 1).val) * 8 + (i 2).val) * 4 + (i 3).val) / 4) (((((i 0).val * 1 + (i 1).val) * 8 + (i 2).val) * 4 + (i 3).val) % 4) = F225 I ((i 2).val) ((i 3).val)
  congr 1 <;> omega

def F227 (I : In) : Fun4 := fun i0 i1 i2 i3 => F79 I 0 0 i2 i3
theorem e_v227 (I : In) : val_main_v227 (F := Ideal) (A2 I) = (lift4 (F227 I) : S66x128x8x4.Idx → EReal) := by
  funext i
  rw [val_main_v227_apply, e_v79]
  rfl

def F228 (I : In) : Fun4 := fun i0 i1 i2 i3 => F223 I i0 i1 i2 i3 * F227 I i0 i1 i2 i3
theorem e_v228 (I : In) : val_main_v228 (F := Ideal) (A0 I) (A1 I) (A2 I) (A4 I) (A6 I) (A8 I) = (lift4 (F228 I) : S66x128x8x4.Idx → EReal) := by
  funext i
  rw [val_main_v228_apply, e_v223, e_v227]
  exact (EReal.coe_mul _ _).symm

def F229 (I : In) : Fun4 := fun i0 i1 i2 i3 => F214 I i0 i1 i2 i3 + F228 I i0 i1 i2 i3
theorem e_v229 (I : In) : val_main_v229 (F := Ideal) (A0 I) (A1 I) (A2 I) (A4 I) (A6 I) (A8 I) = (lift4 (F229 I) : S66x128x8x4.Idx → EReal) := by
  funext i
  rw [val_main_v229_apply, e_v214, e_v228]
  exact (EReal.coe_add _ _).symm

theorem z_cst_19 (i : S_.Idx) : val_main_cst_19 (F := Ideal) i = (0 : EReal) := Ideal.ofBits_zero_f32
def F230 (I : In) : Fun2 := fun i0 i1 => F226 I 0 0 i0 i1
theorem e_v230 (I : In) : val_main_v230 (F := Ideal) (A0 I) (A1 I) (A2 I) (A4 I) (A6 I) (A8 I) = (lift2 (F230 I) : S8x4.Idx → EReal) := by
  unfold val_main_v230
  rw [e_v226]
  exact op_red_S1x1x8x4_0_1 _ _ z_cst_19

def F231 (I : In) : Fun4 := fun i0 i1 i2 i3 => F179 I i0 (127 - i1) i2 i3
theorem e_v231 (I : In) : val_main_v231 (F := Ideal) (A0 I) (A1 I) (A2 I) (A4 I) (A6 I) = (lift4 (F231 I) : S66x128x8x128.Idx → EReal) := by
  unfold val_main_v231
  rw [e_v179]
  exact op_rev_S66x128x8x128 _

def F232 (I : In) : Fun4 := fun i0 i1 i2 i3 => F203 I i0 (127 - i1) i2 i3
theorem e_v232 (I : In) : val_main_v232 (F := Ideal) (A0 I) (A1 I) (A2 I) (A4 I) (A8 I) = (lift4 (F232 I) : S66x128x8x128.Idx → EReal) := by
  unfold val_main_v232
  rw [e_v203]
  exact op_rev_S66x128x8x128 _

def F233 (I : In) : Fun3 := fun i0 i1 i2 => F230 I i1 i2
theorem e_v233 (I : In) : val_main_v233 (F := Ideal) (A0 I) (A1 I) (A2 I) (A4 I) (A6 I) (A8 I) = (lift3 (F233 I) : S1x8x4.Idx → EReal) := by
  funext i
  rw [val_main_v233_apply, e_v230]
  rfl

theorem z_cst_20 (i : S_.Idx) : val_main_cst_20 (F := Ideal) i = (0 : EReal) := Ideal.ofBits_zero_f32
def F234 (I : In) : Fun3 := fun i0 i1 i2 => if 1 ≤ i0 ∧ i0 - 1 < 1 then F233 I (i0 - 1) i1 i2 else 0
theorem e_v234 (I : In) : val_main_v234 (F := Ideal) (A0 I) (A1 I) (A2 I) (A4 I) (A6 I) (A8 I) = (lift3 (F234 I) : S2x8x4.Idx → EReal) := by
  unfold val_main_v234
  rw [e_v233]
  exact op_pad_pads_S1x8x4_S2x8x4_100_000_000 _ _ z_cst_20

def F235 (I : In) : Fun4 := fun i0 i1 i2 i3 => F229 I i0 (127 - i1) i2 i3
theorem e_v235 (I : In) : val_main_v235 (F := Ideal) (A0 I) (A1 I) (A2 I) (A4 I) (A6 I) (A8 I) = (lift4 (F235 I) : S66x128x8x4.Idx → EReal) := by
  unfold val_main_v235
  rw [e_v229]
  exact op_rev_S66x128x8x4 _

def F236 (I : In) : Fun5 := fun i0 i1 i2 i3 i4 => F235 I i0 i1 i3 i4
theorem e_v236 (I : In) : val_main_v236 (F := Ideal) (A0 I) (A1 I) (A2 I) (A4 I) (A6 I) (A8 I) = (lift5 (F236 I) : S66x128x1x8x4.Idx → EReal) := by
  funext i
  rw [val_main_v236_apply, e_v235]
  rfl

theorem z_cst_21 (i : S_.Idx) : val_main_cst_21 (F := Ideal) i = (0 : EReal) := Ideal.ofBits_zero_f32
def F237 (I : In) : Fun5 := fun i0 i1 i2 i3 i4 => if 1 ≤ i2 ∧ i2 - 1 < 1 then F236 I i0 i1 (i2 - 1) i3 i4 else 0
theorem e_v237 (I : In) : val_main_v237 (F := Ideal) (A0 I) (A1 I) (A2 I) (A4 I) (A6 I) (A8 I) = (lift5 (F237 I) : S66x128x2x8x4.Idx → EReal) := by
  unfold val_main_v237
  rw [e_v236]
  exact op_pad_pads_S66x128x1x8x4_S66x128x2x8x4_000_000_100_000_000 _ _ z_cst_21

def F238 (I : In) : Fun5 := fun i0 i1 i2 i3 i4 => F211 I i0 (127 - i1) i2 i3 i4
theorem e_v238 (I : In) : val_main_v238 (F := Ideal) (A0 I) (A1 I) (A2 I) (A4 I) (A8 I) = (lift5 (F238 I) : S66x128x8x4x64.Idx → EReal) := by
  unfold val_main_v238
  rw [e_v211]
  exact op_rev_S66x128x8x4x64 _

def F240 (I : In) : Fun5 := fun i0 i1 i2 i3 i4 => F65 I i0 i1 i2 i3 i4 * F145 I i0 i1 i2 i3 i4
theorem e_v240 (I : In) : val_main_v240 (F := Ideal) (A0 I) (A4 I) (A5 I) = (lift5 (F240 I) : S66x128x8x4x64.Idx → EReal) := by
  funext i
  rw [val_main_v240_apply, e_v65, e_v145]
  exact (EReal.coe_mul _ _).symm

theorem z_cst_22 (i : S_.Idx) : val_main_cst_22 (F := Ideal) i = (0 : EReal) := Ideal.ofBits_zero_f32
def F241 (I : In) : Fun4 := fun i0 i1 i2 i3 => ∑ k : Fin 64, F240 I i0 i1 i2 i3 (k.val)
theorem e_v241 (I : In) : val_main_v241 (F := Ideal) (A0 I) (A4 I) (A5 I) = (lift4 (F241 I) : S66x128x8x4.Idx → EReal) := by
  funext i
  rw [val_main_v241_apply, z_cst_22, zero_add, e_v240]
  exact sum_coe _ _

def F242 (I : In) : Fun5 := fun i0 i1 i2 i3 i4 => F241 I i0 i1 i2 i3
theorem e_v242 (I : In) : val_main_v242 (F := Ideal) (A0 I) (A4 I) (A5 I) = (lift5 (F242 I) : S66x128x8x4x1.Idx → EReal) := by
  funext i
  rw [val_main_v242_apply, e_v241]
  refine coe_of ?_
  have h0 : (i 0).val < 66 := (i 0).isLt
  have h1 : (i 1).val < 128 := (i 1).isLt
  have h2 : (i 2).val < 8 := (i 2).isLt
  have h3 : (i 3).val < 4 := (i 3).isLt
  have h4 : (i 4).val < 1 := (i 4).isLt
  show F241 I ((((((i 0).val * 128 + (i 1).val) * 8 + (i 2).val) * 4 + (i 3).val) * 1 + (i 4).val) / 4096) ((((((i 0).val * 128 + (i 1).val) * 8 + (i 2).val) * 4 + (i 3).val) * 1 + (i 4).val) / 32 % 128) ((((((i 0).val * 128 + (i 1).val) * 8 + (i 2).val) * 4 + (i 3).val) * 1 + (i 4).val) / 4 % 8) ((((((i 0).val * 128 + (i 1).val) * 8 + (i 2).val) * 4 + (i 3).val) * 1 + (i 4).val) % 4) = F241 I ((i 0).val) ((i 1).val) ((i 2).val) ((i 3).val)
  congr 1 <;> omega

def F243 (I : In) : Fun5 := fun i0 i1 i2 i3 i4 => F67 I i0 i1 i2 i3 0
theorem e_v243 (I : In) : val_main_v243 (F := Ideal) (A1 I) (A2 I) = (lift5 (F243 I) : S66x128x8x4x64.Idx → EReal) := by
  funext i
  rw [val_main_v243_apply, e_v67]
  rfl

def F244 (I : In) : Fun5 := fun i0 i1 i2 i3 i4 => F145 I i0 i1 i2 i3 i4 * F243 I i0 i1 i2 i3 i4
theorem e_v244 (I : In) : val_main_v244 (F := Ideal) (A1 I) (A2 I) (A4 I) = (lift5 (F244 I) : S66x128x8x4x64.Idx → EReal) := by
  funext i
  rw [val_main_v244_apply, e_v145, e_v243]
  exact (EReal.coe_mul _ _).symm

theorem z_cst_23 (i : S_.Idx) : val_main_cst_23 (F := Ideal) i = (0 : EReal) := Ideal.ofBits_zero_f32
def F245 (I : In) : Fun4 := fun i0 i1 i2 i3 => ∑ k : Fin 1, F242 I i0 i1 i2 i3 (k.val)
theorem e_v245 (I : In) : val_main_v245 (F := Ideal) (A0 I) (A4 I) (A5 I) = (lift4 (F245 I) : S66x128x8x4.Idx → EReal) := by
  funext i
  rw [val_main_v245_apply, z_cst_23, zero_add, e_v242]
  exact sum_coe _ _

def F246 (I : In) : Fun4 := fun i0 i1 i2 i3 => F245 I i0 i1 i2 i3 * F66 I i0 i1 i2 i3
theorem e_v246 (I : In) : val_main_v246 (F := Ideal) (A0 I) (A1 I) (A2 I) (A4 I) (A5 I) = (lift4 (F246 I) : S66x128x8x4.Idx → EReal) := by
  funext i
  rw [val_main_v246_apply, e_v245, e_v66]
  exact (EReal.coe_mul _ _).symm

def F247 (I : In) : Fun5 := fun i0 i1 i2 i3 i4 => F244 I i0 i4 i1 i2 i3
theorem e_v247 (I : In) : val_main_v247 (F := Ideal) (A1 I) (A2 I) (A4 I) = (lift5 (F247 I) : S66x8x4x64x128.Idx → EReal) := by
  funext i
  rw [val_main_v247_apply, e_v244]
  rfl

def F248 (I : In) : Fun4 := fun i0 i1 i2 i3 => ∑ r : Fin 4, ∑ p : Fin 64, F247 I i0 i1 r.val p.val i2 * F5 I i0 i1 r.val p.val i3
theorem e_v248 (I : In) : val_main_v248 (F := Ideal) (A1 I) (A2 I) (A4 I) (A5 I) = (lift4 (F248 I) : S66x8x128x128.Idx → EReal) := by
  unfold val_main_v248
  rw [e_v247, e_v5]
  exact op_dot_a _ _

def F249 (I : In) : Fun4 := fun i0 i1 i2 i3 => F248 I i0 i2 i1 i3
theorem e_v249 (I : In) : val_main_v249 (F := Ideal) (A1 I) (A2 I) (A4 I) (A5 I) = (lift4 (F249 I) : S66x128x8x128.Idx → EReal) := by
  funext i
  rw [val_main_v249_apply, e_v248]
  rfl

def F250 (I : In) : Fun4 := fun i0 i1 i2 i3 => F231 I i0 i1 i2 i3 + F249 I i0 i1 i2 i3
theorem e_v250 (I : In) : val_main_v250 (F := Ideal) (A0 I) (A1 I) (A2 I) (A4 I) (A5 I) (A6 I) = (lift4 (F250 I) : S66x128x8x128.Idx → EReal) := by
  funext i
  rw [val_main_v250_apply, e_v231, e_v249]
  exact (EReal.coe_add _ _).symm

def F251 (I : In) : Fun5 := fun i0 i1 i2 i3 i4 => F145 I i0 i4 i1 i2 i3
theorem e_v251 (I : In) : val_main_v251 (F := Ideal) (A4 I) = (lift5 (F251 I) : S66x8x4x64x128.Idx → EReal) := by
  funext i
  rw [val_main_v251_apply, e_v145]
  rfl

end Ssd.Ref
-- ==== Proof.RefVal3.lean ====
module

public import proofs.«01_k».proof.Proof.RefVal2

/-! The arrays of the reference, operation by operation, as lifts of real functions of the indices: `Fn` is the n-th array's function, and `e_vn` states
    that the n-th array is its lift. -/

@[expose] public section

set_option maxRecDepth 16384

noncomputable section

namespace Ssd.Ref

open Idealize.ShloMosaic Ssd Cert.ReferenceIdeal Cert.ReferenceIdeal.Gen Cert.ReferenceIdeal.Read

def F252 (I : In) : Fun5 := fun i0 i1 i2 i3 i4 => ∑ k : Fin 64, F251 I i0 i1 i2 (k.val) i3 * F9 I i0 i4 i1 i2 (k.val)
theorem e_v252 (I : In) : val_main_v252 (F := Ideal) (A0 I) (A4 I) = (lift5 (F252 I) : S66x8x4x128x128.Idx → EReal) := by
  funext i
  rw [val_main_v252_apply, e_v251, e_v9]
  exact sum_mul_coe _ _

def F253 (I : In) : Fun5 := fun i0 i1 i2 i3 i4 => F252 I i0 i3 i4 i1 i2
theorem e_v253 (I : In) : val_main_v253 (F := Ideal) (A0 I) (A4 I) = (lift5 (F253 I) : S66x128x128x8x4.Idx → EReal) := by
  funext i
  rw [val_main_v253_apply, e_v252]
  rfl

def F254 (I : In) : Fun5 := fun i0 i1 i2 i3 i4 => ∑ k : Fin 128, F251 I i0 i1 i2 i3 (k.val) * F61 I i0 (k.val) i4 i1 i2
theorem e_v254 (I : In) : val_main_v254 (F := Ideal) (A0 I) (A1 I) (A2 I) (A4 I) = (lift5 (F254 I) : S66x8x4x64x128.Idx → EReal) := by
  funext i
  rw [val_main_v254_apply, e_v251, e_v61]
  exact sum_mul_coe _ _

def F255 (I : In) : Fun5 := fun i0 i1 i2 i3 i4 => F254 I i0 i2 i3 i4 i1
theorem e_v255 (I : In) : val_main_v255 (F := Ideal) (A0 I) (A1 I) (A2 I) (A4 I) = (lift5 (F255 I) : S66x128x8x4x64.Idx → EReal) := by
  funext i
  rw [val_main_v255_apply, e_v254]
  rfl

def F257 (I : In) : Fun5 := fun i0 i1 i2 i3 i4 => F58 I i0 i1 i2 i3 i4 * F253 I i0 i1 i2 i3 i4
theorem e_v257 (I : In) : val_main_v257 (F := Ideal) (A0 I) (A1 I) (A2 I) (A4 I) = (lift5 (F257 I) : S66x128x128x8x4.Idx → EReal) := by
  funext i
  rw [val_main_v257_apply, e_v58, e_v253]
  exact (EReal.coe_mul _ _).symm

theorem z_cst_24 (i : S_.Idx) : val_main_cst_24 (F := Ideal) i = (0 : EReal) := Ideal.ofBits_zero_f32
def F258 (I : In) : Fun4 := fun i0 i1 i2 i3 => ∑ k : Fin 128, F257 I i0 (k.val) i1 i2 i3
theorem e_v258 (I : In) : val_main_v258 (F := Ideal) (A0 I) (A1 I) (A2 I) (A4 I) = (lift4 (F258 I) : S66x128x8x4.Idx → EReal) := by
  funext i
  rw [val_main_v258_apply, z_cst_24, zero_add, e_v257]
  exact sum_coe _ _

def F259 (I : In) : Fun5 := fun i0 i1 i2 i3 i4 => F258 I i0 i2 i3 i4
theorem e_v259 (I : In) : val_main_v259 (F := Ideal) (A0 I) (A1 I) (A2 I) (A4 I) = (lift5 (F259 I) : S66x1x128x8x4.Idx → EReal) := by
  funext i
  rw [val_main_v259_apply, e_v258]
  refine coe_of ?_
  have h0 : (i 0).val < 66 := (i 0).isLt
  have h1 : (i 1).val < 1 := (i 1).isLt
  have h2 : (i 2).val < 128 := (i 2).isLt
  have h3 : (i 3).val < 8 := (i 3).isLt
  have h4 : (i 4).val < 4 := (i 4).isLt
  show F258 I ((((((i 0).val * 1 + (i 1).val) * 128 + (i 2).val) * 8 + (i 3).val) * 4 + (i 4).val) / 4096) ((((((i 0).val * 1 + (i 1).val) * 128 + (i 2).val) * 8 + (i 3).val) * 4 + (i 4).val) / 32 % 128) ((((((i 0).val * 1 + (i 1).val) * 128 + (i 2).val) * 8 + (i 3).val) * 4 + (i 4).val) / 4 % 8) ((((((i 0).val * 1 + (i 1).val) * 128 + (i 2).val) * 8 + (i 3).val) * 4 + (i 4).val) % 4) = F258 I ((i 0).val) ((i 2).val) ((i 3).val) ((i 4).val)
  congr 1 <;> omega

def F260 (I : In) : Fun5 := fun i0 i1 i2 i3 i4 => F59 I i0 0 i2 i3 i4
theorem e_v260 (I : In) : val_main_v260 (F := Ideal) (A1 I) = (lift5 (F260 I) : S66x128x128x8x4.Idx → EReal) := by
  funext i
  rw [val_main_v260_apply, e_v59]
  rfl

def F261 (I : In) : Fun5 := fun i0 i1 i2 i3 i4 => F253 I i0 i1 i2 i3 i4 * F260 I i0 i1 i2 i3 i4
theorem e_v261 (I : In) : val_main_v261 (F := Ideal) (A0 I) (A1 I) (A4 I) = (lift5 (F261 I) : S66x128x128x8x4.Idx → EReal) := by
  funext i
  rw [val_main_v261_apply, e_v253, e_v260]
  exact (EReal.coe_mul _ _).symm

theorem z_cst_25 (i : S_.Idx) : val_main_cst_25 (F := Ideal) i = (0 : EReal) := Ideal.ofBits_zero_f32
def F262 (I : In) : Fun4 := fun i0 i1 i2 i3 => ∑ k : Fin 1, F259 I i0 (k.val) i1 i2 i3
theorem e_v262 (I : In) : val_main_v262 (F := Ideal) (A0 I) (A1 I) (A2 I) (A4 I) = (lift4 (F262 I) : S66x128x8x4.Idx → EReal) := by
  funext i
  rw [val_main_v262_apply, z_cst_25, zero_add, e_v259]
  exact sum_coe _ _

def F263 (I : In) : Fun5 := fun i0 i1 i2 i3 i4 => F56 I i0 i1 i2 i3 0
theorem e_v263 (I : In) : val_main_v263 (F := Ideal) (A0 I) = (lift5 (F263 I) : S66x128x128x8x4.Idx → EReal) := by
  funext i
  rw [val_main_v263_apply, e_v56]
  rfl

def F264 (I : In) : Fun5 := fun i0 i1 i2 i3 i4 => F263 I i0 i1 i2 i3 i4 * F261 I i0 i1 i2 i3 i4
theorem e_v264 (I : In) : val_main_v264 (F := Ideal) (A0 I) (A1 I) (A4 I) = (lift5 (F264 I) : S66x128x128x8x4.Idx → EReal) := by
  funext i
  rw [val_main_v264_apply, e_v263, e_v261]
  exact (EReal.coe_mul _ _).symm

def F265 (I : In) : Fun5 := fun i0 i1 i2 i3 i4 => F261 I i0 i1 i2 i3 i4 * F53 I i0 i1 i2 i3 i4
theorem e_v265 (I : In) : val_main_v265 (F := Ideal) (A0 I) (A1 I) (A2 I) (A4 I) = (lift5 (F265 I) : S66x128x128x8x4.Idx → EReal) := by
  funext i
  rw [val_main_v265_apply, e_v261, e_v53]
  exact (EReal.coe_mul _ _).symm

theorem z_cst_26 (i : S_.Idx) : val_main_cst_26 (F := Ideal) i = (0 : EReal) := Ideal.ofBits_zero_f32
def F266 (I : In) : Fun4 := fun i0 i1 i2 i3 => ∑ k : Fin 4, F265 I i0 i1 i2 i3 (k.val)
theorem e_v266 (I : In) : val_main_v266 (F := Ideal) (A0 I) (A1 I) (A2 I) (A4 I) = (lift4 (F266 I) : S66x128x128x8.Idx → EReal) := by
  funext i
  rw [val_main_v266_apply, z_cst_26, zero_add, e_v265]
  exact sum_coe _ _

def F267 (I : In) : Fun5 := fun i0 i1 i2 i3 i4 => F266 I i0 i1 i2 i3
theorem e_v267 (I : In) : val_main_v267 (F := Ideal) (A0 I) (A1 I) (A2 I) (A4 I) = (lift5 (F267 I) : S66x128x128x8x1.Idx → EReal) := by
  funext i
  rw [val_main_v267_apply, e_v266]
  refine coe_of ?_
  have h0 : (i 0).val < 66 := (i 0).isLt
  have h1 : (i 1).val < 128 := (i 1).isLt
  have h2 : (i 2).val < 128 := (i 2).isLt
  have h3 : (i 3).val < 8 := (i 3).isLt
  have h4 : (i 4).val < 1 := (i 4).isLt
  show F266 I ((((((i 0).val * 128 + (i 1).val) * 128 + (i 2).val) * 8 + (i 3).val) * 1 + (i 4).val) / 131072) ((((((i 0).val * 128 + (i 1).val) * 128 + (i 2).val) * 8 + (i 3).val) * 1 + (i 4).val) / 1024 % 128) ((((((i 0).val * 128 + (i 1).val) * 128 + (i 2).val) * 8 + (i 3).val) * 1 + (i 4).val) / 8 % 128) ((((((i 0).val * 128 + (i 1).val) * 128 + (i 2).val) * 8 + (i 3).val) * 1 + (i 4).val) % 8) = F266 I ((i 0).val) ((i 1).val) ((i 2).val) ((i 3).val)
  congr 1 <;> omega

theorem z_cst_27 (i : S_.Idx) : val_main_cst_27 (F := Ideal) i = (0 : EReal) := Ideal.ofBits_zero_f32
def F268 (I : In) : Fun4 := fun i0 i1 i2 i3 => ∑ k : Fin 1, F267 I i0 i1 i2 i3 (k.val)
theorem e_v268 (I : In) : val_main_v268 (F := Ideal) (A0 I) (A1 I) (A2 I) (A4 I) = (lift4 (F268 I) : S66x128x128x8.Idx → EReal) := by
  funext i
  rw [val_main_v268_apply, z_cst_27, zero_add, e_v267]
  exact sum_coe _ _

def F269 (I : In) : Fun4 := fun i0 i1 i2 i3 => F268 I i0 i3 i2 i1
theorem e_v269 (I : In) : val_main_v269 (F := Ideal) (A0 I) (A1 I) (A2 I) (A4 I) = (lift4 (F269 I) : S66x8x128x128.Idx → EReal) := by
  funext i
  rw [val_main_v269_apply, e_v268]
  rfl

def F270 (I : In) : Fun4 := fun i0 i1 i2 i3 => ∑ k : Fin 128, F269 I i0 i1 (k.val) i2 * F10 I i0 (k.val) i1 i3
theorem e_v270 (I : In) : val_main_v270 (F := Ideal) (A0 I) (A1 I) (A2 I) (A4 I) = (lift4 (F270 I) : S66x8x128x128.Idx → EReal) := by
  funext i
  rw [val_main_v270_apply, e_v269, e_v10]
  exact sum_mul_coe _ _

def F271 (I : In) : Fun4 := fun i0 i1 i2 i3 => F270 I i0 i2 i1 i3
theorem e_v271 (I : In) : val_main_v271 (F := Ideal) (A0 I) (A1 I) (A2 I) (A4 I) = (lift4 (F271 I) : S66x128x8x128.Idx → EReal) := by
  funext i
  rw [val_main_v271_apply, e_v270]
  rfl

def F272 (I : In) : Fun4 := fun i0 i1 i2 i3 => F250 I i0 i1 i2 i3 + F271 I i0 i1 i2 i3
theorem e_v272 (I : In) : val_main_v272 (F := Ideal) (A0 I) (A1 I) (A2 I) (A4 I) (A5 I) (A6 I) = (lift4 (F272 I) : S66x128x8x128.Idx → EReal) := by
  funext i
  rw [val_main_v272_apply, e_v250, e_v271]
  exact (EReal.coe_add _ _).symm

def F273 (I : In) : Fun4 := fun i0 i1 i2 i3 => ∑ k : Fin 128, F269 I i0 i1 i2 (k.val) * F11 I i0 (k.val) i1 i3
theorem e_v273 (I : In) : val_main_v273 (F := Ideal) (A0 I) (A1 I) (A2 I) (A4 I) = (lift4 (F273 I) : S66x8x128x128.Idx → EReal) := by
  funext i
  rw [val_main_v273_apply, e_v269, e_v11]
  exact sum_mul_coe _ _

def F274 (I : In) : Fun4 := fun i0 i1 i2 i3 => F273 I i0 i2 i1 i3
theorem e_v274 (I : In) : val_main_v274 (F := Ideal) (A0 I) (A1 I) (A2 I) (A4 I) = (lift4 (F274 I) : S66x128x8x128.Idx → EReal) := by
  funext i
  rw [val_main_v274_apply, e_v273]
  rfl

def F275 (I : In) : Fun4 := fun i0 i1 i2 i3 => F232 I i0 i1 i2 i3 + F274 I i0 i1 i2 i3
theorem e_v275 (I : In) : val_main_v275 (F := Ideal) (A0 I) (A1 I) (A2 I) (A4 I) (A8 I) = (lift4 (F275 I) : S66x128x8x128.Idx → EReal) := by
  funext i
  rw [val_main_v275_apply, e_v232, e_v274]
  exact (EReal.coe_add _ _).symm

def F276 (I : In) : Fun5 := fun i0 i1 i2 i3 i4 => F264 I i0 i1 i2 i3 i4 * F53 I i0 i1 i2 i3 i4
theorem e_v276 (I : In) : val_main_v276 (F := Ideal) (A0 I) (A1 I) (A2 I) (A4 I) = (lift5 (F276 I) : S66x128x128x8x4.Idx → EReal) := by
  funext i
  rw [val_main_v276_apply, e_v264, e_v53]
  exact (EReal.coe_mul _ _).symm

theorem z_call16_cst (i : S_.Idx) : val_main_call16_cst (F := Ideal) i = (0 : EReal) := Ideal.ofBits_zero_f32
theorem z_call16_v0 (i : S66x128x128x8x4.Idx) : val_main_call16_v0 (F := Ideal) i = (0 : EReal) := by
  rw [val_main_call16_v0_apply]
  exact z_call16_cst _
def F277 (I : In) : Fun5 := fun i0 i1 i2 i3 i4 => if i2 ≤ i1 then F276 I i0 i1 i2 i3 i4 else 0
theorem e_v277 (I : In) : val_main_v277 (F := Ideal) (A0 I) (A1 I) (A2 I) (A4 I) = (lift5 (F277 I) : S66x128x128x8x4.Idx → EReal) := by
  funext i
  rw [val_main_v277_apply, e_v276, mask52, z_call16_v0, select_ofBool]
  exact sel_mask _ _

theorem z_cst_28 (i : S_.Idx) : val_main_cst_28 (F := Ideal) i = (0 : EReal) := Ideal.ofBits_zero_f32
def F278 (I : In) : Fun4 := fun i0 i1 i2 i3 => ∑ k : Fin 128, F277 I i0 i1 (k.val) i2 i3
theorem e_v278 (I : In) : val_main_v278 (F := Ideal) (A0 I) (A1 I) (A2 I) (A4 I) = (lift4 (F278 I) : S66x128x8x4.Idx → EReal) := by
  funext i
  rw [val_main_v278_apply, z_cst_28, zero_add, e_v277]
  exact sum_coe _ _

def F279 (I : In) : Fun5 := fun i0 i1 i2 i3 i4 => F278 I i0 i1 i3 i4
theorem e_v279 (I : In) : val_main_v279 (F := Ideal) (A0 I) (A1 I) (A2 I) (A4 I) = (lift5 (F279 I) : S66x128x1x8x4.Idx → EReal) := by
  funext i
  rw [val_main_v279_apply, e_v278]
  refine coe_of ?_
  have h0 : (i 0).val < 66 := (i 0).isLt
  have h1 : (i 1).val < 128 := (i 1).isLt
  have h2 : (i 2).val < 1 := (i 2).isLt
  have h3 : (i 3).val < 8 := (i 3).isLt
  have h4 : (i 4).val < 4 := (i 4).isLt
  show F278 I ((((((i 0).val * 128 + (i 1).val) * 1 + (i 2).val) * 8 + (i 3).val) * 4 + (i 4).val) / 4096) ((((((i 0).val * 128 + (i 1).val) * 1 + (i 2).val) * 8 + (i 3).val) * 4 + (i 4).val) / 32 % 128) ((((((i 0).val * 128 + (i 1).val) * 1 + (i 2).val) * 8 + (i 3).val) * 4 + (i 4).val) / 4 % 8) ((((((i 0).val * 128 + (i 1).val) * 1 + (i 2).val) * 8 + (i 3).val) * 4 + (i 4).val) % 4) = F278 I ((i 0).val) ((i 1).val) ((i 3).val) ((i 4).val)
  congr 1 <;> omega

def F280 (I : In) : Fun5 := fun i0 i1 i2 i3 i4 => -(F277 I i0 i1 i2 i3 i4)
theorem e_v280 (I : In) : val_main_v280 (F := Ideal) (A0 I) (A1 I) (A2 I) (A4 I) = (lift5 (F280 I) : S66x128x128x8x4.Idx → EReal) := by
  funext i
  rw [val_main_v280_apply, e_v277]
  exact (EReal.coe_neg _).symm

theorem z_cst_29 (i : S_.Idx) : val_main_cst_29 (F := Ideal) i = (0 : EReal) := Ideal.ofBits_zero_f32
def F281 (I : In) : Fun4 := fun i0 i1 i2 i3 => ∑ k : Fin 128, F280 I i0 (k.val) i1 i2 i3
theorem e_v281 (I : In) : val_main_v281 (F := Ideal) (A0 I) (A1 I) (A2 I) (A4 I) = (lift4 (F281 I) : S66x128x8x4.Idx → EReal) := by
  funext i
  rw [val_main_v281_apply, z_cst_29, zero_add, e_v280]
  exact sum_coe _ _

def F282 (I : In) : Fun5 := fun i0 i1 i2 i3 i4 => F281 I i0 i2 i3 i4
theorem e_v282 (I : In) : val_main_v282 (F := Ideal) (A0 I) (A1 I) (A2 I) (A4 I) = (lift5 (F282 I) : S66x1x128x8x4.Idx → EReal) := by
  funext i
  rw [val_main_v282_apply, e_v281]
  refine coe_of ?_
  have h0 : (i 0).val < 66 := (i 0).isLt
  have h1 : (i 1).val < 1 := (i 1).isLt
  have h2 : (i 2).val < 128 := (i 2).isLt
  have h3 : (i 3).val < 8 := (i 3).isLt
  have h4 : (i 4).val < 4 := (i 4).isLt
  show F281 I ((((((i 0).val * 1 + (i 1).val) * 128 + (i 2).val) * 8 + (i 3).val) * 4 + (i 4).val) / 4096) ((((((i 0).val * 1 + (i 1).val) * 128 + (i 2).val) * 8 + (i 3).val) * 4 + (i 4).val) / 32 % 128) ((((((i 0).val * 1 + (i 1).val) * 128 + (i 2).val) * 8 + (i 3).val) * 4 + (i 4).val) / 4 % 8) ((((((i 0).val * 1 + (i 1).val) * 128 + (i 2).val) * 8 + (i 3).val) * 4 + (i 4).val) % 4) = F281 I ((i 0).val) ((i 2).val) ((i 3).val) ((i 4).val)
  congr 1 <;> omega

theorem z_cst_30 (i : S_.Idx) : val_main_cst_30 (F := Ideal) i = (0 : EReal) := Ideal.ofBits_zero_f32
def F283 (I : In) : Fun4 := fun i0 i1 i2 i3 => ∑ k : Fin 1, F282 I i0 (k.val) i1 i2 i3
theorem e_v283 (I : In) : val_main_v283 (F := Ideal) (A0 I) (A1 I) (A2 I) (A4 I) = (lift4 (F283 I) : S66x128x8x4.Idx → EReal) := by
  funext i
  rw [val_main_v283_apply, z_cst_30, zero_add, e_v282]
  exact sum_coe _ _

def F284 (I : In) : Fun4 := fun i0 i1 i2 i3 => F246 I i0 i1 i2 i3 + F283 I i0 i1 i2 i3
theorem e_v284 (I : In) : val_main_v284 (F := Ideal) (A0 I) (A1 I) (A2 I) (A4 I) (A5 I) = (lift4 (F284 I) : S66x128x8x4.Idx → EReal) := by
  funext i
  rw [val_main_v284_apply, e_v246, e_v283]
  exact (EReal.coe_add _ _).symm

theorem z_cst_31 (i : S_.Idx) : val_main_cst_31 (F := Ideal) i = (0 : EReal) := Ideal.ofBits_zero_f32
def F285 (I : In) : Fun4 := fun i0 i1 i2 i3 => ∑ k : Fin 1, F279 I i0 i1 (k.val) i2 i3
theorem e_v285 (I : In) : val_main_v285 (F := Ideal) (A0 I) (A1 I) (A2 I) (A4 I) = (lift4 (F285 I) : S66x128x8x4.Idx → EReal) := by
  funext i
  rw [val_main_v285_apply, z_cst_31, zero_add, e_v279]
  exact sum_coe _ _

def F286 (I : In) : Fun4 := fun i0 i1 i2 i3 => F284 I i0 i1 i2 i3 + F285 I i0 i1 i2 i3
theorem e_v286 (I : In) : val_main_v286 (F := Ideal) (A0 I) (A1 I) (A2 I) (A4 I) (A5 I) = (lift4 (F286 I) : S66x128x8x4.Idx → EReal) := by
  funext i
  rw [val_main_v286_apply, e_v284, e_v285]
  exact (EReal.coe_add _ _).symm

def F287 (I : In) : Fun5 := fun i0 i1 i2 i3 i4 => F5 I i0 i1 i2 i3 i4 * F141 I i0 i1 i2 i3 i4
theorem e_v287 (I : In) : val_main_v287 (F := Ideal) (A5 I) (A7 I) = (lift5 (F287 I) : S66x8x4x64x128.Idx → EReal) := by
  funext i
  rw [val_main_v287_apply, e_v5, e_v141]
  exact (EReal.coe_mul _ _).symm

theorem z_cst_32 (i : S_.Idx) : val_main_cst_32 (F := Ideal) i = (0 : EReal) := Ideal.ofBits_zero_f32
def F288 (I : In) : Fun3 := fun i0 i1 i2 => ∑ k3 : Fin 64, ∑ k4 : Fin 128, F287 I i0 i1 i2 (k3.val) (k4.val)
theorem e_v288 (I : In) : val_main_v288 (F := Ideal) (A5 I) (A7 I) = (lift3 (F288 I) : S66x8x4.Idx → EReal) := by
  unfold val_main_v288
  rw [e_v287]
  exact op_red_S66x8x4x64x128_3_4 _ _ z_cst_32

def F289 (I : In) : Fun5 := fun i0 i1 i2 i3 i4 => F288 I i0 i1 i2
theorem e_v289 (I : In) : val_main_v289 (F := Ideal) (A5 I) (A7 I) = (lift5 (F289 I) : S66x8x4x1x1.Idx → EReal) := by
  funext i
  rw [val_main_v289_apply, e_v288]
  refine coe_of ?_
  have h0 : (i 0).val < 66 := (i 0).isLt
  have h1 : (i 1).val < 8 := (i 1).isLt
  have h2 : (i 2).val < 4 := (i 2).isLt
  have h3 : (i 3).val < 1 := (i 3).isLt
  have h4 : (i 4).val < 1 := (i 4).isLt
  show F288 I ((((((i 0).val * 8 + (i 1).val) * 4 + (i 2).val) * 1 + (i 3).val) * 1 + (i 4).val) / 32) ((((((i 0).val * 8 + (i 1).val) * 4 + (i 2).val) * 1 + (i 3).val) * 1 + (i 4).val) / 4 % 8) ((((((i 0).val * 8 + (i 1).val) * 4 + (i 2).val) * 1 + (i 3).val) * 1 + (i 4).val) % 4) = F288 I ((i 0).val) ((i 1).val) ((i 2).val)
  congr 1 <;> omega

theorem z_cst_33 (i : S_.Idx) : val_main_cst_33 (F := Ideal) i = (0 : EReal) := Ideal.ofBits_zero_f32
def F290 (I : In) : Fun3 := fun i0 i1 i2 => F289 I i0 i1 i2 0 0
theorem e_v290 (I : In) : val_main_v290 (F := Ideal) (A5 I) (A7 I) = (lift3 (F290 I) : S66x8x4.Idx → EReal) := by
  unfold val_main_v290
  rw [e_v289]
  exact op_red_S66x8x4x1x1_3_4 _ _ z_cst_33

def F291 (I : In) : Fun3 := fun i0 i1 i2 => F290 I i0 i1 i2 * F35 I i0 i1 i2
theorem e_v291 (I : In) : val_main_v291 (F := Ideal) (A1 I) (A2 I) (A5 I) (A7 I) = (lift3 (F291 I) : S66x8x4.Idx → EReal) := by
  funext i
  rw [val_main_v291_apply, e_v290, e_v35]
  exact (EReal.coe_mul _ _).symm

def F292 (I : In) : Fun4 := fun i0 i1 i2 i3 => F291 I i0 i2 i3
theorem e_v292 (I : In) : val_main_v292 (F := Ideal) (A1 I) (A2 I) (A5 I) (A7 I) = (lift4 (F292 I) : S66x1x8x4.Idx → EReal) := by
  funext i
  rw [val_main_v292_apply, e_v291]
  rfl

theorem z_cst_34 (i : S_.Idx) : val_main_cst_34 (F := Ideal) i = (0 : EReal) := Ideal.ofBits_zero_f32
def F293 (I : In) : Fun4 := fun i0 i1 i2 i3 => if 127 ≤ i1 ∧ i1 - 127 < 1 then F292 I i0 (i1 - 127) i2 i3 else 0
theorem e_v293 (I : In) : val_main_v293 (F := Ideal) (A1 I) (A2 I) (A5 I) (A7 I) = (lift4 (F293 I) : S66x128x8x4.Idx → EReal) := by
  unfold val_main_v293
  rw [e_v292]
  exact op_pad_pads_S66x1x8x4_S66x128x8x4_000_12700_000_000 _ _ z_cst_34

def F294 (I : In) : Fun4 := fun i0 i1 i2 i3 => F286 I i0 i1 i2 i3 + F293 I i0 i1 i2 i3
theorem e_v294 (I : In) : val_main_v294 (F := Ideal) (A0 I) (A1 I) (A2 I) (A4 I) (A5 I) (A7 I) = (lift4 (F294 I) : S66x128x8x4.Idx → EReal) := by
  funext i
  rw [val_main_v294_apply, e_v286, e_v293]
  exact (EReal.coe_add _ _).symm

def F295 (I : In) : Fun4 := fun i0 i1 i2 i3 => ∑ r : Fin 4, ∑ p : Fin 64, F141 I i0 i1 r.val p.val i2 * F31 I i0 i3 i1 r.val p.val
theorem e_v295 (I : In) : val_main_v295 (F := Ideal) (A0 I) (A1 I) (A2 I) (A7 I) = (lift4 (F295 I) : S66x8x128x128.Idx → EReal) := by
  unfold val_main_v295
  rw [e_v141, e_v31]
  exact op_dot_b _ _

def F296 (I : In) : Fun4 := fun i0 i1 i2 i3 => F295 I i0 i2 i3 i1
theorem e_v296 (I : In) : val_main_v296 (F := Ideal) (A0 I) (A1 I) (A2 I) (A7 I) = (lift4 (F296 I) : S66x128x8x128.Idx → EReal) := by
  funext i
  rw [val_main_v296_apply, e_v295]
  rfl

def F297 (I : In) : Fun4 := fun i0 i1 i2 i3 => F275 I i0 i1 i2 i3 + F296 I i0 i1 i2 i3
theorem e_v297 (I : In) : val_main_v297 (F := Ideal) (A0 I) (A1 I) (A2 I) (A4 I) (A7 I) (A8 I) = (lift4 (F297 I) : S66x128x8x128.Idx → EReal) := by
  funext i
  rw [val_main_v297_apply, e_v275, e_v296]
  exact (EReal.coe_add _ _).symm

def F298 (I : In) : Fun5 := fun i0 i1 i2 i3 i4 => ∑ k : Fin 128, F141 I i0 i1 i2 i3 (k.val) * F10 I i0 i4 i1 (k.val)
theorem e_v298 (I : In) : val_main_v298 (F := Ideal) (A0 I) (A7 I) = (lift5 (F298 I) : S66x8x4x64x128.Idx → EReal) := by
  funext i
  rw [val_main_v298_apply, e_v141, e_v10]
  exact sum_mul_coe _ _

def F299 (I : In) : Fun5 := fun i0 i1 i2 i3 i4 => F298 I i0 i2 i3 i4 i1
theorem e_v299 (I : In) : val_main_v299 (F := Ideal) (A0 I) (A7 I) = (lift5 (F299 I) : S66x128x8x4x64.Idx → EReal) := by
  funext i
  rw [val_main_v299_apply, e_v298]
  rfl

def F300 (I : In) : Fun5 := fun i0 i1 i2 i3 i4 => F9 I i0 i1 i2 i3 i4 * F299 I i0 i1 i2 i3 i4
theorem e_v300 (I : In) : val_main_v300 (F := Ideal) (A0 I) (A7 I) = (lift5 (F300 I) : S66x128x8x4x64.Idx → EReal) := by
  funext i
  rw [val_main_v300_apply, e_v9, e_v299]
  exact (EReal.coe_mul _ _).symm

theorem z_cst_35 (i : S_.Idx) : val_main_cst_35 (F := Ideal) i = (0 : EReal) := Ideal.ofBits_zero_f32
def F301 (I : In) : Fun4 := fun i0 i1 i2 i3 => ∑ k : Fin 64, F300 I i0 i1 i2 i3 (k.val)
theorem e_v301 (I : In) : val_main_v301 (F := Ideal) (A0 I) (A7 I) = (lift4 (F301 I) : S66x128x8x4.Idx → EReal) := by
  funext i
  rw [val_main_v301_apply, z_cst_35, zero_add, e_v300]
  exact sum_coe _ _

def F302 (I : In) : Fun5 := fun i0 i1 i2 i3 i4 => F301 I i0 i1 i2 i3
theorem e_v302 (I : In) : val_main_v302 (F := Ideal) (A0 I) (A7 I) = (lift5 (F302 I) : S66x128x8x4x1.Idx → EReal) := by
  funext i
  rw [val_main_v302_apply, e_v301]
  refine coe_of ?_
  have h0 : (i 0).val < 66 := (i 0).isLt
  have h1 : (i 1).val < 128 := (i 1).isLt
  have h2 : (i 2).val < 8 := (i 2).isLt
  have h3 : (i 3).val < 4 := (i 3).isLt
  have h4 : (i 4).val < 1 := (i 4).isLt
  show F301 I ((((((i 0).val * 128 + (i 1).val) * 8 + (i 2).val) * 4 + (i 3).val) * 1 + (i 4).val) / 4096) ((((((i 0).val * 128 + (i 1).val) * 8 + (i 2).val) * 4 + (i 3).val) * 1 + (i 4).val) / 32 % 128) ((((((i 0).val * 128 + (i 1).val) * 8 + (i 2).val) * 4 + (i 3).val) * 1 + (i 4).val) / 4 % 8) ((((((i 0).val * 128 + (i 1).val) * 8 + (i 2).val) * 4 + (i 3).val) * 1 + (i 4).val) % 4) = F301 I ((i 0).val) ((i 1).val) ((i 2).val) ((i 3).val)
  congr 1 <;> omega

def F303 (I : In) : Fun5 := fun i0 i1 i2 i3 i4 => F29 I i0 i1 i2 i3 0
theorem e_v303 (I : In) : val_main_v303 (F := Ideal) (A1 I) (A2 I) = (lift5 (F303 I) : S66x128x8x4x64.Idx → EReal) := by
  funext i
  rw [val_main_v303_apply, e_v29]
  rfl

def F304 (I : In) : Fun5 := fun i0 i1 i2 i3 i4 => F299 I i0 i1 i2 i3 i4 * F303 I i0 i1 i2 i3 i4
theorem e_v304 (I : In) : val_main_v304 (F := Ideal) (A0 I) (A1 I) (A2 I) (A7 I) = (lift5 (F304 I) : S66x128x8x4x64.Idx → EReal) := by
  funext i
  rw [val_main_v304_apply, e_v299, e_v303]
  exact (EReal.coe_mul _ _).symm

theorem z_cst_36 (i : S_.Idx) : val_main_cst_36 (F := Ideal) i = (0 : EReal) := Ideal.ofBits_zero_f32
def F306 (I : In) : Fun4 := fun i0 i1 i2 i3 => ∑ k : Fin 1, F302 I i0 i1 i2 i3 (k.val)
theorem e_v306 (I : In) : val_main_v306 (F := Ideal) (A0 I) (A7 I) = (lift4 (F306 I) : S66x128x8x4.Idx → EReal) := by
  funext i
  rw [val_main_v306_apply, z_cst_36, zero_add, e_v302]
  exact sum_coe _ _

def F307 (I : In) : Fun4 := fun i0 i1 i2 i3 => F27 I i0 i1 i2 i3 * F306 I i0 i1 i2 i3
theorem e_v307 (I : In) : val_main_v307 (F := Ideal) (A0 I) (A1 I) (A2 I) (A7 I) = (lift4 (F307 I) : S66x128x8x4.Idx → EReal) := by
  funext i
  rw [val_main_v307_apply, e_v27, e_v306]
  exact (EReal.coe_mul _ _).symm

def F308 (I : In) : Fun4 := fun i0 i1 i2 i3 => F262 I i0 i1 i2 i3 + F307 I i0 i1 i2 i3
theorem e_v308 (I : In) : val_main_v308 (F := Ideal) (A0 I) (A1 I) (A2 I) (A4 I) (A7 I) = (lift4 (F308 I) : S66x128x8x4.Idx → EReal) := by
  funext i
  rw [val_main_v308_apply, e_v262, e_v307]
  exact (EReal.coe_add _ _).symm

def F309 (I : In) : Fun4 := fun i0 i1 i2 i3 => F306 I i0 i1 i2 i3 * F17 I i0 i1 i2 i3
theorem e_v309 (I : In) : val_main_v309 (F := Ideal) (A0 I) (A1 I) (A7 I) = (lift4 (F309 I) : S66x128x8x4.Idx → EReal) := by
  funext i
  rw [val_main_v309_apply, e_v306, e_v17]
  exact (EReal.coe_mul _ _).symm

def F310 (I : In) : Fun4 := fun i0 i1 i2 i3 => F309 I i0 i1 i2 i3 * F27 I i0 i1 i2 i3
theorem e_v310 (I : In) : val_main_v310 (F := Ideal) (A0 I) (A1 I) (A2 I) (A7 I) = (lift4 (F310 I) : S66x128x8x4.Idx → EReal) := by
  funext i
  rw [val_main_v310_apply, e_v309, e_v27]
  exact (EReal.coe_mul _ _).symm

theorem z_cst_37 (i : S_.Idx) : val_main_cst_37 (F := Ideal) i = (0 : EReal) := Ideal.ofBits_zero_f32
def F311 (I : In) : Fun3 := fun i0 i1 i2 => ∑ k : Fin 128, F310 I i0 (k.val) i1 i2
theorem e_v311 (I : In) : val_main_v311 (F := Ideal) (A0 I) (A1 I) (A2 I) (A7 I) = (lift3 (F311 I) : S66x8x4.Idx → EReal) := by
  funext i
  rw [val_main_v311_apply, z_cst_37, zero_add, e_v310]
  exact sum_coe _ _

def F312 (I : In) : Fun4 := fun i0 i1 i2 i3 => F311 I i0 i2 i3
theorem e_v312 (I : In) : val_main_v312 (F := Ideal) (A0 I) (A1 I) (A2 I) (A7 I) = (lift4 (F312 I) : S66x1x8x4.Idx → EReal) := by
  funext i
  rw [val_main_v312_apply, e_v311]
  refine coe_of ?_
  have h0 : (i 0).val < 66 := (i 0).isLt
  have h1 : (i 1).val < 1 := (i 1).isLt
  have h2 : (i 2).val < 8 := (i 2).isLt
  have h3 : (i 3).val < 4 := (i 3).isLt
  show F311 I (((((i 0).val * 1 + (i 1).val) * 8 + (i 2).val) * 4 + (i 3).val) / 32) (((((i 0).val * 1 + (i 1).val) * 8 + (i 2).val) * 4 + (i 3).val) / 4 % 8) (((((i 0).val * 1 + (i 1).val) * 8 + (i 2).val) * 4 + (i 3).val) % 4) = F311 I ((i 0).val) ((i 2).val) ((i 3).val)
  congr 1 <;> omega

def F313 (I : In) : Fun4 := fun i0 i1 i2 i3 => -(F310 I i0 i1 i2 i3)
theorem e_v313 (I : In) : val_main_v313 (F := Ideal) (A0 I) (A1 I) (A2 I) (A7 I) = (lift4 (F313 I) : S66x128x8x4.Idx → EReal) := by
  funext i
  rw [val_main_v313_apply, e_v310]
  exact (EReal.coe_neg _).symm

def F314 (I : In) : Fun4 := fun i0 i1 i2 i3 => F294 I i0 i1 i2 i3 + F313 I i0 i1 i2 i3
theorem e_v314 (I : In) : val_main_v314 (F := Ideal) (A0 I) (A1 I) (A2 I) (A4 I) (A5 I) (A7 I) = (lift4 (F314 I) : S66x128x8x4.Idx → EReal) := by
  funext i
  rw [val_main_v314_apply, e_v294, e_v313]
  exact (EReal.coe_add _ _).symm

theorem z_cst_38 (i : S_.Idx) : val_main_cst_38 (F := Ideal) i = (0 : EReal) := Ideal.ofBits_zero_f32
def F315 (I : In) : Fun4 := fun i0 i1 i2 i3 => if 127 ≤ i1 ∧ i1 - 127 < 1 then F312 I i0 (i1 - 127) i2 i3 else 0
theorem e_v315 (I : In) : val_main_v315 (F := Ideal) (A0 I) (A1 I) (A2 I) (A7 I) = (lift4 (F315 I) : S66x128x8x4.Idx → EReal) := by
  unfold val_main_v315
  rw [e_v312]
  exact op_pad_pads_S66x1x8x4_S66x128x8x4_000_12700_000_000 _ _ z_cst_38

def F316 (I : In) : Fun4 := fun i0 i1 i2 i3 => F314 I i0 i1 i2 i3 + F315 I i0 i1 i2 i3
theorem e_v316 (I : In) : val_main_v316 (F := Ideal) (A0 I) (A1 I) (A2 I) (A4 I) (A5 I) (A7 I) = (lift4 (F316 I) : S66x128x8x4.Idx → EReal) := by
  funext i
  rw [val_main_v316_apply, e_v314, e_v315]
  exact (EReal.coe_add _ _).symm

theorem z_call17_call0_cst (i : S_.Idx) : val_main_call17_call0_cst (F := Ideal) i = (0 : EReal) := Ideal.ofBits_zero_f32
theorem z_call17_call0_v0 (i : S_.Idx) : val_main_call17_call0_v0 (F := Ideal) i = (0 : EReal) := by
  rw [val_main_call17_call0_v0_apply]
  exact z_call17_call0_cst _
def F317 (I : In) : Fun4 := fun i0 i1 i2 i3 => ∑ s : Fin 128, if i1 ≤ s.val then F316 I i0 s.val i2 i3 else 0
theorem e_v317 (I : In) : val_main_v317 (F := Ideal) (A0 I) (A1 I) (A2 I) (A4 I) (A5 I) (A7 I) = (lift4 (F317 I) : S66x128x8x4.Idx → EReal) := by
  unfold val_main_v317
  rw [e_v316]
  exact suffix4 _ _ z_call17_call0_v0 _ _

def F318 (I : In) : Fun4 := fun i0 i1 i2 i3 => F17 I i0 i1 i2 i3 * F317 I i0 i1 i2 i3
theorem e_v318 (I : In) : val_main_v318 (F := Ideal) (A0 I) (A1 I) (A2 I) (A4 I) (A5 I) (A7 I) = (lift4 (F318 I) : S66x128x8x4.Idx → EReal) := by
  funext i
  rw [val_main_v318_apply, e_v17, e_v317]
  exact (EReal.coe_mul _ _).symm

theorem z_cst_39 (i : S_.Idx) : val_main_cst_39 (F := Ideal) i = (0 : EReal) := Ideal.ofBits_zero_f32
def F319 (I : In) : Fun2 := fun i0 i1 => ∑ k0 : Fin 66, ∑ k1 : Fin 128, F318 I (k0.val) (k1.val) i0 i1
theorem e_v319 (I : In) : val_main_v319 (F := Ideal) (A0 I) (A1 I) (A2 I) (A4 I) (A5 I) (A7 I) = (lift2 (F319 I) : S8x4.Idx → EReal) := by
  unfold val_main_v319
  rw [e_v318]
  exact op_red_S66x128x8x4_0_1 _ _ z_cst_39

def F320 (I : In) : Fun4 := fun i0 i1 i2 i3 => F319 I i2 i3
theorem e_v320 (I : In) : val_main_v320 (F := Ideal) (A0 I) (A1 I) (A2 I) (A4 I) (A5 I) (A7 I) = (lift4 (F320 I) : S1x1x8x4.Idx → EReal) := by
  funext i
  rw [val_main_v320_apply, e_v319]
  refine coe_of ?_
  have h0 : (i 0).val < 1 := (i 0).isLt
  have h1 : (i 1).val < 1 := (i 1).isLt
  have h2 : (i 2).val < 8 := (i 2).isLt
  have h3 : (i 3).val < 4 := (i 3).isLt
  show F319 I (((((i 0).val * 1 + (i 1).val) * 8 + (i 2).val) * 4 + (i 3).val) / 4) (((((i 0).val * 1 + (i 1).val) * 8 + (i 2).val) * 4 + (i 3).val) % 4) = F319 I ((i 2).val) ((i 3).val)
  congr 1 <;> omega

def F321 (I : In) : Fun4 := fun i0 i1 i2 i3 => F20 I 0 0 i2 i3
theorem e_v321 (I : In) : val_main_v321 (F := Ideal) (A2 I) = (lift4 (F321 I) : S66x128x8x4.Idx → EReal) := by
  funext i
  rw [val_main_v321_apply, e_v20]
  rfl

def F322 (I : In) : Fun4 := fun i0 i1 i2 i3 => F317 I i0 i1 i2 i3 * F321 I i0 i1 i2 i3
theorem e_v322 (I : In) : val_main_v322 (F := Ideal) (A0 I) (A1 I) (A2 I) (A4 I) (A5 I) (A7 I) = (lift4 (F322 I) : S66x128x8x4.Idx → EReal) := by
  funext i
  rw [val_main_v322_apply, e_v317, e_v321]
  exact (EReal.coe_mul _ _).symm

def F323 (I : In) : Fun4 := fun i0 i1 i2 i3 => F308 I i0 i1 i2 i3 + F322 I i0 i1 i2 i3
theorem e_v323 (I : In) : val_main_v323 (F := Ideal) (A0 I) (A1 I) (A2 I) (A4 I) (A5 I) (A7 I) = (lift4 (F323 I) : S66x128x8x4.Idx → EReal) := by
  funext i
  rw [val_main_v323_apply, e_v308, e_v322]
  exact (EReal.coe_add _ _).symm

theorem z_cst_40 (i : S_.Idx) : val_main_cst_40 (F := Ideal) i = (0 : EReal) := Ideal.ofBits_zero_f32
def F324 (I : In) : Fun2 := fun i0 i1 => F320 I 0 0 i0 i1
theorem e_v324 (I : In) : val_main_v324 (F := Ideal) (A0 I) (A1 I) (A2 I) (A4 I) (A5 I) (A7 I) = (lift2 (F324 I) : S8x4.Idx → EReal) := by
  unfold val_main_v324
  rw [e_v320]
  exact op_red_S1x1x8x4_0_1 _ _ z_cst_40

def F325 (I : In) : Fun3 := fun i0 i1 i2 => F324 I i1 i2
theorem e_v325 (I : In) : val_main_v325 (F := Ideal) (A0 I) (A1 I) (A2 I) (A4 I) (A5 I) (A7 I) = (lift3 (F325 I) : S1x8x4.Idx → EReal) := by
  funext i
  rw [val_main_v325_apply, e_v324]
  rfl

theorem z_cst_41 (i : S_.Idx) : val_main_cst_41 (F := Ideal) i = (0 : EReal) := Ideal.ofBits_zero_f32
def F326 (I : In) : Fun3 := fun i0 i1 i2 => if 0 ≤ i0 ∧ i0 - 0 < 1 then F325 I (i0 - 0) i1 i2 else 0
theorem e_v326 (I : In) : val_main_v326 (F := Ideal) (A0 I) (A1 I) (A2 I) (A4 I) (A5 I) (A7 I) = (lift3 (F326 I) : S2x8x4.Idx → EReal) := by
  unfold val_main_v326
  rw [e_v325]
  exact op_pad_pads_S1x8x4_S2x8x4_010_000_000 _ _ z_cst_41

def F327 (I : In) : Fun3 := fun i0 i1 i2 => F234 I i0 i1 i2 + F326 I i0 i1 i2
theorem e_v327 (I : In) : val_main_v327 (F := Ideal) (A0 I) (A1 I) (A2 I) (A4 I) (A5 I) (A6 I) (A7 I) (A8 I) = (lift3 (F327 I) : S2x8x4.Idx → EReal) := by
  funext i
  rw [val_main_v327_apply, e_v234, e_v326]
  exact (EReal.coe_add _ _).symm

def F328 (I : In) : Fun5 := fun i0 i1 i2 i3 i4 => F323 I i0 i1 i3 i4
theorem e_v328 (I : In) : val_main_v328 (F := Ideal) (A0 I) (A1 I) (A2 I) (A4 I) (A5 I) (A7 I) = (lift5 (F328 I) : S66x128x1x8x4.Idx → EReal) := by
  funext i
  rw [val_main_v328_apply, e_v323]
  rfl

theorem z_cst_42 (i : S_.Idx) : val_main_cst_42 (F := Ideal) i = (0 : EReal) := Ideal.ofBits_zero_f32
def F329 (I : In) : Fun5 := fun i0 i1 i2 i3 i4 => if 0 ≤ i2 ∧ i2 - 0 < 1 then F328 I i0 i1 (i2 - 0) i3 i4 else 0
theorem e_v329 (I : In) : val_main_v329 (F := Ideal) (A0 I) (A1 I) (A2 I) (A4 I) (A5 I) (A7 I) = (lift5 (F329 I) : S66x128x2x8x4.Idx → EReal) := by
  unfold val_main_v329
  rw [e_v328]
  exact op_pad_pads_S66x128x1x8x4_S66x128x2x8x4_000_000_010_000_000 _ _ z_cst_42

def F330 (I : In) : Fun5 := fun i0 i1 i2 i3 i4 => F237 I i0 i1 i2 i3 i4 + F329 I i0 i1 i2 i3 i4
theorem e_v330 (I : In) : val_main_v330 (F := Ideal) (A0 I) (A1 I) (A2 I) (A4 I) (A5 I) (A6 I) (A7 I) (A8 I) = (lift5 (F330 I) : S66x128x2x8x4.Idx → EReal) := by
  funext i
  rw [val_main_v330_apply, e_v237, e_v329]
  exact (EReal.coe_add _ _).symm

def F331 (I : In) : Fun3 := fun i0 i1 i2 => -(F327 I i0 i1 i2)
theorem e_v331 (I : In) : val_main_v331 (F := Ideal) (A0 I) (A1 I) (A2 I) (A4 I) (A5 I) (A6 I) (A7 I) (A8 I) = (lift3 (F331 I) : S2x8x4.Idx → EReal) := by
  funext i
  rw [val_main_v331_apply, e_v327]
  exact (EReal.coe_neg _).symm

def F332 (I : In) : Fun2 := fun i0 i1 => F331 I i0 (i1 / 4) (i1 % 4)
theorem e_v332 (I : In) : val_main_v332 (F := Ideal) (A0 I) (A1 I) (A2 I) (A4 I) (A5 I) (A6 I) (A7 I) (A8 I) = (lift2 (F332 I) : S2x32.Idx → EReal) := by
  funext i
  rw [val_main_v332_apply, e_v331]
  refine coe_of ?_
  have h0 : (i 0).val < 2 := (i 0).isLt
  have h1 : (i 1).val < 32 := (i 1).isLt
  show F331 I (((i 0).val * 32 + (i 1).val) / 32) (((i 0).val * 32 + (i 1).val) / 4 % 8) (((i 0).val * 32 + (i 1).val) % 4) = F331 I ((i 0).val) ((i 1).val / 4) ((i 1).val % 4)
  congr 1 <;> omega

def F333 (I : In) : Fun2 := fun i0 i1 => F332 I i0 i1 * F13 I i0 i1
theorem e_v333 (I : In) : val_main_v333 (F := Ideal) (A0 I) (A1 I) (A2 I) (A4 I) (A5 I) (A6 I) (A7 I) (A8 I) = (lift2 (F333 I) : S2x32.Idx → EReal) := by
  funext i
  rw [val_main_v333_apply, e_v332, e_v13]
  exact (EReal.coe_mul _ _).symm

def F334 (I : In) : Fun3 := fun i0 i1 i2 => F330 I (i0 / 128) (i0 % 128) i1 (i2 / 4) (i2 % 4)
theorem e_v334 (I : In) : val_main_v334 (F := Ideal) (A0 I) (A1 I) (A2 I) (A4 I) (A5 I) (A6 I) (A7 I) (A8 I) = (lift3 (F334 I) : S8448x2x32.Idx → EReal) := by
  funext i
  rw [val_main_v334_apply, e_v330]
  refine coe_of ?_
  have h0 : (i 0).val < 8448 := (i 0).isLt
  have h1 : (i 1).val < 2 := (i 1).isLt
  have h2 : (i 2).val < 32 := (i 2).isLt
  show F330 I ((((i 0).val * 2 + (i 1).val) * 32 + (i 2).val) / 8192) ((((i 0).val * 2 + (i 1).val) * 32 + (i 2).val) / 64 % 128) ((((i 0).val * 2 + (i 1).val) * 32 + (i 2).val) / 32 % 2) ((((i 0).val * 2 + (i 1).val) * 32 + (i 2).val) / 4 % 8) ((((i 0).val * 2 + (i 1).val) * 32 + (i 2).val) % 4) = F330 I ((i 0).val / 128) ((i 0).val % 128) ((i 1).val) ((i 2).val / 4) ((i 2).val % 4)
  congr 1 <;> omega

def F335 (I : In) : Fun2 := fun i0 i1 => F272 I (i0 / 128) (i0 % 128) (i1 / 128) (i1 % 128)
theorem e_v335 (I : In) : val_main_v335 (F := Ideal) (A0 I) (A1 I) (A2 I) (A4 I) (A5 I) (A6 I) = (lift2 (F335 I) : S8448x1024.Idx → EReal) := by
  funext i
  rw [val_main_v335_apply, e_v272]
  refine coe_of ?_
  have h0 : (i 0).val < 8448 := (i 0).isLt
  have h1 : (i 1).val < 1024 := (i 1).isLt
  show F272 I (((i 0).val * 1024 + (i 1).val) / 131072) (((i 0).val * 1024 + (i 1).val) / 1024 % 128) (((i 0).val * 1024 + (i 1).val) / 128 % 8) (((i 0).val * 1024 + (i 1).val) % 128) = F272 I ((i 0).val / 128) ((i 0).val % 128) ((i 1).val / 128) ((i 1).val % 128)
  congr 1 <;> omega

def F336 (I : In) : Fun2 := fun i0 i1 => F297 I (i0 / 128) (i0 % 128) (i1 / 128) (i1 % 128)
theorem e_v336 (I : In) : val_main_v336 (F := Ideal) (A0 I) (A1 I) (A2 I) (A4 I) (A7 I) (A8 I) = (lift2 (F336 I) : S8448x1024.Idx → EReal) := by
  funext i
  rw [val_main_v336_apply, e_v297]
  refine coe_of ?_
  have h0 : (i 0).val < 8448 := (i 0).isLt
  have h1 : (i 1).val < 1024 := (i 1).isLt
  show F297 I (((i 0).val * 1024 + (i 1).val) / 131072) (((i 0).val * 1024 + (i 1).val) / 1024 % 128) (((i 0).val * 1024 + (i 1).val) / 128 % 8) (((i 0).val * 1024 + (i 1).val) % 128) = F297 I ((i 0).val / 128) ((i 0).val % 128) ((i 1).val / 128) ((i 1).val % 128)
  congr 1 <;> omega

def F338 (I : In) : Fun4 := fun i0 i1 i2 i3 => F334 I i0 i1 (4 * i2 + i3)
theorem e_v338 (I : In) : val_main_v338 (F := Ideal) (A0 I) (A1 I) (A2 I) (A4 I) (A5 I) (A6 I) (A7 I) (A8 I) = (lift4 (F338 I) : S8448x2x8x4.Idx → EReal) := by
  funext i
  rw [val_main_v338_apply, e_v334]
  refine coe_of ?_
  have h0 : (i 0).val < 8448 := (i 0).isLt
  have h1 : (i 1).val < 2 := (i 1).isLt
  have h2 : (i 2).val < 8 := (i 2).isLt
  have h3 : (i 3).val < 4 := (i 3).isLt
  show F334 I (((((i 0).val * 2 + (i 1).val) * 8 + (i 2).val) * 4 + (i 3).val) / 64) (((((i 0).val * 2 + (i 1).val) * 8 + (i 2).val) * 4 + (i 3).val) / 32 % 2) (((((i 0).val * 2 + (i 1).val) * 8 + (i 2).val) * 4 + (i 3).val) % 32) = F334 I ((i 0).val) ((i 1).val) (4 * (i 2).val + (i 3).val)
  congr 1 <;> omega

def F339 (I : In) : Fun4 := fun i0 i1 i2 i3 => F338 I i1 i2 i0 i3
theorem e_v339 (I : In) : val_main_v339 (F := Ideal) (A0 I) (A1 I) (A2 I) (A4 I) (A5 I) (A6 I) (A7 I) (A8 I) = (lift4 (F339 I) : S8x8448x2x4.Idx → EReal) := by
  funext i
  rw [val_main_v339_apply, e_v338]
  rfl

def F340 (I : In) : Fun3 := fun i0 i1 i2 => F339 I i0 i1 (i2 / 4) (i2 % 4)
theorem e_v340 (I : In) : val_main_v340 (F := Ideal) (A0 I) (A1 I) (A2 I) (A4 I) (A5 I) (A6 I) (A7 I) (A8 I) = (lift3 (F340 I) : S8x8448x8.Idx → EReal) := by
  funext i
  rw [val_main_v340_apply, e_v339]
  refine coe_of ?_
  have h0 : (i 0).val < 8 := (i 0).isLt
  have h1 : (i 1).val < 8448 := (i 1).isLt
  have h2 : (i 2).val < 8 := (i 2).isLt
  show F339 I ((((i 0).val * 8448 + (i 1).val) * 8 + (i 2).val) / 67584) ((((i 0).val * 8448 + (i 1).val) * 8 + (i 2).val) / 8 % 8448) ((((i 0).val * 8448 + (i 1).val) * 8 + (i 2).val) / 4 % 2) ((((i 0).val * 8448 + (i 1).val) * 8 + (i 2).val) % 4) = F339 I ((i 0).val) ((i 1).val) ((i 2).val / 4) ((i 2).val % 4)
  congr 1 <;> omega

def F341 (I : In) : Fun3 := fun i0 i1 i2 => F333 I i0 (4 * i1 + i2)
theorem e_v341 (I : In) : val_main_v341 (F := Ideal) (A0 I) (A1 I) (A2 I) (A4 I) (A5 I) (A6 I) (A7 I) (A8 I) = (lift3 (F341 I) : S2x8x4.Idx → EReal) := by
  funext i
  rw [val_main_v341_apply, e_v333]
  refine coe_of ?_
  have h0 : (i 0).val < 2 := (i 0).isLt
  have h1 : (i 1).val < 8 := (i 1).isLt
  have h2 : (i 2).val < 4 := (i 2).isLt
  show F333 I ((((i 0).val * 8 + (i 1).val) * 4 + (i 2).val) / 32) ((((i 0).val * 8 + (i 1).val) * 4 + (i 2).val) % 32) = F333 I ((i 0).val) (4 * (i 1).val + (i 2).val)
  congr 1 <;> omega

def F342 (I : In) : Fun3 := fun i0 i1 i2 => F341 I i1 i0 i2
theorem e_v342 (I : In) : val_main_v342 (F := Ideal) (A0 I) (A1 I) (A2 I) (A4 I) (A5 I) (A6 I) (A7 I) (A8 I) = (lift3 (F342 I) : S8x2x4.Idx → EReal) := by
  funext i
  rw [val_main_v342_apply, e_v341]
  rfl

def F343 (I : In) : Fun2 := fun i0 i1 => F342 I i0 (i1 / 4) (i1 % 4)
theorem e_v343 (I : In) : val_main_v343 (F := Ideal) (A0 I) (A1 I) (A2 I) (A4 I) (A5 I) (A6 I) (A7 I) (A8 I) = (lift2 (F343 I) : S8x8.Idx → EReal) := by
  funext i
  rw [val_main_v343_apply, e_v342]
  refine coe_of ?_
  have h0 : (i 0).val < 8 := (i 0).isLt
  have h1 : (i 1).val < 8 := (i 1).isLt
  show F342 I (((i 0).val * 8 + (i 1).val) / 8) (((i 0).val * 8 + (i 1).val) / 4 % 2) (((i 0).val * 8 + (i 1).val) % 4) = F342 I ((i 0).val) ((i 1).val / 4) ((i 1).val % 4)
  congr 1 <;> omega

theorem z_call18_v0 (i : S_.Idx) : val_main_call18_v0 (F := Ideal) i = (0 : EReal) := by
  rw [val_main_call18_v0_apply]
  exact sitofp_zero
def F344 (I : In) : Fun3 := fun i0 i1 i2 => if 0 ≤ i2 ∧ i2 - 0 < 8 then F340 I i0 i1 (i2 - 0) else 0
theorem e_v344 (I : In) : val_main_v344 (F := Ideal) (A0 I) (A1 I) (A2 I) (A4 I) (A5 I) (A6 I) (A7 I) (A8 I) = (lift3 (F344 I) : S8x8448x128.Idx → EReal) := by
  unfold val_main_v344
  rw [e_v340]
  exact op_pad_pads_S8x8448x8_S8x8448x128_000_000_01200 _ _ z_call18_v0

theorem z_call19_v0 (i : S_.Idx) : val_main_call19_v0 (F := Ideal) i = (0 : EReal) := by
  rw [val_main_call19_v0_apply]
  exact sitofp_zero
def F345 (I : In) : Fun2 := fun i0 i1 => if 0 ≤ i1 ∧ i1 - 0 < 8 then F343 I i0 (i1 - 0) else 0
theorem e_v345 (I : In) : val_main_v345 (F := Ideal) (A0 I) (A1 I) (A2 I) (A4 I) (A5 I) (A6 I) (A7 I) (A8 I) = (lift2 (F345 I) : S8x128.Idx → EReal) := by
  unfold val_main_v345
  rw [e_v343]
  exact op_pad_pads_S8x8_S8x128_000_01200 _ _ z_call19_v0

def F346 (I : In) : Fun3 := fun i0 i1 i2 => F345 I i0 i2
theorem e_v346 (I : In) : val_main_v346 (F := Ideal) (A0 I) (A1 I) (A2 I) (A4 I) (A5 I) (A6 I) (A7 I) (A8 I) = (lift3 (F346 I) : S8x1x128.Idx → EReal) := by
  funext i
  rw [val_main_v346_apply, e_v345]
  rfl

def F347 (I : In) : Fun3 := fun i0 i1 i2 => F346 I i0 0 i2
theorem e_v347 (I : In) : val_main_v347 (F := Ideal) (A0 I) (A1 I) (A2 I) (A4 I) (A5 I) (A6 I) (A7 I) (A8 I) = (lift3 (F347 I) : S8x8x128.Idx → EReal) := by
  funext i
  rw [val_main_v347_apply, e_v346]
  rfl

end Ssd.Ref
-- ==== Proof.Spec.lean ====
module

public import proofs.«01_k».proof.Proof.Base

/-! The gradient of one chunk and one group of the scan, in one direction, as explicit sums of real numbers. Time runs
over 128 steps, upwards or downwards; a downward scan is the upward scan of the data read backwards. -/

@[expose] public section

set_option maxRecDepth 16384

noncomputable section

namespace Ssd.Spec

/-- The data of one chunk, one group and one direction: inputs `X`, output gradients `Y`, projections `Bm` and `Cm`,
step sizes `dt`, running sums of the decay exponents `la`, saved states `H` and state gradients `G`. -/
structure D where
  X : ℕ → ℕ → ℕ → ℝ
  Y : ℕ → ℕ → ℕ → ℝ
  Bm : ℕ → ℕ → ℝ
  Cm : ℕ → ℕ → ℝ
  dt : ℕ → ℕ → ℝ
  la : ℕ → ℕ → ℝ
  H : ℕ → ℕ → ℕ → ℝ
  G : ℕ → ℕ → ℕ → ℝ

/-- Step `s` comes no later than step `l`, in the direction `v`. -/
def le (v : Bool) (s l : ℕ) : Bool := cond v (decide (l ≤ s)) (decide (s ≤ l))
/-- The last step of the direction. -/
def lst (v : Bool) : ℕ := cond v 0 127

/-- The products of the projections. -/
def cb (d : D) (l s : ℕ) : ℝ := ∑ n : Fin 128, d.Bm s n.val * d.Cm l n.val
/-- The decay from step `s` to step `l`. -/
def dec (v : Bool) (d : D) (l s r : ℕ) : ℝ := if le v s l = true then Real.exp (d.la l r - d.la s r) else 0
/-- The products of output gradients and inputs. -/
def yx (d : D) (l s r : ℕ) : ℝ := ∑ p : Fin 64, d.Y l r p.val * d.X s r p.val
/-- The decay from step `t` to the end. -/
def wl (v : Bool) (d : D) (t r : ℕ) : ℝ := Real.exp (d.la (lst v) r - d.la t r)
/-- The state gradient seen through the input projection. -/
def bg (d : D) (t r p : ℕ) : ℝ := ∑ n : Fin 128, d.G n.val r p * d.Bm t n.val
/-- The product of the input with the state gradient. -/
def w (d : D) (t r : ℕ) : ℝ := ∑ p : Fin 64, d.X t r p.val * bg d t r p.val
/-- The saved state seen through the output projection. -/
def ch (d : D) (t r p : ℕ) : ℝ := ∑ n : Fin 128, d.H n.val r p * d.Cm t n.val

/-- The gradient of the input. -/
def dx (v : Bool) (d : D) (t r p : ℕ) : ℝ :=
  (∑ l : Fin 128, d.Y l.val r p * (cb d l.val t * dec v d l.val t r * d.dt t r)) + bg d t r p * (wl v d t r * d.dt t r)
/-- The gradient of the products of the projections. -/
def dsc (v : Bool) (d : D) (l s : ℕ) : ℝ := ∑ r : Fin 4, yx d l s r.val * d.dt s r.val * dec v d l s r.val
/-- The gradient of the output projection: through the saved state, and within the chunk. -/
def dC0 (d : D) (t n : ℕ) : ℝ := ∑ r : Fin 4, ∑ p : Fin 64, d.Y t r.val p.val * Real.exp (d.la t r.val) * d.H n r.val p.val
def dC1 (v : Bool) (d : D) (t n : ℕ) : ℝ := ∑ s : Fin 128, dsc v d t s.val * d.Bm s.val n
/-- The gradient of the input projection: through the state gradient, and within the chunk. -/
def dB0 (v : Bool) (d : D) (t n : ℕ) : ℝ :=
  ∑ r : Fin 4, ∑ p : Fin 64, d.G n r.val p.val * (d.X t r.val p.val * (wl v d t r.val * d.dt t r.val))
def dB1 (v : Bool) (d : D) (t n : ℕ) : ℝ := ∑ l : Fin 128, dsc v d l.val t * d.Cm l.val n
/-- The part of the gradient of the step size that does not pass through the decay. -/
def ddir (v : Bool) (d : D) (t r : ℕ) : ℝ := (∑ l : Fin 128, cb d l.val t * dec v d l.val t r * yx d l.val t r) + wl v d t r * w d t r
/-- The gradient of the logarithm of one decay. -/
def seg (v : Bool) (d : D) (l s r : ℕ) : ℝ := cb d l s * (yx d l s r * d.dt s r) * dec v d l s r
/-- The gradient of the logarithm of the decay from a step to the end. -/
def de (v : Bool) (d : D) (t r : ℕ) : ℝ := w d t r * d.dt t r * wl v d t r
/-- The product of the saved state and the state gradient. -/
def hg (d : D) (r : ℕ) : ℝ := ∑ p : Fin 64, ∑ n : Fin 128, d.H n.val r p.val * d.G n.val r p.val
/-- The gradient of the running sum of the decay exponents. -/
def dla (v : Bool) (d : D) (t r : ℕ) : ℝ :=
  (∑ p : Fin 64, ch d t r p.val * d.Y t r p.val) * Real.exp (d.la t r) + (∑ l : Fin 128, -(seg v d l.val t r)) + (∑ s : Fin 128, seg v d t s.val r)
    + (if t = lst v then hg d r * Real.exp (d.la (lst v) r) else 0) + -(de v d t r) + (if t = lst v then ∑ s : Fin 128, de v d s.val r else 0)
/-- The gradient of one decay exponent. -/
def rc (v : Bool) (d : D) (t r : ℕ) : ℝ := ∑ s : Fin 128, if le v t s.val = true then dla v d s.val r else 0

/-! ### Reading time backwards -/

/-- A sum over the steps, read backwards. -/
theorem sum_rev (f : ℕ → ℝ) : (∑ l : Fin 128, f l.val) = ∑ l : Fin 128, f (127 - l.val) := by
  rw [← Equiv.sum_comp Fin.revPerm]
  refine Finset.sum_congr rfl fun l _ => ?_
  rw [Fin.revPerm_apply, Fin.val_rev]
  congr 1
  omega

/-- The data `e` are the data `d` read backwards. -/
structure Flip (d e : D) : Prop where
  X : ∀ t < 128, ∀ r p, e.X t r p = d.X (127 - t) r p
  Y : ∀ t < 128, ∀ r p, e.Y t r p = d.Y (127 - t) r p
  Bm : ∀ t < 128, ∀ n, e.Bm t n = d.Bm (127 - t) n
  Cm : ∀ t < 128, ∀ n, e.Cm t n = d.Cm (127 - t) n
  dt : ∀ t < 128, ∀ r, e.dt t r = d.dt (127 - t) r
  la : ∀ t < 128, ∀ r, e.la t r = d.la (127 - t) r
  H : ∀ n r p, e.H n r p = d.H n r p
  G : ∀ n r p, e.G n r p = d.G n r p

variable {d e : D}

theorem le_flip (s l : ℕ) (hs : s < 128) (hl : l < 128) : le false s l = le true (127 - s) (127 - l) := by
  unfold le
  simp only [cond_false, cond_true, decide_eq_decide]
  omega

theorem cb_flip (h : Flip d e) (l s : ℕ) (hl : l < 128) (hs : s < 128) : cb e l s = cb d (127 - l) (127 - s) := by
  unfold cb
  simp only [h.Bm s hs, h.Cm l hl]

theorem dec_flip (h : Flip d e) (l s r : ℕ) (hl : l < 128) (hs : s < 128) : dec false e l s r = dec true d (127 - l) (127 - s) r := by
  unfold dec
  rw [le_flip s l hs hl, h.la l hl, h.la s hs]

theorem yx_flip (h : Flip d e) (l s r : ℕ) (hl : l < 128) (hs : s < 128) : yx e l s r = yx d (127 - l) (127 - s) r := by
  unfold yx
  simp only [h.Y l hl, h.X s hs]

theorem wl_flip (h : Flip d e) (t r : ℕ) (ht : t < 128) : wl false e t r = wl true d (127 - t) r := by
  unfold wl lst
  simp only [cond_false, cond_true]
  rw [h.la 127 (by omega), h.la t ht]

theorem bg_flip (h : Flip d e) (t r p : ℕ) (ht : t < 128) : bg e t r p = bg d (127 - t) r p := by
  unfold bg
  simp only [h.G, h.Bm t ht]

theorem w_flip (h : Flip d e) (t r : ℕ) (ht : t < 128) : w e t r = w d (127 - t) r := by
  unfold w
  simp only [h.X t ht, bg_flip h t _ _ ht]

theorem ch_flip (h : Flip d e) (t r p : ℕ) (ht : t < 128) : ch e t r p = ch d (127 - t) r p := by
  unfold ch
  simp only [h.H, h.Cm t ht]

theorem dx_flip (h : Flip d e) (t r p : ℕ) (ht : t < 128) : dx false e t r p = dx true d (127 - t) r p := by
  unfold dx
  rw [sum_rev (fun l => d.Y l r p * (cb d l (127 - t) * dec true d l (127 - t) r * d.dt (127 - t) r)), bg_flip h t r p ht, wl_flip h t r ht, h.dt t ht]
  congr 1
  refine Finset.sum_congr rfl fun l _ => ?_
  rw [h.Y _ l.isLt, cb_flip h _ _ l.isLt ht, dec_flip h _ _ _ l.isLt ht]

theorem dsc_flip (h : Flip d e) (l s : ℕ) (hl : l < 128) (hs : s < 128) : dsc false e l s = dsc true d (127 - l) (127 - s) := by
  unfold dsc
  refine Finset.sum_congr rfl fun r _ => ?_
  rw [yx_flip h _ _ _ hl hs, h.dt s hs, dec_flip h _ _ _ hl hs]

theorem dC0_flip (h : Flip d e) (t n : ℕ) (ht : t < 128) : dC0 e t n = dC0 d (127 - t) n := by
  unfold dC0
  simp only [h.Y t ht, h.la t ht, h.H]

theorem dC1_flip (h : Flip d e) (t n : ℕ) (ht : t < 128) : dC1 false e t n = dC1 true d (127 - t) n := by
  unfold dC1
  rw [sum_rev (fun s => dsc true d (127 - t) s * d.Bm s n)]
  refine Finset.sum_congr rfl fun s _ => ?_
  rw [dsc_flip h _ _ ht s.isLt, h.Bm _ s.isLt]

theorem dB0_flip (h : Flip d e) (t n : ℕ) (ht : t < 128) : dB0 false e t n = dB0 true d (127 - t) n := by
  unfold dB0
  refine Finset.sum_congr rfl fun r _ => Finset.sum_congr rfl fun p _ => ?_
  rw [h.G, h.X t ht, wl_flip h t _ ht, h.dt t ht]

theorem dB1_flip (h : Flip d e) (t n : ℕ) (ht : t < 128) : dB1 false e t n = dB1 true d (127 - t) n := by
  unfold dB1
  rw [sum_rev (fun l => dsc true d l (127 - t) * d.Cm l n)]
  refine Finset.sum_congr rfl fun s _ => ?_
  rw [dsc_flip h _ _ s.isLt ht, h.Cm _ s.isLt]

theorem ddir_flip (h : Flip d e) (t r : ℕ) (ht : t < 128) : ddir false e t r = ddir true d (127 - t) r := by
  unfold ddir
  rw [sum_rev (fun l => cb d l (127 - t) * dec true d l (127 - t) r * yx d l (127 - t) r), wl_flip h t r ht, w_flip h t r ht]
  congr 1
  refine Finset.sum_congr rfl fun l _ => ?_
  rw [cb_flip h _ _ l.isLt ht, dec_flip h _ _ _ l.isLt ht, yx_flip h _ _ _ l.isLt ht]

theorem seg_flip (h : Flip d e) (l s r : ℕ) (hl : l < 128) (hs : s < 128) : seg false e l s r = seg true d (127 - l) (127 - s) r := by
  unfold seg
  rw [cb_flip h _ _ hl hs, dec_flip h _ _ _ hl hs, yx_flip h _ _ _ hl hs, h.dt s hs]

theorem de_flip (h : Flip d e) (t r : ℕ) (ht : t < 128) : de false e t r = de true d (127 - t) r := by
  unfold de
  rw [w_flip h t r ht, h.dt t ht, wl_flip h t r ht]

theorem hg_flip (h : Flip d e) (r : ℕ) : hg e r = hg d r := by
  unfold hg
  simp only [h.H, h.G]

theorem lst_flip (t : ℕ) (ht : t < 128) : (t = lst false) = (127 - t = lst true) := by
  unfold lst
  simp only [cond_false, cond_true, eq_iff_iff]
  omega

theorem dla_flip (h : Flip d e) (t r : ℕ) (ht : t < 128) : dla false e t r = dla true d (127 - t) r := by
  unfold dla
  rw [sum_rev (fun l => -(seg true d l (127 - t) r)), sum_rev (fun s => seg true d (127 - t) s r), sum_rev (fun s => de true d s r)]
  have h1 : (∑ l : Fin 128, -(seg false e l.val t r)) = ∑ l : Fin 128, -(seg true d (127 - l.val) (127 - t) r) :=
    Finset.sum_congr rfl fun l _ => by rw [seg_flip h _ _ _ l.isLt ht]
  have h2 : (∑ s : Fin 128, seg false e t s.val r) = ∑ s : Fin 128, seg true d (127 - t) (127 - s.val) r :=
    Finset.sum_congr rfl fun l _ => by rw [seg_flip h _ _ _ ht l.isLt]
  have h3 : (∑ s : Fin 128, de false e s.val r) = ∑ s : Fin 128, de true d (127 - s.val) r :=
    Finset.sum_congr rfl fun l _ => by rw [de_flip h _ _ l.isLt]
  have h4 : e.la (lst false) r = d.la (lst true) r := h.la 127 (by omega) r
  have h5 : (∑ p : Fin 64, ch e t r p.val * e.Y t r p.val) = ∑ p : Fin 64, ch d (127 - t) r p.val * d.Y (127 - t) r p.val :=
    Finset.sum_congr rfl fun p _ => by rw [ch_flip h _ _ _ ht, h.Y t ht]
  rw [h1, h2, h3, h4, h5, h.la t ht, hg_flip h, de_flip h t r ht]
  simp only [lst_flip t ht]

theorem rc_flip (h : Flip d e) (t r : ℕ) (ht : t < 128) : rc false e t r = rc true d (127 - t) r := by
  unfold rc
  rw [sum_rev (fun s => if le true (127 - t) s = true then dla true d s r else 0)]
  refine Finset.sum_congr rfl fun s _ => ?_
  rw [le_flip t s ht s.isLt, dla_flip h _ _ s.isLt]

end Ssd.Spec
-- ==== Proof.HostOps.lean ====
module

public import proofs.«01_k».proof.Proof.Base
public import proofs.«01_k».proof.Proof.Gen.KernelIdeal.Skeleton
public import Idealize.ShloMosaic.Lib.KernelVsHost

/-! The host operations before the kernel: each theorem says that an operation maps an array of real entries to one, and names its entries. -/

@[expose] public section

set_option maxRecDepth 16384

noncomputable section

namespace Cert.KernelIdeal.Host

open Cert.KernelIdeal Cert.KernelIdeal.Gen Idealize.ShloMosaic Ssd

theorem op_sc_S2x32_S1x64 (f : ℕ → ℕ → ℝ) :
    shapeCast (s := S2x32) (α := Ideal .f32) S1x64 (lift2 f) shapeCasts_S2x32_S1x64 = (lift2 (fun i0 i1 => f (i1 / 32) (i1 % 32)) : S1x64.Idx → EReal) := by
  funext i
  have h0 : (i 0).val < 1 := (i 0).isLt
  have h1 : (i 1).val < 64 := (i 1).isLt
  refine (shapeCast_apply (s := S2x32) (α := Ideal .f32) _ shapeCasts_S2x32_S1x64 i (ix2 ⟨(i 1).val / 32, by omega⟩ ⟨(i 1).val % 32, by omega⟩) ?_).trans rfl
  rewrite [Shape.rowMajor_val_two, Shape.rowMajor_val_two]
  show (((i 1).val / 32)) * 32 + ((i 1).val % 32) = ((i 0).val) * 64 + (i 1).val
  omega

theorem op_sc_S1x64_S1x2x8x4 (f : ℕ → ℕ → ℝ) :
    shapeCast (s := S1x64) (α := Ideal .f32) S1x2x8x4 (lift2 f) shapeCasts_S1x64_S1x2x8x4 = (lift4 (fun i0 i1 i2 i3 => f (i0) (32 * i1 + 4 * i2 + i3)) : S1x2x8x4.Idx → EReal) := by
  funext i
  have h0 : (i 0).val < 1 := (i 0).isLt
  have h1 : (i 1).val < 2 := (i 1).isLt
  have h2 : (i 2).val < 8 := (i 2).isLt
  have h3 : (i 3).val < 4 := (i 3).isLt
  refine (shapeCast_apply (s := S1x64) (α := Ideal .f32) _ shapeCasts_S1x64_S1x2x8x4 i (ix2 ⟨(i 0).val, by omega⟩ ⟨32 * (i 1).val + 4 * (i 2).val + (i 3).val, by omega⟩) ?_).trans rfl
  rewrite [Shape.rowMajor_val_two, Shape.rowMajor_val_four]
  show ((i 0).val) * 64 + (32 * (i 1).val + 4 * (i 2).val + (i 3).val) = ((((i 0).val) * 2 + (i 1).val) * 8 + (i 2).val) * 4 + (i 3).val
  omega

theorem op_sc_S1x8x2x4_S1x64 (f : ℕ → ℕ → ℕ → ℕ → ℝ) :
    shapeCast (s := S1x8x2x4) (α := Ideal .f32) S1x64 (lift4 f) shapeCasts_S1x8x2x4_S1x64 = (lift2 (fun i0 i1 => f (i0) (i1 / 8) (i1 / 4 % 2) (i1 % 4)) : S1x64.Idx → EReal) := by
  funext i
  have h0 : (i 0).val < 1 := (i 0).isLt
  have h1 : (i 1).val < 64 := (i 1).isLt
  refine (shapeCast_apply (s := S1x8x2x4) (α := Ideal .f32) _ shapeCasts_S1x8x2x4_S1x64 i (ix4 ⟨(i 0).val, by omega⟩ ⟨(i 1).val / 8, by omega⟩ ⟨(i 1).val / 4 % 2, by omega⟩ ⟨(i 1).val % 4, by omega⟩) ?_).trans rfl
  rewrite [Shape.rowMajor_val_four, Shape.rowMajor_val_two]
  show ((((i 0).val) * 8 + ((i 1).val / 8)) * 2 + ((i 1).val / 4 % 2)) * 4 + ((i 1).val % 4) = ((i 0).val) * 64 + (i 1).val
  omega

theorem op_sc_S1x64_S8x8 (f : ℕ → ℕ → ℝ) :
    shapeCast (s := S1x64) (α := Ideal .f32) S8x8 (lift2 f) shapeCasts_S1x64_S8x8 = (lift2 (fun i0 i1 => f (0) (8 * i0 + i1)) : S8x8.Idx → EReal) := by
  funext i
  have h0 : (i 0).val < 8 := (i 0).isLt
  have h1 : (i 1).val < 8 := (i 1).isLt
  refine (shapeCast_apply (s := S1x64) (α := Ideal .f32) _ shapeCasts_S1x64_S8x8 i (ix2 ⟨0, by omega⟩ ⟨8 * (i 0).val + (i 1).val, by omega⟩) ?_).trans rfl
  rewrite [Shape.rowMajor_val_two, Shape.rowMajor_val_two]
  show ((0)) * 64 + (8 * (i 0).val + (i 1).val) = ((i 0).val) * 8 + (i 1).val
  omega

theorem op_sc_S8448x2x32_S66x128x2x32 (f : ℕ → ℕ → ℕ → ℝ) :
    shapeCast (s := S8448x2x32) (α := Ideal .f32) S66x128x2x32 (lift3 f) shapeCasts_S8448x2x32_S66x128x2x32 = (lift4 (fun i0 i1 i2 i3 => f (128 * i0 + i1) (i2) (i3)) : S66x128x2x32.Idx → EReal) := by
  funext i
  have h0 : (i 0).val < 66 := (i 0).isLt
  have h1 : (i 1).val < 128 := (i 1).isLt
  have h2 : (i 2).val < 2 := (i 2).isLt
  have h3 : (i 3).val < 32 := (i 3).isLt
  refine (shapeCast_apply (s := S8448x2x32) (α := Ideal .f32) _ shapeCasts_S8448x2x32_S66x128x2x32 i (ix3 ⟨128 * (i 0).val + (i 1).val, by omega⟩ ⟨(i 2).val, by omega⟩ ⟨(i 3).val, by omega⟩) ?_).trans rfl
  rewrite [Shape.rowMajor_val_three, Shape.rowMajor_val_four]
  show (((128 * (i 0).val + (i 1).val)) * 2 + (i 2).val) * 32 + (i 3).val = ((((i 0).val) * 128 + (i 1).val) * 2 + (i 2).val) * 32 + (i 3).val
  omega

theorem op_sc_S66x128x1x32_S66x128x32 (f : ℕ → ℕ → ℕ → ℕ → ℝ) :
    shapeCast (s := S66x128x1x32) (α := Ideal .f32) S66x128x32 (lift4 f) shapeCasts_S66x128x1x32_S66x128x32 = (lift3 (fun i0 i1 i2 => f (i0) (i1) (0) (i2)) : S66x128x32.Idx → EReal) := by
  funext i
  have h0 : (i 0).val < 66 := (i 0).isLt
  have h1 : (i 1).val < 128 := (i 1).isLt
  have h2 : (i 2).val < 32 := (i 2).isLt
  refine (shapeCast_apply (s := S66x128x1x32) (α := Ideal .f32) _ shapeCasts_S66x128x1x32_S66x128x32 i (ix4 ⟨(i 0).val, by omega⟩ ⟨(i 1).val, by omega⟩ ⟨0, by omega⟩ ⟨(i 2).val, by omega⟩) ?_).trans rfl
  rewrite [Shape.rowMajor_val_four, Shape.rowMajor_val_three]
  show ((((i 0).val) * 128 + (i 1).val) * 1 + (0)) * 32 + (i 2).val = (((i 0).val) * 128 + (i 1).val) * 32 + (i 2).val
  omega

theorem op_sc_S8448x2x32_S8448x64 (f : ℕ → ℕ → ℕ → ℝ) :
    shapeCast (s := S8448x2x32) (α := Ideal .f32) S8448x64 (lift3 f) shapeCasts_S8448x2x32_S8448x64 = (lift2 (fun i0 i1 => f (i0) (i1 / 32) (i1 % 32)) : S8448x64.Idx → EReal) := by
  funext i
  have h0 : (i 0).val < 8448 := (i 0).isLt
  have h1 : (i 1).val < 64 := (i 1).isLt
  refine (shapeCast_apply (s := S8448x2x32) (α := Ideal .f32) _ shapeCasts_S8448x2x32_S8448x64 i (ix3 ⟨(i 0).val, by omega⟩ ⟨(i 1).val / 32, by omega⟩ ⟨(i 1).val % 32, by omega⟩) ?_).trans rfl
  rewrite [Shape.rowMajor_val_three, Shape.rowMajor_val_two]
  show (((i 0).val) * 2 + ((i 1).val / 32)) * 32 + ((i 1).val % 32) = ((i 0).val) * 64 + (i 1).val
  omega

theorem op_sc_S8448x64_S8448x2x8x4 (f : ℕ → ℕ → ℝ) :
    shapeCast (s := S8448x64) (α := Ideal .f32) S8448x2x8x4 (lift2 f) shapeCasts_S8448x64_S8448x2x8x4 = (lift4 (fun i0 i1 i2 i3 => f (i0) (32 * i1 + 4 * i2 + i3)) : S8448x2x8x4.Idx → EReal) := by
  funext i
  have h0 : (i 0).val < 8448 := (i 0).isLt
  have h1 : (i 1).val < 2 := (i 1).isLt
  have h2 : (i 2).val < 8 := (i 2).isLt
  have h3 : (i 3).val < 4 := (i 3).isLt
  refine (shapeCast_apply (s := S8448x64) (α := Ideal .f32) _ shapeCasts_S8448x64_S8448x2x8x4 i (ix2 ⟨(i 0).val, by omega⟩ ⟨32 * (i 1).val + 4 * (i 2).val + (i 3).val, by omega⟩) ?_).trans rfl
  rewrite [Shape.rowMajor_val_two, Shape.rowMajor_val_four]
  show ((i 0).val) * 64 + (32 * (i 1).val + 4 * (i 2).val + (i 3).val) = ((((i 0).val) * 2 + (i 1).val) * 8 + (i 2).val) * 4 + (i 3).val
  omega

theorem op_sc_S8448x8x2x4_S8448x64 (f : ℕ → ℕ → ℕ → ℕ → ℝ) :
    shapeCast (s := S8448x8x2x4) (α := Ideal .f32) S8448x64 (lift4 f) shapeCasts_S8448x8x2x4_S8448x64 = (lift2 (fun i0 i1 => f (i0) (i1 / 8) (i1 / 4 % 2) (i1 % 4)) : S8448x64.Idx → EReal) := by
  funext i
  have h0 : (i 0).val < 8448 := (i 0).isLt
  have h1 : (i 1).val < 64 := (i 1).isLt
  refine (shapeCast_apply (s := S8448x8x2x4) (α := Ideal .f32) _ shapeCasts_S8448x8x2x4_S8448x64 i (ix4 ⟨(i 0).val, by omega⟩ ⟨(i 1).val / 8, by omega⟩ ⟨(i 1).val / 4 % 2, by omega⟩ ⟨(i 1).val % 4, by omega⟩) ?_).trans rfl
  rewrite [Shape.rowMajor_val_four, Shape.rowMajor_val_two]
  show ((((i 0).val) * 8 + ((i 1).val / 8)) * 2 + ((i 1).val / 4 % 2)) * 4 + ((i 1).val % 4) = ((i 0).val) * 64 + (i 1).val
  omega

theorem op_sc_S66x128x2x32_S8448x64 (f : ℕ → ℕ → ℕ → ℕ → ℝ) :
    shapeCast (s := S66x128x2x32) (α := Ideal .f32) S8448x64 (lift4 f) shapeCasts_S66x128x2x32_S8448x64 = (lift2 (fun i0 i1 => f (i0 / 128) (i0 % 128) (i1 / 32) (i1 % 32)) : S8448x64.Idx → EReal) := by
  funext i
  have h0 : (i 0).val < 8448 := (i 0).isLt
  have h1 : (i 1).val < 64 := (i 1).isLt
  refine (shapeCast_apply (s := S66x128x2x32) (α := Ideal .f32) _ shapeCasts_S66x128x2x32_S8448x64 i (ix4 ⟨(i 0).val / 128, by omega⟩ ⟨(i 0).val % 128, by omega⟩ ⟨(i 1).val / 32, by omega⟩ ⟨(i 1).val % 32, by omega⟩) ?_).trans rfl
  rewrite [Shape.rowMajor_val_four, Shape.rowMajor_val_two]
  show (((((i 0).val / 128)) * 128 + ((i 0).val % 128)) * 2 + ((i 1).val / 32)) * 32 + ((i 1).val % 32) = ((i 0).val) * 64 + (i 1).val
  omega

theorem op_sc_S8448x64_S8448x8x8 (f : ℕ → ℕ → ℝ) :
    shapeCast (s := S8448x64) (α := Ideal .f32) S8448x8x8 (lift2 f) shapeCasts_S8448x64_S8448x8x8 = (lift3 (fun i0 i1 i2 => f (i0) (8 * i1 + i2)) : S8448x8x8.Idx → EReal) := by
  funext i
  have h0 : (i 0).val < 8448 := (i 0).isLt
  have h1 : (i 1).val < 8 := (i 1).isLt
  have h2 : (i 2).val < 8 := (i 2).isLt
  refine (shapeCast_apply (s := S8448x64) (α := Ideal .f32) _ shapeCasts_S8448x64_S8448x8x8 i (ix2 ⟨(i 0).val, by omega⟩ ⟨8 * (i 1).val + (i 2).val, by omega⟩) ?_).trans rfl
  rewrite [Shape.rowMajor_val_two, Shape.rowMajor_val_three]
  show ((i 0).val) * 64 + (8 * (i 1).val + (i 2).val) = (((i 0).val) * 8 + (i 1).val) * 8 + (i 2).val
  omega

theorem op_tr_S1x2x8x4_S1x8x2x4 (f : ℕ → ℕ → ℕ → ℕ → ℝ) :
    transpose (s := S1x2x8x4) (α := Ideal .f32) S1x8x2x4 [0, 2, 1, 3] (lift4 f) transposes_S1x2x8x4_S1x8x2x4_0_2_1_3 = (lift4 (fun i0 i1 i2 i3 => f i0 i2 i1 i3) : S1x8x2x4.Idx → EReal) := by
  funext i
  idx_vars i
  obtain rfl : i0 = 0 := Subsingleton.elim _ _
  pointwise []
  simp only [lift2_ix, lift3_ix, lift4_ix]

theorem op_tr_S8448x2x8x4_S8448x8x2x4 (f : ℕ → ℕ → ℕ → ℕ → ℝ) :
    transpose (s := S8448x2x8x4) (α := Ideal .f32) S8448x8x2x4 [0, 2, 1, 3] (lift4 f) transposes_S8448x2x8x4_S8448x8x2x4_0_2_1_3 = (lift4 (fun i0 i1 i2 i3 => f i0 i2 i1 i3) : S8448x8x2x4.Idx → EReal) := by
  funext i
  idx_vars i
  pointwise []
  simp only [lift2_ix, lift3_ix, lift4_ix]

theorem op_tr_S8448x8x8_S8x8448x8 (f : ℕ → ℕ → ℕ → ℝ) :
    transpose (s := S8448x8x8) (α := Ideal .f32) S8x8448x8 [1, 0, 2] (lift3 f) transposes_S8448x8x8_S8x8448x8_1_0_2 = (lift3 (fun i0 i1 i2 => f i1 i0 i2) : S8x8448x8.Idx → EReal) := by
  funext i
  idx_vars i
  pointwise []
  simp only [lift2_ix, lift3_ix, lift4_ix]

theorem op_tr_S8448x64_S64x8448 (f : ℕ → ℕ → ℝ) :
    transpose (s := S8448x64) (α := Ideal .f32) S64x8448 [1, 0] (lift2 f) transposes_S8448x64_S64x8448_1_0 = (lift2 (fun i0 i1 => f i1 i0) : S64x8448.Idx → EReal) := by
  funext i
  idx_vars i
  pointwise []
  simp only [lift2_ix, lift3_ix, lift4_ix]

theorem op_pad_S8x8_S8x128 (f : ℕ → ℕ → ℝ) (z : S_.Idx → EReal) (hz : ∀ i, z i = 0) :
    pad (α := Ideal .f32) S8x128 ![0, 0] ![0, 120] ![0, 0] (lift2 f : S8x8.Idx → EReal) z pads_S8x8_S8x128_000_01200 h_S_ = (lift2 (fun i0 i1 => if i1 < 8 then f i0 i1 else 0) : S8x128.Idx → EReal) := by
  funext i
  have h0 : (i 0).val < 8 := (i 0).isLt
  have h1 : (i 1).val < 128 := (i 1).isLt
  show _ = ((if (i 1).val < 8 then f (i 0).val (i 1).val else 0 : ℝ) : EReal)
  by_cases h : (i 1).val < 8
  · rw [if_pos h]
    refine (pad_apply_of_inside _ _ _ _ _ _ _ i (ix2 ⟨(i 0).val, by omega⟩ ⟨(i 1).val, by omega⟩) ?_).trans rfl
    intro b
    match b with
    | ⟨0, _⟩ => show (i 0).val = 0 + (i 0).val * (0 + 1); omega
    | ⟨1, _⟩ => show (i 1).val = 0 + (i 1).val * (0 + 1); omega
  · rw [if_neg h]
    refine (pad_apply_of_not_inside _ _ _ _ _ _ _ i ⟨1, by decide⟩ ?_).trans (hz _)
    intro hh
    apply h
    have hb : 0 ≤ (i 1).val ∧ ((i 1).val - 0) % (0 + 1) = 0 ∧ ((i 1).val - 0) / (0 + 1) < 8 := hh
    omega

theorem op_pad_S8x8448x8_S8x8448x128 (f : ℕ → ℕ → ℕ → ℝ) (z : S_.Idx → EReal) (hz : ∀ i, z i = 0) :
    pad (α := Ideal .f32) S8x8448x128 ![0, 0, 0] ![0, 0, 120] ![0, 0, 0] (lift3 f : S8x8448x8.Idx → EReal) z pads_S8x8448x8_S8x8448x128_000_000_01200 h_S_ = (lift3 (fun i0 i1 i2 => if i2 < 8 then f i0 i1 i2 else 0) : S8x8448x128.Idx → EReal) := by
  funext i
  have h0 : (i 0).val < 8 := (i 0).isLt
  have h1 : (i 1).val < 8448 := (i 1).isLt
  have h2 : (i 2).val < 128 := (i 2).isLt
  show _ = ((if (i 2).val < 8 then f (i 0).val (i 1).val (i 2).val else 0 : ℝ) : EReal)
  by_cases h : (i 2).val < 8
  · rw [if_pos h]
    refine (pad_apply_of_inside _ _ _ _ _ _ _ i (ix3 ⟨(i 0).val, by omega⟩ ⟨(i 1).val, by omega⟩ ⟨(i 2).val, by omega⟩) ?_).trans rfl
    intro b
    match b with
    | ⟨0, _⟩ => show (i 0).val = 0 + (i 0).val * (0 + 1); omega
    | ⟨1, _⟩ => show (i 1).val = 0 + (i 1).val * (0 + 1); omega
    | ⟨2, _⟩ => show (i 2).val = 0 + (i 2).val * (0 + 1); omega
  · rw [if_neg h]
    refine (pad_apply_of_not_inside _ _ _ _ _ _ _ i ⟨2, by decide⟩ ?_).trans (hz _)
    intro hh
    apply h
    have hb : 0 ≤ (i 2).val ∧ ((i 2).val - 0) % (0 + 1) = 0 ∧ ((i 2).val - 0) / (0 + 1) < 8 := hh
    omega

theorem op_negexp_S1x64 (f : ℕ → ℕ → ℝ) :
    Host.negf (F := Ideal) (φ := .f32) (Host.exp (F := Ideal) (φ := .f32) (lift2 f : S1x64.Idx → EReal)) = (lift2 (fun i0 i1 => -Real.exp (f i0 i1)) : S1x64.Idx → EReal) := by
  funext i
  rfl

theorem op_negexp_S2x32 (f : ℕ → ℕ → ℝ) :
    Host.negf (F := Ideal) (φ := .f32) (Host.exp (F := Ideal) (φ := .f32) (lift2 f : S2x32.Idx → EReal)) = (lift2 (fun i0 i1 => -Real.exp (f i0 i1)) : S2x32.Idx → EReal) := by
  funext i
  rfl

theorem op_bc_S2x32_S1x2x32 (f : ℕ → ℕ → ℝ) :
    broadcastInDim (α := Ideal .f32) S1x2x32 ![1, 2] bcast_S2x32_S1x2x32_1_2 (lift2 f : S2x32.Idx → EReal) = (lift3 (fun _ i1 i2 => f i1 i2) : S1x2x32.Idx → EReal) := by
  funext i
  rfl

theorem op_bc_S1x2x32_S8448x2x32 (f : ℕ → ℕ → ℕ → ℝ) :
    broadcastInDim (α := Ideal .f32) S8448x2x32 ![0, 1, 2] bcast_S1x2x32_S8448x2x32_0_1_2 (lift3 f : S1x2x32.Idx → EReal) = (lift3 (fun _ i1 i2 => f 0 i1 i2) : S8448x2x32.Idx → EReal) := by
  funext i
  rfl

theorem op_mul_S8448x2x32 (f g : ℕ → ℕ → ℕ → ℝ) :
    mulf (F := Ideal) (φ := .f32) (lift3 f : S8448x2x32.Idx → EReal) (lift3 g) = (lift3 (fun i0 i1 i2 => f i0 i1 i2 * g i0 i1 i2) : S8448x2x32.Idx → EReal) := by
  funext i
  exact (EReal.coe_mul _ _).symm

theorem op_sl0 (f : ℕ → ℕ → ℕ → ℕ → ℝ) :
    extractStridedSlice (α := Ideal .f32) S66x128x1x32 ![0, 0, 0, 0] (lift4 f : S66x128x2x32.Idx → EReal) slices_S66x128x2x32_S66x128x1x32_0_0_0_0 = (lift4 (fun i0 i1 i2 i3 => f i0 i1 i2 i3) : S66x128x1x32.Idx → EReal) := by
  funext i
  idx_vars i
  obtain rfl : i2 = 0 := Subsingleton.elim _ _
  pointwise []
  rfl

theorem op_sl1 (f : ℕ → ℕ → ℕ → ℕ → ℝ) :
    extractStridedSlice (α := Ideal .f32) S66x128x1x32 ![0, 0, 1, 0] (lift4 f : S66x128x2x32.Idx → EReal) slices_S66x128x2x32_S66x128x1x32_0_0_1_0 = (lift4 (fun i0 i1 _ i3 => f i0 i1 1 i3) : S66x128x1x32.Idx → EReal) := by
  funext i
  idx_vars i
  obtain rfl : i2 = 0 := Subsingleton.elim _ _
  pointwise []
  rfl

theorem op_rev (f : ℕ → ℕ → ℕ → ℝ) :
    Host.reverse (s := S66x128x32) (α := Ideal .f32) [1] (lift3 f : S66x128x32.Idx → EReal) = (lift3 (fun i0 i1 i2 => f i0 (127 - i1) i2) : S66x128x32.Idx → EReal) := by
  funext i
  refine coe_of ?_
  show f (i 0).val (Fin.rev (i 1)).val (i 2).val = f (i 0).val (127 - (i 1).val) (i 2).val
  rw [Fin.val_rev]
  show f _ (128 - ((i 1).val + 1)) _ = _
  rw [show 128 - ((i 1).val + 1) = 127 - (i 1).val by omega]

theorem op_bc_S66x128x32_S66x128x1x32 (f : ℕ → ℕ → ℕ → ℝ) :
    broadcastInDim (α := Ideal .f32) S66x128x1x32 ![0, 1, 3] bcast_S66x128x32_S66x128x1x32_0_1_3 (lift3 f : S66x128x32.Idx → EReal) = (lift4 (fun i0 i1 _ i3 => f i0 i1 i3) : S66x128x1x32.Idx → EReal) := by
  funext i
  rfl

theorem op_cat (f g : ℕ → ℕ → ℕ → ℕ → ℝ) :
    concatenate S66x128x2x32 2 [⟨S66x128x1x32, (lift4 f : S66x128x1x32.Idx → EReal)⟩, ⟨S66x128x1x32, (lift4 g : S66x128x1x32.Idx → EReal)⟩] concatenates_S66x128x1x32_S66x128x1x32_S66x128x2x32_d2 = (lift4 (fun i0 i1 i2 i3 => if i2 < 1 then f i0 i1 i2 i3 else g i0 i1 (i2 - 1) i3) : S66x128x2x32.Idx → EReal) := by
  funext i
  idx_vars i
  pointwise []
  simp only [lift4_ix]
  split <;> rfl

end Cert.KernelIdeal.Host
-- ==== Proof.HostVal.lean ====
module

public import proofs.«01_k».proof.Proof.HostOps
public import proofs.«01_k».proof.Proof.RefOps
public import proofs.«01_k».proof.Proof.Gen.KernelIdeal.Value

/-! What the kernel's inputs hold: the values of the host operations before the kernel, as expressions in the arguments, and on
arguments of real entries. -/

@[expose] public section

set_option maxRecDepth 16384

noncomputable section

namespace Cert.KernelIdeal.Value

open Cert.KernelIdeal Cert.KernelIdeal.Gen Cert.KernelIdeal.Host Idealize.ShloMosaic Idealize.ShloMosaic.TcCoe Idealize.SL.Sem Ssd

variable {F : FTy → Type} [FloatOps F]
variable (m : (ℓ : Loc nD τ sig) → Buf (Elt F) ℓ)

/-- The zero that fills the padding. -/
def hz : (⟨S_, .f32⟩ : BufTy).Contents (Elt F) := sitofp .f32 (constantI S_ 32 0#32)
/-- The zero that starts a cumulative sum. -/
def hi0 : (⟨S_, .f32⟩ : BufTy).Contents (Elt F) := broadcastInDim S_ ![] bcast_S_S_ (constant S_ .f32 0x00000000#32)
/-- The decay rates of the heads, one group a row. -/
def hA (x2 : (⟨S2x32, .f32⟩ : BufTy).Contents (Elt F)) : (⟨S8x128, .f32⟩ : BufTy).Contents (Elt F) :=
  pad S8x128 ![0, 0] ![0, 120] ![0, 0] (shapeCast S8x8 (shapeCast S1x64 (transpose S1x8x2x4 [0, 2, 1, 3] (shapeCast S1x2x8x4 (Host.negf (Host.exp (shapeCast S1x64 x2 shapeCasts_S2x32_S1x64))) shapeCasts_S1x64_S1x2x8x4) transposes_S1x2x8x4_S1x8x2x4_0_2_1_3) shapeCasts_S1x8x2x4_S1x64) shapeCasts_S1x64_S8x8) hz pads_S8x8_S8x128_000_01200 h_S_
/-- The skip weights, one a column. -/
def hD (x3 : (⟨S32, .f32⟩ : BufTy).Contents (Elt F)) : (⟨S1x2048, .f32⟩ : BufTy).Contents (Elt F) :=
  shapeCast S1x2048 (shapeCast S2048 (broadcastInDim S32x64 ![0] bcast_S32_S32x64_0 x3) shapeCasts_S32x64_S2048) shapeCasts_S2048_S1x2048
/-- The logarithms of the decays, chunk by chunk. -/
def h16 (x1 : (⟨S8448x2x32, .f32⟩ : BufTy).Contents (Elt F)) (x2 : (⟨S2x32, .f32⟩ : BufTy).Contents (Elt F)) : (⟨S66x128x2x32, .f32⟩ : BufTy).Contents (Elt F) :=
  shapeCast S66x128x2x32 (mulf x1 (broadcastInDim S8448x2x32 ![0, 1, 2] bcast_S1x2x32_S8448x2x32_0_1_2 (broadcastInDim S1x2x32 ![1, 2] bcast_S2x32_S1x2x32_1_2 (Host.negf (Host.exp x2))))) shapeCasts_S8448x2x32_S66x128x2x32
/-- Their cumulative sums in the forward direction. -/
def h19 (x1 : (⟨S8448x2x32, .f32⟩ : BufTy).Contents (Elt F)) (x2 : (⟨S2x32, .f32⟩ : BufTy).Contents (Elt F)) : (⟨S66x128x32, .f32⟩ : BufTy).Contents (Elt F) :=
  Host.reduceWindowAdd ![1, 128, 1] ![1, 1, 1] ![0, 127, 0] ![0, 0, 0] (shapeCast S66x128x32 (extractStridedSlice S66x128x1x32 ![0, 0, 0, 0] (h16 x1 x2) slices_S66x128x2x32_S66x128x1x32_0_0_0_0) shapeCasts_S66x128x1x32_S66x128x32) hi0 reduceWindows_S66x128x32_S66x128x32_w1s1p0_0_w128s1p127_0_w1s1p0_0 h_S_
/-- Their cumulative sums in the backward direction. -/
def h24 (x1 : (⟨S8448x2x32, .f32⟩ : BufTy).Contents (Elt F)) (x2 : (⟨S2x32, .f32⟩ : BufTy).Contents (Elt F)) : (⟨S66x128x32, .f32⟩ : BufTy).Contents (Elt F) :=
  Host.reverse [1] (Host.reduceWindowAdd ![1, 128, 1] ![1, 1, 1] ![0, 127, 0] ![0, 0, 0] (Host.reverse [1] (shapeCast S66x128x32 (extractStridedSlice S66x128x1x32 ![0, 0, 1, 0] (h16 x1 x2) slices_S66x128x2x32_S66x128x1x32_0_0_1_0) shapeCasts_S66x128x1x32_S66x128x32)) hi0 reduceWindows_S66x128x32_S66x128x32_w1s1p0_0_w128s1p127_0_w1s1p0_0 h_S_)
/-- Both, side by side. -/
def h27 (x1 : (⟨S8448x2x32, .f32⟩ : BufTy).Contents (Elt F)) (x2 : (⟨S2x32, .f32⟩ : BufTy).Contents (Elt F)) : (⟨S66x128x2x32, .f32⟩ : BufTy).Contents (Elt F) :=
  concatenate S66x128x2x32 2 [⟨S66x128x1x32, broadcastInDim S66x128x1x32 ![0, 1, 3] bcast_S66x128x32_S66x128x1x32_0_1_3 (h19 x1 x2)⟩, ⟨S66x128x1x32, broadcastInDim S66x128x1x32 ![0, 1, 3] bcast_S66x128x32_S66x128x1x32_0_1_3 (h24 x1 x2)⟩] concatenates_S66x128x1x32_S66x128x1x32_S66x128x2x32_d2
/-- The step sizes, their columns in the kernel's order. -/
def h31 (x1 : (⟨S8448x2x32, .f32⟩ : BufTy).Contents (Elt F)) : (⟨S8448x64, .f32⟩ : BufTy).Contents (Elt F) :=
  shapeCast S8448x64 (transpose S8448x8x2x4 [0, 2, 1, 3] (shapeCast S8448x2x8x4 (shapeCast S8448x64 x1 shapeCasts_S8448x2x32_S8448x64) shapeCasts_S8448x64_S8448x2x8x4) transposes_S8448x2x8x4_S8448x8x2x4_0_2_1_3) shapeCasts_S8448x8x2x4_S8448x64
/-- The cumulative sums, their columns in the kernel's order. -/
def h35 (x1 : (⟨S8448x2x32, .f32⟩ : BufTy).Contents (Elt F)) (x2 : (⟨S2x32, .f32⟩ : BufTy).Contents (Elt F)) : (⟨S8448x64, .f32⟩ : BufTy).Contents (Elt F) :=
  shapeCast S8448x64 (transpose S8448x8x2x4 [0, 2, 1, 3] (shapeCast S8448x2x8x4 (shapeCast S8448x64 (h27 x1 x2) shapeCasts_S66x128x2x32_S8448x64) shapeCasts_S8448x64_S8448x2x8x4) transposes_S8448x2x8x4_S8448x8x2x4_0_2_1_3) shapeCasts_S8448x8x2x4_S8448x64
/-- An array of columns as padded slabs, one a group. -/
def hG (y : (⟨S8448x64, .f32⟩ : BufTy).Contents (Elt F)) : (⟨S8x8448x128, .f32⟩ : BufTy).Contents (Elt F) :=
  pad S8x8448x128 ![0, 0, 0] ![0, 0, 120] ![0, 0, 0] (transpose S8x8448x8 [1, 0, 2] (shapeCast S8448x8x8 y shapeCasts_S8448x64_S8448x8x8) transposes_S8448x8x8_S8x8448x8_1_0_2) hz pads_S8x8448x8_S8x8448x128_000_000_01200 h_S_
/-- An array of columns as rows. -/
def hT (y : (⟨S8448x64, .f32⟩ : BufTy).Contents (Elt F)) : (⟨S64x8448, .f32⟩ : BufTy).Contents (Elt F) :=
  transpose S64x8448 [1, 0] y transposes_S8448x64_S64x8448_1_0

/-- What the kernel reads is what the host's operations leave. -/
theorem V_after (c : Dev nD) (b : Ref sig .tc) : V m c b = StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) (Proc.devRef .tc b) := rfl

/-- What the kernel reads as `v7`. -/
theorem V_main_v7 (c : Dev nD) : V m c main_v7 = hA (m ((c : Thread nD τ).loc main_arg2) : (⟨S2x32, .f32⟩ : BufTy).Contents (Elt F)) := by
  unfold hA hz
  rw [V_after]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  rfl

/-- What the kernel reads as `v10`. -/
theorem V_main_v10 (c : Dev nD) : V m c main_v10 = hD (m ((c : Thread nD τ).loc main_arg3) : (⟨S32, .f32⟩ : BufTy).Contents (Elt F)) := by
  unfold hD
  rw [V_after]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  rfl

/-- What the kernel reads as `v38`. -/
theorem V_main_v38 (c : Dev nD) : V m c main_v38 = hG (h31 (m ((c : Thread nD τ).loc main_arg1) : (⟨S8448x2x32, .f32⟩ : BufTy).Contents (Elt F))) := by
  unfold hG h31 hz
  rw [V_after]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  rfl

/-- What the kernel reads as `v41`. -/
theorem V_main_v41 (c : Dev nD) : V m c main_v41 = hG (h35 (m ((c : Thread nD τ).loc main_arg1) : (⟨S8448x2x32, .f32⟩ : BufTy).Contents (Elt F)) (m ((c : Thread nD τ).loc main_arg2) : (⟨S2x32, .f32⟩ : BufTy).Contents (Elt F))) := by
  unfold hG h35 h27 h24 h19 h16 hz hi0
  rw [V_after]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  rfl

/-- What the kernel reads as `v43`. -/
theorem V_main_v43 (c : Dev nD) : V m c main_v43 = hT (h35 (m ((c : Thread nD τ).loc main_arg1) : (⟨S8448x2x32, .f32⟩ : BufTy).Contents (Elt F)) (m ((c : Thread nD τ).loc main_arg2) : (⟨S2x32, .f32⟩ : BufTy).Contents (Elt F))) := by
  unfold hT h35 h27 h24 h19 h16 hi0
  rw [V_after]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  rfl

/-! ### On arguments of real entries -/

theorem hz_apply (i : S_.Idx) : hz (F := Ideal) i = 0 := by
  show (((0#32 : BitVec 32).toInt : ℝ) : EReal) = 0
  simp

theorem hi0_apply (i : S_.Idx) : hi0 (F := Ideal) i = 0 := Ideal.ofBits_zero_f32

/-- The decay rate of a head. -/
def ra (I : Ssd.Ref.In) (d h : ℕ) : ℝ := -Real.exp (I.AL d h)
/-- The logarithm of the decay over a chunk up to a position, in either direction. -/
def rla (I : Ssd.Ref.In) (c d t h : ℕ) : ℝ :=
  if d < 1 then ∑ s : Fin 128, if s.val ≤ t then I.DT (128 * c + s.val) d h * ra I d h else 0
  else ∑ s : Fin 128, if s.val ≤ 127 - t then I.DT (128 * c + (127 - s.val)) d h * ra I d h else 0

theorem hA_eq (I : Ssd.Ref.In) : hA (F := Ideal) (lift2 I.AL : S2x32.Idx → EReal)
    = (lift2 (fun g j => if j < 8 then ra I (j / 4) (4 * g + j % 4) else 0) : S8x128.Idx → EReal) := by
  unfold hA
  rw [op_sc_S2x32_S1x64, op_negexp_S1x64, op_sc_S1x64_S1x2x8x4, op_tr_S1x2x8x4_S1x8x2x4, op_sc_S1x8x2x4_S1x64, op_sc_S1x64_S8x8,
    op_pad_S8x8_S8x128 _ _ hz_apply]
  funext i
  have h0 : (i 0).val < 8 := (i 0).isLt
  refine coe_of ?_
  dsimp only
  split
  · unfold ra
    congr 3 <;> omega
  · rfl

theorem h16_eq (I : Ssd.Ref.In) : h16 (F := Ideal) (lift3 I.DT : S8448x2x32.Idx → EReal) (lift2 I.AL : S2x32.Idx → EReal)
    = (lift4 (fun c t d h => I.DT (128 * c + t) d h * ra I d h) : S66x128x2x32.Idx → EReal) := by
  unfold h16
  rw [op_negexp_S2x32, op_bc_S2x32_S1x2x32, op_bc_S1x2x32_S8448x2x32, op_mul_S8448x2x32, op_sc_S8448x2x32_S66x128x2x32]
  rfl

theorem h19_eq (I : Ssd.Ref.In) : h19 (F := Ideal) (lift3 I.DT : S8448x2x32.Idx → EReal) (lift2 I.AL : S2x32.Idx → EReal)
    = (lift3 (fun c t h => ∑ s : Fin 128, if s.val ≤ t then I.DT (128 * c + s.val) 0 h * ra I 0 h else 0) : S66x128x32.Idx → EReal) := by
  unfold h19
  rw [h16_eq, op_sl0, op_sc_S66x128x1x32_S66x128x32]
  exact prefix3 _ _ hi0_apply _ _

theorem h24_eq (I : Ssd.Ref.In) : h24 (F := Ideal) (lift3 I.DT : S8448x2x32.Idx → EReal) (lift2 I.AL : S2x32.Idx → EReal)
    = (lift3 (fun c t h => ∑ s : Fin 128, if s.val ≤ 127 - t then I.DT (128 * c + (127 - s.val)) 1 h * ra I 1 h else 0) : S66x128x32.Idx → EReal) := by
  unfold h24
  rw [h16_eq, op_sl1, op_sc_S66x128x1x32_S66x128x32, op_rev]
  refine (congrArg _ (prefix3 _ _ hi0_apply _ _)).trans ?_
  rw [op_rev]

theorem h27_eq (I : Ssd.Ref.In) : h27 (F := Ideal) (lift3 I.DT : S8448x2x32.Idx → EReal) (lift2 I.AL : S2x32.Idx → EReal)
    = (lift4 (fun c t d h => rla I c d t h) : S66x128x2x32.Idx → EReal) := by
  unfold h27
  rw [h19_eq, h24_eq, op_bc_S66x128x32_S66x128x1x32, op_bc_S66x128x32_S66x128x1x32, op_cat]
  funext i
  have h2 : (i 2).val < 2 := (i 2).isLt
  refine coe_of ?_
  dsimp only
  unfold rla
  by_cases h : (i 2).val < 1
  · have h0 : (i 2).val = 0 := by omega
    rw [h0]
    rfl
  · have h1 : (i 2).val = 1 := by omega
    rw [h1]
    rfl

theorem h31_eq (I : Ssd.Ref.In) : h31 (F := Ideal) (lift3 I.DT : S8448x2x32.Idx → EReal)
    = (lift2 (fun T j => I.DT T (j / 4 % 2) (4 * (j / 8) + j % 4)) : S8448x64.Idx → EReal) := by
  unfold h31
  rw [op_sc_S8448x2x32_S8448x64, op_sc_S8448x64_S8448x2x8x4, op_tr_S8448x2x8x4_S8448x8x2x4, op_sc_S8448x8x2x4_S8448x64]
  funext i
  have h1 : (i 1).val < 64 := (i 1).isLt
  refine coe_of ?_
  dsimp only
  congr 1 <;> omega

theorem h35_eq (I : Ssd.Ref.In) : h35 (F := Ideal) (lift3 I.DT : S8448x2x32.Idx → EReal) (lift2 I.AL : S2x32.Idx → EReal)
    = (lift2 (fun T j => rla I (T / 128) (j / 4 % 2) (T % 128) (4 * (j / 8) + j % 4)) : S8448x64.Idx → EReal) := by
  unfold h35
  rw [h27_eq, op_sc_S66x128x2x32_S8448x64, op_sc_S8448x64_S8448x2x8x4, op_tr_S8448x2x8x4_S8448x8x2x4, op_sc_S8448x8x2x4_S8448x64]
  funext i
  have h1 : (i 1).val < 64 := (i 1).isLt
  refine coe_of ?_
  dsimp only
  congr 1 <;> omega

theorem hG_eq (f : ℕ → ℕ → ℝ) : hG (F := Ideal) (lift2 f : S8448x64.Idx → EReal)
    = (lift3 (fun g T j => if j < 8 then f T (8 * g + j) else 0) : S8x8448x128.Idx → EReal) := by
  unfold hG
  rw [op_sc_S8448x64_S8448x8x8, op_tr_S8448x8x8_S8x8448x8, op_pad_S8x8448x8_S8x8448x128 _ _ hz_apply]

theorem hT_eq (f : ℕ → ℕ → ℝ) : hT (F := Ideal) (lift2 f : S8448x64.Idx → EReal)
    = (lift2 (fun j T => f T j) : S64x8448.Idx → EReal) := by
  unfold hT
  rw [op_tr_S8448x64_S64x8448]

theorem hD_apply (x3 : S32.Idx → EReal) (i : S1x2048.Idx) (h : (i 1).val / 64 < 32) :
    hD (F := Ideal) x3 i = x3 (ix1 ⟨(i 1).val / 64, h⟩) := by
  have h0 : (i 0).val < 1 := (i 0).isLt
  have h1 : (i 1).val < 2048 := (i 1).isLt
  unfold hD
  refine (shapeCast_apply (s := S2048) (α := Ideal .f32) _ shapeCasts_S2048_S1x2048 i (ix1 ⟨(i 1).val, by omega⟩) ?_).trans ?_
  · rewrite [Shape.rowMajor_val_one, Shape.rowMajor_val_two]
    show (i 1).val = (i 0).val * 2048 + (i 1).val
    omega
  refine (shapeCast_apply (s := S32x64) (α := Ideal .f32) _ shapeCasts_S32x64_S2048 _ (ix2 ⟨(i 1).val / 64, by omega⟩ ⟨(i 1).val % 64, by omega⟩) ?_).trans ?_
  · rewrite [Shape.rowMajor_val_one, Shape.rowMajor_val_two]
    show (i 1).val / 64 * 64 + (i 1).val % 64 = (i 1).val
    omega
  · pointwise []

end Cert.KernelIdeal.Value
-- ==== Proof.RefSpec.lean ====
module

public import proofs.«01_k».proof.Proof.RefVal3
public import proofs.«01_k».proof.Proof.Spec
public import proofs.«01_k».proof.Proof.HostVal

/-! The values of the reference are the explicit sums of one direction: the forward direction in its own time, the
backward direction in the time in which the reference runs it, which is the kernel's time read backwards. -/

@[expose] public section

set_option maxRecDepth 16384

noncomputable section

namespace Ssd.Ref

open Ssd.Spec

theorem dec_false (d : D) (l s r : ℕ) : dec false d l s r = if s ≤ l then Real.exp (d.la l r - d.la s r) else 0 := by
  unfold dec le
  simp only [cond_false, decide_eq_true_eq]

theorem rc_false (d : D) (t r : ℕ) : rc false d t r = ∑ s : Fin 128, if t ≤ s.val then dla false d s.val r else 0 := by
  unfold rc le
  simp only [cond_false, decide_eq_true_eq]

theorem sum_one (f : ℕ → ℝ) : (∑ k : Fin 1, f k.val) = f 0 := by
  rw [Fin.sum_univ_one]
  rfl

/-- The data of the forward direction. -/
def fR0 (I : In) (c g : ℕ) : D where
  X t r p := F9 I c t g r p
  Y t r p := F145 I c t g r p
  Bm t n := F10 I c t g n
  Cm t n := F11 I c t g n
  dt t r := F17 I c t g r
  la t r := F23 I c t g r
  H n r p := F5 I c g r p n
  G n r p := F141 I c g r p n

/-- The data of the backward direction, in the time in which it runs. -/
def fR1 (I : In) (c g : ℕ) : D where
  X t r p := F71 I c t g r p
  Y t r p := F148 I c t g r p
  Bm t n := F77 I c t g n
  Cm t n := F78 I c t g n
  dt t r := F74 I c t g r
  la t r := F82 I c t g r
  H n r p := F8 I c g r p n
  G n r p := F144 I c g r p n

theorem r0_dec (I : In) (c l s g r : ℕ) : F53 I c l s g r = dec false (fR0 I c g) l s r := by
  rw [dec_false]
  rfl

theorem r0_dx (I : In) (c t g r p : ℕ) : F255 I c t g r p + F304 I c t g r p = dx false (fR0 I c g) t r p := by
  unfold dx
  simp only [← r0_dec]
  rfl

theorem r0_dsc (I : In) (c l s g : ℕ) : F269 I c g s l = dsc false (fR0 I c g) l s := by
  refine (sum_one fun k => F267 I c l s g k).trans ?_
  unfold dsc
  simp only [← r0_dec]
  rfl

theorem r0_dC0 (I : In) (c t g n : ℕ) : F249 I c t g n = dC0 (fR0 I c g) t n := rfl

theorem r0_dC1 (I : In) (c t g n : ℕ) : F271 I c t g n = dC1 false (fR0 I c g) t n := by
  unfold dC1
  simp only [← r0_dsc]
  rfl

theorem r0_dB0 (I : In) (c t g n : ℕ) : F296 I c t g n = dB0 false (fR0 I c g) t n := rfl

theorem r0_dB1 (I : In) (c t g n : ℕ) : F274 I c t g n = dB1 false (fR0 I c g) t n := by
  unfold dB1
  simp only [← r0_dsc]
  rfl

theorem r0_w (I : In) (c t g r : ℕ) : F306 I c t g r = w (fR0 I c g) t r := sum_one fun k => F302 I c t g r k

theorem r0_ddir (I : In) (c t g r : ℕ) : F308 I c t g r = ddir false (fR0 I c g) t r := by
  unfold ddir
  rw [← r0_w]
  simp only [← r0_dec]
  refine congrArg (· + F307 I c t g r) ?_
  exact sum_one fun k => F259 I c k t g r

theorem r0_seg (I : In) (c l s g r : ℕ) : F277 I c l s g r = seg false (fR0 I c g) l s r := by
  unfold seg
  by_cases h : s ≤ l
  · rw [← r0_dec]
    exact if_pos h
  · rw [dec_false, if_neg h, mul_zero]
    exact if_neg h

theorem r0_de (I : In) (c t g r : ℕ) : F310 I c t g r = de false (fR0 I c g) t r := by
  unfold de
  rw [← r0_w]
  rfl

theorem r0_last (t : ℕ) (ht : t < 128) : (127 ≤ t ∧ t - 127 < 1) ↔ t = lst false := by
  show _ ↔ t = 127
  omega

theorem r0_dla (I : In) (c t g r : ℕ) (ht : t < 128) : F316 I c t g r = dla false (fR0 I c g) t r := by
  have h1 : F283 I c t g r = ∑ l : Fin 128, -(seg false (fR0 I c g) l.val t r) := by
    refine (sum_one fun k => F282 I c k t g r).trans ?_
    simp only [← r0_seg]
    rfl
  have h2 : F285 I c t g r = ∑ s : Fin 128, seg false (fR0 I c g) t s.val r := by
    refine (sum_one fun k => F279 I c t k g r).trans ?_
    simp only [← r0_seg]
    rfl
  have h3 : F245 I c t g r = ∑ p : Fin 64, ch (fR0 I c g) t r p.val * (fR0 I c g).Y t r p.val := sum_one fun k => F242 I c t g r k
  have h4 : F293 I c t g r = if t = lst false then hg (fR0 I c g) r * Real.exp ((fR0 I c g).la (lst false) r) else 0 :=
    if_congr (r0_last t ht) rfl rfl
  have h5 : F315 I c t g r = if t = lst false then ∑ s : Fin 128, de false (fR0 I c g) s.val r else 0 := by
    simp only [← r0_de]
    exact if_congr (r0_last t ht) rfl rfl
  unfold dla
  rw [← h1, ← h2, ← h3, ← h4, ← h5, ← r0_de]
  rfl

theorem r0_rc (I : In) (c t g r : ℕ) : F317 I c t g r = rc false (fR0 I c g) t r := by
  rw [rc_false]
  unfold F317
  refine Finset.sum_congr rfl fun s _ => ?_
  rw [r0_dla I c s.val g r s.isLt]

theorem r1_dec (I : In) (c l s g r : ℕ) : F112 I c l s g r = dec false (fR1 I c g) l s r := by
  rw [dec_false]
  rfl

theorem r1_dx (I : In) (c t g r p : ℕ) : F163 I c t g r p + F210 I c t g r p = dx false (fR1 I c g) t r p := by
  unfold dx
  simp only [← r1_dec]
  rfl

theorem r1_dsc (I : In) (c l s g : ℕ) : F176 I c g s l = dsc false (fR1 I c g) l s := by
  refine (sum_one fun k => F174 I c l s g k).trans ?_
  unfold dsc
  simp only [← r1_dec]
  rfl

theorem r1_dC0 (I : In) (c t g n : ℕ) : F158 I c t g n = dC0 (fR1 I c g) t n := rfl

theorem r1_dC1 (I : In) (c t g n : ℕ) : F178 I c t g n = dC1 false (fR1 I c g) t n := by
  unfold dC1
  simp only [← r1_dsc]
  rfl

theorem r1_dB0 (I : In) (c t g n : ℕ) : F202 I c t g n = dB0 false (fR1 I c g) t n := rfl

theorem r1_dB1 (I : In) (c t g n : ℕ) : F181 I c t g n = dB1 false (fR1 I c g) t n := by
  unfold dB1
  simp only [← r1_dsc]
  rfl

theorem r1_w (I : In) (c t g r : ℕ) : F212 I c t g r = w (fR1 I c g) t r := sum_one fun k => F208 I c t g r k

theorem r1_ddir (I : In) (c t g r : ℕ) : F214 I c t g r = ddir false (fR1 I c g) t r := by
  unfold ddir
  rw [← r1_w]
  simp only [← r1_dec]
  refine congrArg (· + F213 I c t g r) ?_
  exact sum_one fun k => F166 I c k t g r

theorem r1_seg (I : In) (c l s g r : ℕ) : F183 I c l s g r = seg false (fR1 I c g) l s r := by
  unfold seg
  by_cases h : s ≤ l
  · rw [← r1_dec]
    exact if_pos h
  · rw [dec_false, if_neg h, mul_zero]
    exact if_neg h

theorem r1_de (I : In) (c t g r : ℕ) : F216 I c t g r = de false (fR1 I c g) t r := by
  unfold de
  rw [← r1_w]
  rfl

theorem r1_last (t : ℕ) (ht : t < 128) : (127 ≤ t ∧ t - 127 < 1) ↔ t = lst false := by
  show _ ↔ t = 127
  omega

theorem r1_dla (I : In) (c t g r : ℕ) (ht : t < 128) : F222 I c t g r = dla false (fR1 I c g) t r := by
  have h1 : F189 I c t g r = ∑ l : Fin 128, -(seg false (fR1 I c g) l.val t r) := by
    refine (sum_one fun k => F188 I c k t g r).trans ?_
    simp only [← r1_seg]
    rfl
  have h2 : F191 I c t g r = ∑ s : Fin 128, seg false (fR1 I c g) t s.val r := by
    refine (sum_one fun k => F185 I c t k g r).trans ?_
    simp only [← r1_seg]
    rfl
  have h3 : F154 I c t g r = ∑ p : Fin 64, ch (fR1 I c g) t r p.val * (fR1 I c g).Y t r p.val := sum_one fun k => F151 I c t g r k
  have h4 : F199 I c t g r = if t = lst false then hg (fR1 I c g) r * Real.exp ((fR1 I c g).la (lst false) r) else 0 :=
    if_congr (r1_last t ht) rfl rfl
  have h5 : F221 I c t g r = if t = lst false then ∑ s : Fin 128, de false (fR1 I c g) s.val r else 0 := by
    simp only [← r1_de]
    exact if_congr (r1_last t ht) rfl rfl
  unfold dla
  rw [← h1, ← h2, ← h3, ← h4, ← h5, ← r1_de]
  rfl

theorem r1_rc (I : In) (c t g r : ℕ) : F223 I c t g r = rc false (fR1 I c g) t r := by
  rw [rc_false]
  unfold F223
  refine Finset.sum_congr rfl fun s _ => ?_
  rw [r1_dla I c s.val g r s.isLt]

open Cert.KernelIdeal.Value in
/-- The data of one direction in the kernel's time. -/
def dir (I : In) (k g d : ℕ) : D where
  X t r p := I.X (128 * k + t) (256 * g + 64 * r + p)
  Y t r p := I.DY (128 * k + t) (256 * g + 64 * r + p)
  Bm t n := I.X (128 * k + t) (2048 + (128 * g + n))
  Cm t n := I.X (128 * k + t) (3072 + (128 * g + n))
  dt t r := I.DT (128 * k + t) d (4 * g + r)
  la t r := rla I k d t (4 * g + r)
  H n r p := if d < 1 then I.HF k n (256 * g + 64 * r + p) else I.HB k n (256 * g + 64 * r + p)
  G n r p := if d < 1 then I.GF k n (256 * g + 64 * r + p) else I.GB k n (256 * g + 64 * r + p)

theorem fR0_eq (I : In) (k g : ℕ) : fR0 I k g = dir I k g 0 := rfl

theorem fR1_flip (I : In) (k g : ℕ) : Flip (dir I k g 1) (fR1 I k g) where
  X _ _ _ _ := rfl
  Y _ _ _ _ := rfl
  Bm _ _ _ := rfl
  Cm _ _ _ := rfl
  dt _ _ _ := rfl
  la t ht r := by
    show (∑ s : Fin 128, if s.val ≤ t then F81 I k s.val g r else 0) = ∑ s : Fin 128, if s.val ≤ 127 - (127 - t) then I.DT (128 * k + (127 - s.val)) 1 (4 * g + r) * Cert.KernelIdeal.Value.ra I 1 (4 * g + r) else 0
    rw [show 127 - (127 - t) = t by omega]
    rfl
  H _ _ _ := rfl
  G _ _ _ := rfl

end Ssd.Ref
-- ==== Proof.RefTop.lean ====
module

public import proofs.«01_k».proof.Proof.RefSpec

/-! The results of the reference, entry by entry, in the sums of the two directions in the kernel's time. -/

@[expose] public section

set_option maxRecDepth 16384

noncomputable section

namespace Ssd.Ref

open Ssd.Spec Cert.KernelIdeal.Value

/-- The direction number one runs downwards. -/
def vd (d : ℕ) : Bool := decide (d = 1)

theorem flip2 (t : ℕ) (ht : t < 128) : 127 - (127 - t) = t := by omega

/-- The gradient of the output projection. -/
theorem top_dC (I : In) (k t g n : ℕ) (ht : t < 128) (hn : n < 128) : F335 I (128 * k + t) (128 * g + n)
    = (dC0 (dir I k g 1) t n + dC1 true (dir I k g 1) t n) + dC0 (dir I k g 0) t n + dC1 false (dir I k g 0) t n := by
  have e1 : (128 * k + t) / 128 = k := by omega
  have e2 : (128 * k + t) % 128 = t := by omega
  have e3 : (128 * g + n) / 128 = g := by omega
  have e4 : (128 * g + n) % 128 = n := by omega
  show F272 I ((128 * k + t) / 128) ((128 * k + t) % 128) ((128 * g + n) / 128) ((128 * g + n) % 128) = _
  rw [e1, e2, e3, e4]
  show ((F158 I k (127 - t) g n + F178 I k (127 - t) g n) + F249 I k t g n) + F271 I k t g n = _
  have hf := fR1_flip I k g
  rw [r1_dC0, r1_dC1, r0_dC0, r0_dC1, fR0_eq, dC0_flip hf _ _ (by omega), dC1_flip hf _ _ (by omega), flip2 t ht]

/-- The gradient of the input projection. -/
theorem top_dB (I : In) (k t g n : ℕ) (ht : t < 128) (hn : n < 128) : F336 I (128 * k + t) (128 * g + n)
    = (dB1 true (dir I k g 1) t n + dB0 true (dir I k g 1) t n) + dB1 false (dir I k g 0) t n + dB0 false (dir I k g 0) t n := by
  have e1 : (128 * k + t) / 128 = k := by omega
  have e2 : (128 * k + t) % 128 = t := by omega
  have e3 : (128 * g + n) / 128 = g := by omega
  have e4 : (128 * g + n) % 128 = n := by omega
  show F297 I ((128 * k + t) / 128) ((128 * k + t) % 128) ((128 * g + n) / 128) ((128 * g + n) % 128) = _
  rw [e1, e2, e3, e4]
  show ((F181 I k (127 - t) g n + F202 I k (127 - t) g n) + F274 I k t g n) + F296 I k t g n = _
  have hf := fR1_flip I k g
  rw [r1_dB0, r1_dB1, r0_dB0, r0_dB1, fR0_eq, dB0_flip hf _ _ (by omega), dB1_flip hf _ _ (by omega), flip2 t ht]

/-- The gradient of the input, forward direction. -/
theorem top_dx0 (I : In) (k t g r p : ℕ) : F255 I k t g r p + F304 I k t g r p = dx false (dir I k g 0) t r p := by
  rw [r0_dx, fR0_eq]

/-- The gradient of the input, backward direction. -/
theorem top_dx1 (I : In) (k t g r p : ℕ) (ht : t < 128) : F238 I k t g r p = dx true (dir I k g 1) t r p := by
  show F163 I k (127 - t) g r p + F210 I k (127 - t) g r p = _
  rw [r1_dx, dx_flip (fR1_flip I k g) _ _ _ (by omega), flip2 t ht]

/-- The gradient of the step sizes. -/
theorem top_ddt (I : In) (g k t j : ℕ) (ht : t < 128) : F344 I g (128 * k + t) j
    = if j < 8 then ddir (vd (j / 4)) (dir I k g (j / 4)) t (j % 4)
        + rc (vd (j / 4)) (dir I k g (j / 4)) t (j % 4) * ra I (j / 4) (4 * g + j % 4) else 0 := by
  show (if 0 ≤ j ∧ j - 0 < 8 then F330 I ((128 * k + t) / 128) ((128 * k + t) % 128) ((j - 0) / 4)
    ((4 * g + (j - 0) % 4) / 4) ((4 * g + (j - 0) % 4) % 4) else 0) = _
  have e1 : (128 * k + t) / 128 = k := by omega
  have e2 : (128 * k + t) % 128 = t := by omega
  have e3 : (4 * g + j % 4) / 4 = g := by omega
  have e4 : (4 * g + j % 4) % 4 = j % 4 := by omega
  rw [Nat.sub_zero, e1, e2, e3, e4]
  by_cases hj : j < 8
  · rw [if_pos (by omega), if_pos hj]
    have hd : j / 4 = 0 ∨ j / 4 = 1 := by omega
    rcases hd with hd | hd <;> rw [hd]
    · show (if 1 ≤ 0 ∧ 0 - 1 < 1 then _ else 0) + (if 0 ≤ 0 ∧ 0 - 0 < 1 then F308 I k t g (j % 4) + F317 I k t g (j % 4) * ra I 0 (4 * g + j % 4) else 0) = _
      rw [if_neg (by omega), if_pos (by omega), zero_add, r0_ddir, r0_rc, fR0_eq]
      rfl
    · show (if 1 ≤ 1 ∧ 1 - 1 < 1 then F214 I k (127 - t) g (j % 4) + F223 I k (127 - t) g (j % 4) * ra I 1 (4 * g + j % 4) else 0)
        + (if 0 ≤ 1 ∧ 1 - 0 < 1 then _ else 0) = _
      have hf := fR1_flip I k g
      rw [if_pos (by omega), if_neg (by omega), add_zero, r1_ddir, r1_rc, ddir_flip hf _ _ (by omega), rc_flip hf _ _ (by omega), flip2 t ht]
      rfl
  · rw [if_neg (by omega), if_neg hj]

/-- The gradient of the decay rates, in one of the eight equal rows. -/
theorem top_ga (I : In) (g i j : ℕ) : F347 I g i j
    = if j < 8 then ra I (j / 4) (4 * g + j % 4) * ∑ c : Fin 66, ∑ t : Fin 128,
        (dir I c.val g (j / 4)).dt t.val (j % 4) * rc (vd (j / 4)) (dir I c.val g (j / 4)) t.val (j % 4) else 0 := by
  show (if 0 ≤ j ∧ j - 0 < 8 then -(F327 I ((j - 0) / 4) ((4 * g + (j - 0) % 4) / 4) ((4 * g + (j - 0) % 4) % 4))
    * Real.exp (I.AL ((j - 0) / 4) (4 * g + (j - 0) % 4)) else 0) = _
  have e3 : (4 * g + j % 4) / 4 = g := by omega
  have e4 : (4 * g + j % 4) % 4 = j % 4 := by omega
  rw [Nat.sub_zero, e3, e4]
  by_cases hj : j < 8
  · rw [if_pos (by omega), if_pos hj]
    have hd : j / 4 = 0 ∨ j / 4 = 1 := by omega
    rcases hd with hd | hd <;> rw [hd]
    · have h1 : F327 I 0 g (j % 4) = ∑ c : Fin 66, ∑ t : Fin 128, (dir I c.val g 0).dt t.val (j % 4) * rc (vd 0) (dir I c.val g 0) t.val (j % 4) := by
        show (if 1 ≤ 0 ∧ 0 - 1 < 1 then _ else 0) + (if 0 ≤ 0 ∧ 0 - 0 < 1 then F319 I g (j % 4) else 0) = _
        rw [if_neg (by omega), if_pos (by omega), zero_add]
        refine Finset.sum_congr rfl fun c _ => Finset.sum_congr rfl fun t _ => ?_
        show F17 I c.val t.val g (j % 4) * F317 I c.val t.val g (j % 4) = _
        rw [r0_rc, fR0_eq]
        rfl
      rw [h1]
      unfold ra
      ring
    · have h1 : F327 I 1 g (j % 4) = ∑ c : Fin 66, ∑ t : Fin 128, (dir I c.val g 1).dt t.val (j % 4) * rc (vd 1) (dir I c.val g 1) t.val (j % 4) := by
        show (if 1 ≤ 1 ∧ 1 - 1 < 1 then F225 I g (j % 4) else 0) + (if 0 ≤ 1 ∧ 1 - 0 < 1 then _ else 0) = _
        rw [if_pos (by omega), if_neg (by omega), add_zero]
        refine Finset.sum_congr rfl fun c _ => ?_
        rw [sum_rev (fun t => (dir I c.val g 1).dt t (j % 4) * rc (vd 1) (dir I c.val g 1) t (j % 4))]
        refine Finset.sum_congr rfl fun t _ => ?_
        show F74 I c.val t.val g (j % 4) * F223 I c.val t.val g (j % 4) = _
        rw [r1_rc, rc_flip (fR1_flip I c.val g) _ _ t.isLt]
        rfl
      rw [h1]
      unfold ra
      ring
  · rw [if_neg (by omega), if_neg hj]

end Ssd.Ref
-- ==== Proof.BlockVal.lean ====
module

public import proofs.«01_k».proof.Proof.HostVal
public import proofs.«01_k».proof.Proof.Point

/-! The blocks of the inputs at a grid point, on arguments of real entries: the point `66 g + c` reads the blocks of group `g` and chunk `c`. -/

@[expose] public section

set_option maxRecDepth 16384

noncomputable section

namespace Cert.KernelIdeal.Value

open Cert.KernelIdeal Cert.KernelIdeal.Gen Cert.KernelIdeal.Host Idealize.ShloMosaic Idealize.ShloMosaic.TcCoe Idealize.SL.Sem Ssd

variable (m : (ℓ : Loc nD τ sig) → Buf (Elt Ideal) ℓ)

/-- The arguments of a device, but the skip weights, hold the real numbers `I`. -/
structure Args (c : Dev nD) (I : Ssd.Ref.In) : Prop where
  h0 : (m ((c : Thread nD τ).loc main_arg0) : S8448x4096.Idx → EReal) = lift2 I.X
  h1 : (m ((c : Thread nD τ).loc main_arg1) : S8448x2x32.Idx → EReal) = lift3 I.DT
  h2 : (m ((c : Thread nD τ).loc main_arg2) : S2x32.Idx → EReal) = lift2 I.AL
  h4 : (m ((c : Thread nD τ).loc main_arg4) : S8448x2048.Idx → EReal) = lift2 I.DY
  h5 : (m ((c : Thread nD τ).loc main_arg5) : S66x128x2048.Idx → EReal) = lift3 I.HF
  h6 : (m ((c : Thread nD τ).loc main_arg6) : S66x128x2048.Idx → EReal) = lift3 I.HB
  h7 : (m ((c : Thread nD τ).loc main_arg7) : S66x128x2048.Idx → EReal) = lift3 I.GF
  h8 : (m ((c : Thread nD τ).loc main_arg8) : S66x128x2048.Idx → EReal) = lift3 I.GB

/-- The blocks of group `g` and chunk `k`. -/
def blk (I : Ssd.Ref.In) (g k : ℕ) : Blk where
  x0 t p := I.X (128 * k + t) (256 * g + p)
  x1 t n := I.X (128 * k + t) (2048 + 128 * g + n)
  x2 t n := I.X (128 * k + t) (3072 + 128 * g + n)
  x3 t p := I.DY (128 * k + t) (256 * g + p)
  x5 _ t j := if j < 8 then I.DT (128 * k + t) (j / 4) (4 * g + j % 4) else 0
  x6 _ t j := if j < 8 then rla I k (j / 4) t (4 * g + j % 4) else 0
  x8 j t := rla I k (j / 4) t (4 * g + j % 4)
  x9 _ n p := I.HF k n (256 * g + p)
  x10 _ n p := I.HB k n (256 * g + p)
  x11 _ n p := I.GF k n (256 * g + p)
  x12 _ n p := I.GB k n (256 * g + p)

theorem coords0 (t : Fin cfg0.N) : (grid0.coords t 0).val = t.val / 66 := by
  revert t
  exact (by decide +kernel : ∀ t : Fin grid0.N, (grid0.coords t 0).val = t.val / 66)

theorem index0 : ∀ t : Fin cfg0.N, win0_0.index t (0 : Fin 2) = t.val % 66 ∧ win0_0.index t (1 : Fin 2) = t.val / 66 :=
  (by decide +kernel : ∀ t : Fin grid0.N, _)
theorem index1 : ∀ t : Fin cfg0.N, win0_1.index t (0 : Fin 2) = t.val % 66 ∧ win0_1.index t (1 : Fin 2) = 16 + t.val / 66 :=
  (by decide +kernel : ∀ t : Fin grid0.N, _)
theorem index2 : ∀ t : Fin cfg0.N, win0_2.index t (0 : Fin 2) = t.val % 66 ∧ win0_2.index t (1 : Fin 2) = 24 + t.val / 66 :=
  (by decide +kernel : ∀ t : Fin grid0.N, _)
theorem index3 : ∀ t : Fin cfg0.N, win0_3.index t (0 : Fin 2) = t.val % 66 ∧ win0_3.index t (1 : Fin 2) = t.val / 66 :=
  (by decide +kernel : ∀ t : Fin grid0.N, _)
theorem index4 : ∀ t : Fin cfg0.N, win0_4.index t (0 : Fin 2) = 0 ∧ win0_4.index t (1 : Fin 2) = t.val / 66 :=
  (by decide +kernel : ∀ t : Fin grid0.N, _)
theorem index5 : ∀ t : Fin cfg0.N, win0_5.index t (0 : Fin 3) = t.val / 66 ∧ win0_5.index t (1 : Fin 3) = t.val % 66 ∧ win0_5.index t (2 : Fin 3) = 0 :=
  (by decide +kernel : ∀ t : Fin grid0.N, _)
theorem index6 : ∀ t : Fin cfg0.N, win0_6.index t (0 : Fin 3) = t.val / 66 ∧ win0_6.index t (1 : Fin 3) = t.val % 66 ∧ win0_6.index t (2 : Fin 3) = 0 :=
  (by decide +kernel : ∀ t : Fin grid0.N, _)
theorem index8 : ∀ t : Fin cfg0.N, win0_8.index t (0 : Fin 2) = t.val / 66 ∧ win0_8.index t (1 : Fin 2) = t.val % 66 :=
  (by decide +kernel : ∀ t : Fin grid0.N, _)
theorem index9 : ∀ t : Fin cfg0.N, win0_9.index t (0 : Fin 3) = t.val % 66 ∧ win0_9.index t (1 : Fin 3) = 0 ∧ win0_9.index t (2 : Fin 3) = t.val / 66 :=
  (by decide +kernel : ∀ t : Fin grid0.N, _)
theorem index10 : ∀ t : Fin cfg0.N, win0_10.index t (0 : Fin 3) = t.val % 66 ∧ win0_10.index t (1 : Fin 3) = 0 ∧ win0_10.index t (2 : Fin 3) = t.val / 66 :=
  (by decide +kernel : ∀ t : Fin grid0.N, _)
theorem index11 : ∀ t : Fin cfg0.N, win0_11.index t (0 : Fin 3) = t.val % 66 ∧ win0_11.index t (1 : Fin 3) = 0 ∧ win0_11.index t (2 : Fin 3) = t.val / 66 :=
  (by decide +kernel : ∀ t : Fin grid0.N, _)
theorem index12 : ∀ t : Fin cfg0.N, win0_12.index t (0 : Fin 3) = t.val % 66 ∧ win0_12.index t (1 : Fin 3) = 0 ∧ win0_12.index t (2 : Fin 3) = t.val / 66 :=
  (by decide +kernel : ∀ t : Fin grid0.N, _)
theorem index13 : ∀ t : Fin cfg0.N, win0_13.index t (0 : Fin 2) = 0 ∧ win0_13.index t (1 : Fin 2) = 0 :=
  (by decide +kernel : ∀ t : Fin grid0.N, _)
theorem index14 : ∀ t : Fin cfg0.N, win0_14.index t (0 : Fin 2) = t.val % 66 ∧ win0_14.index t (1 : Fin 2) = t.val / 66 :=
  (by decide +kernel : ∀ t : Fin grid0.N, _)
theorem index15 : ∀ t : Fin cfg0.N, win0_15.index t (0 : Fin 2) = t.val % 66 ∧ win0_15.index t (1 : Fin 2) = t.val / 66 :=
  (by decide +kernel : ∀ t : Fin grid0.N, _)
theorem index16 : ∀ t : Fin cfg0.N, win0_16.index t (0 : Fin 2) = t.val % 66 ∧ win0_16.index t (1 : Fin 2) = t.val / 66 :=
  (by decide +kernel : ∀ t : Fin grid0.N, _)
theorem index17 : ∀ t : Fin cfg0.N, win0_17.index t (0 : Fin 3) = t.val / 66 ∧ win0_17.index t (1 : Fin 3) = t.val % 66 ∧ win0_17.index t (2 : Fin 3) = 0 :=
  (by decide +kernel : ∀ t : Fin grid0.N, _)
theorem index18 : ∀ t : Fin cfg0.N, win0_18.index t (0 : Fin 3) = t.val / 66 ∧ win0_18.index t (1 : Fin 3) = 0 ∧ win0_18.index t (2 : Fin 3) = 0 :=
  (by decide +kernel : ∀ t : Fin grid0.N, _)

/-- Through a position map that starts at `a0`, `a1`, an array of two axes holding `f` shows `g`, if the two agree there. -/
theorem read2 {M N R C : ℕ} {x : (⟨2, ![M, N]⟩ : Shape).Idx → EReal} {f g : Fun2} (hx : x = lift2 f)
    (e : (⟨2, ![R, C]⟩ : Shape).Idx → (⟨2, ![M, N]⟩ : Shape).Idx) {a0 a1 : ℕ}
    (h0 : ∀ i, (e i 0).val = a0 + 1 * (i 0).val) (h1 : ∀ i, (e i 1).val = a1 + 1 * (i 1).val)
    (h : ∀ k l, f (a0 + 1 * k) (a1 + 1 * l) = g k l) : (fun i => x (e i)) = lift2 g := by
  funext i
  rw [hx]
  refine coe_of ?_
  rw [h0, h1, h]

/-- Through a position map that starts at `a0`, `a1`, `a2`, an array of three axes holding `f` shows `g`, if the two agree there. -/
theorem read3 {M N L R C D : ℕ} {x : (⟨3, ![M, N, L]⟩ : Shape).Idx → EReal} {f g : Fun3} (hx : x = lift3 f)
    (e : (⟨3, ![R, C, D]⟩ : Shape).Idx → (⟨3, ![M, N, L]⟩ : Shape).Idx) {a0 a1 a2 : ℕ}
    (h0 : ∀ i, (e i 0).val = a0 + 1 * (i 0).val) (h1 : ∀ i, (e i 1).val = a1 + 1 * (i 1).val)
    (h2 : ∀ i, (e i 2).val = a2 + 1 * (i 2).val)
    (h : ∀ j k l, j < R → f (a0 + 1 * j) (a1 + 1 * k) (a2 + 1 * l) = g j k l) : (fun i => x (e i)) = lift3 g := by
  funext i
  rw [hx]
  refine coe_of ?_
  rw [h0, h1, h2, h _ _ _ (i 0).isLt]

theorem iblk0 (c : Dev nD) (I : Ssd.Ref.In) (hA : Args m c I) (t : Fin cfg0.N) :
    (iblk m c 0 t : S128x256.Idx → EReal) = lift2 (blk I (t.val / 66) (t.val % 66)).x0 :=
  read2 ((V_main_arg0 m c).trans hA.h0) ((cfg0.win 0).blk t).view.emb (fun _ => rfl) (fun _ => rfl) fun k l => by
    show I.X (win0_0.index t (0 : Fin 2) * 128 + 1 * k) (win0_0.index t (1 : Fin 2) * 256 + 1 * l) = I.X _ _
    rw [(index0 t).1, (index0 t).2]
    congr 1 <;> omega

theorem iblk1 (c : Dev nD) (I : Ssd.Ref.In) (hA : Args m c I) (t : Fin cfg0.N) :
    (iblk m c 1 t : S128x128.Idx → EReal) = lift2 (blk I (t.val / 66) (t.val % 66)).x1 :=
  read2 ((V_main_arg0 m c).trans hA.h0) ((cfg0.win 1).blk t).view.emb (fun _ => rfl) (fun _ => rfl) fun k l => by
    show I.X (win0_1.index t (0 : Fin 2) * 128 + 1 * k) (win0_1.index t (1 : Fin 2) * 128 + 1 * l) = I.X _ _
    rw [(index1 t).1, (index1 t).2]
    congr 1 <;> omega

theorem iblk2 (c : Dev nD) (I : Ssd.Ref.In) (hA : Args m c I) (t : Fin cfg0.N) :
    (iblk m c 2 t : S128x128.Idx → EReal) = lift2 (blk I (t.val / 66) (t.val % 66)).x2 :=
  read2 ((V_main_arg0 m c).trans hA.h0) ((cfg0.win 2).blk t).view.emb (fun _ => rfl) (fun _ => rfl) fun k l => by
    show I.X (win0_2.index t (0 : Fin 2) * 128 + 1 * k) (win0_2.index t (1 : Fin 2) * 128 + 1 * l) = I.X _ _
    rw [(index2 t).1, (index2 t).2]
    congr 1 <;> omega

theorem iblk3 (c : Dev nD) (I : Ssd.Ref.In) (hA : Args m c I) (t : Fin cfg0.N) :
    (iblk m c 3 t : S128x256.Idx → EReal) = lift2 (blk I (t.val / 66) (t.val % 66)).x3 :=
  read2 ((V_main_arg4 m c).trans hA.h4) ((cfg0.win 3).blk t).view.emb (fun _ => rfl) (fun _ => rfl) fun k l => by
    show I.DY (win0_3.index t (0 : Fin 2) * 128 + 1 * k) (win0_3.index t (1 : Fin 2) * 256 + 1 * l) = I.DY _ _
    rw [(index3 t).1, (index3 t).2]
    congr 1 <;> omega

theorem iblk4 (c : Dev nD) (t : Fin cfg0.N) (i : S1x256.Idx) (h : 4 * (t.val / 66) + (i 1).val / 64 < 32) :
    (iblk m c 4 t : S1x256.Idx → EReal) i = (m ((c : Thread nD τ).loc main_arg3) : S32.Idx → EReal) (ix1 ⟨4 * (t.val / 66) + (i 1).val / 64, h⟩) := by
  obtain ⟨e0, e1⟩ := index4 t
  have b0 : (i 0).val < 1 := (i 0).isLt
  have b1 : (i 1).val < 256 := (i 1).isLt
  have ht : t.val < 528 := t.isLt
  show V m c main_v10 (((cfg0.win 4).blk t).view.emb i) = _
  have hx : (((cfg0.win 4).blk t).view.emb i 1).val = 256 * (t.val / 66) + (i 1).val := by
    show win0_4.index t (1 : Fin 2) * 256 + 1 * (i 1).val = _
    omega
  rw [V_main_v10]
  refine (hD_apply _ _ (by rw [hx]; omega)).trans ?_
  congr 2
  apply Fin.ext
  show (((cfg0.win 4).blk t).view.emb i 1).val / 64 = 4 * (t.val / 66) + (i 1).val / 64
  rw [hx]
  omega

theorem iblk5 (c : Dev nD) (I : Ssd.Ref.In) (hA : Args m c I) (t : Fin cfg0.N) :
    (iblk m c 5 t : S1x128x128.Idx → EReal) = lift3 (blk I (t.val / 66) (t.val % 66)).x5 := by
  funext i
  obtain ⟨e0, e1, e2⟩ := index5 t
  have b0 : (i 0).val < 1 := (i 0).isLt
  have b1 : (i 1).val < 128 := (i 1).isLt
  have b2 : (i 2).val < 128 := (i 2).isLt
  have ht : t.val < 528 := t.isLt
  show V m c main_v38 (((cfg0.win 5).blk t).view.emb i) = _
  rw [V_main_v38, hA.h1, h31_eq, hG_eq]
  refine coe_of ?_
  show (if win0_5.index t (2 : Fin 3) * 128 + 1 * (i 2).val < 8 then _ else 0) = (if (i 2).val < 8 then _ else 0)
  have hx0 : (((cfg0.win 5).blk t).view.emb i 0).val = t.val / 66 := by
    show win0_5.index t (0 : Fin 3) * 1 + 1 * (i 0).val = _
    omega
  have hx1 : (((cfg0.win 5).blk t).view.emb i 1).val = 128 * (t.val % 66) + (i 1).val := by
    show win0_5.index t (1 : Fin 3) * 128 + 1 * (i 1).val = _
    omega
  have hx2 : (((cfg0.win 5).blk t).view.emb i 2).val = (i 2).val := by
    show win0_5.index t (2 : Fin 3) * 128 + 1 * (i 2).val = _
    omega
  rw [e2]
  by_cases h : (i 2).val < 8
  · rw [if_pos h, if_pos (by omega), hx0, hx1, hx2]
    congr 1 <;> omega
  · rw [if_neg h, if_neg (by omega)]

theorem iblk6 (c : Dev nD) (I : Ssd.Ref.In) (hA : Args m c I) (t : Fin cfg0.N) :
    (iblk m c 6 t : S1x128x128.Idx → EReal) = lift3 (blk I (t.val / 66) (t.val % 66)).x6 := by
  funext i
  obtain ⟨e0, e1, e2⟩ := index6 t
  have b0 : (i 0).val < 1 := (i 0).isLt
  have b1 : (i 1).val < 128 := (i 1).isLt
  have b2 : (i 2).val < 128 := (i 2).isLt
  have ht : t.val < 528 := t.isLt
  show V m c main_v41 (((cfg0.win 6).blk t).view.emb i) = _
  rw [V_main_v41, hA.h1, hA.h2, h35_eq, hG_eq]
  refine coe_of ?_
  show (if win0_6.index t (2 : Fin 3) * 128 + 1 * (i 2).val < 8 then _ else 0) = (if (i 2).val < 8 then _ else 0)
  have hx0 : (((cfg0.win 6).blk t).view.emb i 0).val = t.val / 66 := by
    show win0_6.index t (0 : Fin 3) * 1 + 1 * (i 0).val = _
    omega
  have hx1 : (((cfg0.win 6).blk t).view.emb i 1).val = 128 * (t.val % 66) + (i 1).val := by
    show win0_6.index t (1 : Fin 3) * 128 + 1 * (i 1).val = _
    omega
  have hx2 : (((cfg0.win 6).blk t).view.emb i 2).val = (i 2).val := by
    show win0_6.index t (2 : Fin 3) * 128 + 1 * (i 2).val = _
    omega
  rw [e2]
  by_cases h : (i 2).val < 8
  · rw [if_pos h, if_pos (by omega), hx0, hx1, hx2]
    congr 1 <;> omega
  · rw [if_neg h, if_neg (by omega)]

theorem iblk8 (c : Dev nD) (I : Ssd.Ref.In) (hA : Args m c I) (t : Fin cfg0.N) :
    (iblk m c 8 t : S8x128.Idx → EReal) = lift2 (blk I (t.val / 66) (t.val % 66)).x8 := by
  funext i
  obtain ⟨e0, e1⟩ := index8 t
  have b0 : (i 0).val < 8 := (i 0).isLt
  have b1 : (i 1).val < 128 := (i 1).isLt
  have ht : t.val < 528 := t.isLt
  show V m c main_v43 (((cfg0.win 8).blk t).view.emb i) = _
  rw [V_main_v43, hA.h1, hA.h2, h35_eq, hT_eq]
  refine coe_of ?_
  have hx0 : (((cfg0.win 8).blk t).view.emb i 0).val = 8 * (t.val / 66) + (i 0).val := by
    show win0_8.index t (0 : Fin 2) * 8 + 1 * (i 0).val = _
    omega
  have hx1 : (((cfg0.win 8).blk t).view.emb i 1).val = 128 * (t.val % 66) + (i 1).val := by
    show win0_8.index t (1 : Fin 2) * 128 + 1 * (i 1).val = _
    omega
  show rla I ((((cfg0.win 8).blk t).view.emb i 1).val / 128) _ _ _ = rla I _ _ _ _
  rw [hx0, hx1]
  congr 1 <;> omega

theorem iblk9 (c : Dev nD) (I : Ssd.Ref.In) (hA : Args m c I) (t : Fin cfg0.N) :
    (iblk m c 9 t : S1x128x256.Idx → EReal) = lift3 (blk I (t.val / 66) (t.val % 66)).x9 :=
  read3 ((V_main_arg5 m c).trans hA.h5) ((cfg0.win 9).blk t).view.emb (fun _ => rfl) (fun _ => rfl) (fun _ => rfl) fun j k l hj => by
    show I.HF (win0_9.index t (0 : Fin 3) * 1 + 1 * j) (win0_9.index t (1 : Fin 3) * 128 + 1 * k) (win0_9.index t (2 : Fin 3) * 256 + 1 * l) = I.HF _ _ _
    rw [(index9 t).1, (index9 t).2.1, (index9 t).2.2]
    congr 1 <;> omega

theorem iblk10 (c : Dev nD) (I : Ssd.Ref.In) (hA : Args m c I) (t : Fin cfg0.N) :
    (iblk m c 10 t : S1x128x256.Idx → EReal) = lift3 (blk I (t.val / 66) (t.val % 66)).x10 :=
  read3 ((V_main_arg6 m c).trans hA.h6) ((cfg0.win 10).blk t).view.emb (fun _ => rfl) (fun _ => rfl) (fun _ => rfl) fun j k l hj => by
    show I.HB (win0_10.index t (0 : Fin 3) * 1 + 1 * j) (win0_10.index t (1 : Fin 3) * 128 + 1 * k) (win0_10.index t (2 : Fin 3) * 256 + 1 * l) = I.HB _ _ _
    rw [(index10 t).1, (index10 t).2.1, (index10 t).2.2]
    congr 1 <;> omega

theorem iblk11 (c : Dev nD) (I : Ssd.Ref.In) (hA : Args m c I) (t : Fin cfg0.N) :
    (iblk m c 11 t : S1x128x256.Idx → EReal) = lift3 (blk I (t.val / 66) (t.val % 66)).x11 :=
  read3 ((V_main_arg7 m c).trans hA.h7) ((cfg0.win 11).blk t).view.emb (fun _ => rfl) (fun _ => rfl) (fun _ => rfl) fun j k l hj => by
    show I.GF (win0_11.index t (0 : Fin 3) * 1 + 1 * j) (win0_11.index t (1 : Fin 3) * 128 + 1 * k) (win0_11.index t (2 : Fin 3) * 256 + 1 * l) = I.GF _ _ _
    rw [(index11 t).1, (index11 t).2.1, (index11 t).2.2]
    congr 1 <;> omega

theorem iblk12 (c : Dev nD) (I : Ssd.Ref.In) (hA : Args m c I) (t : Fin cfg0.N) :
    (iblk m c 12 t : S1x128x256.Idx → EReal) = lift3 (blk I (t.val / 66) (t.val % 66)).x12 :=
  read3 ((V_main_arg8 m c).trans hA.h8) ((cfg0.win 12).blk t).view.emb (fun _ => rfl) (fun _ => rfl) (fun _ => rfl) fun j k l hj => by
    show I.GB (win0_12.index t (0 : Fin 3) * 1 + 1 * j) (win0_12.index t (1 : Fin 3) * 128 + 1 * k) (win0_12.index t (2 : Fin 3) * 256 + 1 * l) = I.GB _ _ _
    rw [(index12 t).1, (index12 t).2.1, (index12 t).2.2]
    congr 1 <;> omega

theorem iblk13 (c : Dev nD) (I : Ssd.Ref.In) (hA : Args m c I) (t : Fin cfg0.N) :
    (iblk m c 13 t : S8x128.Idx → EReal) = lift2 (fun g j => if j < 8 then ra I (j / 4) (4 * g + j % 4) else 0) := by
  funext i
  obtain ⟨e0, e1⟩ := index13 t
  show V m c main_v7 (((cfg0.win 13).blk t).view.emb i) = _
  rw [V_main_v7, hA.h2, hA_eq]
  refine coe_of ?_
  have hx0 : (((cfg0.win 13).blk t).view.emb i 0).val = (i 0).val := by
    show win0_13.index t (0 : Fin 2) * 8 + 1 * (i 0).val = _
    omega
  have hx1 : (((cfg0.win 13).blk t).view.emb i 1).val = (i 1).val := by
    show win0_13.index t (1 : Fin 2) * 128 + 1 * (i 1).val = _
    omega
  dsimp only
  rw [hx0, hx1]

end Cert.KernelIdeal.Value
-- ==== Proof.KerSpec.lean ====
module

public import proofs.«01_k».proof.Proof.RefTop
public import proofs.«01_k».proof.Proof.BlockVal

/-! The pieces from which the kernel's body is made, on the blocks of one group and one chunk, as the explicit sums of the two directions. -/

@[expose] public section

set_option maxRecDepth 16384

noncomputable section

namespace Cert.KernelIdeal.Gen

open Ssd Ssd.Spec Ssd.Ref Cert.KernelIdeal.Value

/-! ### Patterns of the body -/

/-- Products with stacked halves split in two. -/
theorem rmm_cat (a b c d : ℕ → ℕ → ℝ) (o i j : ℕ) : rmm 256 (rcat1 a b) (rslice 0 o (rcat0 c d)) i j
    = (∑ l : Fin 128, a i l.val * c l.val (o + j)) + ∑ n : Fin 128, b i n.val * d n.val (o + j) := by
  unfold rmm
  have h := Fin.sum_univ_add (a := 128) (b := 128) (fun q : Fin (128 + 128) => rcat1 a b i q.val * rslice 0 o (rcat0 c d) q.val j)
  refine h.trans (congrArg₂ (· + ·) (Finset.sum_congr rfl fun l _ => ?_) (Finset.sum_congr rfl fun l _ => ?_))
  · have h : l.val < 128 := l.isLt
    simp only [Fin.val_castAdd, rcat1, rcat0, rslice, Nat.zero_add, if_pos h]
  · have h : ¬ 128 + l.val < 128 := by omega
    simp only [Fin.val_natAdd, rcat1, rcat0, rslice, Nat.zero_add, if_neg h, Nat.add_sub_cancel_left]

/-- The product with the indicator that gives each column its head. -/
theorem k_exp (f : ℕ → ℕ → ℝ) (a t p : ℕ) (h : a + p / 64 < 128) :
    rmm 128 f (rsel (fun i j => decide (i = a + j / 64)) (rcst 1) (rcst 0)) t p = f t (a + p / 64) := by
  unfold rmm
  simp only [rsel, rcst, decide_eq_true_eq]
  exact sum_mul_one_hot (fun k => f t k) _ h

theorem sum_if_head (g : Fin 64 → ℝ) (q : Prop) [Decidable q] : (∑ p : Fin 64, g p * (if q then 1 else 0)) = if q then ∑ p : Fin 64, g p else 0 := by
  by_cases h : q
  · simp only [if_pos h, mul_one]
  · simp only [if_neg h, mul_zero, Finset.sum_const_zero]

/-- The product with the indicator that adds up the columns of each head. -/
theorem k_sum (f : ℕ → ℕ → ℝ) (a t j : ℕ) :
    rmm 256 f (rsel (fun i j => decide (j = a + i / 64)) (rcst 1) (rcst 0)) t j
      = if a ≤ j ∧ j < a + 4 then ∑ p : Fin 64, f t (64 * (j - a) + p.val) else 0 := by
  unfold rmm
  simp only [rsel, rcst, decide_eq_true_eq]
  rw [show (256 : ℕ) = 4 * 64 from rfl, sum_heads 4 (fun k => f t k * (if j = a + k / 64 then 1 else 0))]
  have h (r : Fin 4) (p : Fin 64) : (64 * r.val + p.val) / 64 = r.val := by omega
  simp only [h, sum_if_head]
  by_cases hj : a ≤ j ∧ j < a + 4
  · rw [if_pos hj, Finset.sum_eq_single (⟨j - a, by omega⟩ : Fin 4)]
    · rw [if_pos (by show j = a + (j - a); omega)]
    · intro r _ hr
      rw [if_neg]
      intro he
      exact hr (Fin.ext (by show r.val = j - a; omega))
    · intro hn
      exact absurd (Finset.mem_univ _) hn
  · rw [if_neg hj]
    refine Finset.sum_eq_zero fun r _ => ?_
    rw [if_neg]
    omega

/-- The masked product of inputs and output gradients of one head. -/
theorem k_xy (x y : ℕ → ℕ → ℝ) (o a s l : ℕ) (ha : a < 2) :
    rmmT 128 (rsel (fun _ j => decide (j / 64 = a)) (rslice 0 o x) (rcst 0)) (rslice 0 o y) s l
      = ∑ p : Fin 64, y l (o + (64 * a + p.val)) * x s (o + (64 * a + p.val)) := by
  unfold rmmT
  simp only [rsel, rcst, decide_eq_true_eq, rslice, Nat.zero_add]
  rw [show (128 : ℕ) = 2 * 64 from rfl, sum_heads 2 (fun k => (if k / 64 = a then x s (o + k) else 0) * y l (o + k))]
  have h (r : Fin 2) (p : Fin 64) : (64 * r.val + p.val) / 64 = r.val := by omega
  simp only [h]
  rw [Finset.sum_eq_single (⟨a, ha⟩ : Fin 2)]
  · refine Finset.sum_congr rfl fun p _ => ?_
    rw [if_pos rfl, mul_comm]
  · intro r _ hr
    refine Finset.sum_eq_zero fun p _ => ?_
    rw [if_neg (fun he => hr (Fin.ext he)), zero_mul]
  · intro hn
    exact absurd (Finset.mem_univ _) hn

variable (I : In) (g k : ℕ)

/-! ### The blocks by heads -/

theorem b_x (d t r p : ℕ) : (blk I g k).x0 t (64 * r + p) = (dir I k g d).X t r p := by
  show I.X _ (256 * g + (64 * r + p)) = I.X _ (256 * g + 64 * r + p)
  rw [Nat.add_assoc]
theorem b_y (d t r p : ℕ) : (blk I g k).x3 t (64 * r + p) = (dir I k g d).Y t r p := by
  show I.DY _ (256 * g + (64 * r + p)) = I.DY _ (256 * g + 64 * r + p)
  rw [Nat.add_assoc]
theorem b_h0 (n r p : ℕ) : (blk I g k).x9 0 n (64 * r + p) = (dir I k g 0).H n r p := by
  show I.HF _ _ (256 * g + (64 * r + p)) = I.HF _ _ (256 * g + 64 * r + p)
  rw [Nat.add_assoc]
theorem b_h1 (n r p : ℕ) : (blk I g k).x10 0 n (64 * r + p) = (dir I k g 1).H n r p := by
  show I.HB _ _ (256 * g + (64 * r + p)) = I.HB _ _ (256 * g + 64 * r + p)
  rw [Nat.add_assoc]
theorem b_g0 (n r p : ℕ) : (blk I g k).x11 0 n (64 * r + p) = (dir I k g 0).G n r p := by
  show I.GF _ _ (256 * g + (64 * r + p)) = I.GF _ _ (256 * g + 64 * r + p)
  rw [Nat.add_assoc]
theorem b_g1 (n r p : ℕ) : (blk I g k).x12 0 n (64 * r + p) = (dir I k g 1).G n r p := by
  show I.GB _ _ (256 * g + (64 * r + p)) = I.GB _ _ (256 * g + 64 * r + p)
  rw [Nat.add_assoc]
theorem b_b (d t n : ℕ) : (blk I g k).x1 t n = (dir I k g d).Bm t n := by
  show I.X _ (2048 + 128 * g + n) = I.X _ (2048 + (128 * g + n))
  rw [Nat.add_assoc]
theorem b_c (d t n : ℕ) : (blk I g k).x2 t n = (dir I k g d).Cm t n := by
  show I.X _ (3072 + 128 * g + n) = I.X _ (3072 + (128 * g + n))
  rw [Nat.add_assoc]

theorem k_q7 (t j : ℕ) : q7 (blk I g k) t j = if j < 8 then (dir I k g (j / 4)).la t (j % 4) else 0 := rfl
theorem k_q8 (t j : ℕ) : q8 (blk I g k) t j = if j < 8 then (dir I k g (j / 4)).dt t (j % 4) else 0 := rfl
theorem k_q9 (j t : ℕ) : q9 (blk I g k) j t = (dir I k g (j / 4)).la t (j % 4) := rfl
theorem k_q7' (d r t : ℕ) (hd : d < 2) (hr : r < 4) : q7 (blk I g k) t (4 * d + r) = (dir I k g d).la t r := by
  rw [k_q7, if_pos (by omega), show (4 * d + r) / 4 = d by omega, show (4 * d + r) % 4 = r by omega]
theorem k_q8' (d r t : ℕ) (hd : d < 2) (hr : r < 4) : q8 (blk I g k) t (4 * d + r) = (dir I k g d).dt t r := by
  rw [k_q8, if_pos (by omega), show (4 * d + r) / 4 = d by omega, show (4 * d + r) % 4 = r by omega]
theorem k_q9' (d r t : ℕ) (hr : r < 4) : q9 (blk I g k) (4 * d + r) t = (dir I k g d).la t r := by
  rw [k_q9, show (4 * d + r) / 4 = d by omega, show (4 * d + r) % 4 = r by omega]

theorem k_cb (d s l : ℕ) : q6 (blk I g k) s l = cb (dir I k g d) l s := by
  show (∑ n : Fin 128, (blk I g k).x1 s n.val * (blk I g k).x2 l n.val) = _
  simp only [b_b I g k d, b_c I g k d]
  rfl

/-- The decay of one head and one direction, as the body computes it. -/
theorem k_dec0 (r s l : ℕ) (hr : r < 4) :
    rsel R43 (rexp (rsub (rrow (rslice r 0 (q9 (blk I g k)))) (rcol (rslice 0 r (q7 (blk I g k)))))) (rcst 0) s l = dec false (dir I k g 0) l s r := by
  unfold dec le
  simp only [rsel, R43, rexp, rsub, rrow, rcol, rslice, rcst, Nat.zero_add, Nat.add_zero, cond_false]
  have h7 := k_q7' I g k 0 r s (by omega) hr
  have h9 := k_q9' I g k 0 r l hr
  simp only [Nat.mul_zero, Nat.zero_add] at h7 h9
  rw [h7, h9]
theorem k_dec1 (r s l : ℕ) (hr : r < 4) :
    rsel R69 (rexp (rsub (rrow (rslice (4 + r) 0 (q9 (blk I g k)))) (rcol (rslice 0 (4 + r) (q7 (blk I g k)))))) (rcst 0) s l = dec true (dir I k g 1) l s r := by
  unfold dec le
  simp only [rsel, R69, rexp, rsub, rrow, rcol, rslice, rcst, Nat.zero_add, Nat.add_zero, cond_true]
  have h7 := k_q7' I g k 1 r s (by omega) hr
  have h9 := k_q9' I g k 1 r l hr
  simp only [Nat.mul_one] at h7 h9
  rw [h7, h9]

theorem k_dt0 (r t : ℕ) (hr : r < 4) : rslice 0 r (q8 (blk I g k)) t 0 = (dir I k g 0).dt t r := by
  have h8 := k_q8' I g k 0 r t (by omega) hr
  simp only [Nat.mul_zero, Nat.zero_add] at h8
  simp only [rslice, Nat.zero_add, Nat.add_zero]
  exact h8
theorem k_dt1 (r t : ℕ) (hr : r < 4) : rslice 0 (4 + r) (q8 (blk I g k)) t 0 = (dir I k g 1).dt t r := by
  have h8 := k_q8' I g k 1 r t (by omega) hr
  simp only [Nat.mul_one] at h8
  simp only [rslice, Nat.zero_add, Nat.add_zero]
  exact h8

/-- The decay to the last step, times the step size, on the lanes of the forward direction. -/
theorem k_q16 (t j : ℕ) : q16 (blk I g k) t j = if j < 4 then wl false (dir I k g 0) t j else 1 := by
  show Real.exp (rsel R25 (q7 (blk I g k)) (rcst 0) (127 + 0) (0 + j) - rsel R25 (q7 (blk I g k)) (rcst 0) t j) = _
  simp only [rsel, R25, rcst, Nat.zero_add, Nat.zero_le, decide_true, Bool.true_and, decide_eq_true_eq]
  by_cases h : j < 4
  · have h7 := fun t => k_q7' I g k 0 j t (by omega) h
    simp only [Nat.mul_zero, Nat.zero_add] at h7
    rw [if_pos h, if_pos h, if_pos h, h7, h7]
    rfl
  · rw [if_neg h, if_neg h, if_neg h, sub_zero, Real.exp_zero]
theorem k_q17 (t j : ℕ) : q17 (blk I g k) t j = if j < 4 then wl false (dir I k g 0) t j * (dir I k g 0).dt t j else 0 := by
  show q16 (blk I g k) t j * rsel R25 (q8 (blk I g k)) (rcst 0) t j = _
  rw [k_q16]
  simp only [rsel, R25, rcst, Nat.zero_le, decide_true, Bool.true_and, decide_eq_true_eq]
  by_cases h : j < 4
  · have h8 := k_q8' I g k 0 j t (by omega) h
    simp only [Nat.mul_zero, Nat.zero_add] at h8
    rw [if_pos h, if_pos h, if_pos h, h8]
  · rw [if_neg h, if_neg h, if_neg h, mul_zero]
theorem k_q31 (t j : ℕ) : q31 (blk I g k) t j = if 4 ≤ j ∧ j < 8 then wl true (dir I k g 1) t (j - 4) else 1 := by
  show Real.exp (rsel R49 (q7 (blk I g k)) (rcst 0) (0 + 0) (0 + j) - rsel R49 (q7 (blk I g k)) (rcst 0) t j) = _
  simp only [rsel, R49, rcst, Nat.zero_add, Bool.and_eq_true, decide_eq_true_eq]
  by_cases h : 4 ≤ j ∧ j < 8
  · have h7 := fun t => k_q7' I g k 1 (j - 4) t (by omega) (by omega)
    rw [show 4 * 1 + (j - 4) = j by omega] at h7
    rw [if_pos h, if_pos h, if_pos h, h7, h7]
    rfl
  · rw [if_neg h, if_neg h, if_neg h, sub_zero, Real.exp_zero]
theorem k_q32 (t j : ℕ) : q32 (blk I g k) t j = if 4 ≤ j ∧ j < 8 then wl true (dir I k g 1) t (j - 4) * (dir I k g 1).dt t (j - 4) else 0 := by
  show q31 (blk I g k) t j * rsel R49 (q8 (blk I g k)) (rcst 0) t j = _
  rw [k_q31]
  simp only [rsel, R49, rcst, Bool.and_eq_true, decide_eq_true_eq]
  by_cases h : 4 ≤ j ∧ j < 8
  · have h8 := k_q8' I g k 1 (j - 4) t (by omega) (by omega)
    rw [show 4 * 1 + (j - 4) = j by omega] at h8
    rw [if_pos h, if_pos h, if_pos h, h8]
  · rw [if_neg h, if_neg h, if_neg h, mul_zero]

end Cert.KernelIdeal.Gen
-- ==== Proof.KerDx.lean ====
module

public import proofs.«01_k».proof.Proof.KerSpec

/-! The kernel's body on the blocks of one group and one chunk: the decays, the gradient of the scores and the gradient of the input. -/

@[expose] public section

set_option maxRecDepth 16384

noncomputable section

namespace Cert.KernelIdeal.Gen

open Ssd Ssd.Spec Ssd.Ref Cert.KernelIdeal.Value

variable (I : In) (g k : ℕ)

theorem dec_00 (s l : ℕ) : R74 (q7 (blk I g k)) (q9 (blk I g k)) R43 s l = dec false (dir I k g 0) l s 0 := k_dec0 I g k 0 s l (by omega)
theorem dec_01 (s l : ℕ) : q65 (blk I g k) s l = dec false (dir I k g 0) l s 1 := k_dec0 I g k 1 s l (by omega)
theorem dec_02 (s l : ℕ) : R121 R43 (q86 (blk I g k)) s l = dec false (dir I k g 0) l s 2 := k_dec0 I g k 2 s l (by omega)
theorem dec_03 (s l : ℕ) : R145 (q7 (blk I g k)) (q9 (blk I g k)) R43 s l = dec false (dir I k g 0) l s 3 := k_dec0 I g k 3 s l (by omega)
theorem dec_10 (s l : ℕ) : R84 (q7 (blk I g k)) (q9 (blk I g k)) R69 s l = dec true (dir I k g 1) l s 0 := k_dec1 I g k 0 s l (by omega)
theorem dec_11 (s l : ℕ) : q74 (blk I g k) s l = dec true (dir I k g 1) l s 1 := k_dec1 I g k 1 s l (by omega)
theorem dec_12 (s l : ℕ) : R132 R69 (q93 (blk I g k)) (rcst 0) s l = dec true (dir I k g 1) l s 2 := k_dec1 I g k 2 s l (by omega)
theorem dec_13 (s l : ℕ) : R153 (q7 (blk I g k)) (q9 (blk I g k)) R69 s l = dec true (dir I k g 1) l s 3 := k_dec1 I g k 3 s l (by omega)

theorem dt_00 (t : ℕ) : q46 (blk I g k) t 0 = (dir I k g 0).dt t 0 := k_dt0 I g k 0 t (by omega)
theorem dt_01 (t : ℕ) : q64 (blk I g k) t 0 = (dir I k g 0).dt t 1 := k_dt0 I g k 1 t (by omega)
theorem dt_02 (t : ℕ) : q85 (blk I g k) t 0 = (dir I k g 0).dt t 2 := k_dt0 I g k 2 t (by omega)
theorem dt_03 (t : ℕ) : R144 (q8 (blk I g k)) t 0 = (dir I k g 0).dt t 3 := k_dt0 I g k 3 t (by omega)
theorem dt_10 (t : ℕ) : q54 (blk I g k) t 0 = (dir I k g 1).dt t 0 := k_dt1 I g k 0 t (by omega)
theorem dt_11 (t : ℕ) : q73 (blk I g k) t 0 = (dir I k g 1).dt t 1 := k_dt1 I g k 1 t (by omega)
theorem dt_12 (t : ℕ) : q92 (blk I g k) t 0 = (dir I k g 1).dt t 2 := k_dt1 I g k 2 t (by omega)
theorem dt_13 (t : ℕ) : R152 (q8 (blk I g k)) t 0 = (dir I k g 1).dt t 3 := k_dt1 I g k 3 t (by omega)

theorem dd_00 (s l : ℕ) : q47 (blk I g k) s l = dec false (dir I k g 0) l s 0 * (dir I k g 0).dt s 0 := by
  rw [← dec_00, ← dt_00]; rfl
theorem dd_01 (s l : ℕ) : q66 (blk I g k) s l = dec false (dir I k g 0) l s 1 * (dir I k g 0).dt s 1 := by
  rw [← dec_01, ← dt_01]; rfl
theorem dd_02 (s l : ℕ) : R122 R43 (q85 (blk I g k)) (q86 (blk I g k)) s l = dec false (dir I k g 0) l s 2 * (dir I k g 0).dt s 2 := by
  rw [← dec_02, ← dt_02]; rfl
theorem dd_03 (s l : ℕ) : q102 (blk I g k) s l = dec false (dir I k g 0) l s 3 * (dir I k g 0).dt s 3 := by
  rw [← dec_03, ← dt_03]; rfl
theorem dd_10 (s l : ℕ) : q55 (blk I g k) s l = dec true (dir I k g 1) l s 0 * (dir I k g 1).dt s 0 := by
  rw [← dec_10, ← dt_10]; rfl
theorem dd_11 (s l : ℕ) : q75 (blk I g k) s l = dec true (dir I k g 1) l s 1 * (dir I k g 1).dt s 1 := by
  rw [← dec_11, ← dt_11]; rfl
theorem dd_12 (s l : ℕ) : R133 R69 (q92 (blk I g k)) (q93 (blk I g k)) (rcst 0) s l = dec true (dir I k g 1) l s 2 * (dir I k g 1).dt s 2 := by
  rw [← dec_12, ← dt_12]; rfl
theorem dd_13 (s l : ℕ) : R154 (q7 (blk I g k)) (q8 (blk I g k)) (q9 (blk I g k)) R69 s l = dec true (dir I k g 1) l s 3 * (dir I k g 1).dt s 3 := by
  rw [← dec_13, ← dt_13]; rfl

/-- The products of inputs and output gradients of one head. -/
theorem k_yx (d o a r s l : ℕ) (ha : a < 2) (h : o + 64 * a = 64 * r) :
    rmmT 128 (rsel (fun _ j => decide (j / 64 = a)) (rslice 0 o (qz (blk I g k))) (rcst 0)) (rslice 0 o (q5 (blk I g k))) s l = yx (dir I k g d) l s r := by
  rw [k_xy _ _ _ _ _ _ ha]
  refine Finset.sum_congr rfl fun p _ => ?_
  rw [← Nat.add_assoc, h]
  show (blk I g k).x3 l (64 * r + p.val) * (blk I g k).x0 s (64 * r + p.val) = _
  rw [b_x I g k d, b_y I g k d]

theorem yx_0 (d s l : ℕ) : q44 (blk I g k) s l = yx (dir I k g d) l s 0 := k_yx I g k d 0 0 0 s l (by omega) (by omega)
theorem yx_1 (d s l : ℕ) : q62 (blk I g k) s l = yx (dir I k g d) l s 1 := k_yx I g k d 0 1 1 s l (by omega) (by omega)
theorem yx_2 (d s l : ℕ) : q83 (blk I g k) s l = yx (dir I k g d) l s 2 := k_yx I g k d 128 0 2 s l (by omega) (by omega)
theorem yx_3 (d s l : ℕ) : q100 (blk I g k) s l = yx (dir I k g d) l s 3 := k_yx I g k d 128 1 3 s l (by omega) (by omega)

theorem yc_0 (d s l : ℕ) : q45 (blk I g k) s l = yx (dir I k g d) l s 0 * cb (dir I k g d) l s := by
  rw [← yx_0 I g k d, ← k_cb I g k d]; rfl
theorem yc_1 (d s l : ℕ) : q63 (blk I g k) s l = yx (dir I k g d) l s 1 * cb (dir I k g d) l s := by
  rw [← yx_1 I g k d, ← k_cb I g k d]; rfl
theorem yc_2 (d s l : ℕ) : q84 (blk I g k) s l = yx (dir I k g d) l s 2 * cb (dir I k g d) l s := by
  rw [← yx_2 I g k d, ← k_cb I g k d]; rfl
theorem yc_3 (d s l : ℕ) : q101 (blk I g k) s l = yx (dir I k g d) l s 3 * cb (dir I k g d) l s := by
  rw [← yx_3 I g k d, ← k_cb I g k d]; rfl

/-- The gradient of the products of the projections, both directions. -/
theorem k_dsc (s l : ℕ) : q111 (blk I g k) s l = dsc false (dir I k g 0) l s + dsc true (dir I k g 1) l s := by
  have h : q111 (blk I g k) s l = 0 + q44 (blk I g k) s l * q47 (blk I g k) s l + q44 (blk I g k) s l * q55 (blk I g k) s l
      + q62 (blk I g k) s l * q66 (blk I g k) s l + q62 (blk I g k) s l * q75 (blk I g k) s l
      + q83 (blk I g k) s l * R122 R43 (q85 (blk I g k)) (q86 (blk I g k)) s l
      + q83 (blk I g k) s l * R133 R69 (q92 (blk I g k)) (q93 (blk I g k)) (rcst 0) s l
      + q100 (blk I g k) s l * q102 (blk I g k) s l
      + q100 (blk I g k) s l * R154 (q7 (blk I g k)) (q8 (blk I g k)) (q9 (blk I g k)) R69 s l := rfl
  rw [h, dd_00, dd_01, dd_02, dd_03, dd_10, dd_11, dd_12, dd_13]
  unfold dsc
  rw [Fin.sum_univ_four, Fin.sum_univ_four]
  have y (d r : ℕ) : yx (dir I k g d) l s r = yx (dir I k g 0) l s r := rfl
  rw [yx_0 I g k 0, yx_1 I g k 0, yx_2 I g k 0, yx_3 I g k 0, y 1, y 1, y 1, y 1]
  show _ = (yx (dir I k g 0) l s 0 * (dir I k g 0).dt s 0 * dec false (dir I k g 0) l s 0 + yx (dir I k g 0) l s 1 * (dir I k g 0).dt s 1 * dec false (dir I k g 0) l s 1
    + yx (dir I k g 0) l s 2 * (dir I k g 0).dt s 2 * dec false (dir I k g 0) l s 2 + yx (dir I k g 0) l s 3 * (dir I k g 0).dt s 3 * dec false (dir I k g 0) l s 3)
    + (yx (dir I k g 0) l s 0 * (dir I k g 1).dt s 0 * dec true (dir I k g 1) l s 0 + yx (dir I k g 0) l s 1 * (dir I k g 1).dt s 1 * dec true (dir I k g 1) l s 1
    + yx (dir I k g 0) l s 2 * (dir I k g 1).dt s 2 * dec true (dir I k g 1) l s 2 + yx (dir I k g 0) l s 3 * (dir I k g 1).dt s 3 * dec true (dir I k g 1) l s 3)
  ring

/-- The gradient of the input of one head and one direction, as one product of stacked halves. -/
theorem k_dx (v : Bool) (d r jj o c p t : ℕ) (DD W Gm : ℕ → ℕ → ℝ)
    (hD : ∀ s l, DD s l = dec v (dir I k g d) l s r * (dir I k g d).dt s r)
    (hW : W (0 + t) (jj + 0) = wl v (dir I k g d) t r * (dir I k g d).dt t r)
    (hG : ∀ n, Gm n (64 * r + p) = (dir I k g d).G n r p) (ho : o + c = 64 * r + p) :
    rmm 256 (rcat1 (rmul (q6 (blk I g k)) DD) (rmul (q1 (blk I g k)) (rcol (rslice 0 jj W)))) (rslice 0 o (rcat0 (q5 (blk I g k)) Gm)) t c
      = dx v (dir I k g d) t r p := by
  rw [rmm_cat, ho]
  unfold dx
  congr 1
  · refine Finset.sum_congr rfl fun l _ => ?_
    show q6 (blk I g k) t l.val * DD t l.val * (blk I g k).x3 l.val (64 * r + p) = _
    rw [hD, b_y I g k d, k_cb I g k d]
    ring
  · unfold bg
    rw [Finset.sum_mul]
    refine Finset.sum_congr rfl fun n _ => ?_
    show (blk I g k).x1 t n.val * W (0 + t) (jj + 0) * Gm n.val (64 * r + p) = _
    rw [hW, hG, b_b I g k d]
    ring

theorem w_0 (r t : ℕ) (hr : r < 4) : q17 (blk I g k) (0 + t) (r + 0) = wl false (dir I k g 0) t r * (dir I k g 0).dt t r := by
  rw [Nat.zero_add, Nat.add_zero, k_q17, if_pos hr]
theorem w_1 (r t : ℕ) (hr : r < 4) : q32 (blk I g k) (0 + t) (4 + r + 0) = wl true (dir I k g 1) t r * (dir I k g 1).dt t r := by
  rw [Nat.zero_add, Nat.add_zero, k_q32, if_pos (by omega), show 4 + r - 4 = r by omega]
theorem g_0 (r p n : ℕ) : q14 (blk I g k) n (64 * r + p) = (dir I k g 0).G n r p := b_g0 I g k n r p
theorem g_1 (r p n : ℕ) : q29 (blk I g k) n (64 * r + p) = (dir I k g 1).G n r p := b_g1 I g k n r p

/-- The product of stacked halves of one head, forward. -/
def T0 (DD : ℕ → ℕ → ℝ) (jj o : ℕ) : ℕ → ℕ → ℝ :=
  rmm 256 (rcat1 (rmul (q6 (blk I g k)) DD) (rmul (q1 (blk I g k)) (rcol (rslice 0 jj (q17 (blk I g k)))))) (rslice 0 o (rcat0 (q5 (blk I g k)) (q14 (blk I g k))))
/-- The product of stacked halves of one head, backward. -/
def T1 (DD : ℕ → ℕ → ℝ) (jj o : ℕ) : ℕ → ℕ → ℝ :=
  rmm 256 (rcat1 (rmul (q6 (blk I g k)) DD) (rmul (q1 (blk I g k)) (rcol (rslice 0 jj (q32 (blk I g k)))))) (rslice 0 o (rcat0 (q5 (blk I g k)) (q29 (blk I g k))))

theorem T0_eq (r o c p t : ℕ) (DD : ℕ → ℕ → ℝ) (hr : r < 4) (hD : ∀ s l, DD s l = dec false (dir I k g 0) l s r * (dir I k g 0).dt s r)
    (ho : o + c = 64 * r + p) : T0 I g k DD r o t c = dx false (dir I k g 0) t r p :=
  k_dx I g k false 0 r r o c p t DD _ _ hD (w_0 I g k r t hr) (g_0 I g k r p) ho
theorem T1_eq (r o c p t : ℕ) (DD : ℕ → ℕ → ℝ) (hr : r < 4) (hD : ∀ s l, DD s l = dec true (dir I k g 1) l s r * (dir I k g 1).dt s r)
    (ho : o + c = 64 * r + p) : T1 I g k DD (4 + r) o t c = dx true (dir I k g 1) t r p :=
  k_dx I g k true 1 r (4 + r) o c p t DD _ _ hD (w_1 I g k r t hr) (g_1 I g k r p) ho

/-- The columns of the first two heads. -/
theorem k_q78 (t c : ℕ) : q78 (blk I g k) t c
    = 0 + (if c / 64 = 0 then T0 I g k (q47 (blk I g k)) 0 0 t c else 0) + (if c / 64 = 0 then T1 I g k (q55 (blk I g k)) 4 0 t c else 0)
      + (if c / 64 = 1 then T0 I g k (q66 (blk I g k)) 1 0 t c else 0) + (if c / 64 = 1 then T1 I g k (q75 (blk I g k)) 5 0 t c else 0) := by
  have h : q78 (blk I g k) t c
    = 0 + (if decide (c / 64 = 0) = true then T0 I g k (q47 (blk I g k)) 0 0 t c else 0) + (if decide (c / 64 = 0) = true then T1 I g k (q55 (blk I g k)) 4 0 t c else 0)
      + (if decide (c / 64 = 1) = true then T0 I g k (q66 (blk I g k)) 1 0 t c else 0) + (if decide (c / 64 = 1) = true then T1 I g k (q75 (blk I g k)) 5 0 t c else 0) := rfl
  simp only [decide_eq_true_eq] at h
  exact h

/-- The columns of the last two heads. -/
theorem k_q107 (t c : ℕ) : q107 (blk I g k) t c
    = 0 + (if c / 64 = 0 then T0 I g k (R122 R43 (q85 (blk I g k)) (q86 (blk I g k))) 2 128 t c else 0)
      + (if c / 64 = 0 then T1 I g k (R133 R69 (q92 (blk I g k)) (q93 (blk I g k)) (rcst 0)) 6 128 t c else 0)
      + (if c / 64 = 1 then T0 I g k (q102 (blk I g k)) 3 128 t c else 0)
      + (if c / 64 = 1 then T1 I g k (R154 (q7 (blk I g k)) (q8 (blk I g k)) (q9 (blk I g k)) R69) 7 128 t c else 0) := by
  have h : q107 (blk I g k) t c
    = 0 + (if decide (c / 64 = 0) = true then T0 I g k (R122 R43 (q85 (blk I g k)) (q86 (blk I g k))) 2 128 t c else 0)
      + (if decide (c / 64 = 0) = true then T1 I g k (R133 R69 (q92 (blk I g k)) (q93 (blk I g k)) (rcst 0)) 6 128 t c else 0)
      + (if decide (c / 64 = 1) = true then T0 I g k (q102 (blk I g k)) 3 128 t c else 0)
      + (if decide (c / 64 = 1) = true then T1 I g k (R154 (q7 (blk I g k)) (q8 (blk I g k)) (q9 (blk I g k)) R69) 7 128 t c else 0) := rfl
  simp only [decide_eq_true_eq] at h
  exact h

/-- The gradient of the input without the skip connection. -/
theorem k_q112 (t r p : ℕ) (hr : r < 4) (hp : p < 64) :
    q112 (blk I g k) t (64 * r + p) = dx false (dir I k g 0) t r p + dx true (dir I k g 1) t r p := by
  show (if 64 * r + p < 128 then q78 (blk I g k) t (64 * r + p) else q107 (blk I g k) t (64 * r + p - 128)) = _
  have h4 : r = 0 ∨ r = 1 ∨ r = 2 ∨ r = 3 := by omega
  rcases h4 with rfl | rfl | rfl | rfl
  · rw [if_pos (by omega), k_q78, if_pos (by omega), if_pos (by omega), if_neg (by omega), if_neg (by omega),
      T0_eq I g k 0 0 _ p t _ hr (dd_00 I g k) (by omega), T1_eq I g k 0 0 _ p t _ hr (dd_10 I g k) (by omega)]
    ring
  · rw [if_pos (by omega), k_q78, if_neg (by omega), if_neg (by omega), if_pos (by omega), if_pos (by omega),
      T0_eq I g k 1 0 _ p t _ hr (dd_01 I g k) (by omega), T1_eq I g k 1 0 _ p t _ hr (dd_11 I g k) (by omega)]
    ring
  · rw [if_neg (by omega), k_q107, if_pos (by omega), if_pos (by omega), if_neg (by omega), if_neg (by omega),
      T0_eq I g k 2 128 _ p t _ hr (dd_02 I g k) (by omega), T1_eq I g k 2 128 _ p t _ hr (dd_12 I g k) (by omega)]
    ring
  · rw [if_neg (by omega), k_q107, if_neg (by omega), if_neg (by omega), if_pos (by omega), if_pos (by omega),
      T0_eq I g k 3 128 _ p t _ hr (dd_03 I g k) (by omega), T1_eq I g k 3 128 _ p t _ hr (dd_13 I g k) (by omega)]
    ring

end Cert.KernelIdeal.Gen
-- ==== Proof.KerDt.lean ====
module

public import proofs.«01_k».proof.Proof.KerDx

/-! The kernel's body on the blocks of one group and one chunk: the gradients of the projections, of the step sizes and of the decay exponents. -/

@[expose] public section

set_option maxRecDepth 16384

noncomputable section

namespace Cert.KernelIdeal.Gen

open Ssd Ssd.Spec Ssd.Ref Cert.KernelIdeal.Value

variable (I : In) (g k : ℕ)

/-- A sum over the columns of a group, head by head. -/
theorem sum_cols (f : ℕ → ℝ) : (∑ e : Fin 256, f e.val) = ∑ r : Fin 4, ∑ p : Fin 64, f (64 * r.val + p.val) := sum_heads 4 f

theorem div_head (r : Fin 4) (p : Fin 64) : (64 * r.val + p.val) / 64 = r.val := by omega

theorem k_q10 (t j : ℕ) : q10 (blk I g k) t j = Real.exp (q7 (blk I g k) t j) := rfl
theorem k_q10_0 (t r : ℕ) (hr : r < 4) : q10 (blk I g k) t r = Real.exp ((dir I k g 0).la t r) := by
  have h7 := k_q7' I g k 0 r t (by omega) hr
  simp only [Nat.mul_zero, Nat.zero_add] at h7
  rw [k_q10, h7]
theorem k_q10_1 (t r : ℕ) (hr : r < 4) : q10 (blk I g k) t (4 + r) = Real.exp ((dir I k g 1).la t r) := by
  have h7 := k_q7' I g k 1 r t (by omega) hr
  simp only [Nat.mul_one] at h7
  rw [k_q10, h7]

/-- The part of the gradient of the output projection that comes through the saved states. -/
theorem k_q36 (t n : ℕ) : q36 (blk I g k) t n = dC0 (dir I k g 0) t n + dC0 (dir I k g 1) t n := by
  have h : q36 (blk I g k) t n = (0 + ∑ p : Fin 256, (blk I g k).x3 t p.val * rmm 128 (q10 (blk I g k)) R30 t p.val * (blk I g k).x9 0 n p.val)
      + ∑ p : Fin 256, (blk I g k).x3 t p.val * rmm 128 (q10 (blk I g k)) R54 t p.val * (blk I g k).x10 0 n p.val := rfl
  rw [h, zero_add]
  congr 1
  · rw [sum_cols (fun p => (blk I g k).x3 t p * rmm 128 (q10 (blk I g k)) R30 t p * (blk I g k).x9 0 n p)]
    refine Finset.sum_congr rfl fun r _ => Finset.sum_congr rfl fun p _ => ?_
    have e : rmm 128 (q10 (blk I g k)) R30 t (64 * r.val + p.val) = q10 (blk I g k) t (0 + (64 * r.val + p.val) / 64) := k_exp _ 0 t _ (by omega)
    rw [e, div_head, Nat.zero_add, k_q10_0 I g k t r.val r.isLt, b_y I g k 0, b_h0]
  · rw [sum_cols (fun p => (blk I g k).x3 t p * rmm 128 (q10 (blk I g k)) R54 t p * (blk I g k).x10 0 n p)]
    refine Finset.sum_congr rfl fun r _ => Finset.sum_congr rfl fun p _ => ?_
    have e : rmm 128 (q10 (blk I g k)) R54 t (64 * r.val + p.val) = q10 (blk I g k) t (4 + (64 * r.val + p.val) / 64) := k_exp _ 4 t _ (by omega)
    rw [e, div_head, k_q10_1 I g k t r.val r.isLt, b_y I g k 1, b_h1]

/-- A difference of equal factors adds nothing to a product. -/
theorem k_q35 (t p : ℕ) : rmm 128 (q35 (blk I g k)) R54 t p = 0 := by
  refine Finset.sum_eq_zero fun j _ => ?_
  show (q32 (blk I g k) t j.val - q32 (blk I g k) t j.val) * _ = 0
  rw [sub_self, zero_mul]

/-- The part of the gradient of the input projection that comes through the state gradients. -/
theorem k_q37 (t n : ℕ) : q37 (blk I g k) t n = dB0 false (dir I k g 0) t n + dB0 true (dir I k g 1) t n := by
  have h : q37 (blk I g k) t n = (0 + ∑ p : Fin 256, (blk I g k).x0 t p.val * rmm 128 (q17 (blk I g k)) R30 t p.val * (blk I g k).x11 0 n p.val)
      + ∑ p : Fin 256, (blk I g k).x0 t p.val * (rmm 128 (q32 (blk I g k)) R54 t p.val + rmm 128 (q35 (blk I g k)) R54 t p.val) * (blk I g k).x12 0 n p.val := rfl
  rw [h, zero_add]
  congr 1
  · rw [sum_cols (fun p => (blk I g k).x0 t p * rmm 128 (q17 (blk I g k)) R30 t p * (blk I g k).x11 0 n p)]
    refine Finset.sum_congr rfl fun r _ => Finset.sum_congr rfl fun p _ => ?_
    have e : rmm 128 (q17 (blk I g k)) R30 t (64 * r.val + p.val) = q17 (blk I g k) t (0 + (64 * r.val + p.val) / 64) := k_exp _ 0 t _ (by omega)
    rw [e, div_head, Nat.zero_add, k_q17, if_pos r.isLt, b_x I g k 0, b_g0]
    ring
  · simp only [k_q35, add_zero]
    rw [sum_cols (fun p => (blk I g k).x0 t p * rmm 128 (q32 (blk I g k)) R54 t p * (blk I g k).x12 0 n p)]
    refine Finset.sum_congr rfl fun r _ => Finset.sum_congr rfl fun p _ => ?_
    have e : rmm 128 (q32 (blk I g k)) R54 t (64 * r.val + p.val) = q32 (blk I g k) t (4 + (64 * r.val + p.val) / 64) := k_exp _ 4 t _ (by omega)
    rw [e, div_head, k_q32, if_pos (by omega), Nat.add_sub_cancel_left, b_x I g k 1, b_g1]
    ring

/-- The gradient of the input projection. -/
theorem k_q114 (t n : ℕ) : q114 (blk I g k) t n
    = (dB0 false (dir I k g 0) t n + dB0 true (dir I k g 1) t n) + (dB1 false (dir I k g 0) t n + dB1 true (dir I k g 1) t n) := by
  have h : q114 (blk I g k) t n = q37 (blk I g k) t n + ∑ l : Fin 128, q111 (blk I g k) t l.val * (blk I g k).x2 l.val n := rfl
  rw [h, k_q37]
  congr 1
  unfold dB1
  rw [← Finset.sum_add_distrib]
  refine Finset.sum_congr rfl fun l _ => ?_
  rw [k_dsc, b_c I g k 0]
  exact add_mul _ _ _

/-- The gradient of the output projection. -/
theorem k_q115 (t n : ℕ) : q115 (blk I g k) t n
    = (dC0 (dir I k g 0) t n + dC0 (dir I k g 1) t n) + (dC1 false (dir I k g 0) t n + dC1 true (dir I k g 1) t n) := by
  have h : q115 (blk I g k) t n = q36 (blk I g k) t n + ∑ s : Fin 128, q111 (blk I g k) s.val t * (blk I g k).x1 s.val n := rfl
  rw [h, k_q36]
  congr 1
  unfold dC1
  rw [← Finset.sum_add_distrib]
  refine Finset.sum_congr rfl fun l _ => ?_
  rw [k_dsc, b_b I g k 0]
  exact add_mul _ _ _

/-! ### The step sizes -/

/-- The lane of a direction: the head number, or another lane. -/
theorem k_w0 (t j : ℕ) : R39 R31 (q21 (blk I g k)) (q22 (blk I g k)) t j = if 0 ≤ j ∧ j < 0 + 4 then w (dir I k g 0) t j else 0 := by
  have h : R39 R31 (q21 (blk I g k)) (q22 (blk I g k)) t j = rmm 256 (q21 (blk I g k)) R31 t j + rmm 256 (q22 (blk I g k)) R31 t j := rfl
  have h2 : rmm 256 (q22 (blk I g k)) R31 t j = 0 := by
    refine Finset.sum_eq_zero fun p _ => ?_
    show (q21 (blk I g k) t p.val - q21 (blk I g k) t p.val) * _ = 0
    rw [sub_self, zero_mul]
  have h1 : rmm 256 (q21 (blk I g k)) R31 t j = if 0 ≤ j ∧ j < 0 + 4 then ∑ p : Fin 64, q21 (blk I g k) t (64 * (j - 0) + p.val) else 0 := k_sum _ 0 t j
  rw [h, h2, add_zero, h1]
  refine if_congr Iff.rfl ?_ rfl
  refine Finset.sum_congr rfl fun p _ => ?_
  show (blk I g k).x0 t (64 * j + p.val) * (∑ n : Fin 128, (blk I g k).x1 t n.val * (blk I g k).x11 0 n.val (64 * j + p.val)) = _
  rw [b_x I g k 0]
  refine congrArg _ (Finset.sum_congr rfl fun n _ => ?_)
  rw [b_b I g k 0, b_g0, mul_comm]

theorem k_w1 (t j : ℕ) : R62 (qz (blk I g k)) (q3 (blk I g k)) (q29 (blk I g k)) R55 t j = if 4 ≤ j ∧ j < 4 + 4 then w (dir I k g 1) t (j - 4) else 0 := by
  have h1 : R62 (qz (blk I g k)) (q3 (blk I g k)) (q29 (blk I g k)) R55 t j
      = if 4 ≤ j ∧ j < 4 + 4 then ∑ p : Fin 64, rmul (qz (blk I g k)) (rmm 128 (q3 (blk I g k)) (q29 (blk I g k))) t (64 * (j - 4) + p.val) else 0 := k_sum _ 4 t j
  rw [h1]
  refine if_congr Iff.rfl ?_ rfl
  refine Finset.sum_congr rfl fun p _ => ?_
  show (blk I g k).x0 t (64 * (j - 4) + p.val) * (∑ n : Fin 128, (blk I g k).x1 t n.val * (blk I g k).x12 0 n.val (64 * (j - 4) + p.val)) = _
  rw [b_x I g k 1]
  refine congrArg _ (Finset.sum_congr rfl fun n _ => ?_)
  rw [b_b I g k 1, b_g1, mul_comm]

/-- The step sizes' gradient through the state gradients, on the lanes of both directions. -/
theorem k_q40 (t j : ℕ) : q40 (blk I g k) t j
    = if j < 8 then wl (vd (j / 4)) (dir I k g (j / 4)) t (j % 4) * w (dir I k g (j / 4)) t (j % 4) else 0 := by
  have h : q40 (blk I g k) t j = (0 + q16 (blk I g k) t j * R39 R31 (q21 (blk I g k)) (q22 (blk I g k)) t j)
      + q31 (blk I g k) t j * R62 (qz (blk I g k)) (q3 (blk I g k)) (q29 (blk I g k)) R55 t j := rfl
  rw [h, k_w0, k_w1, k_q16, k_q31, zero_add]
  by_cases h8 : j < 8
  · rw [if_pos h8]
    have hd : j / 4 = 0 ∨ j / 4 = 1 := by omega
    rcases hd with hd | hd <;> rw [hd]
    · rw [if_pos (show j < 4 by omega), if_pos (show 0 ≤ j ∧ j < 0 + 4 by omega), if_neg (show ¬ (4 ≤ j ∧ j < 8) by omega),
        if_neg (show ¬ (4 ≤ j ∧ j < 4 + 4) by omega), mul_zero, add_zero,
        show j % 4 = j by omega]
      rfl
    · rw [if_neg (show ¬ (0 ≤ j ∧ j < 0 + 4) by omega), if_pos (show 4 ≤ j ∧ j < 8 by omega), if_pos (show 4 ≤ j ∧ j < 4 + 4 by omega), mul_zero, zero_add,
        show j % 4 = j - 4 by omega]
      rfl
  · rw [if_neg h8, if_neg (show ¬ (0 ≤ j ∧ j < 0 + 4) by omega), if_neg (show ¬ (4 ≤ j ∧ j < 8) by omega),
      if_neg (show ¬ (4 ≤ j ∧ j < 4 + 4) by omega), mul_zero, mul_zero, add_zero]

/-- The row sums of one lane. -/
def rs (v : Bool) (d : D) (t r : ℕ) : ℝ := ∑ l : Fin 128, yx d l.val t r * cb d l.val t * dec v d l.val t r

theorem k_q108 (t j : ℕ) : q108 (blk I g k) t j = if j < 8 then rs (vd (j / 4)) (dir I k g (j / 4)) t (j % 4) else 0 := by
  have h : q108 (blk I g k) t j
      = if decide (j = 7) = true then ∑ l : Fin 128, q101 (blk I g k) t l.val * R153 (q7 (blk I g k)) (q9 (blk I g k)) R69 t l.val
        else if decide (j = 3) = true then ∑ l : Fin 128, q101 (blk I g k) t l.val * R145 (q7 (blk I g k)) (q9 (blk I g k)) R43 t l.val
        else if decide (j = 6) = true then ∑ l : Fin 128, q84 (blk I g k) t l.val * R132 R69 (q93 (blk I g k)) (rcst 0) t l.val
        else if decide (j = 2) = true then ∑ l : Fin 128, q84 (blk I g k) t l.val * R121 R43 (q86 (blk I g k)) t l.val
        else if decide (j = 5) = true then ∑ l : Fin 128, q63 (blk I g k) t l.val * q74 (blk I g k) t l.val
        else if decide (j = 1) = true then ∑ l : Fin 128, q63 (blk I g k) t l.val * q65 (blk I g k) t l.val
        else if decide (j = 4) = true then ∑ l : Fin 128, q45 (blk I g k) t l.val * R84 (q7 (blk I g k)) (q9 (blk I g k)) R69 t l.val
        else if decide (j = 0) = true then ∑ l : Fin 128, q45 (blk I g k) t l.val * R74 (q7 (blk I g k)) (q9 (blk I g k)) R43 t l.val
        else 0 := rfl
  rw [h]
  simp only [decide_eq_true_eq, dec_00, dec_01, dec_02, dec_03, dec_10, dec_11, dec_12, dec_13]
  by_cases h8 : j < 8
  · rw [if_pos h8]
    interval_cases j
    · simp only [yc_0 I g k 0]; rfl
    · simp only [yc_1 I g k 0]; rfl
    · simp only [yc_2 I g k 0]; rfl
    · simp only [yc_3 I g k 0]; rfl
    · simp only [yc_0 I g k 1]; rfl
    · simp only [yc_1 I g k 1]; rfl
    · simp only [yc_2 I g k 1]; rfl
    · simp only [yc_3 I g k 1]; rfl
  · rw [if_neg h8, if_neg (by omega), if_neg (by omega), if_neg (by omega), if_neg (by omega), if_neg (by omega), if_neg (by omega),
      if_neg (by omega), if_neg (by omega)]

/-- The part of the step sizes' gradient that does not pass through the decay. -/
theorem k_q113 (t j : ℕ) : q113 (blk I g k) t j = if j < 8 then ddir (vd (j / 4)) (dir I k g (j / 4)) t (j % 4) else 0 := by
  have h : q113 (blk I g k) t j = q40 (blk I g k) t j + q108 (blk I g k) t j := rfl
  rw [h, k_q40, k_q108]
  by_cases h8 : j < 8
  · rw [if_pos h8, if_pos h8, if_pos h8]
    unfold ddir rs
    rw [add_comm]
    refine congrArg (· + _) (Finset.sum_congr rfl fun l _ => ?_)
    ring
  · rw [if_neg h8, if_neg h8, if_neg h8, add_zero]

end Cert.KernelIdeal.Gen
-- ==== Proof.KerRc.lean ====
module

public import proofs.«01_k».proof.Proof.KerDt

/-! The kernel's body on the blocks of one group and one chunk: the gradient of the decay exponents. -/

@[expose] public section

set_option maxRecDepth 16384

noncomputable section

namespace Cert.KernelIdeal.Gen

open Ssd Ssd.Spec Ssd.Ref Cert.KernelIdeal.Value

variable (I : In) (g k : ℕ)

theorem k_q109 (t j : ℕ) : q109 (blk I g k) t j
    = if j < 8 then rs (vd (j / 4)) (dir I k g (j / 4)) t (j % 4) * (dir I k g (j / 4)).dt t (j % 4) else 0 := by
  have h : q109 (blk I g k) t j
      = if decide (j = 7) = true then (∑ l : Fin 128, q101 (blk I g k) t l.val * R153 (q7 (blk I g k)) (q9 (blk I g k)) R69 t l.val) * R152 (q8 (blk I g k)) t 0
        else if decide (j = 3) = true then (∑ l : Fin 128, q101 (blk I g k) t l.val * R145 (q7 (blk I g k)) (q9 (blk I g k)) R43 t l.val) * R144 (q8 (blk I g k)) t 0
        else if decide (j = 6) = true then (∑ l : Fin 128, q84 (blk I g k) t l.val * R132 R69 (q93 (blk I g k)) (rcst 0) t l.val) * q92 (blk I g k) t 0
        else if decide (j = 2) = true then (∑ l : Fin 128, q84 (blk I g k) t l.val * R121 R43 (q86 (blk I g k)) t l.val) * q85 (blk I g k) t 0
        else if decide (j = 5) = true then (∑ l : Fin 128, q63 (blk I g k) t l.val * q74 (blk I g k) t l.val) * q73 (blk I g k) t 0
        else if decide (j = 1) = true then (∑ l : Fin 128, q63 (blk I g k) t l.val * q65 (blk I g k) t l.val) * q64 (blk I g k) t 0
        else if decide (j = 4) = true then (∑ l : Fin 128, q45 (blk I g k) t l.val * R84 (q7 (blk I g k)) (q9 (blk I g k)) R69 t l.val) * q54 (blk I g k) t 0
        else if decide (j = 0) = true then (∑ l : Fin 128, q45 (blk I g k) t l.val * R74 (q7 (blk I g k)) (q9 (blk I g k)) R43 t l.val) * q46 (blk I g k) t 0
        else 0 := rfl
  rw [h]
  simp only [decide_eq_true_eq, dec_00, dec_01, dec_02, dec_03, dec_10, dec_11, dec_12, dec_13,
    dt_00, dt_01, dt_02, dt_03, dt_10, dt_11, dt_12, dt_13]
  by_cases h8 : j < 8
  · rw [if_pos h8]
    interval_cases j
    · simp only [yc_0 I g k 0]; rfl
    · simp only [yc_1 I g k 0]; rfl
    · simp only [yc_2 I g k 0]; rfl
    · simp only [yc_3 I g k 0]; rfl
    · simp only [yc_0 I g k 1]; rfl
    · simp only [yc_1 I g k 1]; rfl
    · simp only [yc_2 I g k 1]; rfl
    · simp only [yc_3 I g k 1]; rfl
  · rw [if_neg h8, if_neg (by omega), if_neg (by omega), if_neg (by omega), if_neg (by omega), if_neg (by omega), if_neg (by omega),
      if_neg (by omega), if_neg (by omega)]

/-- The column sums of one lane. -/
def cs (v : Bool) (d : D) (l r : ℕ) : ℝ := ∑ s : Fin 128, yx d l s.val r * cb d l s.val * (dec v d l s.val r * d.dt s.val r)

theorem k_q110 (j l : ℕ) : q110 (blk I g k) j l = if j < 8 then cs (vd (j / 4)) (dir I k g (j / 4)) l (j % 4) else 0 := by
  have h : q110 (blk I g k) j l
      = 0 + (if decide (j = 0) = true then ∑ s : Fin 128, q45 (blk I g k) s.val l * q47 (blk I g k) s.val l else 0)
        + (if decide (j = 4) = true then ∑ s : Fin 128, q45 (blk I g k) s.val l * q55 (blk I g k) s.val l else 0)
        + (if decide (j = 1) = true then ∑ s : Fin 128, q63 (blk I g k) s.val l * q66 (blk I g k) s.val l else 0)
        + (if decide (j = 5) = true then ∑ s : Fin 128, q63 (blk I g k) s.val l * q75 (blk I g k) s.val l else 0)
        + (if decide (j = 2) = true then ∑ s : Fin 128, q84 (blk I g k) s.val l * R122 R43 (q85 (blk I g k)) (q86 (blk I g k)) s.val l else 0)
        + (if decide (j = 6) = true then ∑ s : Fin 128, q84 (blk I g k) s.val l * R133 R69 (q92 (blk I g k)) (q93 (blk I g k)) (rcst 0) s.val l else 0)
        + (if decide (j = 3) = true then ∑ s : Fin 128, q101 (blk I g k) s.val l * q102 (blk I g k) s.val l else 0)
        + (if decide (j = 7) = true then ∑ s : Fin 128, q101 (blk I g k) s.val l * R154 (q7 (blk I g k)) (q8 (blk I g k)) (q9 (blk I g k)) R69 s.val l else 0) := rfl
  rw [h]
  simp only [decide_eq_true_eq, dd_00, dd_01, dd_02, dd_03, dd_10, dd_11, dd_12, dd_13]
  by_cases h8 : j < 8
  · rw [if_pos h8]
    interval_cases j
    · simp only [yc_0 I g k 0, if_true, OfNat.zero_ne_ofNat, if_false, zero_add, add_zero, zero_ne_one]; rfl
    · simp only [yc_1 I g k 0, if_true, OfNat.one_ne_ofNat, if_false, zero_add, add_zero, one_ne_zero]; rfl
    · rw [if_neg (by omega), if_neg (by omega), if_neg (by omega), if_neg (by omega), if_pos (by omega), if_neg (by omega), if_neg (by omega), if_neg (by omega)]
      simp only [yc_2 I g k 0, zero_add, add_zero]; rfl
    · rw [if_neg (by omega), if_neg (by omega), if_neg (by omega), if_neg (by omega), if_neg (by omega), if_neg (by omega), if_pos (by omega), if_neg (by omega)]
      simp only [yc_3 I g k 0, zero_add, add_zero]; rfl
    · rw [if_neg (by omega), if_pos (by omega), if_neg (by omega), if_neg (by omega), if_neg (by omega), if_neg (by omega), if_neg (by omega), if_neg (by omega)]
      simp only [yc_0 I g k 1, zero_add, add_zero]; rfl
    · rw [if_neg (by omega), if_neg (by omega), if_neg (by omega), if_pos (by omega), if_neg (by omega), if_neg (by omega), if_neg (by omega), if_neg (by omega)]
      simp only [yc_1 I g k 1, zero_add, add_zero]; rfl
    · rw [if_neg (by omega), if_neg (by omega), if_neg (by omega), if_neg (by omega), if_neg (by omega), if_pos (by omega), if_neg (by omega), if_neg (by omega)]
      simp only [yc_2 I g k 1, zero_add, add_zero]; rfl
    · rw [if_neg (by omega), if_neg (by omega), if_neg (by omega), if_neg (by omega), if_neg (by omega), if_neg (by omega), if_neg (by omega), if_pos (by omega)]
      simp only [yc_3 I g k 1, zero_add, add_zero]; rfl
  · rw [if_neg h8, if_neg (by omega), if_neg (by omega), if_neg (by omega), if_neg (by omega), if_neg (by omega), if_neg (by omega),
      if_neg (by omega), if_neg (by omega)]
    simp only [add_zero]

/-! ### The part through the states -/

/-- The output's part: the saved states seen through the output projection, times the output gradient. -/
def yo (d : D) (t r : ℕ) : ℝ := (∑ p : Fin 64, ch d t r p.val * d.Y t r p.val) * Real.exp (d.la t r)

theorem k_yo0 (t j : ℕ) : q20 (blk I g k) t j = if 0 ≤ j ∧ j < 0 + 4 then yo (dir I k g 0) t j else 0 := by
  have h : q20 (blk I g k) t j = 0 + rmm 256 (rmul (rmul (q2 (blk I g k)) (rmm 128 (q10 (blk I g k)) R30)) (rmm 128 (q4 (blk I g k)) (q13 (blk I g k)))) R31 t j := rfl
  have h1 : rmm 256 (rmul (rmul (q2 (blk I g k)) (rmm 128 (q10 (blk I g k)) R30)) (rmm 128 (q4 (blk I g k)) (q13 (blk I g k)))) R31 t j
      = if 0 ≤ j ∧ j < 0 + 4 then ∑ p : Fin 64, rmul (rmul (q2 (blk I g k)) (rmm 128 (q10 (blk I g k)) R30)) (rmm 128 (q4 (blk I g k)) (q13 (blk I g k))) t (64 * (j - 0) + p.val) else 0 := k_sum _ 0 t j
  rw [h, h1, zero_add]
  by_cases hj : 0 ≤ j ∧ j < 0 + 4
  · rw [if_pos hj, if_pos hj]
    unfold yo
    rw [Finset.sum_mul]
    refine Finset.sum_congr rfl fun p _ => ?_
    show (blk I g k).x3 t (64 * j + p.val) * rmm 128 (q10 (blk I g k)) R30 t (64 * j + p.val) * (∑ n : Fin 128, (blk I g k).x2 t n.val * (blk I g k).x9 0 n.val (64 * j + p.val)) = _
    have e : rmm 128 (q10 (blk I g k)) R30 t (64 * j + p.val) = q10 (blk I g k) t (0 + (64 * j + p.val) / 64) := k_exp _ 0 t _ (by omega)
    have e2 : (∑ n : Fin 128, (blk I g k).x2 t n.val * (blk I g k).x9 0 n.val (64 * j + p.val)) = ch (dir I k g 0) t j p.val := by
      refine Finset.sum_congr rfl fun n _ => ?_
      rw [b_c I g k 0, b_h0, mul_comm]
    rw [e, e2, show 0 + (64 * j + p.val) / 64 = j by omega, k_q10_0 I g k t j (by omega), b_y I g k 0]
    ring
  · rw [if_neg hj, if_neg hj]

theorem k_yo1 (t j : ℕ) : rmm 256 (rmul (R59 (q2 (blk I g k)) (q33 (blk I g k))) (rmm 128 (q4 (blk I g k)) (q28 (blk I g k)))) R55 t j
    = if 4 ≤ j ∧ j < 4 + 4 then yo (dir I k g 1) t (j - 4) else 0 := by
  have h1 : rmm 256 (rmul (R59 (q2 (blk I g k)) (q33 (blk I g k))) (rmm 128 (q4 (blk I g k)) (q28 (blk I g k)))) R55 t j
      = if 4 ≤ j ∧ j < 4 + 4 then ∑ p : Fin 64, rmul (R59 (q2 (blk I g k)) (q33 (blk I g k))) (rmm 128 (q4 (blk I g k)) (q28 (blk I g k))) t (64 * (j - 4) + p.val) else 0 := k_sum _ 4 t j
  rw [h1]
  by_cases hj : 4 ≤ j ∧ j < 4 + 4
  · rw [if_pos hj, if_pos hj]
    unfold yo
    rw [Finset.sum_mul]
    refine Finset.sum_congr rfl fun p _ => ?_
    show (blk I g k).x3 t (64 * (j - 4) + p.val) * rmm 128 (q10 (blk I g k)) R54 t (64 * (j - 4) + p.val) * (∑ n : Fin 128, (blk I g k).x2 t n.val * (blk I g k).x10 0 n.val (64 * (j - 4) + p.val)) = _
    have e : rmm 128 (q10 (blk I g k)) R54 t (64 * (j - 4) + p.val) = q10 (blk I g k) t (4 + (64 * (j - 4) + p.val) / 64) := k_exp _ 4 t _ (by omega)
    have e2 : (∑ n : Fin 128, (blk I g k).x2 t n.val * (blk I g k).x10 0 n.val (64 * (j - 4) + p.val)) = ch (dir I k g 1) t (j - 4) p.val := by
      refine Finset.sum_congr rfl fun n _ => ?_
      rw [b_c I g k 1, b_h1, mul_comm]
    rw [e, e2, show 4 + (64 * (j - 4) + p.val) / 64 = 4 + (j - 4) by omega, k_q10_1 I g k t (j - 4) (by omega), b_y I g k 1]
    ring
  · rw [if_neg hj, if_neg hj]

theorem k_hg0 (i j : ℕ) : rslice 0 0 (rmm 256 (rrow (ras0 (rsum0 128 (rmul (q12 (blk I g k)) (q11 (blk I g k)))))) R31) i j
    = if 0 ≤ j ∧ j < 0 + 4 then hg (dir I k g 0) j else 0 := by
  have h1 : rslice 0 0 (rmm 256 (rrow (ras0 (rsum0 128 (rmul (q12 (blk I g k)) (q11 (blk I g k)))))) R31) i j
      = if 0 ≤ 0 + j ∧ 0 + j < 0 + 4 then ∑ p : Fin 64, rrow (ras0 (rsum0 128 (rmul (q12 (blk I g k)) (q11 (blk I g k))))) (0 + i) (64 * (0 + j - 0) + p.val) else 0 :=
    k_sum _ 0 (0 + i) (0 + j)
  rw [h1, Nat.zero_add j]
  refine if_congr Iff.rfl ?_ rfl
  unfold hg
  refine Finset.sum_congr rfl fun p _ => ?_
  show (∑ n : Fin 128, (blk I g k).x11 0 n.val (64 * j + p.val) * (blk I g k).x9 0 n.val (64 * j + p.val)) = _
  refine Finset.sum_congr rfl fun n _ => ?_
  rw [b_h0, b_g0, mul_comm]

theorem k_hg1 (i j : ℕ) : q41 (blk I g k) i j = if 4 ≤ j ∧ j < 4 + 4 then hg (dir I k g 1) (j - 4) else 0 := by
  have h1 : q41 (blk I g k) i j
      = if 4 ≤ 0 + j ∧ 0 + j < 4 + 4 then ∑ p : Fin 64, rrow (ras0 (rsum0 128 (rmul (q27 (blk I g k)) (q26 (blk I g k))))) (0 + i) (64 * (0 + j - 4) + p.val) else 0 :=
    k_sum _ 4 (0 + i) (0 + j)
  rw [h1, Nat.zero_add j]
  refine if_congr Iff.rfl ?_ rfl
  unfold hg
  refine Finset.sum_congr rfl fun p _ => ?_
  show (∑ n : Fin 128, (blk I g k).x12 0 n.val (64 * (j - 4) + p.val) * (blk I g k).x10 0 n.val (64 * (j - 4) + p.val)) = _
  refine Finset.sum_congr rfl fun n _ => ?_
  rw [b_h1, b_g1, mul_comm]

/-- The last exponents of the two directions, on their lanes. -/
theorem k_q15 (i j : ℕ) (hj : j < 4) : q15 (blk I g k) i j = (dir I k g 0).la (127 + i) j := by
  show rsel R25 (q7 (blk I g k)) (rcst 0) (127 + i) (0 + j) = _
  simp only [rsel, R25, rcst, Nat.zero_add, Nat.zero_le, decide_true, Bool.true_and, decide_eq_true_eq]
  have h7 := fun t => k_q7' I g k 0 j t (by omega) hj
  simp only [Nat.mul_zero, Nat.zero_add] at h7
  rw [if_pos hj, h7]
theorem k_q30 (i j : ℕ) (hj : 4 ≤ j ∧ j < 8) : q30 (blk I g k) i j = (dir I k g 1).la i (j - 4) := by
  show rsel R49 (q7 (blk I g k)) (rcst 0) (0 + i) (0 + j) = _
  simp only [rsel, R49, rcst, Nat.zero_add, Bool.and_eq_true, decide_eq_true_eq]
  have h7 := fun t => k_q7' I g k 1 (j - 4) t (by omega) (by omega)
  rw [show 4 * 1 + (j - 4) = j by omega] at h7
  rw [if_pos hj, h7]

/-- The products that give the gradient of the decay to the end. -/
theorem k_de0 (t j : ℕ) : q17 (blk I g k) t j * R39 R31 (q21 (blk I g k)) (q22 (blk I g k)) t j = if j < 4 then de false (dir I k g 0) t j else 0 := by
  rw [k_q17, k_w0]
  by_cases hj : j < 4
  · rw [if_pos hj, if_pos hj, if_pos (show 0 ≤ j ∧ j < 0 + 4 by omega)]
    unfold de
    ring
  · rw [if_neg hj, if_neg hj, zero_mul]
theorem k_de1 (t j : ℕ) : q38 (blk I g k) t j = if 4 ≤ j ∧ j < 8 then de true (dir I k g 1) t (j - 4) else 0 := by
  have h : q38 (blk I g k) t j = q32 (blk I g k) t j * R62 (qz (blk I g k)) (q3 (blk I g k)) (q29 (blk I g k)) R55 t j := rfl
  rw [h, k_q32, k_w1]
  by_cases hj : 4 ≤ j ∧ j < 8
  · rw [if_pos hj, if_pos hj, if_pos (show 4 ≤ j ∧ j < 4 + 4 by omega)]
    unfold de
    ring
  · rw [if_neg hj, if_neg hj, zero_mul, if_neg hj]

/-- The gradient of the running sums of the exponents, without the part within the chunk. -/
def st (v : Bool) (d : D) (t r : ℕ) : ℝ :=
  yo d t r - de v d t r + if t = lst v then (∑ s : Fin 128, de v d s.val r) + Real.exp (d.la (lst v) r) * hg d r else 0

theorem k_q42 (t j : ℕ) : q42 (blk I g k) t j = if j < 8 then st (vd (j / 4)) (dir I k g (j / 4)) t (j % 4) else 0 := by
  have h : q42 (blk I g k) t j
      = ((q20 (blk I g k) t j - q17 (blk I g k) t j * R39 R31 (q21 (blk I g k)) (q22 (blk I g k)) t j
          + (if decide (t = 127) = true then (∑ s : Fin 128, q17 (blk I g k) s.val j * R39 R31 (q21 (blk I g k)) (q22 (blk I g k)) s.val j)
              + Real.exp (q15 (blk I g k) 0 j) * rslice 0 0 (rmm 256 (rrow (ras0 (rsum0 128 (rmul (q12 (blk I g k)) (q11 (blk I g k)))))) R31) 0 j else 0))
          + rmm 256 (rmul (R59 (q2 (blk I g k)) (q33 (blk I g k))) (rmm 128 (q4 (blk I g k)) (q28 (blk I g k)))) R55 t j) - q38 (blk I g k) t j
        + (if decide (t = 0) = true then (∑ s : Fin 128, q38 (blk I g k) s.val j) + Real.exp (q30 (blk I g k) 0 j) * q41 (blk I g k) 0 j else 0) := rfl
  rw [h, k_yo0, k_yo1, k_hg0, k_hg1, k_de1]
  simp only [k_de0, k_de1, decide_eq_true_eq]
  by_cases h8 : j < 8
  · rw [if_pos h8]
    have hd : j / 4 = 0 ∨ j / 4 = 1 := by omega
    rcases hd with hd | hd <;> rw [hd]
    · have a1 : j < 4 := by omega
      have a2 : 0 ≤ j ∧ j < 0 + 4 := by omega
      have a3 : ¬ (4 ≤ j ∧ j < 8) := by omega
      have a4 : ¬ (4 ≤ j ∧ j < 4 + 4) := by omega
      simp only [if_pos a1, if_pos a2, if_neg a3, if_neg a4, Finset.sum_const_zero, mul_zero, add_zero, sub_zero, ite_self]
      rw [k_q15 I g k 0 j a1, show j % 4 = j by omega]
      rfl
    · have a1 : ¬ j < 4 := by omega
      have a2 : ¬ (0 ≤ j ∧ j < 0 + 4) := by omega
      have a3 : 4 ≤ j ∧ j < 8 := by omega
      have a4 : 4 ≤ j ∧ j < 4 + 4 := by omega
      simp only [if_neg a1, if_neg a2, if_pos a3, if_pos a4, Finset.sum_const_zero, mul_zero, add_zero, sub_zero, ite_self, zero_add]
      rw [k_q30 I g k 0 j a3, show j % 4 = j - 4 by omega]
      rfl
  · have a1 : ¬ j < 4 := by omega
    have a2 : ¬ (0 ≤ j ∧ j < 0 + 4) := by omega
    have a3 : ¬ (4 ≤ j ∧ j < 8) := by omega
    have a4 : ¬ (4 ≤ j ∧ j < 4 + 4) := by omega
    simp only [if_neg h8, if_neg a1, if_neg a2, if_neg a3, if_neg a4, Finset.sum_const_zero, mul_zero, add_zero, sub_zero, ite_self]

/-- The pieces add up to the gradient of the running sums. -/
theorem dla_split (v : Bool) (d : D) (t r : ℕ) : st v d t r - rs v d t r * d.dt t r + cs v d t r = dla v d t r := by
  have h1 : (∑ l : Fin 128, -(seg v d l.val t r)) = -(rs v d t r * d.dt t r) := by
    unfold rs seg
    rw [Finset.sum_neg_distrib, Finset.sum_mul]
    refine congrArg _ (Finset.sum_congr rfl fun l _ => ?_)
    ring
  have h2 : (∑ s : Fin 128, seg v d t s.val r) = cs v d t r := by
    unfold cs seg
    refine Finset.sum_congr rfl fun l _ => ?_
    ring
  unfold dla st
  rw [h1, h2]
  unfold yo
  by_cases h : t = lst v
  · simp only [if_pos h]
    ring
  · simp only [if_neg h]
    ring

/-- The gradient of the running sums on the lanes. -/
theorem k_lane (s j : ℕ) : q42 (blk I g k) s j - q109 (blk I g k) s j + q110 (blk I g k) j s
    = if j < 8 then dla (vd (j / 4)) (dir I k g (j / 4)) s (j % 4) else 0 := by
  rw [k_q42, k_q109, k_q110]
  by_cases h8 : j < 8
  · rw [if_pos h8, if_pos h8, if_pos h8, if_pos h8, dla_split]
  · rw [if_neg h8, if_neg h8, if_neg h8, if_neg h8, sub_zero, add_zero]

theorem one_ite (q : Prop) [Decidable q] (x : ℝ) : (if q then (1 : ℝ) else 0) * x = if q then x else 0 := by
  by_cases h : q
  · rw [if_pos h, if_pos h, one_mul]
  · rw [if_neg h, if_neg h, zero_mul]

/-- The gradient of the decay exponents. -/
theorem k_q116 (t j : ℕ) : q116 (blk I g k) t j = if j < 8 then rc (vd (j / 4)) (dir I k g (j / 4)) t (j % 4) else 0 := by
  have h : q116 (blk I g k) t j
      = if (decide (4 ≤ j) && decide (j < 8)) = true
        then (∑ s : Fin 128, (if decide (s.val ≤ t) = true then (1 : ℝ) else 0) * (q42 (blk I g k) s.val j - q109 (blk I g k) s.val j + q110 (blk I g k) j s.val))
          + ∑ s : Fin 128, (if decide (s.val ≤ t) = true then (1 : ℝ) else 0) * 0
        else (∑ s : Fin 128, (if decide (t ≤ s.val) = true then (1 : ℝ) else 0) * (q42 (blk I g k) s.val j - q109 (blk I g k) s.val j + q110 (blk I g k) j s.val))
          + ∑ s : Fin 128, (if decide (t ≤ s.val) = true then (1 : ℝ) else 0) * 0 := rfl
  rw [h]
  simp only [k_lane, mul_zero, Finset.sum_const_zero, add_zero, one_ite, Bool.and_eq_true, decide_eq_true_eq]
  by_cases h8 : j < 8
  · simp only [if_pos h8]
    have hd : j / 4 = 0 ∨ j / 4 = 1 := by omega
    unfold rc le
    rcases hd with hd | hd <;> rw [hd]
    · rw [if_neg (by omega)]
      refine Finset.sum_congr rfl fun s _ => if_congr ?_ rfl rfl
      show _ ↔ decide (t ≤ s.val) = true
      rw [decide_eq_true_eq]
    · rw [if_pos (by omega)]
      refine Finset.sum_congr rfl fun s _ => if_congr ?_ rfl rfl
      show _ ↔ decide (s.val ≤ t) = true
      rw [decide_eq_true_eq]
  · simp only [if_neg h8, ite_self, Finset.sum_const_zero]

end Cert.KernelIdeal.Gen
-- ==== Proof.ArrVal.lean ====
module

public import proofs.«01_k».proof.Proof.OutVal
public import proofs.«01_k».proof.Proof.KerRc
public import proofs.«01_k».proof.Proof.Gen.KernelIdeal.Value
public import Idealize.ShloMosaic.Lib.Pipeline.Value

/-! What each grid point leaves in the output blocks, and from it the result arrays of the kernel, on arguments of real entries. -/

@[expose] public section

set_option maxRecDepth 16384

noncomputable section

namespace Cert.KernelIdeal.Value

open Cert.KernelIdeal Cert.KernelIdeal.Gen Cert.KernelIdeal.Host Idealize.ShloMosaic Idealize.ShloMosaic.TcCoe Idealize.SL.Sem Ssd Ssd.Spec Ssd.Ref

variable (m : (ℓ : Loc nD τ sig) → Buf (Elt Ideal) ℓ)

/-- The decay rates by group and lane. -/
def rows (I : In) (g j : ℕ) : ℝ := if j < 8 then ra I (j / 4) (4 * g + j % 4) else 0

/-- One chunk's part of the gradient of the decay rates. -/
def ga (I : In) (g k j : ℕ) : ℝ := rows I g j * ∑ t : Fin 128, q8 (blk I g k) t.val j * q116 (blk I g k) t.val j

theorem iblkRows (c : Dev nD) (I : In) (hA : Args m c I) (t : Fin cfg0.N) : (iblk m c 13 t : S8x128.Idx → EReal) = lift2 (rows I) := iblk13 m c I hA t

/-- The accumulated block after a point: the sum of the parts of the group's chunks so far. -/
theorem acc18 (c : Dev nD) (I : In) (hA : Args m c I) : ∀ (n : ℕ) (hn : n < cfg0.N),
    ((outsAt0 m c n hn).2.2.2.2 : S1x8x128.Idx → EReal) = lift3 (fun _ _ j => ∑ k ∈ Finset.range (n % 66 + 1), ga I (n / 66) k j) := by
  intro n
  induction n with
  | zero =>
    intro hn
    rw [outsAt0_A m c ⟨0, hn⟩ rfl]
    dsimp only
    rw [iblk0 m c I hA, iblk1 m c I hA, iblk2 m c I hA, iblk3 m c I hA, iblk5 m c I hA, iblk6 m c I hA, iblk8 m c I hA, iblk9 m c I hA,
      iblk10 m c I hA, iblk11 m c I hA, iblk12 m c I hA, iblkRows m c I hA]
    refine (outA18 ..).trans ?_
    funext i
    refine coe_of ?_
    rw [coords0]
    show (0 : ℝ) + ga I (0 / 66) (0 % 66) (i 2).val = ∑ k ∈ Finset.range (0 % 66 + 1), ga I (0 / 66) k (i 2).val
    rw [Nat.zero_mod, Finset.sum_range_one, zero_add]
  | succ n ih =>
    intro hn
    by_cases h0 : (n + 1) % 66 = 0
    · rw [outsAt0_A m c ⟨n + 1, hn⟩ h0]
      dsimp only
      rw [iblk0 m c I hA, iblk1 m c I hA, iblk2 m c I hA, iblk3 m c I hA, iblk5 m c I hA, iblk6 m c I hA, iblk8 m c I hA, iblk9 m c I hA,
        iblk10 m c I hA, iblk11 m c I hA, iblk12 m c I hA, iblkRows m c I hA]
      refine (outA18 ..).trans ?_
      funext i
      refine coe_of ?_
      rw [coords0]
      show (0 : ℝ) + ga I ((n + 1) / 66) ((n + 1) % 66) (i 2).val = ∑ k ∈ Finset.range ((n + 1) % 66 + 1), ga I ((n + 1) / 66) k (i 2).val
      rw [h0, Finset.sum_range_one, zero_add]
    · rw [outsAt0_B m c ⟨n + 1, hn⟩ h0]
      dsimp only
      have hp := ih (Nat.lt_of_succ_lt hn)
      have e : n + 1 - 1 = n := rfl
      simp only [e]
      rw [iblk0 m c I hA, iblk1 m c I hA, iblk2 m c I hA, iblk3 m c I hA, iblk5 m c I hA, iblk6 m c I hA, iblk8 m c I hA, iblk9 m c I hA,
        iblk10 m c I hA, iblk11 m c I hA, iblk12 m c I hA, iblkRows m c I hA, hp]
      refine (outB18 ..).trans ?_
      funext i
      refine coe_of ?_
      rw [coords0]
      show (∑ k ∈ Finset.range (n % 66 + 1), ga I (n / 66) k (i 2).val) + ga I ((n + 1) / 66) ((n + 1) % 66) (i 2).val
        = ∑ k ∈ Finset.range ((n + 1) % 66 + 1), ga I ((n + 1) / 66) k (i 2).val
      rw [show (n + 1) / 66 = n / 66 by omega, show (n + 1) % 66 = n % 66 + 1 by omega, Finset.sum_range_succ _ (n % 66 + 1)]

/-- The blocks of the other outputs after a point. -/
theorem blocks (c : Dev nD) (I : In) (hA : Args m c I) (t : Fin cfg0.N) :
    ((outsAt0 m c t.val t.isLt).1 : S128x256.Idx → EReal)
        = k0_pay169 (F := Ideal) (lift2 (q2 (blk I (t.val / 66) (t.val % 66)))) (lift2 (q112 (blk I (t.val / 66) (t.val % 66)))) (iblk m c 4 t)
      ∧ ((outsAt0 m c t.val t.isLt).2.1 : S128x128.Idx → EReal) = lift2 (q114 (blk I (t.val / 66) (t.val % 66)))
      ∧ ((outsAt0 m c t.val t.isLt).2.2.1 : S128x128.Idx → EReal) = lift2 (q115 (blk I (t.val / 66) (t.val % 66)))
      ∧ ((outsAt0 m c t.val t.isLt).2.2.2.1 : S1x128x128.Idx → EReal) = lift3 (fun _ s j => q113 (blk I (t.val / 66) (t.val % 66)) s j
          + rows I (t.val / 66) j * q116 (blk I (t.val / 66) (t.val % 66)) s j) := by
  by_cases h0 : t.val % 66 = 0
  · rw [outsAt0_A m c t h0]
    dsimp only
    rw [iblk0 m c I hA, iblk1 m c I hA, iblk2 m c I hA, iblk3 m c I hA, iblk5 m c I hA, iblk6 m c I hA, iblk8 m c I hA, iblk9 m c I hA,
      iblk10 m c I hA, iblk11 m c I hA, iblk12 m c I hA, iblkRows m c I hA]
    refine ⟨outA14 .., outA15 .., outA16 .., (outA17 ..).trans ?_⟩
    rw [coords0]
    rfl
  · rw [outsAt0_B m c t h0]
    dsimp only
    rw [iblk0 m c I hA, iblk1 m c I hA, iblk2 m c I hA, iblk3 m c I hA, iblk5 m c I hA, iblk6 m c I hA, iblk8 m c I hA, iblk9 m c I hA,
      iblk10 m c I hA, iblk11 m c I hA, iblk12 m c I hA, iblkRows m c I hA, acc18 m c I hA]
    refine ⟨outB14 .., outB15 .., outB16 .., (outB17 ..).trans ?_⟩
    rw [coords0]
    rfl

end Cert.KernelIdeal.Value
-- ==== Proof.ResVal.lean ====
module

public import proofs.«01_k».proof.Proof.ArrVal

/-! The result arrays of the kernel, on arguments of real entries: the four that are real are the reference's. -/

@[expose] public section

set_option maxRecDepth 16384

noncomputable section

namespace Cert.KernelIdeal.Value

open Cert.KernelIdeal Cert.KernelIdeal.Gen Cert.KernelIdeal.Host Idealize.ShloMosaic Idealize.ShloMosaic.TcCoe Idealize.SL.Sem Ssd Ssd.Spec Ssd.Ref

variable (m : (ℓ : Loc nD τ sig) → Buf (Elt Ideal) ℓ)

/-- The grid point of a group and a chunk. -/
def pt (g k : ℕ) (hg : g < 8) (hk : k < 66) : Fin cfg0.N := ⟨66 * g + k, by rw [show cfg0.N = 528 from N_0]; omega⟩

theorem pt_div (g k : ℕ) (hg : g < 8) (hk : k < 66) : (pt g k hg hk).val / 66 = g := by
  show (66 * g + k) / 66 = g
  omega

theorem pt_mod (g k : ℕ) (hg : g < 8) (hk : k < 66) : (pt g k hg hk).val % 66 = k := by
  show (66 * g + k) % 66 = k
  omega

/-- Every entry of the gradient of `x` lies in the block of its group and chunk. -/
theorem cover14 (i : S8448x2048.Idx) : ∃ t : Fin cfg0.N, (cfg0.win 14).flush t = true ∧ i ∈ ((cfg0.win 14).blk t).view.set := by
  have b0 : (i 0 : Nat) < 8448 := (i 0).isLt
  have b1 : (i 1 : Nat) < 2048 := (i 1).isLt
  have hk : (i 0).val / 128 < 66 := by omega
  have hg : (i 1).val / 256 < 8 := by omega
  refine ⟨pt _ _ hg hk, flush0_14 _, ?_⟩
  show i ∈ ((View.whole main_v44_0).slice (win0_14.rect (pt _ _ hg hk))).set
  rw [View.set_slice_whole, Rect.mem_set_unit]
  obtain ⟨e0, e1⟩ := index14 (pt _ _ hg hk)
  rw [pt_mod] at e0
  rw [pt_div] at e1
  intro a
  match a with
  | ⟨0, _⟩ =>
    show win0_14.index _ (0 : Fin 2) * 128 ≤ (i 0 : Nat) ∧ (i 0 : Nat) < win0_14.index _ (0 : Fin 2) * 128 + 128
    rw [e0]; omega
  | ⟨1, _⟩ =>
    show win0_14.index _ (1 : Fin 2) * 256 ≤ (i 1 : Nat) ∧ (i 1 : Nat) < win0_14.index _ (1 : Fin 2) * 256 + 256
    rw [e1]; omega

/-- Every entry of the gradient of `B` lies in the block of its group and chunk. -/
theorem cover15 (i : S8448x1024.Idx) : ∃ t : Fin cfg0.N, (cfg0.win 15).flush t = true ∧ i ∈ ((cfg0.win 15).blk t).view.set := by
  have b0 : (i 0 : Nat) < 8448 := (i 0).isLt
  have b1 : (i 1 : Nat) < 1024 := (i 1).isLt
  have hk : (i 0).val / 128 < 66 := by omega
  have hg : (i 1).val / 128 < 8 := by omega
  refine ⟨pt _ _ hg hk, flush0_15 _, ?_⟩
  show i ∈ ((View.whole main_v44_1).slice (win0_15.rect (pt _ _ hg hk))).set
  rw [View.set_slice_whole, Rect.mem_set_unit]
  obtain ⟨e0, e1⟩ := index15 (pt _ _ hg hk)
  rw [pt_mod] at e0
  rw [pt_div] at e1
  intro a
  match a with
  | ⟨0, _⟩ =>
    show win0_15.index _ (0 : Fin 2) * 128 ≤ (i 0 : Nat) ∧ (i 0 : Nat) < win0_15.index _ (0 : Fin 2) * 128 + 128
    rw [e0]; omega
  | ⟨1, _⟩ =>
    show win0_15.index _ (1 : Fin 2) * 128 ≤ (i 1 : Nat) ∧ (i 1 : Nat) < win0_15.index _ (1 : Fin 2) * 128 + 128
    rw [e1]; omega

/-- Every entry of the gradient of `C` lies in the block of its group and chunk. -/
theorem cover16 (i : S8448x1024.Idx) : ∃ t : Fin cfg0.N, (cfg0.win 16).flush t = true ∧ i ∈ ((cfg0.win 16).blk t).view.set := by
  have b0 : (i 0 : Nat) < 8448 := (i 0).isLt
  have b1 : (i 1 : Nat) < 1024 := (i 1).isLt
  have hk : (i 0).val / 128 < 66 := by omega
  have hg : (i 1).val / 128 < 8 := by omega
  refine ⟨pt _ _ hg hk, flush0_16 _, ?_⟩
  show i ∈ ((View.whole main_v44_2).slice (win0_16.rect (pt _ _ hg hk))).set
  rw [View.set_slice_whole, Rect.mem_set_unit]
  obtain ⟨e0, e1⟩ := index16 (pt _ _ hg hk)
  rw [pt_mod] at e0
  rw [pt_div] at e1
  intro a
  match a with
  | ⟨0, _⟩ =>
    show win0_16.index _ (0 : Fin 2) * 128 ≤ (i 0 : Nat) ∧ (i 0 : Nat) < win0_16.index _ (0 : Fin 2) * 128 + 128
    rw [e0]; omega
  | ⟨1, _⟩ =>
    show win0_16.index _ (1 : Fin 2) * 128 ≤ (i 1 : Nat) ∧ (i 1 : Nat) < win0_16.index _ (1 : Fin 2) * 128 + 128
    rw [e1]; omega

/-- Every entry of the gradient of the steps lies in a block that is written back. -/
theorem cover17 (i : S8x8448x128.Idx) : ∃ t : Fin cfg0.N, (cfg0.win 17).flush t = true ∧ i ∈ ((cfg0.win 17).blk t).view.set := by
  have hg : (i 0 : Nat) < 8 := (i 0).isLt
  have b1 : (i 1 : Nat) < 8448 := (i 1).isLt
  have b2 : (i 2 : Nat) < 128 := (i 2).isLt
  have hk : (i 1).val / 128 < 66 := by omega
  refine ⟨pt _ _ hg hk, flush0_17 _, ?_⟩
  show i ∈ ((View.whole main_v44_3).slice (win0_17.rect (pt _ _ hg hk))).set
  rw [View.set_slice_whole, Rect.mem_set_unit]
  obtain ⟨e0, e1, e2⟩ := index17 (pt _ _ hg hk)
  rw [pt_div] at e0
  rw [pt_mod] at e1
  intro a
  match a with
  | ⟨0, _⟩ =>
    show win0_17.index _ (0 : Fin 3) * 1 ≤ (i 0 : Nat) ∧ (i 0 : Nat) < win0_17.index _ (0 : Fin 3) * 1 + 1
    rw [e0]; omega
  | ⟨1, _⟩ =>
    show win0_17.index _ (1 : Fin 3) * 128 ≤ (i 1 : Nat) ∧ (i 1 : Nat) < win0_17.index _ (1 : Fin 3) * 128 + 128
    rw [e1]; omega
  | ⟨2, _⟩ =>
    show win0_17.index _ (2 : Fin 3) * 128 ≤ (i 2 : Nat) ∧ (i 2 : Nat) < win0_17.index _ (2 : Fin 3) * 128 + 128
    rw [e2]; omega

/-- Every entry of the gradient of the decay rates lies in a block that is written back. -/
theorem cover18 (i : S8x8x128.Idx) : ∃ t : Fin cfg0.N, (cfg0.win 18).flush t = true ∧ i ∈ ((cfg0.win 18).blk t).view.set := by
  have hg : (i 0 : Nat) < 8 := (i 0).isLt
  have b1 : (i 1 : Nat) < 8 := (i 1).isLt
  have b2 : (i 2 : Nat) < 128 := (i 2).isLt
  have hk : 65 < 66 := by omega
  refine ⟨pt _ _ hg hk, (flush0_18 _).mpr (pt_mod _ _ hg hk), ?_⟩
  show i ∈ ((View.whole main_v44_4).slice (win0_18.rect (pt _ _ hg hk))).set
  rw [View.set_slice_whole, Rect.mem_set_unit]
  obtain ⟨e0, e1, e2⟩ := index18 (pt _ _ hg hk)
  rw [pt_div] at e0
  intro a
  match a with
  | ⟨0, _⟩ =>
    show win0_18.index _ (0 : Fin 3) * 1 ≤ (i 0 : Nat) ∧ (i 0 : Nat) < win0_18.index _ (0 : Fin 3) * 1 + 1
    rw [e0]; omega
  | ⟨1, _⟩ =>
    show win0_18.index _ (1 : Fin 3) * 8 ≤ (i 1 : Nat) ∧ (i 1 : Nat) < win0_18.index _ (1 : Fin 3) * 8 + 8
    rw [e1]; omega
  | ⟨2, _⟩ =>
    show win0_18.index _ (2 : Fin 3) * 128 ≤ (i 2 : Nat) ∧ (i 2 : Nat) < win0_18.index _ (2 : Fin 3) * 128 + 128
    rw [e2]; omega

/-- The gradient of `B`: every block is the reference's. -/
theorem final15 (c : Dev nD) (I : In) (hA : Args m c I) : (dats m 0 c).arrAt 15 cfg0.N = (lift2 (F336 I) : S8448x1024.Idx → EReal) := by
  refine (dats m 0 c).arrAt_eq_of_cover 15 (lift2 (F336 I) : S8448x1024.Idx → EReal) (fun t _ => ?_) cover15
  · rw [flushed15, (blocks m c I hA t).2.1]
    funext i
    obtain ⟨e0, e1⟩ := index15 t
    have b0 : (i 0).val < 128 := (i 0).isLt
    have b1 : (i 1).val < 128 := (i 1).isLt
    refine coe_of ?_
    show q114 (blk I (t.val / 66) (t.val % 66)) (i 0).val (i 1).val
      = F336 I (win0_15.index t (0 : Fin 2) * 128 + 1 * (i 0).val) (win0_15.index t (1 : Fin 2) * 128 + 1 * (i 1).val)
    rw [e0, e1, show t.val % 66 * 128 + 1 * (i 0).val = 128 * (t.val % 66) + (i 0).val by omega,
      show t.val / 66 * 128 + 1 * (i 1).val = 128 * (t.val / 66) + (i 1).val by omega, top_dB I _ _ _ _ b0 b1, k_q114]
    ring
/-- The gradient of `C`: every block is the reference's. -/
theorem final16 (c : Dev nD) (I : In) (hA : Args m c I) : (dats m 0 c).arrAt 16 cfg0.N = (lift2 (F335 I) : S8448x1024.Idx → EReal) := by
  refine (dats m 0 c).arrAt_eq_of_cover 16 (lift2 (F335 I) : S8448x1024.Idx → EReal) (fun t _ => ?_) cover16
  · rw [flushed16, (blocks m c I hA t).2.2.1]
    funext i
    obtain ⟨e0, e1⟩ := index16 t
    have b0 : (i 0).val < 128 := (i 0).isLt
    have b1 : (i 1).val < 128 := (i 1).isLt
    refine coe_of ?_
    show q115 (blk I (t.val / 66) (t.val % 66)) (i 0).val (i 1).val
      = F335 I (win0_16.index t (0 : Fin 2) * 128 + 1 * (i 0).val) (win0_16.index t (1 : Fin 2) * 128 + 1 * (i 1).val)
    rw [e0, e1, show t.val % 66 * 128 + 1 * (i 0).val = 128 * (t.val % 66) + (i 0).val by omega,
      show t.val / 66 * 128 + 1 * (i 1).val = 128 * (t.val / 66) + (i 1).val by omega, top_dC I _ _ _ _ b0 b1, k_q115]
    ring
/-- The gradient of the steps: every block is the reference's. -/
theorem final17 (c : Dev nD) (I : In) (hA : Args m c I) : (dats m 0 c).arrAt 17 cfg0.N = (lift3 (F344 I) : S8x8448x128.Idx → EReal) := by
  refine (dats m 0 c).arrAt_eq_of_cover 17 (lift3 (F344 I) : S8x8448x128.Idx → EReal) (fun t _ => ?_) cover17
  rw [flushed17, (blocks m c I hA t).2.2.2]
  funext i
  obtain ⟨e0, e1, e2⟩ := index17 t
  have b0 : (i 0).val < 1 := (i 0).isLt
  have b1 : (i 1).val < 128 := (i 1).isLt
  refine coe_of ?_
  show q113 (blk I (t.val / 66) (t.val % 66)) (i 1).val (i 2).val + rows I (t.val / 66) (i 2).val * q116 (blk I (t.val / 66) (t.val % 66)) (i 1).val (i 2).val
    = F344 I (win0_17.index t (0 : Fin 3) * 1 + 1 * (i 0).val) (win0_17.index t (1 : Fin 3) * 128 + 1 * (i 1).val)
      (win0_17.index t (2 : Fin 3) * 128 + 1 * (i 2).val)
  rw [e0, e1, e2, show t.val / 66 * 1 + 1 * (i 0).val = t.val / 66 by omega, show t.val % 66 * 128 + 1 * (i 1).val = 128 * (t.val % 66) + (i 1).val by omega,
    show 0 * 128 + 1 * (i 2).val = (i 2).val by omega, top_ddt I _ _ _ _ b1, k_q113, k_q116, rows]
  split
  · ring
  · ring

/-- The gradient of the decay rates: a group's block is written back after its last chunk and is the reference's. -/
theorem final18 (c : Dev nD) (I : In) (hA : Args m c I) : (dats m 0 c).arrAt 18 cfg0.N = (lift3 (F347 I) : S8x8x128.Idx → EReal) := by
  refine (dats m 0 c).arrAt_eq_of_cover 18 (lift3 (F347 I) : S8x8x128.Idx → EReal) (fun t hf => ?_) cover18
  have h65 : t.val % 66 = 65 := (flush0_18 t).mp hf
  rw [flushed18, acc18 m c I hA]
  funext i
  obtain ⟨e0, e1, e2⟩ := index18 t
  have b0 : (i 0).val < 1 := (i 0).isLt
  refine coe_of ?_
  show ∑ k ∈ Finset.range (t.val % 66 + 1), ga I (t.val / 66) k (i 2).val
    = F347 I (win0_18.index t (0 : Fin 3) * 1 + 1 * (i 0).val) (win0_18.index t (1 : Fin 3) * 8 + 1 * (i 1).val)
      (win0_18.index t (2 : Fin 3) * 128 + 1 * (i 2).val)
  rw [e0, e2, show t.val / 66 * 1 + 1 * (i 0).val = t.val / 66 by omega,
    show 0 * 128 + 1 * (i 2).val = (i 2).val by omega, h65, top_ga, ← Fin.sum_univ_eq_sum_range (fun k => ga I (t.val / 66) k (i 2).val) 66]
  simp only [ga, rows, k_q8, k_q116]
  split
  · rw [Finset.mul_sum]
  · simp only [zero_mul, Finset.sum_const_zero]

end Cert.KernelIdeal.Value
-- ==== Proof.DxVal.lean ====
module

public import proofs.«01_k».proof.Proof.ResVal

/-! The gradient of `x` holds the skip's weight as it is given, finite or not: both sides add to a real number the weight times an entry of `dy`. -/

@[expose] public section

set_option maxRecDepth 16384

noncomputable section

namespace Ssd.Ref

open Cert.ReferenceIdeal Cert.ReferenceIdeal.Gen Cert.ReferenceIdeal.Read Idealize.ShloMosaic Ssd.Spec

/-- The reference's entry: the skip's term and three real terms. -/
theorem ref_dx (I : In) (x3 : S32.Idx → EReal) (i : S8448x2048.Idx) (k t g r p : ℕ) (ht : t < 128) (hr : r < 4) (hp : p < 64) (hi0 : (i 0).val = 128 * k + t)
    (hi1 : (i 1).val = 256 * g + (64 * r + p)) (h : 4 * g + r < 32) :
    val_main_v337 (F := Ideal) (A0 I) (A1 I) (A2 I) x3 (A4 I) (A7 I) (A8 I) i
      = x3 (ix1 ⟨4 * g + r, h⟩) * ((I.DY (128 * k + t) (256 * g + (64 * r + p)) : ℝ) : EReal) + ((F238 I k t g r p : ℝ) : EReal) + ((F255 I k t g r p : ℝ) : EReal)
        + ((F304 I k t g r p : ℝ) : EReal) := by
  have h0 : (i 0).val < 8448 := (i 0).isLt
  have h1 : (i 1).val < 2048 := (i 1).isLt
  have g0 : ((i 0).val * 2048 + (i 1).val) / 262144 = k := by omega
  have g1 : ((i 0).val * 2048 + (i 1).val) / 2048 % 128 = t := by omega
  have g2 : ((i 0).val * 2048 + (i 1).val) / 256 % 8 = g := by omega
  have g3 : ((i 0).val * 2048 + (i 1).val) / 64 % 4 = r := by omega
  have g4 : ((i 0).val * 2048 + (i 1).val) % 64 = p := by omega
  rw [val_main_v337_apply, val_main_v305_apply, val_main_v256_apply, val_main_v239_apply, val_main_v147_apply, val_main_v146_apply, val_main_v133_apply,
    val_main_v132_apply, e_v304, e_v255, e_v238, e_v145]
  have hx : idx_main_v132 (idx_main_v133 (idx_main_v146 (idx_main_v337 i))) = ix1 ⟨4 * g + r, h⟩ := by
    funext a
    match a with
    | ⟨0, _⟩ =>
      apply Fin.ext
      show (((i 0).val * 2048 + (i 1).val) / 256 % 8 * 4 + ((i 0).val * 2048 + (i 1).val) / 64 % 4) * 1 + 0 = 4 * g + r
      omega
  rw [hx]
  have e : ∀ f : ℕ → ℕ → ℕ → ℕ → ℕ → ℝ, (lift5 f : S66x128x8x4x64.Idx → EReal) (idx_main_v337 i) = ((f k t g r p : ℝ) : EReal) := by
    intro f
    refine coe_of ?_
    show f (((i 0).val * 2048 + (i 1).val) / 262144) (((i 0).val * 2048 + (i 1).val) / 2048 % 128) (((i 0).val * 2048 + (i 1).val) / 256 % 8)
      (((i 0).val * 2048 + (i 1).val) / 64 % 4) (((i 0).val * 2048 + (i 1).val) % 64) = f k t g r p
    rw [g0, g1, g2, g3, g4]
  rw [e, e, e, e]
  show x3 (ix1 ⟨4 * g + r, h⟩) * ((I.DY (128 * k + t) (256 * g + 64 * r + p) : ℝ) : EReal) + _ + _ + _ = _
  rw [Nat.add_assoc]

end Ssd.Ref

namespace Cert.KernelIdeal.Value

open Cert.KernelIdeal Cert.KernelIdeal.Gen Cert.KernelIdeal.Host Idealize.ShloMosaic Idealize.ShloMosaic.TcCoe Idealize.SL.Sem Ssd Ssd.Spec Ssd.Ref

variable (m : (ℓ : Loc nD τ sig) → Buf (Elt Ideal) ℓ)

/-- The kernel's entry: a real number plus the entry of `dy` times the skip's weight. -/
theorem pay169_apply (f h : ℕ → ℕ → ℝ) (v : S1x256.Idx → EReal) (i : S128x256.Idx) :
    (k0_pay169 (F := Ideal) (lift2 f) (lift2 h) v : S128x256.Idx → EReal) i
      = ((h (i 0).val (i 1).val : ℝ) : EReal) + ((f (i 0).val (i 1).val : ℝ) : EReal) * v (ix2 0 (i 1)) := by
  idx_vars i
  pointwise [k0_pay169]
  rfl

/-- The two orders of the sum. -/
theorem skip_sum (w : EReal) (y a b d : ℝ) : ((a + b + d : ℝ) : EReal) + (y : EReal) * w = w * (y : EReal) + (d : EReal) + (a : EReal) + (b : EReal) := by
  rw [EReal.coe_add, EReal.coe_add, mul_comm (y : EReal) w]
  ac_rfl

/-- The gradient of `x`: every block is the reference's. -/
theorem final14 (c : Dev nD) (I : In) (hA : Args m c I) : (dats m 0 c).arrAt 14 cfg0.N
    = (Cert.ReferenceIdeal.Read.val_main_v337 (F := Ideal) (A0 I) (A1 I) (A2 I) (m ((c : Thread nD τ).loc main_arg3)) (A4 I) (A7 I) (A8 I) : S8448x2048.Idx → EReal) := by
  refine (dats m 0 c).arrAt_eq_of_cover 14 (Cert.ReferenceIdeal.Read.val_main_v337 (F := Ideal) (A0 I) (A1 I) (A2 I) (m ((c : Thread nD τ).loc main_arg3)) (A4 I) (A7 I) (A8 I) : S8448x2048.Idx → EReal) (fun t _ => ?_) cover14
  rw [flushed14, (blocks m c I hA t).1]
  funext i
  obtain ⟨e0, e1⟩ := index14 t
  have ht : t.val < 528 := t.isLt
  have b0 : (i 0).val < 128 := (i 0).isLt
  have b1 : (i 1).val < 256 := (i 1).isLt
  have hs : (i 1).val = 64 * ((i 1).val / 64) + (i 1).val % 64 := by omega
  refine Eq.trans ?_ (ref_dx I (m ((c : Thread nD τ).loc main_arg3)) (((cfg0.win 14).blk t).view.emb i) (t.val % 66) (i 0).val (t.val / 66) ((i 1).val / 64) ((i 1).val % 64)
    b0 (by omega) (by omega) ?_ ?_ (by omega)).symm
  · refine (pay169_apply _ _ _ i).trans ?_
    rw [iblk4 m c t _ (by show 4 * (t.val / 66) + (i 1).val / 64 < 32; omega)]
    show ((q112 (blk I (t.val / 66) (t.val % 66)) (i 0).val (i 1).val : ℝ) : EReal) + (((blk I (t.val / 66) (t.val % 66)).x3 (i 0).val (i 1).val : ℝ) : EReal) * _ = _
    have hq : q112 (blk I (t.val / 66) (t.val % 66)) (i 0).val (i 1).val = F255 I (t.val % 66) (i 0).val (t.val / 66) ((i 1).val / 64) ((i 1).val % 64)
        + F304 I (t.val % 66) (i 0).val (t.val / 66) ((i 1).val / 64) ((i 1).val % 64) + F238 I (t.val % 66) (i 0).val (t.val / 66) ((i 1).val / 64) ((i 1).val % 64) := by
      rw [top_dx0, top_dx1 I _ _ _ _ _ b0, ← k_q112 I _ _ _ _ _ (by omega) (by omega), ← hs]
    have hy : (blk I (t.val / 66) (t.val % 66)).x3 (i 0).val (i 1).val
        = I.DY (128 * (t.val % 66) + (i 0).val) (256 * (t.val / 66) + (64 * ((i 1).val / 64) + (i 1).val % 64)) := by
      rw [← hs]
      rfl
    rw [hq, hy]
    exact skip_sum _ _ _ _ _
  · show win0_14.index t (0 : Fin 2) * 128 + 1 * (i 0).val = _
    rw [e0]; omega
  · show win0_14.index t (1 : Fin 2) * 256 + 1 * (i 1).val = _
    rw [e1]; omega

end Cert.KernelIdeal.Value
-- ==== Proof.Finite.lean ====
module

public import proofs.«01_k».proof.Proof.BlockVal
public import proofs.«01_k».proof.Proof.Gen.Pre_finite
public import Idealize.ShloMosaic.Lib.ReduceAll

/-! The precondition read back: every argument array but the skip's weights has real entries. -/

@[expose] public section

set_option maxRecDepth 16384

noncomputable section

namespace Cert.Pre_finite

open Idealize.ShloMosaic Ssd

/-- An extended real whose absolute value is below plus infinity is a real number. -/
theorem ne_of_abs_lt (x : EReal) (h : Ideal.cmp .olt (max x (-x)) ⊤ = 1#1) : x ≠ ⊤ ∧ x ≠ ⊥ := by
  have hlt : max x (-x) < ⊤ := (Ideal.cmp_olt_eq_one _ _).1 h
  refine ⟨fun hx => ?_, fun hx => ?_⟩ <;> subst hx <;> simp at hlt

/-- The test of one array, passed, says that every entry is real. -/
theorem all_real {s : Shape} {axes : List (Fin s.rank)} {φ : FTy} (x : s.Idx → EReal) (b : BitVec φ.bits) (hb : Ideal.ofBits φ b = ⊤)
    (hbc : S_.BroadcastsInDim s (![] : Fin 0 → Fin s.rank)) (hr : s.ReducesTo axes S_) (hu : 0 < S_.numel) (j : S_.Idx)
    (e : Host.reduce IntOp.andi (cmpf (F := Ideal) (φ := φ) .olt (Host.absf (F := Ideal) (φ := φ) x) (broadcastInDim s ![] hbc (constant (F := Ideal) S_ φ b)))
      (constantI S_ 1 1#1) hr hu j = 1#1) (i : s.Idx) : x i ≠ ⊤ ∧ x i ≠ ⊥ := by
  haveI : Subsingleton S_.Idx := ⟨fun a b => funext fun d => d.elim0⟩
  have h := Host.reduce_andi_all _ _ hr hu j e i
  refine ne_of_abs_lt (x i) ?_
  rw [← hb]
  exact h

/-- A matrix of real entries is a real function of the two indices. -/
theorem exists2 {a b : ℕ} (x : (⟨2, ![a, b]⟩ : Shape).Idx → EReal) (h : ∀ i, x i ≠ ⊤ ∧ x i ≠ ⊥) : ∃ f : ℕ → ℕ → ℝ, x = lift2 f := by
  refine ⟨fun p q => if hp : p < a ∧ q < b then (x (ix2 ⟨p, hp.1⟩ ⟨q, hp.2⟩)).toReal else 0, ?_⟩
  funext i
  have hi : (i 0).val < a ∧ (i 1).val < b := ⟨(i 0).isLt, (i 1).isLt⟩
  show x i = ((if hp : (i 0).val < a ∧ (i 1).val < b then (x (ix2 ⟨(i 0).val, hp.1⟩ ⟨(i 1).val, hp.2⟩)).toReal else 0 : ℝ) : EReal)
  rw [dif_pos hi]
  have e : (ix2 ⟨(i 0).val, hi.1⟩ ⟨(i 1).val, hi.2⟩ : (⟨2, ![a, b]⟩ : Shape).Idx) = i := by
    funext d
    match d with
    | ⟨0, _⟩ => rfl
    | ⟨1, _⟩ => rfl
  rw [e, EReal.coe_toReal (h i).1 (h i).2]

/-- An array of three axes of real entries is a real function of the three indices. -/
theorem exists3 {a b c : ℕ} (x : (⟨3, ![a, b, c]⟩ : Shape).Idx → EReal) (h : ∀ i, x i ≠ ⊤ ∧ x i ≠ ⊥) : ∃ f : ℕ → ℕ → ℕ → ℝ, x = lift3 f := by
  refine ⟨fun p q r => if hp : p < a ∧ q < b ∧ r < c then (x (ix3 ⟨p, hp.1⟩ ⟨q, hp.2.1⟩ ⟨r, hp.2.2⟩)).toReal else 0, ?_⟩
  funext i
  have hi : (i 0).val < a ∧ (i 1).val < b ∧ (i 2).val < c := ⟨(i 0).isLt, (i 1).isLt, (i 2).isLt⟩
  show x i = ((if hp : (i 0).val < a ∧ (i 1).val < b ∧ (i 2).val < c then (x (ix3 ⟨(i 0).val, hp.1⟩ ⟨(i 1).val, hp.2.1⟩ ⟨(i 2).val, hp.2.2⟩)).toReal else 0 : ℝ) : EReal)
  rw [dif_pos hi]
  have e : (ix3 ⟨(i 0).val, hi.1⟩ ⟨(i 1).val, hi.2.1⟩ ⟨(i 2).val, hi.2.2⟩ : (⟨3, ![a, b, c]⟩ : Shape).Idx) = i := by
    funext d
    match d with
    | ⟨0, _⟩ => rfl
    | ⟨1, _⟩ => rfl
    | ⟨2, _⟩ => rfl
  rw [e, EReal.coe_toReal (h i).1 (h i).2]

theorem top32 : Ideal.ofBits .f32 0x7F800000#32 = ⊤ := by simp [Ideal.ofBits, Ideal.ieee]

theorem top16 : Ideal.ofBits .bf16 0x7F80#16 = ⊤ := by simp [Ideal.ofBits, Ideal.ieee]

/-- The precondition gives the real entries of the arguments. -/
theorem args [Facts] (x0 : S8448x4096.Idx → EReal) (x1 : S8448x2x32.Idx → EReal) (x2 : S2x32.Idx → EReal) (x3 : S32.Idx → EReal) (x4 : S8448x2048.Idx → EReal)
    (x5 x6 x7 x8 : S66x128x2048.Idx → EReal) (h : fn (F := Ideal) x0 x1 x2 x3 x4 x5 x6 x7 x8 = fun _ => 1#1) :
    ∃ I : Ssd.Ref.In, x0 = lift2 I.X ∧ x1 = lift3 I.DT ∧ x2 = lift2 I.AL ∧ x4 = lift2 I.DY ∧ x5 = lift3 I.HF ∧ x6 = lift3 I.HB ∧ x7 = lift3 I.GF ∧ x8 = lift3 I.GB := by
  have h := congrFun h (fun d => d.elim0)
  simp only [fn, fn_part1, fn_part2] at h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h2⟩ := IntOp.andi_eq_one.1 h
  obtain ⟨h0, h1⟩ := IntOp.andi_eq_one.1 h
  obtain ⟨f0, e0⟩ := exists2 x0 (all_real (φ := .f32) x0 _ top32 _ _ _ _ h0)
  obtain ⟨f1, e1⟩ := exists3 x1 (all_real (φ := .f32) x1 _ top32 _ _ _ _ h1)
  obtain ⟨f2, e2⟩ := exists2 x2 (all_real (φ := .f32) x2 _ top32 _ _ _ _ h2)
  obtain ⟨f4, e4⟩ := exists2 x4 (all_real (φ := .bf16) x4 _ top16 _ _ _ _ h4)
  obtain ⟨f5, e5⟩ := exists3 x5 (all_real (φ := .bf16) x5 _ top16 _ _ _ _ h5)
  obtain ⟨f6, e6⟩ := exists3 x6 (all_real (φ := .bf16) x6 _ top16 _ _ _ _ h6)
  obtain ⟨f7, e7⟩ := exists3 x7 (all_real (φ := .bf16) x7 _ top16 _ _ _ _ h7)
  obtain ⟨f8, e8⟩ := exists3 x8 (all_real (φ := .bf16) x8 _ top16 _ _ _ _ h8)
  exact ⟨⟨f0, f1, f2, f4, f5, f6, f7, f8⟩, e0, e1, e2, e4, e5, e6, e7, e8⟩

end Cert.Pre_finite
-- ==== Proof.lean ====
/- The claims: the frames of the kernel and of the two idealized programs, that the idealization changed nothing in the kernel's text, and that the idealized
   kernel's five results are the idealized reference's when every argument but the skip's weights is finite; and the same of each of the products of both
   passes, of the gated merge's two passes and of the optimiser's steps, whatever their arguments. -/
module

public import proofs.«01_k».proof.Defs
public import proofs.«01_k».proof.Proof.Gen.Kernel.Frame
public import proofs.«01_k».proof.Proof.Gen.Pre_finite
public import proofs.«01_k».proof.Proof.Gen.KernelGwRest.Frame
public import proofs.«01_k».proof.Proof.Gen.KernelGwSsd.Frame
public import proofs.«01_k».proof.Proof.Gen.KernelGwOs.Frame
public import proofs.«01_k».proof.Proof.Gen.KernelGwO.Frame
public import proofs.«01_k».proof.Proof.Gen.KernelDhRest.Frame
public import proofs.«01_k».proof.Proof.Gen.KernelDhSsd.Frame
public import proofs.«01_k».proof.Proof.Gen.KernelDgn.Frame
public import proofs.«01_k».proof.Proof.Gen.KernelDmerged.Frame
public import proofs.«01_k».proof.Proof.Gen.KernelProjRest.Frame
public import proofs.«01_k».proof.Proof.Gen.KernelProjSsd.Frame
public import proofs.«01_k».proof.Proof.Gen.KernelOutSsm.Frame
public import proofs.«01_k».proof.Proof.Gen.KernelOutConf.Frame
public import proofs.«01_k».proof.Proof.Gen.KernelOutProj.Frame
public import proofs.«01_k».proof.Proof.Gen.KernelMerge.Frame
public import proofs.«01_k».proof.Proof.Gen.KernelDgate.Frame
public import proofs.«01_k».proof.Proof.Gen.KernelAdamMod.Frame
public import proofs.«01_k».proof.Proof.Gen.KernelAdamRest.Frame
public import proofs.«01_k».proof.Proof.Gen.KernelAdamIn.Frame
public import proofs.«01_k».proof.Proof.GwRestVal
public import proofs.«01_k».proof.Proof.GwSsdVal
public import proofs.«01_k».proof.Proof.GwOsVal
public import proofs.«01_k».proof.Proof.GwOVal
public import proofs.«01_k».proof.Proof.DhRestVal
public import proofs.«01_k».proof.Proof.DhSsdVal
public import proofs.«01_k».proof.Proof.DgnVal
public import proofs.«01_k».proof.Proof.DmergedVal
public import proofs.«01_k».proof.Proof.ProjRestVal
public import proofs.«01_k».proof.Proof.ProjSsdVal
public import proofs.«01_k».proof.Proof.OutSsmVal
public import proofs.«01_k».proof.Proof.OutConfVal
public import proofs.«01_k».proof.Proof.OutProjVal
public import proofs.«01_k».proof.Proof.MergeVal
public import proofs.«01_k».proof.Proof.DgateVal
public import proofs.«01_k».proof.Proof.AdamModVal
public import proofs.«01_k».proof.Proof.AdamRestVal
public import proofs.«01_k».proof.Proof.AdamInVal
public import proofs.«01_k».proof.Proof.DxVal
public import proofs.«01_k».proof.Proof.Finite
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem Ssd Ssd.Ref

/-- The reference runs and leaves its arguments as they were, from any memory. -/
theorem frameRef : Cert.quiescent_ReferenceIdeal (hReferenceIdeal := Cert.ReferenceIdeal.Gen.facts) := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

set_option maxHeartbeats 1000000 in
/-- The five results of the idealized kernel are those of the idealized reference. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hagree
  refine ⟨fun c => (Cert.KernelIdeal.Gen.dats m 0 c).arrAt 14 Cert.KernelIdeal.cfg0.N, fun c => (Cert.KernelIdeal.Gen.dats m 0 c).arrAt 15 Cert.KernelIdeal.cfg0.N,
    fun c => (Cert.KernelIdeal.Gen.dats m 0 c).arrAt 16 Cert.KernelIdeal.cfg0.N, fun c => (Cert.KernelIdeal.Gen.dats m 0 c).arrAt 17 Cert.KernelIdeal.cfg0.N,
    fun c => (Cert.KernelIdeal.Gen.dats m 0 c).arrAt 18 Cert.KernelIdeal.cfg0.N, Cert.KernelIdeal.Value.run_blocks (F := Ideal) m ρ, ?_⟩
  refine (θ_run Cert.ReferenceIdeal.defs _ _).mono (fun r h c => ?_) (Cert.ReferenceIdeal.Value.run (F := Ideal) m' ρ')
  obtain ⟨r0, r1, r2, r3, r4, rest⟩ := h c
  obtain ⟨I, i0, i1, i2, i4, i5, i6, i7, i8⟩ := Cert.Pre_finite.args _ _ _ _ _ _ _ _ _ (hpre c)
  obtain ⟨a0, a1, a2, a3, a4, a5, a6, a7, a8⟩ := hagree c
  have hA : Cert.KernelIdeal.Value.Args m c I := ⟨i0, i1, i2, i4, i5, i6, i7, i8⟩
  have b0 := a0.trans i0
  have b1 := a1.trans i1
  have b2 := a2.trans i2
  have b4 := a4.trans i4
  have b5 := a5.trans i5
  have b6 := a6.trans i6
  have b7 := a7.trans i7
  have b8 := a8.trans i8
  refine ⟨?_, ?_, ?_, ?_, ?_, rest⟩
  · refine r0.trans ((Cert.ReferenceIdeal.Read.val_main_v337_eq (F := Ideal) _).trans ?_)
    refine Eq.trans ?_ (Cert.KernelIdeal.Value.final14 m c I hA).symm
    show Cert.ReferenceIdeal.Read.val_main_v337 (F := Ideal) (m' (c.tc.loc Cert.ReferenceIdeal.main_arg0)) (m' (c.tc.loc Cert.ReferenceIdeal.main_arg1))
      (m' (c.tc.loc Cert.ReferenceIdeal.main_arg2)) (m' (c.tc.loc Cert.ReferenceIdeal.main_arg3)) (m' (c.tc.loc Cert.ReferenceIdeal.main_arg4))
      (m' (c.tc.loc Cert.ReferenceIdeal.main_arg7)) (m' (c.tc.loc Cert.ReferenceIdeal.main_arg8)) = _
    rw [b0, b1, b2, a3, b4, b7, b8]
  · refine r1.trans ((Cert.ReferenceIdeal.Read.val_main_v336_eq (F := Ideal) _).trans ?_)
    refine Eq.trans ?_ (Cert.KernelIdeal.Value.final15 m c I hA).symm
    show Cert.ReferenceIdeal.Read.val_main_v336 (F := Ideal) (m' (c.tc.loc Cert.ReferenceIdeal.main_arg0)) (m' (c.tc.loc Cert.ReferenceIdeal.main_arg1))
      (m' (c.tc.loc Cert.ReferenceIdeal.main_arg2)) (m' (c.tc.loc Cert.ReferenceIdeal.main_arg4))
      (m' (c.tc.loc Cert.ReferenceIdeal.main_arg7)) (m' (c.tc.loc Cert.ReferenceIdeal.main_arg8)) = _
    rw [b0, b1, b2, b4, b7, b8]
    exact e_v336 I
  · refine r2.trans ((Cert.ReferenceIdeal.Read.val_main_v335_eq (F := Ideal) _).trans ?_)
    refine Eq.trans ?_ (Cert.KernelIdeal.Value.final16 m c I hA).symm
    show Cert.ReferenceIdeal.Read.val_main_v335 (F := Ideal) (m' (c.tc.loc Cert.ReferenceIdeal.main_arg0)) (m' (c.tc.loc Cert.ReferenceIdeal.main_arg1))
      (m' (c.tc.loc Cert.ReferenceIdeal.main_arg2)) (m' (c.tc.loc Cert.ReferenceIdeal.main_arg4))
      (m' (c.tc.loc Cert.ReferenceIdeal.main_arg5)) (m' (c.tc.loc Cert.ReferenceIdeal.main_arg6)) = _
    rw [b0, b1, b2, b4, b5, b6]
    exact e_v335 I
  · refine r3.trans ((Cert.ReferenceIdeal.Read.val_main_v344_eq (F := Ideal) _).trans ?_)
    refine Eq.trans ?_ (Cert.KernelIdeal.Value.final17 m c I hA).symm
    show Cert.ReferenceIdeal.Read.val_main_v344 (F := Ideal) (m' (c.tc.loc Cert.ReferenceIdeal.main_arg0)) (m' (c.tc.loc Cert.ReferenceIdeal.main_arg1))
      (m' (c.tc.loc Cert.ReferenceIdeal.main_arg2)) (m' (c.tc.loc Cert.ReferenceIdeal.main_arg4)) (m' (c.tc.loc Cert.ReferenceIdeal.main_arg5))
      (m' (c.tc.loc Cert.ReferenceIdeal.main_arg6)) (m' (c.tc.loc Cert.ReferenceIdeal.main_arg7)) (m' (c.tc.loc Cert.ReferenceIdeal.main_arg8)) = _
    rw [b0, b1, b2, b4, b5, b6, b7, b8]
    exact e_v344 I
  · refine r4.trans ((Cert.ReferenceIdeal.Read.val_main_v347_eq (F := Ideal) _).trans ?_)
    refine Eq.trans ?_ (Cert.KernelIdeal.Value.final18 m c I hA).symm
    show Cert.ReferenceIdeal.Read.val_main_v347 (F := Ideal) (m' (c.tc.loc Cert.ReferenceIdeal.main_arg0)) (m' (c.tc.loc Cert.ReferenceIdeal.main_arg1))
      (m' (c.tc.loc Cert.ReferenceIdeal.main_arg2)) (m' (c.tc.loc Cert.ReferenceIdeal.main_arg4)) (m' (c.tc.loc Cert.ReferenceIdeal.main_arg5))
      (m' (c.tc.loc Cert.ReferenceIdeal.main_arg6)) (m' (c.tc.loc Cert.ReferenceIdeal.main_arg7)) (m' (c.tc.loc Cert.ReferenceIdeal.main_arg8)) = _
    rw [b0, b1, b2, b4, b5, b6, b7, b8]
    exact e_v347 I

/-- Every claim of the certificate. -/
theorem claim : Cert.Claim :=
  ⟨Cert.Kernel.Gen.facts, Cert.KernelIdeal.Gen.facts, Cert.ReferenceIdeal.Gen.facts,
    Cert.KernelGwRest.Gen.facts, Cert.KernelGwRestIdeal.Gen.facts, Cert.ReferenceGwRestIdeal.Gen.facts,
    Cert.KernelGwSsd.Gen.facts, Cert.KernelGwSsdIdeal.Gen.facts, Cert.ReferenceGwSsdIdeal.Gen.facts,
    Cert.KernelGwOs.Gen.facts, Cert.KernelGwOsIdeal.Gen.facts, Cert.ReferenceGwOsIdeal.Gen.facts,
    Cert.KernelGwO.Gen.facts, Cert.KernelGwOIdeal.Gen.facts, Cert.ReferenceGwOIdeal.Gen.facts,
    Cert.KernelDhRest.Gen.facts, Cert.KernelDhRestIdeal.Gen.facts, Cert.ReferenceDhRestIdeal.Gen.facts,
    Cert.KernelDhSsd.Gen.facts, Cert.KernelDhSsdIdeal.Gen.facts, Cert.ReferenceDhSsdIdeal.Gen.facts,
    Cert.KernelDgn.Gen.facts, Cert.KernelDgnIdeal.Gen.facts, Cert.ReferenceDgnIdeal.Gen.facts,
    Cert.KernelDmerged.Gen.facts, Cert.KernelDmergedIdeal.Gen.facts, Cert.ReferenceDmergedIdeal.Gen.facts,
    Cert.KernelProjRest.Gen.facts, Cert.KernelProjRestIdeal.Gen.facts, Cert.ReferenceProjRestIdeal.Gen.facts,
    Cert.KernelProjSsd.Gen.facts, Cert.KernelProjSsdIdeal.Gen.facts, Cert.ReferenceProjSsdIdeal.Gen.facts,
    Cert.KernelOutSsm.Gen.facts, Cert.KernelOutSsmIdeal.Gen.facts, Cert.ReferenceOutSsmIdeal.Gen.facts,
    Cert.KernelOutConf.Gen.facts, Cert.KernelOutConfIdeal.Gen.facts, Cert.ReferenceOutConfIdeal.Gen.facts,
    Cert.KernelOutProj.Gen.facts, Cert.KernelOutProjIdeal.Gen.facts, Cert.ReferenceOutProjIdeal.Gen.facts,
    Cert.KernelMerge.Gen.facts, Cert.KernelMergeIdeal.Gen.facts, Cert.ReferenceMergeIdeal.Gen.facts,
    Cert.KernelDgate.Gen.facts, Cert.KernelDgateIdeal.Gen.facts, Cert.ReferenceDgateIdeal.Gen.facts,
    Cert.KernelAdamMod.Gen.facts, Cert.KernelAdamModIdeal.Gen.facts, Cert.ReferenceAdamModIdeal.Gen.facts,
    Cert.KernelAdamRest.Gen.facts, Cert.KernelAdamRestIdeal.Gen.facts, Cert.ReferenceAdamRestIdeal.Gen.facts,
    Cert.KernelAdamIn.Gen.facts, Cert.KernelAdamInIdeal.Gen.facts, Cert.ReferenceAdamInIdeal.Gen.facts,
    Cert.Pre_finite.Gen.facts,
    fun m ρ _ => Cert.Kernel.Gen.frame m ρ, fun m ρ _ => Cert.KernelIdeal.Gen.frame m ρ, fun m ρ _ => Cert.KernelIdeal.Gen.frame m ρ,
    frameRef, fun m ρ _ => frameRef m ρ trivial,
    fun m ρ _ => Cert.KernelGwRest.Gen.frame m ρ, fun m ρ _ => Cert.KernelGwRestIdeal.Gen.frame m ρ, Cert.KernelGwRestIdeal.Value.frameRef,
    fun m ρ _ => Cert.KernelGwSsd.Gen.frame m ρ, fun m ρ _ => Cert.KernelGwSsdIdeal.Gen.frame m ρ, Cert.KernelGwSsdIdeal.Value.frameRef,
    fun m ρ _ => Cert.KernelGwOs.Gen.frame m ρ, fun m ρ _ => Cert.KernelGwOsIdeal.Gen.frame m ρ, Cert.KernelGwOsIdeal.Value.frameRef,
    fun m ρ _ => Cert.KernelGwO.Gen.frame m ρ, fun m ρ _ => Cert.KernelGwOIdeal.Gen.frame m ρ, Cert.KernelGwOIdeal.Value.frameRef,
    fun m ρ _ => Cert.KernelDhRest.Gen.frame m ρ, fun m ρ _ => Cert.KernelDhRestIdeal.Gen.frame m ρ, Cert.KernelDhRestIdeal.Value.frameRef,
    fun m ρ _ => Cert.KernelDhSsd.Gen.frame m ρ, fun m ρ _ => Cert.KernelDhSsdIdeal.Gen.frame m ρ, Cert.KernelDhSsdIdeal.Value.frameRef,
    fun m ρ _ => Cert.KernelDgn.Gen.frame m ρ, fun m ρ _ => Cert.KernelDgnIdeal.Gen.frame m ρ, Cert.KernelDgnIdeal.Value.frameRef,
    fun m ρ _ => Cert.KernelDmerged.Gen.frame m ρ, fun m ρ _ => Cert.KernelDmergedIdeal.Gen.frame m ρ, Cert.KernelDmergedIdeal.Value.frameRef,
    fun m ρ _ => Cert.KernelProjRest.Gen.frame m ρ, fun m ρ _ => Cert.KernelProjRestIdeal.Gen.frame m ρ, Cert.KernelProjRestIdeal.Value.frameRef,
    fun m ρ _ => Cert.KernelProjSsd.Gen.frame m ρ, fun m ρ _ => Cert.KernelProjSsdIdeal.Gen.frame m ρ, Cert.KernelProjSsdIdeal.Value.frameRef,
    fun m ρ _ => Cert.KernelOutSsm.Gen.frame m ρ, fun m ρ _ => Cert.KernelOutSsmIdeal.Gen.frame m ρ, Cert.KernelOutSsmIdeal.Value.frameRef,
    fun m ρ _ => Cert.KernelOutConf.Gen.frame m ρ, fun m ρ _ => Cert.KernelOutConfIdeal.Gen.frame m ρ, Cert.KernelOutConfIdeal.Value.frameRef,
    fun m ρ _ => Cert.KernelOutProj.Gen.frame m ρ, fun m ρ _ => Cert.KernelOutProjIdeal.Gen.frame m ρ, Cert.KernelOutProjIdeal.Value.frameRef,
    fun m ρ _ => Cert.KernelMerge.Gen.frame m ρ, fun m ρ _ => Cert.KernelMergeIdeal.Gen.frame m ρ, Cert.KernelMergeIdeal.Value.frameRef,
    fun m ρ _ => Cert.KernelDgate.Gen.frame m ρ, fun m ρ _ => Cert.KernelDgateIdeal.Gen.frame m ρ, Cert.KernelDgateIdeal.Value.frameRef,
    fun m ρ _ => Cert.KernelAdamMod.Gen.frame m ρ, fun m ρ _ => Cert.KernelAdamModIdeal.Gen.frame m ρ, Cert.KernelAdamModIdeal.Value.frameRef,
    fun m ρ _ => Cert.KernelAdamRest.Gen.frame m ρ, fun m ρ _ => Cert.KernelAdamRestIdeal.Gen.frame m ρ, Cert.KernelAdamRestIdeal.Value.frameRef,
    fun m ρ _ => Cert.KernelAdamIn.Gen.frame m ρ trivial, fun m ρ _ => Cert.KernelAdamInIdeal.Gen.frame m ρ trivial, Cert.KernelAdamInIdeal.Value.frameRef,
    trivial, algebraic,
    trivial, Cert.KernelGwRestIdeal.Value.equal,
    trivial, Cert.KernelGwSsdIdeal.Value.equal,
    trivial, Cert.KernelGwOsIdeal.Value.equal,
    trivial, Cert.KernelGwOIdeal.Value.equal,
    trivial, Cert.KernelDhRestIdeal.Value.equal,
    trivial, Cert.KernelDhSsdIdeal.Value.equal,
    trivial, Cert.KernelDgnIdeal.Value.equal,
    trivial, Cert.KernelDmergedIdeal.Value.equal,
    trivial, Cert.KernelProjRestIdeal.Value.equal,
    trivial, Cert.KernelProjSsdIdeal.Value.equal,
    trivial, Cert.KernelOutSsmIdeal.Value.equal,
    trivial, Cert.KernelOutConfIdeal.Value.equal,
    trivial, Cert.KernelOutProjIdeal.Value.equal,
    trivial, Cert.KernelMergeIdeal.Value.equal,
    trivial, Cert.KernelDgateIdeal.Value.equal,
    trivial, Cert.KernelAdamModIdeal.Value.equal,
    trivial, Cert.KernelAdamRestIdeal.Value.equal,
    trivial, Cert.KernelAdamInIdeal.Value.equal⟩

end Cert.Proof

end
